-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Reference2Ideal (m : (ℓ : Loc Cert.Reference2Ideal.nD Cert.Reference2Ideal.τ Cert.Reference2Ideal.sig) → Buf (Elt Ideal) ℓ) : Prop :=
  True

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Reference3Ideal (m : (ℓ : Loc Cert.Reference3Ideal.nD Cert.Reference3Ideal.τ Cert.Reference3Ideal.sig) → Buf (Elt Ideal) ℓ) : Prop :=
  True

def Pre_Kernel4 (m : (ℓ : Loc Cert.Kernel4.nD Cert.Kernel4.τ Cert.Kernel4.sig) → Buf (Elt Bits) ℓ) : Prop :=
  True

def Pre_Kernel4Ideal (m : (ℓ : Loc Cert.Kernel4Ideal.nD Cert.Kernel4Ideal.τ Cert.Kernel4Ideal.sig) → Buf (Elt Ideal) ℓ) : Prop :=
  True

def Pre_Reference4Ideal (m : (ℓ : Loc Cert.Reference4Ideal.nD Cert.Reference4Ideal.τ Cert.Reference4Ideal.sig) → Buf (Elt Ideal) ℓ) : Prop :=
  True

def Pre_Kernel5 (m : (ℓ : Loc Cert.Kernel5.nD Cert.Kernel5.τ Cert.Kernel5.sig) → Buf (Elt Bits) ℓ) : Prop :=
  True

def Pre_Kernel5Ideal (m : (ℓ : Loc Cert.Kernel5Ideal.nD Cert.Kernel5Ideal.τ Cert.Kernel5Ideal.sig) → Buf (Elt Ideal) ℓ) : Prop :=
  True

def Pre_Reference5Ideal (m : (ℓ : Loc Cert.Reference5Ideal.nD Cert.Reference5Ideal.τ Cert.Reference5Ideal.sig) → Buf (Elt Ideal) ℓ) : Prop :=
  True

def Pre_Kernel6 (m : (ℓ : Loc Cert.Kernel6.nD Cert.Kernel6.τ Cert.Kernel6.sig) → Buf (Elt Bits) ℓ) : Prop :=
  True

def Pre_Kernel6Ideal (m : (ℓ : Loc Cert.Kernel6Ideal.nD Cert.Kernel6Ideal.τ Cert.Kernel6Ideal.sig) → Buf (Elt Ideal) ℓ) : Prop :=
  True

def Pre_Reference6Ideal (m : (ℓ : Loc Cert.Reference6Ideal.nD Cert.Reference6Ideal.τ Cert.Reference6Ideal.sig) → Buf (Elt Ideal) ℓ) : Prop :=
  True

def Pre_Kernel7 (m : (ℓ : Loc Cert.Kernel7.nD Cert.Kernel7.τ Cert.Kernel7.sig) → Buf (Elt Bits) ℓ) : Prop :=
  True

def Pre_Kernel7Ideal (m : (ℓ : Loc Cert.Kernel7Ideal.nD Cert.Kernel7Ideal.τ Cert.Kernel7Ideal.sig) → Buf (Elt Ideal) ℓ) : Prop :=
  True

def Pre_Reference7Ideal (m : (ℓ : Loc Cert.Reference7Ideal.nD Cert.Reference7Ideal.τ Cert.Reference7Ideal.sig) → Buf (Elt Ideal) ℓ) : Prop :=
  True

def Pre_Kernel8 (m : (ℓ : Loc Cert.Kernel8.nD Cert.Kernel8.τ Cert.Kernel8.sig) → Buf (Elt Bits) ℓ) : Prop :=
  True

def Pre_Kernel8Ideal (m : (ℓ : Loc Cert.Kernel8Ideal.nD Cert.Kernel8Ideal.τ Cert.Kernel8Ideal.sig) → Buf (Elt Ideal) ℓ) : Prop :=
  True

def Pre_Reference8Ideal (m : (ℓ : Loc Cert.Reference8Ideal.nD Cert.Reference8Ideal.τ Cert.Reference8Ideal.sig) → Buf (Elt Ideal) ℓ) : Prop :=
  True

def Pre_Kernel9 (m : (ℓ : Loc Cert.Kernel9.nD Cert.Kernel9.τ Cert.Kernel9.sig) → Buf (Elt Bits) ℓ) : Prop :=
  True

def Pre_Kernel9Ideal (m : (ℓ : Loc Cert.Kernel9Ideal.nD Cert.Kernel9Ideal.τ Cert.Kernel9Ideal.sig) → Buf (Elt Ideal) ℓ) : Prop :=
  True

def Pre_Reference9Ideal (m : (ℓ : Loc Cert.Reference9Ideal.nD Cert.Reference9Ideal.τ Cert.Reference9Ideal.sig) → Buf (Elt Ideal) ℓ) : Prop :=
  True

def Pre_Kernel10 (m : (ℓ : Loc Cert.Kernel10.nD Cert.Kernel10.τ Cert.Kernel10.sig) → Buf (Elt Bits) ℓ) : Prop :=
  True

def Pre_Kernel10Ideal (m : (ℓ : Loc Cert.Kernel10Ideal.nD Cert.Kernel10Ideal.τ Cert.Kernel10Ideal.sig) → Buf (Elt Ideal) ℓ) : Prop :=
  True

def Pre_Reference10Ideal (m : (ℓ : Loc Cert.Reference10Ideal.nD Cert.Reference10Ideal.τ Cert.Reference10Ideal.sig) → Buf (Elt Ideal) ℓ) : Prop :=
  True

def Pre_Kernel11 (m : (ℓ : Loc Cert.Kernel11.nD Cert.Kernel11.τ Cert.Kernel11.sig) → Buf (Elt Bits) ℓ) : Prop :=
  True

def Pre_Kernel11Ideal (m : (ℓ : Loc Cert.Kernel11Ideal.nD Cert.Kernel11Ideal.τ Cert.Kernel11Ideal.sig) → Buf (Elt Ideal) ℓ) : Prop :=
  True

def Pre_Reference11Ideal (m : (ℓ : Loc Cert.Reference11Ideal.nD Cert.Reference11Ideal.τ Cert.Reference11Ideal.sig) → Buf (Elt Ideal) ℓ) : Prop :=
  True

def Pre_Kernel12 (m : (ℓ : Loc Cert.Kernel12.nD Cert.Kernel12.τ Cert.Kernel12.sig) → Buf (Elt Bits) ℓ) : Prop :=
  True

def Pre_Kernel12Ideal (m : (ℓ : Loc Cert.Kernel12Ideal.nD Cert.Kernel12Ideal.τ Cert.Kernel12Ideal.sig) → Buf (Elt Ideal) ℓ) : Prop :=
  True

def Pre_Reference12Ideal (m : (ℓ : Loc Cert.Reference12Ideal.nD Cert.Reference12Ideal.τ Cert.Reference12Ideal.sig) → Buf (Elt Ideal) ℓ) : Prop :=
  True

def Pre_Kernel13 (m : (ℓ : Loc Cert.Kernel13.nD Cert.Kernel13.τ Cert.Kernel13.sig) → Buf (Elt Bits) ℓ) : Prop :=
  True

def Pre_Kernel13Ideal (m : (ℓ : Loc Cert.Kernel13Ideal.nD Cert.Kernel13Ideal.τ Cert.Kernel13Ideal.sig) → Buf (Elt Ideal) ℓ) : Prop :=
  True

def Pre_Reference13Ideal (m : (ℓ : Loc Cert.Reference13Ideal.nD Cert.Reference13Ideal.τ Cert.Reference13Ideal.sig) → Buf (Elt Ideal) ℓ) : Prop :=
  True

def Pre_Kernel14 (m : (ℓ : Loc Cert.Kernel14.nD Cert.Kernel14.τ Cert.Kernel14.sig) → Buf (Elt Bits) ℓ) : Prop :=
  True

def Pre_Kernel14Ideal (m : (ℓ : Loc Cert.Kernel14Ideal.nD Cert.Kernel14Ideal.τ Cert.Kernel14Ideal.sig) → Buf (Elt Ideal) ℓ) : Prop :=
  True

def Pre_Reference14Ideal (m : (ℓ : Loc Cert.Reference14Ideal.nD Cert.Reference14Ideal.τ Cert.Reference14Ideal.sig) → Buf (Elt Ideal) ℓ) : Prop :=
  True

def Pre_Kernel15 (m : (ℓ : Loc Cert.Kernel15.nD Cert.Kernel15.τ Cert.Kernel15.sig) → Buf (Elt Bits) ℓ) : Prop :=
  True

def Pre_Kernel15Ideal (m : (ℓ : Loc Cert.Kernel15Ideal.nD Cert.Kernel15Ideal.τ Cert.Kernel15Ideal.sig) → Buf (Elt Ideal) ℓ) : Prop :=
  True

def Pre_Reference15Ideal (m : (ℓ : Loc Cert.Reference15Ideal.nD Cert.Reference15Ideal.τ Cert.Reference15Ideal.sig) → Buf (Elt Ideal) ℓ) : Prop :=
  True

def Pre_Kernel16 (m : (ℓ : Loc Cert.Kernel16.nD Cert.Kernel16.τ Cert.Kernel16.sig) → Buf (Elt Bits) ℓ) : Prop :=
  True

def Pre_Kernel16Ideal (m : (ℓ : Loc Cert.Kernel16Ideal.nD Cert.Kernel16Ideal.τ Cert.Kernel16Ideal.sig) → Buf (Elt Ideal) ℓ) : Prop :=
  True

def Pre_Reference16Ideal (m : (ℓ : Loc Cert.Reference16Ideal.nD Cert.Reference16Ideal.τ Cert.Reference16Ideal.sig) → Buf (Elt Ideal) ℓ) : Prop :=
  True

def Pre_Kernel17 (m : (ℓ : Loc Cert.Kernel17.nD Cert.Kernel17.τ Cert.Kernel17.sig) → Buf (Elt Bits) ℓ) : Prop :=
  True

def Pre_Kernel17Ideal (m : (ℓ : Loc Cert.Kernel17Ideal.nD Cert.Kernel17Ideal.τ Cert.Kernel17Ideal.sig) → Buf (Elt Ideal) ℓ) : Prop :=
  True

def Pre_Reference17Ideal (m : (ℓ : Loc Cert.Reference17Ideal.nD Cert.Reference17Ideal.τ Cert.Reference17Ideal.sig) → Buf (Elt Ideal) ℓ) : Prop :=
  True

def Pre_Kernel18 [hPre_core_named : Cert.Pre_core_named.Facts] (m : (ℓ : Loc Cert.Kernel18.nD Cert.Kernel18.τ Cert.Kernel18.sig) → Buf (Elt Bits) ℓ) : Prop :=
  ∀ c : Dev Cert.Kernel18.nD,
    (Cert.Pre_core_named.fn (F := Bits) (m ((c.tc : Thread Cert.Kernel18.nD Cert.Kernel18.τ).loc Cert.Kernel18.main_arg0)) (m ((c.tc : Thread Cert.Kernel18.nD Cert.Kernel18.τ).loc Cert.Kernel18.main_arg1)) (m ((c.tc : Thread Cert.Kernel18.nD Cert.Kernel18.τ).loc Cert.Kernel18.main_arg2))) = (fun _ => 1#1)

def Pre_Kernel18Ideal [hPre_core_named : Cert.Pre_core_named.Facts] (m : (ℓ : Loc Cert.Kernel18Ideal.nD Cert.Kernel18Ideal.τ Cert.Kernel18Ideal.sig) → Buf (Elt Ideal) ℓ) : Prop :=
  ∀ c : Dev Cert.Kernel18Ideal.nD,
    (Cert.Pre_core_named.fn (F := Ideal) (m ((c.tc : Thread Cert.Kernel18Ideal.nD Cert.Kernel18Ideal.τ).loc Cert.Kernel18Ideal.main_arg0)) (m ((c.tc : Thread Cert.Kernel18Ideal.nD Cert.Kernel18Ideal.τ).loc Cert.Kernel18Ideal.main_arg1)) (m ((c.tc : Thread Cert.Kernel18Ideal.nD Cert.Kernel18Ideal.τ).loc Cert.Kernel18Ideal.main_arg2))) = (fun _ => 1#1)

def Pre_Reference18Ideal (m : (ℓ : Loc Cert.Reference18Ideal.nD Cert.Reference18Ideal.τ Cert.Reference18Ideal.sig) → Buf (Elt Ideal) ℓ) : Prop :=
  True

def Pre_Reference18Ideal_core_named [hPre_core_named : Cert.Pre_core_named.Facts] (m : (ℓ : Loc Cert.Reference18Ideal.nD Cert.Reference18Ideal.τ Cert.Reference18Ideal.sig) → Buf (Elt Ideal) ℓ) : Prop :=
  ∀ c : Dev Cert.Reference18Ideal.nD,
    (Cert.Pre_core_named.fn (F := Ideal) (m ((c.tc : Thread Cert.Reference18Ideal.nD Cert.Reference18Ideal.τ).loc Cert.Reference18Ideal.main_arg0)) (m ((c.tc : Thread Cert.Reference18Ideal.nD Cert.Reference18Ideal.τ).loc Cert.Reference18Ideal.main_arg1)) (m ((c.tc : Thread Cert.Reference18Ideal.nD Cert.Reference18Ideal.τ).loc Cert.Reference18Ideal.main_arg2))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1))
      ∧ r.2.sem = fun _ => 0)

def quiescent_Kernel4 [hKernel4 : Cert.Kernel4.Facts] : Prop :=
  ∀ (m : (ℓ : Loc Cert.Kernel4.nD Cert.Kernel4.τ Cert.Kernel4.sig) → Buf (Elt Bits) ℓ) (g : Dev Cert.Kernel4.nD → PrngReg), Pre_Kernel4 m →
    θ_run (Cert.Kernel4.defs (F := Bits)) (onTc (τ := Cert.Kernel4.τ) (Cert.Kernel4.main (F := Bits))) ⟨m, fun _ => 0, g⟩ (fun r => (∀ c : Dev Cert.Kernel4.nD,
      r.2.mem ((c.tc : Thread Cert.Kernel4.nD Cert.Kernel4.τ).loc Cert.Kernel4.main_arg0) = m ((c.tc : Thread Cert.Kernel4.nD Cert.Kernel4.τ).loc Cert.Kernel4.main_arg0)
      ∧ r.2.mem ((c.tc : Thread Cert.Kernel4.nD Cert.Kernel4.τ).loc Cert.Kernel4.main_arg1) = m ((c.tc : Thread Cert.Kernel4.nD Cert.Kernel4.τ).loc Cert.Kernel4.main_arg1))
      ∧ r.2.sem = fun _ => 0)

def quiescent_Kernel4Ideal [hKernel4Ideal : Cert.Kernel4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1))
      ∧ r.2.sem = fun _ => 0)

def quiescent_Reference4Ideal [hReference4Ideal : Cert.Reference4Ideal.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1))
      ∧ r.2.sem = fun _ => 0)

def quiescent_Kernel5 [hKernel5 : Cert.Kernel5.Facts] : Prop :=
  ∀ (m : (ℓ : Loc Cert.Kernel5.nD Cert.Kernel5.τ Cert.Kernel5.sig) → Buf (Elt Bits) ℓ) (g : Dev Cert.Kernel5.nD → PrngReg), Pre_Kernel5 m →
    θ_run (Cert.Kernel5.defs (F := Bits)) (onTc (τ := Cert.Kernel5.τ) (Cert.Kernel5.main (F := Bits))) ⟨m, fun _ => 0, g⟩ (fun r => (∀ c : Dev Cert.Kernel5.nD,
      r.2.mem ((c.tc : Thread Cert.Kernel5.nD Cert.Kernel5.τ).loc Cert.Kernel5.main_arg0) = m ((c.tc : Thread Cert.Kernel5.nD Cert.Kernel5.τ).loc Cert.Kernel5.main_arg0)
      ∧ r.2.mem ((c.tc : Thread Cert.Kernel5.nD Cert.Kernel5.τ).loc Cert.Kernel5.main_arg1) = m ((c.tc : Thread Cert.Kernel5.nD Cert.Kernel5.τ).loc Cert.Kernel5.main_arg1)
      ∧ r.2.mem ((c.tc : Thread Cert.Kernel5.nD Cert.Kernel5.τ).loc Cert.Kernel5.main_arg2) = m ((c.tc : Thread Cert.Kernel5.nD Cert.Kernel5.τ).loc Cert.Kernel5.main_arg2)
      ∧ r.2.mem ((c.tc : Thread Cert.Kernel5.nD Cert.Kernel5.τ).loc Cert.Kernel5.main_arg3) = m ((c.tc : Thread Cert.Kernel5.nD Cert.Kernel5.τ).loc Cert.Kernel5.main_arg3))
      ∧ r.2.sem = fun _ => 0)

def quiescent_Kernel5Ideal [hKernel5Ideal : Cert.Kernel5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg), Pre_Kernel5Ideal m →
    θ_run (Cert.Kernel5Ideal.defs (F := Ideal)) (onTc (τ := Cert.Kernel5Ideal.τ) (Cert.Kernel5Ideal.main (F := Ideal))) ⟨m, fun _ => 0, g⟩ (fun r => (∀ c : Dev Cert.Kernel5Ideal.nD,
      r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
      ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
      ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
      ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3))
      ∧ r.2.sem = fun _ => 0)

def quiescent_Reference5Ideal [hReference5Ideal : Cert.Reference5Ideal.Facts] : Prop :=
  ∀ (m : (ℓ : Loc Cert.Reference5Ideal.nD Cert.Reference5Ideal.τ Cert.Reference5Ideal.sig) → Buf (Elt Ideal) ℓ) (g : Dev Cert.Reference5Ideal.nD → PrngReg), Pre_Reference5Ideal m →
    θ_run (Cert.Reference5Ideal.defs (F := Ideal)) (onTc (τ := Cert.Reference5Ideal.τ) (Cert.Reference5Ideal.main (F := Ideal))) ⟨m, fun _ => 0, g⟩ (fun r => (∀ c : Dev Cert.Reference5Ideal.nD,
      r.2.mem ((c.tc : Thread Cert.Reference5Ideal.nD Cert.Reference5Ideal.τ).loc Cert.Reference5Ideal.main_arg0) = m ((c.tc : Thread Cert.Reference5Ideal.nD Cert.Reference5Ideal.τ).loc Cert.Reference5Ideal.main_arg0)
      ∧ r.2.mem ((c.tc : Thread Cert.Reference5Ideal.nD Cert.Reference5Ideal.τ).loc Cert.Reference5Ideal.main_arg1) = m ((c.tc : Thread Cert.Reference5Ideal.nD Cert.Reference5Ideal.τ).loc Cert.Reference5Ideal.main_arg1)
      ∧ r.2.mem ((c.tc : Thread Cert.Reference5Ideal.nD Cert.Reference5Ideal.τ).loc Cert.Reference5Ideal.main_arg2) = m ((c.tc : Thread Cert.Reference5Ideal.nD Cert.Reference5Ideal.τ).loc Cert.Reference5Ideal.main_arg2)
      ∧ r.2.mem ((c.tc : Thread Cert.Reference5Ideal.nD Cert.Reference5Ideal.τ).loc Cert.Reference5Ideal.main_arg3) = m ((c.tc : Thread Cert.Reference5Ideal.nD Cert.Reference5Ideal.τ).loc Cert.Reference5Ideal.main_arg3))
      ∧ r.2.sem = fun _ => 0)

def quiescent_Kernel6 [hKernel6 : Cert.Kernel6.Facts] : Prop :=
  ∀ (m : (ℓ : Loc Cert.Kernel6.nD Cert.Kernel6.τ Cert.Kernel6.sig) → Buf (Elt Bits) ℓ) (g : Dev Cert.Kernel6.nD → PrngReg), Pre_Kernel6 m →
    θ_run (Cert.Kernel6.defs (F := Bits)) (onTc (τ := Cert.Kernel6.τ) (Cert.Kernel6.main (F := Bits))) ⟨m, fun _ => 0, g⟩ (fun r => (∀ c : Dev Cert.Kernel6.nD,
      r.2.mem ((c.tc : Thread Cert.Kernel6.nD Cert.Kernel6.τ).loc Cert.Kernel6.main_arg0) = m ((c.tc : Thread Cert.Kernel6.nD Cert.Kernel6.τ).loc Cert.Kernel6.main_arg0)
      ∧ r.2.mem ((c.tc : Thread Cert.Kernel6.nD Cert.Kernel6.τ).loc Cert.Kernel6.main_arg1) = m ((c.tc : Thread Cert.Kernel6.nD Cert.Kernel6.τ).loc Cert.Kernel6.main_arg1)
      ∧ r.2.mem ((c.tc : Thread Cert.Kernel6.nD Cert.Kernel6.τ).loc Cert.Kernel6.main_arg2) = m ((c.tc : Thread Cert.Kernel6.nD Cert.Kernel6.τ).loc Cert.Kernel6.main_arg2)
      ∧ r.2.mem ((c.tc : Thread Cert.Kernel6.nD Cert.Kernel6.τ).loc Cert.Kernel6.main_arg3) = m ((c.tc : Thread Cert.Kernel6.nD Cert.Kernel6.τ).loc Cert.Kernel6.main_arg3))
      ∧ r.2.sem = fun _ => 0)

def quiescent_Kernel6Ideal [hKernel6Ideal : Cert.Kernel6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg), Pre_Kernel6Ideal m →
    θ_run (Cert.Kernel6Ideal.defs (F := Ideal)) (onTc (τ := Cert.Kernel6Ideal.τ) (Cert.Kernel6Ideal.main (F := Ideal))) ⟨m, fun _ => 0, g⟩ (fun r => (∀ c : Dev Cert.Kernel6Ideal.nD,
      r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
      ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
      ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2)
      ∧ r.2.mem ((c.tc : Thread Cert.Kernel6Ideal.nD Cert.Kernel6Ideal.τ).loc Cert.Kernel6Ideal.main_arg3) = m ((c.tc : Thread Cert.Kernel6Ideal.nD Cert.Kernel6Ideal.τ).loc Cert.Kernel6Ideal.main_arg3))
      ∧ r.2.sem = fun _ => 0)

def quiescent_Reference6Ideal [hReference6Ideal : Cert.Reference6Ideal.Facts] : Prop :=
  ∀ (m : (ℓ : Loc Cert.Reference6Ideal.nD Cert.Reference6Ideal.τ Cert.Reference6Ideal.sig) → Buf (Elt Ideal) ℓ) (g : Dev Cert.Reference6Ideal.nD → PrngReg), Pre_Reference6Ideal m →
    θ_run (Cert.Reference6Ideal.defs (F := Ideal)) (onTc (τ := Cert.Reference6Ideal.τ) (Cert.Reference6Ideal.main (F := Ideal))) ⟨m, fun _ => 0, g⟩ (fun r => (∀ c : Dev Cert.Reference6Ideal.nD,
      r.2.mem ((c.tc : Thread Cert.Reference6Ideal.nD Cert.Reference6Ideal.τ).loc Cert.Reference6Ideal.main_arg0) = m ((c.tc : Thread Cert.Reference6Ideal.nD Cert.Reference6Ideal.τ).loc Cert.Reference6Ideal.main_arg0)
      ∧ r.2.mem ((c.tc : Thread Cert.Reference6Ideal.nD Cert.Reference6Ideal.τ).loc Cert.Reference6Ideal.main_arg1) = m ((c.tc : Thread Cert.Reference6Ideal.nD Cert.Reference6Ideal.τ).loc Cert.Reference6Ideal.main_arg1)
      ∧ r.2.mem ((c.tc : Thread Cert.Reference6Ideal.nD Cert.Reference6Ideal.τ).loc Cert.Reference6Ideal.main_arg2) = m ((c.tc : Thread Cert.Reference6Ideal.nD Cert.Reference6Ideal.τ).loc Cert.Reference6Ideal.main_arg2)
      ∧ r.2.mem ((c.tc : Thread Cert.Reference6Ideal.nD Cert.Reference6Ideal.τ).loc Cert.Reference6Ideal.main_arg3) = m ((c.tc : Thread Cert.Reference6Ideal.nD Cert.Reference6Ideal.τ).loc Cert.Reference6Ideal.main_arg3))
      ∧ r.2.sem = fun _ => 0)

def quiescent_Kernel7 [hKernel7 : Cert.Kernel7.Facts] : Prop :=
  ∀ (m : (ℓ : Loc Cert.Kernel7.nD Cert.Kernel7.τ Cert.Kernel7.sig) → Buf (Elt Bits) ℓ) (g : Dev Cert.Kernel7.nD → PrngReg), Pre_Kernel7 m →
    θ_run (Cert.Kernel7.defs (F := Bits)) (onTc (τ := Cert.Kernel7.τ) (Cert.Kernel7.main (F := Bits))) ⟨m, fun _ => 0, g⟩ (fun r => (∀ c : Dev Cert.Kernel7.nD,
      r.2.mem ((c.tc : Thread Cert.Kernel7.nD Cert.Kernel7.τ).loc Cert.Kernel7.main_arg0) = m ((c.tc : Thread Cert.Kernel7.nD Cert.Kernel7.τ).loc Cert.Kernel7.main_arg0)
      ∧ r.2.mem ((c.tc : Thread Cert.Kernel7.nD Cert.Kernel7.τ).loc Cert.Kernel7.main_arg1) = m ((c.tc : Thread Cert.Kernel7.nD Cert.Kernel7.τ).loc Cert.Kernel7.main_arg1)
      ∧ r.2.mem ((c.tc : Thread Cert.Kernel7.nD Cert.Kernel7.τ).loc Cert.Kernel7.main_arg2) = m ((c.tc : Thread Cert.Kernel7.nD Cert.Kernel7.τ).loc Cert.Kernel7.main_arg2)
      ∧ r.2.mem ((c.tc : Thread Cert.Kernel7.nD Cert.Kernel7.τ).loc Cert.Kernel7.main_arg3) = m ((c.tc : Thread Cert.Kernel7.nD Cert.Kernel7.τ).loc Cert.Kernel7.main_arg3))
      ∧ r.2.sem = fun _ => 0)

def quiescent_Kernel7Ideal [hKernel7Ideal : Cert.Kernel7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg), Pre_Kernel7Ideal m →
    θ_run (Cert.Kernel7Ideal.defs (F := Ideal)) (onTc (τ := Cert.Kernel7Ideal.τ) (Cert.Kernel7Ideal.main (F := Ideal))) ⟨m, fun _ => 0, g⟩ (fun r => (∀ c : Dev Cert.Kernel7Ideal.nD,
      r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
      ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1)
      ∧ r.2.mem ((c.tc : Thread Cert.Kernel7Ideal.nD Cert.Kernel7Ideal.τ).loc Cert.Kernel7Ideal.main_arg2) = m ((c.tc : Thread Cert.Kernel7Ideal.nD Cert.Kernel7Ideal.τ).loc Cert.Kernel7Ideal.main_arg2)
      ∧ r.2.mem ((c.tc : Thread Cert.Kernel7Ideal.nD Cert.Kernel7Ideal.τ).loc Cert.Kernel7Ideal.main_arg3) = m ((c.tc : Thread Cert.Kernel7Ideal.nD Cert.Kernel7Ideal.τ).loc Cert.Kernel7Ideal.main_arg3))
      ∧ r.2.sem = fun _ => 0)

def quiescent_Reference7Ideal [hReference7Ideal : Cert.Reference7Ideal.Facts] : Prop :=
  ∀ (m : (ℓ : Loc Cert.Reference7Ideal.nD Cert.Reference7Ideal.τ Cert.Reference7Ideal.sig) → Buf (Elt Ideal) ℓ) (g : Dev Cert.Reference7Ideal.nD → PrngReg), Pre_Reference7Ideal m →
    θ_run (Cert.Reference7Ideal.defs (F := Ideal)) (onTc (τ := Cert.Reference7Ideal.τ) (Cert.Reference7Ideal.main (F := Ideal))) ⟨m, fun _ => 0, g⟩ (fun r => (∀ c : Dev Cert.Reference7Ideal.nD,
      r.2.mem ((c.tc : Thread Cert.Reference7Ideal.nD Cert.Reference7Ideal.τ).loc Cert.Reference7Ideal.main_arg0) = m ((c.tc : Thread Cert.Reference7Ideal.nD Cert.Reference7Ideal.τ).loc Cert.Reference7Ideal.main_arg0)
      ∧ r.2.mem ((c.tc : Thread Cert.Reference7Ideal.nD Cert.Reference7Ideal.τ).loc Cert.Reference7Ideal.main_arg1) = m ((c.tc : Thread Cert.Reference7Ideal.nD Cert.Reference7Ideal.τ).loc Cert.Reference7Ideal.main_arg1)
      ∧ r.2.mem ((c.tc : Thread Cert.Reference7Ideal.nD Cert.Reference7Ideal.τ).loc Cert.Reference7Ideal.main_arg2) = m ((c.tc : Thread Cert.Reference7Ideal.nD Cert.Reference7Ideal.τ).loc Cert.Reference7Ideal.main_arg2)
      ∧ r.2.mem ((c.tc : Thread Cert.Reference7Ideal.nD Cert.Reference7Ideal.τ).loc Cert.Reference7Ideal.main_arg3) = m ((c.tc : Thread Cert.Reference7Ideal.nD Cert.Reference7Ideal.τ).loc Cert.Reference7Ideal.main_arg3))
      ∧ r.2.sem = fun _ => 0)

def quiescent_Kernel8 [hKernel8 : Cert.Kernel8.Facts] : Prop :=
  ∀ (m : (ℓ : Loc Cert.Kernel8.nD Cert.Kernel8.τ Cert.Kernel8.sig) → Buf (Elt Bits) ℓ) (g : Dev Cert.Kernel8.nD → PrngReg), Pre_Kernel8 m →
    θ_run (Cert.Kernel8.defs (F := Bits)) (onTc (τ := Cert.Kernel8.τ) (Cert.Kernel8.main (F := Bits))) ⟨m, fun _ => 0, g⟩ (fun r => (∀ c : Dev Cert.Kernel8.nD,
      r.2.mem ((c.tc : Thread Cert.Kernel8.nD Cert.Kernel8.τ).loc Cert.Kernel8.main_arg0) = m ((c.tc : Thread Cert.Kernel8.nD Cert.Kernel8.τ).loc Cert.Kernel8.main_arg0)
      ∧ r.2.mem ((c.tc : Thread Cert.Kernel8.nD Cert.Kernel8.τ).loc Cert.Kernel8.main_arg1) = m ((c.tc : Thread Cert.Kernel8.nD Cert.Kernel8.τ).loc Cert.Kernel8.main_arg1)
      ∧ r.2.mem ((c.tc : Thread Cert.Kernel8.nD Cert.Kernel8.τ).loc Cert.Kernel8.main_arg2) = m ((c.tc : Thread Cert.Kernel8.nD Cert.Kernel8.τ).loc Cert.Kernel8.main_arg2)
      ∧ r.2.mem ((c.tc : Thread Cert.Kernel8.nD Cert.Kernel8.τ).loc Cert.Kernel8.main_arg3) = m ((c.tc : Thread Cert.Kernel8.nD Cert.Kernel8.τ).loc Cert.Kernel8.main_arg3))
      ∧ r.2.sem = fun _ => 0)

def quiescent_Kernel8Ideal [hKernel8Ideal : Cert.Kernel8Ideal.Facts] : Prop :=
  ∀ (m : (ℓ : Loc Cert.Kernel8Ideal.nD Cert.Kernel8Ideal.τ Cert.Kernel8Ideal.sig) → Buf (Elt Ideal) ℓ) (g : Dev Cert.Kernel8Ideal.nD → PrngReg), Pre_Kernel8Ideal m →
    θ_run (Cert.Kernel8Ideal.defs (F := Ideal)) (onTc (τ := Cert.Kernel8Ideal.τ) (Cert.Kernel8Ideal.main (F := Ideal))) ⟨m, fun _ => 0, g⟩ (fun r => (∀ c : Dev Cert.Kernel8Ideal.nD,
      r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
      ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1)
      ∧ r.2.mem ((c.tc : Thread Cert.Kernel8Ideal.nD Cert.Kernel8Ideal.τ).loc Cert.Kernel8Ideal.main_arg2) = m ((c.tc : Thread Cert.Kernel8Ideal.nD Cert.Kernel8Ideal.τ).loc Cert.Kernel8Ideal.main_arg2)
      ∧ r.2.mem ((c.tc : Thread Cert.Kernel8Ideal.nD Cert.Kernel8Ideal.τ).loc Cert.Kernel8Ideal.main_arg3) = m ((c.tc : Thread Cert.Kernel8Ideal.nD Cert.Kernel8Ideal.τ).loc Cert.Kernel8Ideal.main_arg3))
      ∧ r.2.sem = fun _ => 0)

def quiescent_Reference8Ideal [hReference8Ideal : Cert.Reference8Ideal.Facts] : Prop :=
  ∀ (m : (ℓ : Loc Cert.Reference8Ideal.nD Cert.Reference8Ideal.τ Cert.Reference8Ideal.sig) → Buf (Elt Ideal) ℓ) (g : Dev Cert.Reference8Ideal.nD → PrngReg), Pre_Reference8Ideal m →
    θ_run (Cert.Reference8Ideal.defs (F := Ideal)) (onTc (τ := Cert.Reference8Ideal.τ) (Cert.Reference8Ideal.main (F := Ideal))) ⟨m, fun _ => 0, g⟩ (fun r => (∀ c : Dev Cert.Reference8Ideal.nD,
      r.2.mem ((c.tc : Thread Cert.Reference8Ideal.nD Cert.Reference8Ideal.τ).loc Cert.Reference8Ideal.main_arg0) = m ((c.tc : Thread Cert.Reference8Ideal.nD Cert.Reference8Ideal.τ).loc Cert.Reference8Ideal.main_arg0)
      ∧ r.2.mem ((c.tc : Thread Cert.Reference8Ideal.nD Cert.Reference8Ideal.τ).loc Cert.Reference8Ideal.main_arg1) = m ((c.tc : Thread Cert.Reference8Ideal.nD Cert.Reference8Ideal.τ).loc Cert.Reference8Ideal.main_arg1)
      ∧ r.2.mem ((c.tc : Thread Cert.Reference8Ideal.nD Cert.Reference8Ideal.τ).loc Cert.Reference8Ideal.main_arg2) = m ((c.tc : Thread Cert.Reference8Ideal.nD Cert.Reference8Ideal.τ).loc Cert.Reference8Ideal.main_arg2)
      ∧ r.2.mem ((c.tc : Thread Cert.Reference8Ideal.nD Cert.Reference8Ideal.τ).loc Cert.Reference8Ideal.main_arg3) = m ((c.tc : Thread Cert.Reference8Ideal.nD Cert.Reference8Ideal.τ).loc Cert.Reference8Ideal.main_arg3))
      ∧ r.2.sem = fun _ => 0)

def quiescent_Kernel9 [hKernel9 : Cert.Kernel9.Facts] : Prop :=
  ∀ (m : (ℓ : Loc Cert.Kernel9.nD Cert.Kernel9.τ Cert.Kernel9.sig) → Buf (Elt Bits) ℓ) (g : Dev Cert.Kernel9.nD → PrngReg), Pre_Kernel9 m →
    θ_run (Cert.Kernel9.defs (F := Bits)) (onTc (τ := Cert.Kernel9.τ) (Cert.Kernel9.main (F := Bits))) ⟨m, fun _ => 0, g⟩ (fun r => (∀ c : Dev Cert.Kernel9.nD,
      r.2.mem ((c.tc : Thread Cert.Kernel9.nD Cert.Kernel9.τ).loc Cert.Kernel9.main_arg0) = m ((c.tc : Thread Cert.Kernel9.nD Cert.Kernel9.τ).loc Cert.Kernel9.main_arg0)
      ∧ r.2.mem ((c.tc : Thread Cert.Kernel9.nD Cert.Kernel9.τ).loc Cert.Kernel9.main_arg1) = m ((c.tc : Thread Cert.Kernel9.nD Cert.Kernel9.τ).loc Cert.Kernel9.main_arg1)
      ∧ r.2.mem ((c.tc : Thread Cert.Kernel9.nD Cert.Kernel9.τ).loc Cert.Kernel9.main_arg2) = m ((c.tc : Thread Cert.Kernel9.nD Cert.Kernel9.τ).loc Cert.Kernel9.main_arg2)
      ∧ r.2.mem ((c.tc : Thread Cert.Kernel9.nD Cert.Kernel9.τ).loc Cert.Kernel9.main_arg3) = m ((c.tc : Thread Cert.Kernel9.nD Cert.Kernel9.τ).loc Cert.Kernel9.main_arg3))
      ∧ r.2.sem = fun _ => 0)

def quiescent_Kernel9Ideal [hKernel9Ideal : Cert.Kernel9Ideal.Facts] : Prop :=
  ∀ (m : (ℓ : Loc Cert.Kernel9Ideal.nD Cert.Kernel9Ideal.τ Cert.Kernel9Ideal.sig) → Buf (Elt Ideal) ℓ) (g : Dev Cert.Kernel9Ideal.nD → PrngReg), Pre_Kernel9Ideal m →
    θ_run (Cert.Kernel9Ideal.defs (F := Ideal)) (onTc (τ := Cert.Kernel9Ideal.τ) (Cert.Kernel9Ideal.main (F := Ideal))) ⟨m, fun _ => 0, g⟩ (fun r => (∀ c : Dev Cert.Kernel9Ideal.nD,
      r.2.mem ((c.tc : Thread Cert.Kernel9Ideal.nD Cert.Kernel9Ideal.τ).loc Cert.Kernel9Ideal.main_arg0) = m ((c.tc : Thread Cert.Kernel9Ideal.nD Cert.Kernel9Ideal.τ).loc Cert.Kernel9Ideal.main_arg0)
      ∧ r.2.mem ((c.tc : Thread Cert.Kernel9Ideal.nD Cert.Kernel9Ideal.τ).loc Cert.Kernel9Ideal.main_arg1) = m ((c.tc : Thread Cert.Kernel9Ideal.nD Cert.Kernel9Ideal.τ).loc Cert.Kernel9Ideal.main_arg1)
      ∧ r.2.mem ((c.tc : Thread Cert.Kernel9Ideal.nD Cert.Kernel9Ideal.τ).loc Cert.Kernel9Ideal.main_arg2) = m ((c.tc : Thread Cert.Kernel9Ideal.nD Cert.Kernel9Ideal.τ).loc Cert.Kernel9Ideal.main_arg2)
      ∧ r.2.mem ((c.tc : Thread Cert.Kernel9Ideal.nD Cert.Kernel9Ideal.τ).loc Cert.Kernel9Ideal.main_arg3) = m ((c.tc : Thread Cert.Kernel9Ideal.nD Cert.Kernel9Ideal.τ).loc Cert.Kernel9Ideal.main_arg3))
      ∧ r.2.sem = fun _ => 0)

def quiescent_Reference9Ideal [hReference9Ideal : Cert.Reference9Ideal.Facts] : Prop :=
  ∀ (m : (ℓ : Loc Cert.Reference9Ideal.nD Cert.Reference9Ideal.τ Cert.Reference9Ideal.sig) → Buf (Elt Ideal) ℓ) (g : Dev Cert.Reference9Ideal.nD → PrngReg), Pre_Reference9Ideal m →
    θ_run (Cert.Reference9Ideal.defs (F := Ideal)) (onTc (τ := Cert.Reference9Ideal.τ) (Cert.Reference9Ideal.main (F := Ideal))) ⟨m, fun _ => 0, g⟩ (fun r => (∀ c : Dev Cert.Reference9Ideal.nD,
      r.2.mem ((c.tc : Thread Cert.Reference9Ideal.nD Cert.Reference9Ideal.τ).loc Cert.Reference9Ideal.main_arg0) = m ((c.tc : Thread Cert.Reference9Ideal.nD Cert.Reference9Ideal.τ).loc Cert.Reference9Ideal.main_arg0)
      ∧ r.2.mem ((c.tc : Thread Cert.Reference9Ideal.nD Cert.Reference9Ideal.τ).loc Cert.Reference9Ideal.main_arg1) = m ((c.tc : Thread Cert.Reference9Ideal.nD Cert.Reference9Ideal.τ).loc Cert.Reference9Ideal.main_arg1)
      ∧ r.2.mem ((c.tc : Thread Cert.Reference9Ideal.nD Cert.Reference9Ideal.τ).loc Cert.Reference9Ideal.main_arg2) = m ((c.tc : Thread Cert.Reference9Ideal.nD Cert.Reference9Ideal.τ).loc Cert.Reference9Ideal.main_arg2)
      ∧ r.2.mem ((c.tc : Thread Cert.Reference9Ideal.nD Cert.Reference9Ideal.τ).loc Cert.Reference9Ideal.main_arg3) = m ((c.tc : Thread Cert.Reference9Ideal.nD Cert.Reference9Ideal.τ).loc Cert.Reference9Ideal.main_arg3))
      ∧ r.2.sem = fun _ => 0)

def quiescent_Kernel10 [hKernel10 : Cert.Kernel10.Facts] : Prop :=
  ∀ (m : (ℓ : Loc Cert.Kernel10.nD Cert.Kernel10.τ Cert.Kernel10.sig) → Buf (Elt Bits) ℓ) (g : Dev Cert.Kernel10.nD → PrngReg), Pre_Kernel10 m →
    θ_run (Cert.Kernel10.defs (F := Bits)) (onTc (τ := Cert.Kernel10.τ) (Cert.Kernel10.main (F := Bits))) ⟨m, fun _ => 0, g⟩ (fun r => (∀ c : Dev Cert.Kernel10.nD,
      r.2.mem ((c.tc : Thread Cert.Kernel10.nD Cert.Kernel10.τ).loc Cert.Kernel10.main_arg0) = m ((c.tc : Thread Cert.Kernel10.nD Cert.Kernel10.τ).loc Cert.Kernel10.main_arg0)
      ∧ r.2.mem ((c.tc : Thread Cert.Kernel10.nD Cert.Kernel10.τ).loc Cert.Kernel10.main_arg1) = m ((c.tc : Thread Cert.Kernel10.nD Cert.Kernel10.τ).loc Cert.Kernel10.main_arg1)
      ∧ r.2.mem ((c.tc : Thread Cert.Kernel10.nD Cert.Kernel10.τ).loc Cert.Kernel10.main_arg2) = m ((c.tc : Thread Cert.Kernel10.nD Cert.Kernel10.τ).loc Cert.Kernel10.main_arg2)
      ∧ r.2.mem ((c.tc : Thread Cert.Kernel10.nD Cert.Kernel10.τ).loc Cert.Kernel10.main_arg3) = m ((c.tc : Thread Cert.Kernel10.nD Cert.Kernel10.τ).loc Cert.Kernel10.main_arg3))
      ∧ r.2.sem = fun _ => 0)

def quiescent_Kernel10Ideal [hKernel10Ideal : Cert.Kernel10Ideal.Facts] : Prop :=
  ∀ (m : (ℓ : Loc Cert.Kernel10Ideal.nD Cert.Kernel10Ideal.τ Cert.Kernel10Ideal.sig) → Buf (Elt Ideal) ℓ) (g : Dev Cert.Kernel10Ideal.nD → PrngReg), Pre_Kernel10Ideal m →
    θ_run (Cert.Kernel10Ideal.defs (F := Ideal)) (onTc (τ := Cert.Kernel10Ideal.τ) (Cert.Kernel10Ideal.main (F := Ideal))) ⟨m, fun _ => 0, g⟩ (fun r => (∀ c : Dev Cert.Kernel10Ideal.nD,
      r.2.mem ((c.tc : Thread Cert.Kernel10Ideal.nD Cert.Kernel10Ideal.τ).loc Cert.Kernel10Ideal.main_arg0) = m ((c.tc : Thread Cert.Kernel10Ideal.nD Cert.Kernel10Ideal.τ).loc Cert.Kernel10Ideal.main_arg0)
      ∧ r.2.mem ((c.tc : Thread Cert.Kernel10Ideal.nD Cert.Kernel10Ideal.τ).loc Cert.Kernel10Ideal.main_arg1) = m ((c.tc : Thread Cert.Kernel10Ideal.nD Cert.Kernel10Ideal.τ).loc Cert.Kernel10Ideal.main_arg1)
      ∧ r.2.mem ((c.tc : Thread Cert.Kernel10Ideal.nD Cert.Kernel10Ideal.τ).loc Cert.Kernel10Ideal.main_arg2) = m ((c.tc : Thread Cert.Kernel10Ideal.nD Cert.Kernel10Ideal.τ).loc Cert.Kernel10Ideal.main_arg2)
      ∧ r.2.mem ((c.tc : Thread Cert.Kernel10Ideal.nD Cert.Kernel10Ideal.τ).loc Cert.Kernel10Ideal.main_arg3) = m ((c.tc : Thread Cert.Kernel10Ideal.nD Cert.Kernel10Ideal.τ).loc Cert.Kernel10Ideal.main_arg3))
      ∧ r.2.sem = fun _ => 0)

def quiescent_Reference10Ideal [hReference10Ideal : Cert.Reference10Ideal.Facts] : Prop :=
  ∀ (m : (ℓ : Loc Cert.Reference10Ideal.nD Cert.Reference10Ideal.τ Cert.Reference10Ideal.sig) → Buf (Elt Ideal) ℓ) (g : Dev Cert.Reference10Ideal.nD → PrngReg), Pre_Reference10Ideal m →
    θ_run (Cert.Reference10Ideal.defs (F := Ideal)) (onTc (τ := Cert.Reference10Ideal.τ) (Cert.Reference10Ideal.main (F := Ideal))) ⟨m, fun _ => 0, g⟩ (fun r => (∀ c : Dev Cert.Reference10Ideal.nD,
      r.2.mem ((c.tc : Thread Cert.Reference10Ideal.nD Cert.Reference10Ideal.τ).loc Cert.Reference10Ideal.main_arg0) = m ((c.tc : Thread Cert.Reference10Ideal.nD Cert.Reference10Ideal.τ).loc Cert.Reference10Ideal.main_arg0)
      ∧ r.2.mem ((c.tc : Thread Cert.Reference10Ideal.nD Cert.Reference10Ideal.τ).loc Cert.Reference10Ideal.main_arg1) = m ((c.tc : Thread Cert.Reference10Ideal.nD Cert.Reference10Ideal.τ).loc Cert.Reference10Ideal.main_arg1)
      ∧ r.2.mem ((c.tc : Thread Cert.Reference10Ideal.nD Cert.Reference10Ideal.τ).loc Cert.Reference10Ideal.main_arg2) = m ((c.tc : Thread Cert.Reference10Ideal.nD Cert.Reference10Ideal.τ).loc Cert.Reference10Ideal.main_arg2)
      ∧ r.2.mem ((c.tc : Thread Cert.Reference10Ideal.nD Cert.Reference10Ideal.τ).loc Cert.Reference10Ideal.main_arg3) = m ((c.tc : Thread Cert.Reference10Ideal.nD Cert.Reference10Ideal.τ).loc Cert.Reference10Ideal.main_arg3))
      ∧ r.2.sem = fun _ => 0)

def quiescent_Kernel11 [hKernel11 : Cert.Kernel11.Facts] : Prop :=
  ∀ (m : (ℓ : Loc Cert.Kernel11.nD Cert.Kernel11.τ Cert.Kernel11.sig) → Buf (Elt Bits) ℓ) (g : Dev Cert.Kernel11.nD → PrngReg), Pre_Kernel11 m →
    θ_run (Cert.Kernel11.defs (F := Bits)) (onTc (τ := Cert.Kernel11.τ) (Cert.Kernel11.main (F := Bits))) ⟨m, fun _ => 0, g⟩ (fun r => (∀ c : Dev Cert.Kernel11.nD,
      r.2.mem ((c.tc : Thread Cert.Kernel11.nD Cert.Kernel11.τ).loc Cert.Kernel11.main_arg0) = m ((c.tc : Thread Cert.Kernel11.nD Cert.Kernel11.τ).loc Cert.Kernel11.main_arg0)
      ∧ r.2.mem ((c.tc : Thread Cert.Kernel11.nD Cert.Kernel11.τ).loc Cert.Kernel11.main_arg1) = m ((c.tc : Thread Cert.Kernel11.nD Cert.Kernel11.τ).loc Cert.Kernel11.main_arg1)
      ∧ r.2.mem ((c.tc : Thread Cert.Kernel11.nD Cert.Kernel11.τ).loc Cert.Kernel11.main_arg2) = m ((c.tc : Thread Cert.Kernel11.nD Cert.Kernel11.τ).loc Cert.Kernel11.main_arg2)
      ∧ r.2.mem ((c.tc : Thread Cert.Kernel11.nD Cert.Kernel11.τ).loc Cert.Kernel11.main_arg3) = m ((c.tc : Thread Cert.Kernel11.nD Cert.Kernel11.τ).loc Cert.Kernel11.main_arg3))
      ∧ r.2.sem = fun _ => 0)

def quiescent_Kernel11Ideal [hKernel11Ideal : Cert.Kernel11Ideal.Facts] : Prop :=
  ∀ (m : (ℓ : Loc Cert.Kernel11Ideal.nD Cert.Kernel11Ideal.τ Cert.Kernel11Ideal.sig) → Buf (Elt Ideal) ℓ) (g : Dev Cert.Kernel11Ideal.nD → PrngReg), Pre_Kernel11Ideal m →
    θ_run (Cert.Kernel11Ideal.defs (F := Ideal)) (onTc (τ := Cert.Kernel11Ideal.τ) (Cert.Kernel11Ideal.main (F := Ideal))) ⟨m, fun _ => 0, g⟩ (fun r => (∀ c : Dev Cert.Kernel11Ideal.nD,
      r.2.mem ((c.tc : Thread Cert.Kernel11Ideal.nD Cert.Kernel11Ideal.τ).loc Cert.Kernel11Ideal.main_arg0) = m ((c.tc : Thread Cert.Kernel11Ideal.nD Cert.Kernel11Ideal.τ).loc Cert.Kernel11Ideal.main_arg0)
      ∧ r.2.mem ((c.tc : Thread Cert.Kernel11Ideal.nD Cert.Kernel11Ideal.τ).loc Cert.Kernel11Ideal.main_arg1) = m ((c.tc : Thread Cert.Kernel11Ideal.nD Cert.Kernel11Ideal.τ).loc Cert.Kernel11Ideal.main_arg1)
      ∧ r.2.mem ((c.tc : Thread Cert.Kernel11Ideal.nD Cert.Kernel11Ideal.τ).loc Cert.Kernel11Ideal.main_arg2) = m ((c.tc : Thread Cert.Kernel11Ideal.nD Cert.Kernel11Ideal.τ).loc Cert.Kernel11Ideal.main_arg2)
      ∧ r.2.mem ((c.tc : Thread Cert.Kernel11Ideal.nD Cert.Kernel11Ideal.τ).loc Cert.Kernel11Ideal.main_arg3) = m ((c.tc : Thread Cert.Kernel11Ideal.nD Cert.Kernel11Ideal.τ).loc Cert.Kernel11Ideal.main_arg3))
      ∧ r.2.sem = fun _ => 0)

def quiescent_Reference11Ideal [hReference11Ideal : Cert.Reference11Ideal.Facts] : Prop :=
  ∀ (m : (ℓ : Loc Cert.Reference11Ideal.nD Cert.Reference11Ideal.τ Cert.Reference11Ideal.sig) → Buf (Elt Ideal) ℓ) (g : Dev Cert.Reference11Ideal.nD → PrngReg), Pre_Reference11Ideal m →
    θ_run (Cert.Reference11Ideal.defs (F := Ideal)) (onTc (τ := Cert.Reference11Ideal.τ) (Cert.Reference11Ideal.main (F := Ideal))) ⟨m, fun _ => 0, g⟩ (fun r => (∀ c : Dev Cert.Reference11Ideal.nD,
      r.2.mem ((c.tc : Thread Cert.Reference11Ideal.nD Cert.Reference11Ideal.τ).loc Cert.Reference11Ideal.main_arg0) = m ((c.tc : Thread Cert.Reference11Ideal.nD Cert.Reference11Ideal.τ).loc Cert.Reference11Ideal.main_arg0)
      ∧ r.2.mem ((c.tc : Thread Cert.Reference11Ideal.nD Cert.Reference11Ideal.τ).loc Cert.Reference11Ideal.main_arg1) = m ((c.tc : Thread Cert.Reference11Ideal.nD Cert.Reference11Ideal.τ).loc Cert.Reference11Ideal.main_arg1)
      ∧ r.2.mem ((c.tc : Thread Cert.Reference11Ideal.nD Cert.Reference11Ideal.τ).loc Cert.Reference11Ideal.main_arg2) = m ((c.tc : Thread Cert.Reference11Ideal.nD Cert.Reference11Ideal.τ).loc Cert.Reference11Ideal.main_arg2)
      ∧ r.2.mem ((c.tc : Thread Cert.Reference11Ideal.nD Cert.Reference11Ideal.τ).loc Cert.Reference11Ideal.main_arg3) = m ((c.tc : Thread Cert.Reference11Ideal.nD Cert.Reference11Ideal.τ).loc Cert.Reference11Ideal.main_arg3))
      ∧ r.2.sem = fun _ => 0)

def quiescent_Kernel12 [hKernel12 : Cert.Kernel12.Facts] : Prop :=
  ∀ (m : (ℓ : Loc Cert.Kernel12.nD Cert.Kernel12.τ Cert.Kernel12.sig) → Buf (Elt Bits) ℓ) (g : Dev Cert.Kernel12.nD → PrngReg), Pre_Kernel12 m →
    θ_run (Cert.Kernel12.defs (F := Bits)) (onTc (τ := Cert.Kernel12.τ) (Cert.Kernel12.main (F := Bits))) ⟨m, fun _ => 0, g⟩ (fun r => (∀ c : Dev Cert.Kernel12.nD,
      r.2.mem ((c.tc : Thread Cert.Kernel12.nD Cert.Kernel12.τ).loc Cert.Kernel12.main_arg0) = m ((c.tc : Thread Cert.Kernel12.nD Cert.Kernel12.τ).loc Cert.Kernel12.main_arg0)
      ∧ r.2.mem ((c.tc : Thread Cert.Kernel12.nD Cert.Kernel12.τ).loc Cert.Kernel12.main_arg1) = m ((c.tc : Thread Cert.Kernel12.nD Cert.Kernel12.τ).loc Cert.Kernel12.main_arg1)
      ∧ r.2.mem ((c.tc : Thread Cert.Kernel12.nD Cert.Kernel12.τ).loc Cert.Kernel12.main_arg2) = m ((c.tc : Thread Cert.Kernel12.nD Cert.Kernel12.τ).loc Cert.Kernel12.main_arg2)
      ∧ r.2.mem ((c.tc : Thread Cert.Kernel12.nD Cert.Kernel12.τ).loc Cert.Kernel12.main_arg3) = m ((c.tc : Thread Cert.Kernel12.nD Cert.Kernel12.τ).loc Cert.Kernel12.main_arg3))
      ∧ r.2.sem = fun _ => 0)

def quiescent_Kernel12Ideal [hKernel12Ideal : Cert.Kernel12Ideal.Facts] : Prop :=
  ∀ (m : (ℓ : Loc Cert.Kernel12Ideal.nD Cert.Kernel12Ideal.τ Cert.Kernel12Ideal.sig) → Buf (Elt Ideal) ℓ) (g : Dev Cert.Kernel12Ideal.nD → PrngReg), Pre_Kernel12Ideal m →
    θ_run (Cert.Kernel12Ideal.defs (F := Ideal)) (onTc (τ := Cert.Kernel12Ideal.τ) (Cert.Kernel12Ideal.main (F := Ideal))) ⟨m, fun _ => 0, g⟩ (fun r => (∀ c : Dev Cert.Kernel12Ideal.nD,
      r.2.mem ((c.tc : Thread Cert.Kernel12Ideal.nD Cert.Kernel12Ideal.τ).loc Cert.Kernel12Ideal.main_arg0) = m ((c.tc : Thread Cert.Kernel12Ideal.nD Cert.Kernel12Ideal.τ).loc Cert.Kernel12Ideal.main_arg0)
      ∧ r.2.mem ((c.tc : Thread Cert.Kernel12Ideal.nD Cert.Kernel12Ideal.τ).loc Cert.Kernel12Ideal.main_arg1) = m ((c.tc : Thread Cert.Kernel12Ideal.nD Cert.Kernel12Ideal.τ).loc Cert.Kernel12Ideal.main_arg1)
      ∧ r.2.mem ((c.tc : Thread Cert.Kernel12Ideal.nD Cert.Kernel12Ideal.τ).loc Cert.Kernel12Ideal.main_arg2) = m ((c.tc : Thread Cert.Kernel12Ideal.nD Cert.Kernel12Ideal.τ).loc Cert.Kernel12Ideal.main_arg2)
      ∧ r.2.mem ((c.tc : Thread Cert.Kernel12Ideal.nD Cert.Kernel12Ideal.τ).loc Cert.Kernel12Ideal.main_arg3) = m ((c.tc : Thread Cert.Kernel12Ideal.nD Cert.Kernel12Ideal.τ).loc Cert.Kernel12Ideal.main_arg3))
      ∧ r.2.sem = fun _ => 0)

def quiescent_Reference12Ideal [hReference12Ideal : Cert.Reference12Ideal.Facts] : Prop :=
  ∀ (m : (ℓ : Loc Cert.Reference12Ideal.nD Cert.Reference12Ideal.τ Cert.Reference12Ideal.sig) → Buf (Elt Ideal) ℓ) (g : Dev Cert.Reference12Ideal.nD → PrngReg), Pre_Reference12Ideal m →
    θ_run (Cert.Reference12Ideal.defs (F := Ideal)) (onTc (τ := Cert.Reference12Ideal.τ) (Cert.Reference12Ideal.main (F := Ideal))) ⟨m, fun _ => 0, g⟩ (fun r => (∀ c : Dev Cert.Reference12Ideal.nD,
      r.2.mem ((c.tc : Thread Cert.Reference12Ideal.nD Cert.Reference12Ideal.τ).loc Cert.Reference12Ideal.main_arg0) = m ((c.tc : Thread Cert.Reference12Ideal.nD Cert.Reference12Ideal.τ).loc Cert.Reference12Ideal.main_arg0)
      ∧ r.2.mem ((c.tc : Thread Cert.Reference12Ideal.nD Cert.Reference12Ideal.τ).loc Cert.Reference12Ideal.main_arg1) = m ((c.tc : Thread Cert.Reference12Ideal.nD Cert.Reference12Ideal.τ).loc Cert.Reference12Ideal.main_arg1)
      ∧ r.2.mem ((c.tc : Thread Cert.Reference12Ideal.nD Cert.Reference12Ideal.τ).loc Cert.Reference12Ideal.main_arg2) = m ((c.tc : Thread Cert.Reference12Ideal.nD Cert.Reference12Ideal.τ).loc Cert.Reference12Ideal.main_arg2)
      ∧ r.2.mem ((c.tc : Thread Cert.Reference12Ideal.nD Cert.Reference12Ideal.τ).loc Cert.Reference12Ideal.main_arg3) = m ((c.tc : Thread Cert.Reference12Ideal.nD Cert.Reference12Ideal.τ).loc Cert.Reference12Ideal.main_arg3))
      ∧ r.2.sem = fun _ => 0)

def quiescent_Kernel13 [hKernel13 : Cert.Kernel13.Facts] : Prop :=
  ∀ (m : (ℓ : Loc Cert.Kernel13.nD Cert.Kernel13.τ Cert.Kernel13.sig) → Buf (Elt Bits) ℓ) (g : Dev Cert.Kernel13.nD → PrngReg), Pre_Kernel13 m →
    θ_run (Cert.Kernel13.defs (F := Bits)) (onTc (τ := Cert.Kernel13.τ) (Cert.Kernel13.main (F := Bits))) ⟨m, fun _ => 0, g⟩ (fun r => (∀ c : Dev Cert.Kernel13.nD,
      r.2.mem ((c.tc : Thread Cert.Kernel13.nD Cert.Kernel13.τ).loc Cert.Kernel13.main_arg0) = m ((c.tc : Thread Cert.Kernel13.nD Cert.Kernel13.τ).loc Cert.Kernel13.main_arg0)
      ∧ r.2.mem ((c.tc : Thread Cert.Kernel13.nD Cert.Kernel13.τ).loc Cert.Kernel13.main_arg1) = m ((c.tc : Thread Cert.Kernel13.nD Cert.Kernel13.τ).loc Cert.Kernel13.main_arg1)
      ∧ r.2.mem ((c.tc : Thread Cert.Kernel13.nD Cert.Kernel13.τ).loc Cert.Kernel13.main_arg2) = m ((c.tc : Thread Cert.Kernel13.nD Cert.Kernel13.τ).loc Cert.Kernel13.main_arg2)
      ∧ r.2.mem ((c.tc : Thread Cert.Kernel13.nD Cert.Kernel13.τ).loc Cert.Kernel13.main_arg3) = m ((c.tc : Thread Cert.Kernel13.nD Cert.Kernel13.τ).loc Cert.Kernel13.main_arg3))
      ∧ r.2.sem = fun _ => 0)

def quiescent_Kernel13Ideal [hKernel13Ideal : Cert.Kernel13Ideal.Facts] : Prop :=
  ∀ (m : (ℓ : Loc Cert.Kernel13Ideal.nD Cert.Kernel13Ideal.τ Cert.Kernel13Ideal.sig) → Buf (Elt Ideal) ℓ) (g : Dev Cert.Kernel13Ideal.nD → PrngReg), Pre_Kernel13Ideal m →
    θ_run (Cert.Kernel13Ideal.defs (F := Ideal)) (onTc (τ := Cert.Kernel13Ideal.τ) (Cert.Kernel13Ideal.main (F := Ideal))) ⟨m, fun _ => 0, g⟩ (fun r => (∀ c : Dev Cert.Kernel13Ideal.nD,
      r.2.mem ((c.tc : Thread Cert.Kernel13Ideal.nD Cert.Kernel13Ideal.τ).loc Cert.Kernel13Ideal.main_arg0) = m ((c.tc : Thread Cert.Kernel13Ideal.nD Cert.Kernel13Ideal.τ).loc Cert.Kernel13Ideal.main_arg0)
      ∧ r.2.mem ((c.tc : Thread Cert.Kernel13Ideal.nD Cert.Kernel13Ideal.τ).loc Cert.Kernel13Ideal.main_arg1) = m ((c.tc : Thread Cert.Kernel13Ideal.nD Cert.Kernel13Ideal.τ).loc Cert.Kernel13Ideal.main_arg1)
      ∧ r.2.mem ((c.tc : Thread Cert.Kernel13Ideal.nD Cert.Kernel13Ideal.τ).loc Cert.Kernel13Ideal.main_arg2) = m ((c.tc : Thread Cert.Kernel13Ideal.nD Cert.Kernel13Ideal.τ).loc Cert.Kernel13Ideal.main_arg2)
      ∧ r.2.mem ((c.tc : Thread Cert.Kernel13Ideal.nD Cert.Kernel13Ideal.τ).loc Cert.Kernel13Ideal.main_arg3) = m ((c.tc : Thread Cert.Kernel13Ideal.nD Cert.Kernel13Ideal.τ).loc Cert.Kernel13Ideal.main_arg3))
      ∧ r.2.sem = fun _ => 0)

def quiescent_Reference13Ideal [hReference13Ideal : Cert.Reference13Ideal.Facts] : Prop :=
  ∀ (m : (ℓ : Loc Cert.Reference13Ideal.nD Cert.Reference13Ideal.τ Cert.Reference13Ideal.sig) → Buf (Elt Ideal) ℓ) (g : Dev Cert.Reference13Ideal.nD → PrngReg), Pre_Reference13Ideal m →
    θ_run (Cert.Reference13Ideal.defs (F := Ideal)) (onTc (τ := Cert.Reference13Ideal.τ) (Cert.Reference13Ideal.main (F := Ideal))) ⟨m, fun _ => 0, g⟩ (fun r => (∀ c : Dev Cert.Reference13Ideal.nD,
      r.2.mem ((c.tc : Thread Cert.Reference13Ideal.nD Cert.Reference13Ideal.τ).loc Cert.Reference13Ideal.main_arg0) = m ((c.tc : Thread Cert.Reference13Ideal.nD Cert.Reference13Ideal.τ).loc Cert.Reference13Ideal.main_arg0)
      ∧ r.2.mem ((c.tc : Thread Cert.Reference13Ideal.nD Cert.Reference13Ideal.τ).loc Cert.Reference13Ideal.main_arg1) = m ((c.tc : Thread Cert.Reference13Ideal.nD Cert.Reference13Ideal.τ).loc Cert.Reference13Ideal.main_arg1)
      ∧ r.2.mem ((c.tc : Thread Cert.Reference13Ideal.nD Cert.Reference13Ideal.τ).loc Cert.Reference13Ideal.main_arg2) = m ((c.tc : Thread Cert.Reference13Ideal.nD Cert.Reference13Ideal.τ).loc Cert.Reference13Ideal.main_arg2)
      ∧ r.2.mem ((c.tc : Thread Cert.Reference13Ideal.nD Cert.Reference13Ideal.τ).loc Cert.Reference13Ideal.main_arg3) = m ((c.tc : Thread Cert.Reference13Ideal.nD Cert.Reference13Ideal.τ).loc Cert.Reference13Ideal.main_arg3))
      ∧ r.2.sem = fun _ => 0)

def quiescent_Kernel14 [hKernel14 : Cert.Kernel14.Facts] : Prop :=
  ∀ (m : (ℓ : Loc Cert.Kernel14.nD Cert.Kernel14.τ Cert.Kernel14.sig) → Buf (Elt Bits) ℓ) (g : Dev Cert.Kernel14.nD → PrngReg), Pre_Kernel14 m →
    θ_run (Cert.Kernel14.defs (F := Bits)) (onTc (τ := Cert.Kernel14.τ) (Cert.Kernel14.main (F := Bits))) ⟨m, fun _ => 0, g⟩ (fun r => (∀ c : Dev Cert.Kernel14.nD,
      r.2.mem ((c.tc : Thread Cert.Kernel14.nD Cert.Kernel14.τ).loc Cert.Kernel14.main_arg0) = m ((c.tc : Thread Cert.Kernel14.nD Cert.Kernel14.τ).loc Cert.Kernel14.main_arg0)
      ∧ r.2.mem ((c.tc : Thread Cert.Kernel14.nD Cert.Kernel14.τ).loc Cert.Kernel14.main_arg1) = m ((c.tc : Thread Cert.Kernel14.nD Cert.Kernel14.τ).loc Cert.Kernel14.main_arg1)
      ∧ r.2.mem ((c.tc : Thread Cert.Kernel14.nD Cert.Kernel14.τ).loc Cert.Kernel14.main_arg2) = m ((c.tc : Thread Cert.Kernel14.nD Cert.Kernel14.τ).loc Cert.Kernel14.main_arg2)
      ∧ r.2.mem ((c.tc : Thread Cert.Kernel14.nD Cert.Kernel14.τ).loc Cert.Kernel14.main_arg3) = m ((c.tc : Thread Cert.Kernel14.nD Cert.Kernel14.τ).loc Cert.Kernel14.main_arg3)
      ∧ r.2.mem ((c.tc : Thread Cert.Kernel14.nD Cert.Kernel14.τ).loc Cert.Kernel14.main_arg4) = m ((c.tc : Thread Cert.Kernel14.nD Cert.Kernel14.τ).loc Cert.Kernel14.main_arg4)
      ∧ r.2.mem ((c.tc : Thread Cert.Kernel14.nD Cert.Kernel14.τ).loc Cert.Kernel14.main_arg5) = m ((c.tc : Thread Cert.Kernel14.nD Cert.Kernel14.τ).loc Cert.Kernel14.main_arg5))
      ∧ r.2.sem = fun _ => 0)

def quiescent_Kernel14Ideal [hKernel14Ideal : Cert.Kernel14Ideal.Facts] : Prop :=
  ∀ (m : (ℓ : Loc Cert.Kernel14Ideal.nD Cert.Kernel14Ideal.τ Cert.Kernel14Ideal.sig) → Buf (Elt Ideal) ℓ) (g : Dev Cert.Kernel14Ideal.nD → PrngReg), Pre_Kernel14Ideal m →
    θ_run (Cert.Kernel14Ideal.defs (F := Ideal)) (onTc (τ := Cert.Kernel14Ideal.τ) (Cert.Kernel14Ideal.main (F := Ideal))) ⟨m, fun _ => 0, g⟩ (fun r => (∀ c : Dev Cert.Kernel14Ideal.nD,
      r.2.mem ((c.tc : Thread Cert.Kernel14Ideal.nD Cert.Kernel14Ideal.τ).loc Cert.Kernel14Ideal.main_arg0) = m ((c.tc : Thread Cert.Kernel14Ideal.nD Cert.Kernel14Ideal.τ).loc Cert.Kernel14Ideal.main_arg0)
      ∧ r.2.mem ((c.tc : Thread Cert.Kernel14Ideal.nD Cert.Kernel14Ideal.τ).loc Cert.Kernel14Ideal.main_arg1) = m ((c.tc : Thread Cert.Kernel14Ideal.nD Cert.Kernel14Ideal.τ).loc Cert.Kernel14Ideal.main_arg1)
      ∧ r.2.mem ((c.tc : Thread Cert.Kernel14Ideal.nD Cert.Kernel14Ideal.τ).loc Cert.Kernel14Ideal.main_arg2) = m ((c.tc : Thread Cert.Kernel14Ideal.nD Cert.Kernel14Ideal.τ).loc Cert.Kernel14Ideal.main_arg2)
      ∧ r.2.mem ((c.tc : Thread Cert.Kernel14Ideal.nD Cert.Kernel14Ideal.τ).loc Cert.Kernel14Ideal.main_arg3) = m ((c.tc : Thread Cert.Kernel14Ideal.nD Cert.Kernel14Ideal.τ).loc Cert.Kernel14Ideal.main_arg3)
      ∧ r.2.mem ((c.tc : Thread Cert.Kernel14Ideal.nD Cert.Kernel14Ideal.τ).loc Cert.Kernel14Ideal.main_arg4) = m ((c.tc : Thread Cert.Kernel14Ideal.nD Cert.Kernel14Ideal.τ).loc Cert.Kernel14Ideal.main_arg4)
      ∧ r.2.mem ((c.tc : Thread Cert.Kernel14Ideal.nD Cert.Kernel14Ideal.τ).loc Cert.Kernel14Ideal.main_arg5) = m ((c.tc : Thread Cert.Kernel14Ideal.nD Cert.Kernel14Ideal.τ).loc Cert.Kernel14Ideal.main_arg5))
      ∧ r.2.sem = fun _ => 0)

def quiescent_Reference14Ideal [hReference14Ideal : Cert.Reference14Ideal.Facts] : Prop :=
  ∀ (m : (ℓ : Loc Cert.Reference14Ideal.nD Cert.Reference14Ideal.τ Cert.Reference14Ideal.sig) → Buf (Elt Ideal) ℓ) (g : Dev Cert.Reference14Ideal.nD → PrngReg), Pre_Reference14Ideal m →
    θ_run (Cert.Reference14Ideal.defs (F := Ideal)) (onTc (τ := Cert.Reference14Ideal.τ) (Cert.Reference14Ideal.main (F := Ideal))) ⟨m, fun _ => 0, g⟩ (fun r => (∀ c : Dev Cert.Reference14Ideal.nD,
      r.2.mem ((c.tc : Thread Cert.Reference14Ideal.nD Cert.Reference14Ideal.τ).loc Cert.Reference14Ideal.main_arg0) = m ((c.tc : Thread Cert.Reference14Ideal.nD Cert.Reference14Ideal.τ).loc Cert.Reference14Ideal.main_arg0)
      ∧ r.2.mem ((c.tc : Thread Cert.Reference14Ideal.nD Cert.Reference14Ideal.τ).loc Cert.Reference14Ideal.main_arg1) = m ((c.tc : Thread Cert.Reference14Ideal.nD Cert.Reference14Ideal.τ).loc Cert.Reference14Ideal.main_arg1)
      ∧ r.2.mem ((c.tc : Thread Cert.Reference14Ideal.nD Cert.Reference14Ideal.τ).loc Cert.Reference14Ideal.main_arg2) = m ((c.tc : Thread Cert.Reference14Ideal.nD Cert.Reference14Ideal.τ).loc Cert.Reference14Ideal.main_arg2)
      ∧ r.2.mem ((c.tc : Thread Cert.Reference14Ideal.nD Cert.Reference14Ideal.τ).loc Cert.Reference14Ideal.main_arg3) = m ((c.tc : Thread Cert.Reference14Ideal.nD Cert.Reference14Ideal.τ).loc Cert.Reference14Ideal.main_arg3)
      ∧ r.2.mem ((c.tc : Thread Cert.Reference14Ideal.nD Cert.Reference14Ideal.τ).loc Cert.Reference14Ideal.main_arg4) = m ((c.tc : Thread Cert.Reference14Ideal.nD Cert.Reference14Ideal.τ).loc Cert.Reference14Ideal.main_arg4)
      ∧ r.2.mem ((c.tc : Thread Cert.Reference14Ideal.nD Cert.Reference14Ideal.τ).loc Cert.Reference14Ideal.main_arg5) = m ((c.tc : Thread Cert.Reference14Ideal.nD Cert.Reference14Ideal.τ).loc Cert.Reference14Ideal.main_arg5))
      ∧ r.2.sem = fun _ => 0)

def quiescent_Kernel15 [hKernel15 : Cert.Kernel15.Facts] : Prop :=
  ∀ (m : (ℓ : Loc Cert.Kernel15.nD Cert.Kernel15.τ Cert.Kernel15.sig) → Buf (Elt Bits) ℓ) (g : Dev Cert.Kernel15.nD → PrngReg), Pre_Kernel15 m →
    θ_run (Cert.Kernel15.defs (F := Bits)) (onTc (τ := Cert.Kernel15.τ) (Cert.Kernel15.main (F := Bits))) ⟨m, fun _ => 0, g⟩ (fun r => (∀ c : Dev Cert.Kernel15.nD,
      r.2.mem ((c.tc : Thread Cert.Kernel15.nD Cert.Kernel15.τ).loc Cert.Kernel15.main_arg0) = m ((c.tc : Thread Cert.Kernel15.nD Cert.Kernel15.τ).loc Cert.Kernel15.main_arg0)
      ∧ r.2.mem ((c.tc : Thread Cert.Kernel15.nD Cert.Kernel15.τ).loc Cert.Kernel15.main_arg1) = m ((c.tc : Thread Cert.Kernel15.nD Cert.Kernel15.τ).loc Cert.Kernel15.main_arg1)
      ∧ r.2.mem ((c.tc : Thread Cert.Kernel15.nD Cert.Kernel15.τ).loc Cert.Kernel15.main_arg2) = m ((c.tc : Thread Cert.Kernel15.nD Cert.Kernel15.τ).loc Cert.Kernel15.main_arg2)
      ∧ r.2.mem ((c.tc : Thread Cert.Kernel15.nD Cert.Kernel15.τ).loc Cert.Kernel15.main_arg3) = m ((c.tc : Thread Cert.Kernel15.nD Cert.Kernel15.τ).loc Cert.Kernel15.main_arg3)
      ∧ r.2.mem ((c.tc : Thread Cert.Kernel15.nD Cert.Kernel15.τ).loc Cert.Kernel15.main_arg4) = m ((c.tc : Thread Cert.Kernel15.nD Cert.Kernel15.τ).loc Cert.Kernel15.main_arg4)
      ∧ r.2.mem ((c.tc : Thread Cert.Kernel15.nD Cert.Kernel15.τ).loc Cert.Kernel15.main_arg5) = m ((c.tc : Thread Cert.Kernel15.nD Cert.Kernel15.τ).loc Cert.Kernel15.main_arg5))
      ∧ r.2.sem = fun _ => 0)

def quiescent_Kernel15Ideal [hKernel15Ideal : Cert.Kernel15Ideal.Facts] : Prop :=
  ∀ (m : (ℓ : Loc Cert.Kernel15Ideal.nD Cert.Kernel15Ideal.τ Cert.Kernel15Ideal.sig) → Buf (Elt Ideal) ℓ) (g : Dev Cert.Kernel15Ideal.nD → PrngReg), Pre_Kernel15Ideal m →
    θ_run (Cert.Kernel15Ideal.defs (F := Ideal)) (onTc (τ := Cert.Kernel15Ideal.τ) (Cert.Kernel15Ideal.main (F := Ideal))) ⟨m, fun _ => 0, g⟩ (fun r => (∀ c : Dev Cert.Kernel15Ideal.nD,
      r.2.mem ((c.tc : Thread Cert.Kernel15Ideal.nD Cert.Kernel15Ideal.τ).loc Cert.Kernel15Ideal.main_arg0) = m ((c.tc : Thread Cert.Kernel15Ideal.nD Cert.Kernel15Ideal.τ).loc Cert.Kernel15Ideal.main_arg0)
      ∧ r.2.mem ((c.tc : Thread Cert.Kernel15Ideal.nD Cert.Kernel15Ideal.τ).loc Cert.Kernel15Ideal.main_arg1) = m ((c.tc : Thread Cert.Kernel15Ideal.nD Cert.Kernel15Ideal.τ).loc Cert.Kernel15Ideal.main_arg1)
      ∧ r.2.mem ((c.tc : Thread Cert.Kernel15Ideal.nD Cert.Kernel15Ideal.τ).loc Cert.Kernel15Ideal.main_arg2) = m ((c.tc : Thread Cert.Kernel15Ideal.nD Cert.Kernel15Ideal.τ).loc Cert.Kernel15Ideal.main_arg2)
      ∧ r.2.mem ((c.tc : Thread Cert.Kernel15Ideal.nD Cert.Kernel15Ideal.τ).loc Cert.Kernel15Ideal.main_arg3) = m ((c.tc : Thread Cert.Kernel15Ideal.nD Cert.Kernel15Ideal.τ).loc Cert.Kernel15Ideal.main_arg3)
      ∧ r.2.mem ((c.tc : Thread Cert.Kernel15Ideal.nD Cert.Kernel15Ideal.τ).loc Cert.Kernel15Ideal.main_arg4) = m ((c.tc : Thread Cert.Kernel15Ideal.nD Cert.Kernel15Ideal.τ).loc Cert.Kernel15Ideal.main_arg4)
      ∧ r.2.mem ((c.tc : Thread Cert.Kernel15Ideal.nD Cert.Kernel15Ideal.τ).loc Cert.Kernel15Ideal.main_arg5) = m ((c.tc : Thread Cert.Kernel15Ideal.nD Cert.Kernel15Ideal.τ).loc Cert.Kernel15Ideal.main_arg5))
      ∧ r.2.sem = fun _ => 0)

def quiescent_Reference15Ideal [hReference15Ideal : Cert.Reference15Ideal.Facts] : Prop :=
  ∀ (m : (ℓ : Loc Cert.Reference15Ideal.nD Cert.Reference15Ideal.τ Cert.Reference15Ideal.sig) → Buf (Elt Ideal) ℓ) (g : Dev Cert.Reference15Ideal.nD → PrngReg), Pre_Reference15Ideal m →
    θ_run (Cert.Reference15Ideal.defs (F := Ideal)) (onTc (τ := Cert.Reference15Ideal.τ) (Cert.Reference15Ideal.main (F := Ideal))) ⟨m, fun _ => 0, g⟩ (fun r => (∀ c : Dev Cert.Reference15Ideal.nD,
      r.2.mem ((c.tc : Thread Cert.Reference15Ideal.nD Cert.Reference15Ideal.τ).loc Cert.Reference15Ideal.main_arg0) = m ((c.tc : Thread Cert.Reference15Ideal.nD Cert.Reference15Ideal.τ).loc Cert.Reference15Ideal.main_arg0)
      ∧ r.2.mem ((c.tc : Thread Cert.Reference15Ideal.nD Cert.Reference15Ideal.τ).loc Cert.Reference15Ideal.main_arg1) = m ((c.tc : Thread Cert.Reference15Ideal.nD Cert.Reference15Ideal.τ).loc Cert.Reference15Ideal.main_arg1)
      ∧ r.2.mem ((c.tc : Thread Cert.Reference15Ideal.nD Cert.Reference15Ideal.τ).loc Cert.Reference15Ideal.main_arg2) = m ((c.tc : Thread Cert.Reference15Ideal.nD Cert.Reference15Ideal.τ).loc Cert.Reference15Ideal.main_arg2)
      ∧ r.2.mem ((c.tc : Thread Cert.Reference15Ideal.nD Cert.Reference15Ideal.τ).loc Cert.Reference15Ideal.main_arg3) = m ((c.tc : Thread Cert.Reference15Ideal.nD Cert.Reference15Ideal.τ).loc Cert.Reference15Ideal.main_arg3)
      ∧ r.2.mem ((c.tc : Thread Cert.Reference15Ideal.nD Cert.Reference15Ideal.τ).loc Cert.Reference15Ideal.main_arg4) = m ((c.tc : Thread Cert.Reference15Ideal.nD Cert.Reference15Ideal.τ).loc Cert.Reference15Ideal.main_arg4)
      ∧ r.2.mem ((c.tc : Thread Cert.Reference15Ideal.nD Cert.Reference15Ideal.τ).loc Cert.Reference15Ideal.main_arg5) = m ((c.tc : Thread Cert.Reference15Ideal.nD Cert.Reference15Ideal.τ).loc Cert.Reference15Ideal.main_arg5))
      ∧ r.2.sem = fun _ => 0)

def quiescent_Kernel16 [hKernel16 : Cert.Kernel16.Facts] : Prop :=
  ∀ (m : (ℓ : Loc Cert.Kernel16.nD Cert.Kernel16.τ Cert.Kernel16.sig) → Buf (Elt Bits) ℓ) (g : Dev Cert.Kernel16.nD → PrngReg), Pre_Kernel16 m →
    θ_run (Cert.Kernel16.defs (F := Bits)) (onTc (τ := Cert.Kernel16.τ) (Cert.Kernel16.main (F := Bits))) ⟨m, fun _ => 0, g⟩ (fun r => (∀ c : Dev Cert.Kernel16.nD,
      r.2.mem ((c.tc : Thread Cert.Kernel16.nD Cert.Kernel16.τ).loc Cert.Kernel16.main_arg0) = m ((c.tc : Thread Cert.Kernel16.nD Cert.Kernel16.τ).loc Cert.Kernel16.main_arg0)
      ∧ r.2.mem ((c.tc : Thread Cert.Kernel16.nD Cert.Kernel16.τ).loc Cert.Kernel16.main_arg1) = m ((c.tc : Thread Cert.Kernel16.nD Cert.Kernel16.τ).loc Cert.Kernel16.main_arg1)
      ∧ r.2.mem ((c.tc : Thread Cert.Kernel16.nD Cert.Kernel16.τ).loc Cert.Kernel16.main_arg2) = m ((c.tc : Thread Cert.Kernel16.nD Cert.Kernel16.τ).loc Cert.Kernel16.main_arg2))
      ∧ r.2.sem = fun _ => 0)

def quiescent_Kernel16Ideal [hKernel16Ideal : Cert.Kernel16Ideal.Facts] : Prop :=
  ∀ (m : (ℓ : Loc Cert.Kernel16Ideal.nD Cert.Kernel16Ideal.τ Cert.Kernel16Ideal.sig) → Buf (Elt Ideal) ℓ) (g : Dev Cert.Kernel16Ideal.nD → PrngReg), Pre_Kernel16Ideal m →
    θ_run (Cert.Kernel16Ideal.defs (F := Ideal)) (onTc (τ := Cert.Kernel16Ideal.τ) (Cert.Kernel16Ideal.main (F := Ideal))) ⟨m, fun _ => 0, g⟩ (fun r => (∀ c : Dev Cert.Kernel16Ideal.nD,
      r.2.mem ((c.tc : Thread Cert.Kernel16Ideal.nD Cert.Kernel16Ideal.τ).loc Cert.Kernel16Ideal.main_arg0) = m ((c.tc : Thread Cert.Kernel16Ideal.nD Cert.Kernel16Ideal.τ).loc Cert.Kernel16Ideal.main_arg0)
      ∧ r.2.mem ((c.tc : Thread Cert.Kernel16Ideal.nD Cert.Kernel16Ideal.τ).loc Cert.Kernel16Ideal.main_arg1) = m ((c.tc : Thread Cert.Kernel16Ideal.nD Cert.Kernel16Ideal.τ).loc Cert.Kernel16Ideal.main_arg1)
      ∧ r.2.mem ((c.tc : Thread Cert.Kernel16Ideal.nD Cert.Kernel16Ideal.τ).loc Cert.Kernel16Ideal.main_arg2) = m ((c.tc : Thread Cert.Kernel16Ideal.nD Cert.Kernel16Ideal.τ).loc Cert.Kernel16Ideal.main_arg2))
      ∧ r.2.sem = fun _ => 0)

def quiescent_Reference16Ideal [hReference16Ideal : Cert.Reference16Ideal.Facts] : Prop :=
  ∀ (m : (ℓ : Loc Cert.Reference16Ideal.nD Cert.Reference16Ideal.τ Cert.Reference16Ideal.sig) → Buf (Elt Ideal) ℓ) (g : Dev Cert.Reference16Ideal.nD → PrngReg), Pre_Reference16Ideal m →
    θ_run (Cert.Reference16Ideal.defs (F := Ideal)) (onTc (τ := Cert.Reference16Ideal.τ) (Cert.Reference16Ideal.main (F := Ideal))) ⟨m, fun _ => 0, g⟩ (fun r => (∀ c : Dev Cert.Reference16Ideal.nD,
      r.2.mem ((c.tc : Thread Cert.Reference16Ideal.nD Cert.Reference16Ideal.τ).loc Cert.Reference16Ideal.main_arg0) = m ((c.tc : Thread Cert.Reference16Ideal.nD Cert.Reference16Ideal.τ).loc Cert.Reference16Ideal.main_arg0)
      ∧ r.2.mem ((c.tc : Thread Cert.Reference16Ideal.nD Cert.Reference16Ideal.τ).loc Cert.Reference16Ideal.main_arg1) = m ((c.tc : Thread Cert.Reference16Ideal.nD Cert.Reference16Ideal.τ).loc Cert.Reference16Ideal.main_arg1)
      ∧ r.2.mem ((c.tc : Thread Cert.Reference16Ideal.nD Cert.Reference16Ideal.τ).loc Cert.Reference16Ideal.main_arg2) = m ((c.tc : Thread Cert.Reference16Ideal.nD Cert.Reference16Ideal.τ).loc Cert.Reference16Ideal.main_arg2))
      ∧ r.2.sem = fun _ => 0)

def quiescent_Kernel17 [hKernel17 : Cert.Kernel17.Facts] : Prop :=
  ∀ (m : (ℓ : Loc Cert.Kernel17.nD Cert.Kernel17.τ Cert.Kernel17.sig) → Buf (Elt Bits) ℓ) (g : Dev Cert.Kernel17.nD → PrngReg), Pre_Kernel17 m →
    θ_run (Cert.Kernel17.defs (F := Bits)) (onTc (τ := Cert.Kernel17.τ) (Cert.Kernel17.main (F := Bits))) ⟨m, fun _ => 0, g⟩ (fun r => (∀ c : Dev Cert.Kernel17.nD,
      r.2.mem ((c.tc : Thread Cert.Kernel17.nD Cert.Kernel17.τ).loc Cert.Kernel17.main_arg0) = m ((c.tc : Thread Cert.Kernel17.nD Cert.Kernel17.τ).loc Cert.Kernel17.main_arg0))
      ∧ r.2.sem = fun _ => 0)

def quiescent_Kernel17Ideal [hKernel17Ideal : Cert.Kernel17Ideal.Facts] : Prop :=
  ∀ (m : (ℓ : Loc Cert.Kernel17Ideal.nD Cert.Kernel17Ideal.τ Cert.Kernel17Ideal.sig) → Buf (Elt Ideal) ℓ) (g : Dev Cert.Kernel17Ideal.nD → PrngReg), Pre_Kernel17Ideal m →
    θ_run (Cert.Kernel17Ideal.defs (F := Ideal)) (onTc (τ := Cert.Kernel17Ideal.τ) (Cert.Kernel17Ideal.main (F := Ideal))) ⟨m, fun _ => 0, g⟩ (fun r => (∀ c : Dev Cert.Kernel17Ideal.nD,
      r.2.mem ((c.tc : Thread Cert.Kernel17Ideal.nD Cert.Kernel17Ideal.τ).loc Cert.Kernel17Ideal.main_arg0) = m ((c.tc : Thread Cert.Kernel17Ideal.nD Cert.Kernel17Ideal.τ).loc Cert.Kernel17Ideal.main_arg0))
      ∧ r.2.sem = fun _ => 0)

def quiescent_Reference17Ideal [hReference17Ideal : Cert.Reference17Ideal.Facts] : Prop :=
  ∀ (m : (ℓ : Loc Cert.Reference17Ideal.nD Cert.Reference17Ideal.τ Cert.Reference17Ideal.sig) → Buf (Elt Ideal) ℓ) (g : Dev Cert.Reference17Ideal.nD → PrngReg), Pre_Reference17Ideal m →
    θ_run (Cert.Reference17Ideal.defs (F := Ideal)) (onTc (τ := Cert.Reference17Ideal.τ) (Cert.Reference17Ideal.main (F := Ideal))) ⟨m, fun _ => 0, g⟩ (fun r => (∀ c : Dev Cert.Reference17Ideal.nD,
      r.2.mem ((c.tc : Thread Cert.Reference17Ideal.nD Cert.Reference17Ideal.τ).loc Cert.Reference17Ideal.main_arg0) = m ((c.tc : Thread Cert.Reference17Ideal.nD Cert.Reference17Ideal.τ).loc Cert.Reference17Ideal.main_arg0))
      ∧ r.2.sem = fun _ => 0)

def quiescent_Kernel18 [hKernel18 : Cert.Kernel18.Facts] [hPre_core_named : Cert.Pre_core_named.Facts] : Prop :=
  ∀ (m : (ℓ : Loc Cert.Kernel18.nD Cert.Kernel18.τ Cert.Kernel18.sig) → Buf (Elt Bits) ℓ) (g : Dev Cert.Kernel18.nD → PrngReg), Pre_Kernel18 m →
    θ_run (Cert.Kernel18.defs (F := Bits)) (onTc (τ := Cert.Kernel18.τ) (Cert.Kernel18.main (F := Bits))) ⟨m, fun _ => 0, g⟩ (fun r => (∀ c : Dev Cert.Kernel18.nD,
      r.2.mem ((c.tc : Thread Cert.Kernel18.nD Cert.Kernel18.τ).loc Cert.Kernel18.main_arg0) = m ((c.tc : Thread Cert.Kernel18.nD Cert.Kernel18.τ).loc Cert.Kernel18.main_arg0)
      ∧ r.2.mem ((c.tc : Thread Cert.Kernel18.nD Cert.Kernel18.τ).loc Cert.Kernel18.main_arg1) = m ((c.tc : Thread Cert.Kernel18.nD Cert.Kernel18.τ).loc Cert.Kernel18.main_arg1)
      ∧ r.2.mem ((c.tc : Thread Cert.Kernel18.nD Cert.Kernel18.τ).loc Cert.Kernel18.main_arg2) = m ((c.tc : Thread Cert.Kernel18.nD Cert.Kernel18.τ).loc Cert.Kernel18.main_arg2))
      ∧ r.2.sem = fun _ => 0)

def quiescent_Kernel18Ideal [hKernel18Ideal : Cert.Kernel18Ideal.Facts] [hPre_core_named : Cert.Pre_core_named.Facts] : Prop :=
  ∀ (m : (ℓ : Loc Cert.Kernel18Ideal.nD Cert.Kernel18Ideal.τ Cert.Kernel18Ideal.sig) → Buf (Elt Ideal) ℓ) (g : Dev Cert.Kernel18Ideal.nD → PrngReg), Pre_Kernel18Ideal m →
    θ_run (Cert.Kernel18Ideal.defs (F := Ideal)) (onTc (τ := Cert.Kernel18Ideal.τ) (Cert.Kernel18Ideal.main (F := Ideal))) ⟨m, fun _ => 0, g⟩ (fun r => (∀ c : Dev Cert.Kernel18Ideal.nD,
      r.2.mem ((c.tc : Thread Cert.Kernel18Ideal.nD Cert.Kernel18Ideal.τ).loc Cert.Kernel18Ideal.main_arg0) = m ((c.tc : Thread Cert.Kernel18Ideal.nD Cert.Kernel18Ideal.τ).loc Cert.Kernel18Ideal.main_arg0)
      ∧ r.2.mem ((c.tc : Thread Cert.Kernel18Ideal.nD Cert.Kernel18Ideal.τ).loc Cert.Kernel18Ideal.main_arg1) = m ((c.tc : Thread Cert.Kernel18Ideal.nD Cert.Kernel18Ideal.τ).loc Cert.Kernel18Ideal.main_arg1)
      ∧ r.2.mem ((c.tc : Thread Cert.Kernel18Ideal.nD Cert.Kernel18Ideal.τ).loc Cert.Kernel18Ideal.main_arg2) = m ((c.tc : Thread Cert.Kernel18Ideal.nD Cert.Kernel18Ideal.τ).loc Cert.Kernel18Ideal.main_arg2))
      ∧ r.2.sem = fun _ => 0)

def quiescent_Reference18Ideal [hReference18Ideal : Cert.Reference18Ideal.Facts] : Prop :=
  ∀ (m : (ℓ : Loc Cert.Reference18Ideal.nD Cert.Reference18Ideal.τ Cert.Reference18Ideal.sig) → Buf (Elt Ideal) ℓ) (g : Dev Cert.Reference18Ideal.nD → PrngReg), Pre_Reference18Ideal m →
    θ_run (Cert.Reference18Ideal.defs (F := Ideal)) (onTc (τ := Cert.Reference18Ideal.τ) (Cert.Reference18Ideal.main (F := Ideal))) ⟨m, fun _ => 0, g⟩ (fun r => (∀ c : Dev Cert.Reference18Ideal.nD,
      r.2.mem ((c.tc : Thread Cert.Reference18Ideal.nD Cert.Reference18Ideal.τ).loc Cert.Reference18Ideal.main_arg0) = m ((c.tc : Thread Cert.Reference18Ideal.nD Cert.Reference18Ideal.τ).loc Cert.Reference18Ideal.main_arg0)
      ∧ r.2.mem ((c.tc : Thread Cert.Reference18Ideal.nD Cert.Reference18Ideal.τ).loc Cert.Reference18Ideal.main_arg1) = m ((c.tc : Thread Cert.Reference18Ideal.nD Cert.Reference18Ideal.τ).loc Cert.Reference18Ideal.main_arg1)
      ∧ r.2.mem ((c.tc : Thread Cert.Reference18Ideal.nD Cert.Reference18Ideal.τ).loc Cert.Reference18Ideal.main_arg2) = m ((c.tc : Thread Cert.Reference18Ideal.nD Cert.Reference18Ideal.τ).loc Cert.Reference18Ideal.main_arg2))
      ∧ r.2.sem = fun _ => 0)

def quiescent_Reference18Ideal_pre_core_named [hReference18Ideal : Cert.Reference18Ideal.Facts] [hPre_core_named : Cert.Pre_core_named.Facts] : Prop :=
  ∀ (m : (ℓ : Loc Cert.Reference18Ideal.nD Cert.Reference18Ideal.τ Cert.Reference18Ideal.sig) → Buf (Elt Ideal) ℓ) (g : Dev Cert.Reference18Ideal.nD → PrngReg), Pre_Reference18Ideal_core_named m →
    θ_run (Cert.Reference18Ideal.defs (F := Ideal)) (onTc (τ := Cert.Reference18Ideal.τ) (Cert.Reference18Ideal.main (F := Ideal))) ⟨m, fun _ => 0, g⟩ (fun r => (∀ c : Dev Cert.Reference18Ideal.nD,
      r.2.mem ((c.tc : Thread Cert.Reference18Ideal.nD Cert.Reference18Ideal.τ).loc Cert.Reference18Ideal.main_arg0) = m ((c.tc : Thread Cert.Reference18Ideal.nD Cert.Reference18Ideal.τ).loc Cert.Reference18Ideal.main_arg0)
      ∧ r.2.mem ((c.tc : Thread Cert.Reference18Ideal.nD Cert.Reference18Ideal.τ).loc Cert.Reference18Ideal.main_arg1) = m ((c.tc : Thread Cert.Reference18Ideal.nD Cert.Reference18Ideal.τ).loc Cert.Reference18Ideal.main_arg1)
      ∧ r.2.mem ((c.tc : Thread Cert.Reference18Ideal.nD Cert.Reference18Ideal.τ).loc Cert.Reference18Ideal.main_arg2) = m ((c.tc : Thread Cert.Reference18Ideal.nD Cert.Reference18Ideal.τ).loc Cert.Reference18Ideal.main_arg2))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v8) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def preserves_Kernel2_Kernel2Ideal : Prop :=
  True

def algebraic_Kernel2Ideal_Reference2Ideal [hKernel2Ideal : Cert.Kernel2Ideal.Facts] [hReference2Ideal : Cert.Reference2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)) →
    ∃ (v0 : (c : Dev Cert.Kernel2Ideal.nD) → Buf (Elt Ideal) ((c.tc : Thread Cert.Kernel2Ideal.nD Cert.Kernel2Ideal.τ).loc Cert.Kernel2Ideal.main_v0)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v0) = v0 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v8) = v0 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1))

def preserves_Kernel3_Kernel3Ideal : Prop :=
  True

def algebraic_Kernel3Ideal_Reference3Ideal [hKernel3Ideal : Cert.Kernel3Ideal.Facts] [hReference3Ideal : Cert.Reference3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)) →
    ∃ (v0 : (c : Dev Cert.Kernel3Ideal.nD) → Buf (Elt Ideal) ((c.tc : Thread Cert.Kernel3Ideal.nD Cert.Kernel3Ideal.τ).loc Cert.Kernel3Ideal.main_v0)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v0) = v0 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v7) = v0 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1))

def preserves_Kernel4_Kernel4Ideal : Prop :=
  True

def algebraic_Kernel4Ideal_Reference4Ideal [hKernel4Ideal : Cert.Kernel4Ideal.Facts] [hReference4Ideal : Cert.Reference4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg)
    (m' : (ℓ : Loc Cert.Reference4Ideal.nD Cert.Reference4Ideal.τ Cert.Reference4Ideal.sig) → Buf (Elt Ideal) ℓ) (g' : Dev Cert.Reference4Ideal.nD → PrngReg), Pre_Kernel4Ideal m →
    (∀ c : Dev Cert.Kernel4Ideal.nD,
      m' ((c.tc : Thread Cert.Reference4Ideal.nD Cert.Reference4Ideal.τ).loc Cert.Reference4Ideal.main_arg0) = m ((c.tc : Thread Cert.Kernel4Ideal.nD Cert.Kernel4Ideal.τ).loc Cert.Kernel4Ideal.main_arg0)
      ∧ m' ((c.tc : Thread Cert.Reference4Ideal.nD Cert.Reference4Ideal.τ).loc Cert.Reference4Ideal.main_arg1) = m ((c.tc : Thread Cert.Kernel4Ideal.nD Cert.Kernel4Ideal.τ).loc Cert.Kernel4Ideal.main_arg1)) →
    ∃ (v0 : (c : Dev Cert.Kernel4Ideal.nD) → Buf (Elt Ideal) ((c.tc : Thread Cert.Kernel4Ideal.nD Cert.Kernel4Ideal.τ).loc Cert.Kernel4Ideal.main_v0)),
      θ_run (Cert.Kernel4Ideal.defs (F := Ideal)) (onTc (τ := Cert.Kernel4Ideal.τ) (Cert.Kernel4Ideal.main (F := Ideal))) ⟨m, fun _ => 0, g⟩ (fun r => ∀ c : Dev Cert.Kernel4Ideal.nD,
          r.2.mem ((c.tc : Thread Cert.Kernel4Ideal.nD Cert.Kernel4Ideal.τ).loc Cert.Kernel4Ideal.main_v0) = v0 c
          ∧ r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
          ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1))
      ∧ θ_run (Cert.Reference4Ideal.defs (F := Ideal)) (onTc (τ := Cert.Reference4Ideal.τ) (Cert.Reference4Ideal.main (F := Ideal))) ⟨m', fun _ => 0, g'⟩ (fun r => ∀ c : Dev Cert.Reference4Ideal.nD,
          r.2.mem ((c.tc : Thread Cert.Reference4Ideal.nD Cert.Reference4Ideal.τ).loc Cert.Reference4Ideal.main_v7) = v0 c
          ∧ r.2.mem ((c.tc : Thread Cert.Reference4Ideal.nD Cert.Reference4Ideal.τ).loc Cert.Reference4Ideal.main_arg0) = m' ((c.tc : Thread Cert.Reference4Ideal.nD Cert.Reference4Ideal.τ).loc Cert.Reference4Ideal.main_arg0)
          ∧ r.2.mem ((c.tc : Thread Cert.Reference4Ideal.nD Cert.Reference4Ideal.τ).loc Cert.Reference4Ideal.main_arg1) = m' ((c.tc : Thread Cert.Reference4Ideal.nD Cert.Reference4Ideal.τ).loc Cert.Reference4Ideal.main_arg1))

def preserves_Kernel5_Kernel5Ideal : Prop :=
  True

def algebraic_Kernel5Ideal_Reference5Ideal [hKernel5Ideal : Cert.Kernel5Ideal.Facts] [hReference5Ideal : Cert.Reference5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg)
    (m' : (ℓ : Loc Cert.Reference5Ideal.nD Cert.Reference5Ideal.τ Cert.Reference5Ideal.sig) → Buf (Elt Ideal) ℓ) (g' : Dev Cert.Reference5Ideal.nD → PrngReg), Pre_Kernel5Ideal m →
    (∀ c : Dev Cert.Kernel5Ideal.nD,
      m' ((c.tc : Thread Cert.Reference5Ideal.nD Cert.Reference5Ideal.τ).loc Cert.Reference5Ideal.main_arg0) = m ((c.tc : Thread Cert.Kernel5Ideal.nD Cert.Kernel5Ideal.τ).loc Cert.Kernel5Ideal.main_arg0)
      ∧ m' ((c.tc : Thread Cert.Reference5Ideal.nD Cert.Reference5Ideal.τ).loc Cert.Reference5Ideal.main_arg1) = m ((c.tc : Thread Cert.Kernel5Ideal.nD Cert.Kernel5Ideal.τ).loc Cert.Kernel5Ideal.main_arg1)
      ∧ m' ((c.tc : Thread Cert.Reference5Ideal.nD Cert.Reference5Ideal.τ).loc Cert.Reference5Ideal.main_arg2) = m ((c.tc : Thread Cert.Kernel5Ideal.nD Cert.Kernel5Ideal.τ).loc Cert.Kernel5Ideal.main_arg2)
      ∧ m' ((c.tc : Thread Cert.Reference5Ideal.nD Cert.Reference5Ideal.τ).loc Cert.Reference5Ideal.main_arg3) = m ((c.tc : Thread Cert.Kernel5Ideal.nD Cert.Kernel5Ideal.τ).loc Cert.Kernel5Ideal.main_arg3)) →
    ∃ (v0 : (c : Dev Cert.Kernel5Ideal.nD) → Buf (Elt Ideal) ((c.tc : Thread Cert.Kernel5Ideal.nD Cert.Kernel5Ideal.τ).loc Cert.Kernel5Ideal.main_v0_0)) (v1 : (c : Dev Cert.Kernel5Ideal.nD) → Buf (Elt Ideal) ((c.tc : Thread Cert.Kernel5Ideal.nD Cert.Kernel5Ideal.τ).loc Cert.Kernel5Ideal.main_v0_1)) (v2 : (c : Dev Cert.Kernel5Ideal.nD) → Buf (Elt Ideal) ((c.tc : Thread Cert.Kernel5Ideal.nD Cert.Kernel5Ideal.τ).loc Cert.Kernel5Ideal.main_v0_2)) (v3 : (c : Dev Cert.Kernel5Ideal.nD) → Buf (Elt Ideal) ((c.tc : Thread Cert.Kernel5Ideal.nD Cert.Kernel5Ideal.τ).loc Cert.Kernel5Ideal.main_v0_3)),
      θ_run (Cert.Kernel5Ideal.defs (F := Ideal)) (onTc (τ := Cert.Kernel5Ideal.τ) (Cert.Kernel5Ideal.main (F := Ideal))) ⟨m, fun _ => 0, g⟩ (fun r => ∀ c : Dev Cert.Kernel5Ideal.nD,
          r.2.mem ((c.tc : Thread Cert.Kernel5Ideal.nD Cert.Kernel5Ideal.τ).loc Cert.Kernel5Ideal.main_v0_0) = v0 c
          ∧ r.2.mem ((c.tc : Thread Cert.Kernel5Ideal.nD Cert.Kernel5Ideal.τ).loc Cert.Kernel5Ideal.main_v0_1) = v1 c
          ∧ r.2.mem ((c.tc : Thread Cert.Kernel5Ideal.nD Cert.Kernel5Ideal.τ).loc Cert.Kernel5Ideal.main_v0_2) = v2 c
          ∧ r.2.mem ((c.tc : Thread Cert.Kernel5Ideal.nD Cert.Kernel5Ideal.τ).loc Cert.Kernel5Ideal.main_v0_3) = v3 c
          ∧ r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
          ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
          ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
          ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3))
      ∧ θ_run (Cert.Reference5Ideal.defs (F := Ideal)) (onTc (τ := Cert.Reference5Ideal.τ) (Cert.Reference5Ideal.main (F := Ideal))) ⟨m', fun _ => 0, g'⟩ (fun r => ∀ c : Dev Cert.Reference5Ideal.nD,
          r.2.mem ((c.tc : Thread Cert.Reference5Ideal.nD Cert.Reference5Ideal.τ).loc Cert.Reference5Ideal.main_v23) = v0 c
          ∧ r.2.mem ((c.tc : Thread Cert.Reference5Ideal.nD Cert.Reference5Ideal.τ).loc Cert.Reference5Ideal.main_v4) = v1 c
          ∧ r.2.mem ((c.tc : Thread Cert.Reference5Ideal.nD Cert.Reference5Ideal.τ).loc Cert.Reference5Ideal.main_v10) = v2 c
          ∧ r.2.mem ((c.tc : Thread Cert.Reference5Ideal.nD Cert.Reference5Ideal.τ).loc Cert.Reference5Ideal.main_arg1) = v3 c
          ∧ r.2.mem ((c.tc : Thread Cert.Reference5Ideal.nD Cert.Reference5Ideal.τ).loc Cert.Reference5Ideal.main_arg0) = m' ((c.tc : Thread Cert.Reference5Ideal.nD Cert.Reference5Ideal.τ).loc Cert.Reference5Ideal.main_arg0)
          ∧ r.2.mem ((c.tc : Thread Cert.Reference5Ideal.nD Cert.Reference5Ideal.τ).loc Cert.Reference5Ideal.main_arg1) = m' ((c.tc : Thread Cert.Reference5Ideal.nD Cert.Reference5Ideal.τ).loc Cert.Reference5Ideal.main_arg1)
          ∧ r.2.mem ((c.tc : Thread Cert.Reference5Ideal.nD Cert.Reference5Ideal.τ).loc Cert.Reference5Ideal.main_arg2) = m' ((c.tc : Thread Cert.Reference5Ideal.nD Cert.Reference5Ideal.τ).loc Cert.Reference5Ideal.main_arg2)
          ∧ r.2.mem ((c.tc : Thread Cert.Reference5Ideal.nD Cert.Reference5Ideal.τ).loc Cert.Reference5Ideal.main_arg3) = m' ((c.tc : Thread Cert.Reference5Ideal.nD Cert.Reference5Ideal.τ).loc Cert.Reference5Ideal.main_arg3))

def preserves_Kernel6_Kernel6Ideal : Prop :=
  True

def algebraic_Kernel6Ideal_Reference6Ideal [hKernel6Ideal : Cert.Kernel6Ideal.Facts] [hReference6Ideal : Cert.Reference6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg)
    (m' : (ℓ : Loc Cert.Reference6Ideal.nD Cert.Reference6Ideal.τ Cert.Reference6Ideal.sig) → Buf (Elt Ideal) ℓ) (g' : Dev Cert.Reference6Ideal.nD → PrngReg), Pre_Kernel6Ideal m →
    (∀ c : Dev Cert.Kernel6Ideal.nD,
      m' ((c.tc : Thread Cert.Reference6Ideal.nD Cert.Reference6Ideal.τ).loc Cert.Reference6Ideal.main_arg0) = m ((c.tc : Thread Cert.Kernel6Ideal.nD Cert.Kernel6Ideal.τ).loc Cert.Kernel6Ideal.main_arg0)
      ∧ m' ((c.tc : Thread Cert.Reference6Ideal.nD Cert.Reference6Ideal.τ).loc Cert.Reference6Ideal.main_arg1) = m ((c.tc : Thread Cert.Kernel6Ideal.nD Cert.Kernel6Ideal.τ).loc Cert.Kernel6Ideal.main_arg1)
      ∧ m' ((c.tc : Thread Cert.Reference6Ideal.nD Cert.Reference6Ideal.τ).loc Cert.Reference6Ideal.main_arg2) = m ((c.tc : Thread Cert.Kernel6Ideal.nD Cert.Kernel6Ideal.τ).loc Cert.Kernel6Ideal.main_arg2)
      ∧ m' ((c.tc : Thread Cert.Reference6Ideal.nD Cert.Reference6Ideal.τ).loc Cert.Reference6Ideal.main_arg3) = m ((c.tc : Thread Cert.Kernel6Ideal.nD Cert.Kernel6Ideal.τ).loc Cert.Kernel6Ideal.main_arg3)) →
    ∃ (v0 : (c : Dev Cert.Kernel6Ideal.nD) → Buf (Elt Ideal) ((c.tc : Thread Cert.Kernel6Ideal.nD Cert.Kernel6Ideal.τ).loc Cert.Kernel6Ideal.main_v0_0)) (v1 : (c : Dev Cert.Kernel6Ideal.nD) → Buf (Elt Ideal) ((c.tc : Thread Cert.Kernel6Ideal.nD Cert.Kernel6Ideal.τ).loc Cert.Kernel6Ideal.main_v0_1)) (v2 : (c : Dev Cert.Kernel6Ideal.nD) → Buf (Elt Ideal) ((c.tc : Thread Cert.Kernel6Ideal.nD Cert.Kernel6Ideal.τ).loc Cert.Kernel6Ideal.main_v0_2)) (v3 : (c : Dev Cert.Kernel6Ideal.nD) → Buf (Elt Ideal) ((c.tc : Thread Cert.Kernel6Ideal.nD Cert.Kernel6Ideal.τ).loc Cert.Kernel6Ideal.main_v0_3)),
      θ_run (Cert.Kernel6Ideal.defs (F := Ideal)) (onTc (τ := Cert.Kernel6Ideal.τ) (Cert.Kernel6Ideal.main (F := Ideal))) ⟨m, fun _ => 0, g⟩ (fun r => ∀ c : Dev Cert.Kernel6Ideal.nD,
          r.2.mem ((c.tc : Thread Cert.Kernel6Ideal.nD Cert.Kernel6Ideal.τ).loc Cert.Kernel6Ideal.main_v0_0) = v0 c
          ∧ r.2.mem ((c.tc : Thread Cert.Kernel6Ideal.nD Cert.Kernel6Ideal.τ).loc Cert.Kernel6Ideal.main_v0_1) = v1 c
          ∧ r.2.mem ((c.tc : Thread Cert.Kernel6Ideal.nD Cert.Kernel6Ideal.τ).loc Cert.Kernel6Ideal.main_v0_2) = v2 c
          ∧ r.2.mem ((c.tc : Thread Cert.Kernel6Ideal.nD Cert.Kernel6Ideal.τ).loc Cert.Kernel6Ideal.main_v0_3) = v3 c
          ∧ r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
          ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
          ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2)
          ∧ r.2.mem ((c.tc : Thread Cert.Kernel6Ideal.nD Cert.Kernel6Ideal.τ).loc Cert.Kernel6Ideal.main_arg3) = m ((c.tc : Thread Cert.Kernel6Ideal.nD Cert.Kernel6Ideal.τ).loc Cert.Kernel6Ideal.main_arg3))
      ∧ θ_run (Cert.Reference6Ideal.defs (F := Ideal)) (onTc (τ := Cert.Reference6Ideal.τ) (Cert.Reference6Ideal.main (F := Ideal))) ⟨m', fun _ => 0, g'⟩ (fun r => ∀ c : Dev Cert.Reference6Ideal.nD,
          r.2.mem ((c.tc : Thread Cert.Reference6Ideal.nD Cert.Reference6Ideal.τ).loc Cert.Reference6Ideal.main_v23) = v0 c
          ∧ r.2.mem ((c.tc : Thread Cert.Reference6Ideal.nD Cert.Reference6Ideal.τ).loc Cert.Reference6Ideal.main_v4) = v1 c
          ∧ r.2.mem ((c.tc : Thread Cert.Reference6Ideal.nD Cert.Reference6Ideal.τ).loc Cert.Reference6Ideal.main_v10) = v2 c
          ∧ r.2.mem ((c.tc : Thread Cert.Reference6Ideal.nD Cert.Reference6Ideal.τ).loc Cert.Reference6Ideal.main_arg1) = v3 c
          ∧ r.2.mem ((c.tc : Thread Cert.Reference6Ideal.nD Cert.Reference6Ideal.τ).loc Cert.Reference6Ideal.main_arg0) = m' ((c.tc : Thread Cert.Reference6Ideal.nD Cert.Reference6Ideal.τ).loc Cert.Reference6Ideal.main_arg0)
          ∧ r.2.mem ((c.tc : Thread Cert.Reference6Ideal.nD Cert.Reference6Ideal.τ).loc Cert.Reference6Ideal.main_arg1) = m' ((c.tc : Thread Cert.Reference6Ideal.nD Cert.Reference6Ideal.τ).loc Cert.Reference6Ideal.main_arg1)
          ∧ r.2.mem ((c.tc : Thread Cert.Reference6Ideal.nD Cert.Reference6Ideal.τ).loc Cert.Reference6Ideal.main_arg2) = m' ((c.tc : Thread Cert.Reference6Ideal.nD Cert.Reference6Ideal.τ).loc Cert.Reference6Ideal.main_arg2)
          ∧ r.2.mem ((c.tc : Thread Cert.Reference6Ideal.nD Cert.Reference6Ideal.τ).loc Cert.Reference6Ideal.main_arg3) = m' ((c.tc : Thread Cert.Reference6Ideal.nD Cert.Reference6Ideal.τ).loc Cert.Reference6Ideal.main_arg3))

def preserves_Kernel7_Kernel7Ideal : Prop :=
  True

def algebraic_Kernel7Ideal_Reference7Ideal [hKernel7Ideal : Cert.Kernel7Ideal.Facts] [hReference7Ideal : Cert.Reference7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg)
    (m' : (ℓ : Loc Cert.Reference7Ideal.nD Cert.Reference7Ideal.τ Cert.Reference7Ideal.sig) → Buf (Elt Ideal) ℓ) (g' : Dev Cert.Reference7Ideal.nD → PrngReg), Pre_Kernel7Ideal m →
    (∀ c : Dev Cert.Kernel7Ideal.nD,
      m' ((c.tc : Thread Cert.Reference7Ideal.nD Cert.Reference7Ideal.τ).loc Cert.Reference7Ideal.main_arg0) = m ((c.tc : Thread Cert.Kernel7Ideal.nD Cert.Kernel7Ideal.τ).loc Cert.Kernel7Ideal.main_arg0)
      ∧ m' ((c.tc : Thread Cert.Reference7Ideal.nD Cert.Reference7Ideal.τ).loc Cert.Reference7Ideal.main_arg1) = m ((c.tc : Thread Cert.Kernel7Ideal.nD Cert.Kernel7Ideal.τ).loc Cert.Kernel7Ideal.main_arg1)
      ∧ m' ((c.tc : Thread Cert.Reference7Ideal.nD Cert.Reference7Ideal.τ).loc Cert.Reference7Ideal.main_arg2) = m ((c.tc : Thread Cert.Kernel7Ideal.nD Cert.Kernel7Ideal.τ).loc Cert.Kernel7Ideal.main_arg2)
      ∧ m' ((c.tc : Thread Cert.Reference7Ideal.nD Cert.Reference7Ideal.τ).loc Cert.Reference7Ideal.main_arg3) = m ((c.tc : Thread Cert.Kernel7Ideal.nD Cert.Kernel7Ideal.τ).loc Cert.Kernel7Ideal.main_arg3)) →
    ∃ (v0 : (c : Dev Cert.Kernel7Ideal.nD) → Buf (Elt Ideal) ((c.tc : Thread Cert.Kernel7Ideal.nD Cert.Kernel7Ideal.τ).loc Cert.Kernel7Ideal.main_v0_0)) (v1 : (c : Dev Cert.Kernel7Ideal.nD) → Buf (Elt Ideal) ((c.tc : Thread Cert.Kernel7Ideal.nD Cert.Kernel7Ideal.τ).loc Cert.Kernel7Ideal.main_v0_1)) (v2 : (c : Dev Cert.Kernel7Ideal.nD) → Buf (Elt Ideal) ((c.tc : Thread Cert.Kernel7Ideal.nD Cert.Kernel7Ideal.τ).loc Cert.Kernel7Ideal.main_v0_2)) (v3 : (c : Dev Cert.Kernel7Ideal.nD) → Buf (Elt Ideal) ((c.tc : Thread Cert.Kernel7Ideal.nD Cert.Kernel7Ideal.τ).loc Cert.Kernel7Ideal.main_v0_3)),
      θ_run (Cert.Kernel7Ideal.defs (F := Ideal)) (onTc (τ := Cert.Kernel7Ideal.τ) (Cert.Kernel7Ideal.main (F := Ideal))) ⟨m, fun _ => 0, g⟩ (fun r => ∀ c : Dev Cert.Kernel7Ideal.nD,
          r.2.mem ((c.tc : Thread Cert.Kernel7Ideal.nD Cert.Kernel7Ideal.τ).loc Cert.Kernel7Ideal.main_v0_0) = v0 c
          ∧ r.2.mem ((c.tc : Thread Cert.Kernel7Ideal.nD Cert.Kernel7Ideal.τ).loc Cert.Kernel7Ideal.main_v0_1) = v1 c
          ∧ r.2.mem ((c.tc : Thread Cert.Kernel7Ideal.nD Cert.Kernel7Ideal.τ).loc Cert.Kernel7Ideal.main_v0_2) = v2 c
          ∧ r.2.mem ((c.tc : Thread Cert.Kernel7Ideal.nD Cert.Kernel7Ideal.τ).loc Cert.Kernel7Ideal.main_v0_3) = v3 c
          ∧ r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
          ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1)
          ∧ r.2.mem ((c.tc : Thread Cert.Kernel7Ideal.nD Cert.Kernel7Ideal.τ).loc Cert.Kernel7Ideal.main_arg2) = m ((c.tc : Thread Cert.Kernel7Ideal.nD Cert.Kernel7Ideal.τ).loc Cert.Kernel7Ideal.main_arg2)
          ∧ r.2.mem ((c.tc : Thread Cert.Kernel7Ideal.nD Cert.Kernel7Ideal.τ).loc Cert.Kernel7Ideal.main_arg3) = m ((c.tc : Thread Cert.Kernel7Ideal.nD Cert.Kernel7Ideal.τ).loc Cert.Kernel7Ideal.main_arg3))
      ∧ θ_run (Cert.Reference7Ideal.defs (F := Ideal)) (onTc (τ := Cert.Reference7Ideal.τ) (Cert.Reference7Ideal.main (F := Ideal))) ⟨m', fun _ => 0, g'⟩ (fun r => ∀ c : Dev Cert.Reference7Ideal.nD,
          r.2.mem ((c.tc : Thread Cert.Reference7Ideal.nD Cert.Reference7Ideal.τ).loc Cert.Reference7Ideal.main_v23) = v0 c
          ∧ r.2.mem ((c.tc : Thread Cert.Reference7Ideal.nD Cert.Reference7Ideal.τ).loc Cert.Reference7Ideal.main_v4) = v1 c
          ∧ r.2.mem ((c.tc : Thread Cert.Reference7Ideal.nD Cert.Reference7Ideal.τ).loc Cert.Reference7Ideal.main_v10) = v2 c
          ∧ r.2.mem ((c.tc : Thread Cert.Reference7Ideal.nD Cert.Reference7Ideal.τ).loc Cert.Reference7Ideal.main_arg1) = v3 c
          ∧ r.2.mem ((c.tc : Thread Cert.Reference7Ideal.nD Cert.Reference7Ideal.τ).loc Cert.Reference7Ideal.main_arg0) = m' ((c.tc : Thread Cert.Reference7Ideal.nD Cert.Reference7Ideal.τ).loc Cert.Reference7Ideal.main_arg0)
          ∧ r.2.mem ((c.tc : Thread Cert.Reference7Ideal.nD Cert.Reference7Ideal.τ).loc Cert.Reference7Ideal.main_arg1) = m' ((c.tc : Thread Cert.Reference7Ideal.nD Cert.Reference7Ideal.τ).loc Cert.Reference7Ideal.main_arg1)
          ∧ r.2.mem ((c.tc : Thread Cert.Reference7Ideal.nD Cert.Reference7Ideal.τ).loc Cert.Reference7Ideal.main_arg2) = m' ((c.tc : Thread Cert.Reference7Ideal.nD Cert.Reference7Ideal.τ).loc Cert.Reference7Ideal.main_arg2)
          ∧ r.2.mem ((c.tc : Thread Cert.Reference7Ideal.nD Cert.Reference7Ideal.τ).loc Cert.Reference7Ideal.main_arg3) = m' ((c.tc : Thread Cert.Reference7Ideal.nD Cert.Reference7Ideal.τ).loc Cert.Reference7Ideal.main_arg3))

def preserves_Kernel8_Kernel8Ideal : Prop :=
  True

def algebraic_Kernel8Ideal_Reference8Ideal [hKernel8Ideal : Cert.Kernel8Ideal.Facts] [hReference8Ideal : Cert.Reference8Ideal.Facts] : Prop :=
  ∀ (m : (ℓ : Loc Cert.Kernel8Ideal.nD Cert.Kernel8Ideal.τ Cert.Kernel8Ideal.sig) → Buf (Elt Ideal) ℓ) (g : Dev Cert.Kernel8Ideal.nD → PrngReg)
    (m' : (ℓ : Loc Cert.Reference8Ideal.nD Cert.Reference8Ideal.τ Cert.Reference8Ideal.sig) → Buf (Elt Ideal) ℓ) (g' : Dev Cert.Reference8Ideal.nD → PrngReg), Pre_Kernel8Ideal m →
    (∀ c : Dev Cert.Kernel8Ideal.nD,
      m' ((c.tc : Thread Cert.Reference8Ideal.nD Cert.Reference8Ideal.τ).loc Cert.Reference8Ideal.main_arg0) = m ((c.tc : Thread Cert.Kernel8Ideal.nD Cert.Kernel8Ideal.τ).loc Cert.Kernel8Ideal.main_arg0)
      ∧ m' ((c.tc : Thread Cert.Reference8Ideal.nD Cert.Reference8Ideal.τ).loc Cert.Reference8Ideal.main_arg1) = m ((c.tc : Thread Cert.Kernel8Ideal.nD Cert.Kernel8Ideal.τ).loc Cert.Kernel8Ideal.main_arg1)
      ∧ m' ((c.tc : Thread Cert.Reference8Ideal.nD Cert.Reference8Ideal.τ).loc Cert.Reference8Ideal.main_arg2) = m ((c.tc : Thread Cert.Kernel8Ideal.nD Cert.Kernel8Ideal.τ).loc Cert.Kernel8Ideal.main_arg2)
      ∧ m' ((c.tc : Thread Cert.Reference8Ideal.nD Cert.Reference8Ideal.τ).loc Cert.Reference8Ideal.main_arg3) = m ((c.tc : Thread Cert.Kernel8Ideal.nD Cert.Kernel8Ideal.τ).loc Cert.Kernel8Ideal.main_arg3)) →
    ∃ (v0 : (c : Dev Cert.Kernel8Ideal.nD) → Buf (Elt Ideal) ((c.tc : Thread Cert.Kernel8Ideal.nD Cert.Kernel8Ideal.τ).loc Cert.Kernel8Ideal.main_v0_0)) (v1 : (c : Dev Cert.Kernel8Ideal.nD) → Buf (Elt Ideal) ((c.tc : Thread Cert.Kernel8Ideal.nD Cert.Kernel8Ideal.τ).loc Cert.Kernel8Ideal.main_v0_1)) (v2 : (c : Dev Cert.Kernel8Ideal.nD) → Buf (Elt Ideal) ((c.tc : Thread Cert.Kernel8Ideal.nD Cert.Kernel8Ideal.τ).loc Cert.Kernel8Ideal.main_v0_2)) (v3 : (c : Dev Cert.Kernel8Ideal.nD) → Buf (Elt Ideal) ((c.tc : Thread Cert.Kernel8Ideal.nD Cert.Kernel8Ideal.τ).loc Cert.Kernel8Ideal.main_v0_3)),
      θ_run (Cert.Kernel8Ideal.defs (F := Ideal)) (onTc (τ := Cert.Kernel8Ideal.τ) (Cert.Kernel8Ideal.main (F := Ideal))) ⟨m, fun _ => 0, g⟩ (fun r => ∀ c : Dev Cert.Kernel8Ideal.nD,
          r.2.mem ((c.tc : Thread Cert.Kernel8Ideal.nD Cert.Kernel8Ideal.τ).loc Cert.Kernel8Ideal.main_v0_0) = v0 c
          ∧ r.2.mem ((c.tc : Thread Cert.Kernel8Ideal.nD Cert.Kernel8Ideal.τ).loc Cert.Kernel8Ideal.main_v0_1) = v1 c
          ∧ r.2.mem ((c.tc : Thread Cert.Kernel8Ideal.nD Cert.Kernel8Ideal.τ).loc Cert.Kernel8Ideal.main_v0_2) = v2 c
          ∧ r.2.mem ((c.tc : Thread Cert.Kernel8Ideal.nD Cert.Kernel8Ideal.τ).loc Cert.Kernel8Ideal.main_v0_3) = v3 c
          ∧ r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
          ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1)
          ∧ r.2.mem ((c.tc : Thread Cert.Kernel8Ideal.nD Cert.Kernel8Ideal.τ).loc Cert.Kernel8Ideal.main_arg2) = m ((c.tc : Thread Cert.Kernel8Ideal.nD Cert.Kernel8Ideal.τ).loc Cert.Kernel8Ideal.main_arg2)
          ∧ r.2.mem ((c.tc : Thread Cert.Kernel8Ideal.nD Cert.Kernel8Ideal.τ).loc Cert.Kernel8Ideal.main_arg3) = m ((c.tc : Thread Cert.Kernel8Ideal.nD Cert.Kernel8Ideal.τ).loc Cert.Kernel8Ideal.main_arg3))
      ∧ θ_run (Cert.Reference8Ideal.defs (F := Ideal)) (onTc (τ := Cert.Reference8Ideal.τ) (Cert.Reference8Ideal.main (F := Ideal))) ⟨m', fun _ => 0, g'⟩ (fun r => ∀ c : Dev Cert.Reference8Ideal.nD,
          r.2.mem ((c.tc : Thread Cert.Reference8Ideal.nD Cert.Reference8Ideal.τ).loc Cert.Reference8Ideal.main_v23) = v0 c
          ∧ r.2.mem ((c.tc : Thread Cert.Reference8Ideal.nD Cert.Reference8Ideal.τ).loc Cert.Reference8Ideal.main_v4) = v1 c
          ∧ r.2.mem ((c.tc : Thread Cert.Reference8Ideal.nD Cert.Reference8Ideal.τ).loc Cert.Reference8Ideal.main_v10) = v2 c
          ∧ r.2.mem ((c.tc : Thread Cert.Reference8Ideal.nD Cert.Reference8Ideal.τ).loc Cert.Reference8Ideal.main_arg1) = v3 c
          ∧ r.2.mem ((c.tc : Thread Cert.Reference8Ideal.nD Cert.Reference8Ideal.τ).loc Cert.Reference8Ideal.main_arg0) = m' ((c.tc : Thread Cert.Reference8Ideal.nD Cert.Reference8Ideal.τ).loc Cert.Reference8Ideal.main_arg0)
          ∧ r.2.mem ((c.tc : Thread Cert.Reference8Ideal.nD Cert.Reference8Ideal.τ).loc Cert.Reference8Ideal.main_arg1) = m' ((c.tc : Thread Cert.Reference8Ideal.nD Cert.Reference8Ideal.τ).loc Cert.Reference8Ideal.main_arg1)
          ∧ r.2.mem ((c.tc : Thread Cert.Reference8Ideal.nD Cert.Reference8Ideal.τ).loc Cert.Reference8Ideal.main_arg2) = m' ((c.tc : Thread Cert.Reference8Ideal.nD Cert.Reference8Ideal.τ).loc Cert.Reference8Ideal.main_arg2)
          ∧ r.2.mem ((c.tc : Thread Cert.Reference8Ideal.nD Cert.Reference8Ideal.τ).loc Cert.Reference8Ideal.main_arg3) = m' ((c.tc : Thread Cert.Reference8Ideal.nD Cert.Reference8Ideal.τ).loc Cert.Reference8Ideal.main_arg3))

def preserves_Kernel9_Kernel9Ideal : Prop :=
  True

def algebraic_Kernel9Ideal_Reference9Ideal [hKernel9Ideal : Cert.Kernel9Ideal.Facts] [hReference9Ideal : Cert.Reference9Ideal.Facts] : Prop :=
  ∀ (m : (ℓ : Loc Cert.Kernel9Ideal.nD Cert.Kernel9Ideal.τ Cert.Kernel9Ideal.sig) → Buf (Elt Ideal) ℓ) (g : Dev Cert.Kernel9Ideal.nD → PrngReg)
    (m' : (ℓ : Loc Cert.Reference9Ideal.nD Cert.Reference9Ideal.τ Cert.Reference9Ideal.sig) → Buf (Elt Ideal) ℓ) (g' : Dev Cert.Reference9Ideal.nD → PrngReg), Pre_Kernel9Ideal m →
    (∀ c : Dev Cert.Kernel9Ideal.nD,
      m' ((c.tc : Thread Cert.Reference9Ideal.nD Cert.Reference9Ideal.τ).loc Cert.Reference9Ideal.main_arg0) = m ((c.tc : Thread Cert.Kernel9Ideal.nD Cert.Kernel9Ideal.τ).loc Cert.Kernel9Ideal.main_arg0)
      ∧ m' ((c.tc : Thread Cert.Reference9Ideal.nD Cert.Reference9Ideal.τ).loc Cert.Reference9Ideal.main_arg1) = m ((c.tc : Thread Cert.Kernel9Ideal.nD Cert.Kernel9Ideal.τ).loc Cert.Kernel9Ideal.main_arg1)
      ∧ m' ((c.tc : Thread Cert.Reference9Ideal.nD Cert.Reference9Ideal.τ).loc Cert.Reference9Ideal.main_arg2) = m ((c.tc : Thread Cert.Kernel9Ideal.nD Cert.Kernel9Ideal.τ).loc Cert.Kernel9Ideal.main_arg2)
      ∧ m' ((c.tc : Thread Cert.Reference9Ideal.nD Cert.Reference9Ideal.τ).loc Cert.Reference9Ideal.main_arg3) = m ((c.tc : Thread Cert.Kernel9Ideal.nD Cert.Kernel9Ideal.τ).loc Cert.Kernel9Ideal.main_arg3)) →
    ∃ (v0 : (c : Dev Cert.Kernel9Ideal.nD) → Buf (Elt Ideal) ((c.tc : Thread Cert.Kernel9Ideal.nD Cert.Kernel9Ideal.τ).loc Cert.Kernel9Ideal.main_v0_0)) (v1 : (c : Dev Cert.Kernel9Ideal.nD) → Buf (Elt Ideal) ((c.tc : Thread Cert.Kernel9Ideal.nD Cert.Kernel9Ideal.τ).loc Cert.Kernel9Ideal.main_v0_1)) (v2 : (c : Dev Cert.Kernel9Ideal.nD) → Buf (Elt Ideal) ((c.tc : Thread Cert.Kernel9Ideal.nD Cert.Kernel9Ideal.τ).loc Cert.Kernel9Ideal.main_v0_2)) (v3 : (c : Dev Cert.Kernel9Ideal.nD) → Buf (Elt Ideal) ((c.tc : Thread Cert.Kernel9Ideal.nD Cert.Kernel9Ideal.τ).loc Cert.Kernel9Ideal.main_v0_3)),
      θ_run (Cert.Kernel9Ideal.defs (F := Ideal)) (onTc (τ := Cert.Kernel9Ideal.τ) (Cert.Kernel9Ideal.main (F := Ideal))) ⟨m, fun _ => 0, g⟩ (fun r => ∀ c : Dev Cert.Kernel9Ideal.nD,
          r.2.mem ((c.tc : Thread Cert.Kernel9Ideal.nD Cert.Kernel9Ideal.τ).loc Cert.Kernel9Ideal.main_v0_0) = v0 c
          ∧ r.2.mem ((c.tc : Thread Cert.Kernel9Ideal.nD Cert.Kernel9Ideal.τ).loc Cert.Kernel9Ideal.main_v0_1) = v1 c
          ∧ r.2.mem ((c.tc : Thread Cert.Kernel9Ideal.nD Cert.Kernel9Ideal.τ).loc Cert.Kernel9Ideal.main_v0_2) = v2 c
          ∧ r.2.mem ((c.tc : Thread Cert.Kernel9Ideal.nD Cert.Kernel9Ideal.τ).loc Cert.Kernel9Ideal.main_v0_3) = v3 c
          ∧ r.2.mem ((c.tc : Thread Cert.Kernel9Ideal.nD Cert.Kernel9Ideal.τ).loc Cert.Kernel9Ideal.main_arg0) = m ((c.tc : Thread Cert.Kernel9Ideal.nD Cert.Kernel9Ideal.τ).loc Cert.Kernel9Ideal.main_arg0)
          ∧ r.2.mem ((c.tc : Thread Cert.Kernel9Ideal.nD Cert.Kernel9Ideal.τ).loc Cert.Kernel9Ideal.main_arg1) = m ((c.tc : Thread Cert.Kernel9Ideal.nD Cert.Kernel9Ideal.τ).loc Cert.Kernel9Ideal.main_arg1)
          ∧ r.2.mem ((c.tc : Thread Cert.Kernel9Ideal.nD Cert.Kernel9Ideal.τ).loc Cert.Kernel9Ideal.main_arg2) = m ((c.tc : Thread Cert.Kernel9Ideal.nD Cert.Kernel9Ideal.τ).loc Cert.Kernel9Ideal.main_arg2)
          ∧ r.2.mem ((c.tc : Thread Cert.Kernel9Ideal.nD Cert.Kernel9Ideal.τ).loc Cert.Kernel9Ideal.main_arg3) = m ((c.tc : Thread Cert.Kernel9Ideal.nD Cert.Kernel9Ideal.τ).loc Cert.Kernel9Ideal.main_arg3))
      ∧ θ_run (Cert.Reference9Ideal.defs (F := Ideal)) (onTc (τ := Cert.Reference9Ideal.τ) (Cert.Reference9Ideal.main (F := Ideal))) ⟨m', fun _ => 0, g'⟩ (fun r => ∀ c : Dev Cert.Reference9Ideal.nD,
          r.2.mem ((c.tc : Thread Cert.Reference9Ideal.nD Cert.Reference9Ideal.τ).loc Cert.Reference9Ideal.main_v23) = v0 c
          ∧ r.2.mem ((c.tc : Thread Cert.Reference9Ideal.nD Cert.Reference9Ideal.τ).loc Cert.Reference9Ideal.main_v4) = v1 c
          ∧ r.2.mem ((c.tc : Thread Cert.Reference9Ideal.nD Cert.Reference9Ideal.τ).loc Cert.Reference9Ideal.main_v10) = v2 c
          ∧ r.2.mem ((c.tc : Thread Cert.Reference9Ideal.nD Cert.Reference9Ideal.τ).loc Cert.Reference9Ideal.main_arg1) = v3 c
          ∧ r.2.mem ((c.tc : Thread Cert.Reference9Ideal.nD Cert.Reference9Ideal.τ).loc Cert.Reference9Ideal.main_arg0) = m' ((c.tc : Thread Cert.Reference9Ideal.nD Cert.Reference9Ideal.τ).loc Cert.Reference9Ideal.main_arg0)
          ∧ r.2.mem ((c.tc : Thread Cert.Reference9Ideal.nD Cert.Reference9Ideal.τ).loc Cert.Reference9Ideal.main_arg1) = m' ((c.tc : Thread Cert.Reference9Ideal.nD Cert.Reference9Ideal.τ).loc Cert.Reference9Ideal.main_arg1)
          ∧ r.2.mem ((c.tc : Thread Cert.Reference9Ideal.nD Cert.Reference9Ideal.τ).loc Cert.Reference9Ideal.main_arg2) = m' ((c.tc : Thread Cert.Reference9Ideal.nD Cert.Reference9Ideal.τ).loc Cert.Reference9Ideal.main_arg2)
          ∧ r.2.mem ((c.tc : Thread Cert.Reference9Ideal.nD Cert.Reference9Ideal.τ).loc Cert.Reference9Ideal.main_arg3) = m' ((c.tc : Thread Cert.Reference9Ideal.nD Cert.Reference9Ideal.τ).loc Cert.Reference9Ideal.main_arg3))

def preserves_Kernel10_Kernel10Ideal : Prop :=
  True

def algebraic_Kernel10Ideal_Reference10Ideal [hKernel10Ideal : Cert.Kernel10Ideal.Facts] [hReference10Ideal : Cert.Reference10Ideal.Facts] : Prop :=
  ∀ (m : (ℓ : Loc Cert.Kernel10Ideal.nD Cert.Kernel10Ideal.τ Cert.Kernel10Ideal.sig) → Buf (Elt Ideal) ℓ) (g : Dev Cert.Kernel10Ideal.nD → PrngReg)
    (m' : (ℓ : Loc Cert.Reference10Ideal.nD Cert.Reference10Ideal.τ Cert.Reference10Ideal.sig) → Buf (Elt Ideal) ℓ) (g' : Dev Cert.Reference10Ideal.nD → PrngReg), Pre_Kernel10Ideal m →
    (∀ c : Dev Cert.Kernel10Ideal.nD,
      m' ((c.tc : Thread Cert.Reference10Ideal.nD Cert.Reference10Ideal.τ).loc Cert.Reference10Ideal.main_arg0) = m ((c.tc : Thread Cert.Kernel10Ideal.nD Cert.Kernel10Ideal.τ).loc Cert.Kernel10Ideal.main_arg0)
      ∧ m' ((c.tc : Thread Cert.Reference10Ideal.nD Cert.Reference10Ideal.τ).loc Cert.Reference10Ideal.main_arg1) = m ((c.tc : Thread Cert.Kernel10Ideal.nD Cert.Kernel10Ideal.τ).loc Cert.Kernel10Ideal.main_arg1)
      ∧ m' ((c.tc : Thread Cert.Reference10Ideal.nD Cert.Reference10Ideal.τ).loc Cert.Reference10Ideal.main_arg2) = m ((c.tc : Thread Cert.Kernel10Ideal.nD Cert.Kernel10Ideal.τ).loc Cert.Kernel10Ideal.main_arg2)
      ∧ m' ((c.tc : Thread Cert.Reference10Ideal.nD Cert.Reference10Ideal.τ).loc Cert.Reference10Ideal.main_arg3) = m ((c.tc : Thread Cert.Kernel10Ideal.nD Cert.Kernel10Ideal.τ).loc Cert.Kernel10Ideal.main_arg3)) →
    ∃ (v0 : (c : Dev Cert.Kernel10Ideal.nD) → Buf (Elt Ideal) ((c.tc : Thread Cert.Kernel10Ideal.nD Cert.Kernel10Ideal.τ).loc Cert.Kernel10Ideal.main_v0_0)) (v1 : (c : Dev Cert.Kernel10Ideal.nD) → Buf (Elt Ideal) ((c.tc : Thread Cert.Kernel10Ideal.nD Cert.Kernel10Ideal.τ).loc Cert.Kernel10Ideal.main_v0_1)) (v2 : (c : Dev Cert.Kernel10Ideal.nD) → Buf (Elt Ideal) ((c.tc : Thread Cert.Kernel10Ideal.nD Cert.Kernel10Ideal.τ).loc Cert.Kernel10Ideal.main_v0_2)) (v3 : (c : Dev Cert.Kernel10Ideal.nD) → Buf (Elt Ideal) ((c.tc : Thread Cert.Kernel10Ideal.nD Cert.Kernel10Ideal.τ).loc Cert.Kernel10Ideal.main_v0_3)),
      θ_run (Cert.Kernel10Ideal.defs (F := Ideal)) (onTc (τ := Cert.Kernel10Ideal.τ) (Cert.Kernel10Ideal.main (F := Ideal))) ⟨m, fun _ => 0, g⟩ (fun r => ∀ c : Dev Cert.Kernel10Ideal.nD,
          r.2.mem ((c.tc : Thread Cert.Kernel10Ideal.nD Cert.Kernel10Ideal.τ).loc Cert.Kernel10Ideal.main_v0_0) = v0 c
          ∧ r.2.mem ((c.tc : Thread Cert.Kernel10Ideal.nD Cert.Kernel10Ideal.τ).loc Cert.Kernel10Ideal.main_v0_1) = v1 c
          ∧ r.2.mem ((c.tc : Thread Cert.Kernel10Ideal.nD Cert.Kernel10Ideal.τ).loc Cert.Kernel10Ideal.main_v0_2) = v2 c
          ∧ r.2.mem ((c.tc : Thread Cert.Kernel10Ideal.nD Cert.Kernel10Ideal.τ).loc Cert.Kernel10Ideal.main_v0_3) = v3 c
          ∧ r.2.mem ((c.tc : Thread Cert.Kernel10Ideal.nD Cert.Kernel10Ideal.τ).loc Cert.Kernel10Ideal.main_arg0) = m ((c.tc : Thread Cert.Kernel10Ideal.nD Cert.Kernel10Ideal.τ).loc Cert.Kernel10Ideal.main_arg0)
          ∧ r.2.mem ((c.tc : Thread Cert.Kernel10Ideal.nD Cert.Kernel10Ideal.τ).loc Cert.Kernel10Ideal.main_arg1) = m ((c.tc : Thread Cert.Kernel10Ideal.nD Cert.Kernel10Ideal.τ).loc Cert.Kernel10Ideal.main_arg1)
          ∧ r.2.mem ((c.tc : Thread Cert.Kernel10Ideal.nD Cert.Kernel10Ideal.τ).loc Cert.Kernel10Ideal.main_arg2) = m ((c.tc : Thread Cert.Kernel10Ideal.nD Cert.Kernel10Ideal.τ).loc Cert.Kernel10Ideal.main_arg2)
          ∧ r.2.mem ((c.tc : Thread Cert.Kernel10Ideal.nD Cert.Kernel10Ideal.τ).loc Cert.Kernel10Ideal.main_arg3) = m ((c.tc : Thread Cert.Kernel10Ideal.nD Cert.Kernel10Ideal.τ).loc Cert.Kernel10Ideal.main_arg3))
      ∧ θ_run (Cert.Reference10Ideal.defs (F := Ideal)) (onTc (τ := Cert.Reference10Ideal.τ) (Cert.Reference10Ideal.main (F := Ideal))) ⟨m', fun _ => 0, g'⟩ (fun r => ∀ c : Dev Cert.Reference10Ideal.nD,
          r.2.mem ((c.tc : Thread Cert.Reference10Ideal.nD Cert.Reference10Ideal.τ).loc Cert.Reference10Ideal.main_v23) = v0 c
          ∧ r.2.mem ((c.tc : Thread Cert.Reference10Ideal.nD Cert.Reference10Ideal.τ).loc Cert.Reference10Ideal.main_v4) = v1 c
          ∧ r.2.mem ((c.tc : Thread Cert.Reference10Ideal.nD Cert.Reference10Ideal.τ).loc Cert.Reference10Ideal.main_v10) = v2 c
          ∧ r.2.mem ((c.tc : Thread Cert.Reference10Ideal.nD Cert.Reference10Ideal.τ).loc Cert.Reference10Ideal.main_arg1) = v3 c
          ∧ r.2.mem ((c.tc : Thread Cert.Reference10Ideal.nD Cert.Reference10Ideal.τ).loc Cert.Reference10Ideal.main_arg0) = m' ((c.tc : Thread Cert.Reference10Ideal.nD Cert.Reference10Ideal.τ).loc Cert.Reference10Ideal.main_arg0)
          ∧ r.2.mem ((c.tc : Thread Cert.Reference10Ideal.nD Cert.Reference10Ideal.τ).loc Cert.Reference10Ideal.main_arg1) = m' ((c.tc : Thread Cert.Reference10Ideal.nD Cert.Reference10Ideal.τ).loc Cert.Reference10Ideal.main_arg1)
          ∧ r.2.mem ((c.tc : Thread Cert.Reference10Ideal.nD Cert.Reference10Ideal.τ).loc Cert.Reference10Ideal.main_arg2) = m' ((c.tc : Thread Cert.Reference10Ideal.nD Cert.Reference10Ideal.τ).loc Cert.Reference10Ideal.main_arg2)
          ∧ r.2.mem ((c.tc : Thread Cert.Reference10Ideal.nD Cert.Reference10Ideal.τ).loc Cert.Reference10Ideal.main_arg3) = m' ((c.tc : Thread Cert.Reference10Ideal.nD Cert.Reference10Ideal.τ).loc Cert.Reference10Ideal.main_arg3))

def preserves_Kernel11_Kernel11Ideal : Prop :=
  True

def algebraic_Kernel11Ideal_Reference11Ideal [hKernel11Ideal : Cert.Kernel11Ideal.Facts] [hReference11Ideal : Cert.Reference11Ideal.Facts] : Prop :=
  ∀ (m : (ℓ : Loc Cert.Kernel11Ideal.nD Cert.Kernel11Ideal.τ Cert.Kernel11Ideal.sig) → Buf (Elt Ideal) ℓ) (g : Dev Cert.Kernel11Ideal.nD → PrngReg)
    (m' : (ℓ : Loc Cert.Reference11Ideal.nD Cert.Reference11Ideal.τ Cert.Reference11Ideal.sig) → Buf (Elt Ideal) ℓ) (g' : Dev Cert.Reference11Ideal.nD → PrngReg), Pre_Kernel11Ideal m →
    (∀ c : Dev Cert.Kernel11Ideal.nD,
      m' ((c.tc : Thread Cert.Reference11Ideal.nD Cert.Reference11Ideal.τ).loc Cert.Reference11Ideal.main_arg0) = m ((c.tc : Thread Cert.Kernel11Ideal.nD Cert.Kernel11Ideal.τ).loc Cert.Kernel11Ideal.main_arg0)
      ∧ m' ((c.tc : Thread Cert.Reference11Ideal.nD Cert.Reference11Ideal.τ).loc Cert.Reference11Ideal.main_arg1) = m ((c.tc : Thread Cert.Kernel11Ideal.nD Cert.Kernel11Ideal.τ).loc Cert.Kernel11Ideal.main_arg1)
      ∧ m' ((c.tc : Thread Cert.Reference11Ideal.nD Cert.Reference11Ideal.τ).loc Cert.Reference11Ideal.main_arg2) = m ((c.tc : Thread Cert.Kernel11Ideal.nD Cert.Kernel11Ideal.τ).loc Cert.Kernel11Ideal.main_arg2)
      ∧ m' ((c.tc : Thread Cert.Reference11Ideal.nD Cert.Reference11Ideal.τ).loc Cert.Reference11Ideal.main_arg3) = m ((c.tc : Thread Cert.Kernel11Ideal.nD Cert.Kernel11Ideal.τ).loc Cert.Kernel11Ideal.main_arg3)) →
    ∃ (v0 : (c : Dev Cert.Kernel11Ideal.nD) → Buf (Elt Ideal) ((c.tc : Thread Cert.Kernel11Ideal.nD Cert.Kernel11Ideal.τ).loc Cert.Kernel11Ideal.main_v0_0)) (v1 : (c : Dev Cert.Kernel11Ideal.nD) → Buf (Elt Ideal) ((c.tc : Thread Cert.Kernel11Ideal.nD Cert.Kernel11Ideal.τ).loc Cert.Kernel11Ideal.main_v0_1)) (v2 : (c : Dev Cert.Kernel11Ideal.nD) → Buf (Elt Ideal) ((c.tc : Thread Cert.Kernel11Ideal.nD Cert.Kernel11Ideal.τ).loc Cert.Kernel11Ideal.main_v0_2)) (v3 : (c : Dev Cert.Kernel11Ideal.nD) → Buf (Elt Ideal) ((c.tc : Thread Cert.Kernel11Ideal.nD Cert.Kernel11Ideal.τ).loc Cert.Kernel11Ideal.main_v0_3)),
      θ_run (Cert.Kernel11Ideal.defs (F := Ideal)) (onTc (τ := Cert.Kernel11Ideal.τ) (Cert.Kernel11Ideal.main (F := Ideal))) ⟨m, fun _ => 0, g⟩ (fun r => ∀ c : Dev Cert.Kernel11Ideal.nD,
          r.2.mem ((c.tc : Thread Cert.Kernel11Ideal.nD Cert.Kernel11Ideal.τ).loc Cert.Kernel11Ideal.main_v0_0) = v0 c
          ∧ r.2.mem ((c.tc : Thread Cert.Kernel11Ideal.nD Cert.Kernel11Ideal.τ).loc Cert.Kernel11Ideal.main_v0_1) = v1 c
          ∧ r.2.mem ((c.tc : Thread Cert.Kernel11Ideal.nD Cert.Kernel11Ideal.τ).loc Cert.Kernel11Ideal.main_v0_2) = v2 c
          ∧ r.2.mem ((c.tc : Thread Cert.Kernel11Ideal.nD Cert.Kernel11Ideal.τ).loc Cert.Kernel11Ideal.main_v0_3) = v3 c
          ∧ r.2.mem ((c.tc : Thread Cert.Kernel11Ideal.nD Cert.Kernel11Ideal.τ).loc Cert.Kernel11Ideal.main_arg0) = m ((c.tc : Thread Cert.Kernel11Ideal.nD Cert.Kernel11Ideal.τ).loc Cert.Kernel11Ideal.main_arg0)
          ∧ r.2.mem ((c.tc : Thread Cert.Kernel11Ideal.nD Cert.Kernel11Ideal.τ).loc Cert.Kernel11Ideal.main_arg1) = m ((c.tc : Thread Cert.Kernel11Ideal.nD Cert.Kernel11Ideal.τ).loc Cert.Kernel11Ideal.main_arg1)
          ∧ r.2.mem ((c.tc : Thread Cert.Kernel11Ideal.nD Cert.Kernel11Ideal.τ).loc Cert.Kernel11Ideal.main_arg2) = m ((c.tc : Thread Cert.Kernel11Ideal.nD Cert.Kernel11Ideal.τ).loc Cert.Kernel11Ideal.main_arg2)
          ∧ r.2.mem ((c.tc : Thread Cert.Kernel11Ideal.nD Cert.Kernel11Ideal.τ).loc Cert.Kernel11Ideal.main_arg3) = m ((c.tc : Thread Cert.Kernel11Ideal.nD Cert.Kernel11Ideal.τ).loc Cert.Kernel11Ideal.main_arg3))
      ∧ θ_run (Cert.Reference11Ideal.defs (F := Ideal)) (onTc (τ := Cert.Reference11Ideal.τ) (Cert.Reference11Ideal.main (F := Ideal))) ⟨m', fun _ => 0, g'⟩ (fun r => ∀ c : Dev Cert.Reference11Ideal.nD,
          r.2.mem ((c.tc : Thread Cert.Reference11Ideal.nD Cert.Reference11Ideal.τ).loc Cert.Reference11Ideal.main_v23) = v0 c
          ∧ r.2.mem ((c.tc : Thread Cert.Reference11Ideal.nD Cert.Reference11Ideal.τ).loc Cert.Reference11Ideal.main_v4) = v1 c
          ∧ r.2.mem ((c.tc : Thread Cert.Reference11Ideal.nD Cert.Reference11Ideal.τ).loc Cert.Reference11Ideal.main_v10) = v2 c
          ∧ r.2.mem ((c.tc : Thread Cert.Reference11Ideal.nD Cert.Reference11Ideal.τ).loc Cert.Reference11Ideal.main_arg1) = v3 c
          ∧ r.2.mem ((c.tc : Thread Cert.Reference11Ideal.nD Cert.Reference11Ideal.τ).loc Cert.Reference11Ideal.main_arg0) = m' ((c.tc : Thread Cert.Reference11Ideal.nD Cert.Reference11Ideal.τ).loc Cert.Reference11Ideal.main_arg0)
          ∧ r.2.mem ((c.tc : Thread Cert.Reference11Ideal.nD Cert.Reference11Ideal.τ).loc Cert.Reference11Ideal.main_arg1) = m' ((c.tc : Thread Cert.Reference11Ideal.nD Cert.Reference11Ideal.τ).loc Cert.Reference11Ideal.main_arg1)
          ∧ r.2.mem ((c.tc : Thread Cert.Reference11Ideal.nD Cert.Reference11Ideal.τ).loc Cert.Reference11Ideal.main_arg2) = m' ((c.tc : Thread Cert.Reference11Ideal.nD Cert.Reference11Ideal.τ).loc Cert.Reference11Ideal.main_arg2)
          ∧ r.2.mem ((c.tc : Thread Cert.Reference11Ideal.nD Cert.Reference11Ideal.τ).loc Cert.Reference11Ideal.main_arg3) = m' ((c.tc : Thread Cert.Reference11Ideal.nD Cert.Reference11Ideal.τ).loc Cert.Reference11Ideal.main_arg3))

def preserves_Kernel12_Kernel12Ideal : Prop :=
  True

def algebraic_Kernel12Ideal_Reference12Ideal [hKernel12Ideal : Cert.Kernel12Ideal.Facts] [hReference12Ideal : Cert.Reference12Ideal.Facts] : Prop :=
  ∀ (m : (ℓ : Loc Cert.Kernel12Ideal.nD Cert.Kernel12Ideal.τ Cert.Kernel12Ideal.sig) → Buf (Elt Ideal) ℓ) (g : Dev Cert.Kernel12Ideal.nD → PrngReg)
    (m' : (ℓ : Loc Cert.Reference12Ideal.nD Cert.Reference12Ideal.τ Cert.Reference12Ideal.sig) → Buf (Elt Ideal) ℓ) (g' : Dev Cert.Reference12Ideal.nD → PrngReg), Pre_Kernel12Ideal m →
    (∀ c : Dev Cert.Kernel12Ideal.nD,
      m' ((c.tc : Thread Cert.Reference12Ideal.nD Cert.Reference12Ideal.τ).loc Cert.Reference12Ideal.main_arg0) = m ((c.tc : Thread Cert.Kernel12Ideal.nD Cert.Kernel12Ideal.τ).loc Cert.Kernel12Ideal.main_arg0)
      ∧ m' ((c.tc : Thread Cert.Reference12Ideal.nD Cert.Reference12Ideal.τ).loc Cert.Reference12Ideal.main_arg1) = m ((c.tc : Thread Cert.Kernel12Ideal.nD Cert.Kernel12Ideal.τ).loc Cert.Kernel12Ideal.main_arg1)
      ∧ m' ((c.tc : Thread Cert.Reference12Ideal.nD Cert.Reference12Ideal.τ).loc Cert.Reference12Ideal.main_arg2) = m ((c.tc : Thread Cert.Kernel12Ideal.nD Cert.Kernel12Ideal.τ).loc Cert.Kernel12Ideal.main_arg2)
      ∧ m' ((c.tc : Thread Cert.Reference12Ideal.nD Cert.Reference12Ideal.τ).loc Cert.Reference12Ideal.main_arg3) = m ((c.tc : Thread Cert.Kernel12Ideal.nD Cert.Kernel12Ideal.τ).loc Cert.Kernel12Ideal.main_arg3)) →
    ∃ (v0 : (c : Dev Cert.Kernel12Ideal.nD) → Buf (Elt Ideal) ((c.tc : Thread Cert.Kernel12Ideal.nD Cert.Kernel12Ideal.τ).loc Cert.Kernel12Ideal.main_v0_0)) (v1 : (c : Dev Cert.Kernel12Ideal.nD) → Buf (Elt Ideal) ((c.tc : Thread Cert.Kernel12Ideal.nD Cert.Kernel12Ideal.τ).loc Cert.Kernel12Ideal.main_v0_1)),
      θ_run (Cert.Kernel12Ideal.defs (F := Ideal)) (onTc (τ := Cert.Kernel12Ideal.τ) (Cert.Kernel12Ideal.main (F := Ideal))) ⟨m, fun _ => 0, g⟩ (fun r => ∀ c : Dev Cert.Kernel12Ideal.nD,
          r.2.mem ((c.tc : Thread Cert.Kernel12Ideal.nD Cert.Kernel12Ideal.τ).loc Cert.Kernel12Ideal.main_v0_0) = v0 c
          ∧ r.2.mem ((c.tc : Thread Cert.Kernel12Ideal.nD Cert.Kernel12Ideal.τ).loc Cert.Kernel12Ideal.main_v0_1) = v1 c
          ∧ r.2.mem ((c.tc : Thread Cert.Kernel12Ideal.nD Cert.Kernel12Ideal.τ).loc Cert.Kernel12Ideal.main_arg0) = m ((c.tc : Thread Cert.Kernel12Ideal.nD Cert.Kernel12Ideal.τ).loc Cert.Kernel12Ideal.main_arg0)
          ∧ r.2.mem ((c.tc : Thread Cert.Kernel12Ideal.nD Cert.Kernel12Ideal.τ).loc Cert.Kernel12Ideal.main_arg1) = m ((c.tc : Thread Cert.Kernel12Ideal.nD Cert.Kernel12Ideal.τ).loc Cert.Kernel12Ideal.main_arg1)
          ∧ r.2.mem ((c.tc : Thread Cert.Kernel12Ideal.nD Cert.Kernel12Ideal.τ).loc Cert.Kernel12Ideal.main_arg2) = m ((c.tc : Thread Cert.Kernel12Ideal.nD Cert.Kernel12Ideal.τ).loc Cert.Kernel12Ideal.main_arg2)
          ∧ r.2.mem ((c.tc : Thread Cert.Kernel12Ideal.nD Cert.Kernel12Ideal.τ).loc Cert.Kernel12Ideal.main_arg3) = m ((c.tc : Thread Cert.Kernel12Ideal.nD Cert.Kernel12Ideal.τ).loc Cert.Kernel12Ideal.main_arg3))
      ∧ θ_run (Cert.Reference12Ideal.defs (F := Ideal)) (onTc (τ := Cert.Reference12Ideal.τ) (Cert.Reference12Ideal.main (F := Ideal))) ⟨m', fun _ => 0, g'⟩ (fun r => ∀ c : Dev Cert.Reference12Ideal.nD,
          r.2.mem ((c.tc : Thread Cert.Reference12Ideal.nD Cert.Reference12Ideal.τ).loc Cert.Reference12Ideal.main_v18) = v0 c
          ∧ r.2.mem ((c.tc : Thread Cert.Reference12Ideal.nD Cert.Reference12Ideal.τ).loc Cert.Reference12Ideal.main_v33) = v1 c
          ∧ r.2.mem ((c.tc : Thread Cert.Reference12Ideal.nD Cert.Reference12Ideal.τ).loc Cert.Reference12Ideal.main_arg0) = m' ((c.tc : Thread Cert.Reference12Ideal.nD Cert.Reference12Ideal.τ).loc Cert.Reference12Ideal.main_arg0)
          ∧ r.2.mem ((c.tc : Thread Cert.Reference12Ideal.nD Cert.Reference12Ideal.τ).loc Cert.Reference12Ideal.main_arg1) = m' ((c.tc : Thread Cert.Reference12Ideal.nD Cert.Reference12Ideal.τ).loc Cert.Reference12Ideal.main_arg1)
          ∧ r.2.mem ((c.tc : Thread Cert.Reference12Ideal.nD Cert.Reference12Ideal.τ).loc Cert.Reference12Ideal.main_arg2) = m' ((c.tc : Thread Cert.Reference12Ideal.nD Cert.Reference12Ideal.τ).loc Cert.Reference12Ideal.main_arg2)
          ∧ r.2.mem ((c.tc : Thread Cert.Reference12Ideal.nD Cert.Reference12Ideal.τ).loc Cert.Reference12Ideal.main_arg3) = m' ((c.tc : Thread Cert.Reference12Ideal.nD Cert.Reference12Ideal.τ).loc Cert.Reference12Ideal.main_arg3))

def preserves_Kernel13_Kernel13Ideal : Prop :=
  True

def algebraic_Kernel13Ideal_Reference13Ideal [hKernel13Ideal : Cert.Kernel13Ideal.Facts] [hReference13Ideal : Cert.Reference13Ideal.Facts] : Prop :=
  ∀ (m : (ℓ : Loc Cert.Kernel13Ideal.nD Cert.Kernel13Ideal.τ Cert.Kernel13Ideal.sig) → Buf (Elt Ideal) ℓ) (g : Dev Cert.Kernel13Ideal.nD → PrngReg)
    (m' : (ℓ : Loc Cert.Reference13Ideal.nD Cert.Reference13Ideal.τ Cert.Reference13Ideal.sig) → Buf (Elt Ideal) ℓ) (g' : Dev Cert.Reference13Ideal.nD → PrngReg), Pre_Kernel13Ideal m →
    (∀ c : Dev Cert.Kernel13Ideal.nD,
      m' ((c.tc : Thread Cert.Reference13Ideal.nD Cert.Reference13Ideal.τ).loc Cert.Reference13Ideal.main_arg0) = m ((c.tc : Thread Cert.Kernel13Ideal.nD Cert.Kernel13Ideal.τ).loc Cert.Kernel13Ideal.main_arg0)
      ∧ m' ((c.tc : Thread Cert.Reference13Ideal.nD Cert.Reference13Ideal.τ).loc Cert.Reference13Ideal.main_arg1) = m ((c.tc : Thread Cert.Kernel13Ideal.nD Cert.Kernel13Ideal.τ).loc Cert.Kernel13Ideal.main_arg1)
      ∧ m' ((c.tc : Thread Cert.Reference13Ideal.nD Cert.Reference13Ideal.τ).loc Cert.Reference13Ideal.main_arg2) = m ((c.tc : Thread Cert.Kernel13Ideal.nD Cert.Kernel13Ideal.τ).loc Cert.Kernel13Ideal.main_arg2)
      ∧ m' ((c.tc : Thread Cert.Reference13Ideal.nD Cert.Reference13Ideal.τ).loc Cert.Reference13Ideal.main_arg3) = m ((c.tc : Thread Cert.Kernel13Ideal.nD Cert.Kernel13Ideal.τ).loc Cert.Kernel13Ideal.main_arg3)) →
    ∃ (v0 : (c : Dev Cert.Kernel13Ideal.nD) → Buf (Elt Ideal) ((c.tc : Thread Cert.Kernel13Ideal.nD Cert.Kernel13Ideal.τ).loc Cert.Kernel13Ideal.main_v0_0)) (v1 : (c : Dev Cert.Kernel13Ideal.nD) → Buf (Elt Ideal) ((c.tc : Thread Cert.Kernel13Ideal.nD Cert.Kernel13Ideal.τ).loc Cert.Kernel13Ideal.main_v0_1)),
      θ_run (Cert.Kernel13Ideal.defs (F := Ideal)) (onTc (τ := Cert.Kernel13Ideal.τ) (Cert.Kernel13Ideal.main (F := Ideal))) ⟨m, fun _ => 0, g⟩ (fun r => ∀ c : Dev Cert.Kernel13Ideal.nD,
          r.2.mem ((c.tc : Thread Cert.Kernel13Ideal.nD Cert.Kernel13Ideal.τ).loc Cert.Kernel13Ideal.main_v0_0) = v0 c
          ∧ r.2.mem ((c.tc : Thread Cert.Kernel13Ideal.nD Cert.Kernel13Ideal.τ).loc Cert.Kernel13Ideal.main_v0_1) = v1 c
          ∧ r.2.mem ((c.tc : Thread Cert.Kernel13Ideal.nD Cert.Kernel13Ideal.τ).loc Cert.Kernel13Ideal.main_arg0) = m ((c.tc : Thread Cert.Kernel13Ideal.nD Cert.Kernel13Ideal.τ).loc Cert.Kernel13Ideal.main_arg0)
          ∧ r.2.mem ((c.tc : Thread Cert.Kernel13Ideal.nD Cert.Kernel13Ideal.τ).loc Cert.Kernel13Ideal.main_arg1) = m ((c.tc : Thread Cert.Kernel13Ideal.nD Cert.Kernel13Ideal.τ).loc Cert.Kernel13Ideal.main_arg1)
          ∧ r.2.mem ((c.tc : Thread Cert.Kernel13Ideal.nD Cert.Kernel13Ideal.τ).loc Cert.Kernel13Ideal.main_arg2) = m ((c.tc : Thread Cert.Kernel13Ideal.nD Cert.Kernel13Ideal.τ).loc Cert.Kernel13Ideal.main_arg2)
          ∧ r.2.mem ((c.tc : Thread Cert.Kernel13Ideal.nD Cert.Kernel13Ideal.τ).loc Cert.Kernel13Ideal.main_arg3) = m ((c.tc : Thread Cert.Kernel13Ideal.nD Cert.Kernel13Ideal.τ).loc Cert.Kernel13Ideal.main_arg3))
      ∧ θ_run (Cert.Reference13Ideal.defs (F := Ideal)) (onTc (τ := Cert.Reference13Ideal.τ) (Cert.Reference13Ideal.main (F := Ideal))) ⟨m', fun _ => 0, g'⟩ (fun r => ∀ c : Dev Cert.Reference13Ideal.nD,
          r.2.mem ((c.tc : Thread Cert.Reference13Ideal.nD Cert.Reference13Ideal.τ).loc Cert.Reference13Ideal.main_v18) = v0 c
          ∧ r.2.mem ((c.tc : Thread Cert.Reference13Ideal.nD Cert.Reference13Ideal.τ).loc Cert.Reference13Ideal.main_v33) = v1 c
          ∧ r.2.mem ((c.tc : Thread Cert.Reference13Ideal.nD Cert.Reference13Ideal.τ).loc Cert.Reference13Ideal.main_arg0) = m' ((c.tc : Thread Cert.Reference13Ideal.nD Cert.Reference13Ideal.τ).loc Cert.Reference13Ideal.main_arg0)
          ∧ r.2.mem ((c.tc : Thread Cert.Reference13Ideal.nD Cert.Reference13Ideal.τ).loc Cert.Reference13Ideal.main_arg1) = m' ((c.tc : Thread Cert.Reference13Ideal.nD Cert.Reference13Ideal.τ).loc Cert.Reference13Ideal.main_arg1)
          ∧ r.2.mem ((c.tc : Thread Cert.Reference13Ideal.nD Cert.Reference13Ideal.τ).loc Cert.Reference13Ideal.main_arg2) = m' ((c.tc : Thread Cert.Reference13Ideal.nD Cert.Reference13Ideal.τ).loc Cert.Reference13Ideal.main_arg2)
          ∧ r.2.mem ((c.tc : Thread Cert.Reference13Ideal.nD Cert.Reference13Ideal.τ).loc Cert.Reference13Ideal.main_arg3) = m' ((c.tc : Thread Cert.Reference13Ideal.nD Cert.Reference13Ideal.τ).loc Cert.Reference13Ideal.main_arg3))

def preserves_Kernel14_Kernel14Ideal : Prop :=
  True

def algebraic_Kernel14Ideal_Reference14Ideal [hKernel14Ideal : Cert.Kernel14Ideal.Facts] [hReference14Ideal : Cert.Reference14Ideal.Facts] : Prop :=
  ∀ (m : (ℓ : Loc Cert.Kernel14Ideal.nD Cert.Kernel14Ideal.τ Cert.Kernel14Ideal.sig) → Buf (Elt Ideal) ℓ) (g : Dev Cert.Kernel14Ideal.nD → PrngReg)
    (m' : (ℓ : Loc Cert.Reference14Ideal.nD Cert.Reference14Ideal.τ Cert.Reference14Ideal.sig) → Buf (Elt Ideal) ℓ) (g' : Dev Cert.Reference14Ideal.nD → PrngReg), Pre_Kernel14Ideal m →
    (∀ c : Dev Cert.Kernel14Ideal.nD,
      m' ((c.tc : Thread Cert.Reference14Ideal.nD Cert.Reference14Ideal.τ).loc Cert.Reference14Ideal.main_arg0) = m ((c.tc : Thread Cert.Kernel14Ideal.nD Cert.Kernel14Ideal.τ).loc Cert.Kernel14Ideal.main_arg0)
      ∧ m' ((c.tc : Thread Cert.Reference14Ideal.nD Cert.Reference14Ideal.τ).loc Cert.Reference14Ideal.main_arg1) = m ((c.tc : Thread Cert.Kernel14Ideal.nD Cert.Kernel14Ideal.τ).loc Cert.Kernel14Ideal.main_arg1)
      ∧ m' ((c.tc : Thread Cert.Reference14Ideal.nD Cert.Reference14Ideal.τ).loc Cert.Reference14Ideal.main_arg2) = m ((c.tc : Thread Cert.Kernel14Ideal.nD Cert.Kernel14Ideal.τ).loc Cert.Kernel14Ideal.main_arg2)
      ∧ m' ((c.tc : Thread Cert.Reference14Ideal.nD Cert.Reference14Ideal.τ).loc Cert.Reference14Ideal.main_arg3) = m ((c.tc : Thread Cert.Kernel14Ideal.nD Cert.Kernel14Ideal.τ).loc Cert.Kernel14Ideal.main_arg3)
      ∧ m' ((c.tc : Thread Cert.Reference14Ideal.nD Cert.Reference14Ideal.τ).loc Cert.Reference14Ideal.main_arg4) = m ((c.tc : Thread Cert.Kernel14Ideal.nD Cert.Kernel14Ideal.τ).loc Cert.Kernel14Ideal.main_arg4)
      ∧ m' ((c.tc : Thread Cert.Reference14Ideal.nD Cert.Reference14Ideal.τ).loc Cert.Reference14Ideal.main_arg5) = m ((c.tc : Thread Cert.Kernel14Ideal.nD Cert.Kernel14Ideal.τ).loc Cert.Kernel14Ideal.main_arg5)) →
    ∃ (v0 : (c : Dev Cert.Kernel14Ideal.nD) → Buf (Elt Ideal) ((c.tc : Thread Cert.Kernel14Ideal.nD Cert.Kernel14Ideal.τ).loc Cert.Kernel14Ideal.main_v0_0)) (v1 : (c : Dev Cert.Kernel14Ideal.nD) → Buf (Elt Ideal) ((c.tc : Thread Cert.Kernel14Ideal.nD Cert.Kernel14Ideal.τ).loc Cert.Kernel14Ideal.main_v0_1)) (v2 : (c : Dev Cert.Kernel14Ideal.nD) → Buf (Elt Ideal) ((c.tc : Thread Cert.Kernel14Ideal.nD Cert.Kernel14Ideal.τ).loc Cert.Kernel14Ideal.main_v0_2)),
      θ_run (Cert.Kernel14Ideal.defs (F := Ideal)) (onTc (τ := Cert.Kernel14Ideal.τ) (Cert.Kernel14Ideal.main (F := Ideal))) ⟨m, fun _ => 0, g⟩ (fun r => ∀ c : Dev Cert.Kernel14Ideal.nD,
          r.2.mem ((c.tc : Thread Cert.Kernel14Ideal.nD Cert.Kernel14Ideal.τ).loc Cert.Kernel14Ideal.main_v0_0) = v0 c
          ∧ r.2.mem ((c.tc : Thread Cert.Kernel14Ideal.nD Cert.Kernel14Ideal.τ).loc Cert.Kernel14Ideal.main_v0_1) = v1 c
          ∧ r.2.mem ((c.tc : Thread Cert.Kernel14Ideal.nD Cert.Kernel14Ideal.τ).loc Cert.Kernel14Ideal.main_v0_2) = v2 c
          ∧ r.2.mem ((c.tc : Thread Cert.Kernel14Ideal.nD Cert.Kernel14Ideal.τ).loc Cert.Kernel14Ideal.main_arg0) = m ((c.tc : Thread Cert.Kernel14Ideal.nD Cert.Kernel14Ideal.τ).loc Cert.Kernel14Ideal.main_arg0)
          ∧ r.2.mem ((c.tc : Thread Cert.Kernel14Ideal.nD Cert.Kernel14Ideal.τ).loc Cert.Kernel14Ideal.main_arg1) = m ((c.tc : Thread Cert.Kernel14Ideal.nD Cert.Kernel14Ideal.τ).loc Cert.Kernel14Ideal.main_arg1)
          ∧ r.2.mem ((c.tc : Thread Cert.Kernel14Ideal.nD Cert.Kernel14Ideal.τ).loc Cert.Kernel14Ideal.main_arg2) = m ((c.tc : Thread Cert.Kernel14Ideal.nD Cert.Kernel14Ideal.τ).loc Cert.Kernel14Ideal.main_arg2)
          ∧ r.2.mem ((c.tc : Thread Cert.Kernel14Ideal.nD Cert.Kernel14Ideal.τ).loc Cert.Kernel14Ideal.main_arg3) = m ((c.tc : Thread Cert.Kernel14Ideal.nD Cert.Kernel14Ideal.τ).loc Cert.Kernel14Ideal.main_arg3)
          ∧ r.2.mem ((c.tc : Thread Cert.Kernel14Ideal.nD Cert.Kernel14Ideal.τ).loc Cert.Kernel14Ideal.main_arg4) = m ((c.tc : Thread Cert.Kernel14Ideal.nD Cert.Kernel14Ideal.τ).loc Cert.Kernel14Ideal.main_arg4)
          ∧ r.2.mem ((c.tc : Thread Cert.Kernel14Ideal.nD Cert.Kernel14Ideal.τ).loc Cert.Kernel14Ideal.main_arg5) = m ((c.tc : Thread Cert.Kernel14Ideal.nD Cert.Kernel14Ideal.τ).loc Cert.Kernel14Ideal.main_arg5))
      ∧ θ_run (Cert.Reference14Ideal.defs (F := Ideal)) (onTc (τ := Cert.Reference14Ideal.τ) (Cert.Reference14Ideal.main (F := Ideal))) ⟨m', fun _ => 0, g'⟩ (fun r => ∀ c : Dev Cert.Reference14Ideal.nD,
          r.2.mem ((c.tc : Thread Cert.Reference14Ideal.nD Cert.Reference14Ideal.τ).loc Cert.Reference14Ideal.main_v43) = v0 c
          ∧ r.2.mem ((c.tc : Thread Cert.Reference14Ideal.nD Cert.Reference14Ideal.τ).loc Cert.Reference14Ideal.main_v45) = v1 c
          ∧ r.2.mem ((c.tc : Thread Cert.Reference14Ideal.nD Cert.Reference14Ideal.τ).loc Cert.Reference14Ideal.main_v26) = v2 c
          ∧ r.2.mem ((c.tc : Thread Cert.Reference14Ideal.nD Cert.Reference14Ideal.τ).loc Cert.Reference14Ideal.main_arg0) = m' ((c.tc : Thread Cert.Reference14Ideal.nD Cert.Reference14Ideal.τ).loc Cert.Reference14Ideal.main_arg0)
          ∧ r.2.mem ((c.tc : Thread Cert.Reference14Ideal.nD Cert.Reference14Ideal.τ).loc Cert.Reference14Ideal.main_arg1) = m' ((c.tc : Thread Cert.Reference14Ideal.nD Cert.Reference14Ideal.τ).loc Cert.Reference14Ideal.main_arg1)
          ∧ r.2.mem ((c.tc : Thread Cert.Reference14Ideal.nD Cert.Reference14Ideal.τ).loc Cert.Reference14Ideal.main_arg2) = m' ((c.tc : Thread Cert.Reference14Ideal.nD Cert.Reference14Ideal.τ).loc Cert.Reference14Ideal.main_arg2)
          ∧ r.2.mem ((c.tc : Thread Cert.Reference14Ideal.nD Cert.Reference14Ideal.τ).loc Cert.Reference14Ideal.main_arg3) = m' ((c.tc : Thread Cert.Reference14Ideal.nD Cert.Reference14Ideal.τ).loc Cert.Reference14Ideal.main_arg3)
          ∧ r.2.mem ((c.tc : Thread Cert.Reference14Ideal.nD Cert.Reference14Ideal.τ).loc Cert.Reference14Ideal.main_arg4) = m' ((c.tc : Thread Cert.Reference14Ideal.nD Cert.Reference14Ideal.τ).loc Cert.Reference14Ideal.main_arg4)
          ∧ r.2.mem ((c.tc : Thread Cert.Reference14Ideal.nD Cert.Reference14Ideal.τ).loc Cert.Reference14Ideal.main_arg5) = m' ((c.tc : Thread Cert.Reference14Ideal.nD Cert.Reference14Ideal.τ).loc Cert.Reference14Ideal.main_arg5))

def preserves_Kernel15_Kernel15Ideal : Prop :=
  True

def algebraic_Kernel15Ideal_Reference15Ideal [hKernel15Ideal : Cert.Kernel15Ideal.Facts] [hReference15Ideal : Cert.Reference15Ideal.Facts] : Prop :=
  ∀ (m : (ℓ : Loc Cert.Kernel15Ideal.nD Cert.Kernel15Ideal.τ Cert.Kernel15Ideal.sig) → Buf (Elt Ideal) ℓ) (g : Dev Cert.Kernel15Ideal.nD → PrngReg)
    (m' : (ℓ : Loc Cert.Reference15Ideal.nD Cert.Reference15Ideal.τ Cert.Reference15Ideal.sig) → Buf (Elt Ideal) ℓ) (g' : Dev Cert.Reference15Ideal.nD → PrngReg), Pre_Kernel15Ideal m →
    (∀ c : Dev Cert.Kernel15Ideal.nD,
      m' ((c.tc : Thread Cert.Reference15Ideal.nD Cert.Reference15Ideal.τ).loc Cert.Reference15Ideal.main_arg0) = m ((c.tc : Thread Cert.Kernel15Ideal.nD Cert.Kernel15Ideal.τ).loc Cert.Kernel15Ideal.main_arg0)
      ∧ m' ((c.tc : Thread Cert.Reference15Ideal.nD Cert.Reference15Ideal.τ).loc Cert.Reference15Ideal.main_arg1) = m ((c.tc : Thread Cert.Kernel15Ideal.nD Cert.Kernel15Ideal.τ).loc Cert.Kernel15Ideal.main_arg1)
      ∧ m' ((c.tc : Thread Cert.Reference15Ideal.nD Cert.Reference15Ideal.τ).loc Cert.Reference15Ideal.main_arg2) = m ((c.tc : Thread Cert.Kernel15Ideal.nD Cert.Kernel15Ideal.τ).loc Cert.Kernel15Ideal.main_arg2)
      ∧ m' ((c.tc : Thread Cert.Reference15Ideal.nD Cert.Reference15Ideal.τ).loc Cert.Reference15Ideal.main_arg3) = m ((c.tc : Thread Cert.Kernel15Ideal.nD Cert.Kernel15Ideal.τ).loc Cert.Kernel15Ideal.main_arg3)
      ∧ m' ((c.tc : Thread Cert.Reference15Ideal.nD Cert.Reference15Ideal.τ).loc Cert.Reference15Ideal.main_arg4) = m ((c.tc : Thread Cert.Kernel15Ideal.nD Cert.Kernel15Ideal.τ).loc Cert.Kernel15Ideal.main_arg4)
      ∧ m' ((c.tc : Thread Cert.Reference15Ideal.nD Cert.Reference15Ideal.τ).loc Cert.Reference15Ideal.main_arg5) = m ((c.tc : Thread Cert.Kernel15Ideal.nD Cert.Kernel15Ideal.τ).loc Cert.Kernel15Ideal.main_arg5)) →
    ∃ (v0 : (c : Dev Cert.Kernel15Ideal.nD) → Buf (Elt Ideal) ((c.tc : Thread Cert.Kernel15Ideal.nD Cert.Kernel15Ideal.τ).loc Cert.Kernel15Ideal.main_v0_0)) (v1 : (c : Dev Cert.Kernel15Ideal.nD) → Buf (Elt Ideal) ((c.tc : Thread Cert.Kernel15Ideal.nD Cert.Kernel15Ideal.τ).loc Cert.Kernel15Ideal.main_v0_1)) (v2 : (c : Dev Cert.Kernel15Ideal.nD) → Buf (Elt Ideal) ((c.tc : Thread Cert.Kernel15Ideal.nD Cert.Kernel15Ideal.τ).loc Cert.Kernel15Ideal.main_v0_2)),
      θ_run (Cert.Kernel15Ideal.defs (F := Ideal)) (onTc (τ := Cert.Kernel15Ideal.τ) (Cert.Kernel15Ideal.main (F := Ideal))) ⟨m, fun _ => 0, g⟩ (fun r => ∀ c : Dev Cert.Kernel15Ideal.nD,
          r.2.mem ((c.tc : Thread Cert.Kernel15Ideal.nD Cert.Kernel15Ideal.τ).loc Cert.Kernel15Ideal.main_v0_0) = v0 c
          ∧ r.2.mem ((c.tc : Thread Cert.Kernel15Ideal.nD Cert.Kernel15Ideal.τ).loc Cert.Kernel15Ideal.main_v0_1) = v1 c
          ∧ r.2.mem ((c.tc : Thread Cert.Kernel15Ideal.nD Cert.Kernel15Ideal.τ).loc Cert.Kernel15Ideal.main_v0_2) = v2 c
          ∧ r.2.mem ((c.tc : Thread Cert.Kernel15Ideal.nD Cert.Kernel15Ideal.τ).loc Cert.Kernel15Ideal.main_arg0) = m ((c.tc : Thread Cert.Kernel15Ideal.nD Cert.Kernel15Ideal.τ).loc Cert.Kernel15Ideal.main_arg0)
          ∧ r.2.mem ((c.tc : Thread Cert.Kernel15Ideal.nD Cert.Kernel15Ideal.τ).loc Cert.Kernel15Ideal.main_arg1) = m ((c.tc : Thread Cert.Kernel15Ideal.nD Cert.Kernel15Ideal.τ).loc Cert.Kernel15Ideal.main_arg1)
          ∧ r.2.mem ((c.tc : Thread Cert.Kernel15Ideal.nD Cert.Kernel15Ideal.τ).loc Cert.Kernel15Ideal.main_arg2) = m ((c.tc : Thread Cert.Kernel15Ideal.nD Cert.Kernel15Ideal.τ).loc Cert.Kernel15Ideal.main_arg2)
          ∧ r.2.mem ((c.tc : Thread Cert.Kernel15Ideal.nD Cert.Kernel15Ideal.τ).loc Cert.Kernel15Ideal.main_arg3) = m ((c.tc : Thread Cert.Kernel15Ideal.nD Cert.Kernel15Ideal.τ).loc Cert.Kernel15Ideal.main_arg3)
          ∧ r.2.mem ((c.tc : Thread Cert.Kernel15Ideal.nD Cert.Kernel15Ideal.τ).loc Cert.Kernel15Ideal.main_arg4) = m ((c.tc : Thread Cert.Kernel15Ideal.nD Cert.Kernel15Ideal.τ).loc Cert.Kernel15Ideal.main_arg4)
          ∧ r.2.mem ((c.tc : Thread Cert.Kernel15Ideal.nD Cert.Kernel15Ideal.τ).loc Cert.Kernel15Ideal.main_arg5) = m ((c.tc : Thread Cert.Kernel15Ideal.nD Cert.Kernel15Ideal.τ).loc Cert.Kernel15Ideal.main_arg5))
      ∧ θ_run (Cert.Reference15Ideal.defs (F := Ideal)) (onTc (τ := Cert.Reference15Ideal.τ) (Cert.Reference15Ideal.main (F := Ideal))) ⟨m', fun _ => 0, g'⟩ (fun r => ∀ c : Dev Cert.Reference15Ideal.nD,
          r.2.mem ((c.tc : Thread Cert.Reference15Ideal.nD Cert.Reference15Ideal.τ).loc Cert.Reference15Ideal.main_v43) = v0 c
          ∧ r.2.mem ((c.tc : Thread Cert.Reference15Ideal.nD Cert.Reference15Ideal.τ).loc Cert.Reference15Ideal.main_v45) = v1 c
          ∧ r.2.mem ((c.tc : Thread Cert.Reference15Ideal.nD Cert.Reference15Ideal.τ).loc Cert.Reference15Ideal.main_v26) = v2 c
          ∧ r.2.mem ((c.tc : Thread Cert.Reference15Ideal.nD Cert.Reference15Ideal.τ).loc Cert.Reference15Ideal.main_arg0) = m' ((c.tc : Thread Cert.Reference15Ideal.nD Cert.Reference15Ideal.τ).loc Cert.Reference15Ideal.main_arg0)
          ∧ r.2.mem ((c.tc : Thread Cert.Reference15Ideal.nD Cert.Reference15Ideal.τ).loc Cert.Reference15Ideal.main_arg1) = m' ((c.tc : Thread Cert.Reference15Ideal.nD Cert.Reference15Ideal.τ).loc Cert.Reference15Ideal.main_arg1)
          ∧ r.2.mem ((c.tc : Thread Cert.Reference15Ideal.nD Cert.Reference15Ideal.τ).loc Cert.Reference15Ideal.main_arg2) = m' ((c.tc : Thread Cert.Reference15Ideal.nD Cert.Reference15Ideal.τ).loc Cert.Reference15Ideal.main_arg2)
          ∧ r.2.mem ((c.tc : Thread Cert.Reference15Ideal.nD Cert.Reference15Ideal.τ).loc Cert.Reference15Ideal.main_arg3) = m' ((c.tc : Thread Cert.Reference15Ideal.nD Cert.Reference15Ideal.τ).loc Cert.Reference15Ideal.main_arg3)
          ∧ r.2.mem ((c.tc : Thread Cert.Reference15Ideal.nD Cert.Reference15Ideal.τ).loc Cert.Reference15Ideal.main_arg4) = m' ((c.tc : Thread Cert.Reference15Ideal.nD Cert.Reference15Ideal.τ).loc Cert.Reference15Ideal.main_arg4)
          ∧ r.2.mem ((c.tc : Thread Cert.Reference15Ideal.nD Cert.Reference15Ideal.τ).loc Cert.Reference15Ideal.main_arg5) = m' ((c.tc : Thread Cert.Reference15Ideal.nD Cert.Reference15Ideal.τ).loc Cert.Reference15Ideal.main_arg5))

def preserves_Kernel16_Kernel16Ideal : Prop :=
  True

def algebraic_Kernel16Ideal_Reference16Ideal [hKernel16Ideal : Cert.Kernel16Ideal.Facts] [hReference16Ideal : Cert.Reference16Ideal.Facts] : Prop :=
  ∀ (m : (ℓ : Loc Cert.Kernel16Ideal.nD Cert.Kernel16Ideal.τ Cert.Kernel16Ideal.sig) → Buf (Elt Ideal) ℓ) (g : Dev Cert.Kernel16Ideal.nD → PrngReg)
    (m' : (ℓ : Loc Cert.Reference16Ideal.nD Cert.Reference16Ideal.τ Cert.Reference16Ideal.sig) → Buf (Elt Ideal) ℓ) (g' : Dev Cert.Reference16Ideal.nD → PrngReg), Pre_Kernel16Ideal m →
    (∀ c : Dev Cert.Kernel16Ideal.nD,
      m' ((c.tc : Thread Cert.Reference16Ideal.nD Cert.Reference16Ideal.τ).loc Cert.Reference16Ideal.main_arg0) = m ((c.tc : Thread Cert.Kernel16Ideal.nD Cert.Kernel16Ideal.τ).loc Cert.Kernel16Ideal.main_arg0)
      ∧ m' ((c.tc : Thread Cert.Reference16Ideal.nD Cert.Reference16Ideal.τ).loc Cert.Reference16Ideal.main_arg1) = m ((c.tc : Thread Cert.Kernel16Ideal.nD Cert.Kernel16Ideal.τ).loc Cert.Kernel16Ideal.main_arg1)
      ∧ m' ((c.tc : Thread Cert.Reference16Ideal.nD Cert.Reference16Ideal.τ).loc Cert.Reference16Ideal.main_arg2) = m ((c.tc : Thread Cert.Kernel16Ideal.nD Cert.Kernel16Ideal.τ).loc Cert.Kernel16Ideal.main_arg2)) →
    ∃ (v0 : (c : Dev Cert.Kernel16Ideal.nD) → Buf (Elt Ideal) ((c.tc : Thread Cert.Kernel16Ideal.nD Cert.Kernel16Ideal.τ).loc Cert.Kernel16Ideal.main_v0_0)) (v1 : (c : Dev Cert.Kernel16Ideal.nD) → Buf (Elt Ideal) ((c.tc : Thread Cert.Kernel16Ideal.nD Cert.Kernel16Ideal.τ).loc Cert.Kernel16Ideal.main_v0_1)) (v2 : (c : Dev Cert.Kernel16Ideal.nD) → Buf (Elt Ideal) ((c.tc : Thread Cert.Kernel16Ideal.nD Cert.Kernel16Ideal.τ).loc Cert.Kernel16Ideal.main_v0_2)) (v3 : (c : Dev Cert.Kernel16Ideal.nD) → Buf (Elt Ideal) ((c.tc : Thread Cert.Kernel16Ideal.nD Cert.Kernel16Ideal.τ).loc Cert.Kernel16Ideal.main_v0_3)),
      θ_run (Cert.Kernel16Ideal.defs (F := Ideal)) (onTc (τ := Cert.Kernel16Ideal.τ) (Cert.Kernel16Ideal.main (F := Ideal))) ⟨m, fun _ => 0, g⟩ (fun r => ∀ c : Dev Cert.Kernel16Ideal.nD,
          r.2.mem ((c.tc : Thread Cert.Kernel16Ideal.nD Cert.Kernel16Ideal.τ).loc Cert.Kernel16Ideal.main_v0_0) = v0 c
          ∧ r.2.mem ((c.tc : Thread Cert.Kernel16Ideal.nD Cert.Kernel16Ideal.τ).loc Cert.Kernel16Ideal.main_v0_1) = v1 c
          ∧ r.2.mem ((c.tc : Thread Cert.Kernel16Ideal.nD Cert.Kernel16Ideal.τ).loc Cert.Kernel16Ideal.main_v0_2) = v2 c
          ∧ r.2.mem ((c.tc : Thread Cert.Kernel16Ideal.nD Cert.Kernel16Ideal.τ).loc Cert.Kernel16Ideal.main_v0_3) = v3 c
          ∧ r.2.mem ((c.tc : Thread Cert.Kernel16Ideal.nD Cert.Kernel16Ideal.τ).loc Cert.Kernel16Ideal.main_arg0) = m ((c.tc : Thread Cert.Kernel16Ideal.nD Cert.Kernel16Ideal.τ).loc Cert.Kernel16Ideal.main_arg0)
          ∧ r.2.mem ((c.tc : Thread Cert.Kernel16Ideal.nD Cert.Kernel16Ideal.τ).loc Cert.Kernel16Ideal.main_arg1) = m ((c.tc : Thread Cert.Kernel16Ideal.nD Cert.Kernel16Ideal.τ).loc Cert.Kernel16Ideal.main_arg1)
          ∧ r.2.mem ((c.tc : Thread Cert.Kernel16Ideal.nD Cert.Kernel16Ideal.τ).loc Cert.Kernel16Ideal.main_arg2) = m ((c.tc : Thread Cert.Kernel16Ideal.nD Cert.Kernel16Ideal.τ).loc Cert.Kernel16Ideal.main_arg2))
      ∧ θ_run (Cert.Reference16Ideal.defs (F := Ideal)) (onTc (τ := Cert.Reference16Ideal.τ) (Cert.Reference16Ideal.main (F := Ideal))) ⟨m', fun _ => 0, g'⟩ (fun r => ∀ c : Dev Cert.Reference16Ideal.nD,
          r.2.mem ((c.tc : Thread Cert.Reference16Ideal.nD Cert.Reference16Ideal.τ).loc Cert.Reference16Ideal.main_v48) = v0 c
          ∧ r.2.mem ((c.tc : Thread Cert.Reference16Ideal.nD Cert.Reference16Ideal.τ).loc Cert.Reference16Ideal.main_v49) = v1 c
          ∧ r.2.mem ((c.tc : Thread Cert.Reference16Ideal.nD Cert.Reference16Ideal.τ).loc Cert.Reference16Ideal.main_v32) = v2 c
          ∧ r.2.mem ((c.tc : Thread Cert.Reference16Ideal.nD Cert.Reference16Ideal.τ).loc Cert.Reference16Ideal.main_v50) = v3 c
          ∧ r.2.mem ((c.tc : Thread Cert.Reference16Ideal.nD Cert.Reference16Ideal.τ).loc Cert.Reference16Ideal.main_arg0) = m' ((c.tc : Thread Cert.Reference16Ideal.nD Cert.Reference16Ideal.τ).loc Cert.Reference16Ideal.main_arg0)
          ∧ r.2.mem ((c.tc : Thread Cert.Reference16Ideal.nD Cert.Reference16Ideal.τ).loc Cert.Reference16Ideal.main_arg1) = m' ((c.tc : Thread Cert.Reference16Ideal.nD Cert.Reference16Ideal.τ).loc Cert.Reference16Ideal.main_arg1)
          ∧ r.2.mem ((c.tc : Thread Cert.Reference16Ideal.nD Cert.Reference16Ideal.τ).loc Cert.Reference16Ideal.main_arg2) = m' ((c.tc : Thread Cert.Reference16Ideal.nD Cert.Reference16Ideal.τ).loc Cert.Reference16Ideal.main_arg2))

def preserves_Kernel17_Kernel17Ideal : Prop :=
  True

def algebraic_Kernel17Ideal_Reference17Ideal [hKernel17Ideal : Cert.Kernel17Ideal.Facts] [hReference17Ideal : Cert.Reference17Ideal.Facts] : Prop :=
  ∀ (m : (ℓ : Loc Cert.Kernel17Ideal.nD Cert.Kernel17Ideal.τ Cert.Kernel17Ideal.sig) → Buf (Elt Ideal) ℓ) (g : Dev Cert.Kernel17Ideal.nD → PrngReg)
    (m' : (ℓ : Loc Cert.Reference17Ideal.nD Cert.Reference17Ideal.τ Cert.Reference17Ideal.sig) → Buf (Elt Ideal) ℓ) (g' : Dev Cert.Reference17Ideal.nD → PrngReg), Pre_Kernel17Ideal m →
    (∀ c : Dev Cert.Kernel17Ideal.nD,
      m' ((c.tc : Thread Cert.Reference17Ideal.nD Cert.Reference17Ideal.τ).loc Cert.Reference17Ideal.main_arg0) = m ((c.tc : Thread Cert.Kernel17Ideal.nD Cert.Kernel17Ideal.τ).loc Cert.Kernel17Ideal.main_arg0)) →
    ∃ (v0 : (c : Dev Cert.Kernel17Ideal.nD) → Buf (Elt Ideal) ((c.tc : Thread Cert.Kernel17Ideal.nD Cert.Kernel17Ideal.τ).loc Cert.Kernel17Ideal.main_v0)),
      θ_run (Cert.Kernel17Ideal.defs (F := Ideal)) (onTc (τ := Cert.Kernel17Ideal.τ) (Cert.Kernel17Ideal.main (F := Ideal))) ⟨m, fun _ => 0, g⟩ (fun r => ∀ c : Dev Cert.Kernel17Ideal.nD,
          r.2.mem ((c.tc : Thread Cert.Kernel17Ideal.nD Cert.Kernel17Ideal.τ).loc Cert.Kernel17Ideal.main_v0) = v0 c
          ∧ r.2.mem ((c.tc : Thread Cert.Kernel17Ideal.nD Cert.Kernel17Ideal.τ).loc Cert.Kernel17Ideal.main_arg0) = m ((c.tc : Thread Cert.Kernel17Ideal.nD Cert.Kernel17Ideal.τ).loc Cert.Kernel17Ideal.main_arg0))
      ∧ θ_run (Cert.Reference17Ideal.defs (F := Ideal)) (onTc (τ := Cert.Reference17Ideal.τ) (Cert.Reference17Ideal.main (F := Ideal))) ⟨m', fun _ => 0, g'⟩ (fun r => ∀ c : Dev Cert.Reference17Ideal.nD,
          r.2.mem ((c.tc : Thread Cert.Reference17Ideal.nD Cert.Reference17Ideal.τ).loc Cert.Reference17Ideal.main_v0) = v0 c
          ∧ r.2.mem ((c.tc : Thread Cert.Reference17Ideal.nD Cert.Reference17Ideal.τ).loc Cert.Reference17Ideal.main_arg0) = m' ((c.tc : Thread Cert.Reference17Ideal.nD Cert.Reference17Ideal.τ).loc Cert.Reference17Ideal.main_arg0))

def preserves_Kernel18_Kernel18Ideal : Prop :=
  True

def algebraic_Kernel18Ideal_Reference18Ideal [hKernel18Ideal : Cert.Kernel18Ideal.Facts] [hReference18Ideal : Cert.Reference18Ideal.Facts] [hPre_core_named : Cert.Pre_core_named.Facts] : Prop :=
  ∀ (m : (ℓ : Loc Cert.Kernel18Ideal.nD Cert.Kernel18Ideal.τ Cert.Kernel18Ideal.sig) → Buf (Elt Ideal) ℓ) (g : Dev Cert.Kernel18Ideal.nD → PrngReg)
    (m' : (ℓ : Loc Cert.Reference18Ideal.nD Cert.Reference18Ideal.τ Cert.Reference18Ideal.sig) → Buf (Elt Ideal) ℓ) (g' : Dev Cert.Reference18Ideal.nD → PrngReg), Pre_Kernel18Ideal m →
    (∀ c : Dev Cert.Kernel18Ideal.nD,
      m' ((c.tc : Thread Cert.Reference18Ideal.nD Cert.Reference18Ideal.τ).loc Cert.Reference18Ideal.main_arg0) = m ((c.tc : Thread Cert.Kernel18Ideal.nD Cert.Kernel18Ideal.τ).loc Cert.Kernel18Ideal.main_arg0)
      ∧ m' ((c.tc : Thread Cert.Reference18Ideal.nD Cert.Reference18Ideal.τ).loc Cert.Reference18Ideal.main_arg1) = m ((c.tc : Thread Cert.Kernel18Ideal.nD Cert.Kernel18Ideal.τ).loc Cert.Kernel18Ideal.main_arg1)
      ∧ m' ((c.tc : Thread Cert.Reference18Ideal.nD Cert.Reference18Ideal.τ).loc Cert.Reference18Ideal.main_arg2) = m ((c.tc : Thread Cert.Kernel18Ideal.nD Cert.Kernel18Ideal.τ).loc Cert.Kernel18Ideal.main_arg2)) →
    ∃ (v0 : (c : Dev Cert.Kernel18Ideal.nD) → Buf (Elt Ideal) ((c.tc : Thread Cert.Kernel18Ideal.nD Cert.Kernel18Ideal.τ).loc Cert.Kernel18Ideal.main_v0)),
      θ_run (Cert.Kernel18Ideal.defs (F := Ideal)) (onTc (τ := Cert.Kernel18Ideal.τ) (Cert.Kernel18Ideal.main (F := Ideal))) ⟨m, fun _ => 0, g⟩ (fun r => ∀ c : Dev Cert.Kernel18Ideal.nD,
          r.2.mem ((c.tc : Thread Cert.Kernel18Ideal.nD Cert.Kernel18Ideal.τ).loc Cert.Kernel18Ideal.main_v0) = v0 c
          ∧ r.2.mem ((c.tc : Thread Cert.Kernel18Ideal.nD Cert.Kernel18Ideal.τ).loc Cert.Kernel18Ideal.main_arg0) = m ((c.tc : Thread Cert.Kernel18Ideal.nD Cert.Kernel18Ideal.τ).loc Cert.Kernel18Ideal.main_arg0)
          ∧ r.2.mem ((c.tc : Thread Cert.Kernel18Ideal.nD Cert.Kernel18Ideal.τ).loc Cert.Kernel18Ideal.main_arg1) = m ((c.tc : Thread Cert.Kernel18Ideal.nD Cert.Kernel18Ideal.τ).loc Cert.Kernel18Ideal.main_arg1)
          ∧ r.2.mem ((c.tc : Thread Cert.Kernel18Ideal.nD Cert.Kernel18Ideal.τ).loc Cert.Kernel18Ideal.main_arg2) = m ((c.tc : Thread Cert.Kernel18Ideal.nD Cert.Kernel18Ideal.τ).loc Cert.Kernel18Ideal.main_arg2))
      ∧ θ_run (Cert.Reference18Ideal.defs (F := Ideal)) (onTc (τ := Cert.Reference18Ideal.τ) (Cert.Reference18Ideal.main (F := Ideal))) ⟨m', fun _ => 0, g'⟩ (fun r => ∀ c : Dev Cert.Reference18Ideal.nD,
          r.2.mem ((c.tc : Thread Cert.Reference18Ideal.nD Cert.Reference18Ideal.τ).loc Cert.Reference18Ideal.main_v9) = v0 c
          ∧ r.2.mem ((c.tc : Thread Cert.Reference18Ideal.nD Cert.Reference18Ideal.τ).loc Cert.Reference18Ideal.main_arg0) = m' ((c.tc : Thread Cert.Reference18Ideal.nD Cert.Reference18Ideal.τ).loc Cert.Reference18Ideal.main_arg0)
          ∧ r.2.mem ((c.tc : Thread Cert.Reference18Ideal.nD Cert.Reference18Ideal.τ).loc Cert.Reference18Ideal.main_arg1) = m' ((c.tc : Thread Cert.Reference18Ideal.nD Cert.Reference18Ideal.τ).loc Cert.Reference18Ideal.main_arg1)
          ∧ r.2.mem ((c.tc : Thread Cert.Reference18Ideal.nD Cert.Reference18Ideal.τ).loc Cert.Reference18Ideal.main_arg2) = m' ((c.tc : Thread Cert.Reference18Ideal.nD Cert.Reference18Ideal.τ).loc Cert.Reference18Ideal.main_arg2))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hKernel4 : Cert.Kernel4.Facts) (hKernel4Ideal : Cert.Kernel4Ideal.Facts) (hReference4Ideal : Cert.Reference4Ideal.Facts) (hKernel5 : Cert.Kernel5.Facts) (hKernel5Ideal : Cert.Kernel5Ideal.Facts) (hReference5Ideal : Cert.Reference5Ideal.Facts) (hKernel6 : Cert.Kernel6.Facts) (hKernel6Ideal : Cert.Kernel6Ideal.Facts) (hReference6Ideal : Cert.Reference6Ideal.Facts) (hKernel7 : Cert.Kernel7.Facts) (hKernel7Ideal : Cert.Kernel7Ideal.Facts) (hReference7Ideal : Cert.Reference7Ideal.Facts) (hKernel8 : Cert.Kernel8.Facts) (hKernel8Ideal : Cert.Kernel8Ideal.Facts) (hReference8Ideal : Cert.Reference8Ideal.Facts) (hKernel9 : Cert.Kernel9.Facts) (hKernel9Ideal : Cert.Kernel9Ideal.Facts) (hReference9Ideal : Cert.Reference9Ideal.Facts) (hKernel10 : Cert.Kernel10.Facts) (hKernel10Ideal : Cert.Kernel10Ideal.Facts) (hReference10Ideal : Cert.Reference10Ideal.Facts) (hKernel11 : Cert.Kernel11.Facts) (hKernel11Ideal : Cert.Kernel11Ideal.Facts) (hReference11Ideal : Cert.Reference11Ideal.Facts) (hKernel12 : Cert.Kernel12.Facts) (hKernel12Ideal : Cert.Kernel12Ideal.Facts) (hReference12Ideal : Cert.Reference12Ideal.Facts) (hKernel13 : Cert.Kernel13.Facts) (hKernel13Ideal : Cert.Kernel13Ideal.Facts) (hReference13Ideal : Cert.Reference13Ideal.Facts) (hKernel14 : Cert.Kernel14.Facts) (hKernel14Ideal : Cert.Kernel14Ideal.Facts) (hReference14Ideal : Cert.Reference14Ideal.Facts) (hKernel15 : Cert.Kernel15.Facts) (hKernel15Ideal : Cert.Kernel15Ideal.Facts) (hReference15Ideal : Cert.Reference15Ideal.Facts) (hKernel16 : Cert.Kernel16.Facts) (hKernel16Ideal : Cert.Kernel16Ideal.Facts) (hReference16Ideal : Cert.Reference16Ideal.Facts) (hKernel17 : Cert.Kernel17.Facts) (hKernel17Ideal : Cert.Kernel17Ideal.Facts) (hReference17Ideal : Cert.Reference17Ideal.Facts) (hKernel18 : Cert.Kernel18.Facts) (hKernel18Ideal : Cert.Kernel18Ideal.Facts) (hReference18Ideal : Cert.Reference18Ideal.Facts) (hPre_core_named : Cert.Pre_core_named.Facts),
    quiescent_Kernel (hKernel := hKernel)
    ∧ quiescent_KernelIdeal (hKernelIdeal := hKernelIdeal)
    ∧ quiescent_ReferenceIdeal (hReferenceIdeal := hReferenceIdeal)
    ∧ quiescent_Kernel2 (hKernel2 := hKernel2)
    ∧ quiescent_Kernel2Ideal (hKernel2Ideal := hKernel2Ideal)
    ∧ quiescent_Reference2Ideal (hReference2Ideal := hReference2Ideal)
    ∧ quiescent_Kernel3 (hKernel3 := hKernel3)
    ∧ quiescent_Kernel3Ideal (hKernel3Ideal := hKernel3Ideal)
    ∧ quiescent_Reference3Ideal (hReference3Ideal := hReference3Ideal)
    ∧ quiescent_Kernel4 (hKernel4 := hKernel4)
    ∧ quiescent_Kernel4Ideal (hKernel4Ideal := hKernel4Ideal)
    ∧ quiescent_Reference4Ideal (hReference4Ideal := hReference4Ideal)
    ∧ quiescent_Kernel5 (hKernel5 := hKernel5)
    ∧ quiescent_Kernel5Ideal (hKernel5Ideal := hKernel5Ideal)
    ∧ quiescent_Reference5Ideal (hReference5Ideal := hReference5Ideal)
    ∧ quiescent_Kernel6 (hKernel6 := hKernel6)
    ∧ quiescent_Kernel6Ideal (hKernel6Ideal := hKernel6Ideal)
    ∧ quiescent_Reference6Ideal (hReference6Ideal := hReference6Ideal)
    ∧ quiescent_Kernel7 (hKernel7 := hKernel7)
    ∧ quiescent_Kernel7Ideal (hKernel7Ideal := hKernel7Ideal)
    ∧ quiescent_Reference7Ideal (hReference7Ideal := hReference7Ideal)
    ∧ quiescent_Kernel8 (hKernel8 := hKernel8)
    ∧ quiescent_Kernel8Ideal (hKernel8Ideal := hKernel8Ideal)
    ∧ quiescent_Reference8Ideal (hReference8Ideal := hReference8Ideal)
    ∧ quiescent_Kernel9 (hKernel9 := hKernel9)
    ∧ quiescent_Kernel9Ideal (hKernel9Ideal := hKernel9Ideal)
    ∧ quiescent_Reference9Ideal (hReference9Ideal := hReference9Ideal)
    ∧ quiescent_Kernel10 (hKernel10 := hKernel10)
    ∧ quiescent_Kernel10Ideal (hKernel10Ideal := hKernel10Ideal)
    ∧ quiescent_Reference10Ideal (hReference10Ideal := hReference10Ideal)
    ∧ quiescent_Kernel11 (hKernel11 := hKernel11)
    ∧ quiescent_Kernel11Ideal (hKernel11Ideal := hKernel11Ideal)
    ∧ quiescent_Reference11Ideal (hReference11Ideal := hReference11Ideal)
    ∧ quiescent_Kernel12 (hKernel12 := hKernel12)
    ∧ quiescent_Kernel12Ideal (hKernel12Ideal := hKernel12Ideal)
    ∧ quiescent_Reference12Ideal (hReference12Ideal := hReference12Ideal)
    ∧ quiescent_Kernel13 (hKernel13 := hKernel13)
    ∧ quiescent_Kernel13Ideal (hKernel13Ideal := hKernel13Ideal)
    ∧ quiescent_Reference13Ideal (hReference13Ideal := hReference13Ideal)
    ∧ quiescent_Kernel14 (hKernel14 := hKernel14)
    ∧ quiescent_Kernel14Ideal (hKernel14Ideal := hKernel14Ideal)
    ∧ quiescent_Reference14Ideal (hReference14Ideal := hReference14Ideal)
    ∧ quiescent_Kernel15 (hKernel15 := hKernel15)
    ∧ quiescent_Kernel15Ideal (hKernel15Ideal := hKernel15Ideal)
    ∧ quiescent_Reference15Ideal (hReference15Ideal := hReference15Ideal)
    ∧ quiescent_Kernel16 (hKernel16 := hKernel16)
    ∧ quiescent_Kernel16Ideal (hKernel16Ideal := hKernel16Ideal)
    ∧ quiescent_Reference16Ideal (hReference16Ideal := hReference16Ideal)
    ∧ quiescent_Kernel17 (hKernel17 := hKernel17)
    ∧ quiescent_Kernel17Ideal (hKernel17Ideal := hKernel17Ideal)
    ∧ quiescent_Reference17Ideal (hReference17Ideal := hReference17Ideal)
    ∧ quiescent_Kernel18 (hKernel18 := hKernel18) (hPre_core_named := hPre_core_named)
    ∧ quiescent_Kernel18Ideal (hKernel18Ideal := hKernel18Ideal) (hPre_core_named := hPre_core_named)
    ∧ quiescent_Reference18Ideal (hReference18Ideal := hReference18Ideal)
    ∧ quiescent_Reference18Ideal_pre_core_named (hReference18Ideal := hReference18Ideal) (hPre_core_named := hPre_core_named)
    ∧ preserves_Kernel_KernelIdeal
    ∧ algebraic_KernelIdeal_ReferenceIdeal (hKernelIdeal := hKernelIdeal) (hReferenceIdeal := hReferenceIdeal)
    ∧ preserves_Kernel2_Kernel2Ideal
    ∧ algebraic_Kernel2Ideal_Reference2Ideal (hKernel2Ideal := hKernel2Ideal) (hReference2Ideal := hReference2Ideal)
    ∧ preserves_Kernel3_Kernel3Ideal
    ∧ algebraic_Kernel3Ideal_Reference3Ideal (hKernel3Ideal := hKernel3Ideal) (hReference3Ideal := hReference3Ideal)
    ∧ preserves_Kernel4_Kernel4Ideal
    ∧ algebraic_Kernel4Ideal_Reference4Ideal (hKernel4Ideal := hKernel4Ideal) (hReference4Ideal := hReference4Ideal)
    ∧ preserves_Kernel5_Kernel5Ideal
    ∧ algebraic_Kernel5Ideal_Reference5Ideal (hKernel5Ideal := hKernel5Ideal) (hReference5Ideal := hReference5Ideal)
    ∧ preserves_Kernel6_Kernel6Ideal
    ∧ algebraic_Kernel6Ideal_Reference6Ideal (hKernel6Ideal := hKernel6Ideal) (hReference6Ideal := hReference6Ideal)
    ∧ preserves_Kernel7_Kernel7Ideal
    ∧ algebraic_Kernel7Ideal_Reference7Ideal (hKernel7Ideal := hKernel7Ideal) (hReference7Ideal := hReference7Ideal)
    ∧ preserves_Kernel8_Kernel8Ideal
    ∧ algebraic_Kernel8Ideal_Reference8Ideal (hKernel8Ideal := hKernel8Ideal) (hReference8Ideal := hReference8Ideal)
    ∧ preserves_Kernel9_Kernel9Ideal
    ∧ algebraic_Kernel9Ideal_Reference9Ideal (hKernel9Ideal := hKernel9Ideal) (hReference9Ideal := hReference9Ideal)
    ∧ preserves_Kernel10_Kernel10Ideal
    ∧ algebraic_Kernel10Ideal_Reference10Ideal (hKernel10Ideal := hKernel10Ideal) (hReference10Ideal := hReference10Ideal)
    ∧ preserves_Kernel11_Kernel11Ideal
    ∧ algebraic_Kernel11Ideal_Reference11Ideal (hKernel11Ideal := hKernel11Ideal) (hReference11Ideal := hReference11Ideal)
    ∧ preserves_Kernel12_Kernel12Ideal
    ∧ algebraic_Kernel12Ideal_Reference12Ideal (hKernel12Ideal := hKernel12Ideal) (hReference12Ideal := hReference12Ideal)
    ∧ preserves_Kernel13_Kernel13Ideal
    ∧ algebraic_Kernel13Ideal_Reference13Ideal (hKernel13Ideal := hKernel13Ideal) (hReference13Ideal := hReference13Ideal)
    ∧ preserves_Kernel14_Kernel14Ideal
    ∧ algebraic_Kernel14Ideal_Reference14Ideal (hKernel14Ideal := hKernel14Ideal) (hReference14Ideal := hReference14Ideal)
    ∧ preserves_Kernel15_Kernel15Ideal
    ∧ algebraic_Kernel15Ideal_Reference15Ideal (hKernel15Ideal := hKernel15Ideal) (hReference15Ideal := hReference15Ideal)
    ∧ preserves_Kernel16_Kernel16Ideal
    ∧ algebraic_Kernel16Ideal_Reference16Ideal (hKernel16Ideal := hKernel16Ideal) (hReference16Ideal := hReference16Ideal)
    ∧ preserves_Kernel17_Kernel17Ideal
    ∧ algebraic_Kernel17Ideal_Reference17Ideal (hKernel17Ideal := hKernel17Ideal) (hReference17Ideal := hReference17Ideal)
    ∧ preserves_Kernel18_Kernel18Ideal
    ∧ algebraic_Kernel18Ideal_Reference18Ideal (hKernel18Ideal := hKernel18Ideal) (hReference18Ideal := hReference18Ideal) (hPre_core_named := hPre_core_named)
-- ==== Pre_core_named.lean ====
abbrev S1x4x1024x1280 : Shape := ⟨4, ![1, 4, 1024, 1280]⟩
abbrev S1x4x512x1280 : Shape := ⟨4, ![1, 4, 512, 1280]⟩
abbrev S2 : Shape := ⟨1, ![2]⟩
abbrev S1 : Shape := ⟨1, ![1]⟩
abbrev S_ : Shape := ⟨0, ![]⟩

class Facts : Prop where
  slices_S2_S1_1 : S2.Slices ![1] S1
  bcast_S_S1 : S_.BroadcastsInDim S1 (![] : Fin 0 → Fin S1.rank)

variable [Facts]

def fn {F : FTy → Type} [FloatOps F] (main_arg0 : FVec F S1x4x1024x1280 .bf16) (main_arg1 : FVec F S1x4x512x1280 .bf16) (main_arg2 : IVec S2 32) : IVec S1 1 :=
  let main_v0 : IVec S1 32 := (extractStridedSlice S1 ![1] · slices_S2_S1_1) main_arg2
  let main_c : IVec S_ 32 := constantI S_ 32 0#32
  let main_v1 : IVec S1 32 := broadcastInDim S1 ![] bcast_S_S1 main_c
  let main_v2 : IVec S1 1 := cmpi .eq main_v0 main_v1
  let main_v3 : IVec S1 32 := (extractStridedSlice S1 ![1] · slices_S2_S1_1) main_arg2
  let main_c_0 : IVec S_ 32 := constantI S_ 32 1#32
  let main_v4 : IVec S1 32 := broadcastInDim S1 ![] bcast_S_S1 main_c_0
  let main_v5 : IVec S1 1 := cmpi .eq main_v3 main_v4
  let main_v6 : IVec S1 1 := ori main_v2 main_v5
  main_v6
-- ==== Kernel.lean ====
abbrev S2048x1024 : Shape := ⟨2, ![2048, 1024]⟩
abbrev S2048x5120 : Shape := ⟨2, ![2048, 5120]⟩
abbrev S1x4x1024x1280 : Shape := ⟨4, ![1, 4, 1024, 1280]⟩
abbrev S2048x1280 : Shape := ⟨2, ![2048, 1280]⟩
abbrev S1x1x1024x1280 : Shape := ⟨4, ![1, 1, 1024, 1280]⟩
abbrev S1024x1280 : Shape := ⟨2, ![1024, 1280]⟩

abbrev nBuf : Space → Nat
  | .hbm => 3
  | .vmem => 5
  | .smem => 0
  | _ => 0

abbrev bufTy : (tb : Table) → Fin (tcTables nBuf tb) → BufTy
  | .hbm, ⟨0, _⟩ => ⟨S2048x1024, .bf16⟩
  | .hbm, ⟨1, _⟩ => ⟨S2048x5120, .bf16⟩
  | .hbm, ⟨2, _⟩ => ⟨S1x4x1024x1280, .bf16⟩
  | .local _ .vmem, ⟨0, _⟩ => ⟨S2048x1024, .bf16⟩
  | .local _ .vmem, ⟨1, _⟩ => ⟨S2048x1280, .bf16⟩
  | .local _ .vmem, ⟨2, _⟩ => ⟨S2048x1280, .bf16⟩
  | .local _ .vmem, ⟨3, _⟩ => ⟨S1x1x1024x1280, .bf16⟩
  | .local _ .vmem, ⟨4, _⟩ => ⟨S1x1x1024x1280, .bf16⟩
  | _, _ => ⟨S2048x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨2, ![4, 1], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_2 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, arg0.toNat, arg1.toNat, c0_i32_0.toNat]

abbrev stage0_0 : Fin 1 → Memref sig .tc .vmem S2048x1024 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false, true]

abbrev stage0_1 : Fin 2 → Memref sig .tc .vmem S2048x1280 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1x1x1024x1280 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== ReferenceIdeal.lean ====
abbrev S2048x1024 : Shape := ⟨2, ![2048, 1024]⟩
abbrev S2048x5120 : Shape := ⟨2, ![2048, 5120]⟩
abbrev S_ : Shape := ⟨0, ![]⟩
abbrev S1024x5120 : Shape := ⟨2, ![1024, 5120]⟩
abbrev S5120x1024 : Shape := ⟨2, ![5120, 1024]⟩
abbrev S1x1024x4x1280 : Shape := ⟨4, ![1, 1024, 4, 1280]⟩
abbrev S1x4x1024x1280 : Shape := ⟨4, ![1, 4, 1024, 1280]⟩

abbrev nBuf : Space → Nat
  | .hbm => 12
  | .vmem => 0
  | .smem => 0
  | _ => 0

abbrev bufTy : (tb : Table) → Fin (tcTables nBuf tb) → BufTy
  | .hbm, ⟨0, _⟩ => ⟨S2048x1024, .bf16⟩
  | .hbm, ⟨1, _⟩ => ⟨S2048x5120, .bf16⟩
  | .hbm, ⟨2, _⟩ => ⟨S_, .f32⟩
  | .hbm, ⟨3, _⟩ => ⟨S1024x5120, .f32⟩
  | .hbm, ⟨4, _⟩ => ⟨S2048x1024, .f32⟩
  | .hbm, ⟨5, _⟩ => ⟨S2048x5120, .f32⟩
  | .hbm, ⟨6, _⟩ => ⟨S2048x5120, .f32⟩
  | .hbm, ⟨7, _⟩ => ⟨S5120x1024, .f32⟩
  | .hbm, ⟨8, _⟩ => ⟨S1024x5120, .f32⟩
  | .hbm, ⟨9, _⟩ => ⟨S1x1024x4x1280, .f32⟩
  | .hbm, ⟨10, _⟩ => ⟨S1x4x1024x1280, .f32⟩
  | .hbm, ⟨11, _⟩ => ⟨S1x4x1024x1280, .bf16⟩
  | _, _ => ⟨S2048x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩

abbrev nD : Nat := 1
abbrev τ : Topo := Topo.v7x

variable {F : FTy → Type} [FloatOps F]
-- ==== Kernel2.lean ====
abbrev S2048x1024 : Shape := ⟨2, ![2048, 1024]⟩
abbrev S2048x3072 : Shape := ⟨2, ![2048, 3072]⟩
abbrev S1x4x1024x768 : Shape := ⟨4, ![1, 4, 1024, 768]⟩
abbrev S2048x768 : Shape := ⟨2, ![2048, 768]⟩
abbrev S1x1x1024x768 : Shape := ⟨4, ![1, 1, 1024, 768]⟩
abbrev S1024x768 : Shape := ⟨2, ![1024, 768]⟩

abbrev nBuf : Space → Nat
  | .hbm => 3
  | .vmem => 5
  | .smem => 0
  | _ => 0

abbrev bufTy : (tb : Table) → Fin (tcTables nBuf tb) → BufTy
  | .hbm, ⟨0, _⟩ => ⟨S2048x1024, .bf16⟩
  | .hbm, ⟨1, _⟩ => ⟨S2048x3072, .bf16⟩
  | .hbm, ⟨2, _⟩ => ⟨S1x4x1024x768, .bf16⟩
  | .local _ .vmem, ⟨0, _⟩ => ⟨S2048x1024, .bf16⟩
  | .local _ .vmem, ⟨1, _⟩ => ⟨S2048x768, .bf16⟩
  | .local _ .vmem, ⟨2, _⟩ => ⟨S2048x768, .bf16⟩
  | .local _ .vmem, ⟨3, _⟩ => ⟨S1x1x1024x768, .bf16⟩
  | .local _ .vmem, ⟨4, _⟩ => ⟨S1x1x1024x768, .bf16⟩
  | _, _ => ⟨S2048x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨2, ![4, 1], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_2 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, arg0.toNat, arg1.toNat, c0_i32_0.toNat]

abbrev stage0_0 : Fin 1 → Memref sig .tc .vmem S2048x1024 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false, true]

abbrev stage0_1 : Fin 2 → Memref sig .tc .vmem S2048x768 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1x1x1024x768 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== Reference2Ideal.lean ====
abbrev S2048x1024 : Shape := ⟨2, ![2048, 1024]⟩
abbrev S2048x3072 : Shape := ⟨2, ![2048, 3072]⟩
abbrev S_ : Shape := ⟨0, ![]⟩
abbrev S1024x3072 : Shape := ⟨2, ![1024, 3072]⟩
abbrev S3072x1024 : Shape := ⟨2, ![3072, 1024]⟩
abbrev S1x1024x4x768 : Shape := ⟨4, ![1, 1024, 4, 768]⟩
abbrev S1x4x1024x768 : Shape := ⟨4, ![1, 4, 1024, 768]⟩

abbrev nBuf : Space → Nat
  | .hbm => 12
  | .vmem => 0
  | .smem => 0
  | _ => 0

abbrev bufTy : (tb : Table) → Fin (tcTables nBuf tb) → BufTy
  | .hbm, ⟨0, _⟩ => ⟨S2048x1024, .bf16⟩
  | .hbm, ⟨1, _⟩ => ⟨S2048x3072, .bf16⟩
  | .hbm, ⟨2, _⟩ => ⟨S_, .f32⟩
  | .hbm, ⟨3, _⟩ => ⟨S1024x3072, .f32⟩
  | .hbm, ⟨4, _⟩ => ⟨S2048x1024, .f32⟩
  | .hbm, ⟨5, _⟩ => ⟨S2048x3072, .f32⟩
  | .hbm, ⟨6, _⟩ => ⟨S2048x3072, .f32⟩
  | .hbm, ⟨7, _⟩ => ⟨S3072x1024, .f32⟩
  | .hbm, ⟨8, _⟩ => ⟨S1024x3072, .f32⟩
  | .hbm, ⟨9, _⟩ => ⟨S1x1024x4x768, .f32⟩
  | .hbm, ⟨10, _⟩ => ⟨S1x4x1024x768, .f32⟩
  | .hbm, ⟨11, _⟩ => ⟨S1x4x1024x768, .bf16⟩
  | _, _ => ⟨S2048x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩

abbrev nD : Nat := 1
abbrev τ : Topo := Topo.v7x

variable {F : FTy → Type} [FloatOps F]
-- ==== Kernel3.lean ====
abbrev S2048x2048 : Shape := ⟨2, ![2048, 2048]⟩
abbrev S2048x1024 : Shape := ⟨2, ![2048, 1024]⟩
abbrev S1x2048x1024 : Shape := ⟨3, ![1, 2048, 1024]⟩
abbrev S2048x512 : Shape := ⟨2, ![2048, 512]⟩
abbrev S1x512x1024 : Shape := ⟨3, ![1, 512, 1024]⟩
abbrev S512x1024 : Shape := ⟨2, ![512, 1024]⟩

abbrev nBuf : Space → Nat
  | .hbm => 3
  | .vmem => 5
  | .smem => 0
  | _ => 0

abbrev bufTy : (tb : Table) → Fin (tcTables nBuf tb) → BufTy
  | .hbm, ⟨0, _⟩ => ⟨S2048x2048, .bf16⟩
  | .hbm, ⟨1, _⟩ => ⟨S2048x1024, .bf16⟩
  | .hbm, ⟨2, _⟩ => ⟨S1x2048x1024, .bf16⟩
  | .local _ .vmem, ⟨0, _⟩ => ⟨S2048x512, .bf16⟩
  | .local _ .vmem, ⟨1, _⟩ => ⟨S2048x512, .bf16⟩
  | .local _ .vmem, ⟨2, _⟩ => ⟨S2048x1024, .bf16⟩
  | .local _ .vmem, ⟨3, _⟩ => ⟨S1x512x1024, .bf16⟩
  | .local _ .vmem, ⟨4, _⟩ => ⟨S1x512x1024, .bf16⟩
  | _, _ => ⟨S2048x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨1, ![4], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

abbrev stage0_0 : Fin 2 → Memref sig .tc .vmem S2048x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S2048x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S1x512x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]
-- ==== Reference3Ideal.lean ====
abbrev S2048x2048 : Shape := ⟨2, ![2048, 2048]⟩
abbrev S2048x1024 : Shape := ⟨2, ![2048, 1024]⟩
abbrev S_ : Shape := ⟨0, ![]⟩
abbrev S1024x2048 : Shape := ⟨2, ![1024, 2048]⟩
abbrev S1x2048x1024 : Shape := ⟨3, ![1, 2048, 1024]⟩

abbrev nBuf : Space → Nat
  | .hbm => 11
  | .vmem => 0
  | .smem => 0
  | _ => 0

abbrev bufTy : (tb : Table) → Fin (tcTables nBuf tb) → BufTy
  | .hbm, ⟨0, _⟩ => ⟨S2048x2048, .bf16⟩
  | .hbm, ⟨1, _⟩ => ⟨S2048x1024, .bf16⟩
  | .hbm, ⟨2, _⟩ => ⟨S_, .f32⟩
  | .hbm, ⟨3, _⟩ => ⟨S2048x1024, .f32⟩
  | .hbm, ⟨4, _⟩ => ⟨S2048x2048, .f32⟩
  | .hbm, ⟨5, _⟩ => ⟨S2048x1024, .f32⟩
  | .hbm, ⟨6, _⟩ => ⟨S2048x1024, .f32⟩
  | .hbm, ⟨7, _⟩ => ⟨S1024x2048, .f32⟩
  | .hbm, ⟨8, _⟩ => ⟨S2048x1024, .f32⟩
  | .hbm, ⟨9, _⟩ => ⟨S1x2048x1024, .f32⟩
  | .hbm, ⟨10, _⟩ => ⟨S1x2048x1024, .bf16⟩
  | _, _ => ⟨S2048x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩

abbrev nD : Nat := 1
abbrev τ : Topo := Topo.v7x

variable {F : FTy → Type} [FloatOps F]
-- ==== Kernel4.lean ====
abbrev S2048x1536 : Shape := ⟨2, ![2048, 1536]⟩
abbrev S2048x1024 : Shape := ⟨2, ![2048, 1024]⟩
abbrev S1x1536x1024 : Shape := ⟨3, ![1, 1536, 1024]⟩
abbrev S2048x512 : Shape := ⟨2, ![2048, 512]⟩
abbrev S1x512x1024 : Shape := ⟨3, ![1, 512, 1024]⟩
abbrev S512x1024 : Shape := ⟨2, ![512, 1024]⟩

abbrev nBuf : Space → Nat
  | .hbm => 3
  | .vmem => 5
  | .smem => 0
  | _ => 0

abbrev bufTy : (tb : Table) → Fin (tcTables nBuf tb) → BufTy
  | .hbm, ⟨0, _⟩ => ⟨S2048x1536, .bf16⟩
  | .hbm, ⟨1, _⟩ => ⟨S2048x1024, .bf16⟩
  | .hbm, ⟨2, _⟩ => ⟨S1x1536x1024, .bf16⟩
  | .local _ .vmem, ⟨0, _⟩ => ⟨S2048x512, .bf16⟩
  | .local _ .vmem, ⟨1, _⟩ => ⟨S2048x512, .bf16⟩
  | .local _ .vmem, ⟨2, _⟩ => ⟨S2048x1024, .bf16⟩
  | .local _ .vmem, ⟨3, _⟩ => ⟨S1x512x1024, .bf16⟩
  | .local _ .vmem, ⟨4, _⟩ => ⟨S1x512x1024, .bf16⟩
  | _, _ => ⟨S2048x1536, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨1, ![3], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

abbrev stage0_0 : Fin 2 → Memref sig .tc .vmem S2048x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S2048x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S1x512x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]
-- ==== Reference4Ideal.lean ====
abbrev S2048x1536 : Shape := ⟨2, ![2048, 1536]⟩
abbrev S2048x1024 : Shape := ⟨2, ![2048, 1024]⟩
abbrev S_ : Shape := ⟨0, ![]⟩
abbrev S1536x1024 : Shape := ⟨2, ![1536, 1024]⟩
abbrev S1024x1536 : Shape := ⟨2, ![1024, 1536]⟩
abbrev S1x1536x1024 : Shape := ⟨3, ![1, 1536, 1024]⟩

abbrev nBuf : Space → Nat
  | .hbm => 11
  | .vmem => 0
  | .smem => 0
  | _ => 0

abbrev bufTy : (tb : Table) → Fin (tcTables nBuf tb) → BufTy
  | .hbm, ⟨0, _⟩ => ⟨S2048x1536, .bf16⟩
  | .hbm, ⟨1, _⟩ => ⟨S2048x1024, .bf16⟩
  | .hbm, ⟨2, _⟩ => ⟨S_, .f32⟩
  | .hbm, ⟨3, _⟩ => ⟨S1536x1024, .f32⟩
  | .hbm, ⟨4, _⟩ => ⟨S2048x1536, .f32⟩
  | .hbm, ⟨5, _⟩ => ⟨S2048x1024, .f32⟩
  | .hbm, ⟨6, _⟩ => ⟨S2048x1024, .f32⟩
  | .hbm, ⟨7, _⟩ => ⟨S1024x1536, .f32⟩
  | .hbm, ⟨8, _⟩ => ⟨S1536x1024, .f32⟩
  | .hbm, ⟨9, _⟩ => ⟨S1x1536x1024, .f32⟩
  | .hbm, ⟨10, _⟩ => ⟨S1x1536x1024, .bf16⟩
  | _, _ => ⟨S2048x1536, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩

abbrev nD : Nat := 1
abbrev τ : Topo := Topo.v7x

variable {F : FTy → Type} [FloatOps F]
-- ==== Kernel5.lean ====
abbrev S2x1024x1280 : Shape := ⟨3, ![2, 1024, 1280]⟩
abbrev S1x256x1280 : Shape := ⟨3, ![1, 256, 1280]⟩

abbrev nBuf : Space → Nat
  | .hbm => 8
  | .vmem => 16
  | .smem => 0
  | _ => 0

abbrev bufTy : (tb : Table) → Fin (tcTables nBuf tb) → BufTy
  | .hbm, ⟨0, _⟩ => ⟨S2x1024x1280, .f32⟩
  | .hbm, ⟨1, _⟩ => ⟨S2x1024x1280, .f32⟩
  | .hbm, ⟨2, _⟩ => ⟨S2x1024x1280, .f32⟩
  | .hbm, ⟨3, _⟩ => ⟨S2x1024x1280, .f32⟩
  | .hbm, ⟨4, _⟩ => ⟨S2x1024x1280, .f32⟩
  | .hbm, ⟨5, _⟩ => ⟨S2x1024x1280, .f32⟩
  | .hbm, ⟨6, _⟩ => ⟨S2x1024x1280, .f32⟩
  | .hbm, ⟨7, _⟩ => ⟨S2x1024x1280, .f32⟩
  | .local _ .vmem, ⟨0, _⟩ => ⟨S1x256x1280, .f32⟩
  | .local _ .vmem, ⟨1, _⟩ => ⟨S1x256x1280, .f32⟩
  | .local _ .vmem, ⟨2, _⟩ => ⟨S1x256x1280, .f32⟩
  | .local _ .vmem, ⟨3, _⟩ => ⟨S1x256x1280, .f32⟩
  | .local _ .vmem, ⟨4, _⟩ => ⟨S1x256x1280, .f32⟩
  | .local _ .vmem, ⟨5, _⟩ => ⟨S1x256x1280, .f32⟩
  | .local _ .vmem, ⟨6, _⟩ => ⟨S1x256x1280, .f32⟩
  | .local _ .vmem, ⟨7, _⟩ => ⟨S1x256x1280, .f32⟩
  | .local _ .vmem, ⟨8, _⟩ => ⟨S1x256x1280, .f32⟩
  | .local _ .vmem, ⟨9, _⟩ => ⟨S1x256x1280, .f32⟩
  | .local _ .vmem, ⟨10, _⟩ => ⟨S1x256x1280, .f32⟩
  | .local _ .vmem, ⟨11, _⟩ => ⟨S1x256x1280, .f32⟩
  | .local _ .vmem, ⟨12, _⟩ => ⟨S1x256x1280, .f32⟩
  | .local _ .vmem, ⟨13, _⟩ => ⟨S1x256x1280, .f32⟩
  | .local _ .vmem, ⟨14, _⟩ => ⟨S1x256x1280, .f32⟩
  | .local _ .vmem, ⟨15, _⟩ => ⟨S1x256x1280, .f32⟩
  | _, _ => ⟨S2x1024x1280, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev main_v0_3 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15

abbrev nD : Nat := 1
abbrev τ : Topo := Topo.v7x

variable {F : FTy → Type} [FloatOps F]

abbrev grid0 : Pipeline.Grid := ⟨2, ![2, 4], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x256x1280 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x256x1280 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x256x1280 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x256x1280 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x256x1280 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x256x1280 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1x256x1280 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S1x256x1280 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]
-- ==== Reference5Ideal.lean ====
abbrev S2x1024x1280 : Shape := ⟨3, ![2, 1024, 1280]⟩
abbrev S_ : Shape := ⟨0, ![]⟩

abbrev nBuf : Space → Nat
  | .hbm => 37
  | .vmem => 0
  | .smem => 0
  | _ => 0

abbrev bufTy : (tb : Table) → Fin (tcTables nBuf tb) → BufTy
  | .hbm, ⟨0, _⟩ => ⟨S2x1024x1280, .f32⟩
  | .hbm, ⟨1, _⟩ => ⟨S2x1024x1280, .f32⟩
  | .hbm, ⟨2, _⟩ => ⟨S2x1024x1280, .f32⟩
  | .hbm, ⟨3, _⟩ => ⟨S2x1024x1280, .f32⟩
  | .hbm, ⟨4, _⟩ => ⟨S_, .f32⟩
  | .hbm, ⟨5, _⟩ => ⟨S2x1024x1280, .f32⟩
  | .hbm, ⟨6, _⟩ => ⟨S2x1024x1280, .f32⟩
  | .hbm, ⟨7, _⟩ => ⟨S_, .f32⟩
  | .hbm, ⟨8, _⟩ => ⟨S2x1024x1280, .f32⟩
  | .hbm, ⟨9, _⟩ => ⟨S2x1024x1280, .f32⟩
  | .hbm, ⟨10, _⟩ => ⟨S2x1024x1280, .f32⟩
  | .hbm, ⟨11, _⟩ => ⟨S_, .f32⟩
  | .hbm, ⟨12, _⟩ => ⟨S2x1024x1280, .f32⟩
  | .hbm, ⟨13, _⟩ => ⟨S2x1024x1280, .f32⟩
  | .hbm, ⟨14, _⟩ => ⟨S2x1024x1280, .f32⟩
  | .hbm, ⟨15, _⟩ => ⟨S_, .f32⟩
  | .hbm, ⟨16, _⟩ => ⟨S2x1024x1280, .f32⟩
  | .hbm, ⟨17, _⟩ => ⟨S2x1024x1280, .f32⟩
  | .hbm, ⟨18, _⟩ => ⟨S2x1024x1280, .f32⟩
  | .hbm, ⟨19, _⟩ => ⟨S_, .f32⟩
  | .hbm, ⟨20, _⟩ => ⟨S2x1024x1280, .f32⟩
  | .hbm, ⟨21, _⟩ => ⟨S2x1024x1280, .f32⟩
  | .hbm, ⟨22, _⟩ => ⟨S_, .f32⟩
  | .hbm, ⟨23, _⟩ => ⟨S2x1024x1280, .f32⟩
  | .hbm, ⟨24, _⟩ => ⟨S2x1024x1280, .f32⟩
  | .hbm, ⟨25, _⟩ => ⟨S2x1024x1280, .f32⟩
  | .hbm, ⟨26, _⟩ => ⟨S_, .f32⟩
  | .hbm, ⟨27, _⟩ => ⟨S2x1024x1280, .f32⟩
  | .hbm, ⟨28, _⟩ => ⟨S2x1024x1280, .f32⟩
  | .hbm, ⟨29, _⟩ => ⟨S2x1024x1280, .f32⟩
  | .hbm, ⟨30, _⟩ => ⟨S_, .f32⟩
  | .hbm, ⟨31, _⟩ => ⟨S2x1024x1280, .f32⟩
  | .hbm, ⟨32, _⟩ => ⟨S2x1024x1280, .f32⟩
  | .hbm, ⟨33, _⟩ => ⟨S2x1024x1280, .f32⟩
  | .hbm, ⟨34, _⟩ => ⟨S_, .f32⟩
  | .hbm, ⟨35, _⟩ => ⟨S2x1024x1280, .f32⟩
  | .hbm, ⟨36, _⟩ => ⟨S2x1024x1280, .f32⟩
  | _, _ => ⟨S2x1024x1280, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩

abbrev nD : Nat := 1
abbrev τ : Topo := Topo.v7x

variable {F : FTy → Type} [FloatOps F]
-- ==== Kernel6.lean ====
abbrev S2x512x1024 : Shape := ⟨3, ![2, 512, 1024]⟩
abbrev S1x512x1024 : Shape := ⟨3, ![1, 512, 1024]⟩

abbrev nBuf : Space → Nat
  | .hbm => 8
  | .vmem => 16
  | .smem => 0
  | _ => 0

abbrev bufTy : (tb : Table) → Fin (tcTables nBuf tb) → BufTy
  | .hbm, ⟨0, _⟩ => ⟨S2x512x1024, .f32⟩
  | .hbm, ⟨1, _⟩ => ⟨S2x512x1024, .f32⟩
  | .hbm, ⟨2, _⟩ => ⟨S2x512x1024, .f32⟩
  | .hbm, ⟨3, _⟩ => ⟨S2x512x1024, .f32⟩
  | .hbm, ⟨4, _⟩ => ⟨S2x512x1024, .f32⟩
  | .hbm, ⟨5, _⟩ => ⟨S2x512x1024, .f32⟩
  | .hbm, ⟨6, _⟩ => ⟨S2x512x1024, .f32⟩
  | .hbm, ⟨7, _⟩ => ⟨S2x512x1024, .f32⟩
  | .local _ .vmem, ⟨0, _⟩ => ⟨S1x512x1024, .f32⟩
  | .local _ .vmem, ⟨1, _⟩ => ⟨S1x512x1024, .f32⟩
  | .local _ .vmem, ⟨2, _⟩ => ⟨S1x512x1024, .f32⟩
  | .local _ .vmem, ⟨3, _⟩ => ⟨S1x512x1024, .f32⟩
  | .local _ .vmem, ⟨4, _⟩ => ⟨S1x512x1024, .f32⟩
  | .local _ .vmem, ⟨5, _⟩ => ⟨S1x512x1024, .f32⟩
  | .local _ .vmem, ⟨6, _⟩ => ⟨S1x512x1024, .f32⟩
  | .local _ .vmem, ⟨7, _⟩ => ⟨S1x512x1024, .f32⟩
  | .local _ .vmem, ⟨8, _⟩ => ⟨S1x512x1024, .f32⟩
  | .local _ .vmem, ⟨9, _⟩ => ⟨S1x512x1024, .f32⟩
  | .local _ .vmem, ⟨10, _⟩ => ⟨S1x512x1024, .f32⟩
  | .local _ .vmem, ⟨11, _⟩ => ⟨S1x512x1024, .f32⟩
  | .local _ .vmem, ⟨12, _⟩ => ⟨S1x512x1024, .f32⟩
  | .local _ .vmem, ⟨13, _⟩ => ⟨S1x512x1024, .f32⟩
  | .local _ .vmem, ⟨14, _⟩ => ⟨S1x512x1024, .f32⟩
  | .local _ .vmem, ⟨15, _⟩ => ⟨S1x512x1024, .f32⟩
  | _, _ => ⟨S2x512x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev main_v0_3 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15

abbrev nD : Nat := 1
abbrev τ : Topo := Topo.v7x

variable {F : FTy → Type} [FloatOps F]

abbrev grid0 : Pipeline.Grid := ⟨2, ![2, 1], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x512x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x512x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x512x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x512x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1x512x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S1x512x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]
-- ==== Reference6Ideal.lean ====
abbrev S2x512x1024 : Shape := ⟨3, ![2, 512, 1024]⟩
abbrev S_ : Shape := ⟨0, ![]⟩

abbrev nBuf : Space → Nat
  | .hbm => 37
  | .vmem => 0
  | .smem => 0
  | _ => 0

abbrev bufTy : (tb : Table) → Fin (tcTables nBuf tb) → BufTy
  | .hbm, ⟨0, _⟩ => ⟨S2x512x1024, .f32⟩
  | .hbm, ⟨1, _⟩ => ⟨S2x512x1024, .f32⟩
  | .hbm, ⟨2, _⟩ => ⟨S2x512x1024, .f32⟩
  | .hbm, ⟨3, _⟩ => ⟨S2x512x1024, .f32⟩
  | .hbm, ⟨4, _⟩ => ⟨S_, .f32⟩
  | .hbm, ⟨5, _⟩ => ⟨S2x512x1024, .f32⟩
  | .hbm, ⟨6, _⟩ => ⟨S2x512x1024, .f32⟩
  | .hbm, ⟨7, _⟩ => ⟨S_, .f32⟩
  | .hbm, ⟨8, _⟩ => ⟨S2x512x1024, .f32⟩
  | .hbm, ⟨9, _⟩ => ⟨S2x512x1024, .f32⟩
  | .hbm, ⟨10, _⟩ => ⟨S2x512x1024, .f32⟩
  | .hbm, ⟨11, _⟩ => ⟨S_, .f32⟩
  | .hbm, ⟨12, _⟩ => ⟨S2x512x1024, .f32⟩
  | .hbm, ⟨13, _⟩ => ⟨S2x512x1024, .f32⟩
  | .hbm, ⟨14, _⟩ => ⟨S2x512x1024, .f32⟩
  | .hbm, ⟨15, _⟩ => ⟨S_, .f32⟩
  | .hbm, ⟨16, _⟩ => ⟨S2x512x1024, .f32⟩
  | .hbm, ⟨17, _⟩ => ⟨S2x512x1024, .f32⟩
  | .hbm, ⟨18, _⟩ => ⟨S2x512x1024, .f32⟩
  | .hbm, ⟨19, _⟩ => ⟨S_, .f32⟩
  | .hbm, ⟨20, _⟩ => ⟨S2x512x1024, .f32⟩
  | .hbm, ⟨21, _⟩ => ⟨S2x512x1024, .f32⟩
  | .hbm, ⟨22, _⟩ => ⟨S_, .f32⟩
  | .hbm, ⟨23, _⟩ => ⟨S2x512x1024, .f32⟩
  | .hbm, ⟨24, _⟩ => ⟨S2x512x1024, .f32⟩
  | .hbm, ⟨25, _⟩ => ⟨S2x512x1024, .f32⟩
  | .hbm, ⟨26, _⟩ => ⟨S_, .f32⟩
  | .hbm, ⟨27, _⟩ => ⟨S2x512x1024, .f32⟩
  | .hbm, ⟨28, _⟩ => ⟨S2x512x1024, .f32⟩
  | .hbm, ⟨29, _⟩ => ⟨S2x512x1024, .f32⟩
  | .hbm, ⟨30, _⟩ => ⟨S_, .f32⟩
  | .hbm, ⟨31, _⟩ => ⟨S2x512x1024, .f32⟩
  | .hbm, ⟨32, _⟩ => ⟨S2x512x1024, .f32⟩
  | .hbm, ⟨33, _⟩ => ⟨S2x512x1024, .f32⟩
  | .hbm, ⟨34, _⟩ => ⟨S_, .f32⟩
  | .hbm, ⟨35, _⟩ => ⟨S2x512x1024, .f32⟩
  | .hbm, ⟨36, _⟩ => ⟨S2x512x1024, .f32⟩
  | _, _ => ⟨S2x512x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩

abbrev nD : Nat := 1
abbrev τ : Topo := Topo.v7x

variable {F : FTy → Type} [FloatOps F]
-- ==== Kernel7.lean ====
abbrev S2x256x256 : Shape := ⟨3, ![2, 256, 256]⟩
abbrev S1x256x256 : Shape := ⟨3, ![1, 256, 256]⟩

abbrev nBuf : Space → Nat
  | .hbm => 8
  | .vmem => 16
  | .smem => 0
  | _ => 0

abbrev bufTy : (tb : Table) → Fin (tcTables nBuf tb) → BufTy
  | .hbm, ⟨0, _⟩ => ⟨S2x256x256, .f32⟩
  | .hbm, ⟨1, _⟩ => ⟨S2x256x256, .f32⟩
  | .hbm, ⟨2, _⟩ => ⟨S2x256x256, .f32⟩
  | .hbm, ⟨3, _⟩ => ⟨S2x256x256, .f32⟩
  | .hbm, ⟨4, _⟩ => ⟨S2x256x256, .f32⟩
  | .hbm, ⟨5, _⟩ => ⟨S2x256x256, .f32⟩
  | .hbm, ⟨6, _⟩ => ⟨S2x256x256, .f32⟩
  | .hbm, ⟨7, _⟩ => ⟨S2x256x256, .f32⟩
  | .local _ .vmem, ⟨0, _⟩ => ⟨S1x256x256, .f32⟩
  | .local _ .vmem, ⟨1, _⟩ => ⟨S1x256x256, .f32⟩
  | .local _ .vmem, ⟨2, _⟩ => ⟨S1x256x256, .f32⟩
  | .local _ .vmem, ⟨3, _⟩ => ⟨S1x256x256, .f32⟩
  | .local _ .vmem, ⟨4, _⟩ => ⟨S1x256x256, .f32⟩
  | .local _ .vmem, ⟨5, _⟩ => ⟨S1x256x256, .f32⟩
  | .local _ .vmem, ⟨6, _⟩ => ⟨S1x256x256, .f32⟩
  | .local _ .vmem, ⟨7, _⟩ => ⟨S1x256x256, .f32⟩
  | .local _ .vmem, ⟨8, _⟩ => ⟨S1x256x256, .f32⟩
  | .local _ .vmem, ⟨9, _⟩ => ⟨S1x256x256, .f32⟩
  | .local _ .vmem, ⟨10, _⟩ => ⟨S1x256x256, .f32⟩
  | .local _ .vmem, ⟨11, _⟩ => ⟨S1x256x256, .f32⟩
  | .local _ .vmem, ⟨12, _⟩ => ⟨S1x256x256, .f32⟩
  | .local _ .vmem, ⟨13, _⟩ => ⟨S1x256x256, .f32⟩
  | .local _ .vmem, ⟨14, _⟩ => ⟨S1x256x256, .f32⟩
  | .local _ .vmem, ⟨15, _⟩ => ⟨S1x256x256, .f32⟩
  | _, _ => ⟨S2x256x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev main_v0_3 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15

abbrev nD : Nat := 1
abbrev τ : Topo := Topo.v7x

variable {F : FTy → Type} [FloatOps F]

abbrev grid0 : Pipeline.Grid := ⟨2, ![2, 1], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x256x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x256x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x256x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x256x256 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x256x256 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x256x256 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1x256x256 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S1x256x256 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]
-- ==== Reference7Ideal.lean ====
abbrev S2x256x256 : Shape := ⟨3, ![2, 256, 256]⟩
abbrev S_ : Shape := ⟨0, ![]⟩

abbrev nBuf : Space → Nat
  | .hbm => 37
  | .vmem => 0
  | .smem => 0
  | _ => 0

abbrev bufTy : (tb : Table) → Fin (tcTables nBuf tb) → BufTy
  | .hbm, ⟨0, _⟩ => ⟨S2x256x256, .f32⟩
  | .hbm, ⟨1, _⟩ => ⟨S2x256x256, .f32⟩
  | .hbm, ⟨2, _⟩ => ⟨S2x256x256, .f32⟩
  | .hbm, ⟨3, _⟩ => ⟨S2x256x256, .f32⟩
  | .hbm, ⟨4, _⟩ => ⟨S_, .f32⟩
  | .hbm, ⟨5, _⟩ => ⟨S2x256x256, .f32⟩
  | .hbm, ⟨6, _⟩ => ⟨S2x256x256, .f32⟩
  | .hbm, ⟨7, _⟩ => ⟨S_, .f32⟩
  | .hbm, ⟨8, _⟩ => ⟨S2x256x256, .f32⟩
  | .hbm, ⟨9, _⟩ => ⟨S2x256x256, .f32⟩
  | .hbm, ⟨10, _⟩ => ⟨S2x256x256, .f32⟩
  | .hbm, ⟨11, _⟩ => ⟨S_, .f32⟩
  | .hbm, ⟨12, _⟩ => ⟨S2x256x256, .f32⟩
  | .hbm, ⟨13, _⟩ => ⟨S2x256x256, .f32⟩
  | .hbm, ⟨14, _⟩ => ⟨S2x256x256, .f32⟩
  | .hbm, ⟨15, _⟩ => ⟨S_, .f32⟩
  | .hbm, ⟨16, _⟩ => ⟨S2x256x256, .f32⟩
  | .hbm, ⟨17, _⟩ => ⟨S2x256x256, .f32⟩
  | .hbm, ⟨18, _⟩ => ⟨S2x256x256, .f32⟩
  | .hbm, ⟨19, _⟩ => ⟨S_, .f32⟩
  | .hbm, ⟨20, _⟩ => ⟨S2x256x256, .f32⟩
  | .hbm, ⟨21, _⟩ => ⟨S2x256x256, .f32⟩
  | .hbm, ⟨22, _⟩ => ⟨S_, .f32⟩
  | .hbm, ⟨23, _⟩ => ⟨S2x256x256, .f32⟩
  | .hbm, ⟨24, _⟩ => ⟨S2x256x256, .f32⟩
  | .hbm, ⟨25, _⟩ => ⟨S2x256x256, .f32⟩
  | .hbm, ⟨26, _⟩ => ⟨S_, .f32⟩
  | .hbm, ⟨27, _⟩ => ⟨S2x256x256, .f32⟩
  | .hbm, ⟨28, _⟩ => ⟨S2x256x256, .f32⟩
  | .hbm, ⟨29, _⟩ => ⟨S2x256x256, .f32⟩
  | .hbm, ⟨30, _⟩ => ⟨S_, .f32⟩
  | .hbm, ⟨31, _⟩ => ⟨S2x256x256, .f32⟩
  | .hbm, ⟨32, _⟩ => ⟨S2x256x256, .f32⟩
  | .hbm, ⟨33, _⟩ => ⟨S2x256x256, .f32⟩
  | .hbm, ⟨34, _⟩ => ⟨S_, .f32⟩
  | .hbm, ⟨35, _⟩ => ⟨S2x256x256, .f32⟩
  | .hbm, ⟨36, _⟩ => ⟨S2x256x256, .f32⟩
  | _, _ => ⟨S2x256x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩

abbrev nD : Nat := 1
abbrev τ : Topo := Topo.v7x

variable {F : FTy → Type} [FloatOps F]
-- ==== Kernel8.lean ====
abbrev S2x1024x768 : Shape := ⟨3, ![2, 1024, 768]⟩
abbrev S1x512x768 : Shape := ⟨3, ![1, 512, 768]⟩

abbrev nBuf : Space → Nat
  | .hbm => 8
  | .vmem => 16
  | .smem => 0
  | _ => 0

abbrev bufTy : (tb : Table) → Fin (tcTables nBuf tb) → BufTy
  | .hbm, ⟨0, _⟩ => ⟨S2x1024x768, .f32⟩
  | .hbm, ⟨1, _⟩ => ⟨S2x1024x768, .f32⟩
  | .hbm, ⟨2, _⟩ => ⟨S2x1024x768, .f32⟩
  | .hbm, ⟨3, _⟩ => ⟨S2x1024x768, .f32⟩
  | .hbm, ⟨4, _⟩ => ⟨S2x1024x768, .f32⟩
  | .hbm, ⟨5, _⟩ => ⟨S2x1024x768, .f32⟩
  | .hbm, ⟨6, _⟩ => ⟨S2x1024x768, .f32⟩
  | .hbm, ⟨7, _⟩ => ⟨S2x1024x768, .f32⟩
  | .local _ .vmem, ⟨0, _⟩ => ⟨S1x512x768, .f32⟩
  | .local _ .vmem, ⟨1, _⟩ => ⟨S1x512x768, .f32⟩
  | .local _ .vmem, ⟨2, _⟩ => ⟨S1x512x768, .f32⟩
  | .local _ .vmem, ⟨3, _⟩ => ⟨S1x512x768, .f32⟩
  | .local _ .vmem, ⟨4, _⟩ => ⟨S1x512x768, .f32⟩
  | .local _ .vmem, ⟨5, _⟩ => ⟨S1x512x768, .f32⟩
  | .local _ .vmem, ⟨6, _⟩ => ⟨S1x512x768, .f32⟩
  | .local _ .vmem, ⟨7, _⟩ => ⟨S1x512x768, .f32⟩
  | .local _ .vmem, ⟨8, _⟩ => ⟨S1x512x768, .f32⟩
  | .local _ .vmem, ⟨9, _⟩ => ⟨S1x512x768, .f32⟩
  | .local _ .vmem, ⟨10, _⟩ => ⟨S1x512x768, .f32⟩
  | .local _ .vmem, ⟨11, _⟩ => ⟨S1x512x768, .f32⟩
  | .local _ .vmem, ⟨12, _⟩ => ⟨S1x512x768, .f32⟩
  | .local _ .vmem, ⟨13, _⟩ => ⟨S1x512x768, .f32⟩
  | .local _ .vmem, ⟨14, _⟩ => ⟨S1x512x768, .f32⟩
  | .local _ .vmem, ⟨15, _⟩ => ⟨S1x512x768, .f32⟩
  | _, _ => ⟨S2x1024x768, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev main_v0_3 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15

abbrev nD : Nat := 1
abbrev τ : Topo := Topo.v7x

variable {F : FTy → Type} [FloatOps F]

abbrev grid0 : Pipeline.Grid := ⟨2, ![2, 2], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x512x768 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x512x768 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x512x768 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x512x768 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x512x768 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x512x768 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1x512x768 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S1x512x768 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]
-- ==== Reference8Ideal.lean ====
abbrev S2x1024x768 : Shape := ⟨3, ![2, 1024, 768]⟩
abbrev S_ : Shape := ⟨0, ![]⟩

abbrev nBuf : Space → Nat
  | .hbm => 37
  | .vmem => 0
  | .smem => 0
  | _ => 0

abbrev bufTy : (tb : Table) → Fin (tcTables nBuf tb) → BufTy
  | .hbm, ⟨0, _⟩ => ⟨S2x1024x768, .f32⟩
  | .hbm, ⟨1, _⟩ => ⟨S2x1024x768, .f32⟩
  | .hbm, ⟨2, _⟩ => ⟨S2x1024x768, .f32⟩
  | .hbm, ⟨3, _⟩ => ⟨S2x1024x768, .f32⟩
  | .hbm, ⟨4, _⟩ => ⟨S_, .f32⟩
  | .hbm, ⟨5, _⟩ => ⟨S2x1024x768, .f32⟩
  | .hbm, ⟨6, _⟩ => ⟨S2x1024x768, .f32⟩
  | .hbm, ⟨7, _⟩ => ⟨S_, .f32⟩
  | .hbm, ⟨8, _⟩ => ⟨S2x1024x768, .f32⟩
  | .hbm, ⟨9, _⟩ => ⟨S2x1024x768, .f32⟩
  | .hbm, ⟨10, _⟩ => ⟨S2x1024x768, .f32⟩
  | .hbm, ⟨11, _⟩ => ⟨S_, .f32⟩
  | .hbm, ⟨12, _⟩ => ⟨S2x1024x768, .f32⟩
  | .hbm, ⟨13, _⟩ => ⟨S2x1024x768, .f32⟩
  | .hbm, ⟨14, _⟩ => ⟨S2x1024x768, .f32⟩
  | .hbm, ⟨15, _⟩ => ⟨S_, .f32⟩
  | .hbm, ⟨16, _⟩ => ⟨S2x1024x768, .f32⟩
  | .hbm, ⟨17, _⟩ => ⟨S2x1024x768, .f32⟩
  | .hbm, ⟨18, _⟩ => ⟨S2x1024x768, .f32⟩
  | .hbm, ⟨19, _⟩ => ⟨S_, .f32⟩
  | .hbm, ⟨20, _⟩ => ⟨S2x1024x768, .f32⟩
  | .hbm, ⟨21, _⟩ => ⟨S2x1024x768, .f32⟩
  | .hbm, ⟨22, _⟩ => ⟨S_, .f32⟩
  | .hbm, ⟨23, _⟩ => ⟨S2x1024x768, .f32⟩
  | .hbm, ⟨24, _⟩ => ⟨S2x1024x768, .f32⟩
  | .hbm, ⟨25, _⟩ => ⟨S2x1024x768, .f32⟩
  | .hbm, ⟨26, _⟩ => ⟨S_, .f32⟩
  | .hbm, ⟨27, _⟩ => ⟨S2x1024x768, .f32⟩
  | .hbm, ⟨28, _⟩ => ⟨S2x1024x768, .f32⟩
  | .hbm, ⟨29, _⟩ => ⟨S2x1024x768, .f32⟩
  | .hbm, ⟨30, _⟩ => ⟨S_, .f32⟩
  | .hbm, ⟨31, _⟩ => ⟨S2x1024x768, .f32⟩
  | .hbm, ⟨32, _⟩ => ⟨S2x1024x768, .f32⟩
  | .hbm, ⟨33, _⟩ => ⟨S2x1024x768, .f32⟩
  | .hbm, ⟨34, _⟩ => ⟨S_, .f32⟩
  | .hbm, ⟨35, _⟩ => ⟨S2x1024x768, .f32⟩
  | .hbm, ⟨36, _⟩ => ⟨S2x1024x768, .f32⟩
  | _, _ => ⟨S2x1024x768, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩

abbrev nD : Nat := 1
abbrev τ : Topo := Topo.v7x

variable {F : FTy → Type} [FloatOps F]
-- ==== Kernel9.lean ====
abbrev S2x384x1024 : Shape := ⟨3, ![2, 384, 1024]⟩
abbrev S1x384x1024 : Shape := ⟨3, ![1, 384, 1024]⟩

abbrev nBuf : Space → Nat
  | .hbm => 8
  | .vmem => 16
  | .smem => 0
  | _ => 0

abbrev bufTy : (tb : Table) → Fin (tcTables nBuf tb) → BufTy
  | .hbm, ⟨0, _⟩ => ⟨S2x384x1024, .f32⟩
  | .hbm, ⟨1, _⟩ => ⟨S2x384x1024, .f32⟩
  | .hbm, ⟨2, _⟩ => ⟨S2x384x1024, .f32⟩
  | .hbm, ⟨3, _⟩ => ⟨S2x384x1024, .f32⟩
  | .hbm, ⟨4, _⟩ => ⟨S2x384x1024, .f32⟩
  | .hbm, ⟨5, _⟩ => ⟨S2x384x1024, .f32⟩
  | .hbm, ⟨6, _⟩ => ⟨S2x384x1024, .f32⟩
  | .hbm, ⟨7, _⟩ => ⟨S2x384x1024, .f32⟩
  | .local _ .vmem, ⟨0, _⟩ => ⟨S1x384x1024, .f32⟩
  | .local _ .vmem, ⟨1, _⟩ => ⟨S1x384x1024, .f32⟩
  | .local _ .vmem, ⟨2, _⟩ => ⟨S1x384x1024, .f32⟩
  | .local _ .vmem, ⟨3, _⟩ => ⟨S1x384x1024, .f32⟩
  | .local _ .vmem, ⟨4, _⟩ => ⟨S1x384x1024, .f32⟩
  | .local _ .vmem, ⟨5, _⟩ => ⟨S1x384x1024, .f32⟩
  | .local _ .vmem, ⟨6, _⟩ => ⟨S1x384x1024, .f32⟩
  | .local _ .vmem, ⟨7, _⟩ => ⟨S1x384x1024, .f32⟩
  | .local _ .vmem, ⟨8, _⟩ => ⟨S1x384x1024, .f32⟩
  | .local _ .vmem, ⟨9, _⟩ => ⟨S1x384x1024, .f32⟩
  | .local _ .vmem, ⟨10, _⟩ => ⟨S1x384x1024, .f32⟩
  | .local _ .vmem, ⟨11, _⟩ => ⟨S1x384x1024, .f32⟩
  | .local _ .vmem, ⟨12, _⟩ => ⟨S1x384x1024, .f32⟩
  | .local _ .vmem, ⟨13, _⟩ => ⟨S1x384x1024, .f32⟩
  | .local _ .vmem, ⟨14, _⟩ => ⟨S1x384x1024, .f32⟩
  | .local _ .vmem, ⟨15, _⟩ => ⟨S1x384x1024, .f32⟩
  | _, _ => ⟨S2x384x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev main_v0_3 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15

abbrev nD : Nat := 1
abbrev τ : Topo := Topo.v7x

variable {F : FTy → Type} [FloatOps F]

abbrev grid0 : Pipeline.Grid := ⟨2, ![2, 1], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x384x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x384x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x384x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x384x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x384x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x384x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1x384x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S1x384x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]
-- ==== Reference9Ideal.lean ====
abbrev S2x384x1024 : Shape := ⟨3, ![2, 384, 1024]⟩
abbrev S_ : Shape := ⟨0, ![]⟩

abbrev nBuf : Space → Nat
  | .hbm => 37
  | .vmem => 0
  | .smem => 0
  | _ => 0

abbrev bufTy : (tb : Table) → Fin (tcTables nBuf tb) → BufTy
  | .hbm, ⟨0, _⟩ => ⟨S2x384x1024, .f32⟩
  | .hbm, ⟨1, _⟩ => ⟨S2x384x1024, .f32⟩
  | .hbm, ⟨2, _⟩ => ⟨S2x384x1024, .f32⟩
  | .hbm, ⟨3, _⟩ => ⟨S2x384x1024, .f32⟩
  | .hbm, ⟨4, _⟩ => ⟨S_, .f32⟩
  | .hbm, ⟨5, _⟩ => ⟨S2x384x1024, .f32⟩
  | .hbm, ⟨6, _⟩ => ⟨S2x384x1024, .f32⟩
  | .hbm, ⟨7, _⟩ => ⟨S_, .f32⟩
  | .hbm, ⟨8, _⟩ => ⟨S2x384x1024, .f32⟩
  | .hbm, ⟨9, _⟩ => ⟨S2x384x1024, .f32⟩
  | .hbm, ⟨10, _⟩ => ⟨S2x384x1024, .f32⟩
  | .hbm, ⟨11, _⟩ => ⟨S_, .f32⟩
  | .hbm, ⟨12, _⟩ => ⟨S2x384x1024, .f32⟩
  | .hbm, ⟨13, _⟩ => ⟨S2x384x1024, .f32⟩
  | .hbm, ⟨14, _⟩ => ⟨S2x384x1024, .f32⟩
  | .hbm, ⟨15, _⟩ => ⟨S_, .f32⟩
  | .hbm, ⟨16, _⟩ => ⟨S2x384x1024, .f32⟩
  | .hbm, ⟨17, _⟩ => ⟨S2x384x1024, .f32⟩
  | .hbm, ⟨18, _⟩ => ⟨S2x384x1024, .f32⟩
  | .hbm, ⟨19, _⟩ => ⟨S_, .f32⟩
  | .hbm, ⟨20, _⟩ => ⟨S2x384x1024, .f32⟩
  | .hbm, ⟨21, _⟩ => ⟨S2x384x1024, .f32⟩
  | .hbm, ⟨22, _⟩ => ⟨S_, .f32⟩
  | .hbm, ⟨23, _⟩ => ⟨S2x384x1024, .f32⟩
  | .hbm, ⟨24, _⟩ => ⟨S2x384x1024, .f32⟩
  | .hbm, ⟨25, _⟩ => ⟨S2x384x1024, .f32⟩
  | .hbm, ⟨26, _⟩ => ⟨S_, .f32⟩
  | .hbm, ⟨27, _⟩ => ⟨S2x384x1024, .f32⟩
  | .hbm, ⟨28, _⟩ => ⟨S2x384x1024, .f32⟩
  | .hbm, ⟨29, _⟩ => ⟨S2x384x1024, .f32⟩
  | .hbm, ⟨30, _⟩ => ⟨S_, .f32⟩
  | .hbm, ⟨31, _⟩ => ⟨S2x384x1024, .f32⟩
  | .hbm, ⟨32, _⟩ => ⟨S2x384x1024, .f32⟩
  | .hbm, ⟨33, _⟩ => ⟨S2x384x1024, .f32⟩
  | .hbm, ⟨34, _⟩ => ⟨S_, .f32⟩
  | .hbm, ⟨35, _⟩ => ⟨S2x384x1024, .f32⟩
  | .hbm, ⟨36, _⟩ => ⟨S2x384x1024, .f32⟩
  | _, _ => ⟨S2x384x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩

abbrev nD : Nat := 1
abbrev τ : Topo := Topo.v7x

variable {F : FTy → Type} [FloatOps F]
-- ==== Kernel10.lean ====
abbrev S2x1536x128 : Shape := ⟨3, ![2, 1536, 128]⟩
abbrev S1x1536x128 : Shape := ⟨3, ![1, 1536, 128]⟩

abbrev nBuf : Space → Nat
  | .hbm => 8
  | .vmem => 16
  | .smem => 0
  | _ => 0

abbrev bufTy : (tb : Table) → Fin (tcTables nBuf tb) → BufTy
  | .hbm, ⟨0, _⟩ => ⟨S2x1536x128, .f32⟩
  | .hbm, ⟨1, _⟩ => ⟨S2x1536x128, .f32⟩
  | .hbm, ⟨2, _⟩ => ⟨S2x1536x128, .f32⟩
  | .hbm, ⟨3, _⟩ => ⟨S2x1536x128, .f32⟩
  | .hbm, ⟨4, _⟩ => ⟨S2x1536x128, .f32⟩
  | .hbm, ⟨5, _⟩ => ⟨S2x1536x128, .f32⟩
  | .hbm, ⟨6, _⟩ => ⟨S2x1536x128, .f32⟩
  | .hbm, ⟨7, _⟩ => ⟨S2x1536x128, .f32⟩
  | .local _ .vmem, ⟨0, _⟩ => ⟨S1x1536x128, .f32⟩
  | .local _ .vmem, ⟨1, _⟩ => ⟨S1x1536x128, .f32⟩
  | .local _ .vmem, ⟨2, _⟩ => ⟨S1x1536x128, .f32⟩
  | .local _ .vmem, ⟨3, _⟩ => ⟨S1x1536x128, .f32⟩
  | .local _ .vmem, ⟨4, _⟩ => ⟨S1x1536x128, .f32⟩
  | .local _ .vmem, ⟨5, _⟩ => ⟨S1x1536x128, .f32⟩
  | .local _ .vmem, ⟨6, _⟩ => ⟨S1x1536x128, .f32⟩
  | .local _ .vmem, ⟨7, _⟩ => ⟨S1x1536x128, .f32⟩
  | .local _ .vmem, ⟨8, _⟩ => ⟨S1x1536x128, .f32⟩
  | .local _ .vmem, ⟨9, _⟩ => ⟨S1x1536x128, .f32⟩
  | .local _ .vmem, ⟨10, _⟩ => ⟨S1x1536x128, .f32⟩
  | .local _ .vmem, ⟨11, _⟩ => ⟨S1x1536x128, .f32⟩
  | .local _ .vmem, ⟨12, _⟩ => ⟨S1x1536x128, .f32⟩
  | .local _ .vmem, ⟨13, _⟩ => ⟨S1x1536x128, .f32⟩
  | .local _ .vmem, ⟨14, _⟩ => ⟨S1x1536x128, .f32⟩
  | .local _ .vmem, ⟨15, _⟩ => ⟨S1x1536x128, .f32⟩
  | _, _ => ⟨S2x1536x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev main_v0_3 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15

abbrev nD : Nat := 1
abbrev τ : Topo := Topo.v7x

variable {F : FTy → Type} [FloatOps F]

abbrev grid0 : Pipeline.Grid := ⟨2, ![2, 1], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x1536x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x1536x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x1536x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x1536x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x1536x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x1536x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1x1536x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S1x1536x128 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]
-- ==== Reference10Ideal.lean ====
abbrev S2x1536x128 : Shape := ⟨3, ![2, 1536, 128]⟩
abbrev S_ : Shape := ⟨0, ![]⟩

abbrev nBuf : Space → Nat
  | .hbm => 37
  | .vmem => 0
  | .smem => 0
  | _ => 0

abbrev bufTy : (tb : Table) → Fin (tcTables nBuf tb) → BufTy
  | .hbm, ⟨0, _⟩ => ⟨S2x1536x128, .f32⟩
  | .hbm, ⟨1, _⟩ => ⟨S2x1536x128, .f32⟩
  | .hbm, ⟨2, _⟩ => ⟨S2x1536x128, .f32⟩
  | .hbm, ⟨3, _⟩ => ⟨S2x1536x128, .f32⟩
  | .hbm, ⟨4, _⟩ => ⟨S_, .f32⟩
  | .hbm, ⟨5, _⟩ => ⟨S2x1536x128, .f32⟩
  | .hbm, ⟨6, _⟩ => ⟨S2x1536x128, .f32⟩
  | .hbm, ⟨7, _⟩ => ⟨S_, .f32⟩
  | .hbm, ⟨8, _⟩ => ⟨S2x1536x128, .f32⟩
  | .hbm, ⟨9, _⟩ => ⟨S2x1536x128, .f32⟩
  | .hbm, ⟨10, _⟩ => ⟨S2x1536x128, .f32⟩
  | .hbm, ⟨11, _⟩ => ⟨S_, .f32⟩
  | .hbm, ⟨12, _⟩ => ⟨S2x1536x128, .f32⟩
  | .hbm, ⟨13, _⟩ => ⟨S2x1536x128, .f32⟩
  | .hbm, ⟨14, _⟩ => ⟨S2x1536x128, .f32⟩
  | .hbm, ⟨15, _⟩ => ⟨S_, .f32⟩
  | .hbm, ⟨16, _⟩ => ⟨S2x1536x128, .f32⟩
  | .hbm, ⟨17, _⟩ => ⟨S2x1536x128, .f32⟩
  | .hbm, ⟨18, _⟩ => ⟨S2x1536x128, .f32⟩
  | .hbm, ⟨19, _⟩ => ⟨S_, .f32⟩
  | .hbm, ⟨20, _⟩ => ⟨S2x1536x128, .f32⟩
  | .hbm, ⟨21, _⟩ => ⟨S2x1536x128, .f32⟩
  | .hbm, ⟨22, _⟩ => ⟨S_, .f32⟩
  | .hbm, ⟨23, _⟩ => ⟨S2x1536x128, .f32⟩
  | .hbm, ⟨24, _⟩ => ⟨S2x1536x128, .f32⟩
  | .hbm, ⟨25, _⟩ => ⟨S2x1536x128, .f32⟩
  | .hbm, ⟨26, _⟩ => ⟨S_, .f32⟩
  | .hbm, ⟨27, _⟩ => ⟨S2x1536x128, .f32⟩
  | .hbm, ⟨28, _⟩ => ⟨S2x1536x128, .f32⟩
  | .hbm, ⟨29, _⟩ => ⟨S2x1536x128, .f32⟩
  | .hbm, ⟨30, _⟩ => ⟨S_, .f32⟩
  | .hbm, ⟨31, _⟩ => ⟨S2x1536x128, .f32⟩
  | .hbm, ⟨32, _⟩ => ⟨S2x1536x128, .f32⟩
  | .hbm, ⟨33, _⟩ => ⟨S2x1536x128, .f32⟩
  | .hbm, ⟨34, _⟩ => ⟨S_, .f32⟩
  | .hbm, ⟨35, _⟩ => ⟨S2x1536x128, .f32⟩
  | .hbm, ⟨36, _⟩ => ⟨S2x1536x128, .f32⟩
  | _, _ => ⟨S2x1536x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩

abbrev nD : Nat := 1
abbrev τ : Topo := Topo.v7x

variable {F : FTy → Type} [FloatOps F]
-- ==== Kernel11.lean ====
abbrev S1x320x128 : Shape := ⟨3, ![1, 320, 128]⟩

abbrev nBuf : Space → Nat
  | .hbm => 8
  | .vmem => 8
  | .smem => 0
  | _ => 0

abbrev bufTy : (tb : Table) → Fin (tcTables nBuf tb) → BufTy
  | .hbm, ⟨0, _⟩ => ⟨S1x320x128, .f32⟩
  | .hbm, ⟨1, _⟩ => ⟨S1x320x128, .f32⟩
  | .hbm, ⟨2, _⟩ => ⟨S1x320x128, .f32⟩
  | .hbm, ⟨3, _⟩ => ⟨S1x320x128, .f32⟩
  | .hbm, ⟨4, _⟩ => ⟨S1x320x128, .f32⟩
  | .hbm, ⟨5, _⟩ => ⟨S1x320x128, .f32⟩
  | .hbm, ⟨6, _⟩ => ⟨S1x320x128, .f32⟩
  | .hbm, ⟨7, _⟩ => ⟨S1x320x128, .f32⟩
  | .local _ .vmem, ⟨0, _⟩ => ⟨S1x320x128, .f32⟩
  | .local _ .vmem, ⟨1, _⟩ => ⟨S1x320x128, .f32⟩
  | .local _ .vmem, ⟨2, _⟩ => ⟨S1x320x128, .f32⟩
  | .local _ .vmem, ⟨3, _⟩ => ⟨S1x320x128, .f32⟩
  | .local _ .vmem, ⟨4, _⟩ => ⟨S1x320x128, .f32⟩
  | .local _ .vmem, ⟨5, _⟩ => ⟨S1x320x128, .f32⟩
  | .local _ .vmem, ⟨6, _⟩ => ⟨S1x320x128, .f32⟩
  | .local _ .vmem, ⟨7, _⟩ => ⟨S1x320x128, .f32⟩
  | _, _ => ⟨S1x320x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev main_v0_3 : Ref sig .tc := ⟨.hbm, 7, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7

abbrev nD : Nat := 1
abbrev τ : Topo := Topo.v7x

variable {F : FTy → Type} [FloatOps F]

abbrev grid0 : Pipeline.Grid := ⟨2, ![1, 1], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 1 → Memref sig .tc .vmem S1x320x128 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true, true]

abbrev stage0_1 : Fin 1 → Memref sig .tc .vmem S1x320x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true, true]

abbrev stage0_2 : Fin 1 → Memref sig .tc .vmem S1x320x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, true]

abbrev stage0_3 : Fin 1 → Memref sig .tc .vmem S1x320x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true, true]

abbrev stage0_4 : Fin 1 → Memref sig .tc .vmem S1x320x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true, true]

abbrev stage0_5 : Fin 1 → Memref sig .tc .vmem S1x320x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true, true]

abbrev stage0_6 : Fin 1 → Memref sig .tc .vmem S1x320x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true, true]

abbrev stage0_7 : Fin 1 → Memref sig .tc .vmem S1x320x128 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![true, true]
-- ==== Reference11Ideal.lean ====
abbrev S1x320x128 : Shape := ⟨3, ![1, 320, 128]⟩
abbrev S_ : Shape := ⟨0, ![]⟩

abbrev nBuf : Space → Nat
  | .hbm => 37
  | .vmem => 0
  | .smem => 0
  | _ => 0

abbrev bufTy : (tb : Table) → Fin (tcTables nBuf tb) → BufTy
  | .hbm, ⟨0, _⟩ => ⟨S1x320x128, .f32⟩
  | .hbm, ⟨1, _⟩ => ⟨S1x320x128, .f32⟩
  | .hbm, ⟨2, _⟩ => ⟨S1x320x128, .f32⟩
  | .hbm, ⟨3, _⟩ => ⟨S1x320x128, .f32⟩
  | .hbm, ⟨4, _⟩ => ⟨S_, .f32⟩
  | .hbm, ⟨5, _⟩ => ⟨S1x320x128, .f32⟩
  | .hbm, ⟨6, _⟩ => ⟨S1x320x128, .f32⟩
  | .hbm, ⟨7, _⟩ => ⟨S_, .f32⟩
  | .hbm, ⟨8, _⟩ => ⟨S1x320x128, .f32⟩
  | .hbm, ⟨9, _⟩ => ⟨S1x320x128, .f32⟩
  | .hbm, ⟨10, _⟩ => ⟨S1x320x128, .f32⟩
  | .hbm, ⟨11, _⟩ => ⟨S_, .f32⟩
  | .hbm, ⟨12, _⟩ => ⟨S1x320x128, .f32⟩
  | .hbm, ⟨13, _⟩ => ⟨S1x320x128, .f32⟩
  | .hbm, ⟨14, _⟩ => ⟨S1x320x128, .f32⟩
  | .hbm, ⟨15, _⟩ => ⟨S_, .f32⟩
  | .hbm, ⟨16, _⟩ => ⟨S1x320x128, .f32⟩
  | .hbm, ⟨17, _⟩ => ⟨S1x320x128, .f32⟩
  | .hbm, ⟨18, _⟩ => ⟨S1x320x128, .f32⟩
  | .hbm, ⟨19, _⟩ => ⟨S_, .f32⟩
  | .hbm, ⟨20, _⟩ => ⟨S1x320x128, .f32⟩
  | .hbm, ⟨21, _⟩ => ⟨S1x320x128, .f32⟩
  | .hbm, ⟨22, _⟩ => ⟨S_, .f32⟩
  | .hbm, ⟨23, _⟩ => ⟨S1x320x128, .f32⟩
  | .hbm, ⟨24, _⟩ => ⟨S1x320x128, .f32⟩
  | .hbm, ⟨25, _⟩ => ⟨S1x320x128, .f32⟩
  | .hbm, ⟨26, _⟩ => ⟨S_, .f32⟩
  | .hbm, ⟨27, _⟩ => ⟨S1x320x128, .f32⟩
  | .hbm, ⟨28, _⟩ => ⟨S1x320x128, .f32⟩
  | .hbm, ⟨29, _⟩ => ⟨S1x320x128, .f32⟩
  | .hbm, ⟨30, _⟩ => ⟨S_, .f32⟩
  | .hbm, ⟨31, _⟩ => ⟨S1x320x128, .f32⟩
  | .hbm, ⟨32, _⟩ => ⟨S1x320x128, .f32⟩
  | .hbm, ⟨33, _⟩ => ⟨S1x320x128, .f32⟩
  | .hbm, ⟨34, _⟩ => ⟨S_, .f32⟩
  | .hbm, ⟨35, _⟩ => ⟨S1x320x128, .f32⟩
  | .hbm, ⟨36, _⟩ => ⟨S1x320x128, .f32⟩
  | _, _ => ⟨S1x320x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩

abbrev nD : Nat := 1
abbrev τ : Topo := Topo.v7x

variable {F : FTy → Type} [FloatOps F]
-- ==== Kernel12.lean ====
abbrev S2048x1024 : Shape := ⟨2, ![2048, 1024]⟩
abbrev S2x1x1024 : Shape := ⟨3, ![2, 1, 1024]⟩
abbrev S1x4x1024x1280 : Shape := ⟨4, ![1, 4, 1024, 1280]⟩
abbrev S8x128 : Shape := ⟨2, ![8, 128]⟩
abbrev S2048x5120 : Shape := ⟨2, ![2048, 5120]⟩
abbrev S1024x1024 : Shape := ⟨2, ![1024, 1024]⟩
abbrev S1x1x1024 : Shape := ⟨3, ![1, 1, 1024]⟩
abbrev S1x1x1024x1280 : Shape := ⟨4, ![1, 1, 1024, 1280]⟩
abbrev S1024x1280 : Shape := ⟨2, ![1024, 1280]⟩
abbrev S2x1024x1024 : Shape := ⟨3, ![2, 1024, 1024]⟩
abbrev S1024 : Shape := ⟨1, ![1024]⟩
abbrev S1024x1 : Shape := ⟨2, ![1024, 1]⟩
abbrev S1x1024 : Shape := ⟨2, ![1, 1024]⟩
abbrev S1x1024x1024 : Shape := ⟨3, ![1, 1024, 1024]⟩

abbrev nBuf : Space → Nat
  | .hbm => 6
  | .vmem => 11
  | .smem => 0
  | _ => 0

abbrev bufTy : (tb : Table) → Fin (tcTables nBuf tb) → BufTy
  | .hbm, ⟨0, _⟩ => ⟨S2048x1024, .f32⟩
  | .hbm, ⟨1, _⟩ => ⟨S2x1x1024, .f32⟩
  | .hbm, ⟨2, _⟩ => ⟨S1x4x1024x1280, .bf16⟩
  | .hbm, ⟨3, _⟩ => ⟨S8x128, .f32⟩
  | .hbm, ⟨4, _⟩ => ⟨S2048x5120, .f32⟩
  | .hbm, ⟨5, _⟩ => ⟨S2048x1024, .bf16⟩
  | .local _ .vmem, ⟨0, _⟩ => ⟨S1024x1024, .f32⟩
  | .local _ .vmem, ⟨1, _⟩ => ⟨S1024x1024, .f32⟩
  | .local _ .vmem, ⟨2, _⟩ => ⟨S1x1x1024, .f32⟩
  | .local _ .vmem, ⟨3, _⟩ => ⟨S1x1x1024x1280, .bf16⟩
  | .local _ .vmem, ⟨4, _⟩ => ⟨S1x1x1024x1280, .bf16⟩
  | .local _ .vmem, ⟨5, _⟩ => ⟨S8x128, .f32⟩
  | .local _ .vmem, ⟨6, _⟩ => ⟨S1024x1280, .f32⟩
  | .local _ .vmem, ⟨7, _⟩ => ⟨S1024x1280, .f32⟩
  | .local _ .vmem, ⟨8, _⟩ => ⟨S1024x1024, .bf16⟩
  | .local _ .vmem, ⟨9, _⟩ => ⟨S1024x1024, .bf16⟩
  | .local _ .vmem, ⟨10, _⟩ => ⟨S2x1024x1024, .bf16⟩
  | _, _ => ⟨S2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_scratch0 : Ref sig .tc := ⟨.vmem, 10, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem4_0 : DmaSem sig := 6
abbrev cc0_sem4_1 : DmaSem sig := 7
abbrev cc0_sem5_0 : DmaSem sig := 8
abbrev cc0_sem5_1 : DmaSem sig := 9

abbrev nD : Nat := 1
abbrev τ : Topo := Topo.v7x

variable {F : FTy → Type} [FloatOps F]

abbrev grid0 : Pipeline.Grid := ⟨2, ![4, 2], ![false, false]⟩

def k0_cond1 (i : grid0.Coords) : BitVec 1 :=
  let arg0 : BitVec 32 := BitVec.ofNat 32 (i 0).val
  let c0_i32 : BitVec 32 := 0#32
  let v0 : BitVec 1 := Scalar.cmpi .eq arg0 c0_i32
  let v1 : BitVec 32 := Scalar.extui v0
  let c0_i32_0 : BitVec 32 := 0#32
  let v2 : BitVec 1 := Scalar.cmpi .ne v1 c0_i32_0
  v2

def k0_off1 (i : grid0.Coords) : Fin 3 → Nat :=
  let arg1 : BitVec 32 := BitVec.ofNat 32 (i 1).val
  let v27 : Index := Scalar.indexCast arg1
  let c0_18 : Index := 0#32
  let c0_19 : Index := 0#32
  ![v27.toNat, 0, 0]
def k0_off2 (i : grid0.Coords) : Fin 3 → Nat :=
  let arg1 : BitVec 32 := BitVec.ofNat 32 (i 1).val
  let v3 : Index := Scalar.indexCast arg1
  let c0 : Index := 0#32
  let c0_1 : Index := 0#32
  ![v3.toNat, 0, 0]
def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 1 := Scalar.cmpi .eq arg0 c0_i32
  let c1_i32 : BitVec 32 := 1#32
  let v1 : BitVec 32 := Scalar.select v0 arg1 c1_i32
  let c0_i32_0 : BitVec 32 := 0#32
  let c0_i32_1 : BitVec 32 := 0#32
  ![v1.toNat, c0_i32_0.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_2 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, arg0.toNat, c0_i32_0.toNat, c0_i32_1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 1 := Scalar.cmpi .eq arg0 c0_i32
  let c1_i32 : BitVec 32 := 1#32
  let v1 : BitVec 32 := Scalar.select v0 arg1 c1_i32
  let c0_i32_0 : BitVec 32 := 0#32
  let c0_i32_1 : BitVec 32 := 0#32
  ![v1.toNat, c0_i32_0.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 1 → Memref sig .tc .vmem S1x1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S1x1x1024x1280 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 1 → Memref sig .tc .vmem S8x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 2 → Memref sig .tc .vmem S1024x1280 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1024x1024 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]
-- ==== Reference12Ideal.lean ====
abbrev S2048x1024 : Shape := ⟨2, ![2048, 1024]⟩
abbrev S2x1x1024 : Shape := ⟨3, ![2, 1, 1024]⟩
abbrev S1x4x1024x1280 : Shape := ⟨4, ![1, 4, 1024, 1280]⟩
abbrev S8x128 : Shape := ⟨2, ![8, 128]⟩
abbrev S1x1x1024 : Shape := ⟨3, ![1, 1, 1024]⟩
abbrev S1x1024 : Shape := ⟨2, ![1, 1024]⟩
abbrev S_ : Shape := ⟨0, ![]⟩
abbrev S2048 : Shape := ⟨1, ![2048]⟩
abbrev S2048x1 : Shape := ⟨2, ![2048, 1]⟩
abbrev S4x1024x1280 : Shape := ⟨3, ![4, 1024, 1280]⟩
abbrev S1024x4x1280 : Shape := ⟨3, ![1024, 4, 1280]⟩
abbrev S1024x5120 : Shape := ⟨2, ![1024, 5120]⟩
abbrev S2048x5120 : Shape := ⟨2, ![2048, 5120]⟩

abbrev nBuf : Space → Nat
  | .hbm => 44
  | .vmem => 0
  | .smem => 0
  | _ => 0

abbrev bufTy : (tb : Table) → Fin (tcTables nBuf tb) → BufTy
  | .hbm, ⟨0, _⟩ => ⟨S2048x1024, .f32⟩
  | .hbm, ⟨1, _⟩ => ⟨S2x1x1024, .f32⟩
  | .hbm, ⟨2, _⟩ => ⟨S1x4x1024x1280, .bf16⟩
  | .hbm, ⟨3, _⟩ => ⟨S8x128, .f32⟩
  | .hbm, ⟨4, _⟩ => ⟨S1x1x1024, .f32⟩
  | .hbm, ⟨5, _⟩ => ⟨S1x1024, .f32⟩
  | .hbm, ⟨6, _⟩ => ⟨S2048x1024, .f32⟩
  | .hbm, ⟨7, _⟩ => ⟨S_, .f32⟩
  | .hbm, ⟨8, _⟩ => ⟨S2048, .f32⟩
  | .hbm, ⟨9, _⟩ => ⟨S2048x1, .f32⟩
  | .hbm, ⟨10, _⟩ => ⟨S_, .f32⟩
  | .hbm, ⟨11, _⟩ => ⟨S2048x1, .f32⟩
  | .hbm, ⟨12, _⟩ => ⟨S2048x1, .f32⟩
  | .hbm, ⟨13, _⟩ => ⟨S_, .f32⟩
  | .hbm, ⟨14, _⟩ => ⟨S2048x1, .f32⟩
  | .hbm, ⟨15, _⟩ => ⟨S2048x1, .f32⟩
  | .hbm, ⟨16, _⟩ => ⟨S2048x1, .f32⟩
  | .hbm, ⟨17, _⟩ => ⟨S2048x1024, .f32⟩
  | .hbm, ⟨18, _⟩ => ⟨S2048x1024, .f32⟩
  | .hbm, ⟨19, _⟩ => ⟨S2048x1024, .f32⟩
  | .hbm, ⟨20, _⟩ => ⟨S2048x1024, .f32⟩
  | .hbm, ⟨21, _⟩ => ⟨S4x1024x1280, .bf16⟩
  | .hbm, ⟨22, _⟩ => ⟨S1024x4x1280, .bf16⟩
  | .hbm, ⟨23, _⟩ => ⟨S1024x5120, .bf16⟩
  | .hbm, ⟨24, _⟩ => ⟨S1024x5120, .f32⟩
  | .hbm, ⟨25, _⟩ => ⟨S2048x5120, .f32⟩
  | .hbm, ⟨26, _⟩ => ⟨S1x1x1024, .f32⟩
  | .hbm, ⟨27, _⟩ => ⟨S1x1024, .f32⟩
  | .hbm, ⟨28, _⟩ => ⟨S2048x1024, .f32⟩
  | .hbm, ⟨29, _⟩ => ⟨S_, .f32⟩
  | .hbm, ⟨30, _⟩ => ⟨S2048, .f32⟩
  | .hbm, ⟨31, _⟩ => ⟨S2048x1, .f32⟩
  | .hbm, ⟨32, _⟩ => ⟨S_, .f32⟩
  | .hbm, ⟨33, _⟩ => ⟨S2048x1, .f32⟩
  | .hbm, ⟨34, _⟩ => ⟨S2048x1, .f32⟩
  | .hbm, ⟨35, _⟩ => ⟨S_, .f32⟩
  | .hbm, ⟨36, _⟩ => ⟨S2048x1, .f32⟩
  | .hbm, ⟨37, _⟩ => ⟨S2048x1, .f32⟩
  | .hbm, ⟨38, _⟩ => ⟨S2048x1, .f32⟩
  | .hbm, ⟨39, _⟩ => ⟨S2048x1024, .f32⟩
  | .hbm, ⟨40, _⟩ => ⟨S2048x1024, .f32⟩
  | .hbm, ⟨41, _⟩ => ⟨S2048x1024, .f32⟩
  | .hbm, ⟨42, _⟩ => ⟨S2048x1024, .f32⟩
  | .hbm, ⟨43, _⟩ => ⟨S2048x1024, .bf16⟩
  | _, _ => ⟨S2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_cst : Ref sig .tc := ⟨.hbm, 7, rfl⟩
abbrev main_v3 : Ref sig .tc := ⟨.hbm, 8, rfl⟩
abbrev main_v4 : Ref sig .tc := ⟨.hbm, 9, rfl⟩
abbrev main_cst_0 : Ref sig .tc := ⟨.hbm, 10, rfl⟩
abbrev main_v5 : Ref sig .tc := ⟨.hbm, 11, rfl⟩
abbrev main_v6 : Ref sig .tc := ⟨.hbm, 12, rfl⟩
abbrev main_cst_1 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩
abbrev main_cst_2 : Ref sig .tc := ⟨.hbm, 29, rfl⟩
abbrev main_v22 : Ref sig .tc := ⟨.hbm, 30, rfl⟩
abbrev main_v23 : Ref sig .tc := ⟨.hbm, 31, rfl⟩
abbrev main_cst_3 : Ref sig .tc := ⟨.hbm, 32, rfl⟩
abbrev main_v24 : Ref sig .tc := ⟨.hbm, 33, rfl⟩
abbrev main_v25 : Ref sig .tc := ⟨.hbm, 34, rfl⟩
abbrev main_cst_4 : Ref sig .tc := ⟨.hbm, 35, rfl⟩
abbrev main_v26 : Ref sig .tc := ⟨.hbm, 36, rfl⟩
abbrev main_v27 : Ref sig .tc := ⟨.hbm, 37, rfl⟩
abbrev main_v28 : Ref sig .tc := ⟨.hbm, 38, rfl⟩
abbrev main_v29 : Ref sig .tc := ⟨.hbm, 39, rfl⟩
abbrev main_v30 : Ref sig .tc := ⟨.hbm, 40, rfl⟩
abbrev main_v31 : Ref sig .tc := ⟨.hbm, 41, rfl⟩
abbrev main_v32 : Ref sig .tc := ⟨.hbm, 42, rfl⟩
abbrev main_v33 : Ref sig .tc := ⟨.hbm, 43, rfl⟩

abbrev nD : Nat := 1
abbrev τ : Topo := Topo.v7x

variable {F : FTy → Type} [FloatOps F]
-- ==== Kernel13.lean ====
abbrev S2048x1024 : Shape := ⟨2, ![2048, 1024]⟩
abbrev S2x1x1024 : Shape := ⟨3, ![2, 1, 1024]⟩
abbrev S1x4x1024x768 : Shape := ⟨4, ![1, 4, 1024, 768]⟩
abbrev S8x128 : Shape := ⟨2, ![8, 128]⟩
abbrev S2048x3072 : Shape := ⟨2, ![2048, 3072]⟩
abbrev S1024x1024 : Shape := ⟨2, ![1024, 1024]⟩
abbrev S1x1x1024 : Shape := ⟨3, ![1, 1, 1024]⟩
abbrev S1x1x1024x768 : Shape := ⟨4, ![1, 1, 1024, 768]⟩
abbrev S1024x768 : Shape := ⟨2, ![1024, 768]⟩
abbrev S2x1024x1024 : Shape := ⟨3, ![2, 1024, 1024]⟩
abbrev S1024 : Shape := ⟨1, ![1024]⟩
abbrev S1024x1 : Shape := ⟨2, ![1024, 1]⟩
abbrev S1x1024 : Shape := ⟨2, ![1, 1024]⟩
abbrev S1x1024x1024 : Shape := ⟨3, ![1, 1024, 1024]⟩

abbrev nBuf : Space → Nat
  | .hbm => 6
  | .vmem => 11
  | .smem => 0
  | _ => 0

abbrev bufTy : (tb : Table) → Fin (tcTables nBuf tb) → BufTy
  | .hbm, ⟨0, _⟩ => ⟨S2048x1024, .f32⟩
  | .hbm, ⟨1, _⟩ => ⟨S2x1x1024, .f32⟩
  | .hbm, ⟨2, _⟩ => ⟨S1x4x1024x768, .bf16⟩
  | .hbm, ⟨3, _⟩ => ⟨S8x128, .f32⟩
  | .hbm, ⟨4, _⟩ => ⟨S2048x3072, .f32⟩
  | .hbm, ⟨5, _⟩ => ⟨S2048x1024, .bf16⟩
  | .local _ .vmem, ⟨0, _⟩ => ⟨S1024x1024, .f32⟩
  | .local _ .vmem, ⟨1, _⟩ => ⟨S1024x1024, .f32⟩
  | .local _ .vmem, ⟨2, _⟩ => ⟨S1x1x1024, .f32⟩
  | .local _ .vmem, ⟨3, _⟩ => ⟨S1x1x1024x768, .bf16⟩
  | .local _ .vmem, ⟨4, _⟩ => ⟨S1x1x1024x768, .bf16⟩
  | .local _ .vmem, ⟨5, _⟩ => ⟨S8x128, .f32⟩
  | .local _ .vmem, ⟨6, _⟩ => ⟨S1024x768, .f32⟩
  | .local _ .vmem, ⟨7, _⟩ => ⟨S1024x768, .f32⟩
  | .local _ .vmem, ⟨8, _⟩ => ⟨S1024x1024, .bf16⟩
  | .local _ .vmem, ⟨9, _⟩ => ⟨S1024x1024, .bf16⟩
  | .local _ .vmem, ⟨10, _⟩ => ⟨S2x1024x1024, .bf16⟩
  | _, _ => ⟨S2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_scratch0 : Ref sig .tc := ⟨.vmem, 10, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem4_0 : DmaSem sig := 6
abbrev cc0_sem4_1 : DmaSem sig := 7
abbrev cc0_sem5_0 : DmaSem sig := 8
abbrev cc0_sem5_1 : DmaSem sig := 9

abbrev nD : Nat := 1
abbrev τ : Topo := Topo.v7x

variable {F : FTy → Type} [FloatOps F]

abbrev grid0 : Pipeline.Grid := ⟨2, ![4, 2], ![false, false]⟩

def k0_cond1 (i : grid0.Coords) : BitVec 1 :=
  let arg0 : BitVec 32 := BitVec.ofNat 32 (i 0).val
  let c0_i32 : BitVec 32 := 0#32
  let v0 : BitVec 1 := Scalar.cmpi .eq arg0 c0_i32
  let v1 : BitVec 32 := Scalar.extui v0
  let c0_i32_0 : BitVec 32 := 0#32
  let v2 : BitVec 1 := Scalar.cmpi .ne v1 c0_i32_0
  v2

def k0_off1 (i : grid0.Coords) : Fin 3 → Nat :=
  let arg1 : BitVec 32 := BitVec.ofNat 32 (i 1).val
  let v27 : Index := Scalar.indexCast arg1
  let c0_18 : Index := 0#32
  let c0_19 : Index := 0#32
  ![v27.toNat, 0, 0]
def k0_off2 (i : grid0.Coords) : Fin 3 → Nat :=
  let arg1 : BitVec 32 := BitVec.ofNat 32 (i 1).val
  let v3 : Index := Scalar.indexCast arg1
  let c0 : Index := 0#32
  let c0_1 : Index := 0#32
  ![v3.toNat, 0, 0]
def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 1 := Scalar.cmpi .eq arg0 c0_i32
  let c1_i32 : BitVec 32 := 1#32
  let v1 : BitVec 32 := Scalar.select v0 arg1 c1_i32
  let c0_i32_0 : BitVec 32 := 0#32
  let c0_i32_1 : BitVec 32 := 0#32
  ![v1.toNat, c0_i32_0.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_2 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, arg0.toNat, c0_i32_0.toNat, c0_i32_1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 1 := Scalar.cmpi .eq arg0 c0_i32
  let c1_i32 : BitVec 32 := 1#32
  let v1 : BitVec 32 := Scalar.select v0 arg1 c1_i32
  let c0_i32_0 : BitVec 32 := 0#32
  let c0_i32_1 : BitVec 32 := 0#32
  ![v1.toNat, c0_i32_0.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 1 → Memref sig .tc .vmem S1x1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S1x1x1024x768 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 1 → Memref sig .tc .vmem S8x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 2 → Memref sig .tc .vmem S1024x768 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1024x1024 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]
-- ==== Reference13Ideal.lean ====
abbrev S2048x1024 : Shape := ⟨2, ![2048, 1024]⟩
abbrev S2x1x1024 : Shape := ⟨3, ![2, 1, 1024]⟩
abbrev S1x4x1024x768 : Shape := ⟨4, ![1, 4, 1024, 768]⟩
abbrev S8x128 : Shape := ⟨2, ![8, 128]⟩
abbrev S1x1x1024 : Shape := ⟨3, ![1, 1, 1024]⟩
abbrev S1x1024 : Shape := ⟨2, ![1, 1024]⟩
abbrev S_ : Shape := ⟨0, ![]⟩
abbrev S2048 : Shape := ⟨1, ![2048]⟩
abbrev S2048x1 : Shape := ⟨2, ![2048, 1]⟩
abbrev S4x1024x768 : Shape := ⟨3, ![4, 1024, 768]⟩
abbrev S1024x4x768 : Shape := ⟨3, ![1024, 4, 768]⟩
abbrev S1024x3072 : Shape := ⟨2, ![1024, 3072]⟩
abbrev S2048x3072 : Shape := ⟨2, ![2048, 3072]⟩

abbrev nBuf : Space → Nat
  | .hbm => 44
  | .vmem => 0
  | .smem => 0
  | _ => 0

abbrev bufTy : (tb : Table) → Fin (tcTables nBuf tb) → BufTy
  | .hbm, ⟨0, _⟩ => ⟨S2048x1024, .f32⟩
  | .hbm, ⟨1, _⟩ => ⟨S2x1x1024, .f32⟩
  | .hbm, ⟨2, _⟩ => ⟨S1x4x1024x768, .bf16⟩
  | .hbm, ⟨3, _⟩ => ⟨S8x128, .f32⟩
  | .hbm, ⟨4, _⟩ => ⟨S1x1x1024, .f32⟩
  | .hbm, ⟨5, _⟩ => ⟨S1x1024, .f32⟩
  | .hbm, ⟨6, _⟩ => ⟨S2048x1024, .f32⟩
  | .hbm, ⟨7, _⟩ => ⟨S_, .f32⟩
  | .hbm, ⟨8, _⟩ => ⟨S2048, .f32⟩
  | .hbm, ⟨9, _⟩ => ⟨S2048x1, .f32⟩
  | .hbm, ⟨10, _⟩ => ⟨S_, .f32⟩
  | .hbm, ⟨11, _⟩ => ⟨S2048x1, .f32⟩
  | .hbm, ⟨12, _⟩ => ⟨S2048x1, .f32⟩
  | .hbm, ⟨13, _⟩ => ⟨S_, .f32⟩
  | .hbm, ⟨14, _⟩ => ⟨S2048x1, .f32⟩
  | .hbm, ⟨15, _⟩ => ⟨S2048x1, .f32⟩
  | .hbm, ⟨16, _⟩ => ⟨S2048x1, .f32⟩
  | .hbm, ⟨17, _⟩ => ⟨S2048x1024, .f32⟩
  | .hbm, ⟨18, _⟩ => ⟨S2048x1024, .f32⟩
  | .hbm, ⟨19, _⟩ => ⟨S2048x1024, .f32⟩
  | .hbm, ⟨20, _⟩ => ⟨S2048x1024, .f32⟩
  | .hbm, ⟨21, _⟩ => ⟨S4x1024x768, .bf16⟩
  | .hbm, ⟨22, _⟩ => ⟨S1024x4x768, .bf16⟩
  | .hbm, ⟨23, _⟩ => ⟨S1024x3072, .bf16⟩
  | .hbm, ⟨24, _⟩ => ⟨S1024x3072, .f32⟩
  | .hbm, ⟨25, _⟩ => ⟨S2048x3072, .f32⟩
  | .hbm, ⟨26, _⟩ => ⟨S1x1x1024, .f32⟩
  | .hbm, ⟨27, _⟩ => ⟨S1x1024, .f32⟩
  | .hbm, ⟨28, _⟩ => ⟨S2048x1024, .f32⟩
  | .hbm, ⟨29, _⟩ => ⟨S_, .f32⟩
  | .hbm, ⟨30, _⟩ => ⟨S2048, .f32⟩
  | .hbm, ⟨31, _⟩ => ⟨S2048x1, .f32⟩
  | .hbm, ⟨32, _⟩ => ⟨S_, .f32⟩
  | .hbm, ⟨33, _⟩ => ⟨S2048x1, .f32⟩
  | .hbm, ⟨34, _⟩ => ⟨S2048x1, .f32⟩
  | .hbm, ⟨35, _⟩ => ⟨S_, .f32⟩
  | .hbm, ⟨36, _⟩ => ⟨S2048x1, .f32⟩
  | .hbm, ⟨37, _⟩ => ⟨S2048x1, .f32⟩
  | .hbm, ⟨38, _⟩ => ⟨S2048x1, .f32⟩
  | .hbm, ⟨39, _⟩ => ⟨S2048x1024, .f32⟩
  | .hbm, ⟨40, _⟩ => ⟨S2048x1024, .f32⟩
  | .hbm, ⟨41, _⟩ => ⟨S2048x1024, .f32⟩
  | .hbm, ⟨42, _⟩ => ⟨S2048x1024, .f32⟩
  | .hbm, ⟨43, _⟩ => ⟨S2048x1024, .bf16⟩
  | _, _ => ⟨S2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_cst : Ref sig .tc := ⟨.hbm, 7, rfl⟩
abbrev main_v3 : Ref sig .tc := ⟨.hbm, 8, rfl⟩
abbrev main_v4 : Ref sig .tc := ⟨.hbm, 9, rfl⟩
abbrev main_cst_0 : Ref sig .tc := ⟨.hbm, 10, rfl⟩
abbrev main_v5 : Ref sig .tc := ⟨.hbm, 11, rfl⟩
abbrev main_v6 : Ref sig .tc := ⟨.hbm, 12, rfl⟩
abbrev main_cst_1 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩
abbrev main_cst_2 : Ref sig .tc := ⟨.hbm, 29, rfl⟩
abbrev main_v22 : Ref sig .tc := ⟨.hbm, 30, rfl⟩
abbrev main_v23 : Ref sig .tc := ⟨.hbm, 31, rfl⟩
abbrev main_cst_3 : Ref sig .tc := ⟨.hbm, 32, rfl⟩
abbrev main_v24 : Ref sig .tc := ⟨.hbm, 33, rfl⟩
abbrev main_v25 : Ref sig .tc := ⟨.hbm, 34, rfl⟩
abbrev main_cst_4 : Ref sig .tc := ⟨.hbm, 35, rfl⟩
abbrev main_v26 : Ref sig .tc := ⟨.hbm, 36, rfl⟩
abbrev main_v27 : Ref sig .tc := ⟨.hbm, 37, rfl⟩
abbrev main_v28 : Ref sig .tc := ⟨.hbm, 38, rfl⟩
abbrev main_v29 : Ref sig .tc := ⟨.hbm, 39, rfl⟩
abbrev main_v30 : Ref sig .tc := ⟨.hbm, 40, rfl⟩
abbrev main_v31 : Ref sig .tc := ⟨.hbm, 41, rfl⟩
abbrev main_v32 : Ref sig .tc := ⟨.hbm, 42, rfl⟩
abbrev main_v33 : Ref sig .tc := ⟨.hbm, 43, rfl⟩

abbrev nD : Nat := 1
abbrev τ : Topo := Topo.v7x

variable {F : FTy → Type} [FloatOps F]
-- ==== Kernel14.lean ====
abbrev S2048x5120 : Shape := ⟨2, ![2048, 5120]⟩
abbrev S1x4x1024x1280 : Shape := ⟨4, ![1, 4, 1024, 1280]⟩
abbrev S2048x1024 : Shape := ⟨2, ![2048, 1024]⟩
abbrev S2x1x1024 : Shape := ⟨3, ![2, 1, 1024]⟩
abbrev S8x128 : Shape := ⟨2, ![8, 128]⟩
abbrev S1x1024 : Shape := ⟨2, ![1, 1024]⟩
abbrev S1024x1280 : Shape := ⟨2, ![1024, 1280]⟩
abbrev S1x1x1024x1280 : Shape := ⟨4, ![1, 1, 1024, 1280]⟩
abbrev S1024x1024 : Shape := ⟨2, ![1024, 1024]⟩
abbrev S1x1x1024 : Shape := ⟨3, ![1, 1, 1024]⟩
abbrev S2x1024x1024 : Shape := ⟨3, ![2, 1024, 1024]⟩
abbrev S1x1024x1024 : Shape := ⟨3, ![1, 1024, 1024]⟩
abbrev S1024 : Shape := ⟨1, ![1024]⟩
abbrev S1024x1 : Shape := ⟨2, ![1024, 1]⟩

abbrev nBuf : Space → Nat
  | .hbm => 9
  | .vmem => 16
  | .smem => 0
  | _ => 0

abbrev bufTy : (tb : Table) → Fin (tcTables nBuf tb) → BufTy
  | .hbm, ⟨0, _⟩ => ⟨S2048x5120, .bf16⟩
  | .hbm, ⟨1, _⟩ => ⟨S1x4x1024x1280, .bf16⟩
  | .hbm, ⟨2, _⟩ => ⟨S2048x1024, .f32⟩
  | .hbm, ⟨3, _⟩ => ⟨S2x1x1024, .f32⟩
  | .hbm, ⟨4, _⟩ => ⟨S2048x1024, .f32⟩
  | .hbm, ⟨5, _⟩ => ⟨S8x128, .f32⟩
  | .hbm, ⟨6, _⟩ => ⟨S2048x1024, .f32⟩
  | .hbm, ⟨7, _⟩ => ⟨S2048x1024, .bf16⟩
  | .hbm, ⟨8, _⟩ => ⟨S1x1024, .f32⟩
  | .local _ .vmem, ⟨0, _⟩ => ⟨S1024x1280, .bf16⟩
  | .local _ .vmem, ⟨1, _⟩ => ⟨S1024x1280, .bf16⟩
  | .local _ .vmem, ⟨2, _⟩ => ⟨S1x1x1024x1280, .bf16⟩
  | .local _ .vmem, ⟨3, _⟩ => ⟨S1x1x1024x1280, .bf16⟩
  | .local _ .vmem, ⟨4, _⟩ => ⟨S1024x1024, .f32⟩
  | .local _ .vmem, ⟨5, _⟩ => ⟨S1024x1024, .f32⟩
  | .local _ .vmem, ⟨6, _⟩ => ⟨S1x1x1024, .f32⟩
  | .local _ .vmem, ⟨7, _⟩ => ⟨S1024x1024, .f32⟩
  | .local _ .vmem, ⟨8, _⟩ => ⟨S1024x1024, .f32⟩
  | .local _ .vmem, ⟨9, _⟩ => ⟨S8x128, .f32⟩
  | .local _ .vmem, ⟨10, _⟩ => ⟨S1024x1024, .f32⟩
  | .local _ .vmem, ⟨11, _⟩ => ⟨S1024x1024, .f32⟩
  | .local _ .vmem, ⟨12, _⟩ => ⟨S1024x1024, .bf16⟩
  | .local _ .vmem, ⟨13, _⟩ => ⟨S1024x1024, .bf16⟩
  | .local _ .vmem, ⟨14, _⟩ => ⟨S1x1024, .f32⟩
  | .local _ .vmem, ⟨15, _⟩ => ⟨S2x1024x1024, .f32⟩
  | _, _ => ⟨S2048x5120, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 15 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | _ => false

abbrev sig : RefSig :=
  ofTc nBuf bufTy 0 15 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0_0 : Ref sig .tc := ⟨.hbm, 6, rfl⟩
abbrev main_v0_1 : Ref sig .tc := ⟨.hbm, 7, rfl⟩
abbrev main_v0_2 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_stg7_1 : Ref sig .tc := ⟨.vmem, 13, rfl⟩
abbrev cc0_stg8_0 : Ref sig .tc := ⟨.vmem, 14, rfl⟩
abbrev cc0_scratch0 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem4_1 : DmaSem sig := 8
abbrev cc0_sem5_0 : DmaSem sig := 9
abbrev cc0_sem6_0 : DmaSem sig := 10
abbrev cc0_sem6_1 : DmaSem sig := 11
abbrev cc0_sem7_0 : DmaSem sig := 12
abbrev cc0_sem7_1 : DmaSem sig := 13
abbrev cc0_sem8_0 : DmaSem sig := 14

abbrev nD : Nat := 1
abbrev τ : Topo := Topo.v7x

variable {F : FTy → Type} [FloatOps F]

abbrev grid0 : Pipeline.Grid := ⟨2, ![4, 2], ![false, false]⟩

def k0_cond1 (i : grid0.Coords) : BitVec 1 :=
  let arg0 : BitVec 32 := BitVec.ofNat 32 (i 0).val
  let c0_i32 : BitVec 32 := 0#32
  let v4 : BitVec 1 := Scalar.cmpi .eq arg0 c0_i32
  let v5 : BitVec 32 := Scalar.extui v4
  let c0_i32_5 : BitVec 32 := 0#32
  let v6 : BitVec 1 := Scalar.cmpi .ne v5 c0_i32_5
  v6

def k0_off1 (i : grid0.Coords) : Fin 3 → Nat :=
  let arg1 : BitVec 32 := BitVec.ofNat 32 (i 1).val
  let v13 : Index := Scalar.indexCast arg1
  let c0_9 : Index := 0#32
  let c0_10 : Index := 0#32
  ![v13.toNat, 0, 0]
def k0_cond2 (i : grid0.Coords) : BitVec 1 :=
  let arg0 : BitVec 32 := BitVec.ofNat 32 (i 0).val
  let c0_i32_6 : BitVec 32 := 0#32
  let v7 : BitVec 1 := Scalar.cmpi .sgt arg0 c0_i32_6
  let v8 : BitVec 32 := Scalar.extui v7
  let c0_i32_7 : BitVec 32 := 0#32
  let v9 : BitVec 1 := Scalar.cmpi .ne v8 c0_i32_7
  v9

def k0_off2 (i : grid0.Coords) : Fin 3 → Nat :=
  let arg1 : BitVec 32 := BitVec.ofNat 32 (i 1).val
  let v13 : Index := Scalar.indexCast arg1
  let c0_9 : Index := 0#32
  let c0_10 : Index := 0#32
  ![v13.toNat, 0, 0]
def k0_cond3 (i : grid0.Coords) : BitVec 1 :=
  let arg0 : BitVec 32 := BitVec.ofNat 32 (i 0).val
  let c3_i32 : BitVec 32 := 3#32
  let v10 : BitVec 1 := Scalar.cmpi .eq arg0 c3_i32
  let v11 : BitVec 32 := Scalar.extui v10
  let c0_i32_8 : BitVec 32 := 0#32
  let v12 : BitVec 1 := Scalar.cmpi .ne v11 c0_i32_8
  v12

def k0_off3 (i : grid0.Coords) : Fin 3 → Nat :=
  let arg1 : BitVec 32 := BitVec.ofNat 32 (i 1).val
  let v22 : Index := Scalar.indexCast arg1
  let c0_14 : Index := 0#32
  let c0_15 : Index := 0#32
  ![v22.toNat, 0, 0]
def k0_cond4 (i : grid0.Coords) : BitVec 1 :=
  let arg1 : BitVec 32 := BitVec.ofNat 32 (i 1).val
  let c0_i32_28 : BitVec 32 := 0#32
  let v52 : BitVec 1 := Scalar.cmpi .eq arg1 c0_i32_28
  let v53 : BitVec 32 := Scalar.extui v52
  let c0_i32_29 : BitVec 32 := 0#32
  let v54 : BitVec 1 := Scalar.cmpi .ne v53 c0_i32_29
  v54

def k0_cond5 (i : grid0.Coords) : BitVec 1 :=
  let arg1 : BitVec 32 := BitVec.ofNat 32 (i 1).val
  let c0_i32_30 : BitVec 32 := 0#32
  let v55 : BitVec 1 := Scalar.cmpi .sgt arg1 c0_i32_30
  let v56 : BitVec 32 := Scalar.extui v55
  let c0_i32_31 : BitVec 32 := 0#32
  let v57 : BitVec 1 := Scalar.cmpi .ne v56 c0_i32_31
  v57

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_1 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, arg0.toNat, c0_i32_0.toNat, c0_i32_1.toNat]

def cc0_transform_2 (i : grid0.Coords) : Fin 2 → Nat :=
  let arg0 : BitVec 32 := BitVec.ofNat 32 (i 0).val
  let arg1 : BitVec 32 := BitVec.ofNat 32 (i 1).val
  let c3_i32 : BitVec 32 := 3#32
  let v0 : BitVec 1 := Scalar.cmpi .eq arg0 c3_i32
  let c0_i32 : BitVec 32 := 0#32
  let v1 : BitVec 32 := Scalar.select v0 arg1 c0_i32
  let c0_i32_0 : BitVec 32 := 0#32
  let c0_i32_1 : BitVec 32 := 0#32
  ![v1.toNat, c0_i32_0.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_4 (i : grid0.Coords) : Fin 2 → Nat :=
  let arg0 : BitVec 32 := BitVec.ofNat 32 (i 0).val
  let arg1 : BitVec 32 := BitVec.ofNat 32 (i 1).val
  let c3_i32 : BitVec 32 := 3#32
  let v0 : BitVec 1 := Scalar.cmpi .eq arg0 c3_i32
  let c0_i32 : BitVec 32 := 0#32
  let v1 : BitVec 32 := Scalar.select v0 arg1 c0_i32
  let c0_i32_0 : BitVec 32 := 0#32
  let c0_i32_1 : BitVec 32 := 0#32
  ![v1.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c3_i32 : BitVec 32 := 3#32
  let v0 : BitVec 1 := Scalar.cmpi .eq arg0 c3_i32
  let c0_i32 : BitVec 32 := 0#32
  let v1 : BitVec 32 := Scalar.select v0 arg1 c0_i32
  let c0_i32_0 : BitVec 32 := 0#32
  let c0_i32_1 : BitVec 32 := 0#32
  ![v1.toNat, c0_i32_0.toNat]

def cc0_transform_7 (i : grid0.Coords) : Fin 2 → Nat :=
  let arg0 : BitVec 32 := BitVec.ofNat 32 (i 0).val
  let arg1 : BitVec 32 := BitVec.ofNat 32 (i 1).val
  let c3_i32 : BitVec 32 := 3#32
  let v0 : BitVec 1 := Scalar.cmpi .eq arg0 c3_i32
  let c0_i32 : BitVec 32 := 0#32
  let v1 : BitVec 32 := Scalar.select v0 arg1 c0_i32
  let c0_i32_0 : BitVec 32 := 0#32
  let c0_i32_1 : BitVec 32 := 0#32
  ![v1.toNat, c0_i32_0.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S1024x1280 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x1x1024x1280 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 1 → Memref sig .tc .vmem S1x1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 2 → Memref sig .tc .vmem S1024x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 1 → Memref sig .tc .vmem S8x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 2 → Memref sig .tc .vmem S1024x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S1024x1024 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 1 → Memref sig .tc .vmem S1x1024 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false, false]
-- ==== Reference14Ideal.lean ====
abbrev S2048x5120 : Shape := ⟨2, ![2048, 5120]⟩
abbrev S1x4x1024x1280 : Shape := ⟨4, ![1, 4, 1024, 1280]⟩
abbrev S2048x1024 : Shape := ⟨2, ![2048, 1024]⟩
abbrev S2x1x1024 : Shape := ⟨3, ![2, 1, 1024]⟩
abbrev S8x128 : Shape := ⟨2, ![8, 128]⟩
abbrev S1x1x1024 : Shape := ⟨3, ![1, 1, 1024]⟩
abbrev S1x1024 : Shape := ⟨2, ![1, 1024]⟩
abbrev S_ : Shape := ⟨0, ![]⟩
abbrev S2048 : Shape := ⟨1, ![2048]⟩
abbrev S2048x1 : Shape := ⟨2, ![2048, 1]⟩
abbrev S4x1024x1280 : Shape := ⟨3, ![4, 1024, 1280]⟩
abbrev S1024x4x1280 : Shape := ⟨3, ![1024, 4, 1280]⟩
abbrev S1024x5120 : Shape := ⟨2, ![1024, 5120]⟩
abbrev S1024 : Shape := ⟨1, ![1024]⟩

abbrev nBuf : Space → Nat
  | .hbm => 60
  | .vmem => 0
  | .smem => 0
  | _ => 0

abbrev bufTy : (tb : Table) → Fin (tcTables nBuf tb) → BufTy
  | .hbm, ⟨0, _⟩ => ⟨S2048x5120, .bf16⟩
  | .hbm, ⟨1, _⟩ => ⟨S1x4x1024x1280, .bf16⟩
  | .hbm, ⟨2, _⟩ => ⟨S2048x1024, .f32⟩
  | .hbm, ⟨3, _⟩ => ⟨S2x1x1024, .f32⟩
  | .hbm, ⟨4, _⟩ => ⟨S2048x1024, .f32⟩
  | .hbm, ⟨5, _⟩ => ⟨S8x128, .f32⟩
  | .hbm, ⟨6, _⟩ => ⟨S1x1x1024, .f32⟩
  | .hbm, ⟨7, _⟩ => ⟨S1x1024, .f32⟩
  | .hbm, ⟨8, _⟩ => ⟨S2048x1024, .f32⟩
  | .hbm, ⟨9, _⟩ => ⟨S_, .f32⟩
  | .hbm, ⟨10, _⟩ => ⟨S2048, .f32⟩
  | .hbm, ⟨11, _⟩ => ⟨S2048x1, .f32⟩
  | .hbm, ⟨12, _⟩ => ⟨S_, .f32⟩
  | .hbm, ⟨13, _⟩ => ⟨S2048x1, .f32⟩
  | .hbm, ⟨14, _⟩ => ⟨S2048x1, .f32⟩
  | .hbm, ⟨15, _⟩ => ⟨S_, .f32⟩
  | .hbm, ⟨16, _⟩ => ⟨S2048x1, .f32⟩
  | .hbm, ⟨17, _⟩ => ⟨S2048x1, .f32⟩
  | .hbm, ⟨18, _⟩ => ⟨S2048x1, .f32⟩
  | .hbm, ⟨19, _⟩ => ⟨S2048x1, .f32⟩
  | .hbm, ⟨20, _⟩ => ⟨S_, .f32⟩
  | .hbm, ⟨21, _⟩ => ⟨S2048x1, .f32⟩
  | .hbm, ⟨22, _⟩ => ⟨S2048x1, .f32⟩
  | .hbm, ⟨23, _⟩ => ⟨S2048x1024, .f32⟩
  | .hbm, ⟨24, _⟩ => ⟨S2048x1024, .f32⟩
  | .hbm, ⟨25, _⟩ => ⟨S2048x1024, .f32⟩
  | .hbm, ⟨26, _⟩ => ⟨S2048x1024, .f32⟩
  | .hbm, ⟨27, _⟩ => ⟨S4x1024x1280, .bf16⟩
  | .hbm, ⟨28, _⟩ => ⟨S1024x4x1280, .bf16⟩
  | .hbm, ⟨29, _⟩ => ⟨S1024x5120, .bf16⟩
  | .hbm, ⟨30, _⟩ => ⟨S1024x5120, .f32⟩
  | .hbm, ⟨31, _⟩ => ⟨S2048x5120, .f32⟩
  | .hbm, ⟨32, _⟩ => ⟨S2048x5120, .f32⟩
  | .hbm, ⟨33, _⟩ => ⟨S2048x1024, .f32⟩
  | .hbm, ⟨34, _⟩ => ⟨S2048x1024, .f32⟩
  | .hbm, ⟨35, _⟩ => ⟨S_, .f32⟩
  | .hbm, ⟨36, _⟩ => ⟨S1024, .f32⟩
  | .hbm, ⟨37, _⟩ => ⟨S1x1024, .f32⟩
  | .hbm, ⟨38, _⟩ => ⟨S2048x1024, .f32⟩
  | .hbm, ⟨39, _⟩ => ⟨S2048x1024, .f32⟩
  | .hbm, ⟨40, _⟩ => ⟨S2048x1024, .f32⟩
  | .hbm, ⟨41, _⟩ => ⟨S_, .f32⟩
  | .hbm, ⟨42, _⟩ => ⟨S2048, .f32⟩
  | .hbm, ⟨43, _⟩ => ⟨S2048x1, .f32⟩
  | .hbm, ⟨44, _⟩ => ⟨S2048x1024, .f32⟩
  | .hbm, ⟨45, _⟩ => ⟨S2048x1024, .f32⟩
  | .hbm, ⟨46, _⟩ => ⟨S2048x1, .f32⟩
  | .hbm, ⟨47, _⟩ => ⟨S_, .f32⟩
  | .hbm, ⟨48, _⟩ => ⟨S2048x1, .f32⟩
  | .hbm, ⟨49, _⟩ => ⟨S2048x1, .f32⟩
  | .hbm, ⟨50, _⟩ => ⟨S_, .f32⟩
  | .hbm, ⟨51, _⟩ => ⟨S2048, .f32⟩
  | .hbm, ⟨52, _⟩ => ⟨S2048x1024, .f32⟩
  | .hbm, ⟨53, _⟩ => ⟨S2048x1024, .f32⟩
  | .hbm, ⟨54, _⟩ => ⟨S2048x1024, .f32⟩
  | .hbm, ⟨55, _⟩ => ⟨S2048x1024, .f32⟩
  | .hbm, ⟨56, _⟩ => ⟨S2048x1024, .f32⟩
  | .hbm, ⟨57, _⟩ => ⟨S2048x1024, .f32⟩
  | .hbm, ⟨58, _⟩ => ⟨S2048x1024, .f32⟩
  | .hbm, ⟨59, _⟩ => ⟨S2048x1024, .bf16⟩
  | _, _ => ⟨S2048x5120, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_cst : Ref sig .tc := ⟨.hbm, 9, rfl⟩
abbrev main_v3 : Ref sig .tc := ⟨.hbm, 10, rfl⟩
abbrev main_v4 : Ref sig .tc := ⟨.hbm, 11, rfl⟩
abbrev main_cst_0 : Ref sig .tc := ⟨.hbm, 12, rfl⟩
abbrev main_v5 : Ref sig .tc := ⟨.hbm, 13, rfl⟩
abbrev main_v6 : Ref sig .tc := ⟨.hbm, 14, rfl⟩
abbrev main_cst_1 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_cst_2 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_cst_3 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_cst_4 : Ref sig .tc := ⟨.hbm, 41, rfl⟩
abbrev main_v30 : Ref sig .tc := ⟨.hbm, 42, rfl⟩
abbrev main_v31 : Ref sig .tc := ⟨.hbm, 43, rfl⟩
abbrev main_v32 : Ref sig .tc := ⟨.hbm, 44, rfl⟩
abbrev main_v33 : Ref sig .tc := ⟨.hbm, 45, rfl⟩
abbrev main_v34 : Ref sig .tc := ⟨.hbm, 46, rfl⟩
abbrev main_cst_5 : Ref sig .tc := ⟨.hbm, 47, rfl⟩
abbrev main_v35 : Ref sig .tc := ⟨.hbm, 48, rfl⟩
abbrev main_v36 : Ref sig .tc := ⟨.hbm, 49, rfl⟩
abbrev main_cst_6 : Ref sig .tc := ⟨.hbm, 50, rfl⟩
abbrev main_v37 : Ref sig .tc := ⟨.hbm, 51, rfl⟩
abbrev main_v38 : Ref sig .tc := ⟨.hbm, 52, rfl⟩
abbrev main_v39 : Ref sig .tc := ⟨.hbm, 53, rfl⟩
abbrev main_v40 : Ref sig .tc := ⟨.hbm, 54, rfl⟩
abbrev main_v41 : Ref sig .tc := ⟨.hbm, 55, rfl⟩
abbrev main_v42 : Ref sig .tc := ⟨.hbm, 56, rfl⟩
abbrev main_v43 : Ref sig .tc := ⟨.hbm, 57, rfl⟩
abbrev main_v44 : Ref sig .tc := ⟨.hbm, 58, rfl⟩
abbrev main_v45 : Ref sig .tc := ⟨.hbm, 59, rfl⟩

abbrev nD : Nat := 1
abbrev τ : Topo := Topo.v7x

variable {F : FTy → Type} [FloatOps F]
-- ==== Kernel15.lean ====
abbrev S2048x3072 : Shape := ⟨2, ![2048, 3072]⟩
abbrev S1x4x1024x768 : Shape := ⟨4, ![1, 4, 1024, 768]⟩
abbrev S2048x1024 : Shape := ⟨2, ![2048, 1024]⟩
abbrev S2x1x1024 : Shape := ⟨3, ![2, 1, 1024]⟩
abbrev S8x128 : Shape := ⟨2, ![8, 128]⟩
abbrev S1x1024 : Shape := ⟨2, ![1, 1024]⟩
abbrev S1024x768 : Shape := ⟨2, ![1024, 768]⟩
abbrev S1x1x1024x768 : Shape := ⟨4, ![1, 1, 1024, 768]⟩
abbrev S1024x1024 : Shape := ⟨2, ![1024, 1024]⟩
abbrev S1x1x1024 : Shape := ⟨3, ![1, 1, 1024]⟩
abbrev S2x1024x1024 : Shape := ⟨3, ![2, 1024, 1024]⟩
abbrev S1x1024x1024 : Shape := ⟨3, ![1, 1024, 1024]⟩
abbrev S1024 : Shape := ⟨1, ![1024]⟩
abbrev S1024x1 : Shape := ⟨2, ![1024, 1]⟩

abbrev nBuf : Space → Nat
  | .hbm => 9
  | .vmem => 16
  | .smem => 0
  | _ => 0

abbrev bufTy : (tb : Table) → Fin (tcTables nBuf tb) → BufTy
  | .hbm, ⟨0, _⟩ => ⟨S2048x3072, .bf16⟩
  | .hbm, ⟨1, _⟩ => ⟨S1x4x1024x768, .bf16⟩
  | .hbm, ⟨2, _⟩ => ⟨S2048x1024, .f32⟩
  | .hbm, ⟨3, _⟩ => ⟨S2x1x1024, .f32⟩
  | .hbm, ⟨4, _⟩ => ⟨S2048x1024, .f32⟩
  | .hbm, ⟨5, _⟩ => ⟨S8x128, .f32⟩
  | .hbm, ⟨6, _⟩ => ⟨S2048x1024, .f32⟩
  | .hbm, ⟨7, _⟩ => ⟨S2048x1024, .bf16⟩
  | .hbm, ⟨8, _⟩ => ⟨S1x1024, .f32⟩
  | .local _ .vmem, ⟨0, _⟩ => ⟨S1024x768, .bf16⟩
  | .local _ .vmem, ⟨1, _⟩ => ⟨S1024x768, .bf16⟩
  | .local _ .vmem, ⟨2, _⟩ => ⟨S1x1x1024x768, .bf16⟩
  | .local _ .vmem, ⟨3, _⟩ => ⟨S1x1x1024x768, .bf16⟩
  | .local _ .vmem, ⟨4, _⟩ => ⟨S1024x1024, .f32⟩
  | .local _ .vmem, ⟨5, _⟩ => ⟨S1024x1024, .f32⟩
  | .local _ .vmem, ⟨6, _⟩ => ⟨S1x1x1024, .f32⟩
  | .local _ .vmem, ⟨7, _⟩ => ⟨S1024x1024, .f32⟩
  | .local _ .vmem, ⟨8, _⟩ => ⟨S1024x1024, .f32⟩
  | .local _ .vmem, ⟨9, _⟩ => ⟨S8x128, .f32⟩
  | .local _ .vmem, ⟨10, _⟩ => ⟨S1024x1024, .f32⟩
  | .local _ .vmem, ⟨11, _⟩ => ⟨S1024x1024, .f32⟩
  | .local _ .vmem, ⟨12, _⟩ => ⟨S1024x1024, .bf16⟩
  | .local _ .vmem, ⟨13, _⟩ => ⟨S1024x1024, .bf16⟩
  | .local _ .vmem, ⟨14, _⟩ => ⟨S1x1024, .f32⟩
  | .local _ .vmem, ⟨15, _⟩ => ⟨S2x1024x1024, .f32⟩
  | _, _ => ⟨S2048x3072, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 15 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | _ => false

abbrev sig : RefSig :=
  ofTc nBuf bufTy 0 15 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0_0 : Ref sig .tc := ⟨.hbm, 6, rfl⟩
abbrev main_v0_1 : Ref sig .tc := ⟨.hbm, 7, rfl⟩
abbrev main_v0_2 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_stg7_1 : Ref sig .tc := ⟨.vmem, 13, rfl⟩
abbrev cc0_stg8_0 : Ref sig .tc := ⟨.vmem, 14, rfl⟩
abbrev cc0_scratch0 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem4_1 : DmaSem sig := 8
abbrev cc0_sem5_0 : DmaSem sig := 9
abbrev cc0_sem6_0 : DmaSem sig := 10
abbrev cc0_sem6_1 : DmaSem sig := 11
abbrev cc0_sem7_0 : DmaSem sig := 12
abbrev cc0_sem7_1 : DmaSem sig := 13
abbrev cc0_sem8_0 : DmaSem sig := 14

abbrev nD : Nat := 1
abbrev τ : Topo := Topo.v7x

variable {F : FTy → Type} [FloatOps F]

abbrev grid0 : Pipeline.Grid := ⟨2, ![4, 2], ![false, false]⟩

def k0_cond1 (i : grid0.Coords) : BitVec 1 :=
  let arg0 : BitVec 32 := BitVec.ofNat 32 (i 0).val
  let c0_i32 : BitVec 32 := 0#32
  let v4 : BitVec 1 := Scalar.cmpi .eq arg0 c0_i32
  let v5 : BitVec 32 := Scalar.extui v4
  let c0_i32_5 : BitVec 32 := 0#32
  let v6 : BitVec 1 := Scalar.cmpi .ne v5 c0_i32_5
  v6

def k0_off1 (i : grid0.Coords) : Fin 3 → Nat :=
  let arg1 : BitVec 32 := BitVec.ofNat 32 (i 1).val
  let v13 : Index := Scalar.indexCast arg1
  let c0_9 : Index := 0#32
  let c0_10 : Index := 0#32
  ![v13.toNat, 0, 0]
def k0_cond2 (i : grid0.Coords) : BitVec 1 :=
  let arg0 : BitVec 32 := BitVec.ofNat 32 (i 0).val
  let c0_i32_6 : BitVec 32 := 0#32
  let v7 : BitVec 1 := Scalar.cmpi .sgt arg0 c0_i32_6
  let v8 : BitVec 32 := Scalar.extui v7
  let c0_i32_7 : BitVec 32 := 0#32
  let v9 : BitVec 1 := Scalar.cmpi .ne v8 c0_i32_7
  v9

def k0_off2 (i : grid0.Coords) : Fin 3 → Nat :=
  let arg1 : BitVec 32 := BitVec.ofNat 32 (i 1).val
  let v13 : Index := Scalar.indexCast arg1
  let c0_9 : Index := 0#32
  let c0_10 : Index := 0#32
  ![v13.toNat, 0, 0]
def k0_cond3 (i : grid0.Coords) : BitVec 1 :=
  let arg0 : BitVec 32 := BitVec.ofNat 32 (i 0).val
  let c3_i32 : BitVec 32 := 3#32
  let v10 : BitVec 1 := Scalar.cmpi .eq arg0 c3_i32
  let v11 : BitVec 32 := Scalar.extui v10
  let c0_i32_8 : BitVec 32 := 0#32
  let v12 : BitVec 1 := Scalar.cmpi .ne v11 c0_i32_8
  v12

def k0_off3 (i : grid0.Coords) : Fin 3 → Nat :=
  let arg1 : BitVec 32 := BitVec.ofNat 32 (i 1).val
  let v22 : Index := Scalar.indexCast arg1
  let c0_14 : Index := 0#32
  let c0_15 : Index := 0#32
  ![v22.toNat, 0, 0]
def k0_cond4 (i : grid0.Coords) : BitVec 1 :=
  let arg1 : BitVec 32 := BitVec.ofNat 32 (i 1).val
  let c0_i32_28 : BitVec 32 := 0#32
  let v52 : BitVec 1 := Scalar.cmpi .eq arg1 c0_i32_28
  let v53 : BitVec 32 := Scalar.extui v52
  let c0_i32_29 : BitVec 32 := 0#32
  let v54 : BitVec 1 := Scalar.cmpi .ne v53 c0_i32_29
  v54

def k0_cond5 (i : grid0.Coords) : BitVec 1 :=
  let arg1 : BitVec 32 := BitVec.ofNat 32 (i 1).val
  let c0_i32_30 : BitVec 32 := 0#32
  let v55 : BitVec 1 := Scalar.cmpi .sgt arg1 c0_i32_30
  let v56 : BitVec 32 := Scalar.extui v55
  let c0_i32_31 : BitVec 32 := 0#32
  let v57 : BitVec 1 := Scalar.cmpi .ne v56 c0_i32_31
  v57

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_1 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, arg0.toNat, c0_i32_0.toNat, c0_i32_1.toNat]

def cc0_transform_2 (i : grid0.Coords) : Fin 2 → Nat :=
  let arg0 : BitVec 32 := BitVec.ofNat 32 (i 0).val
  let arg1 : BitVec 32 := BitVec.ofNat 32 (i 1).val
  let c3_i32 : BitVec 32 := 3#32
  let v0 : BitVec 1 := Scalar.cmpi .eq arg0 c3_i32
  let c0_i32 : BitVec 32 := 0#32
  let v1 : BitVec 32 := Scalar.select v0 arg1 c0_i32
  let c0_i32_0 : BitVec 32 := 0#32
  let c0_i32_1 : BitVec 32 := 0#32
  ![v1.toNat, c0_i32_0.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_4 (i : grid0.Coords) : Fin 2 → Nat :=
  let arg0 : BitVec 32 := BitVec.ofNat 32 (i 0).val
  let arg1 : BitVec 32 := BitVec.ofNat 32 (i 1).val
  let c3_i32 : BitVec 32 := 3#32
  let v0 : BitVec 1 := Scalar.cmpi .eq arg0 c3_i32
  let c0_i32 : BitVec 32 := 0#32
  let v1 : BitVec 32 := Scalar.select v0 arg1 c0_i32
  let c0_i32_0 : BitVec 32 := 0#32
  let c0_i32_1 : BitVec 32 := 0#32
  ![v1.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c3_i32 : BitVec 32 := 3#32
  let v0 : BitVec 1 := Scalar.cmpi .eq arg0 c3_i32
  let c0_i32 : BitVec 32 := 0#32
  let v1 : BitVec 32 := Scalar.select v0 arg1 c0_i32
  let c0_i32_0 : BitVec 32 := 0#32
  let c0_i32_1 : BitVec 32 := 0#32
  ![v1.toNat, c0_i32_0.toNat]

def cc0_transform_7 (i : grid0.Coords) : Fin 2 → Nat :=
  let arg0 : BitVec 32 := BitVec.ofNat 32 (i 0).val
  let arg1 : BitVec 32 := BitVec.ofNat 32 (i 1).val
  let c3_i32 : BitVec 32 := 3#32
  let v0 : BitVec 1 := Scalar.cmpi .eq arg0 c3_i32
  let c0_i32 : BitVec 32 := 0#32
  let v1 : BitVec 32 := Scalar.select v0 arg1 c0_i32
  let c0_i32_0 : BitVec 32 := 0#32
  let c0_i32_1 : BitVec 32 := 0#32
  ![v1.toNat, c0_i32_0.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S1024x768 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x1x1024x768 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 1 → Memref sig .tc .vmem S1x1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 2 → Memref sig .tc .vmem S1024x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 1 → Memref sig .tc .vmem S8x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 2 → Memref sig .tc .vmem S1024x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S1024x1024 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 1 → Memref sig .tc .vmem S1x1024 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false, false]
-- ==== Reference15Ideal.lean ====
abbrev S2048x3072 : Shape := ⟨2, ![2048, 3072]⟩
abbrev S1x4x1024x768 : Shape := ⟨4, ![1, 4, 1024, 768]⟩
abbrev S2048x1024 : Shape := ⟨2, ![2048, 1024]⟩
abbrev S2x1x1024 : Shape := ⟨3, ![2, 1, 1024]⟩
abbrev S8x128 : Shape := ⟨2, ![8, 128]⟩
abbrev S1x1x1024 : Shape := ⟨3, ![1, 1, 1024]⟩
abbrev S1x1024 : Shape := ⟨2, ![1, 1024]⟩
abbrev S_ : Shape := ⟨0, ![]⟩
abbrev S2048 : Shape := ⟨1, ![2048]⟩
abbrev S2048x1 : Shape := ⟨2, ![2048, 1]⟩
abbrev S4x1024x768 : Shape := ⟨3, ![4, 1024, 768]⟩
abbrev S1024x4x768 : Shape := ⟨3, ![1024, 4, 768]⟩
abbrev S1024x3072 : Shape := ⟨2, ![1024, 3072]⟩
abbrev S1024 : Shape := ⟨1, ![1024]⟩

abbrev nBuf : Space → Nat
  | .hbm => 60
  | .vmem => 0
  | .smem => 0
  | _ => 0

abbrev bufTy : (tb : Table) → Fin (tcTables nBuf tb) → BufTy
  | .hbm, ⟨0, _⟩ => ⟨S2048x3072, .bf16⟩
  | .hbm, ⟨1, _⟩ => ⟨S1x4x1024x768, .bf16⟩
  | .hbm, ⟨2, _⟩ => ⟨S2048x1024, .f32⟩
  | .hbm, ⟨3, _⟩ => ⟨S2x1x1024, .f32⟩
  | .hbm, ⟨4, _⟩ => ⟨S2048x1024, .f32⟩
  | .hbm, ⟨5, _⟩ => ⟨S8x128, .f32⟩
  | .hbm, ⟨6, _⟩ => ⟨S1x1x1024, .f32⟩
  | .hbm, ⟨7, _⟩ => ⟨S1x1024, .f32⟩
  | .hbm, ⟨8, _⟩ => ⟨S2048x1024, .f32⟩
  | .hbm, ⟨9, _⟩ => ⟨S_, .f32⟩
  | .hbm, ⟨10, _⟩ => ⟨S2048, .f32⟩
  | .hbm, ⟨11, _⟩ => ⟨S2048x1, .f32⟩
  | .hbm, ⟨12, _⟩ => ⟨S_, .f32⟩
  | .hbm, ⟨13, _⟩ => ⟨S2048x1, .f32⟩
  | .hbm, ⟨14, _⟩ => ⟨S2048x1, .f32⟩
  | .hbm, ⟨15, _⟩ => ⟨S_, .f32⟩
  | .hbm, ⟨16, _⟩ => ⟨S2048x1, .f32⟩
  | .hbm, ⟨17, _⟩ => ⟨S2048x1, .f32⟩
  | .hbm, ⟨18, _⟩ => ⟨S2048x1, .f32⟩
  | .hbm, ⟨19, _⟩ => ⟨S2048x1, .f32⟩
  | .hbm, ⟨20, _⟩ => ⟨S_, .f32⟩
  | .hbm, ⟨21, _⟩ => ⟨S2048x1, .f32⟩
  | .hbm, ⟨22, _⟩ => ⟨S2048x1, .f32⟩
  | .hbm, ⟨23, _⟩ => ⟨S2048x1024, .f32⟩
  | .hbm, ⟨24, _⟩ => ⟨S2048x1024, .f32⟩
  | .hbm, ⟨25, _⟩ => ⟨S2048x1024, .f32⟩
  | .hbm, ⟨26, _⟩ => ⟨S2048x1024, .f32⟩
  | .hbm, ⟨27, _⟩ => ⟨S4x1024x768, .bf16⟩
  | .hbm, ⟨28, _⟩ => ⟨S1024x4x768, .bf16⟩
  | .hbm, ⟨29, _⟩ => ⟨S1024x3072, .bf16⟩
  | .hbm, ⟨30, _⟩ => ⟨S1024x3072, .f32⟩
  | .hbm, ⟨31, _⟩ => ⟨S2048x3072, .f32⟩
  | .hbm, ⟨32, _⟩ => ⟨S2048x3072, .f32⟩
  | .hbm, ⟨33, _⟩ => ⟨S2048x1024, .f32⟩
  | .hbm, ⟨34, _⟩ => ⟨S2048x1024, .f32⟩
  | .hbm, ⟨35, _⟩ => ⟨S_, .f32⟩
  | .hbm, ⟨36, _⟩ => ⟨S1024, .f32⟩
  | .hbm, ⟨37, _⟩ => ⟨S1x1024, .f32⟩
  | .hbm, ⟨38, _⟩ => ⟨S2048x1024, .f32⟩
  | .hbm, ⟨39, _⟩ => ⟨S2048x1024, .f32⟩
  | .hbm, ⟨40, _⟩ => ⟨S2048x1024, .f32⟩
  | .hbm, ⟨41, _⟩ => ⟨S_, .f32⟩
  | .hbm, ⟨42, _⟩ => ⟨S2048, .f32⟩
  | .hbm, ⟨43, _⟩ => ⟨S2048x1, .f32⟩
  | .hbm, ⟨44, _⟩ => ⟨S2048x1024, .f32⟩
  | .hbm, ⟨45, _⟩ => ⟨S2048x1024, .f32⟩
  | .hbm, ⟨46, _⟩ => ⟨S2048x1, .f32⟩
  | .hbm, ⟨47, _⟩ => ⟨S_, .f32⟩
  | .hbm, ⟨48, _⟩ => ⟨S2048x1, .f32⟩
  | .hbm, ⟨49, _⟩ => ⟨S2048x1, .f32⟩
  | .hbm, ⟨50, _⟩ => ⟨S_, .f32⟩
  | .hbm, ⟨51, _⟩ => ⟨S2048, .f32⟩
  | .hbm, ⟨52, _⟩ => ⟨S2048x1024, .f32⟩
  | .hbm, ⟨53, _⟩ => ⟨S2048x1024, .f32⟩
  | .hbm, ⟨54, _⟩ => ⟨S2048x1024, .f32⟩
  | .hbm, ⟨55, _⟩ => ⟨S2048x1024, .f32⟩
  | .hbm, ⟨56, _⟩ => ⟨S2048x1024, .f32⟩
  | .hbm, ⟨57, _⟩ => ⟨S2048x1024, .f32⟩
  | .hbm, ⟨58, _⟩ => ⟨S2048x1024, .f32⟩
  | .hbm, ⟨59, _⟩ => ⟨S2048x1024, .bf16⟩
  | _, _ => ⟨S2048x3072, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_cst : Ref sig .tc := ⟨.hbm, 9, rfl⟩
abbrev main_v3 : Ref sig .tc := ⟨.hbm, 10, rfl⟩
abbrev main_v4 : Ref sig .tc := ⟨.hbm, 11, rfl⟩
abbrev main_cst_0 : Ref sig .tc := ⟨.hbm, 12, rfl⟩
abbrev main_v5 : Ref sig .tc := ⟨.hbm, 13, rfl⟩
abbrev main_v6 : Ref sig .tc := ⟨.hbm, 14, rfl⟩
abbrev main_cst_1 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_cst_2 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_cst_3 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_cst_4 : Ref sig .tc := ⟨.hbm, 41, rfl⟩
abbrev main_v30 : Ref sig .tc := ⟨.hbm, 42, rfl⟩
abbrev main_v31 : Ref sig .tc := ⟨.hbm, 43, rfl⟩
abbrev main_v32 : Ref sig .tc := ⟨.hbm, 44, rfl⟩
abbrev main_v33 : Ref sig .tc := ⟨.hbm, 45, rfl⟩
abbrev main_v34 : Ref sig .tc := ⟨.hbm, 46, rfl⟩
abbrev main_cst_5 : Ref sig .tc := ⟨.hbm, 47, rfl⟩
abbrev main_v35 : Ref sig .tc := ⟨.hbm, 48, rfl⟩
abbrev main_v36 : Ref sig .tc := ⟨.hbm, 49, rfl⟩
abbrev main_cst_6 : Ref sig .tc := ⟨.hbm, 50, rfl⟩
abbrev main_v37 : Ref sig .tc := ⟨.hbm, 51, rfl⟩
abbrev main_v38 : Ref sig .tc := ⟨.hbm, 52, rfl⟩
abbrev main_v39 : Ref sig .tc := ⟨.hbm, 53, rfl⟩
abbrev main_v40 : Ref sig .tc := ⟨.hbm, 54, rfl⟩
abbrev main_v41 : Ref sig .tc := ⟨.hbm, 55, rfl⟩
abbrev main_v42 : Ref sig .tc := ⟨.hbm, 56, rfl⟩
abbrev main_v43 : Ref sig .tc := ⟨.hbm, 57, rfl⟩
abbrev main_v44 : Ref sig .tc := ⟨.hbm, 58, rfl⟩
abbrev main_v45 : Ref sig .tc := ⟨.hbm, 59, rfl⟩

abbrev nD : Nat := 1
abbrev τ : Topo := Topo.v7x

variable {F : FTy → Type} [FloatOps F]
-- ==== Kernel16.lean ====
abbrev S2048x1024 : Shape := ⟨2, ![2048, 1024]⟩
abbrev S1x1024 : Shape := ⟨2, ![1, 1024]⟩
abbrev S1x1 : Shape := ⟨2, ![1, 1]⟩
abbrev S256x1024 : Shape := ⟨2, ![256, 1024]⟩
abbrev S256 : Shape := ⟨1, ![256]⟩
abbrev S256x1 : Shape := ⟨2, ![256, 1]⟩
abbrev S1 : Shape := ⟨1, ![1]⟩
abbrev S1024 : Shape := ⟨1, ![1024]⟩

abbrev nBuf : Space → Nat
  | .hbm => 7
  | .vmem => 11
  | .smem => 0
  | _ => 0

abbrev bufTy : (tb : Table) → Fin (tcTables nBuf tb) → BufTy
  | .hbm, ⟨0, _⟩ => ⟨S2048x1024, .f32⟩
  | .hbm, ⟨1, _⟩ => ⟨S1x1024, .f32⟩
  | .hbm, ⟨2, _⟩ => ⟨S2048x1024, .f32⟩
  | .hbm, ⟨3, _⟩ => ⟨S2048x1024, .f32⟩
  | .hbm, ⟨4, _⟩ => ⟨S2048x1024, .bf16⟩
  | .hbm, ⟨5, _⟩ => ⟨S1x1024, .f32⟩
  | .hbm, ⟨6, _⟩ => ⟨S1x1, .f32⟩
  | .local _ .vmem, ⟨0, _⟩ => ⟨S256x1024, .f32⟩
  | .local _ .vmem, ⟨1, _⟩ => ⟨S256x1024, .f32⟩
  | .local _ .vmem, ⟨2, _⟩ => ⟨S1x1024, .f32⟩
  | .local _ .vmem, ⟨3, _⟩ => ⟨S256x1024, .f32⟩
  | .local _ .vmem, ⟨4, _⟩ => ⟨S256x1024, .f32⟩
  | .local _ .vmem, ⟨5, _⟩ => ⟨S256x1024, .f32⟩
  | .local _ .vmem, ⟨6, _⟩ => ⟨S256x1024, .f32⟩
  | .local _ .vmem, ⟨7, _⟩ => ⟨S256x1024, .bf16⟩
  | .local _ .vmem, ⟨8, _⟩ => ⟨S256x1024, .bf16⟩
  | .local _ .vmem, ⟨9, _⟩ => ⟨S1x1024, .f32⟩
  | .local _ .vmem, ⟨10, _⟩ => ⟨S1x1, .f32⟩
  | _, _ => ⟨S2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0_0 : Ref sig .tc := ⟨.hbm, 3, rfl⟩
abbrev main_v0_1 : Ref sig .tc := ⟨.hbm, 4, rfl⟩
abbrev main_v0_2 : Ref sig .tc := ⟨.hbm, 5, rfl⟩
abbrev main_v0_3 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg6_0 : Ref sig .tc := ⟨.vmem, 10, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem6_0 : DmaSem sig := 10

abbrev nD : Nat := 1
abbrev τ : Topo := Topo.v7x

variable {F : FTy → Type} [FloatOps F]

abbrev grid0 : Pipeline.Grid := ⟨1, ![8], ![false]⟩

def k0_cond1 (i : grid0.Coords) : BitVec 1 :=
  let arg0 : BitVec 32 := BitVec.ofNat 32 (i 0).val
  let c0_i32 : BitVec 32 := 0#32
  let v48 : BitVec 1 := Scalar.cmpi .eq arg0 c0_i32
  let v49 : BitVec 32 := Scalar.extui v48
  let c0_i32_19 : BitVec 32 := 0#32
  let v50 : BitVec 1 := Scalar.cmpi .ne v49 c0_i32_19
  v50

def k0_cond2 (i : grid0.Coords) : BitVec 1 :=
  let arg0 : BitVec 32 := BitVec.ofNat 32 (i 0).val
  let c0_i32_20 : BitVec 32 := 0#32
  let v51 : BitVec 1 := Scalar.cmpi .sgt arg0 c0_i32_20
  let v52 : BitVec 32 := Scalar.extui v51
  let c0_i32_21 : BitVec 32 := 0#32
  let v53 : BitVec 1 := Scalar.cmpi .ne v52 c0_i32_21
  v53

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S256x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x1 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]
-- ==== Reference16Ideal.lean ====
abbrev S2048x1024 : Shape := ⟨2, ![2048, 1024]⟩
abbrev S1x1024 : Shape := ⟨2, ![1, 1024]⟩
abbrev S_ : Shape := ⟨0, ![]⟩
abbrev S2048 : Shape := ⟨1, ![2048]⟩
abbrev S2048x1 : Shape := ⟨2, ![2048, 1]⟩
abbrev S1024 : Shape := ⟨1, ![1024]⟩
abbrev S1x1 : Shape := ⟨2, ![1, 1]⟩

abbrev nBuf : Space → Nat
  | .hbm => 70
  | .vmem => 0
  | .smem => 0
  | _ => 0

abbrev bufTy : (tb : Table) → Fin (tcTables nBuf tb) → BufTy
  | .hbm, ⟨0, _⟩ => ⟨S2048x1024, .f32⟩
  | .hbm, ⟨1, _⟩ => ⟨S1x1024, .f32⟩
  | .hbm, ⟨2, _⟩ => ⟨S2048x1024, .f32⟩
  | .hbm, ⟨3, _⟩ => ⟨S2048x1024, .f32⟩
  | .hbm, ⟨4, _⟩ => ⟨S_, .f32⟩
  | .hbm, ⟨5, _⟩ => ⟨S2048, .f32⟩
  | .hbm, ⟨6, _⟩ => ⟨S2048x1, .f32⟩
  | .hbm, ⟨7, _⟩ => ⟨S_, .f32⟩
  | .hbm, ⟨8, _⟩ => ⟨S2048x1, .f32⟩
  | .hbm, ⟨9, _⟩ => ⟨S2048x1, .f32⟩
  | .hbm, ⟨10, _⟩ => ⟨S_, .f32⟩
  | .hbm, ⟨11, _⟩ => ⟨S2048x1, .f32⟩
  | .hbm, ⟨12, _⟩ => ⟨S2048x1, .f32⟩
  | .hbm, ⟨13, _⟩ => ⟨S2048x1, .f32⟩
  | .hbm, ⟨14, _⟩ => ⟨S2048x1, .f32⟩
  | .hbm, ⟨15, _⟩ => ⟨S_, .f32⟩
  | .hbm, ⟨16, _⟩ => ⟨S2048x1, .f32⟩
  | .hbm, ⟨17, _⟩ => ⟨S2048x1, .f32⟩
  | .hbm, ⟨18, _⟩ => ⟨S2048x1024, .f32⟩
  | .hbm, ⟨19, _⟩ => ⟨S2048x1024, .f32⟩
  | .hbm, ⟨20, _⟩ => ⟨S2048x1024, .f32⟩
  | .hbm, ⟨21, _⟩ => ⟨S2048x1024, .f32⟩
  | .hbm, ⟨22, _⟩ => ⟨S2048x1024, .f32⟩
  | .hbm, ⟨23, _⟩ => ⟨S2048x1024, .f32⟩
  | .hbm, ⟨24, _⟩ => ⟨S_, .f32⟩
  | .hbm, ⟨25, _⟩ => ⟨S2048x1024, .f32⟩
  | .hbm, ⟨26, _⟩ => ⟨S2048x1024, .f32⟩
  | .hbm, ⟨27, _⟩ => ⟨S_, .f32⟩
  | .hbm, ⟨28, _⟩ => ⟨S2048, .f32⟩
  | .hbm, ⟨29, _⟩ => ⟨S_, .f32⟩
  | .hbm, ⟨30, _⟩ => ⟨S2048, .f32⟩
  | .hbm, ⟨31, _⟩ => ⟨S2048, .f32⟩
  | .hbm, ⟨32, _⟩ => ⟨S_, .f32⟩
  | .hbm, ⟨33, _⟩ => ⟨S_, .f32⟩
  | .hbm, ⟨34, _⟩ => ⟨S_, .f32⟩
  | .hbm, ⟨35, _⟩ => ⟨S_, .f32⟩
  | .hbm, ⟨36, _⟩ => ⟨S_, .f32⟩
  | .hbm, ⟨37, _⟩ => ⟨S_, .f32⟩
  | .hbm, ⟨38, _⟩ => ⟨S_, .f32⟩
  | .hbm, ⟨39, _⟩ => ⟨S2048, .f32⟩
  | .hbm, ⟨40, _⟩ => ⟨S_, .f32⟩
  | .hbm, ⟨41, _⟩ => ⟨S2048, .f32⟩
  | .hbm, ⟨42, _⟩ => ⟨S2048, .f32⟩
  | .hbm, ⟨43, _⟩ => ⟨S2048x1024, .f32⟩
  | .hbm, ⟨44, _⟩ => ⟨S2048x1024, .f32⟩
  | .hbm, ⟨45, _⟩ => ⟨S2048x1024, .f32⟩
  | .hbm, ⟨46, _⟩ => ⟨S_, .f32⟩
  | .hbm, ⟨47, _⟩ => ⟨S1024, .f32⟩
  | .hbm, ⟨48, _⟩ => ⟨S1x1024, .f32⟩
  | .hbm, ⟨49, _⟩ => ⟨S2048x1024, .f32⟩
  | .hbm, ⟨50, _⟩ => ⟨S2048x1024, .f32⟩
  | .hbm, ⟨51, _⟩ => ⟨S2048x1024, .f32⟩
  | .hbm, ⟨52, _⟩ => ⟨S_, .f32⟩
  | .hbm, ⟨53, _⟩ => ⟨S2048, .f32⟩
  | .hbm, ⟨54, _⟩ => ⟨S2048x1, .f32⟩
  | .hbm, ⟨55, _⟩ => ⟨S2048x1024, .f32⟩
  | .hbm, ⟨56, _⟩ => ⟨S2048x1024, .f32⟩
  | .hbm, ⟨57, _⟩ => ⟨S2048x1, .f32⟩
  | .hbm, ⟨58, _⟩ => ⟨S_, .f32⟩
  | .hbm, ⟨59, _⟩ => ⟨S2048x1, .f32⟩
  | .hbm, ⟨60, _⟩ => ⟨S2048x1, .f32⟩
  | .hbm, ⟨61, _⟩ => ⟨S_, .f32⟩
  | .hbm, ⟨62, _⟩ => ⟨S2048, .f32⟩
  | .hbm, ⟨63, _⟩ => ⟨S2048x1024, .f32⟩
  | .hbm, ⟨64, _⟩ => ⟨S2048x1024, .f32⟩
  | .hbm, ⟨65, _⟩ => ⟨S2048x1024, .f32⟩
  | .hbm, ⟨66, _⟩ => ⟨S2048x1024, .f32⟩
  | .hbm, ⟨67, _⟩ => ⟨S2048x1024, .f32⟩
  | .hbm, ⟨68, _⟩ => ⟨S2048x1024, .bf16⟩
  | .hbm, ⟨69, _⟩ => ⟨S1x1, .f32⟩
  | _, _ => ⟨S2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_v4 : Ref sig .tc := ⟨.hbm, 9, rfl⟩
abbrev main_cst_1 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_cst_2 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_cst_3 : Ref sig .tc := ⟨.hbm, 24, rfl⟩
abbrev main_v17 : Ref sig .tc := ⟨.hbm, 25, rfl⟩
abbrev main_v18 : Ref sig .tc := ⟨.hbm, 26, rfl⟩
abbrev main_cst_4 : Ref sig .tc := ⟨.hbm, 27, rfl⟩
abbrev main_v19 : Ref sig .tc := ⟨.hbm, 28, rfl⟩
abbrev main_cst_5 : Ref sig .tc := ⟨.hbm, 29, rfl⟩
abbrev main_v20 : Ref sig .tc := ⟨.hbm, 30, rfl⟩
abbrev main_v21 : Ref sig .tc := ⟨.hbm, 31, rfl⟩
abbrev main_cst_6 : Ref sig .tc := ⟨.hbm, 32, rfl⟩
abbrev main_v22 : Ref sig .tc := ⟨.hbm, 33, rfl⟩
abbrev main_cst_7 : Ref sig .tc := ⟨.hbm, 34, rfl⟩
abbrev main_v23 : Ref sig .tc := ⟨.hbm, 35, rfl⟩
abbrev main_cst_8 : Ref sig .tc := ⟨.hbm, 36, rfl⟩
abbrev main_cst_9 : Ref sig .tc := ⟨.hbm, 37, rfl⟩
abbrev main_v24 : Ref sig .tc := ⟨.hbm, 38, rfl⟩
abbrev main_v25 : Ref sig .tc := ⟨.hbm, 39, rfl⟩
abbrev main_cst_10 : Ref sig .tc := ⟨.hbm, 40, rfl⟩
abbrev main_v26 : Ref sig .tc := ⟨.hbm, 41, rfl⟩
abbrev main_v27 : Ref sig .tc := ⟨.hbm, 42, rfl⟩
abbrev main_v28 : Ref sig .tc := ⟨.hbm, 43, rfl⟩
abbrev main_v29 : Ref sig .tc := ⟨.hbm, 44, rfl⟩
abbrev main_v30 : Ref sig .tc := ⟨.hbm, 45, rfl⟩
abbrev main_cst_11 : Ref sig .tc := ⟨.hbm, 46, rfl⟩
abbrev main_v31 : Ref sig .tc := ⟨.hbm, 47, rfl⟩
abbrev main_v32 : Ref sig .tc := ⟨.hbm, 48, rfl⟩
abbrev main_v33 : Ref sig .tc := ⟨.hbm, 49, rfl⟩
abbrev main_v34 : Ref sig .tc := ⟨.hbm, 50, rfl⟩
abbrev main_v35 : Ref sig .tc := ⟨.hbm, 51, rfl⟩
abbrev main_cst_12 : Ref sig .tc := ⟨.hbm, 52, rfl⟩
abbrev main_v36 : Ref sig .tc := ⟨.hbm, 53, rfl⟩
abbrev main_v37 : Ref sig .tc := ⟨.hbm, 54, rfl⟩
abbrev main_v38 : Ref sig .tc := ⟨.hbm, 55, rfl⟩
abbrev main_v39 : Ref sig .tc := ⟨.hbm, 56, rfl⟩
abbrev main_v40 : Ref sig .tc := ⟨.hbm, 57, rfl⟩
abbrev main_cst_13 : Ref sig .tc := ⟨.hbm, 58, rfl⟩
abbrev main_v41 : Ref sig .tc := ⟨.hbm, 59, rfl⟩
abbrev main_v42 : Ref sig .tc := ⟨.hbm, 60, rfl⟩
abbrev main_cst_14 : Ref sig .tc := ⟨.hbm, 61, rfl⟩
abbrev main_v43 : Ref sig .tc := ⟨.hbm, 62, rfl⟩
abbrev main_v44 : Ref sig .tc := ⟨.hbm, 63, rfl⟩
abbrev main_v45 : Ref sig .tc := ⟨.hbm, 64, rfl⟩
abbrev main_v46 : Ref sig .tc := ⟨.hbm, 65, rfl⟩
abbrev main_v47 : Ref sig .tc := ⟨.hbm, 66, rfl⟩
abbrev main_v48 : Ref sig .tc := ⟨.hbm, 67, rfl⟩
abbrev main_v49 : Ref sig .tc := ⟨.hbm, 68, rfl⟩
abbrev main_v50 : Ref sig .tc := ⟨.hbm, 69, rfl⟩

abbrev nD : Nat := 1
abbrev τ : Topo := Topo.v7x

variable {F : FTy → Type} [FloatOps F]
-- ==== Kernel17.lean ====
abbrev S8x832x128 : Shape := ⟨3, ![8, 832, 128]⟩
abbrev S832x128 : Shape := ⟨2, ![832, 128]⟩
abbrev S1x832x128 : Shape := ⟨3, ![1, 832, 128]⟩

abbrev nBuf : Space → Nat
  | .hbm => 2
  | .vmem => 2
  | .smem => 0
  | _ => 0

abbrev bufTy : (tb : Table) → Fin (tcTables nBuf tb) → BufTy
  | .hbm, ⟨0, _⟩ => ⟨S8x832x128, .f32⟩
  | .hbm, ⟨1, _⟩ => ⟨S832x128, .f32⟩
  | .local _ .vmem, ⟨0, _⟩ => ⟨S8x832x128, .f32⟩
  | .local _ .vmem, ⟨1, _⟩ => ⟨S832x128, .f32⟩
  | _, _ => ⟨S8x832x128, .f32⟩

abbrev bufScoped : (cs : CoreSpace) → Fin (nBuf (.core cs)) → Bool
  | .vmem, ⟨0, _⟩ => true
  | .vmem, ⟨1, _⟩ => true
  | _, _ => false

abbrev semScoped : Fin 0 → Bool
  | ⟨_, h⟩ => absurd h (Nat.not_lt_zero _)

abbrev dmaSemScoped : Fin 2 → Bool
  | ⟨0, _⟩ => true
  | ⟨1, _⟩ => true
  | _ => false

abbrev sig : RefSig :=
  ofTc nBuf bufTy 0 2 bufScoped semScoped dmaSemScoped tileCredit tileCredit_eq_zero tileCredit_pos

abbrev main_arg0 : Ref sig .tc := ⟨.hbm, 0, rfl⟩
abbrev main_v0 : Ref sig .tc := ⟨.hbm, 1, rfl⟩
abbrev cc0_stg0_0 : Ref sig .tc := ⟨.vmem, 0, rfl⟩
abbrev cc0_stg1_0 : Ref sig .tc := ⟨.vmem, 1, rfl⟩
abbrev cc0_sem0_0 : DmaSem sig := 0
abbrev cc0_sem1_0 : DmaSem sig := 1

abbrev nD : Nat := 1
abbrev τ : Topo := Topo.v7x

variable {F : FTy → Type} [FloatOps F]

abbrev grid0 : Pipeline.Grid := ⟨1, ![1], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S8x832x128 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S832x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]
-- ==== Reference17Ideal.lean ====
abbrev S8x832x128 : Shape := ⟨3, ![8, 832, 128]⟩
abbrev S_ : Shape := ⟨0, ![]⟩
abbrev S832x128 : Shape := ⟨2, ![832, 128]⟩

abbrev nBuf : Space → Nat
  | .hbm => 3
  | .vmem => 0
  | .smem => 0
  | _ => 0

abbrev bufTy : (tb : Table) → Fin (tcTables nBuf tb) → BufTy
  | .hbm, ⟨0, _⟩ => ⟨S8x832x128, .f32⟩
  | .hbm, ⟨1, _⟩ => ⟨S_, .f32⟩
  | .hbm, ⟨2, _⟩ => ⟨S832x128, .f32⟩
  | _, _ => ⟨S8x832x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_cst : Ref sig .tc := ⟨.hbm, 1, rfl⟩
abbrev main_v0 : Ref sig .tc := ⟨.hbm, 2, rfl⟩

abbrev nD : Nat := 1
abbrev τ : Topo := Topo.v7x

variable {F : FTy → Type} [FloatOps F]
-- ==== Kernel18.lean ====
abbrev S1x4x1024x1280 : Shape := ⟨4, ![1, 4, 1024, 1280]⟩
abbrev S1x4x512x1280 : Shape := ⟨4, ![1, 4, 512, 1280]⟩
abbrev S2 : Shape := ⟨1, ![2]⟩
abbrev S1x1x512x1280 : Shape := ⟨4, ![1, 1, 512, 1280]⟩
abbrev S1 : Shape := ⟨1, ![1]⟩
abbrev S512x1280 : Shape := ⟨2, ![512, 1280]⟩

abbrev nBuf : Space → Nat
  | .hbm => 3
  | .vmem => 6
  | .smem => 1
  | _ => 0

abbrev bufTy : (tb : Table) → Fin (tcTables nBuf tb) → BufTy
  | .hbm, ⟨0, _⟩ => ⟨S1x4x1024x1280, .bf16⟩
  | .hbm, ⟨1, _⟩ => ⟨S1x4x512x1280, .bf16⟩
  | .hbm, ⟨2, _⟩ => ⟨S1x4x512x1280, .bf16⟩
  | .local _ .vmem, ⟨0, _⟩ => ⟨S1x1x512x1280, .bf16⟩
  | .local _ .vmem, ⟨1, _⟩ => ⟨S1x1x512x1280, .bf16⟩
  | .local _ .vmem, ⟨2, _⟩ => ⟨S1x1x512x1280, .bf16⟩
  | .local _ .vmem, ⟨3, _⟩ => ⟨S1x1x512x1280, .bf16⟩
  | .local _ .vmem, ⟨4, _⟩ => ⟨S1x1x512x1280, .bf16⟩
  | .local _ .vmem, ⟨5, _⟩ => ⟨S1x1x512x1280, .bf16⟩
  | .local _ .smem, ⟨0, _⟩ => ⟨S2, .i32⟩
  | _, _ => ⟨S1x4x1024x1280, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_arg2 : Ref sig .tc := ⟨.smem, 0, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![1, 4, 1], ![false, false, false]⟩

abbrev pre0 : Pipeline.Prefetch sig := ⟨1, ![main_arg2.idx], fun | 0 => main_arg2.names | ⟨_ + 1, h⟩ => absurd h (Nat.not_lt.2 (Nat.le_add_left _ _)), fun | 0 => rfl | ⟨_ + 1, h⟩ => absurd h (Nat.not_lt.2 (Nat.le_add_left _ _))⟩

def cc0_transform_0 (inb_S2_S1_1 : ∀ a, (![1] : Fin 1 → Nat) a + S1.size a ≤ S2.size a) (numel1_S1 : S1.numel = 1) (pf : pre0.Contents (Elt F)) (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c1 : Index := 1#32
  let v0 : BitVec 32 := pf.at 0 (Rect.unit (s := S2) ![1] S1.size inb_S2_S1_1) numel1_S1
  let c1_i32 : BitVec 32 := 1#32
  let v1 : BitVec 32 := Scalar.muli v0 c1_i32
  let v2 : BitVec 32 := Scalar.addi v1 arg2
  let c0_i32 : BitVec 32 := 0#32
  let c0_i32_0 : BitVec 32 := 0#32
  ![arg0.toNat, arg1.toNat, v2.toNat, c0_i32.toNat]

def cc0_transform_1 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, arg2.toNat, c0_i32.toNat]

def cc0_transform_2 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, arg2.toNat, c0_i32.toNat]

abbrev stage0_0 : Fin 2 → Memref sig .tc .vmem S1x1x512x1280 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, true]

abbrev stage0_1 : Fin 2 → Memref sig .tc .vmem S1x1x512x1280 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true, true]

abbrev stage0_2 : Fin 2 → Memref sig .tc .vmem S1x1x512x1280 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, true]
-- ==== Reference18Ideal.lean ====
abbrev S1x4x1024x1280 : Shape := ⟨4, ![1, 4, 1024, 1280]⟩
abbrev S1x4x512x1280 : Shape := ⟨4, ![1, 4, 512, 1280]⟩
abbrev S2 : Shape := ⟨1, ![2]⟩
abbrev S1 : Shape := ⟨1, ![1]⟩
abbrev S_ : Shape := ⟨0, ![]⟩

abbrev nBuf : Space → Nat
  | .hbm => 14
  | .vmem => 0
  | .smem => 0
  | _ => 0

abbrev bufTy : (tb : Table) → Fin (tcTables nBuf tb) → BufTy
  | .hbm, ⟨0, _⟩ => ⟨S1x4x1024x1280, .bf16⟩
  | .hbm, ⟨1, _⟩ => ⟨S1x4x512x1280, .bf16⟩
  | .hbm, ⟨2, _⟩ => ⟨S2, .i32⟩
  | .hbm, ⟨3, _⟩ => ⟨S1, .i32⟩
  | .hbm, ⟨4, _⟩ => ⟨S_, .i32⟩
  | .hbm, ⟨5, _⟩ => ⟨S_, .i32⟩
  | .hbm, ⟨6, _⟩ => ⟨S_, .i1⟩
  | .hbm, ⟨7, _⟩ => ⟨S1x4x512x1280, .bf16⟩
  | .hbm, ⟨8, _⟩ => ⟨S1x4x512x1280, .bf16⟩
  | .hbm, ⟨9, _⟩ => ⟨S1x4x512x1280, .bf16⟩
  | .hbm, ⟨10, _⟩ => ⟨S1x4x512x1280, .f32⟩
  | .hbm, ⟨11, _⟩ => ⟨S1x4x512x1280, .f32⟩
  | .hbm, ⟨12, _⟩ => ⟨S1x4x512x1280, .f32⟩
  | .hbm, ⟨13, _⟩ => ⟨S1x4x512x1280, .bf16⟩
  | _, _ => ⟨S1x4x1024x1280, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_c : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩

abbrev nD : Nat := 1
abbrev τ : Topo := Topo.v7x

variable {F : FTy → Type} [FloatOps F]
-- ==== Proof.Product.lean ====
module

public import Idealize.ShloMosaic.Lib.Pipeline.Value
public import Idealize.ShloMosaic.Lib.ValueIdx
public import Idealize.ShloMosaic.Lib.MatmulPlain
public import Idealize.ShloMosaic.Lib.IdealHost
public import Idealize.ShloMosaic.Lib.Pointwise.Reshape

/-!
Products of extended reals whose two factors are summed along their FIRST axes: `∑ k, a (k, i) * b (k, j)`, the shape of the
gradient of a weight array. Both the kernel's matrix product and the reference's are this sum.
-/

@[expose] public section

noncomputable section

open Idealize.ShloMosaic

namespace Cert.Product

variable {n m K : ℕ} {φ₁ φ₂ : FTy}

/-- The index `(a, b)` of an array with two axes. -/
def at2 (a : Fin n) (b : Fin m) : (⟨2, ![n, m]⟩ : Shape).Idx := fun
  | ⟨0, _⟩ => a
  | ⟨1, _⟩ => b

/-- A sum over the one contracted axis is a sum over the numbers below its length. -/
theorem sum_contr {sl sr so : Shape} (D : DotDims sl sr so) (hr : D.contr.rank = 1) (hs : D.contr.size ⟨0, by omega⟩ = K)
    (f : D.contr.Idx → EReal) (g : Fin K → EReal) (H : ∀ k : Fin K, f ((ValueIdx.contrEquiv1 D K hr hs).symm k) = g k) :
    ∑ q, f q = ∑ k, g k := by
  rw [← Equiv.sum_comp (ValueIdx.contrEquiv1 D K hr hs).symm]
  exact Finset.sum_congr rfl fun k _ => H k

/-- The kernel's product along the first axes, from a zero accumulator. -/
theorem matmul_first (prec : Option ContractPrecision) (D : DotDims ⟨2, ![K, n]⟩ ⟨2, ![K, m]⟩ ⟨2, ![n, m]⟩)
    (A : FVec Ideal ⟨2, ![K, n]⟩ φ₁) (B : FVec Ideal ⟨2, ![K, m]⟩ φ₂) (j : (⟨2, ![n, m]⟩ : Shape).Idx)
    (hr : D.contr.rank = 1) (hs : D.contr.size ⟨0, by omega⟩ = K)
    (hl : ∀ k, D.lhsIdx j ((ValueIdx.contrEquiv1 D K hr hs).symm k) = at2 k (j 0))
    (hR : ∀ k, D.rhsIdx j ((ValueIdx.contrEquiv1 D K hr hs).symm k) = at2 k (j 1)) :
    matmul D prec A B (constant ⟨2, ![n, m]⟩ .f32 0x00000000#32 : FVec Ideal ⟨2, ![n, m]⟩ .f32) j = ∑ k : Fin K, A (at2 k (j 0)) * B (at2 k (j 1)) := by
  refine (Ideal.matmul_apply _ _ _ _ _ j).trans ?_
  have e := sum_contr D hr hs (fun q => A (D.lhsIdx j q) * B (D.rhsIdx j q)) (fun k => A (at2 k (j 0)) * B (at2 k (j 1)))
    (fun k => by rw [hl, hR]; rfl)
  have z : (constant ⟨2, ![n, m]⟩ .f32 0x00000000#32 : FVec Ideal ⟨2, ![n, m]⟩ .f32) j = (0 : EReal) := Ideal.ofBits_zero_f32
  exact (congrArg₂ (fun a b : EReal => a + b) z e).trans (zero_add _)

/-- The reference's product along the first axes. -/
theorem dot_first (prec : Option ContractPrecision) (D : DotDims ⟨2, ![K, n]⟩ ⟨2, ![K, m]⟩ ⟨2, ![n, m]⟩)
    (A : FVec Ideal ⟨2, ![K, n]⟩ φ₁) (B : FVec Ideal ⟨2, ![K, m]⟩ φ₂) (j : (⟨2, ![n, m]⟩ : Shape).Idx)
    (hr : D.contr.rank = 1) (hs : D.contr.size ⟨0, by omega⟩ = K)
    (hl : ∀ k, D.lhsIdx j ((ValueIdx.contrEquiv1 D K hr hs).symm k) = at2 k (j 0))
    (hR : ∀ k, D.rhsIdx j ((ValueIdx.contrEquiv1 D K hr hs).symm k) = at2 k (j 1)) :
    Host.dotGeneral D prec A B j = ∑ k : Fin K, A (at2 k (j 0)) * B (at2 k (j 1)) := by
  refine (Ideal.dotGeneral_apply (φ₁ := φ₁) (φ₂ := φ₂) _ prec .single A B j).trans ?_
  exact sum_contr D hr hs (fun q => A (D.lhsIdx j q) * B (D.rhsIdx j q)) (fun k => A (at2 k (j 0)) * B (at2 k (j 1)))
    (fun k => by rw [hl, hR]; rfl)

/-- The dimension numbers of a product along the first axes. -/
def first (K n m : ℕ) (wf : DotDims.WF ⟨2, ![K, n]⟩ ⟨2, ![K, m]⟩ ⟨2, ![n, m]⟩ [0] [0] [1] [1] [] []) :
    DotDims ⟨2, ![K, n]⟩ ⟨2, ![K, m]⟩ ⟨2, ![n, m]⟩ where
  lhsContracting := [0]
  rhsContracting := [0]
  lhsNonContracting := [1]
  rhsNonContracting := [1]
  lhsBatch := []
  rhsBatch := []
  wf := wf

theorem first_lhs (wf) (j : (⟨2, ![n, m]⟩ : Shape).Idx) (k : Fin K) :
    (first K n m wf).lhsIdx j ((ValueIdx.contrEquiv1 (first K n m wf) K rfl rfl).symm k) = at2 k (j 0) := by
  funext a
  refine Fin.ext ?_
  match a with
  | ⟨0, _⟩ => exact ValueIdx.contrEquiv1_symm_val (first K n m wf) K rfl rfl k
  | ⟨1, _⟩ => rfl
theorem first_rhs (wf) (j : (⟨2, ![n, m]⟩ : Shape).Idx) (k : Fin K) :
    (first K n m wf).rhsIdx j ((ValueIdx.contrEquiv1 (first K n m wf) K rfl rfl).symm k) = at2 k (j 1) := by
  funext a
  refine Fin.ext ?_
  match a with
  | ⟨0, _⟩ => exact ValueIdx.contrEquiv1_symm_val (first K n m wf) K rfl rfl k
  | ⟨1, _⟩ => rfl

theorem matmul_apply (prec : Option ContractPrecision) (wf)
    (A : FVec Ideal ⟨2, ![K, n]⟩ φ₁) (B : FVec Ideal ⟨2, ![K, m]⟩ φ₂) (j : (⟨2, ![n, m]⟩ : Shape).Idx) :
    matmul (first K n m wf) prec A B (constant ⟨2, ![n, m]⟩ .f32 0x00000000#32 : FVec Ideal ⟨2, ![n, m]⟩ .f32) j
      = ∑ k : Fin K, A (at2 k (j 0)) * B (at2 k (j 1)) :=
  matmul_first prec _ A B j rfl rfl (first_lhs wf j) (first_rhs wf j)
theorem dot_apply (prec : Option ContractPrecision) (wf)
    (A : FVec Ideal ⟨2, ![K, n]⟩ φ₁) (B : FVec Ideal ⟨2, ![K, m]⟩ φ₂) (j : (⟨2, ![n, m]⟩ : Shape).Idx) :
    Host.dotGeneral (first K n m wf) prec A B j = ∑ k : Fin K, A (at2 k (j 0)) * B (at2 k (j 1)) :=
  dot_first prec _ A B j rfl rfl (first_lhs wf j) (first_rhs wf j)

/-! ## Products along the second axis of the first factor and the first axis of the second -/

/-- The dimension numbers of the plain product of an array `n × K` with an array `K × m`. -/
def usual (K n m : ℕ) (wf : DotDims.WF ⟨2, ![n, K]⟩ ⟨2, ![K, m]⟩ ⟨2, ![n, m]⟩ [1] [0] [0] [1] [] []) :
    DotDims ⟨2, ![n, K]⟩ ⟨2, ![K, m]⟩ ⟨2, ![n, m]⟩ where
  lhsContracting := [1]
  rhsContracting := [0]
  lhsNonContracting := [0]
  rhsNonContracting := [1]
  lhsBatch := []
  rhsBatch := []
  wf := wf

theorem usual_lhs (wf) (j : (⟨2, ![n, m]⟩ : Shape).Idx) (k : Fin K) :
    (usual K n m wf).lhsIdx j ((ValueIdx.contrEquiv1 (usual K n m wf) K rfl rfl).symm k) = at2 (j 0) k := by
  funext a
  refine Fin.ext ?_
  match a with
  | ⟨0, _⟩ => rfl
  | ⟨1, _⟩ => exact ValueIdx.contrEquiv1_symm_val (usual K n m wf) K rfl rfl k
theorem usual_rhs (wf) (j : (⟨2, ![n, m]⟩ : Shape).Idx) (k : Fin K) :
    (usual K n m wf).rhsIdx j ((ValueIdx.contrEquiv1 (usual K n m wf) K rfl rfl).symm k) = at2 k (j 1) := by
  funext a
  refine Fin.ext ?_
  match a with
  | ⟨0, _⟩ => exact ValueIdx.contrEquiv1_symm_val (usual K n m wf) K rfl rfl k
  | ⟨1, _⟩ => rfl

/-- The kernel's product at an index, from a zero accumulator, once it is known which entries the contraction pairs. -/
theorem matmul_paired {sl sr so : Shape} (prec : Option ContractPrecision) (D : DotDims sl sr so) (A : FVec Ideal sl φ₁) (B : FVec Ideal sr φ₂) (j : so.Idx)
    (hr : D.contr.rank = 1) (hs : D.contr.size ⟨0, by omega⟩ = K) (a : Fin K → sl.Idx) (b : Fin K → sr.Idx)
    (hl : ∀ k, D.lhsIdx j ((ValueIdx.contrEquiv1 D K hr hs).symm k) = a k)
    (hR : ∀ k, D.rhsIdx j ((ValueIdx.contrEquiv1 D K hr hs).symm k) = b k) :
    matmul D prec A B (constant so .f32 0x00000000#32 : FVec Ideal so .f32) j = ∑ k : Fin K, A (a k) * B (b k) := by
  refine (Ideal.matmul_apply _ _ _ _ _ j).trans ?_
  have e := sum_contr D hr hs (fun q => A (D.lhsIdx j q) * B (D.rhsIdx j q)) (fun k => A (a k) * B (b k)) (fun k => by rw [hl, hR])
  have z : (constant so .f32 0x00000000#32 : FVec Ideal so .f32) j = (0 : EReal) := Ideal.ofBits_zero_f32
  exact (congrArg₂ (fun a b : EReal => a + b) z e).trans (zero_add _)

/-- The reference's product at an index, likewise. -/
theorem dot_paired {sl sr so : Shape} (prec : Option ContractPrecision) (D : DotDims sl sr so) (A : FVec Ideal sl φ₁) (B : FVec Ideal sr φ₂) (j : so.Idx)
    (hr : D.contr.rank = 1) (hs : D.contr.size ⟨0, by omega⟩ = K) (a : Fin K → sl.Idx) (b : Fin K → sr.Idx)
    (hl : ∀ k, D.lhsIdx j ((ValueIdx.contrEquiv1 D K hr hs).symm k) = a k)
    (hR : ∀ k, D.rhsIdx j ((ValueIdx.contrEquiv1 D K hr hs).symm k) = b k) :
    Host.dotGeneral D prec A B j = ∑ k : Fin K, A (a k) * B (b k) := by
  refine (Ideal.dotGeneral_apply (φ₁ := φ₁) (φ₂ := φ₂) _ prec .single A B j).trans ?_
  exact sum_contr D hr hs (fun q => A (D.lhsIdx j q) * B (D.rhsIdx j q)) (fun k => A (a k) * B (b k)) (fun k => by rw [hl, hR])

theorem matmul_usual (prec : Option ContractPrecision) (wf)
    (A : FVec Ideal ⟨2, ![n, K]⟩ φ₁) (B : FVec Ideal ⟨2, ![K, m]⟩ φ₂) (j : (⟨2, ![n, m]⟩ : Shape).Idx) :
    matmul (usual K n m wf) prec A B (constant ⟨2, ![n, m]⟩ .f32 0x00000000#32 : FVec Ideal ⟨2, ![n, m]⟩ .f32) j
      = ∑ k : Fin K, A (at2 (j 0) k) * B (at2 k (j 1)) :=
  matmul_paired prec _ A B j rfl rfl _ _ (usual_lhs wf j) (usual_rhs wf j)
theorem dot_usual (prec : Option ContractPrecision) (wf)
    (A : FVec Ideal ⟨2, ![n, K]⟩ φ₁) (B : FVec Ideal ⟨2, ![K, m]⟩ φ₂) (j : (⟨2, ![n, m]⟩ : Shape).Idx) :
    Host.dotGeneral (usual K n m wf) prec A B j = ∑ k : Fin K, A (at2 (j 0) k) * B (at2 k (j 1)) :=
  dot_paired prec _ A B j rfl rfl _ _ (usual_lhs wf j) (usual_rhs wf j)

end Cert.Product

end
-- ==== Proof.Weights1.lean ====
module

public import proofs.«01_k».proof.Defs
public import proofs.«01_k».proof.Proof.Product
public import proofs.«01_k».proof.Proof.Gen.KernelIdeal.Value
public import proofs.«01_k».proof.Proof.Gen.ReferenceIdeal.Run

/-!
The gradient of the input projection's weights on even layers: the kernel's call computes, for each of the four shards of
columns, the sum over the 2048 tokens of an activation times a cotangent, and so does the gradient of the plain product.
-/

@[expose] public section

noncomputable section

open Idealize.ShloMosaic Idealize.ShloMosaic.TcCoe Idealize.SL.Sem

namespace Cert.Weights1

section

open Cert.KernelIdeal Cert.KernelIdeal.Gen Cert.Product

variable (m : (ℓ : Loc nD τ sig) → Buf (Elt Ideal) ℓ)

/-- The gradient: shard `j`, row `d`, column `k` is the sum over the tokens of activation `d` times column `j * 1280 + k` of the
    cotangent. -/
def grad (x : FVec Ideal S2048x1024 .bf16) (g : FVec Ideal S2048x5120 .bf16) : FVec Ideal S1x4x1024x1280 .bf16 := fun i =>
  ∑ k : Fin 2048, x (at2 k (i 2)) * g (at2 k ⟨(i 1).val * 1280 + (i 3).val, by
    have h1 : (i 1 : ℕ) < 4 := (i 1).isLt
    have h3 : (i 3 : ℕ) < 1280 := (i 3).isLt
    omega⟩)

theorem zero2 : (![0, 0] : Fin 2 → Nat) = fun _ => 0 := funext fun a => by fin_cases a <;> rfl
theorem zero4 : (![0, 0, 0, 0] : Fin 4 → Nat) = fun _ => 0 := funext fun a => by fin_cases a <;> rfl

theorem load0 (X : Vec Ideal S2048x1024 .bf16) : View.ld X r0_0 = X := View.ld_unit_zero zero2 _ X
theorem load1 (X : Vec Ideal S2048x1280 .bf16) : View.ld X r0_1 = X := View.ld_unit_zero zero2 _ X

/-- What one grid point computes, at an index of its block. -/
theorem block (x : FVec Ideal S2048x1024 .bf16) (g : FVec Ideal S2048x1280 .bf16) (j : S1x1x1024x1280.Idx) :
    k0_pay1 (F := Ideal) x g j = ∑ k : Fin 2048, x (at2 k (j 2)) * g (at2 k (j 3)) := by
  have h0 : (j 0 : ℕ) < 1 := (j 0).isLt
  have h1 : (j 1 : ℕ) < 1 := (j 1).isLt
  have h2 : (j 2 : ℕ) < 1024 := (j 2).isLt
  have h3 : (j 3 : ℕ) < 1280 := (j 3).isLt
  unfold k0_pay1
  refine (shapeCast_apply _ _ j (at2 (j 2) (j 3) : S1024x1280.Idx) ?_).trans ?_
  · rw [rowMajor_val2 _ 1280 rfl, rowMajor_val4 j (1 * (1024 * 1280)) (1024 * 1280) 1280 rfl rfl rfl]
    show (j 2 : ℕ) * 1280 + (j 3 : ℕ) = _
    omega
  · exact matmul_apply (K := 2048) (n := 1024) (m := 1280) none _ x g (at2 (j 2) (j 3))

/-- Where the blocks of point `t` lie. -/
theorem place0 : ∀ t : Fin cfg0.N, win0_0.index t 0 * win0_0.size 0 = 0 ∧ win0_0.index t 1 * win0_0.size 1 = 0 :=
  (by decide +kernel : ∀ t : Fin grid0.N, win0_0.index t 0 * win0_0.size 0 = 0 ∧ win0_0.index t 1 * win0_0.size 1 = 0)
theorem place1 : ∀ t : Fin cfg0.N, win0_1.index t 0 * win0_1.size 0 = 0 ∧ win0_1.index t 1 * win0_1.size 1 = t.val * 1280 :=
  (by decide +kernel : ∀ t : Fin grid0.N, win0_1.index t 0 * win0_1.size 0 = 0 ∧ win0_1.index t 1 * win0_1.size 1 = t.val * 1280)
theorem place2 : ∀ t : Fin cfg0.N, win0_2.index t 0 * win0_2.size 0 = 0 ∧ win0_2.xsize (grid0.coords t) 0 = 1
    ∧ win0_2.index t 1 * win0_2.size 1 = t.val ∧ win0_2.xsize (grid0.coords t) 1 = 1
    ∧ win0_2.index t 2 * win0_2.size 2 = 0 ∧ win0_2.xsize (grid0.coords t) 2 = 1024
    ∧ win0_2.index t 3 * win0_2.size 3 = 0 ∧ win0_2.xsize (grid0.coords t) 3 = 1280 :=
  (by decide +kernel : ∀ t : Fin grid0.N, win0_2.index t 0 * win0_2.size 0 = 0 ∧ win0_2.xsize (grid0.coords t) 0 = 1
    ∧ win0_2.index t 1 * win0_2.size 1 = t.val ∧ win0_2.xsize (grid0.coords t) 1 = 1
    ∧ win0_2.index t 2 * win0_2.size 2 = 0 ∧ win0_2.xsize (grid0.coords t) 2 = 1024
    ∧ win0_2.index t 3 * win0_2.size 3 = 0 ∧ win0_2.xsize (grid0.coords t) 3 = 1280)

/-- The point whose block holds shard `l`. -/
def pointOf (l : ℕ) (hl : l < 4) : Fin cfg0.N := ⟨l, hl⟩

/-- Every index lies in some point's block. -/
theorem cover (i : S1x4x1024x1280.Idx) : ∃ t : Fin cfg0.N, (cfg0.win 2).flush t = true ∧ i ∈ ((cfg0.win 2).blk t).view.set := by
  have h0 : (i 0 : Nat) < 1 := (i 0).isLt
  have h1 : (i 1 : Nat) < 4 := (i 1).isLt
  have h2 : (i 2 : Nat) < 1024 := (i 2).isLt
  have h3 : (i 3 : Nat) < 1280 := (i 3).isLt
  refine ⟨pointOf (i 1) h1, flush0_2 _, ?_⟩
  show i ∈ ((View.whole main_v0).slice (win0_2.rect (pointOf (i 1) h1))).set
  rw [View.set_slice_whole, Rect.mem_set_unit]
  obtain ⟨e0, s0, e1, s1, e2, s2, e3, s3⟩ := place2 (pointOf (i 1) h1)
  have hv : (pointOf (i 1) h1).val = (i 1 : Nat) := rfl
  rw [hv] at e1
  generalize pointOf (i 1) h1 = t at *
  intro a
  match a with
  | ⟨0, _⟩ => show win0_2.index t 0 * win0_2.size 0 ≤ (i 0 : Nat) ∧ (i 0 : Nat) < win0_2.index t 0 * win0_2.size 0 + win0_2.xsize (grid0.coords t) 0
              rw [e0, s0]; omega
  | ⟨1, _⟩ => show win0_2.index t 1 * win0_2.size 1 ≤ (i 1 : Nat) ∧ (i 1 : Nat) < win0_2.index t 1 * win0_2.size 1 + win0_2.xsize (grid0.coords t) 1
              rw [e1, s1]; omega
  | ⟨2, _⟩ => show win0_2.index t 2 * win0_2.size 2 ≤ (i 2 : Nat) ∧ (i 2 : Nat) < win0_2.index t 2 * win0_2.size 2 + win0_2.xsize (grid0.coords t) 2
              rw [e2, s2]; omega
  | ⟨3, _⟩ => show win0_2.index t 3 * win0_2.size 3 ≤ (i 3 : Nat) ∧ (i 3 : Nat) < win0_2.index t 3 * win0_2.size 3 + win0_2.xsize (grid0.coords t) 3
              rw [e3, s3]; omega

/-- What point `t` writes back is its block of the gradient. -/
theorem written (c : Dev nD) (t : Fin cfg0.N) :
    (dats m 0 c).flushed 2 t = (win0_2.blk t).view.read (Elt Ideal) (grad (m ((c : Thread nD τ).loc main_arg0)) (m ((c : Thread nD τ).loc main_arg1))) := by
  show (cfg0.win 2).cut (grid0.coords t) ((dats m 0 c).after 2 t) = _
  rw [after0_2]
  unfold out0_2
  rw [View.canon_unit_zero zero4, load0, load1]
  funext j
  refine (block (iblk m c 0 t) (iblk m c 1 t) j).trans ?_
  show _ = grad (m ((c : Thread nD τ).loc main_arg0)) (m ((c : Thread nD τ).loc main_arg1)) ((win0_2.rect t).emb j)
  obtain ⟨a0, a1⟩ := place0 t
  obtain ⟨b0, b1⟩ := place1 t
  obtain ⟨e0, -, e1, -, e2, -, e3, -⟩ := place2 t
  have h1 : (j 1 : ℕ) < 1 := (j 1).isLt
  have q1 : (((win0_2.rect t).emb j 1 : _) : ℕ) = t.val := by rw [Pipeline.Window.rect_emb_val win0_2 t j 1 rfl, e1]; omega
  have q2 : (((win0_2.rect t).emb j 2 : _) : ℕ) = (j 2 : ℕ) := by rw [Pipeline.Window.rect_emb_val win0_2 t j 2 rfl, e2]; omega
  have q3 : (((win0_2.rect t).emb j 3 : _) : ℕ) = (j 3 : ℕ) := by rw [Pipeline.Window.rect_emb_val win0_2 t j 3 rfl, e3]; omega
  refine Finset.sum_congr rfl fun k _ => congrArg₂ (fun a b : EReal => a * b) ?_ ?_
  · show m ((c : Thread nD τ).loc main_arg0) ((win0_0.rect t).emb (at2 k (j 2) : S2048x1024.Idx)) = _
    refine congrArg _ (funext fun a => Fin.ext ?_)
    refine (Pipeline.Window.rect_emb_val win0_0 t _ a rfl).trans ?_
    match a with
    | ⟨0, _⟩ => show win0_0.index t 0 * win0_0.size 0 + k.val = k.val
                rw [a0]; omega
    | ⟨1, _⟩ => show win0_0.index t 1 * win0_0.size 1 + (j 2 : ℕ) = ((win0_2.rect t).emb j 2 : ℕ)
                rw [a1, q2]; omega
  · show m ((c : Thread nD τ).loc main_arg1) ((win0_1.rect t).emb (at2 k (j 3) : S2048x1280.Idx)) = _
    refine congrArg _ (funext fun a => Fin.ext ?_)
    refine (Pipeline.Window.rect_emb_val win0_1 t _ a rfl).trans ?_
    match a with
    | ⟨0, _⟩ => show win0_1.index t 0 * win0_1.size 0 + k.val = k.val
                rw [b0]; omega
    | ⟨1, _⟩ => show win0_1.index t 1 * win0_1.size 1 + (j 3 : ℕ) = ((win0_2.rect t).emb j 1 : ℕ) * 1280 + ((win0_2.rect t).emb j 3 : ℕ)
                rw [b1, q1, q3]

/-- The array after the run. -/
theorem final (c : Dev nD) : (dats m 0 c).arrAt 2 cfg0.N = grad (m ((c : Thread nD τ).loc main_arg0)) (m ((c : Thread nD τ).loc main_arg1)) :=
  (dats m 0 c).arrAt_eq_of_cover 2 _ (fun t _ => written m c t) cover

end

section

open Cert.ReferenceIdeal Cert.ReferenceIdeal.Gen Cert.Product

/-- What the reference computes: the product the other way round, transposed and cut into shards. -/
theorem plain (x : FVec Ideal S2048x1024 .bf16) (g : FVec Ideal S2048x5120 .bf16) :
    (truncf .bf16 (transpose S1x4x1024x1280 [0, 2, 1, 3] (shapeCast S1x1024x4x1280 (transpose S1024x5120 [1, 0]
      (Host.dotGeneral dot_S2048x5120_S2048x1024_S5120x1024_0_0_1_1_n_n none (extf .f32 g Facts₀.bitsLt_bf16_f32) (extf .f32 x Facts₀.bitsLt_bf16_f32))
      Facts₀.transposes_S5120x1024_S1024x5120_1_0) Facts₀.shapeCasts_S1024x5120_S1x1024x4x1280) Facts₀.transposes_S1x1024x4x1280_S1x4x1024x1280_0_2_1_3) Facts₀.bitsLt_bf16_f32 : FVec Ideal S1x4x1024x1280 .bf16)
      = grad x g := by
  funext i
  have h0 : (i 0 : Nat) < 1 := (i 0).isLt
  have h1 : (i 1 : Nat) < 4 := (i 1).isLt
  have h2 : (i 2 : Nat) < 1024 := (i 2).isLt
  have h3 : (i 3 : Nat) < 1280 := (i 3).isLt
  have hc : (i 1 : ℕ) * 1280 + (i 3 : ℕ) < 5120 := by omega
  let k4 : S1x1024x4x1280.Idx := fun
    | ⟨0, _⟩ => i 0
    | ⟨1, _⟩ => i 2
    | ⟨2, _⟩ => i 1
    | ⟨3, _⟩ => i 3
  refine (ValueIdx.truncf_apply (φ := .f32) (ψ := .bf16) _ Facts₀.bitsLt_bf16_f32 i).trans ?_
  refine (transpose_apply (s := S1x1024x4x1280) (t := S1x4x1024x1280) [0, 2, 1, 3] _ Facts₀.transposes_S1x1024x4x1280_S1x4x1024x1280_0_2_1_3 i k4 ?_).trans ?_
  · intro b
    match b with
    | ⟨0, _⟩ => rfl
    | ⟨1, _⟩ => rfl
    | ⟨2, _⟩ => rfl
    | ⟨3, _⟩ => rfl
  refine (shapeCast_apply _ _ k4 (at2 (i 2) ⟨(i 1 : ℕ) * 1280 + (i 3 : ℕ), hc⟩ : S1024x5120.Idx) ?_).trans ?_
  · rw [rowMajor_val2 _ 5120 rfl, rowMajor_val4 k4 (1024 * (4 * 1280)) (4 * 1280) 1280 rfl rfl rfl]
    show (i 2 : ℕ) * 5120 + ((i 1 : ℕ) * 1280 + (i 3 : ℕ)) = (i 0 : ℕ) * (1024 * (4 * 1280)) + (i 2 : ℕ) * (4 * 1280) + (i 1 : ℕ) * 1280 + (i 3 : ℕ)
    omega
  refine (transpose_apply _ _ _ _ (at2 ⟨(i 1 : ℕ) * 1280 + (i 3 : ℕ), hc⟩ (i 2) : S5120x1024.Idx) ?_).trans ?_
  · intro b
    match b with
    | ⟨0, _⟩ => rfl
    | ⟨1, _⟩ => rfl
  refine (dot_apply (K := 2048) (n := 5120) (m := 1024) none _ _ _ _).trans ?_
  exact Finset.sum_congr rfl fun k _ => mul_comm (G := EReal) _ _

end

/-- The call and the gradient of the plain product end with equal results. -/
theorem algebraic : Cert.algebraic_KernelIdeal_ReferenceIdeal := by
  intro m ρ m' ρ' _ hagree
  refine ⟨_, (θ_run Cert.KernelIdeal.defs _ _).mono (fun _ h c => ⟨(h c).1.trans (final m c), (h c).2⟩)
    (Cert.KernelIdeal.Value.run_blocks (F := Ideal) m ρ), ?_⟩
  refine (θ_run Cert.ReferenceIdeal.defs _ _).mono (fun _ h c => ⟨(h c).1.trans ?_, (h c).2⟩)
    (Cert.ReferenceIdeal.Value.run (F := Ideal) m' ρ')
  rw [(hagree c).1, (hagree c).2]
  exact plain _ _

end Cert.Weights1

end
-- ==== Proof.Weights2.lean ====
module

public import proofs.«01_k».proof.Defs
public import proofs.«01_k».proof.Proof.Product
public import proofs.«01_k».proof.Proof.Gen.Kernel2Ideal.Value
public import proofs.«01_k».proof.Proof.Gen.Reference2Ideal.Run

/-!
The gradient of the input projection's weights on odd layers: the kernel's call computes, for each of the four shards of
columns, the sum over the 2048 tokens of an activation times a cotangent, and so does the gradient of the plain product.
-/

@[expose] public section

noncomputable section

open Idealize.ShloMosaic Idealize.ShloMosaic.TcCoe Idealize.SL.Sem

namespace Cert.Weights2

section

open Cert.Kernel2Ideal Cert.Kernel2Ideal.Gen Cert.Product

variable (m : (ℓ : Loc nD τ sig) → Buf (Elt Ideal) ℓ)

/-- The gradient: shard `j`, row `d`, column `k` is the sum over the tokens of activation `d` times column `j * 768 + k` of the
    cotangent. -/
def grad (x : FVec Ideal S2048x1024 .bf16) (g : FVec Ideal S2048x3072 .bf16) : FVec Ideal S1x4x1024x768 .bf16 := fun i =>
  ∑ k : Fin 2048, x (at2 k (i 2)) * g (at2 k ⟨(i 1).val * 768 + (i 3).val, by
    have h1 : (i 1 : ℕ) < 4 := (i 1).isLt
    have h3 : (i 3 : ℕ) < 768 := (i 3).isLt
    omega⟩)

theorem zero2 : (![0, 0] : Fin 2 → Nat) = fun _ => 0 := funext fun a => by fin_cases a <;> rfl
theorem zero4 : (![0, 0, 0, 0] : Fin 4 → Nat) = fun _ => 0 := funext fun a => by fin_cases a <;> rfl

theorem load0 (X : Vec Ideal S2048x1024 .bf16) : View.ld X r0_0 = X := View.ld_unit_zero zero2 _ X
theorem load1 (X : Vec Ideal S2048x768 .bf16) : View.ld X r0_1 = X := View.ld_unit_zero zero2 _ X

/-- What one grid point computes, at an index of its block. -/
theorem block (x : FVec Ideal S2048x1024 .bf16) (g : FVec Ideal S2048x768 .bf16) (j : S1x1x1024x768.Idx) :
    k0_pay1 (F := Ideal) x g j = ∑ k : Fin 2048, x (at2 k (j 2)) * g (at2 k (j 3)) := by
  have h0 : (j 0 : ℕ) < 1 := (j 0).isLt
  have h1 : (j 1 : ℕ) < 1 := (j 1).isLt
  have h2 : (j 2 : ℕ) < 1024 := (j 2).isLt
  have h3 : (j 3 : ℕ) < 768 := (j 3).isLt
  unfold k0_pay1
  refine (shapeCast_apply _ _ j (at2 (j 2) (j 3) : S1024x768.Idx) ?_).trans ?_
  · rw [rowMajor_val2 _ 768 rfl, rowMajor_val4 j (1 * (1024 * 768)) (1024 * 768) 768 rfl rfl rfl]
    show (j 2 : ℕ) * 768 + (j 3 : ℕ) = _
    omega
  · exact matmul_apply (K := 2048) (n := 1024) (m := 768) none _ x g (at2 (j 2) (j 3))

/-- Where the blocks of point `t` lie. -/
theorem place0 : ∀ t : Fin cfg0.N, win0_0.index t 0 * win0_0.size 0 = 0 ∧ win0_0.index t 1 * win0_0.size 1 = 0 :=
  (by decide +kernel : ∀ t : Fin grid0.N, win0_0.index t 0 * win0_0.size 0 = 0 ∧ win0_0.index t 1 * win0_0.size 1 = 0)
theorem place1 : ∀ t : Fin cfg0.N, win0_1.index t 0 * win0_1.size 0 = 0 ∧ win0_1.index t 1 * win0_1.size 1 = t.val * 768 :=
  (by decide +kernel : ∀ t : Fin grid0.N, win0_1.index t 0 * win0_1.size 0 = 0 ∧ win0_1.index t 1 * win0_1.size 1 = t.val * 768)
theorem place2 : ∀ t : Fin cfg0.N, win0_2.index t 0 * win0_2.size 0 = 0 ∧ win0_2.xsize (grid0.coords t) 0 = 1
    ∧ win0_2.index t 1 * win0_2.size 1 = t.val ∧ win0_2.xsize (grid0.coords t) 1 = 1
    ∧ win0_2.index t 2 * win0_2.size 2 = 0 ∧ win0_2.xsize (grid0.coords t) 2 = 1024
    ∧ win0_2.index t 3 * win0_2.size 3 = 0 ∧ win0_2.xsize (grid0.coords t) 3 = 768 :=
  (by decide +kernel : ∀ t : Fin grid0.N, win0_2.index t 0 * win0_2.size 0 = 0 ∧ win0_2.xsize (grid0.coords t) 0 = 1
    ∧ win0_2.index t 1 * win0_2.size 1 = t.val ∧ win0_2.xsize (grid0.coords t) 1 = 1
    ∧ win0_2.index t 2 * win0_2.size 2 = 0 ∧ win0_2.xsize (grid0.coords t) 2 = 1024
    ∧ win0_2.index t 3 * win0_2.size 3 = 0 ∧ win0_2.xsize (grid0.coords t) 3 = 768)

/-- The point whose block holds shard `l`. -/
def pointOf (l : ℕ) (hl : l < 4) : Fin cfg0.N := ⟨l, hl⟩

/-- Every index lies in some point's block. -/
theorem cover (i : S1x4x1024x768.Idx) : ∃ t : Fin cfg0.N, (cfg0.win 2).flush t = true ∧ i ∈ ((cfg0.win 2).blk t).view.set := by
  have h0 : (i 0 : Nat) < 1 := (i 0).isLt
  have h1 : (i 1 : Nat) < 4 := (i 1).isLt
  have h2 : (i 2 : Nat) < 1024 := (i 2).isLt
  have h3 : (i 3 : Nat) < 768 := (i 3).isLt
  refine ⟨pointOf (i 1) h1, flush0_2 _, ?_⟩
  show i ∈ ((View.whole main_v0).slice (win0_2.rect (pointOf (i 1) h1))).set
  rw [View.set_slice_whole, Rect.mem_set_unit]
  obtain ⟨e0, s0, e1, s1, e2, s2, e3, s3⟩ := place2 (pointOf (i 1) h1)
  have hv : (pointOf (i 1) h1).val = (i 1 : Nat) := rfl
  rw [hv] at e1
  generalize pointOf (i 1) h1 = t at *
  intro a
  match a with
  | ⟨0, _⟩ => show win0_2.index t 0 * win0_2.size 0 ≤ (i 0 : Nat) ∧ (i 0 : Nat) < win0_2.index t 0 * win0_2.size 0 + win0_2.xsize (grid0.coords t) 0
              rw [e0, s0]; omega
  | ⟨1, _⟩ => show win0_2.index t 1 * win0_2.size 1 ≤ (i 1 : Nat) ∧ (i 1 : Nat) < win0_2.index t 1 * win0_2.size 1 + win0_2.xsize (grid0.coords t) 1
              rw [e1, s1]; omega
  | ⟨2, _⟩ => show win0_2.index t 2 * win0_2.size 2 ≤ (i 2 : Nat) ∧ (i 2 : Nat) < win0_2.index t 2 * win0_2.size 2 + win0_2.xsize (grid0.coords t) 2
              rw [e2, s2]; omega
  | ⟨3, _⟩ => show win0_2.index t 3 * win0_2.size 3 ≤ (i 3 : Nat) ∧ (i 3 : Nat) < win0_2.index t 3 * win0_2.size 3 + win0_2.xsize (grid0.coords t) 3
              rw [e3, s3]; omega

/-- What point `t` writes back is its block of the gradient. -/
theorem written (c : Dev nD) (t : Fin cfg0.N) :
    (dats m 0 c).flushed 2 t = (win0_2.blk t).view.read (Elt Ideal) (grad (m ((c : Thread nD τ).loc main_arg0)) (m ((c : Thread nD τ).loc main_arg1))) := by
  show (cfg0.win 2).cut (grid0.coords t) ((dats m 0 c).after 2 t) = _
  rw [after0_2]
  unfold out0_2
  rw [View.canon_unit_zero zero4, load0, load1]
  funext j
  refine (block (iblk m c 0 t) (iblk m c 1 t) j).trans ?_
  show _ = grad (m ((c : Thread nD τ).loc main_arg0)) (m ((c : Thread nD τ).loc main_arg1)) ((win0_2.rect t).emb j)
  obtain ⟨a0, a1⟩ := place0 t
  obtain ⟨b0, b1⟩ := place1 t
  obtain ⟨e0, -, e1, -, e2, -, e3, -⟩ := place2 t
  have h1 : (j 1 : ℕ) < 1 := (j 1).isLt
  have q1 : (((win0_2.rect t).emb j 1 : _) : ℕ) = t.val := by rw [Pipeline.Window.rect_emb_val win0_2 t j 1 rfl, e1]; omega
  have q2 : (((win0_2.rect t).emb j 2 : _) : ℕ) = (j 2 : ℕ) := by rw [Pipeline.Window.rect_emb_val win0_2 t j 2 rfl, e2]; omega
  have q3 : (((win0_2.rect t).emb j 3 : _) : ℕ) = (j 3 : ℕ) := by rw [Pipeline.Window.rect_emb_val win0_2 t j 3 rfl, e3]; omega
  refine Finset.sum_congr rfl fun k _ => congrArg₂ (fun a b : EReal => a * b) ?_ ?_
  · show m ((c : Thread nD τ).loc main_arg0) ((win0_0.rect t).emb (at2 k (j 2) : S2048x1024.Idx)) = _
    refine congrArg _ (funext fun a => Fin.ext ?_)
    refine (Pipeline.Window.rect_emb_val win0_0 t _ a rfl).trans ?_
    match a with
    | ⟨0, _⟩ => show win0_0.index t 0 * win0_0.size 0 + k.val = k.val
                rw [a0]; omega
    | ⟨1, _⟩ => show win0_0.index t 1 * win0_0.size 1 + (j 2 : ℕ) = ((win0_2.rect t).emb j 2 : ℕ)
                rw [a1, q2]; omega
  · show m ((c : Thread nD τ).loc main_arg1) ((win0_1.rect t).emb (at2 k (j 3) : S2048x768.Idx)) = _
    refine congrArg _ (funext fun a => Fin.ext ?_)
    refine (Pipeline.Window.rect_emb_val win0_1 t _ a rfl).trans ?_
    match a with
    | ⟨0, _⟩ => show win0_1.index t 0 * win0_1.size 0 + k.val = k.val
                rw [b0]; omega
    | ⟨1, _⟩ => show win0_1.index t 1 * win0_1.size 1 + (j 3 : ℕ) = ((win0_2.rect t).emb j 1 : ℕ) * 768 + ((win0_2.rect t).emb j 3 : ℕ)
                rw [b1, q1, q3]

/-- The array after the run. -/
theorem final (c : Dev nD) : (dats m 0 c).arrAt 2 cfg0.N = grad (m ((c : Thread nD τ).loc main_arg0)) (m ((c : Thread nD τ).loc main_arg1)) :=
  (dats m 0 c).arrAt_eq_of_cover 2 _ (fun t _ => written m c t) cover

end

section

open Cert.Reference2Ideal Cert.Reference2Ideal.Gen Cert.Product

/-- What the reference computes: the product the other way round, transposed and cut into shards. -/
theorem plain (x : FVec Ideal S2048x1024 .bf16) (g : FVec Ideal S2048x3072 .bf16) :
    (truncf .bf16 (transpose S1x4x1024x768 [0, 2, 1, 3] (shapeCast S1x1024x4x768 (transpose S1024x3072 [1, 0]
      (Host.dotGeneral dot_S2048x3072_S2048x1024_S3072x1024_0_0_1_1_n_n none (extf .f32 g Facts₀.bitsLt_bf16_f32) (extf .f32 x Facts₀.bitsLt_bf16_f32))
      Facts₀.transposes_S3072x1024_S1024x3072_1_0) Facts₀.shapeCasts_S1024x3072_S1x1024x4x768) Facts₀.transposes_S1x1024x4x768_S1x4x1024x768_0_2_1_3) Facts₀.bitsLt_bf16_f32 : FVec Ideal S1x4x1024x768 .bf16)
      = grad x g := by
  funext i
  have h0 : (i 0 : Nat) < 1 := (i 0).isLt
  have h1 : (i 1 : Nat) < 4 := (i 1).isLt
  have h2 : (i 2 : Nat) < 1024 := (i 2).isLt
  have h3 : (i 3 : Nat) < 768 := (i 3).isLt
  have hc : (i 1 : ℕ) * 768 + (i 3 : ℕ) < 3072 := by omega
  let k4 : S1x1024x4x768.Idx := fun
    | ⟨0, _⟩ => i 0
    | ⟨1, _⟩ => i 2
    | ⟨2, _⟩ => i 1
    | ⟨3, _⟩ => i 3
  refine (ValueIdx.truncf_apply (φ := .f32) (ψ := .bf16) _ Facts₀.bitsLt_bf16_f32 i).trans ?_
  refine (transpose_apply (s := S1x1024x4x768) (t := S1x4x1024x768) [0, 2, 1, 3] _ Facts₀.transposes_S1x1024x4x768_S1x4x1024x768_0_2_1_3 i k4 ?_).trans ?_
  · intro b
    match b with
    | ⟨0, _⟩ => rfl
    | ⟨1, _⟩ => rfl
    | ⟨2, _⟩ => rfl
    | ⟨3, _⟩ => rfl
  refine (shapeCast_apply _ _ k4 (at2 (i 2) ⟨(i 1 : ℕ) * 768 + (i 3 : ℕ), hc⟩ : S1024x3072.Idx) ?_).trans ?_
  · rw [rowMajor_val2 _ 3072 rfl, rowMajor_val4 k4 (1024 * (4 * 768)) (4 * 768) 768 rfl rfl rfl]
    show (i 2 : ℕ) * 3072 + ((i 1 : ℕ) * 768 + (i 3 : ℕ)) = (i 0 : ℕ) * (1024 * (4 * 768)) + (i 2 : ℕ) * (4 * 768) + (i 1 : ℕ) * 768 + (i 3 : ℕ)
    omega
  refine (transpose_apply _ _ _ _ (at2 ⟨(i 1 : ℕ) * 768 + (i 3 : ℕ), hc⟩ (i 2) : S3072x1024.Idx) ?_).trans ?_
  · intro b
    match b with
    | ⟨0, _⟩ => rfl
    | ⟨1, _⟩ => rfl
  refine (dot_apply (K := 2048) (n := 3072) (m := 1024) none _ _ _ _).trans ?_
  exact Finset.sum_congr rfl fun k _ => mul_comm (G := EReal) _ _

end

/-- The call and the gradient of the plain product end with equal results. -/
theorem algebraic : Cert.algebraic_Kernel2Ideal_Reference2Ideal := by
  intro m ρ m' ρ' _ hagree
  refine ⟨_, (θ_run Cert.Kernel2Ideal.defs _ _).mono (fun _ h c => ⟨(h c).1.trans (final m c), (h c).2⟩)
    (Cert.Kernel2Ideal.Value.run_blocks (F := Ideal) m ρ), ?_⟩
  refine (θ_run Cert.Reference2Ideal.defs _ _).mono (fun _ h c => ⟨(h c).1.trans ?_, (h c).2⟩)
    (Cert.Reference2Ideal.Value.run (F := Ideal) m' ρ')
  rw [(hagree c).1, (hagree c).2]
  exact plain _ _

end Cert.Weights2

end
-- ==== Proof.Weights3.lean ====
module

public import proofs.«01_k».proof.Defs
public import proofs.«01_k».proof.Proof.Product
public import proofs.«01_k».proof.Proof.Gen.Kernel3Ideal.Value
public import proofs.«01_k».proof.Proof.Gen.Reference3Ideal.Run

/-!
The gradient of the output projection's weights on even layers: the kernel's call computes, for each block of 512 rows, the
sum over the 2048 tokens of an activation times a cotangent, and so does the gradient of the plain product.
-/

@[expose] public section

noncomputable section

open Idealize.ShloMosaic Idealize.ShloMosaic.TcCoe Idealize.SL.Sem

namespace Cert.Weights3

section

open Cert.Kernel3Ideal Cert.Kernel3Ideal.Gen Cert.Product

variable (m : (ℓ : Loc nD τ sig) → Buf (Elt Ideal) ℓ)

/-- The gradient: row `r`, column `d` is the sum over the tokens of activation `r` times cotangent `d`. -/
def grad (x : FVec Ideal S2048x2048 .bf16) (g : FVec Ideal S2048x1024 .bf16) : FVec Ideal S1x2048x1024 .bf16 := fun i =>
  ∑ k : Fin 2048, x (at2 k (i 1)) * g (at2 k (i 2))

theorem zero2 : (![0, 0] : Fin 2 → Nat) = fun _ => 0 := funext fun a => by fin_cases a <;> rfl
theorem zero3 : (![0, 0, 0] : Fin 3 → Nat) = fun _ => 0 := funext fun a => by fin_cases a <;> rfl

theorem load0 (X : Vec Ideal S2048x512 .bf16) : View.ld X r0_0 = X := View.ld_unit_zero zero2 _ X
theorem load1 (X : Vec Ideal S2048x1024 .bf16) : View.ld X r0_1 = X := View.ld_unit_zero zero2 _ X

/-- What one grid point computes, at an index of its block. -/
theorem block (x : FVec Ideal S2048x512 .bf16) (g : FVec Ideal S2048x1024 .bf16) (j : S1x512x1024.Idx) :
    k0_pay1 (F := Ideal) x g j = ∑ k : Fin 2048, x (at2 k (j 1)) * g (at2 k (j 2)) := by
  have h0 : (j 0 : ℕ) < 1 := (j 0).isLt
  unfold k0_pay1
  refine (shapeCast_apply _ _ j (at2 (j 1) (j 2) : S512x1024.Idx) ?_).trans ?_
  · rw [rowMajor_val2 _ 1024 rfl, rowMajor_val3 j (512 * 1024) 1024 rfl rfl]
    show (j 1 : ℕ) * 1024 + (j 2 : ℕ) = _
    omega
  · exact matmul_apply (K := 2048) (n := 512) (m := 1024) none _ x g (at2 (j 1) (j 2))

/-- Where the blocks of point `t` lie. -/
theorem place0 : ∀ t : Fin cfg0.N, win0_0.index t 0 * win0_0.size 0 = 0 ∧ win0_0.index t 1 * win0_0.size 1 = t.val * 512 :=
  (by decide +kernel : ∀ t : Fin grid0.N, win0_0.index t 0 * win0_0.size 0 = 0 ∧ win0_0.index t 1 * win0_0.size 1 = t.val * 512)
theorem place1 : ∀ t : Fin cfg0.N, win0_1.index t 0 * win0_1.size 0 = 0 ∧ win0_1.index t 1 * win0_1.size 1 = 0 :=
  (by decide +kernel : ∀ t : Fin grid0.N, win0_1.index t 0 * win0_1.size 0 = 0 ∧ win0_1.index t 1 * win0_1.size 1 = 0)
theorem place2 : ∀ t : Fin cfg0.N, win0_2.index t 0 * win0_2.size 0 = 0 ∧ win0_2.xsize (grid0.coords t) 0 = 1
    ∧ win0_2.index t 1 * win0_2.size 1 = t.val * 512 ∧ win0_2.xsize (grid0.coords t) 1 = 512
    ∧ win0_2.index t 2 * win0_2.size 2 = 0 ∧ win0_2.xsize (grid0.coords t) 2 = 1024 :=
  (by decide +kernel : ∀ t : Fin grid0.N, win0_2.index t 0 * win0_2.size 0 = 0 ∧ win0_2.xsize (grid0.coords t) 0 = 1
    ∧ win0_2.index t 1 * win0_2.size 1 = t.val * 512 ∧ win0_2.xsize (grid0.coords t) 1 = 512
    ∧ win0_2.index t 2 * win0_2.size 2 = 0 ∧ win0_2.xsize (grid0.coords t) 2 = 1024)

/-- The point whose block holds row `r`. -/
def pointOf (r : ℕ) (hr : r < 2048) : Fin cfg0.N := ⟨r / 512, by have : cfg0.N = 4 := rfl; omega⟩

/-- Every index lies in some point's block. -/
theorem cover (i : S1x2048x1024.Idx) : ∃ t : Fin cfg0.N, (cfg0.win 2).flush t = true ∧ i ∈ ((cfg0.win 2).blk t).view.set := by
  have h0 : (i 0 : Nat) < 1 := (i 0).isLt
  have h1 : (i 1 : Nat) < 2048 := (i 1).isLt
  have h2 : (i 2 : Nat) < 1024 := (i 2).isLt
  refine ⟨pointOf (i 1) h1, flush0_2 _, ?_⟩
  show i ∈ ((View.whole main_v0).slice (win0_2.rect (pointOf (i 1) h1))).set
  rw [View.set_slice_whole, Rect.mem_set_unit]
  obtain ⟨e0, s0, e1, s1, e2, s2⟩ := place2 (pointOf (i 1) h1)
  have hv : (pointOf (i 1) h1).val = (i 1 : Nat) / 512 := rfl
  rw [hv] at e1
  generalize pointOf (i 1) h1 = t at *
  intro a
  match a with
  | ⟨0, _⟩ => show win0_2.index t 0 * win0_2.size 0 ≤ (i 0 : Nat) ∧ (i 0 : Nat) < win0_2.index t 0 * win0_2.size 0 + win0_2.xsize (grid0.coords t) 0
              rw [e0, s0]; omega
  | ⟨1, _⟩ => show win0_2.index t 1 * win0_2.size 1 ≤ (i 1 : Nat) ∧ (i 1 : Nat) < win0_2.index t 1 * win0_2.size 1 + win0_2.xsize (grid0.coords t) 1
              rw [e1, s1]; omega
  | ⟨2, _⟩ => show win0_2.index t 2 * win0_2.size 2 ≤ (i 2 : Nat) ∧ (i 2 : Nat) < win0_2.index t 2 * win0_2.size 2 + win0_2.xsize (grid0.coords t) 2
              rw [e2, s2]; omega

/-- What point `t` writes back is its block of the gradient. -/
theorem written (c : Dev nD) (t : Fin cfg0.N) :
    (dats m 0 c).flushed 2 t = (win0_2.blk t).view.read (Elt Ideal) (grad (m ((c : Thread nD τ).loc main_arg0)) (m ((c : Thread nD τ).loc main_arg1))) := by
  show (cfg0.win 2).cut (grid0.coords t) ((dats m 0 c).after 2 t) = _
  rw [after0_2]
  unfold out0_2
  rw [View.canon_unit_zero zero3, load0, load1]
  funext j
  refine (block (iblk m c 0 t) (iblk m c 1 t) j).trans ?_
  show _ = grad (m ((c : Thread nD τ).loc main_arg0)) (m ((c : Thread nD τ).loc main_arg1)) ((win0_2.rect t).emb j)
  obtain ⟨a0, a1⟩ := place0 t
  obtain ⟨b0, b1⟩ := place1 t
  obtain ⟨e0, -, e1, -, e2, -⟩ := place2 t
  have q1 : (((win0_2.rect t).emb j 1 : _) : ℕ) = t.val * 512 + (j 1 : ℕ) := by rw [Pipeline.Window.rect_emb_val win0_2 t j 1 rfl, e1]
  have q2 : (((win0_2.rect t).emb j 2 : _) : ℕ) = (j 2 : ℕ) := by rw [Pipeline.Window.rect_emb_val win0_2 t j 2 rfl, e2]; omega
  refine Finset.sum_congr rfl fun k _ => congrArg₂ (fun a b : EReal => a * b) ?_ ?_
  · show m ((c : Thread nD τ).loc main_arg0) ((win0_0.rect t).emb (at2 k (j 1) : S2048x512.Idx)) = _
    refine congrArg _ (funext fun a => Fin.ext ?_)
    refine (Pipeline.Window.rect_emb_val win0_0 t _ a rfl).trans ?_
    match a with
    | ⟨0, _⟩ => show win0_0.index t 0 * win0_0.size 0 + k.val = k.val
                rw [a0]; omega
    | ⟨1, _⟩ => show win0_0.index t 1 * win0_0.size 1 + (j 1 : ℕ) = ((win0_2.rect t).emb j 1 : ℕ)
                rw [a1, q1]
  · show m ((c : Thread nD τ).loc main_arg1) ((win0_1.rect t).emb (at2 k (j 2) : S2048x1024.Idx)) = _
    refine congrArg _ (funext fun a => Fin.ext ?_)
    refine (Pipeline.Window.rect_emb_val win0_1 t _ a rfl).trans ?_
    match a with
    | ⟨0, _⟩ => show win0_1.index t 0 * win0_1.size 0 + k.val = k.val
                rw [b0]; omega
    | ⟨1, _⟩ => show win0_1.index t 1 * win0_1.size 1 + (j 2 : ℕ) = ((win0_2.rect t).emb j 2 : ℕ)
                rw [b1, q2]; omega

/-- The array after the run. -/
theorem final (c : Dev nD) : (dats m 0 c).arrAt 2 cfg0.N = grad (m ((c : Thread nD τ).loc main_arg0)) (m ((c : Thread nD τ).loc main_arg1)) :=
  (dats m 0 c).arrAt_eq_of_cover 2 _ (fun t _ => written m c t) cover

end

section

open Cert.Reference3Ideal Cert.Reference3Ideal.Gen Cert.Product

/-- What the reference computes: the product the other way round, transposed. -/
theorem plain (x : FVec Ideal S2048x2048 .bf16) (g : FVec Ideal S2048x1024 .bf16) :
    (truncf .bf16 (broadcastInDim (s := S2048x1024) S1x2048x1024 ![1, 2] Facts₀.bcast_S2048x1024_S1x2048x1024_1_2 (transpose S2048x1024 [1, 0]
      (Host.dotGeneral dot_S2048x1024_S2048x2048_S1024x2048_0_0_1_1_n_n none (extf .f32 g Facts₀.bitsLt_bf16_f32) (extf .f32 x Facts₀.bitsLt_bf16_f32))
      Facts₀.transposes_S1024x2048_S2048x1024_1_0)) Facts₀.bitsLt_bf16_f32 : FVec Ideal S1x2048x1024 .bf16)
      = grad x g := by
  funext i
  refine (ValueIdx.truncf_apply (φ := .f32) (ψ := .bf16) _ Facts₀.bitsLt_bf16_f32 i).trans ?_
  refine (broadcastInDim_apply (s := S2048x1024) (t := S1x2048x1024) ![1, 2] Facts₀.bcast_S2048x1024_S1x2048x1024_1_2 _ i (at2 (i 1) (i 2) : S2048x1024.Idx) ?_).trans ?_
  · intro b
    match b with
    | ⟨0, _⟩ => exact (if_neg (show ¬ (2048 : ℕ) = 1 by decide)).symm
    | ⟨1, _⟩ => exact (if_neg (show ¬ (1024 : ℕ) = 1 by decide)).symm
  refine (transpose_apply _ _ _ _ (at2 (i 2) (i 1) : S1024x2048.Idx) ?_).trans ?_
  · intro b
    match b with
    | ⟨0, _⟩ => rfl
    | ⟨1, _⟩ => rfl
  refine (dot_apply (K := 2048) (n := 1024) (m := 2048) none _ _ _ _).trans ?_
  exact Finset.sum_congr rfl fun k _ => mul_comm (G := EReal) _ _

end

/-- The call and the gradient of the plain product end with equal results. -/
theorem algebraic : Cert.algebraic_Kernel3Ideal_Reference3Ideal := by
  intro m ρ m' ρ' _ hagree
  refine ⟨_, (θ_run Cert.Kernel3Ideal.defs _ _).mono (fun _ h c => ⟨(h c).1.trans (final m c), (h c).2⟩)
    (Cert.Kernel3Ideal.Value.run_blocks (F := Ideal) m ρ), ?_⟩
  refine (θ_run Cert.Reference3Ideal.defs _ _).mono (fun _ h c => ⟨(h c).1.trans ?_, (h c).2⟩)
    (Cert.Reference3Ideal.Value.run (F := Ideal) m' ρ')
  rw [(hagree c).1, (hagree c).2]
  exact plain _ _

end Cert.Weights3

end
-- ==== Proof.Weights4.lean ====
module

public import proofs.«01_k».proof.Defs
public import proofs.«01_k».proof.Proof.Product
public import proofs.«01_k».proof.Proof.Gen.Kernel4Ideal.Value
public import proofs.«01_k».proof.Proof.Gen.Reference4Ideal.Run

/-!
The gradient of the output projection's weights on odd layers: the kernel's call computes, for each block of 512 rows, the
sum over the 2048 tokens of an activation times a cotangent, and so does the gradient of the plain product.
-/

@[expose] public section

noncomputable section

open Idealize.ShloMosaic Idealize.ShloMosaic.TcCoe Idealize.SL.Sem

namespace Cert.Weights4

section

open Cert.Kernel4Ideal Cert.Kernel4Ideal.Gen Cert.Product

variable (m : (ℓ : Loc nD τ sig) → Buf (Elt Ideal) ℓ)

/-- The gradient: row `r`, column `d` is the sum over the tokens of activation `r` times cotangent `d`. -/
def grad (x : FVec Ideal S2048x1536 .bf16) (g : FVec Ideal S2048x1024 .bf16) : FVec Ideal S1x1536x1024 .bf16 := fun i =>
  ∑ k : Fin 2048, x (at2 k (i 1)) * g (at2 k (i 2))

theorem zero2 : (![0, 0] : Fin 2 → Nat) = fun _ => 0 := funext fun a => by fin_cases a <;> rfl
theorem zero3 : (![0, 0, 0] : Fin 3 → Nat) = fun _ => 0 := funext fun a => by fin_cases a <;> rfl

theorem load0 (X : Vec Ideal S2048x512 .bf16) : View.ld X r0_0 = X := View.ld_unit_zero zero2 _ X
theorem load1 (X : Vec Ideal S2048x1024 .bf16) : View.ld X r0_1 = X := View.ld_unit_zero zero2 _ X

/-- What one grid point computes, at an index of its block. -/
theorem block (x : FVec Ideal S2048x512 .bf16) (g : FVec Ideal S2048x1024 .bf16) (j : S1x512x1024.Idx) :
    k0_pay1 (F := Ideal) x g j = ∑ k : Fin 2048, x (at2 k (j 1)) * g (at2 k (j 2)) := by
  have h0 : (j 0 : ℕ) < 1 := (j 0).isLt
  unfold k0_pay1
  refine (shapeCast_apply _ _ j (at2 (j 1) (j 2) : S512x1024.Idx) ?_).trans ?_
  · rw [rowMajor_val2 _ 1024 rfl, rowMajor_val3 j (512 * 1024) 1024 rfl rfl]
    show (j 1 : ℕ) * 1024 + (j 2 : ℕ) = _
    omega
  · exact matmul_apply (K := 2048) (n := 512) (m := 1024) none _ x g (at2 (j 1) (j 2))

/-- Where the blocks of point `t` lie. -/
theorem place0 : ∀ t : Fin cfg0.N, win0_0.index t 0 * win0_0.size 0 = 0 ∧ win0_0.index t 1 * win0_0.size 1 = t.val * 512 :=
  (by decide +kernel : ∀ t : Fin grid0.N, win0_0.index t 0 * win0_0.size 0 = 0 ∧ win0_0.index t 1 * win0_0.size 1 = t.val * 512)
theorem place1 : ∀ t : Fin cfg0.N, win0_1.index t 0 * win0_1.size 0 = 0 ∧ win0_1.index t 1 * win0_1.size 1 = 0 :=
  (by decide +kernel : ∀ t : Fin grid0.N, win0_1.index t 0 * win0_1.size 0 = 0 ∧ win0_1.index t 1 * win0_1.size 1 = 0)
theorem place2 : ∀ t : Fin cfg0.N, win0_2.index t 0 * win0_2.size 0 = 0 ∧ win0_2.xsize (grid0.coords t) 0 = 1
    ∧ win0_2.index t 1 * win0_2.size 1 = t.val * 512 ∧ win0_2.xsize (grid0.coords t) 1 = 512
    ∧ win0_2.index t 2 * win0_2.size 2 = 0 ∧ win0_2.xsize (grid0.coords t) 2 = 1024 :=
  (by decide +kernel : ∀ t : Fin grid0.N, win0_2.index t 0 * win0_2.size 0 = 0 ∧ win0_2.xsize (grid0.coords t) 0 = 1
    ∧ win0_2.index t 1 * win0_2.size 1 = t.val * 512 ∧ win0_2.xsize (grid0.coords t) 1 = 512
    ∧ win0_2.index t 2 * win0_2.size 2 = 0 ∧ win0_2.xsize (grid0.coords t) 2 = 1024)

/-- The point whose block holds row `r`. -/
def pointOf (r : ℕ) (hr : r < 1536) : Fin cfg0.N := ⟨r / 512, by have : cfg0.N = 3 := rfl; omega⟩

/-- Every index lies in some point's block. -/
theorem cover (i : S1x1536x1024.Idx) : ∃ t : Fin cfg0.N, (cfg0.win 2).flush t = true ∧ i ∈ ((cfg0.win 2).blk t).view.set := by
  have h0 : (i 0 : Nat) < 1 := (i 0).isLt
  have h1 : (i 1 : Nat) < 1536 := (i 1).isLt
  have h2 : (i 2 : Nat) < 1024 := (i 2).isLt
  refine ⟨pointOf (i 1) h1, flush0_2 _, ?_⟩
  show i ∈ ((View.whole main_v0).slice (win0_2.rect (pointOf (i 1) h1))).set
  rw [View.set_slice_whole, Rect.mem_set_unit]
  obtain ⟨e0, s0, e1, s1, e2, s2⟩ := place2 (pointOf (i 1) h1)
  have hv : (pointOf (i 1) h1).val = (i 1 : Nat) / 512 := rfl
  rw [hv] at e1
  generalize pointOf (i 1) h1 = t at *
  intro a
  match a with
  | ⟨0, _⟩ => show win0_2.index t 0 * win0_2.size 0 ≤ (i 0 : Nat) ∧ (i 0 : Nat) < win0_2.index t 0 * win0_2.size 0 + win0_2.xsize (grid0.coords t) 0
              rw [e0, s0]; omega
  | ⟨1, _⟩ => show win0_2.index t 1 * win0_2.size 1 ≤ (i 1 : Nat) ∧ (i 1 : Nat) < win0_2.index t 1 * win0_2.size 1 + win0_2.xsize (grid0.coords t) 1
              rw [e1, s1]; omega
  | ⟨2, _⟩ => show win0_2.index t 2 * win0_2.size 2 ≤ (i 2 : Nat) ∧ (i 2 : Nat) < win0_2.index t 2 * win0_2.size 2 + win0_2.xsize (grid0.coords t) 2
              rw [e2, s2]; omega

/-- What point `t` writes back is its block of the gradient. -/
theorem written (c : Dev nD) (t : Fin cfg0.N) :
    (dats m 0 c).flushed 2 t = (win0_2.blk t).view.read (Elt Ideal) (grad (m ((c : Thread nD τ).loc main_arg0)) (m ((c : Thread nD τ).loc main_arg1))) := by
  show (cfg0.win 2).cut (grid0.coords t) ((dats m 0 c).after 2 t) = _
  rw [after0_2]
  unfold out0_2
  rw [View.canon_unit_zero zero3, load0, load1]
  funext j
  refine (block (iblk m c 0 t) (iblk m c 1 t) j).trans ?_
  show _ = grad (m ((c : Thread nD τ).loc main_arg0)) (m ((c : Thread nD τ).loc main_arg1)) ((win0_2.rect t).emb j)
  obtain ⟨a0, a1⟩ := place0 t
  obtain ⟨b0, b1⟩ := place1 t
  obtain ⟨e0, -, e1, -, e2, -⟩ := place2 t
  have q1 : (((win0_2.rect t).emb j 1 : _) : ℕ) = t.val * 512 + (j 1 : ℕ) := by rw [Pipeline.Window.rect_emb_val win0_2 t j 1 rfl, e1]
  have q2 : (((win0_2.rect t).emb j 2 : _) : ℕ) = (j 2 : ℕ) := by rw [Pipeline.Window.rect_emb_val win0_2 t j 2 rfl, e2]; omega
  refine Finset.sum_congr rfl fun k _ => congrArg₂ (fun a b : EReal => a * b) ?_ ?_
  · show m ((c : Thread nD τ).loc main_arg0) ((win0_0.rect t).emb (at2 k (j 1) : S2048x512.Idx)) = _
    refine congrArg _ (funext fun a => Fin.ext ?_)
    refine (Pipeline.Window.rect_emb_val win0_0 t _ a rfl).trans ?_
    match a with
    | ⟨0, _⟩ => show win0_0.index t 0 * win0_0.size 0 + k.val = k.val
                rw [a0]; omega
    | ⟨1, _⟩ => show win0_0.index t 1 * win0_0.size 1 + (j 1 : ℕ) = ((win0_2.rect t).emb j 1 : ℕ)
                rw [a1, q1]
  · show m ((c : Thread nD τ).loc main_arg1) ((win0_1.rect t).emb (at2 k (j 2) : S2048x1024.Idx)) = _
    refine congrArg _ (funext fun a => Fin.ext ?_)
    refine (Pipeline.Window.rect_emb_val win0_1 t _ a rfl).trans ?_
    match a with
    | ⟨0, _⟩ => show win0_1.index t 0 * win0_1.size 0 + k.val = k.val
                rw [b0]; omega
    | ⟨1, _⟩ => show win0_1.index t 1 * win0_1.size 1 + (j 2 : ℕ) = ((win0_2.rect t).emb j 2 : ℕ)
                rw [b1, q2]; omega

/-- The array after the run. -/
theorem final (c : Dev nD) : (dats m 0 c).arrAt 2 cfg0.N = grad (m ((c : Thread nD τ).loc main_arg0)) (m ((c : Thread nD τ).loc main_arg1)) :=
  (dats m 0 c).arrAt_eq_of_cover 2 _ (fun t _ => written m c t) cover

end

section

open Cert.Reference4Ideal Cert.Reference4Ideal.Gen Cert.Product

/-- What the reference computes: the product the other way round, transposed. -/
theorem plain (x : FVec Ideal S2048x1536 .bf16) (g : FVec Ideal S2048x1024 .bf16) :
    (truncf .bf16 (broadcastInDim (s := S1536x1024) S1x1536x1024 ![1, 2] Facts₀.bcast_S1536x1024_S1x1536x1024_1_2 (transpose S1536x1024 [1, 0]
      (Host.dotGeneral dot_S2048x1024_S2048x1536_S1024x1536_0_0_1_1_n_n none (extf .f32 g Facts₀.bitsLt_bf16_f32) (extf .f32 x Facts₀.bitsLt_bf16_f32))
      Facts₀.transposes_S1024x1536_S1536x1024_1_0)) Facts₀.bitsLt_bf16_f32 : FVec Ideal S1x1536x1024 .bf16)
      = grad x g := by
  funext i
  refine (ValueIdx.truncf_apply (φ := .f32) (ψ := .bf16) _ Facts₀.bitsLt_bf16_f32 i).trans ?_
  refine (broadcastInDim_apply (s := S1536x1024) (t := S1x1536x1024) ![1, 2] Facts₀.bcast_S1536x1024_S1x1536x1024_1_2 _ i (at2 (i 1) (i 2) : S1536x1024.Idx) ?_).trans ?_
  · intro b
    match b with
    | ⟨0, _⟩ => exact (if_neg (show ¬ (1536 : ℕ) = 1 by decide)).symm
    | ⟨1, _⟩ => exact (if_neg (show ¬ (1024 : ℕ) = 1 by decide)).symm
  refine (transpose_apply _ _ _ _ (at2 (i 2) (i 1) : S1024x1536.Idx) ?_).trans ?_
  · intro b
    match b with
    | ⟨0, _⟩ => rfl
    | ⟨1, _⟩ => rfl
  refine (dot_apply (K := 2048) (n := 1024) (m := 1536) none _ _ _ _).trans ?_
  exact Finset.sum_congr rfl fun k _ => mul_comm (G := EReal) _ _

end

/-- The call and the gradient of the plain product end with equal results. -/
theorem algebraic : Cert.algebraic_Kernel4Ideal_Reference4Ideal := by
  intro m ρ m' ρ' _ hagree
  refine ⟨_, (θ_run Cert.Kernel4Ideal.defs _ _).mono (fun _ h c => ⟨(h c).1.trans (final m c), (h c).2⟩)
    (Cert.Kernel4Ideal.Value.run_blocks (F := Ideal) m ρ), ?_⟩
  refine (θ_run Cert.Reference4Ideal.defs _ _).mono (fun _ h c => ⟨(h c).1.trans ?_, (h c).2⟩)
    (Cert.Reference4Ideal.Value.run (F := Ideal) m' ρ')
  rw [(hagree c).1, (hagree c).2]
  exact plain _ _

end Cert.Weights4

end
-- ==== Proof.Optim5.lean ====
module

public import proofs.«01_k».proof.Defs
public import proofs.«01_k».proof.Proof.Gen.Kernel5Ideal.Value
public import proofs.«01_k».proof.Proof.Gen.Reference5Ideal.Run

/-!
The optimiser's call on arrays of 1024 by 1280: each of its four results is one function of the argument arrays, index by
index, and that function is the plain optimiser step.
-/

@[expose] public section

noncomputable section

open Idealize.ShloMosaic Idealize.ShloMosaic.TcCoe Idealize.SL.Sem

namespace Cert.Optim5

open Cert.Kernel5Ideal Cert.Kernel5Ideal.Gen

variable {F : FTy → Type} [FloatOps F]
variable (m : (ℓ : Loc nD τ sig) → Buf (Elt F) ℓ) (ρ : Dev nD → PrngReg)

/-- The new first moment. -/
def moment1 (g mo : Vec F S2x1024x1280 .f32) : Vec F S2x1024x1280 .f32 :=
  addf (mulf (broadcast S2x1024x1280 (Scalar.ofBits .f32 0x3F666666#32)) mo) (mulf (broadcast S2x1024x1280 (Scalar.ofBits .f32 0x3DCCCCCD#32)) g)
/-- The new second moment. -/
def moment2 (g ve : Vec F S2x1024x1280 .f32) : Vec F S2x1024x1280 .f32 :=
  addf (mulf (broadcast S2x1024x1280 (Scalar.ofBits .f32 0x3F7FBE77#32)) ve) (mulf (broadcast S2x1024x1280 (Scalar.ofBits .f32 0x3A83126F#32)) (mulf g g))
/-- The change of the weights. -/
def change (w g mo ve : Vec F S2x1024x1280 .f32) : Vec F S2x1024x1280 .f32 :=
  mulf (broadcast S2x1024x1280 (Scalar.ofBits .f32 0xBA83126F#32))
    (addf (divf (divf (moment1 g mo) (broadcast S2x1024x1280 (Scalar.ofBits .f32 0x3F26BD02#32)))
        (addf (sqrt (divf (moment2 g ve) (broadcast S2x1024x1280 (Scalar.ofBits .f32 0x3C231ACC#32)))) (broadcast S2x1024x1280 (Scalar.ofBits .f32 0x322BCC77#32))))
      (mulf (broadcast S2x1024x1280 (Scalar.ofBits .f32 0x3C23D70A#32)) w))

theorem origin : (![0, 0, 0] : Fin 3 → Nat) = fun _ => 0 := funext fun a => by fin_cases a <;> rfl

theorem load (X : Vec F S1x256x1280 .f32) : View.ld X r0_0 = X := View.ld_unit_zero origin _ X

/-- The point whose block holds row `r` of layer `l`. -/
def pointOf (l r : ℕ) (hl : l < 2) (hr : r < 1024) : Fin cfg0.N := ⟨l * 4 + r / 256, by have : cfg0.N = 8 := rfl; omega⟩

/-! ## Result 1: the step -/

/-- Where point `t`'s block lies. -/
theorem place4 : ∀ t : Fin cfg0.N, win0_4.index t 0 * win0_4.size 0 = t.val / 4 ∧ win0_4.xsize (grid0.coords t) 0 = 1
    ∧ win0_4.index t 1 * win0_4.size 1 = t.val % 4 * 256 ∧ win0_4.xsize (grid0.coords t) 1 = 256
    ∧ win0_4.index t 2 * win0_4.size 2 = 0 ∧ win0_4.xsize (grid0.coords t) 2 = 1280 :=
  (by decide +kernel : ∀ t : Fin grid0.N, _)
/-- Every index lies in some point's block. -/
theorem cover4 (i : S2x1024x1280.Idx) : ∃ t : Fin cfg0.N, (cfg0.win 4).flush t = true ∧ i ∈ ((cfg0.win 4).blk t).view.set := by
  have h0 : (i 0 : Nat) < 2 := (i 0).isLt
  have h1 : (i 1 : Nat) < 1024 := (i 1).isLt
  have h2 : (i 2 : Nat) < 1280 := (i 2).isLt
  refine ⟨pointOf (i 0) (i 1) h0 h1, flush0_4 _, ?_⟩
  show i ∈ ((View.whole main_v0_0).slice (win0_4.rect (pointOf (i 0) (i 1) h0 h1))).set
  rw [View.set_slice_whole, Rect.mem_set_unit]
  obtain ⟨e0, s0, e1, s1, e2, s2⟩ := place4 (pointOf (i 0) (i 1) h0 h1)
  have hv : (pointOf (i 0) (i 1) h0 h1).val = (i 0 : Nat) * 4 + (i 1 : Nat) / 256 := rfl
  rw [hv] at e0 e1
  generalize pointOf (i 0) (i 1) h0 h1 = t at *
  intro a
  match a with
  | ⟨0, _⟩ => show win0_4.index t 0 * win0_4.size 0 ≤ (i 0 : Nat) ∧ (i 0 : Nat) < win0_4.index t 0 * win0_4.size 0 + win0_4.xsize (grid0.coords t) 0
              rw [e0, s0]; omega
  | ⟨1, _⟩ => show win0_4.index t 1 * win0_4.size 1 ≤ (i 1 : Nat) ∧ (i 1 : Nat) < win0_4.index t 1 * win0_4.size 1 + win0_4.xsize (grid0.coords t) 1
              rw [e1, s1]; omega
  | ⟨2, _⟩ => show win0_4.index t 2 * win0_4.size 2 ≤ (i 2 : Nat) ∧ (i 2 : Nat) < win0_4.index t 2 * win0_4.size 2 + win0_4.xsize (grid0.coords t) 2
              rw [e2, s2]; omega
/-- What point `t` writes back is its block of the whole-array function. -/
theorem written4 (c : Dev nD) (t : Fin cfg0.N) :
    (dats m 0 c).flushed 4 t = (win0_4.blk t).view.read (Elt F) (change (m ((c : Thread nD τ).loc main_arg0)) (m ((c : Thread nD τ).loc main_arg1)) (m ((c : Thread nD τ).loc main_arg2)) (m ((c : Thread nD τ).loc main_arg3))) := by
  show (cfg0.win 4).cut (grid0.coords t) ((dats m 0 c).after 4 t) = _
  rw [after0_4]
  unfold out0_4
  rw [View.canon_unit_zero origin]
  simp only [load]
  rfl
/-- The array after the run. -/
theorem final4 (c : Dev nD) : (dats m 0 c).arrAt 4 cfg0.N = change (m ((c : Thread nD τ).loc main_arg0)) (m ((c : Thread nD τ).loc main_arg1)) (m ((c : Thread nD τ).loc main_arg2)) (m ((c : Thread nD τ).loc main_arg3)) :=
  (dats m 0 c).arrAt_eq_of_cover 4 _ (fun t _ => written4 m c t) cover4

/-! ## Result 2: the first moment -/

/-- Where point `t`'s block lies. -/
theorem place5 : ∀ t : Fin cfg0.N, win0_5.index t 0 * win0_5.size 0 = t.val / 4 ∧ win0_5.xsize (grid0.coords t) 0 = 1
    ∧ win0_5.index t 1 * win0_5.size 1 = t.val % 4 * 256 ∧ win0_5.xsize (grid0.coords t) 1 = 256
    ∧ win0_5.index t 2 * win0_5.size 2 = 0 ∧ win0_5.xsize (grid0.coords t) 2 = 1280 :=
  (by decide +kernel : ∀ t : Fin grid0.N, _)
/-- Every index lies in some point's block. -/
theorem cover5 (i : S2x1024x1280.Idx) : ∃ t : Fin cfg0.N, (cfg0.win 5).flush t = true ∧ i ∈ ((cfg0.win 5).blk t).view.set := by
  have h0 : (i 0 : Nat) < 2 := (i 0).isLt
  have h1 : (i 1 : Nat) < 1024 := (i 1).isLt
  have h2 : (i 2 : Nat) < 1280 := (i 2).isLt
  refine ⟨pointOf (i 0) (i 1) h0 h1, flush0_5 _, ?_⟩
  show i ∈ ((View.whole main_v0_1).slice (win0_5.rect (pointOf (i 0) (i 1) h0 h1))).set
  rw [View.set_slice_whole, Rect.mem_set_unit]
  obtain ⟨e0, s0, e1, s1, e2, s2⟩ := place5 (pointOf (i 0) (i 1) h0 h1)
  have hv : (pointOf (i 0) (i 1) h0 h1).val = (i 0 : Nat) * 4 + (i 1 : Nat) / 256 := rfl
  rw [hv] at e0 e1
  generalize pointOf (i 0) (i 1) h0 h1 = t at *
  intro a
  match a with
  | ⟨0, _⟩ => show win0_5.index t 0 * win0_5.size 0 ≤ (i 0 : Nat) ∧ (i 0 : Nat) < win0_5.index t 0 * win0_5.size 0 + win0_5.xsize (grid0.coords t) 0
              rw [e0, s0]; omega
  | ⟨1, _⟩ => show win0_5.index t 1 * win0_5.size 1 ≤ (i 1 : Nat) ∧ (i 1 : Nat) < win0_5.index t 1 * win0_5.size 1 + win0_5.xsize (grid0.coords t) 1
              rw [e1, s1]; omega
  | ⟨2, _⟩ => show win0_5.index t 2 * win0_5.size 2 ≤ (i 2 : Nat) ∧ (i 2 : Nat) < win0_5.index t 2 * win0_5.size 2 + win0_5.xsize (grid0.coords t) 2
              rw [e2, s2]; omega
/-- What point `t` writes back is its block of the whole-array function. -/
theorem written5 (c : Dev nD) (t : Fin cfg0.N) :
    (dats m 0 c).flushed 5 t = (win0_5.blk t).view.read (Elt F) (moment1 (m ((c : Thread nD τ).loc main_arg1)) (m ((c : Thread nD τ).loc main_arg2))) := by
  show (cfg0.win 5).cut (grid0.coords t) ((dats m 0 c).after 5 t) = _
  rw [after0_5]
  unfold out0_5
  rw [View.canon_unit_zero origin]
  simp only [load]
  rfl
/-- The array after the run. -/
theorem final5 (c : Dev nD) : (dats m 0 c).arrAt 5 cfg0.N = moment1 (m ((c : Thread nD τ).loc main_arg1)) (m ((c : Thread nD τ).loc main_arg2)) :=
  (dats m 0 c).arrAt_eq_of_cover 5 _ (fun t _ => written5 m c t) cover5

/-! ## Result 3: the second moment -/

/-- Where point `t`'s block lies. -/
theorem place6 : ∀ t : Fin cfg0.N, win0_6.index t 0 * win0_6.size 0 = t.val / 4 ∧ win0_6.xsize (grid0.coords t) 0 = 1
    ∧ win0_6.index t 1 * win0_6.size 1 = t.val % 4 * 256 ∧ win0_6.xsize (grid0.coords t) 1 = 256
    ∧ win0_6.index t 2 * win0_6.size 2 = 0 ∧ win0_6.xsize (grid0.coords t) 2 = 1280 :=
  (by decide +kernel : ∀ t : Fin grid0.N, _)
/-- Every index lies in some point's block. -/
theorem cover6 (i : S2x1024x1280.Idx) : ∃ t : Fin cfg0.N, (cfg0.win 6).flush t = true ∧ i ∈ ((cfg0.win 6).blk t).view.set := by
  have h0 : (i 0 : Nat) < 2 := (i 0).isLt
  have h1 : (i 1 : Nat) < 1024 := (i 1).isLt
  have h2 : (i 2 : Nat) < 1280 := (i 2).isLt
  refine ⟨pointOf (i 0) (i 1) h0 h1, flush0_6 _, ?_⟩
  show i ∈ ((View.whole main_v0_2).slice (win0_6.rect (pointOf (i 0) (i 1) h0 h1))).set
  rw [View.set_slice_whole, Rect.mem_set_unit]
  obtain ⟨e0, s0, e1, s1, e2, s2⟩ := place6 (pointOf (i 0) (i 1) h0 h1)
  have hv : (pointOf (i 0) (i 1) h0 h1).val = (i 0 : Nat) * 4 + (i 1 : Nat) / 256 := rfl
  rw [hv] at e0 e1
  generalize pointOf (i 0) (i 1) h0 h1 = t at *
  intro a
  match a with
  | ⟨0, _⟩ => show win0_6.index t 0 * win0_6.size 0 ≤ (i 0 : Nat) ∧ (i 0 : Nat) < win0_6.index t 0 * win0_6.size 0 + win0_6.xsize (grid0.coords t) 0
              rw [e0, s0]; omega
  | ⟨1, _⟩ => show win0_6.index t 1 * win0_6.size 1 ≤ (i 1 : Nat) ∧ (i 1 : Nat) < win0_6.index t 1 * win0_6.size 1 + win0_6.xsize (grid0.coords t) 1
              rw [e1, s1]; omega
  | ⟨2, _⟩ => show win0_6.index t 2 * win0_6.size 2 ≤ (i 2 : Nat) ∧ (i 2 : Nat) < win0_6.index t 2 * win0_6.size 2 + win0_6.xsize (grid0.coords t) 2
              rw [e2, s2]; omega
/-- What point `t` writes back is its block of the whole-array function. -/
theorem written6 (c : Dev nD) (t : Fin cfg0.N) :
    (dats m 0 c).flushed 6 t = (win0_6.blk t).view.read (Elt F) (moment2 (m ((c : Thread nD τ).loc main_arg1)) (m ((c : Thread nD τ).loc main_arg3))) := by
  show (cfg0.win 6).cut (grid0.coords t) ((dats m 0 c).after 6 t) = _
  rw [after0_6]
  unfold out0_6
  rw [View.canon_unit_zero origin]
  simp only [load]
  rfl
/-- The array after the run. -/
theorem final6 (c : Dev nD) : (dats m 0 c).arrAt 6 cfg0.N = moment2 (m ((c : Thread nD τ).loc main_arg1)) (m ((c : Thread nD τ).loc main_arg3)) :=
  (dats m 0 c).arrAt_eq_of_cover 6 _ (fun t _ => written6 m c t) cover6

/-! ## Result 4: the gradient as it was given -/

/-- Where point `t`'s block lies. -/
theorem place7 : ∀ t : Fin cfg0.N, win0_7.index t 0 * win0_7.size 0 = t.val / 4 ∧ win0_7.xsize (grid0.coords t) 0 = 1
    ∧ win0_7.index t 1 * win0_7.size 1 = t.val % 4 * 256 ∧ win0_7.xsize (grid0.coords t) 1 = 256
    ∧ win0_7.index t 2 * win0_7.size 2 = 0 ∧ win0_7.xsize (grid0.coords t) 2 = 1280 :=
  (by decide +kernel : ∀ t : Fin grid0.N, _)
/-- Every index lies in some point's block. -/
theorem cover7 (i : S2x1024x1280.Idx) : ∃ t : Fin cfg0.N, (cfg0.win 7).flush t = true ∧ i ∈ ((cfg0.win 7).blk t).view.set := by
  have h0 : (i 0 : Nat) < 2 := (i 0).isLt
  have h1 : (i 1 : Nat) < 1024 := (i 1).isLt
  have h2 : (i 2 : Nat) < 1280 := (i 2).isLt
  refine ⟨pointOf (i 0) (i 1) h0 h1, flush0_7 _, ?_⟩
  show i ∈ ((View.whole main_v0_3).slice (win0_7.rect (pointOf (i 0) (i 1) h0 h1))).set
  rw [View.set_slice_whole, Rect.mem_set_unit]
  obtain ⟨e0, s0, e1, s1, e2, s2⟩ := place7 (pointOf (i 0) (i 1) h0 h1)
  have hv : (pointOf (i 0) (i 1) h0 h1).val = (i 0 : Nat) * 4 + (i 1 : Nat) / 256 := rfl
  rw [hv] at e0 e1
  generalize pointOf (i 0) (i 1) h0 h1 = t at *
  intro a
  match a with
  | ⟨0, _⟩ => show win0_7.index t 0 * win0_7.size 0 ≤ (i 0 : Nat) ∧ (i 0 : Nat) < win0_7.index t 0 * win0_7.size 0 + win0_7.xsize (grid0.coords t) 0
              rw [e0, s0]; omega
  | ⟨1, _⟩ => show win0_7.index t 1 * win0_7.size 1 ≤ (i 1 : Nat) ∧ (i 1 : Nat) < win0_7.index t 1 * win0_7.size 1 + win0_7.xsize (grid0.coords t) 1
              rw [e1, s1]; omega
  | ⟨2, _⟩ => show win0_7.index t 2 * win0_7.size 2 ≤ (i 2 : Nat) ∧ (i 2 : Nat) < win0_7.index t 2 * win0_7.size 2 + win0_7.xsize (grid0.coords t) 2
              rw [e2, s2]; omega
/-- What point `t` writes back is its block of the whole-array function. -/
theorem written7 (c : Dev nD) (t : Fin cfg0.N) :
    (dats m 0 c).flushed 7 t = (win0_7.blk t).view.read (Elt F) (m ((c : Thread nD τ).loc main_arg1)) := by
  show (cfg0.win 7).cut (grid0.coords t) ((dats m 0 c).after 7 t) = _
  rw [after0_7]
  unfold out0_7
  rw [View.canon_unit_zero origin]
  simp only [load]
  rfl
/-- The array after the run. -/
theorem final7 (c : Dev nD) : (dats m 0 c).arrAt 7 cfg0.N = m ((c : Thread nD τ).loc main_arg1) :=
  (dats m 0 c).arrAt_eq_of_cover 7 _ (fun t _ => written7 m c t) cover7

end Cert.Optim5

namespace Cert.Optim5

/-- The optimiser's call and the plain step end with equal results. -/
theorem algebraic : Cert.algebraic_Kernel5Ideal_Reference5Ideal := by
  intro m ρ m' ρ' _ hagree
  refine ⟨_, _, _, _, (θ_run Cert.Kernel5Ideal.defs _ _).mono (fun _ h c => ⟨(h c).1.trans (final4 m c), (h c).2.1.trans (final5 m c),
    (h c).2.2.1.trans (final6 m c), (h c).2.2.2.1.trans (final7 m c), (h c).2.2.2.2⟩) (Cert.Kernel5Ideal.Value.run_blocks (F := Ideal) m ρ), ?_⟩
  refine (θ_run Cert.Reference5Ideal.defs _ _).mono (fun _ h c => ⟨(h c).1.trans ?_, (h c).2.1.trans ?_, (h c).2.2.1.trans ?_,
    (h c).2.2.2.1.trans (hagree c).2.1, (h c).2.2.2.2⟩) (Cert.Reference5Ideal.Value.run (F := Ideal) m' ρ')
  · rw [(hagree c).1, (hagree c).2.1, (hagree c).2.2.1, (hagree c).2.2.2]; rfl
  · rw [(hagree c).2.1, (hagree c).2.2.1]; rfl
  · rw [(hagree c).2.1, (hagree c).2.2.2]; rfl

end Cert.Optim5

end
-- ==== Proof.Optim6.lean ====
module

public import proofs.«01_k».proof.Defs
public import proofs.«01_k».proof.Proof.Gen.Kernel6Ideal.Value
public import proofs.«01_k».proof.Proof.Gen.Reference6Ideal.Run

/-!
The optimiser's call on arrays of 512 by 1024: each of its four results is one function of the argument arrays, index by
index, and that function is the plain optimiser step.
-/

@[expose] public section

noncomputable section

open Idealize.ShloMosaic Idealize.ShloMosaic.TcCoe Idealize.SL.Sem

namespace Cert.Optim6

open Cert.Kernel6Ideal Cert.Kernel6Ideal.Gen

variable {F : FTy → Type} [FloatOps F]
variable (m : (ℓ : Loc nD τ sig) → Buf (Elt F) ℓ) (ρ : Dev nD → PrngReg)

/-- The new first moment. -/
def moment1 (g mo : Vec F S2x512x1024 .f32) : Vec F S2x512x1024 .f32 :=
  addf (mulf (broadcast S2x512x1024 (Scalar.ofBits .f32 0x3F666666#32)) mo) (mulf (broadcast S2x512x1024 (Scalar.ofBits .f32 0x3DCCCCCD#32)) g)
/-- The new second moment. -/
def moment2 (g ve : Vec F S2x512x1024 .f32) : Vec F S2x512x1024 .f32 :=
  addf (mulf (broadcast S2x512x1024 (Scalar.ofBits .f32 0x3F7FBE77#32)) ve) (mulf (broadcast S2x512x1024 (Scalar.ofBits .f32 0x3A83126F#32)) (mulf g g))
/-- The change of the weights. -/
def change (w g mo ve : Vec F S2x512x1024 .f32) : Vec F S2x512x1024 .f32 :=
  mulf (broadcast S2x512x1024 (Scalar.ofBits .f32 0xBA83126F#32))
    (addf (divf (divf (moment1 g mo) (broadcast S2x512x1024 (Scalar.ofBits .f32 0x3F26BD02#32)))
        (addf (sqrt (divf (moment2 g ve) (broadcast S2x512x1024 (Scalar.ofBits .f32 0x3C231ACC#32)))) (broadcast S2x512x1024 (Scalar.ofBits .f32 0x322BCC77#32))))
      (mulf (broadcast S2x512x1024 (Scalar.ofBits .f32 0x3C23D70A#32)) w))

theorem origin : (![0, 0, 0] : Fin 3 → Nat) = fun _ => 0 := funext fun a => by fin_cases a <;> rfl

theorem load (X : Vec F S1x512x1024 .f32) : View.ld X r0_0 = X := View.ld_unit_zero origin _ X

/-- The point whose block holds row `r` of layer `l`. -/
def pointOf (l r : ℕ) (hl : l < 2) (hr : r < 512) : Fin cfg0.N := ⟨l * 1 + r / 512, by have : cfg0.N = 2 := rfl; omega⟩

/-! ## Result 1: the step -/

/-- Where point `t`'s block lies. -/
theorem place4 : ∀ t : Fin cfg0.N, win0_4.index t 0 * win0_4.size 0 = t.val / 1 ∧ win0_4.xsize (grid0.coords t) 0 = 1
    ∧ win0_4.index t 1 * win0_4.size 1 = t.val % 1 * 512 ∧ win0_4.xsize (grid0.coords t) 1 = 512
    ∧ win0_4.index t 2 * win0_4.size 2 = 0 ∧ win0_4.xsize (grid0.coords t) 2 = 1024 :=
  (by decide +kernel : ∀ t : Fin grid0.N, _)
/-- Every index lies in some point's block. -/
theorem cover4 (i : S2x512x1024.Idx) : ∃ t : Fin cfg0.N, (cfg0.win 4).flush t = true ∧ i ∈ ((cfg0.win 4).blk t).view.set := by
  have h0 : (i 0 : Nat) < 2 := (i 0).isLt
  have h1 : (i 1 : Nat) < 512 := (i 1).isLt
  have h2 : (i 2 : Nat) < 1024 := (i 2).isLt
  refine ⟨pointOf (i 0) (i 1) h0 h1, flush0_4 _, ?_⟩
  show i ∈ ((View.whole main_v0_0).slice (win0_4.rect (pointOf (i 0) (i 1) h0 h1))).set
  rw [View.set_slice_whole, Rect.mem_set_unit]
  obtain ⟨e0, s0, e1, s1, e2, s2⟩ := place4 (pointOf (i 0) (i 1) h0 h1)
  have hv : (pointOf (i 0) (i 1) h0 h1).val = (i 0 : Nat) * 1 + (i 1 : Nat) / 512 := rfl
  rw [hv] at e0 e1
  generalize pointOf (i 0) (i 1) h0 h1 = t at *
  intro a
  match a with
  | ⟨0, _⟩ => show win0_4.index t 0 * win0_4.size 0 ≤ (i 0 : Nat) ∧ (i 0 : Nat) < win0_4.index t 0 * win0_4.size 0 + win0_4.xsize (grid0.coords t) 0
              rw [e0, s0]; omega
  | ⟨1, _⟩ => show win0_4.index t 1 * win0_4.size 1 ≤ (i 1 : Nat) ∧ (i 1 : Nat) < win0_4.index t 1 * win0_4.size 1 + win0_4.xsize (grid0.coords t) 1
              rw [e1, s1]; omega
  | ⟨2, _⟩ => show win0_4.index t 2 * win0_4.size 2 ≤ (i 2 : Nat) ∧ (i 2 : Nat) < win0_4.index t 2 * win0_4.size 2 + win0_4.xsize (grid0.coords t) 2
              rw [e2, s2]; omega
/-- What point `t` writes back is its block of the whole-array function. -/
theorem written4 (c : Dev nD) (t : Fin cfg0.N) :
    (dats m 0 c).flushed 4 t = (win0_4.blk t).view.read (Elt F) (change (m ((c : Thread nD τ).loc main_arg0)) (m ((c : Thread nD τ).loc main_arg1)) (m ((c : Thread nD τ).loc main_arg2)) (m ((c : Thread nD τ).loc main_arg3))) := by
  show (cfg0.win 4).cut (grid0.coords t) ((dats m 0 c).after 4 t) = _
  rw [after0_4]
  unfold out0_4
  rw [View.canon_unit_zero origin]
  simp only [load]
  rfl
/-- The array after the run. -/
theorem final4 (c : Dev nD) : (dats m 0 c).arrAt 4 cfg0.N = change (m ((c : Thread nD τ).loc main_arg0)) (m ((c : Thread nD τ).loc main_arg1)) (m ((c : Thread nD τ).loc main_arg2)) (m ((c : Thread nD τ).loc main_arg3)) :=
  (dats m 0 c).arrAt_eq_of_cover 4 _ (fun t _ => written4 m c t) cover4

/-! ## Result 2: the first moment -/

/-- Where point `t`'s block lies. -/
theorem place5 : ∀ t : Fin cfg0.N, win0_5.index t 0 * win0_5.size 0 = t.val / 1 ∧ win0_5.xsize (grid0.coords t) 0 = 1
    ∧ win0_5.index t 1 * win0_5.size 1 = t.val % 1 * 512 ∧ win0_5.xsize (grid0.coords t) 1 = 512
    ∧ win0_5.index t 2 * win0_5.size 2 = 0 ∧ win0_5.xsize (grid0.coords t) 2 = 1024 :=
  (by decide +kernel : ∀ t : Fin grid0.N, _)
/-- Every index lies in some point's block. -/
theorem cover5 (i : S2x512x1024.Idx) : ∃ t : Fin cfg0.N, (cfg0.win 5).flush t = true ∧ i ∈ ((cfg0.win 5).blk t).view.set := by
  have h0 : (i 0 : Nat) < 2 := (i 0).isLt
  have h1 : (i 1 : Nat) < 512 := (i 1).isLt
  have h2 : (i 2 : Nat) < 1024 := (i 2).isLt
  refine ⟨pointOf (i 0) (i 1) h0 h1, flush0_5 _, ?_⟩
  show i ∈ ((View.whole main_v0_1).slice (win0_5.rect (pointOf (i 0) (i 1) h0 h1))).set
  rw [View.set_slice_whole, Rect.mem_set_unit]
  obtain ⟨e0, s0, e1, s1, e2, s2⟩ := place5 (pointOf (i 0) (i 1) h0 h1)
  have hv : (pointOf (i 0) (i 1) h0 h1).val = (i 0 : Nat) * 1 + (i 1 : Nat) / 512 := rfl
  rw [hv] at e0 e1
  generalize pointOf (i 0) (i 1) h0 h1 = t at *
  intro a
  match a with
  | ⟨0, _⟩ => show win0_5.index t 0 * win0_5.size 0 ≤ (i 0 : Nat) ∧ (i 0 : Nat) < win0_5.index t 0 * win0_5.size 0 + win0_5.xsize (grid0.coords t) 0
              rw [e0, s0]; omega
  | ⟨1, _⟩ => show win0_5.index t 1 * win0_5.size 1 ≤ (i 1 : Nat) ∧ (i 1 : Nat) < win0_5.index t 1 * win0_5.size 1 + win0_5.xsize (grid0.coords t) 1
              rw [e1, s1]; omega
  | ⟨2, _⟩ => show win0_5.index t 2 * win0_5.size 2 ≤ (i 2 : Nat) ∧ (i 2 : Nat) < win0_5.index t 2 * win0_5.size 2 + win0_5.xsize (grid0.coords t) 2
              rw [e2, s2]; omega
/-- What point `t` writes back is its block of the whole-array function. -/
theorem written5 (c : Dev nD) (t : Fin cfg0.N) :
    (dats m 0 c).flushed 5 t = (win0_5.blk t).view.read (Elt F) (moment1 (m ((c : Thread nD τ).loc main_arg1)) (m ((c : Thread nD τ).loc main_arg2))) := by
  show (cfg0.win 5).cut (grid0.coords t) ((dats m 0 c).after 5 t) = _
  rw [after0_5]
  unfold out0_5
  rw [View.canon_unit_zero origin]
  simp only [load]
  rfl
/-- The array after the run. -/
theorem final5 (c : Dev nD) : (dats m 0 c).arrAt 5 cfg0.N = moment1 (m ((c : Thread nD τ).loc main_arg1)) (m ((c : Thread nD τ).loc main_arg2)) :=
  (dats m 0 c).arrAt_eq_of_cover 5 _ (fun t _ => written5 m c t) cover5

/-! ## Result 3: the second moment -/

/-- Where point `t`'s block lies. -/
theorem place6 : ∀ t : Fin cfg0.N, win0_6.index t 0 * win0_6.size 0 = t.val / 1 ∧ win0_6.xsize (grid0.coords t) 0 = 1
    ∧ win0_6.index t 1 * win0_6.size 1 = t.val % 1 * 512 ∧ win0_6.xsize (grid0.coords t) 1 = 512
    ∧ win0_6.index t 2 * win0_6.size 2 = 0 ∧ win0_6.xsize (grid0.coords t) 2 = 1024 :=
  (by decide +kernel : ∀ t : Fin grid0.N, _)
/-- Every index lies in some point's block. -/
theorem cover6 (i : S2x512x1024.Idx) : ∃ t : Fin cfg0.N, (cfg0.win 6).flush t = true ∧ i ∈ ((cfg0.win 6).blk t).view.set := by
  have h0 : (i 0 : Nat) < 2 := (i 0).isLt
  have h1 : (i 1 : Nat) < 512 := (i 1).isLt
  have h2 : (i 2 : Nat) < 1024 := (i 2).isLt
  refine ⟨pointOf (i 0) (i 1) h0 h1, flush0_6 _, ?_⟩
  show i ∈ ((View.whole main_v0_2).slice (win0_6.rect (pointOf (i 0) (i 1) h0 h1))).set
  rw [View.set_slice_whole, Rect.mem_set_unit]
  obtain ⟨e0, s0, e1, s1, e2, s2⟩ := place6 (pointOf (i 0) (i 1) h0 h1)
  have hv : (pointOf (i 0) (i 1) h0 h1).val = (i 0 : Nat) * 1 + (i 1 : Nat) / 512 := rfl
  rw [hv] at e0 e1
  generalize pointOf (i 0) (i 1) h0 h1 = t at *
  intro a
  match a with
  | ⟨0, _⟩ => show win0_6.index t 0 * win0_6.size 0 ≤ (i 0 : Nat) ∧ (i 0 : Nat) < win0_6.index t 0 * win0_6.size 0 + win0_6.xsize (grid0.coords t) 0
              rw [e0, s0]; omega
  | ⟨1, _⟩ => show win0_6.index t 1 * win0_6.size 1 ≤ (i 1 : Nat) ∧ (i 1 : Nat) < win0_6.index t 1 * win0_6.size 1 + win0_6.xsize (grid0.coords t) 1
              rw [e1, s1]; omega
  | ⟨2, _⟩ => show win0_6.index t 2 * win0_6.size 2 ≤ (i 2 : Nat) ∧ (i 2 : Nat) < win0_6.index t 2 * win0_6.size 2 + win0_6.xsize (grid0.coords t) 2
              rw [e2, s2]; omega
/-- What point `t` writes back is its block of the whole-array function. -/
theorem written6 (c : Dev nD) (t : Fin cfg0.N) :
    (dats m 0 c).flushed 6 t = (win0_6.blk t).view.read (Elt F) (moment2 (m ((c : Thread nD τ).loc main_arg1)) (m ((c : Thread nD τ).loc main_arg3))) := by
  show (cfg0.win 6).cut (grid0.coords t) ((dats m 0 c).after 6 t) = _
  rw [after0_6]
  unfold out0_6
  rw [View.canon_unit_zero origin]
  simp only [load]
  rfl
/-- The array after the run. -/
theorem final6 (c : Dev nD) : (dats m 0 c).arrAt 6 cfg0.N = moment2 (m ((c : Thread nD τ).loc main_arg1)) (m ((c : Thread nD τ).loc main_arg3)) :=
  (dats m 0 c).arrAt_eq_of_cover 6 _ (fun t _ => written6 m c t) cover6

/-! ## Result 4: the gradient as it was given -/

/-- Where point `t`'s block lies. -/
theorem place7 : ∀ t : Fin cfg0.N, win0_7.index t 0 * win0_7.size 0 = t.val / 1 ∧ win0_7.xsize (grid0.coords t) 0 = 1
    ∧ win0_7.index t 1 * win0_7.size 1 = t.val % 1 * 512 ∧ win0_7.xsize (grid0.coords t) 1 = 512
    ∧ win0_7.index t 2 * win0_7.size 2 = 0 ∧ win0_7.xsize (grid0.coords t) 2 = 1024 :=
  (by decide +kernel : ∀ t : Fin grid0.N, _)
/-- Every index lies in some point's block. -/
theorem cover7 (i : S2x512x1024.Idx) : ∃ t : Fin cfg0.N, (cfg0.win 7).flush t = true ∧ i ∈ ((cfg0.win 7).blk t).view.set := by
  have h0 : (i 0 : Nat) < 2 := (i 0).isLt
  have h1 : (i 1 : Nat) < 512 := (i 1).isLt
  have h2 : (i 2 : Nat) < 1024 := (i 2).isLt
  refine ⟨pointOf (i 0) (i 1) h0 h1, flush0_7 _, ?_⟩
  show i ∈ ((View.whole main_v0_3).slice (win0_7.rect (pointOf (i 0) (i 1) h0 h1))).set
  rw [View.set_slice_whole, Rect.mem_set_unit]
  obtain ⟨e0, s0, e1, s1, e2, s2⟩ := place7 (pointOf (i 0) (i 1) h0 h1)
  have hv : (pointOf (i 0) (i 1) h0 h1).val = (i 0 : Nat) * 1 + (i 1 : Nat) / 512 := rfl
  rw [hv] at e0 e1
  generalize pointOf (i 0) (i 1) h0 h1 = t at *
  intro a
  match a with
  | ⟨0, _⟩ => show win0_7.index t 0 * win0_7.size 0 ≤ (i 0 : Nat) ∧ (i 0 : Nat) < win0_7.index t 0 * win0_7.size 0 + win0_7.xsize (grid0.coords t) 0
              rw [e0, s0]; omega
  | ⟨1, _⟩ => show win0_7.index t 1 * win0_7.size 1 ≤ (i 1 : Nat) ∧ (i 1 : Nat) < win0_7.index t 1 * win0_7.size 1 + win0_7.xsize (grid0.coords t) 1
              rw [e1, s1]; omega
  | ⟨2, _⟩ => show win0_7.index t 2 * win0_7.size 2 ≤ (i 2 : Nat) ∧ (i 2 : Nat) < win0_7.index t 2 * win0_7.size 2 + win0_7.xsize (grid0.coords t) 2
              rw [e2, s2]; omega
/-- What point `t` writes back is its block of the whole-array function. -/
theorem written7 (c : Dev nD) (t : Fin cfg0.N) :
    (dats m 0 c).flushed 7 t = (win0_7.blk t).view.read (Elt F) (m ((c : Thread nD τ).loc main_arg1)) := by
  show (cfg0.win 7).cut (grid0.coords t) ((dats m 0 c).after 7 t) = _
  rw [after0_7]
  unfold out0_7
  rw [View.canon_unit_zero origin]
  simp only [load]
  rfl
/-- The array after the run. -/
theorem final7 (c : Dev nD) : (dats m 0 c).arrAt 7 cfg0.N = m ((c : Thread nD τ).loc main_arg1) :=
  (dats m 0 c).arrAt_eq_of_cover 7 _ (fun t _ => written7 m c t) cover7

end Cert.Optim6

namespace Cert.Optim6

/-- The optimiser's call and the plain step end with equal results. -/
theorem algebraic : Cert.algebraic_Kernel6Ideal_Reference6Ideal := by
  intro m ρ m' ρ' _ hagree
  refine ⟨_, _, _, _, (θ_run Cert.Kernel6Ideal.defs _ _).mono (fun _ h c => ⟨(h c).1.trans (final4 m c), (h c).2.1.trans (final5 m c),
    (h c).2.2.1.trans (final6 m c), (h c).2.2.2.1.trans (final7 m c), (h c).2.2.2.2⟩) (Cert.Kernel6Ideal.Value.run_blocks (F := Ideal) m ρ), ?_⟩
  refine (θ_run Cert.Reference6Ideal.defs _ _).mono (fun _ h c => ⟨(h c).1.trans ?_, (h c).2.1.trans ?_, (h c).2.2.1.trans ?_,
    (h c).2.2.2.1.trans (hagree c).2.1, (h c).2.2.2.2⟩) (Cert.Reference6Ideal.Value.run (F := Ideal) m' ρ')
  · rw [(hagree c).1, (hagree c).2.1, (hagree c).2.2.1, (hagree c).2.2.2]; rfl
  · rw [(hagree c).2.1, (hagree c).2.2.1]; rfl
  · rw [(hagree c).2.1, (hagree c).2.2.2]; rfl

end Cert.Optim6

end
-- ==== Proof.Optim7.lean ====
module

public import proofs.«01_k».proof.Defs
public import proofs.«01_k».proof.Proof.Gen.Kernel7Ideal.Value
public import proofs.«01_k».proof.Proof.Gen.Reference7Ideal.Run

/-!
The optimiser's call on arrays of 256 by 256: each of its four results is one function of the argument arrays, index by
index, and that function is the plain optimiser step.
-/

@[expose] public section

noncomputable section

open Idealize.ShloMosaic Idealize.ShloMosaic.TcCoe Idealize.SL.Sem

namespace Cert.Optim7

open Cert.Kernel7Ideal Cert.Kernel7Ideal.Gen

variable {F : FTy → Type} [FloatOps F]
variable (m : (ℓ : Loc nD τ sig) → Buf (Elt F) ℓ) (ρ : Dev nD → PrngReg)

/-- The new first moment. -/
def moment1 (g mo : Vec F S2x256x256 .f32) : Vec F S2x256x256 .f32 :=
  addf (mulf (broadcast S2x256x256 (Scalar.ofBits .f32 0x3F666666#32)) mo) (mulf (broadcast S2x256x256 (Scalar.ofBits .f32 0x3DCCCCCD#32)) g)
/-- The new second moment. -/
def moment2 (g ve : Vec F S2x256x256 .f32) : Vec F S2x256x256 .f32 :=
  addf (mulf (broadcast S2x256x256 (Scalar.ofBits .f32 0x3F7FBE77#32)) ve) (mulf (broadcast S2x256x256 (Scalar.ofBits .f32 0x3A83126F#32)) (mulf g g))
/-- The change of the weights. -/
def change (w g mo ve : Vec F S2x256x256 .f32) : Vec F S2x256x256 .f32 :=
  mulf (broadcast S2x256x256 (Scalar.ofBits .f32 0xBA83126F#32))
    (addf (divf (divf (moment1 g mo) (broadcast S2x256x256 (Scalar.ofBits .f32 0x3F26BD02#32)))
        (addf (sqrt (divf (moment2 g ve) (broadcast S2x256x256 (Scalar.ofBits .f32 0x3C231ACC#32)))) (broadcast S2x256x256 (Scalar.ofBits .f32 0x322BCC77#32))))
      (mulf (broadcast S2x256x256 (Scalar.ofBits .f32 0x3C23D70A#32)) w))

theorem origin : (![0, 0, 0] : Fin 3 → Nat) = fun _ => 0 := funext fun a => by fin_cases a <;> rfl

theorem load (X : Vec F S1x256x256 .f32) : View.ld X r0_0 = X := View.ld_unit_zero origin _ X

/-- The point whose block holds row `r` of layer `l`. -/
def pointOf (l r : ℕ) (hl : l < 2) (hr : r < 256) : Fin cfg0.N := ⟨l * 1 + r / 256, by have : cfg0.N = 2 := rfl; omega⟩

/-! ## Result 1: the step -/

/-- Where point `t`'s block lies. -/
theorem place4 : ∀ t : Fin cfg0.N, win0_4.index t 0 * win0_4.size 0 = t.val / 1 ∧ win0_4.xsize (grid0.coords t) 0 = 1
    ∧ win0_4.index t 1 * win0_4.size 1 = t.val % 1 * 256 ∧ win0_4.xsize (grid0.coords t) 1 = 256
    ∧ win0_4.index t 2 * win0_4.size 2 = 0 ∧ win0_4.xsize (grid0.coords t) 2 = 256 :=
  (by decide +kernel : ∀ t : Fin grid0.N, _)
/-- Every index lies in some point's block. -/
theorem cover4 (i : S2x256x256.Idx) : ∃ t : Fin cfg0.N, (cfg0.win 4).flush t = true ∧ i ∈ ((cfg0.win 4).blk t).view.set := by
  have h0 : (i 0 : Nat) < 2 := (i 0).isLt
  have h1 : (i 1 : Nat) < 256 := (i 1).isLt
  have h2 : (i 2 : Nat) < 256 := (i 2).isLt
  refine ⟨pointOf (i 0) (i 1) h0 h1, flush0_4 _, ?_⟩
  show i ∈ ((View.whole main_v0_0).slice (win0_4.rect (pointOf (i 0) (i 1) h0 h1))).set
  rw [View.set_slice_whole, Rect.mem_set_unit]
  obtain ⟨e0, s0, e1, s1, e2, s2⟩ := place4 (pointOf (i 0) (i 1) h0 h1)
  have hv : (pointOf (i 0) (i 1) h0 h1).val = (i 0 : Nat) * 1 + (i 1 : Nat) / 256 := rfl
  rw [hv] at e0 e1
  generalize pointOf (i 0) (i 1) h0 h1 = t at *
  intro a
  match a with
  | ⟨0, _⟩ => show win0_4.index t 0 * win0_4.size 0 ≤ (i 0 : Nat) ∧ (i 0 : Nat) < win0_4.index t 0 * win0_4.size 0 + win0_4.xsize (grid0.coords t) 0
              rw [e0, s0]; omega
  | ⟨1, _⟩ => show win0_4.index t 1 * win0_4.size 1 ≤ (i 1 : Nat) ∧ (i 1 : Nat) < win0_4.index t 1 * win0_4.size 1 + win0_4.xsize (grid0.coords t) 1
              rw [e1, s1]; omega
  | ⟨2, _⟩ => show win0_4.index t 2 * win0_4.size 2 ≤ (i 2 : Nat) ∧ (i 2 : Nat) < win0_4.index t 2 * win0_4.size 2 + win0_4.xsize (grid0.coords t) 2
              rw [e2, s2]; omega
/-- What point `t` writes back is its block of the whole-array function. -/
theorem written4 (c : Dev nD) (t : Fin cfg0.N) :
    (dats m 0 c).flushed 4 t = (win0_4.blk t).view.read (Elt F) (change (m ((c : Thread nD τ).loc main_arg0)) (m ((c : Thread nD τ).loc main_arg1)) (m ((c : Thread nD τ).loc main_arg2)) (m ((c : Thread nD τ).loc main_arg3))) := by
  show (cfg0.win 4).cut (grid0.coords t) ((dats m 0 c).after 4 t) = _
  rw [after0_4]
  unfold out0_4
  rw [View.canon_unit_zero origin]
  simp only [load]
  rfl
/-- The array after the run. -/
theorem final4 (c : Dev nD) : (dats m 0 c).arrAt 4 cfg0.N = change (m ((c : Thread nD τ).loc main_arg0)) (m ((c : Thread nD τ).loc main_arg1)) (m ((c : Thread nD τ).loc main_arg2)) (m ((c : Thread nD τ).loc main_arg3)) :=
  (dats m 0 c).arrAt_eq_of_cover 4 _ (fun t _ => written4 m c t) cover4

/-! ## Result 2: the first moment -/

/-- Where point `t`'s block lies. -/
theorem place5 : ∀ t : Fin cfg0.N, win0_5.index t 0 * win0_5.size 0 = t.val / 1 ∧ win0_5.xsize (grid0.coords t) 0 = 1
    ∧ win0_5.index t 1 * win0_5.size 1 = t.val % 1 * 256 ∧ win0_5.xsize (grid0.coords t) 1 = 256
    ∧ win0_5.index t 2 * win0_5.size 2 = 0 ∧ win0_5.xsize (grid0.coords t) 2 = 256 :=
  (by decide +kernel : ∀ t : Fin grid0.N, _)
/-- Every index lies in some point's block. -/
theorem cover5 (i : S2x256x256.Idx) : ∃ t : Fin cfg0.N, (cfg0.win 5).flush t = true ∧ i ∈ ((cfg0.win 5).blk t).view.set := by
  have h0 : (i 0 : Nat) < 2 := (i 0).isLt
  have h1 : (i 1 : Nat) < 256 := (i 1).isLt
  have h2 : (i 2 : Nat) < 256 := (i 2).isLt
  refine ⟨pointOf (i 0) (i 1) h0 h1, flush0_5 _, ?_⟩
  show i ∈ ((View.whole main_v0_1).slice (win0_5.rect (pointOf (i 0) (i 1) h0 h1))).set
  rw [View.set_slice_whole, Rect.mem_set_unit]
  obtain ⟨e0, s0, e1, s1, e2, s2⟩ := place5 (pointOf (i 0) (i 1) h0 h1)
  have hv : (pointOf (i 0) (i 1) h0 h1).val = (i 0 : Nat) * 1 + (i 1 : Nat) / 256 := rfl
  rw [hv] at e0 e1
  generalize pointOf (i 0) (i 1) h0 h1 = t at *
  intro a
  match a with
  | ⟨0, _⟩ => show win0_5.index t 0 * win0_5.size 0 ≤ (i 0 : Nat) ∧ (i 0 : Nat) < win0_5.index t 0 * win0_5.size 0 + win0_5.xsize (grid0.coords t) 0
              rw [e0, s0]; omega
  | ⟨1, _⟩ => show win0_5.index t 1 * win0_5.size 1 ≤ (i 1 : Nat) ∧ (i 1 : Nat) < win0_5.index t 1 * win0_5.size 1 + win0_5.xsize (grid0.coords t) 1
              rw [e1, s1]; omega
  | ⟨2, _⟩ => show win0_5.index t 2 * win0_5.size 2 ≤ (i 2 : Nat) ∧ (i 2 : Nat) < win0_5.index t 2 * win0_5.size 2 + win0_5.xsize (grid0.coords t) 2
              rw [e2, s2]; omega
/-- What point `t` writes back is its block of the whole-array function. -/
theorem written5 (c : Dev nD) (t : Fin cfg0.N) :
    (dats m 0 c).flushed 5 t = (win0_5.blk t).view.read (Elt F) (moment1 (m ((c : Thread nD τ).loc main_arg1)) (m ((c : Thread nD τ).loc main_arg2))) := by
  show (cfg0.win 5).cut (grid0.coords t) ((dats m 0 c).after 5 t) = _
  rw [after0_5]
  unfold out0_5
  rw [View.canon_unit_zero origin]
  simp only [load]
  rfl
/-- The array after the run. -/
theorem final5 (c : Dev nD) : (dats m 0 c).arrAt 5 cfg0.N = moment1 (m ((c : Thread nD τ).loc main_arg1)) (m ((c : Thread nD τ).loc main_arg2)) :=
  (dats m 0 c).arrAt_eq_of_cover 5 _ (fun t _ => written5 m c t) cover5

/-! ## Result 3: the second moment -/

/-- Where point `t`'s block lies. -/
theorem place6 : ∀ t : Fin cfg0.N, win0_6.index t 0 * win0_6.size 0 = t.val / 1 ∧ win0_6.xsize (grid0.coords t) 0 = 1
    ∧ win0_6.index t 1 * win0_6.size 1 = t.val % 1 * 256 ∧ win0_6.xsize (grid0.coords t) 1 = 256
    ∧ win0_6.index t 2 * win0_6.size 2 = 0 ∧ win0_6.xsize (grid0.coords t) 2 = 256 :=
  (by decide +kernel : ∀ t : Fin grid0.N, _)
/-- Every index lies in some point's block. -/
theorem cover6 (i : S2x256x256.Idx) : ∃ t : Fin cfg0.N, (cfg0.win 6).flush t = true ∧ i ∈ ((cfg0.win 6).blk t).view.set := by
  have h0 : (i 0 : Nat) < 2 := (i 0).isLt
  have h1 : (i 1 : Nat) < 256 := (i 1).isLt
  have h2 : (i 2 : Nat) < 256 := (i 2).isLt
  refine ⟨pointOf (i 0) (i 1) h0 h1, flush0_6 _, ?_⟩
  show i ∈ ((View.whole main_v0_2).slice (win0_6.rect (pointOf (i 0) (i 1) h0 h1))).set
  rw [View.set_slice_whole, Rect.mem_set_unit]
  obtain ⟨e0, s0, e1, s1, e2, s2⟩ := place6 (pointOf (i 0) (i 1) h0 h1)
  have hv : (pointOf (i 0) (i 1) h0 h1).val = (i 0 : Nat) * 1 + (i 1 : Nat) / 256 := rfl
  rw [hv] at e0 e1
  generalize pointOf (i 0) (i 1) h0 h1 = t at *
  intro a
  match a with
  | ⟨0, _⟩ => show win0_6.index t 0 * win0_6.size 0 ≤ (i 0 : Nat) ∧ (i 0 : Nat) < win0_6.index t 0 * win0_6.size 0 + win0_6.xsize (grid0.coords t) 0
              rw [e0, s0]; omega
  | ⟨1, _⟩ => show win0_6.index t 1 * win0_6.size 1 ≤ (i 1 : Nat) ∧ (i 1 : Nat) < win0_6.index t 1 * win0_6.size 1 + win0_6.xsize (grid0.coords t) 1
              rw [e1, s1]; omega
  | ⟨2, _⟩ => show win0_6.index t 2 * win0_6.size 2 ≤ (i 2 : Nat) ∧ (i 2 : Nat) < win0_6.index t 2 * win0_6.size 2 + win0_6.xsize (grid0.coords t) 2
              rw [e2, s2]; omega
/-- What point `t` writes back is its block of the whole-array function. -/
theorem written6 (c : Dev nD) (t : Fin cfg0.N) :
    (dats m 0 c).flushed 6 t = (win0_6.blk t).view.read (Elt F) (moment2 (m ((c : Thread nD τ).loc main_arg1)) (m ((c : Thread nD τ).loc main_arg3))) := by
  show (cfg0.win 6).cut (grid0.coords t) ((dats m 0 c).after 6 t) = _
  rw [after0_6]
  unfold out0_6
  rw [View.canon_unit_zero origin]
  simp only [load]
  rfl
/-- The array after the run. -/
theorem final6 (c : Dev nD) : (dats m 0 c).arrAt 6 cfg0.N = moment2 (m ((c : Thread nD τ).loc main_arg1)) (m ((c : Thread nD τ).loc main_arg3)) :=
  (dats m 0 c).arrAt_eq_of_cover 6 _ (fun t _ => written6 m c t) cover6

/-! ## Result 4: the gradient as it was given -/

/-- Where point `t`'s block lies. -/
theorem place7 : ∀ t : Fin cfg0.N, win0_7.index t 0 * win0_7.size 0 = t.val / 1 ∧ win0_7.xsize (grid0.coords t) 0 = 1
    ∧ win0_7.index t 1 * win0_7.size 1 = t.val % 1 * 256 ∧ win0_7.xsize (grid0.coords t) 1 = 256
    ∧ win0_7.index t 2 * win0_7.size 2 = 0 ∧ win0_7.xsize (grid0.coords t) 2 = 256 :=
  (by decide +kernel : ∀ t : Fin grid0.N, _)
/-- Every index lies in some point's block. -/
theorem cover7 (i : S2x256x256.Idx) : ∃ t : Fin cfg0.N, (cfg0.win 7).flush t = true ∧ i ∈ ((cfg0.win 7).blk t).view.set := by
  have h0 : (i 0 : Nat) < 2 := (i 0).isLt
  have h1 : (i 1 : Nat) < 256 := (i 1).isLt
  have h2 : (i 2 : Nat) < 256 := (i 2).isLt
  refine ⟨pointOf (i 0) (i 1) h0 h1, flush0_7 _, ?_⟩
  show i ∈ ((View.whole main_v0_3).slice (win0_7.rect (pointOf (i 0) (i 1) h0 h1))).set
  rw [View.set_slice_whole, Rect.mem_set_unit]
  obtain ⟨e0, s0, e1, s1, e2, s2⟩ := place7 (pointOf (i 0) (i 1) h0 h1)
  have hv : (pointOf (i 0) (i 1) h0 h1).val = (i 0 : Nat) * 1 + (i 1 : Nat) / 256 := rfl
  rw [hv] at e0 e1
  generalize pointOf (i 0) (i 1) h0 h1 = t at *
  intro a
  match a with
  | ⟨0, _⟩ => show win0_7.index t 0 * win0_7.size 0 ≤ (i 0 : Nat) ∧ (i 0 : Nat) < win0_7.index t 0 * win0_7.size 0 + win0_7.xsize (grid0.coords t) 0
              rw [e0, s0]; omega
  | ⟨1, _⟩ => show win0_7.index t 1 * win0_7.size 1 ≤ (i 1 : Nat) ∧ (i 1 : Nat) < win0_7.index t 1 * win0_7.size 1 + win0_7.xsize (grid0.coords t) 1
              rw [e1, s1]; omega
  | ⟨2, _⟩ => show win0_7.index t 2 * win0_7.size 2 ≤ (i 2 : Nat) ∧ (i 2 : Nat) < win0_7.index t 2 * win0_7.size 2 + win0_7.xsize (grid0.coords t) 2
              rw [e2, s2]; omega
/-- What point `t` writes back is its block of the whole-array function. -/
theorem written7 (c : Dev nD) (t : Fin cfg0.N) :
    (dats m 0 c).flushed 7 t = (win0_7.blk t).view.read (Elt F) (m ((c : Thread nD τ).loc main_arg1)) := by
  show (cfg0.win 7).cut (grid0.coords t) ((dats m 0 c).after 7 t) = _
  rw [after0_7]
  unfold out0_7
  rw [View.canon_unit_zero origin]
  simp only [load]
  rfl
/-- The array after the run. -/
theorem final7 (c : Dev nD) : (dats m 0 c).arrAt 7 cfg0.N = m ((c : Thread nD τ).loc main_arg1) :=
  (dats m 0 c).arrAt_eq_of_cover 7 _ (fun t _ => written7 m c t) cover7

end Cert.Optim7

namespace Cert.Optim7

/-- The optimiser's call and the plain step end with equal results. -/
theorem algebraic : Cert.algebraic_Kernel7Ideal_Reference7Ideal := by
  intro m ρ m' ρ' _ hagree
  refine ⟨_, _, _, _, (θ_run Cert.Kernel7Ideal.defs _ _).mono (fun _ h c => ⟨(h c).1.trans (final4 m c), (h c).2.1.trans (final5 m c),
    (h c).2.2.1.trans (final6 m c), (h c).2.2.2.1.trans (final7 m c), (h c).2.2.2.2⟩) (Cert.Kernel7Ideal.Value.run_blocks (F := Ideal) m ρ), ?_⟩
  refine (θ_run Cert.Reference7Ideal.defs _ _).mono (fun _ h c => ⟨(h c).1.trans ?_, (h c).2.1.trans ?_, (h c).2.2.1.trans ?_,
    (h c).2.2.2.1.trans (hagree c).2.1, (h c).2.2.2.2⟩) (Cert.Reference7Ideal.Value.run (F := Ideal) m' ρ')
  · rw [(hagree c).1, (hagree c).2.1, (hagree c).2.2.1, (hagree c).2.2.2]; rfl
  · rw [(hagree c).2.1, (hagree c).2.2.1]; rfl
  · rw [(hagree c).2.1, (hagree c).2.2.2]; rfl

end Cert.Optim7

end
-- ==== Proof.Optim8.lean ====
module

public import proofs.«01_k».proof.Defs
public import proofs.«01_k».proof.Proof.Gen.Kernel8Ideal.Value
public import proofs.«01_k».proof.Proof.Gen.Reference8Ideal.Run

/-!
The optimiser's call on arrays of 1024 by 768: each of its four results is one function of the argument arrays, index by
index, and that function is the plain optimiser step.
-/

@[expose] public section

noncomputable section

open Idealize.ShloMosaic Idealize.ShloMosaic.TcCoe Idealize.SL.Sem

namespace Cert.Optim8

open Cert.Kernel8Ideal Cert.Kernel8Ideal.Gen

variable {F : FTy → Type} [FloatOps F]
variable (m : (ℓ : Loc nD τ sig) → Buf (Elt F) ℓ) (ρ : Dev nD → PrngReg)

/-- The new first moment. -/
def moment1 (g mo : Vec F S2x1024x768 .f32) : Vec F S2x1024x768 .f32 :=
  addf (mulf (broadcast S2x1024x768 (Scalar.ofBits .f32 0x3F666666#32)) mo) (mulf (broadcast S2x1024x768 (Scalar.ofBits .f32 0x3DCCCCCD#32)) g)
/-- The new second moment. -/
def moment2 (g ve : Vec F S2x1024x768 .f32) : Vec F S2x1024x768 .f32 :=
  addf (mulf (broadcast S2x1024x768 (Scalar.ofBits .f32 0x3F7FBE77#32)) ve) (mulf (broadcast S2x1024x768 (Scalar.ofBits .f32 0x3A83126F#32)) (mulf g g))
/-- The change of the weights. -/
def change (w g mo ve : Vec F S2x1024x768 .f32) : Vec F S2x1024x768 .f32 :=
  mulf (broadcast S2x1024x768 (Scalar.ofBits .f32 0xBA83126F#32))
    (addf (divf (divf (moment1 g mo) (broadcast S2x1024x768 (Scalar.ofBits .f32 0x3F26BD02#32)))
        (addf (sqrt (divf (moment2 g ve) (broadcast S2x1024x768 (Scalar.ofBits .f32 0x3C231ACC#32)))) (broadcast S2x1024x768 (Scalar.ofBits .f32 0x322BCC77#32))))
      (mulf (broadcast S2x1024x768 (Scalar.ofBits .f32 0x3C23D70A#32)) w))

theorem origin : (![0, 0, 0] : Fin 3 → Nat) = fun _ => 0 := funext fun a => by fin_cases a <;> rfl

theorem load (X : Vec F S1x512x768 .f32) : View.ld X r0_0 = X := View.ld_unit_zero origin _ X

/-- The point whose block holds row `r` of layer `l`. -/
def pointOf (l r : ℕ) (hl : l < 2) (hr : r < 1024) : Fin cfg0.N := ⟨l * 2 + r / 512, by have : cfg0.N = 4 := rfl; omega⟩

/-! ## Result 1: the step -/

/-- Where point `t`'s block lies. -/
theorem place4 : ∀ t : Fin cfg0.N, win0_4.index t 0 * win0_4.size 0 = t.val / 2 ∧ win0_4.xsize (grid0.coords t) 0 = 1
    ∧ win0_4.index t 1 * win0_4.size 1 = t.val % 2 * 512 ∧ win0_4.xsize (grid0.coords t) 1 = 512
    ∧ win0_4.index t 2 * win0_4.size 2 = 0 ∧ win0_4.xsize (grid0.coords t) 2 = 768 :=
  (by decide +kernel : ∀ t : Fin grid0.N, _)
/-- Every index lies in some point's block. -/
theorem cover4 (i : S2x1024x768.Idx) : ∃ t : Fin cfg0.N, (cfg0.win 4).flush t = true ∧ i ∈ ((cfg0.win 4).blk t).view.set := by
  have h0 : (i 0 : Nat) < 2 := (i 0).isLt
  have h1 : (i 1 : Nat) < 1024 := (i 1).isLt
  have h2 : (i 2 : Nat) < 768 := (i 2).isLt
  refine ⟨pointOf (i 0) (i 1) h0 h1, flush0_4 _, ?_⟩
  show i ∈ ((View.whole main_v0_0).slice (win0_4.rect (pointOf (i 0) (i 1) h0 h1))).set
  rw [View.set_slice_whole, Rect.mem_set_unit]
  obtain ⟨e0, s0, e1, s1, e2, s2⟩ := place4 (pointOf (i 0) (i 1) h0 h1)
  have hv : (pointOf (i 0) (i 1) h0 h1).val = (i 0 : Nat) * 2 + (i 1 : Nat) / 512 := rfl
  rw [hv] at e0 e1
  generalize pointOf (i 0) (i 1) h0 h1 = t at *
  intro a
  match a with
  | ⟨0, _⟩ => show win0_4.index t 0 * win0_4.size 0 ≤ (i 0 : Nat) ∧ (i 0 : Nat) < win0_4.index t 0 * win0_4.size 0 + win0_4.xsize (grid0.coords t) 0
              rw [e0, s0]; omega
  | ⟨1, _⟩ => show win0_4.index t 1 * win0_4.size 1 ≤ (i 1 : Nat) ∧ (i 1 : Nat) < win0_4.index t 1 * win0_4.size 1 + win0_4.xsize (grid0.coords t) 1
              rw [e1, s1]; omega
  | ⟨2, _⟩ => show win0_4.index t 2 * win0_4.size 2 ≤ (i 2 : Nat) ∧ (i 2 : Nat) < win0_4.index t 2 * win0_4.size 2 + win0_4.xsize (grid0.coords t) 2
              rw [e2, s2]; omega
/-- What point `t` writes back is its block of the whole-array function. -/
theorem written4 (c : Dev nD) (t : Fin cfg0.N) :
    (dats m 0 c).flushed 4 t = (win0_4.blk t).view.read (Elt F) (change (m ((c : Thread nD τ).loc main_arg0)) (m ((c : Thread nD τ).loc main_arg1)) (m ((c : Thread nD τ).loc main_arg2)) (m ((c : Thread nD τ).loc main_arg3))) := by
  show (cfg0.win 4).cut (grid0.coords t) ((dats m 0 c).after 4 t) = _
  rw [after0_4]
  unfold out0_4
  rw [View.canon_unit_zero origin]
  simp only [load]
  rfl
/-- The array after the run. -/
theorem final4 (c : Dev nD) : (dats m 0 c).arrAt 4 cfg0.N = change (m ((c : Thread nD τ).loc main_arg0)) (m ((c : Thread nD τ).loc main_arg1)) (m ((c : Thread nD τ).loc main_arg2)) (m ((c : Thread nD τ).loc main_arg3)) :=
  (dats m 0 c).arrAt_eq_of_cover 4 _ (fun t _ => written4 m c t) cover4

/-! ## Result 2: the first moment -/

/-- Where point `t`'s block lies. -/
theorem place5 : ∀ t : Fin cfg0.N, win0_5.index t 0 * win0_5.size 0 = t.val / 2 ∧ win0_5.xsize (grid0.coords t) 0 = 1
    ∧ win0_5.index t 1 * win0_5.size 1 = t.val % 2 * 512 ∧ win0_5.xsize (grid0.coords t) 1 = 512
    ∧ win0_5.index t 2 * win0_5.size 2 = 0 ∧ win0_5.xsize (grid0.coords t) 2 = 768 :=
  (by decide +kernel : ∀ t : Fin grid0.N, _)
/-- Every index lies in some point's block. -/
theorem cover5 (i : S2x1024x768.Idx) : ∃ t : Fin cfg0.N, (cfg0.win 5).flush t = true ∧ i ∈ ((cfg0.win 5).blk t).view.set := by
  have h0 : (i 0 : Nat) < 2 := (i 0).isLt
  have h1 : (i 1 : Nat) < 1024 := (i 1).isLt
  have h2 : (i 2 : Nat) < 768 := (i 2).isLt
  refine ⟨pointOf (i 0) (i 1) h0 h1, flush0_5 _, ?_⟩
  show i ∈ ((View.whole main_v0_1).slice (win0_5.rect (pointOf (i 0) (i 1) h0 h1))).set
  rw [View.set_slice_whole, Rect.mem_set_unit]
  obtain ⟨e0, s0, e1, s1, e2, s2⟩ := place5 (pointOf (i 0) (i 1) h0 h1)
  have hv : (pointOf (i 0) (i 1) h0 h1).val = (i 0 : Nat) * 2 + (i 1 : Nat) / 512 := rfl
  rw [hv] at e0 e1
  generalize pointOf (i 0) (i 1) h0 h1 = t at *
  intro a
  match a with
  | ⟨0, _⟩ => show win0_5.index t 0 * win0_5.size 0 ≤ (i 0 : Nat) ∧ (i 0 : Nat) < win0_5.index t 0 * win0_5.size 0 + win0_5.xsize (grid0.coords t) 0
              rw [e0, s0]; omega
  | ⟨1, _⟩ => show win0_5.index t 1 * win0_5.size 1 ≤ (i 1 : Nat) ∧ (i 1 : Nat) < win0_5.index t 1 * win0_5.size 1 + win0_5.xsize (grid0.coords t) 1
              rw [e1, s1]; omega
  | ⟨2, _⟩ => show win0_5.index t 2 * win0_5.size 2 ≤ (i 2 : Nat) ∧ (i 2 : Nat) < win0_5.index t 2 * win0_5.size 2 + win0_5.xsize (grid0.coords t) 2
              rw [e2, s2]; omega
/-- What point `t` writes back is its block of the whole-array function. -/
theorem written5 (c : Dev nD) (t : Fin cfg0.N) :
    (dats m 0 c).flushed 5 t = (win0_5.blk t).view.read (Elt F) (moment1 (m ((c : Thread nD τ).loc main_arg1)) (m ((c : Thread nD τ).loc main_arg2))) := by
  show (cfg0.win 5).cut (grid0.coords t) ((dats m 0 c).after 5 t) = _
  rw [after0_5]
  unfold out0_5
  rw [View.canon_unit_zero origin]
  simp only [load]
  rfl
/-- The array after the run. -/
theorem final5 (c : Dev nD) : (dats m 0 c).arrAt 5 cfg0.N = moment1 (m ((c : Thread nD τ).loc main_arg1)) (m ((c : Thread nD τ).loc main_arg2)) :=
  (dats m 0 c).arrAt_eq_of_cover 5 _ (fun t _ => written5 m c t) cover5

/-! ## Result 3: the second moment -/

/-- Where point `t`'s block lies. -/
theorem place6 : ∀ t : Fin cfg0.N, win0_6.index t 0 * win0_6.size 0 = t.val / 2 ∧ win0_6.xsize (grid0.coords t) 0 = 1
    ∧ win0_6.index t 1 * win0_6.size 1 = t.val % 2 * 512 ∧ win0_6.xsize (grid0.coords t) 1 = 512
    ∧ win0_6.index t 2 * win0_6.size 2 = 0 ∧ win0_6.xsize (grid0.coords t) 2 = 768 :=
  (by decide +kernel : ∀ t : Fin grid0.N, _)
/-- Every index lies in some point's block. -/
theorem cover6 (i : S2x1024x768.Idx) : ∃ t : Fin cfg0.N, (cfg0.win 6).flush t = true ∧ i ∈ ((cfg0.win 6).blk t).view.set := by
  have h0 : (i 0 : Nat) < 2 := (i 0).isLt
  have h1 : (i 1 : Nat) < 1024 := (i 1).isLt
  have h2 : (i 2 : Nat) < 768 := (i 2).isLt
  refine ⟨pointOf (i 0) (i 1) h0 h1, flush0_6 _, ?_⟩
  show i ∈ ((View.whole main_v0_2).slice (win0_6.rect (pointOf (i 0) (i 1) h0 h1))).set
  rw [View.set_slice_whole, Rect.mem_set_unit]
  obtain ⟨e0, s0, e1, s1, e2, s2⟩ := place6 (pointOf (i 0) (i 1) h0 h1)
  have hv : (pointOf (i 0) (i 1) h0 h1).val = (i 0 : Nat) * 2 + (i 1 : Nat) / 512 := rfl
  rw [hv] at e0 e1
  generalize pointOf (i 0) (i 1) h0 h1 = t at *
  intro a
  match a with
  | ⟨0, _⟩ => show win0_6.index t 0 * win0_6.size 0 ≤ (i 0 : Nat) ∧ (i 0 : Nat) < win0_6.index t 0 * win0_6.size 0 + win0_6.xsize (grid0.coords t) 0
              rw [e0, s0]; omega
  | ⟨1, _⟩ => show win0_6.index t 1 * win0_6.size 1 ≤ (i 1 : Nat) ∧ (i 1 : Nat) < win0_6.index t 1 * win0_6.size 1 + win0_6.xsize (grid0.coords t) 1
              rw [e1, s1]; omega
  | ⟨2, _⟩ => show win0_6.index t 2 * win0_6.size 2 ≤ (i 2 : Nat) ∧ (i 2 : Nat) < win0_6.index t 2 * win0_6.size 2 + win0_6.xsize (grid0.coords t) 2
              rw [e2, s2]; omega
/-- What point `t` writes back is its block of the whole-array function. -/
theorem written6 (c : Dev nD) (t : Fin cfg0.N) :
    (dats m 0 c).flushed 6 t = (win0_6.blk t).view.read (Elt F) (moment2 (m ((c : Thread nD τ).loc main_arg1)) (m ((c : Thread nD τ).loc main_arg3))) := by
  show (cfg0.win 6).cut (grid0.coords t) ((dats m 0 c).after 6 t) = _
  rw [after0_6]
  unfold out0_6
  rw [View.canon_unit_zero origin]
  simp only [load]
  rfl
/-- The array after the run. -/
theorem final6 (c : Dev nD) : (dats m 0 c).arrAt 6 cfg0.N = moment2 (m ((c : Thread nD τ).loc main_arg1)) (m ((c : Thread nD τ).loc main_arg3)) :=
  (dats m 0 c).arrAt_eq_of_cover 6 _ (fun t _ => written6 m c t) cover6

/-! ## Result 4: the gradient as it was given -/

/-- Where point `t`'s block lies. -/
theorem place7 : ∀ t : Fin cfg0.N, win0_7.index t 0 * win0_7.size 0 = t.val / 2 ∧ win0_7.xsize (grid0.coords t) 0 = 1
    ∧ win0_7.index t 1 * win0_7.size 1 = t.val % 2 * 512 ∧ win0_7.xsize (grid0.coords t) 1 = 512
    ∧ win0_7.index t 2 * win0_7.size 2 = 0 ∧ win0_7.xsize (grid0.coords t) 2 = 768 :=
  (by decide +kernel : ∀ t : Fin grid0.N, _)
/-- Every index lies in some point's block. -/
theorem cover7 (i : S2x1024x768.Idx) : ∃ t : Fin cfg0.N, (cfg0.win 7).flush t = true ∧ i ∈ ((cfg0.win 7).blk t).view.set := by
  have h0 : (i 0 : Nat) < 2 := (i 0).isLt
  have h1 : (i 1 : Nat) < 1024 := (i 1).isLt
  have h2 : (i 2 : Nat) < 768 := (i 2).isLt
  refine ⟨pointOf (i 0) (i 1) h0 h1, flush0_7 _, ?_⟩
  show i ∈ ((View.whole main_v0_3).slice (win0_7.rect (pointOf (i 0) (i 1) h0 h1))).set
  rw [View.set_slice_whole, Rect.mem_set_unit]
  obtain ⟨e0, s0, e1, s1, e2, s2⟩ := place7 (pointOf (i 0) (i 1) h0 h1)
  have hv : (pointOf (i 0) (i 1) h0 h1).val = (i 0 : Nat) * 2 + (i 1 : Nat) / 512 := rfl
  rw [hv] at e0 e1
  generalize pointOf (i 0) (i 1) h0 h1 = t at *
  intro a
  match a with
  | ⟨0, _⟩ => show win0_7.index t 0 * win0_7.size 0 ≤ (i 0 : Nat) ∧ (i 0 : Nat) < win0_7.index t 0 * win0_7.size 0 + win0_7.xsize (grid0.coords t) 0
              rw [e0, s0]; omega
  | ⟨1, _⟩ => show win0_7.index t 1 * win0_7.size 1 ≤ (i 1 : Nat) ∧ (i 1 : Nat) < win0_7.index t 1 * win0_7.size 1 + win0_7.xsize (grid0.coords t) 1
              rw [e1, s1]; omega
  | ⟨2, _⟩ => show win0_7.index t 2 * win0_7.size 2 ≤ (i 2 : Nat) ∧ (i 2 : Nat) < win0_7.index t 2 * win0_7.size 2 + win0_7.xsize (grid0.coords t) 2
              rw [e2, s2]; omega
/-- What point `t` writes back is its block of the whole-array function. -/
theorem written7 (c : Dev nD) (t : Fin cfg0.N) :
    (dats m 0 c).flushed 7 t = (win0_7.blk t).view.read (Elt F) (m ((c : Thread nD τ).loc main_arg1)) := by
  show (cfg0.win 7).cut (grid0.coords t) ((dats m 0 c).after 7 t) = _
  rw [after0_7]
  unfold out0_7
  rw [View.canon_unit_zero origin]
  simp only [load]
  rfl
/-- The array after the run. -/
theorem final7 (c : Dev nD) : (dats m 0 c).arrAt 7 cfg0.N = m ((c : Thread nD τ).loc main_arg1) :=
  (dats m 0 c).arrAt_eq_of_cover 7 _ (fun t _ => written7 m c t) cover7

end Cert.Optim8

namespace Cert.Optim8

/-- The optimiser's call and the plain step end with equal results. -/
theorem algebraic : Cert.algebraic_Kernel8Ideal_Reference8Ideal := by
  intro m ρ m' ρ' _ hagree
  refine ⟨_, _, _, _, (θ_run Cert.Kernel8Ideal.defs _ _).mono (fun _ h c => ⟨(h c).1.trans (final4 m c), (h c).2.1.trans (final5 m c),
    (h c).2.2.1.trans (final6 m c), (h c).2.2.2.1.trans (final7 m c), (h c).2.2.2.2⟩) (Cert.Kernel8Ideal.Value.run_blocks (F := Ideal) m ρ), ?_⟩
  refine (θ_run Cert.Reference8Ideal.defs _ _).mono (fun _ h c => ⟨(h c).1.trans ?_, (h c).2.1.trans ?_, (h c).2.2.1.trans ?_,
    (h c).2.2.2.1.trans (hagree c).2.1, (h c).2.2.2.2⟩) (Cert.Reference8Ideal.Value.run (F := Ideal) m' ρ')
  · rw [(hagree c).1, (hagree c).2.1, (hagree c).2.2.1, (hagree c).2.2.2]; rfl
  · rw [(hagree c).2.1, (hagree c).2.2.1]; rfl
  · rw [(hagree c).2.1, (hagree c).2.2.2]; rfl

end Cert.Optim8

end
-- ==== Proof.Optim9.lean ====
module

public import proofs.«01_k».proof.Defs
public import proofs.«01_k».proof.Proof.Gen.Kernel9Ideal.Value
public import proofs.«01_k».proof.Proof.Gen.Reference9Ideal.Run

/-!
The optimiser's call on arrays of 384 by 1024: each of its four results is one function of the argument arrays, index by
index, and that function is the plain optimiser step.
-/

@[expose] public section

noncomputable section

open Idealize.ShloMosaic Idealize.ShloMosaic.TcCoe Idealize.SL.Sem

namespace Cert.Optim9

open Cert.Kernel9Ideal Cert.Kernel9Ideal.Gen

variable {F : FTy → Type} [FloatOps F]
variable (m : (ℓ : Loc nD τ sig) → Buf (Elt F) ℓ) (ρ : Dev nD → PrngReg)

/-- The new first moment. -/
def moment1 (g mo : Vec F S2x384x1024 .f32) : Vec F S2x384x1024 .f32 :=
  addf (mulf (broadcast S2x384x1024 (Scalar.ofBits .f32 0x3F666666#32)) mo) (mulf (broadcast S2x384x1024 (Scalar.ofBits .f32 0x3DCCCCCD#32)) g)
/-- The new second moment. -/
def moment2 (g ve : Vec F S2x384x1024 .f32) : Vec F S2x384x1024 .f32 :=
  addf (mulf (broadcast S2x384x1024 (Scalar.ofBits .f32 0x3F7FBE77#32)) ve) (mulf (broadcast S2x384x1024 (Scalar.ofBits .f32 0x3A83126F#32)) (mulf g g))
/-- The change of the weights. -/
def change (w g mo ve : Vec F S2x384x1024 .f32) : Vec F S2x384x1024 .f32 :=
  mulf (broadcast S2x384x1024 (Scalar.ofBits .f32 0xBA83126F#32))
    (addf (divf (divf (moment1 g mo) (broadcast S2x384x1024 (Scalar.ofBits .f32 0x3F26BD02#32)))
        (addf (sqrt (divf (moment2 g ve) (broadcast S2x384x1024 (Scalar.ofBits .f32 0x3C231ACC#32)))) (broadcast S2x384x1024 (Scalar.ofBits .f32 0x322BCC77#32))))
      (mulf (broadcast S2x384x1024 (Scalar.ofBits .f32 0x3C23D70A#32)) w))

theorem origin : (![0, 0, 0] : Fin 3 → Nat) = fun _ => 0 := funext fun a => by fin_cases a <;> rfl

theorem load (X : Vec F S1x384x1024 .f32) : View.ld X r0_0 = X := View.ld_unit_zero origin _ X

/-- The point whose block holds row `r` of layer `l`. -/
def pointOf (l r : ℕ) (hl : l < 2) (hr : r < 384) : Fin cfg0.N := ⟨l * 1 + r / 384, by have : cfg0.N = 2 := rfl; omega⟩

/-! ## Result 1: the step -/

/-- Where point `t`'s block lies. -/
theorem place4 : ∀ t : Fin cfg0.N, win0_4.index t 0 * win0_4.size 0 = t.val / 1 ∧ win0_4.xsize (grid0.coords t) 0 = 1
    ∧ win0_4.index t 1 * win0_4.size 1 = t.val % 1 * 384 ∧ win0_4.xsize (grid0.coords t) 1 = 384
    ∧ win0_4.index t 2 * win0_4.size 2 = 0 ∧ win0_4.xsize (grid0.coords t) 2 = 1024 :=
  (by decide +kernel : ∀ t : Fin grid0.N, _)
/-- Every index lies in some point's block. -/
theorem cover4 (i : S2x384x1024.Idx) : ∃ t : Fin cfg0.N, (cfg0.win 4).flush t = true ∧ i ∈ ((cfg0.win 4).blk t).view.set := by
  have h0 : (i 0 : Nat) < 2 := (i 0).isLt
  have h1 : (i 1 : Nat) < 384 := (i 1).isLt
  have h2 : (i 2 : Nat) < 1024 := (i 2).isLt
  refine ⟨pointOf (i 0) (i 1) h0 h1, flush0_4 _, ?_⟩
  show i ∈ ((View.whole main_v0_0).slice (win0_4.rect (pointOf (i 0) (i 1) h0 h1))).set
  rw [View.set_slice_whole, Rect.mem_set_unit]
  obtain ⟨e0, s0, e1, s1, e2, s2⟩ := place4 (pointOf (i 0) (i 1) h0 h1)
  have hv : (pointOf (i 0) (i 1) h0 h1).val = (i 0 : Nat) * 1 + (i 1 : Nat) / 384 := rfl
  rw [hv] at e0 e1
  generalize pointOf (i 0) (i 1) h0 h1 = t at *
  intro a
  match a with
  | ⟨0, _⟩ => show win0_4.index t 0 * win0_4.size 0 ≤ (i 0 : Nat) ∧ (i 0 : Nat) < win0_4.index t 0 * win0_4.size 0 + win0_4.xsize (grid0.coords t) 0
              rw [e0, s0]; omega
  | ⟨1, _⟩ => show win0_4.index t 1 * win0_4.size 1 ≤ (i 1 : Nat) ∧ (i 1 : Nat) < win0_4.index t 1 * win0_4.size 1 + win0_4.xsize (grid0.coords t) 1
              rw [e1, s1]; omega
  | ⟨2, _⟩ => show win0_4.index t 2 * win0_4.size 2 ≤ (i 2 : Nat) ∧ (i 2 : Nat) < win0_4.index t 2 * win0_4.size 2 + win0_4.xsize (grid0.coords t) 2
              rw [e2, s2]; omega
/-- What point `t` writes back is its block of the whole-array function. -/
theorem written4 (c : Dev nD) (t : Fin cfg0.N) :
    (dats m 0 c).flushed 4 t = (win0_4.blk t).view.read (Elt F) (change (m ((c : Thread nD τ).loc main_arg0)) (m ((c : Thread nD τ).loc main_arg1)) (m ((c : Thread nD τ).loc main_arg2)) (m ((c : Thread nD τ).loc main_arg3))) := by
  show (cfg0.win 4).cut (grid0.coords t) ((dats m 0 c).after 4 t) = _
  rw [after0_4]
  unfold out0_4
  rw [View.canon_unit_zero origin]
  simp only [load]
  rfl
/-- The array after the run. -/
theorem final4 (c : Dev nD) : (dats m 0 c).arrAt 4 cfg0.N = change (m ((c : Thread nD τ).loc main_arg0)) (m ((c : Thread nD τ).loc main_arg1)) (m ((c : Thread nD τ).loc main_arg2)) (m ((c : Thread nD τ).loc main_arg3)) :=
  (dats m 0 c).arrAt_eq_of_cover 4 _ (fun t _ => written4 m c t) cover4

/-! ## Result 2: the first moment -/

/-- Where point `t`'s block lies. -/
theorem place5 : ∀ t : Fin cfg0.N, win0_5.index t 0 * win0_5.size 0 = t.val / 1 ∧ win0_5.xsize (grid0.coords t) 0 = 1
    ∧ win0_5.index t 1 * win0_5.size 1 = t.val % 1 * 384 ∧ win0_5.xsize (grid0.coords t) 1 = 384
    ∧ win0_5.index t 2 * win0_5.size 2 = 0 ∧ win0_5.xsize (grid0.coords t) 2 = 1024 :=
  (by decide +kernel : ∀ t : Fin grid0.N, _)
/-- Every index lies in some point's block. -/
theorem cover5 (i : S2x384x1024.Idx) : ∃ t : Fin cfg0.N, (cfg0.win 5).flush t = true ∧ i ∈ ((cfg0.win 5).blk t).view.set := by
  have h0 : (i 0 : Nat) < 2 := (i 0).isLt
  have h1 : (i 1 : Nat) < 384 := (i 1).isLt
  have h2 : (i 2 : Nat) < 1024 := (i 2).isLt
  refine ⟨pointOf (i 0) (i 1) h0 h1, flush0_5 _, ?_⟩
  show i ∈ ((View.whole main_v0_1).slice (win0_5.rect (pointOf (i 0) (i 1) h0 h1))).set
  rw [View.set_slice_whole, Rect.mem_set_unit]
  obtain ⟨e0, s0, e1, s1, e2, s2⟩ := place5 (pointOf (i 0) (i 1) h0 h1)
  have hv : (pointOf (i 0) (i 1) h0 h1).val = (i 0 : Nat) * 1 + (i 1 : Nat) / 384 := rfl
  rw [hv] at e0 e1
  generalize pointOf (i 0) (i 1) h0 h1 = t at *
  intro a
  match a with
  | ⟨0, _⟩ => show win0_5.index t 0 * win0_5.size 0 ≤ (i 0 : Nat) ∧ (i 0 : Nat) < win0_5.index t 0 * win0_5.size 0 + win0_5.xsize (grid0.coords t) 0
              rw [e0, s0]; omega
  | ⟨1, _⟩ => show win0_5.index t 1 * win0_5.size 1 ≤ (i 1 : Nat) ∧ (i 1 : Nat) < win0_5.index t 1 * win0_5.size 1 + win0_5.xsize (grid0.coords t) 1
              rw [e1, s1]; omega
  | ⟨2, _⟩ => show win0_5.index t 2 * win0_5.size 2 ≤ (i 2 : Nat) ∧ (i 2 : Nat) < win0_5.index t 2 * win0_5.size 2 + win0_5.xsize (grid0.coords t) 2
              rw [e2, s2]; omega
/-- What point `t` writes back is its block of the whole-array function. -/
theorem written5 (c : Dev nD) (t : Fin cfg0.N) :
    (dats m 0 c).flushed 5 t = (win0_5.blk t).view.read (Elt F) (moment1 (m ((c : Thread nD τ).loc main_arg1)) (m ((c : Thread nD τ).loc main_arg2))) := by
  show (cfg0.win 5).cut (grid0.coords t) ((dats m 0 c).after 5 t) = _
  rw [after0_5]
  unfold out0_5
  rw [View.canon_unit_zero origin]
  simp only [load]
  rfl
/-- The array after the run. -/
theorem final5 (c : Dev nD) : (dats m 0 c).arrAt 5 cfg0.N = moment1 (m ((c : Thread nD τ).loc main_arg1)) (m ((c : Thread nD τ).loc main_arg2)) :=
  (dats m 0 c).arrAt_eq_of_cover 5 _ (fun t _ => written5 m c t) cover5

/-! ## Result 3: the second moment -/

/-- Where point `t`'s block lies. -/
theorem place6 : ∀ t : Fin cfg0.N, win0_6.index t 0 * win0_6.size 0 = t.val / 1 ∧ win0_6.xsize (grid0.coords t) 0 = 1
    ∧ win0_6.index t 1 * win0_6.size 1 = t.val % 1 * 384 ∧ win0_6.xsize (grid0.coords t) 1 = 384
    ∧ win0_6.index t 2 * win0_6.size 2 = 0 ∧ win0_6.xsize (grid0.coords t) 2 = 1024 :=
  (by decide +kernel : ∀ t : Fin grid0.N, _)
/-- Every index lies in some point's block. -/
theorem cover6 (i : S2x384x1024.Idx) : ∃ t : Fin cfg0.N, (cfg0.win 6).flush t = true ∧ i ∈ ((cfg0.win 6).blk t).view.set := by
  have h0 : (i 0 : Nat) < 2 := (i 0).isLt
  have h1 : (i 1 : Nat) < 384 := (i 1).isLt
  have h2 : (i 2 : Nat) < 1024 := (i 2).isLt
  refine ⟨pointOf (i 0) (i 1) h0 h1, flush0_6 _, ?_⟩
  show i ∈ ((View.whole main_v0_2).slice (win0_6.rect (pointOf (i 0) (i 1) h0 h1))).set
  rw [View.set_slice_whole, Rect.mem_set_unit]
  obtain ⟨e0, s0, e1, s1, e2, s2⟩ := place6 (pointOf (i 0) (i 1) h0 h1)
  have hv : (pointOf (i 0) (i 1) h0 h1).val = (i 0 : Nat) * 1 + (i 1 : Nat) / 384 := rfl
  rw [hv] at e0 e1
  generalize pointOf (i 0) (i 1) h0 h1 = t at *
  intro a
  match a with
  | ⟨0, _⟩ => show win0_6.index t 0 * win0_6.size 0 ≤ (i 0 : Nat) ∧ (i 0 : Nat) < win0_6.index t 0 * win0_6.size 0 + win0_6.xsize (grid0.coords t) 0
              rw [e0, s0]; omega
  | ⟨1, _⟩ => show win0_6.index t 1 * win0_6.size 1 ≤ (i 1 : Nat) ∧ (i 1 : Nat) < win0_6.index t 1 * win0_6.size 1 + win0_6.xsize (grid0.coords t) 1
              rw [e1, s1]; omega
  | ⟨2, _⟩ => show win0_6.index t 2 * win0_6.size 2 ≤ (i 2 : Nat) ∧ (i 2 : Nat) < win0_6.index t 2 * win0_6.size 2 + win0_6.xsize (grid0.coords t) 2
              rw [e2, s2]; omega
/-- What point `t` writes back is its block of the whole-array function. -/
theorem written6 (c : Dev nD) (t : Fin cfg0.N) :
    (dats m 0 c).flushed 6 t = (win0_6.blk t).view.read (Elt F) (moment2 (m ((c : Thread nD τ).loc main_arg1)) (m ((c : Thread nD τ).loc main_arg3))) := by
  show (cfg0.win 6).cut (grid0.coords t) ((dats m 0 c).after 6 t) = _
  rw [after0_6]
  unfold out0_6
  rw [View.canon_unit_zero origin]
  simp only [load]
  rfl
/-- The array after the run. -/
theorem final6 (c : Dev nD) : (dats m 0 c).arrAt 6 cfg0.N = moment2 (m ((c : Thread nD τ).loc main_arg1)) (m ((c : Thread nD τ).loc main_arg3)) :=
  (dats m 0 c).arrAt_eq_of_cover 6 _ (fun t _ => written6 m c t) cover6

/-! ## Result 4: the gradient as it was given -/

/-- Where point `t`'s block lies. -/
theorem place7 : ∀ t : Fin cfg0.N, win0_7.index t 0 * win0_7.size 0 = t.val / 1 ∧ win0_7.xsize (grid0.coords t) 0 = 1
    ∧ win0_7.index t 1 * win0_7.size 1 = t.val % 1 * 384 ∧ win0_7.xsize (grid0.coords t) 1 = 384
    ∧ win0_7.index t 2 * win0_7.size 2 = 0 ∧ win0_7.xsize (grid0.coords t) 2 = 1024 :=
  (by decide +kernel : ∀ t : Fin grid0.N, _)
/-- Every index lies in some point's block. -/
theorem cover7 (i : S2x384x1024.Idx) : ∃ t : Fin cfg0.N, (cfg0.win 7).flush t = true ∧ i ∈ ((cfg0.win 7).blk t).view.set := by
  have h0 : (i 0 : Nat) < 2 := (i 0).isLt
  have h1 : (i 1 : Nat) < 384 := (i 1).isLt
  have h2 : (i 2 : Nat) < 1024 := (i 2).isLt
  refine ⟨pointOf (i 0) (i 1) h0 h1, flush0_7 _, ?_⟩
  show i ∈ ((View.whole main_v0_3).slice (win0_7.rect (pointOf (i 0) (i 1) h0 h1))).set
  rw [View.set_slice_whole, Rect.mem_set_unit]
  obtain ⟨e0, s0, e1, s1, e2, s2⟩ := place7 (pointOf (i 0) (i 1) h0 h1)
  have hv : (pointOf (i 0) (i 1) h0 h1).val = (i 0 : Nat) * 1 + (i 1 : Nat) / 384 := rfl
  rw [hv] at e0 e1
  generalize pointOf (i 0) (i 1) h0 h1 = t at *
  intro a
  match a with
  | ⟨0, _⟩ => show win0_7.index t 0 * win0_7.size 0 ≤ (i 0 : Nat) ∧ (i 0 : Nat) < win0_7.index t 0 * win0_7.size 0 + win0_7.xsize (grid0.coords t) 0
              rw [e0, s0]; omega
  | ⟨1, _⟩ => show win0_7.index t 1 * win0_7.size 1 ≤ (i 1 : Nat) ∧ (i 1 : Nat) < win0_7.index t 1 * win0_7.size 1 + win0_7.xsize (grid0.coords t) 1
              rw [e1, s1]; omega
  | ⟨2, _⟩ => show win0_7.index t 2 * win0_7.size 2 ≤ (i 2 : Nat) ∧ (i 2 : Nat) < win0_7.index t 2 * win0_7.size 2 + win0_7.xsize (grid0.coords t) 2
              rw [e2, s2]; omega
/-- What point `t` writes back is its block of the whole-array function. -/
theorem written7 (c : Dev nD) (t : Fin cfg0.N) :
    (dats m 0 c).flushed 7 t = (win0_7.blk t).view.read (Elt F) (m ((c : Thread nD τ).loc main_arg1)) := by
  show (cfg0.win 7).cut (grid0.coords t) ((dats m 0 c).after 7 t) = _
  rw [after0_7]
  unfold out0_7
  rw [View.canon_unit_zero origin]
  simp only [load]
  rfl
/-- The array after the run. -/
theorem final7 (c : Dev nD) : (dats m 0 c).arrAt 7 cfg0.N = m ((c : Thread nD τ).loc main_arg1) :=
  (dats m 0 c).arrAt_eq_of_cover 7 _ (fun t _ => written7 m c t) cover7

end Cert.Optim9

namespace Cert.Optim9

/-- The optimiser's call and the plain step end with equal results. -/
theorem algebraic : Cert.algebraic_Kernel9Ideal_Reference9Ideal := by
  intro m ρ m' ρ' _ hagree
  refine ⟨_, _, _, _, (θ_run Cert.Kernel9Ideal.defs _ _).mono (fun _ h c => ⟨(h c).1.trans (final4 m c), (h c).2.1.trans (final5 m c),
    (h c).2.2.1.trans (final6 m c), (h c).2.2.2.1.trans (final7 m c), (h c).2.2.2.2⟩) (Cert.Kernel9Ideal.Value.run_blocks (F := Ideal) m ρ), ?_⟩
  refine (θ_run Cert.Reference9Ideal.defs _ _).mono (fun _ h c => ⟨(h c).1.trans ?_, (h c).2.1.trans ?_, (h c).2.2.1.trans ?_,
    (h c).2.2.2.1.trans (hagree c).2.1, (h c).2.2.2.2⟩) (Cert.Reference9Ideal.Value.run (F := Ideal) m' ρ')
  · rw [(hagree c).1, (hagree c).2.1, (hagree c).2.2.1, (hagree c).2.2.2]; rfl
  · rw [(hagree c).2.1, (hagree c).2.2.1]; rfl
  · rw [(hagree c).2.1, (hagree c).2.2.2]; rfl

end Cert.Optim9

end
-- ==== Proof.Optim10.lean ====
module

public import proofs.«01_k».proof.Defs
public import proofs.«01_k».proof.Proof.Gen.Kernel10Ideal.Value
public import proofs.«01_k».proof.Proof.Gen.Reference10Ideal.Run

/-!
The optimiser's call on arrays of 1536 by 128: each of its four results is one function of the argument arrays, index by
index, and that function is the plain optimiser step.
-/

@[expose] public section

noncomputable section

open Idealize.ShloMosaic Idealize.ShloMosaic.TcCoe Idealize.SL.Sem

namespace Cert.Optim10

open Cert.Kernel10Ideal Cert.Kernel10Ideal.Gen

variable {F : FTy → Type} [FloatOps F]
variable (m : (ℓ : Loc nD τ sig) → Buf (Elt F) ℓ) (ρ : Dev nD → PrngReg)

/-- The new first moment. -/
def moment1 (g mo : Vec F S2x1536x128 .f32) : Vec F S2x1536x128 .f32 :=
  addf (mulf (broadcast S2x1536x128 (Scalar.ofBits .f32 0x3F666666#32)) mo) (mulf (broadcast S2x1536x128 (Scalar.ofBits .f32 0x3DCCCCCD#32)) g)
/-- The new second moment. -/
def moment2 (g ve : Vec F S2x1536x128 .f32) : Vec F S2x1536x128 .f32 :=
  addf (mulf (broadcast S2x1536x128 (Scalar.ofBits .f32 0x3F7FBE77#32)) ve) (mulf (broadcast S2x1536x128 (Scalar.ofBits .f32 0x3A83126F#32)) (mulf g g))
/-- The change of the weights. -/
def change (w g mo ve : Vec F S2x1536x128 .f32) : Vec F S2x1536x128 .f32 :=
  mulf (broadcast S2x1536x128 (Scalar.ofBits .f32 0xBA83126F#32))
    (addf (divf (divf (moment1 g mo) (broadcast S2x1536x128 (Scalar.ofBits .f32 0x3F26BD02#32)))
        (addf (sqrt (divf (moment2 g ve) (broadcast S2x1536x128 (Scalar.ofBits .f32 0x3C231ACC#32)))) (broadcast S2x1536x128 (Scalar.ofBits .f32 0x322BCC77#32))))
      (mulf (broadcast S2x1536x128 (Scalar.ofBits .f32 0x3C23D70A#32)) w))

theorem origin : (![0, 0, 0] : Fin 3 → Nat) = fun _ => 0 := funext fun a => by fin_cases a <;> rfl

theorem load (X : Vec F S1x1536x128 .f32) : View.ld X r0_0 = X := View.ld_unit_zero origin _ X

/-- The point whose block holds row `r` of layer `l`. -/
def pointOf (l r : ℕ) (hl : l < 2) (hr : r < 1536) : Fin cfg0.N := ⟨l * 1 + r / 1536, by have : cfg0.N = 2 := rfl; omega⟩

/-! ## Result 1: the step -/

/-- Where point `t`'s block lies. -/
theorem place4 : ∀ t : Fin cfg0.N, win0_4.index t 0 * win0_4.size 0 = t.val / 1 ∧ win0_4.xsize (grid0.coords t) 0 = 1
    ∧ win0_4.index t 1 * win0_4.size 1 = t.val % 1 * 1536 ∧ win0_4.xsize (grid0.coords t) 1 = 1536
    ∧ win0_4.index t 2 * win0_4.size 2 = 0 ∧ win0_4.xsize (grid0.coords t) 2 = 128 :=
  (by decide +kernel : ∀ t : Fin grid0.N, _)
/-- Every index lies in some point's block. -/
theorem cover4 (i : S2x1536x128.Idx) : ∃ t : Fin cfg0.N, (cfg0.win 4).flush t = true ∧ i ∈ ((cfg0.win 4).blk t).view.set := by
  have h0 : (i 0 : Nat) < 2 := (i 0).isLt
  have h1 : (i 1 : Nat) < 1536 := (i 1).isLt
  have h2 : (i 2 : Nat) < 128 := (i 2).isLt
  refine ⟨pointOf (i 0) (i 1) h0 h1, flush0_4 _, ?_⟩
  show i ∈ ((View.whole main_v0_0).slice (win0_4.rect (pointOf (i 0) (i 1) h0 h1))).set
  rw [View.set_slice_whole, Rect.mem_set_unit]
  obtain ⟨e0, s0, e1, s1, e2, s2⟩ := place4 (pointOf (i 0) (i 1) h0 h1)
  have hv : (pointOf (i 0) (i 1) h0 h1).val = (i 0 : Nat) * 1 + (i 1 : Nat) / 1536 := rfl
  rw [hv] at e0 e1
  generalize pointOf (i 0) (i 1) h0 h1 = t at *
  intro a
  match a with
  | ⟨0, _⟩ => show win0_4.index t 0 * win0_4.size 0 ≤ (i 0 : Nat) ∧ (i 0 : Nat) < win0_4.index t 0 * win0_4.size 0 + win0_4.xsize (grid0.coords t) 0
              rw [e0, s0]; omega
  | ⟨1, _⟩ => show win0_4.index t 1 * win0_4.size 1 ≤ (i 1 : Nat) ∧ (i 1 : Nat) < win0_4.index t 1 * win0_4.size 1 + win0_4.xsize (grid0.coords t) 1
              rw [e1, s1]; omega
  | ⟨2, _⟩ => show win0_4.index t 2 * win0_4.size 2 ≤ (i 2 : Nat) ∧ (i 2 : Nat) < win0_4.index t 2 * win0_4.size 2 + win0_4.xsize (grid0.coords t) 2
              rw [e2, s2]; omega
/-- What point `t` writes back is its block of the whole-array function. -/
theorem written4 (c : Dev nD) (t : Fin cfg0.N) :
    (dats m 0 c).flushed 4 t = (win0_4.blk t).view.read (Elt F) (change (m ((c : Thread nD τ).loc main_arg0)) (m ((c : Thread nD τ).loc main_arg1)) (m ((c : Thread nD τ).loc main_arg2)) (m ((c : Thread nD τ).loc main_arg3))) := by
  show (cfg0.win 4).cut (grid0.coords t) ((dats m 0 c).after 4 t) = _
  rw [after0_4]
  unfold out0_4
  rw [View.canon_unit_zero origin]
  simp only [load]
  rfl
/-- The array after the run. -/
theorem final4 (c : Dev nD) : (dats m 0 c).arrAt 4 cfg0.N = change (m ((c : Thread nD τ).loc main_arg0)) (m ((c : Thread nD τ).loc main_arg1)) (m ((c : Thread nD τ).loc main_arg2)) (m ((c : Thread nD τ).loc main_arg3)) :=
  (dats m 0 c).arrAt_eq_of_cover 4 _ (fun t _ => written4 m c t) cover4

/-! ## Result 2: the first moment -/

/-- Where point `t`'s block lies. -/
theorem place5 : ∀ t : Fin cfg0.N, win0_5.index t 0 * win0_5.size 0 = t.val / 1 ∧ win0_5.xsize (grid0.coords t) 0 = 1
    ∧ win0_5.index t 1 * win0_5.size 1 = t.val % 1 * 1536 ∧ win0_5.xsize (grid0.coords t) 1 = 1536
    ∧ win0_5.index t 2 * win0_5.size 2 = 0 ∧ win0_5.xsize (grid0.coords t) 2 = 128 :=
  (by decide +kernel : ∀ t : Fin grid0.N, _)
/-- Every index lies in some point's block. -/
theorem cover5 (i : S2x1536x128.Idx) : ∃ t : Fin cfg0.N, (cfg0.win 5).flush t = true ∧ i ∈ ((cfg0.win 5).blk t).view.set := by
  have h0 : (i 0 : Nat) < 2 := (i 0).isLt
  have h1 : (i 1 : Nat) < 1536 := (i 1).isLt
  have h2 : (i 2 : Nat) < 128 := (i 2).isLt
  refine ⟨pointOf (i 0) (i 1) h0 h1, flush0_5 _, ?_⟩
  show i ∈ ((View.whole main_v0_1).slice (win0_5.rect (pointOf (i 0) (i 1) h0 h1))).set
  rw [View.set_slice_whole, Rect.mem_set_unit]
  obtain ⟨e0, s0, e1, s1, e2, s2⟩ := place5 (pointOf (i 0) (i 1) h0 h1)
  have hv : (pointOf (i 0) (i 1) h0 h1).val = (i 0 : Nat) * 1 + (i 1 : Nat) / 1536 := rfl
  rw [hv] at e0 e1
  generalize pointOf (i 0) (i 1) h0 h1 = t at *
  intro a
  match a with
  | ⟨0, _⟩ => show win0_5.index t 0 * win0_5.size 0 ≤ (i 0 : Nat) ∧ (i 0 : Nat) < win0_5.index t 0 * win0_5.size 0 + win0_5.xsize (grid0.coords t) 0
              rw [e0, s0]; omega
  | ⟨1, _⟩ => show win0_5.index t 1 * win0_5.size 1 ≤ (i 1 : Nat) ∧ (i 1 : Nat) < win0_5.index t 1 * win0_5.size 1 + win0_5.xsize (grid0.coords t) 1
              rw [e1, s1]; omega
  | ⟨2, _⟩ => show win0_5.index t 2 * win0_5.size 2 ≤ (i 2 : Nat) ∧ (i 2 : Nat) < win0_5.index t 2 * win0_5.size 2 + win0_5.xsize (grid0.coords t) 2
              rw [e2, s2]; omega
/-- What point `t` writes back is its block of the whole-array function. -/
theorem written5 (c : Dev nD) (t : Fin cfg0.N) :
    (dats m 0 c).flushed 5 t = (win0_5.blk t).view.read (Elt F) (moment1 (m ((c : Thread nD τ).loc main_arg1)) (m ((c : Thread nD τ).loc main_arg2))) := by
  show (cfg0.win 5).cut (grid0.coords t) ((dats m 0 c).after 5 t) = _
  rw [after0_5]
  unfold out0_5
  rw [View.canon_unit_zero origin]
  simp only [load]
  rfl
/-- The array after the run. -/
theorem final5 (c : Dev nD) : (dats m 0 c).arrAt 5 cfg0.N = moment1 (m ((c : Thread nD τ).loc main_arg1)) (m ((c : Thread nD τ).loc main_arg2)) :=
  (dats m 0 c).arrAt_eq_of_cover 5 _ (fun t _ => written5 m c t) cover5

/-! ## Result 3: the second moment -/

/-- Where point `t`'s block lies. -/
theorem place6 : ∀ t : Fin cfg0.N, win0_6.index t 0 * win0_6.size 0 = t.val / 1 ∧ win0_6.xsize (grid0.coords t) 0 = 1
    ∧ win0_6.index t 1 * win0_6.size 1 = t.val % 1 * 1536 ∧ win0_6.xsize (grid0.coords t) 1 = 1536
    ∧ win0_6.index t 2 * win0_6.size 2 = 0 ∧ win0_6.xsize (grid0.coords t) 2 = 128 :=
  (by decide +kernel : ∀ t : Fin grid0.N, _)
/-- Every index lies in some point's block. -/
theorem cover6 (i : S2x1536x128.Idx) : ∃ t : Fin cfg0.N, (cfg0.win 6).flush t = true ∧ i ∈ ((cfg0.win 6).blk t).view.set := by
  have h0 : (i 0 : Nat) < 2 := (i 0).isLt
  have h1 : (i 1 : Nat) < 1536 := (i 1).isLt
  have h2 : (i 2 : Nat) < 128 := (i 2).isLt
  refine ⟨pointOf (i 0) (i 1) h0 h1, flush0_6 _, ?_⟩
  show i ∈ ((View.whole main_v0_2).slice (win0_6.rect (pointOf (i 0) (i 1) h0 h1))).set
  rw [View.set_slice_whole, Rect.mem_set_unit]
  obtain ⟨e0, s0, e1, s1, e2, s2⟩ := place6 (pointOf (i 0) (i 1) h0 h1)
  have hv : (pointOf (i 0) (i 1) h0 h1).val = (i 0 : Nat) * 1 + (i 1 : Nat) / 1536 := rfl
  rw [hv] at e0 e1
  generalize pointOf (i 0) (i 1) h0 h1 = t at *
  intro a
  match a with
  | ⟨0, _⟩ => show win0_6.index t 0 * win0_6.size 0 ≤ (i 0 : Nat) ∧ (i 0 : Nat) < win0_6.index t 0 * win0_6.size 0 + win0_6.xsize (grid0.coords t) 0
              rw [e0, s0]; omega
  | ⟨1, _⟩ => show win0_6.index t 1 * win0_6.size 1 ≤ (i 1 : Nat) ∧ (i 1 : Nat) < win0_6.index t 1 * win0_6.size 1 + win0_6.xsize (grid0.coords t) 1
              rw [e1, s1]; omega
  | ⟨2, _⟩ => show win0_6.index t 2 * win0_6.size 2 ≤ (i 2 : Nat) ∧ (i 2 : Nat) < win0_6.index t 2 * win0_6.size 2 + win0_6.xsize (grid0.coords t) 2
              rw [e2, s2]; omega
/-- What point `t` writes back is its block of the whole-array function. -/
theorem written6 (c : Dev nD) (t : Fin cfg0.N) :
    (dats m 0 c).flushed 6 t = (win0_6.blk t).view.read (Elt F) (moment2 (m ((c : Thread nD τ).loc main_arg1)) (m ((c : Thread nD τ).loc main_arg3))) := by
  show (cfg0.win 6).cut (grid0.coords t) ((dats m 0 c).after 6 t) = _
  rw [after0_6]
  unfold out0_6
  rw [View.canon_unit_zero origin]
  simp only [load]
  rfl
/-- The array after the run. -/
theorem final6 (c : Dev nD) : (dats m 0 c).arrAt 6 cfg0.N = moment2 (m ((c : Thread nD τ).loc main_arg1)) (m ((c : Thread nD τ).loc main_arg3)) :=
  (dats m 0 c).arrAt_eq_of_cover 6 _ (fun t _ => written6 m c t) cover6

/-! ## Result 4: the gradient as it was given -/

/-- Where point `t`'s block lies. -/
theorem place7 : ∀ t : Fin cfg0.N, win0_7.index t 0 * win0_7.size 0 = t.val / 1 ∧ win0_7.xsize (grid0.coords t) 0 = 1
    ∧ win0_7.index t 1 * win0_7.size 1 = t.val % 1 * 1536 ∧ win0_7.xsize (grid0.coords t) 1 = 1536
    ∧ win0_7.index t 2 * win0_7.size 2 = 0 ∧ win0_7.xsize (grid0.coords t) 2 = 128 :=
  (by decide +kernel : ∀ t : Fin grid0.N, _)
/-- Every index lies in some point's block. -/
theorem cover7 (i : S2x1536x128.Idx) : ∃ t : Fin cfg0.N, (cfg0.win 7).flush t = true ∧ i ∈ ((cfg0.win 7).blk t).view.set := by
  have h0 : (i 0 : Nat) < 2 := (i 0).isLt
  have h1 : (i 1 : Nat) < 1536 := (i 1).isLt
  have h2 : (i 2 : Nat) < 128 := (i 2).isLt
  refine ⟨pointOf (i 0) (i 1) h0 h1, flush0_7 _, ?_⟩
  show i ∈ ((View.whole main_v0_3).slice (win0_7.rect (pointOf (i 0) (i 1) h0 h1))).set
  rw [View.set_slice_whole, Rect.mem_set_unit]
  obtain ⟨e0, s0, e1, s1, e2, s2⟩ := place7 (pointOf (i 0) (i 1) h0 h1)
  have hv : (pointOf (i 0) (i 1) h0 h1).val = (i 0 : Nat) * 1 + (i 1 : Nat) / 1536 := rfl
  rw [hv] at e0 e1
  generalize pointOf (i 0) (i 1) h0 h1 = t at *
  intro a
  match a with
  | ⟨0, _⟩ => show win0_7.index t 0 * win0_7.size 0 ≤ (i 0 : Nat) ∧ (i 0 : Nat) < win0_7.index t 0 * win0_7.size 0 + win0_7.xsize (grid0.coords t) 0
              rw [e0, s0]; omega
  | ⟨1, _⟩ => show win0_7.index t 1 * win0_7.size 1 ≤ (i 1 : Nat) ∧ (i 1 : Nat) < win0_7.index t 1 * win0_7.size 1 + win0_7.xsize (grid0.coords t) 1
              rw [e1, s1]; omega
  | ⟨2, _⟩ => show win0_7.index t 2 * win0_7.size 2 ≤ (i 2 : Nat) ∧ (i 2 : Nat) < win0_7.index t 2 * win0_7.size 2 + win0_7.xsize (grid0.coords t) 2
              rw [e2, s2]; omega
/-- What point `t` writes back is its block of the whole-array function. -/
theorem written7 (c : Dev nD) (t : Fin cfg0.N) :
    (dats m 0 c).flushed 7 t = (win0_7.blk t).view.read (Elt F) (m ((c : Thread nD τ).loc main_arg1)) := by
  show (cfg0.win 7).cut (grid0.coords t) ((dats m 0 c).after 7 t) = _
  rw [after0_7]
  unfold out0_7
  rw [View.canon_unit_zero origin]
  simp only [load]
  rfl
/-- The array after the run. -/
theorem final7 (c : Dev nD) : (dats m 0 c).arrAt 7 cfg0.N = m ((c : Thread nD τ).loc main_arg1) :=
  (dats m 0 c).arrAt_eq_of_cover 7 _ (fun t _ => written7 m c t) cover7

end Cert.Optim10

namespace Cert.Optim10

/-- The optimiser's call and the plain step end with equal results. -/
theorem algebraic : Cert.algebraic_Kernel10Ideal_Reference10Ideal := by
  intro m ρ m' ρ' _ hagree
  refine ⟨_, _, _, _, (θ_run Cert.Kernel10Ideal.defs _ _).mono (fun _ h c => ⟨(h c).1.trans (final4 m c), (h c).2.1.trans (final5 m c),
    (h c).2.2.1.trans (final6 m c), (h c).2.2.2.1.trans (final7 m c), (h c).2.2.2.2⟩) (Cert.Kernel10Ideal.Value.run_blocks (F := Ideal) m ρ), ?_⟩
  refine (θ_run Cert.Reference10Ideal.defs _ _).mono (fun _ h c => ⟨(h c).1.trans ?_, (h c).2.1.trans ?_, (h c).2.2.1.trans ?_,
    (h c).2.2.2.1.trans (hagree c).2.1, (h c).2.2.2.2⟩) (Cert.Reference10Ideal.Value.run (F := Ideal) m' ρ')
  · rw [(hagree c).1, (hagree c).2.1, (hagree c).2.2.1, (hagree c).2.2.2]; rfl
  · rw [(hagree c).2.1, (hagree c).2.2.1]; rfl
  · rw [(hagree c).2.1, (hagree c).2.2.2]; rfl

end Cert.Optim10

end
-- ==== Proof.Optim11.lean ====
module

public import proofs.«01_k».proof.Defs
public import proofs.«01_k».proof.Proof.Gen.Kernel11Ideal.Value
public import proofs.«01_k».proof.Proof.Gen.Reference11Ideal.Run

/-!
The optimiser's call on the small weights, packed into one array of 320 by 128: each of its four results is one function of the argument arrays, index by
index, and that function is the plain optimiser step.
-/

@[expose] public section

noncomputable section

open Idealize.ShloMosaic Idealize.ShloMosaic.TcCoe Idealize.SL.Sem

namespace Cert.Optim11

open Cert.Kernel11Ideal Cert.Kernel11Ideal.Gen

variable {F : FTy → Type} [FloatOps F]
variable (m : (ℓ : Loc nD τ sig) → Buf (Elt F) ℓ) (ρ : Dev nD → PrngReg)

/-- The new first moment. -/
def moment1 (g mo : Vec F S1x320x128 .f32) : Vec F S1x320x128 .f32 :=
  addf (mulf (broadcast S1x320x128 (Scalar.ofBits .f32 0x3F666666#32)) mo) (mulf (broadcast S1x320x128 (Scalar.ofBits .f32 0x3DCCCCCD#32)) g)
/-- The new second moment. -/
def moment2 (g ve : Vec F S1x320x128 .f32) : Vec F S1x320x128 .f32 :=
  addf (mulf (broadcast S1x320x128 (Scalar.ofBits .f32 0x3F7FBE77#32)) ve) (mulf (broadcast S1x320x128 (Scalar.ofBits .f32 0x3A83126F#32)) (mulf g g))
/-- The change of the weights. -/
def change (w g mo ve : Vec F S1x320x128 .f32) : Vec F S1x320x128 .f32 :=
  mulf (broadcast S1x320x128 (Scalar.ofBits .f32 0xBA83126F#32))
    (addf (divf (divf (moment1 g mo) (broadcast S1x320x128 (Scalar.ofBits .f32 0x3F26BD02#32)))
        (addf (sqrt (divf (moment2 g ve) (broadcast S1x320x128 (Scalar.ofBits .f32 0x3C231ACC#32)))) (broadcast S1x320x128 (Scalar.ofBits .f32 0x322BCC77#32))))
      (mulf (broadcast S1x320x128 (Scalar.ofBits .f32 0x3C23D70A#32)) w))

theorem origin : (![0, 0, 0] : Fin 3 → Nat) = fun _ => 0 := funext fun a => by fin_cases a <;> rfl

theorem load (X : Vec F S1x320x128 .f32) : View.ld X r0_0 = X := View.ld_unit_zero origin _ X

/-- The one point, whose block is the whole array. -/
def pointOf : Fin cfg0.N := ⟨0, by decide⟩

/-! ## Result 1: the step -/

/-- Where point `t`'s block lies. -/
theorem place4 : ∀ t : Fin cfg0.N, win0_4.index t 0 * win0_4.size 0 = 0 ∧ win0_4.xsize (grid0.coords t) 0 = 1
    ∧ win0_4.index t 1 * win0_4.size 1 = 0 ∧ win0_4.xsize (grid0.coords t) 1 = 320
    ∧ win0_4.index t 2 * win0_4.size 2 = 0 ∧ win0_4.xsize (grid0.coords t) 2 = 128 :=
  (by decide +kernel : ∀ t : Fin grid0.N, _)
/-- Every index lies in some point's block. -/
theorem cover4 (i : S1x320x128.Idx) : ∃ t : Fin cfg0.N, (cfg0.win 4).flush t = true ∧ i ∈ ((cfg0.win 4).blk t).view.set := by
  have h0 : (i 0 : Nat) < 1 := (i 0).isLt
  have h1 : (i 1 : Nat) < 320 := (i 1).isLt
  have h2 : (i 2 : Nat) < 128 := (i 2).isLt
  refine ⟨pointOf, flush0_4 _, ?_⟩
  show i ∈ ((View.whole main_v0_0).slice (win0_4.rect pointOf)).set
  rw [View.set_slice_whole, Rect.mem_set_unit]
  obtain ⟨e0, s0, e1, s1, e2, s2⟩ := place4 pointOf
  generalize pointOf = t at *
  intro a
  match a with
  | ⟨0, _⟩ => show win0_4.index t 0 * win0_4.size 0 ≤ (i 0 : Nat) ∧ (i 0 : Nat) < win0_4.index t 0 * win0_4.size 0 + win0_4.xsize (grid0.coords t) 0
              rw [e0, s0]; omega
  | ⟨1, _⟩ => show win0_4.index t 1 * win0_4.size 1 ≤ (i 1 : Nat) ∧ (i 1 : Nat) < win0_4.index t 1 * win0_4.size 1 + win0_4.xsize (grid0.coords t) 1
              rw [e1, s1]; omega
  | ⟨2, _⟩ => show win0_4.index t 2 * win0_4.size 2 ≤ (i 2 : Nat) ∧ (i 2 : Nat) < win0_4.index t 2 * win0_4.size 2 + win0_4.xsize (grid0.coords t) 2
              rw [e2, s2]; omega
/-- What point `t` writes back is its block of the whole-array function. -/
theorem written4 (c : Dev nD) (t : Fin cfg0.N) :
    (dats m 0 c).flushed 4 t = (win0_4.blk t).view.read (Elt F) (change (m ((c : Thread nD τ).loc main_arg0)) (m ((c : Thread nD τ).loc main_arg1)) (m ((c : Thread nD τ).loc main_arg2)) (m ((c : Thread nD τ).loc main_arg3))) := by
  show (cfg0.win 4).cut (grid0.coords t) ((dats m 0 c).after 4 t) = _
  rw [after0_4]
  unfold out0_4
  rw [View.canon_unit_zero origin]
  simp only [load]
  rfl
/-- The array after the run. -/
theorem final4 (c : Dev nD) : (dats m 0 c).arrAt 4 cfg0.N = change (m ((c : Thread nD τ).loc main_arg0)) (m ((c : Thread nD τ).loc main_arg1)) (m ((c : Thread nD τ).loc main_arg2)) (m ((c : Thread nD τ).loc main_arg3)) :=
  (dats m 0 c).arrAt_eq_of_cover 4 _ (fun t _ => written4 m c t) cover4

/-! ## Result 2: the first moment -/

/-- Where point `t`'s block lies. -/
theorem place5 : ∀ t : Fin cfg0.N, win0_5.index t 0 * win0_5.size 0 = 0 ∧ win0_5.xsize (grid0.coords t) 0 = 1
    ∧ win0_5.index t 1 * win0_5.size 1 = 0 ∧ win0_5.xsize (grid0.coords t) 1 = 320
    ∧ win0_5.index t 2 * win0_5.size 2 = 0 ∧ win0_5.xsize (grid0.coords t) 2 = 128 :=
  (by decide +kernel : ∀ t : Fin grid0.N, _)
/-- Every index lies in some point's block. -/
theorem cover5 (i : S1x320x128.Idx) : ∃ t : Fin cfg0.N, (cfg0.win 5).flush t = true ∧ i ∈ ((cfg0.win 5).blk t).view.set := by
  have h0 : (i 0 : Nat) < 1 := (i 0).isLt
  have h1 : (i 1 : Nat) < 320 := (i 1).isLt
  have h2 : (i 2 : Nat) < 128 := (i 2).isLt
  refine ⟨pointOf, flush0_5 _, ?_⟩
  show i ∈ ((View.whole main_v0_1).slice (win0_5.rect pointOf)).set
  rw [View.set_slice_whole, Rect.mem_set_unit]
  obtain ⟨e0, s0, e1, s1, e2, s2⟩ := place5 pointOf
  generalize pointOf = t at *
  intro a
  match a with
  | ⟨0, _⟩ => show win0_5.index t 0 * win0_5.size 0 ≤ (i 0 : Nat) ∧ (i 0 : Nat) < win0_5.index t 0 * win0_5.size 0 + win0_5.xsize (grid0.coords t) 0
              rw [e0, s0]; omega
  | ⟨1, _⟩ => show win0_5.index t 1 * win0_5.size 1 ≤ (i 1 : Nat) ∧ (i 1 : Nat) < win0_5.index t 1 * win0_5.size 1 + win0_5.xsize (grid0.coords t) 1
              rw [e1, s1]; omega
  | ⟨2, _⟩ => show win0_5.index t 2 * win0_5.size 2 ≤ (i 2 : Nat) ∧ (i 2 : Nat) < win0_5.index t 2 * win0_5.size 2 + win0_5.xsize (grid0.coords t) 2
              rw [e2, s2]; omega
/-- What point `t` writes back is its block of the whole-array function. -/
theorem written5 (c : Dev nD) (t : Fin cfg0.N) :
    (dats m 0 c).flushed 5 t = (win0_5.blk t).view.read (Elt F) (moment1 (m ((c : Thread nD τ).loc main_arg1)) (m ((c : Thread nD τ).loc main_arg2))) := by
  show (cfg0.win 5).cut (grid0.coords t) ((dats m 0 c).after 5 t) = _
  rw [after0_5]
  unfold out0_5
  rw [View.canon_unit_zero origin]
  simp only [load]
  rfl
/-- The array after the run. -/
theorem final5 (c : Dev nD) : (dats m 0 c).arrAt 5 cfg0.N = moment1 (m ((c : Thread nD τ).loc main_arg1)) (m ((c : Thread nD τ).loc main_arg2)) :=
  (dats m 0 c).arrAt_eq_of_cover 5 _ (fun t _ => written5 m c t) cover5

/-! ## Result 3: the second moment -/

/-- Where point `t`'s block lies. -/
theorem place6 : ∀ t : Fin cfg0.N, win0_6.index t 0 * win0_6.size 0 = 0 ∧ win0_6.xsize (grid0.coords t) 0 = 1
    ∧ win0_6.index t 1 * win0_6.size 1 = 0 ∧ win0_6.xsize (grid0.coords t) 1 = 320
    ∧ win0_6.index t 2 * win0_6.size 2 = 0 ∧ win0_6.xsize (grid0.coords t) 2 = 128 :=
  (by decide +kernel : ∀ t : Fin grid0.N, _)
/-- Every index lies in some point's block. -/
theorem cover6 (i : S1x320x128.Idx) : ∃ t : Fin cfg0.N, (cfg0.win 6).flush t = true ∧ i ∈ ((cfg0.win 6).blk t).view.set := by
  have h0 : (i 0 : Nat) < 1 := (i 0).isLt
  have h1 : (i 1 : Nat) < 320 := (i 1).isLt
  have h2 : (i 2 : Nat) < 128 := (i 2).isLt
  refine ⟨pointOf, flush0_6 _, ?_⟩
  show i ∈ ((View.whole main_v0_2).slice (win0_6.rect pointOf)).set
  rw [View.set_slice_whole, Rect.mem_set_unit]
  obtain ⟨e0, s0, e1, s1, e2, s2⟩ := place6 pointOf
  generalize pointOf = t at *
  intro a
  match a with
  | ⟨0, _⟩ => show win0_6.index t 0 * win0_6.size 0 ≤ (i 0 : Nat) ∧ (i 0 : Nat) < win0_6.index t 0 * win0_6.size 0 + win0_6.xsize (grid0.coords t) 0
              rw [e0, s0]; omega
  | ⟨1, _⟩ => show win0_6.index t 1 * win0_6.size 1 ≤ (i 1 : Nat) ∧ (i 1 : Nat) < win0_6.index t 1 * win0_6.size 1 + win0_6.xsize (grid0.coords t) 1
              rw [e1, s1]; omega
  | ⟨2, _⟩ => show win0_6.index t 2 * win0_6.size 2 ≤ (i 2 : Nat) ∧ (i 2 : Nat) < win0_6.index t 2 * win0_6.size 2 + win0_6.xsize (grid0.coords t) 2
              rw [e2, s2]; omega
/-- What point `t` writes back is its block of the whole-array function. -/
theorem written6 (c : Dev nD) (t : Fin cfg0.N) :
    (dats m 0 c).flushed 6 t = (win0_6.blk t).view.read (Elt F) (moment2 (m ((c : Thread nD τ).loc main_arg1)) (m ((c : Thread nD τ).loc main_arg3))) := by
  show (cfg0.win 6).cut (grid0.coords t) ((dats m 0 c).after 6 t) = _
  rw [after0_6]
  unfold out0_6
  rw [View.canon_unit_zero origin]
  simp only [load]
  rfl
/-- The array after the run. -/
theorem final6 (c : Dev nD) : (dats m 0 c).arrAt 6 cfg0.N = moment2 (m ((c : Thread nD τ).loc main_arg1)) (m ((c : Thread nD τ).loc main_arg3)) :=
  (dats m 0 c).arrAt_eq_of_cover 6 _ (fun t _ => written6 m c t) cover6

/-! ## Result 4: the gradient as it was given -/

/-- Where point `t`'s block lies. -/
theorem place7 : ∀ t : Fin cfg0.N, win0_7.index t 0 * win0_7.size 0 = 0 ∧ win0_7.xsize (grid0.coords t) 0 = 1
    ∧ win0_7.index t 1 * win0_7.size 1 = 0 ∧ win0_7.xsize (grid0.coords t) 1 = 320
    ∧ win0_7.index t 2 * win0_7.size 2 = 0 ∧ win0_7.xsize (grid0.coords t) 2 = 128 :=
  (by decide +kernel : ∀ t : Fin grid0.N, _)
/-- Every index lies in some point's block. -/
theorem cover7 (i : S1x320x128.Idx) : ∃ t : Fin cfg0.N, (cfg0.win 7).flush t = true ∧ i ∈ ((cfg0.win 7).blk t).view.set := by
  have h0 : (i 0 : Nat) < 1 := (i 0).isLt
  have h1 : (i 1 : Nat) < 320 := (i 1).isLt
  have h2 : (i 2 : Nat) < 128 := (i 2).isLt
  refine ⟨pointOf, flush0_7 _, ?_⟩
  show i ∈ ((View.whole main_v0_3).slice (win0_7.rect pointOf)).set
  rw [View.set_slice_whole, Rect.mem_set_unit]
  obtain ⟨e0, s0, e1, s1, e2, s2⟩ := place7 pointOf
  generalize pointOf = t at *
  intro a
  match a with
  | ⟨0, _⟩ => show win0_7.index t 0 * win0_7.size 0 ≤ (i 0 : Nat) ∧ (i 0 : Nat) < win0_7.index t 0 * win0_7.size 0 + win0_7.xsize (grid0.coords t) 0
              rw [e0, s0]; omega
  | ⟨1, _⟩ => show win0_7.index t 1 * win0_7.size 1 ≤ (i 1 : Nat) ∧ (i 1 : Nat) < win0_7.index t 1 * win0_7.size 1 + win0_7.xsize (grid0.coords t) 1
              rw [e1, s1]; omega
  | ⟨2, _⟩ => show win0_7.index t 2 * win0_7.size 2 ≤ (i 2 : Nat) ∧ (i 2 : Nat) < win0_7.index t 2 * win0_7.size 2 + win0_7.xsize (grid0.coords t) 2
              rw [e2, s2]; omega
/-- What point `t` writes back is its block of the whole-array function. -/
theorem written7 (c : Dev nD) (t : Fin cfg0.N) :
    (dats m 0 c).flushed 7 t = (win0_7.blk t).view.read (Elt F) (m ((c : Thread nD τ).loc main_arg1)) := by
  show (cfg0.win 7).cut (grid0.coords t) ((dats m 0 c).after 7 t) = _
  rw [after0_7]
  unfold out0_7
  rw [View.canon_unit_zero origin]
  simp only [load]
  rfl
/-- The array after the run. -/
theorem final7 (c : Dev nD) : (dats m 0 c).arrAt 7 cfg0.N = m ((c : Thread nD τ).loc main_arg1) :=
  (dats m 0 c).arrAt_eq_of_cover 7 _ (fun t _ => written7 m c t) cover7

end Cert.Optim11

namespace Cert.Optim11

/-- The optimiser's call and the plain step end with equal results. -/
theorem algebraic : Cert.algebraic_Kernel11Ideal_Reference11Ideal := by
  intro m ρ m' ρ' _ hagree
  refine ⟨_, _, _, _, (θ_run Cert.Kernel11Ideal.defs _ _).mono (fun _ h c => ⟨(h c).1.trans (final4 m c), (h c).2.1.trans (final5 m c),
    (h c).2.2.1.trans (final6 m c), (h c).2.2.2.1.trans (final7 m c), (h c).2.2.2.2⟩) (Cert.Kernel11Ideal.Value.run_blocks (F := Ideal) m ρ), ?_⟩
  refine (θ_run Cert.Reference11Ideal.defs _ _).mono (fun _ h c => ⟨(h c).1.trans ?_, (h c).2.1.trans ?_, (h c).2.2.1.trans ?_,
    (h c).2.2.2.1.trans (hagree c).2.1, (h c).2.2.2.2⟩) (Cert.Reference11Ideal.Value.run (F := Ideal) m' ρ')
  · rw [(hagree c).1, (hagree c).2.1, (hagree c).2.2.1, (hagree c).2.2.2]; rfl
  · rw [(hagree c).2.1, (hagree c).2.2.1]; rfl
  · rw [(hagree c).2.1, (hagree c).2.2.2]; rfl

end Cert.Optim11

end
-- ==== Proof.InRun12.lean ====
/-
The call that normalises a layer's input and multiplies it with the projection's weights: what the body leaves at each point of
its grid, and the run.
-/
module

public import proofs.«01_k».proof.Defs
public import proofs.«01_k».proof.Proof.Gen.Kernel12Ideal.Frame
public import proofs.«01_k».proof.Proof.Gen.Kernel12Ideal.Skeleton
public import Idealize.ShloMosaic.Lib.VecWindow
public import Idealize.ShloMosaic.Lib.WholeRead
public import Idealize.ShloMosaic.Lib.Pipeline.TableIdle
public import Idealize.ShloMosaic.Lib.Claim

@[expose] public section

set_option maxRecDepth 16384

noncomputable section

namespace Cert.Into12

open Cert.Kernel12Ideal Cert.Kernel12Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 1000000 in
/-- The body where it normalises: the normalised block goes to its output and into the carried scratch, and the product is of that
    block. -/
theorem run_first (c : Dev nD) (i : grid0.Coords) (arg2 : Memref sig .tc .vmem S1024x1024 .f32) (harg2 : arg2.IsWhole) (arg3 : Memref sig .tc .vmem S1x1x1024 .f32) (harg3 : arg3.IsWhole) (arg4 : Memref sig .tc .vmem S1x1x1024x1280 .bf16) (harg4 : arg4.IsWhole) (arg5 : Memref sig .tc .vmem S8x128 .f32) (harg5 : arg5.IsWhole) (arg6 : Memref sig .tc .vmem S1024x1280 .f32) (harg6 : arg6.IsWhole) (arg7 : Memref sig .tc .vmem S1024x1024 .bf16) (harg7 : arg7.IsWhole) (arg8 : Memref sig .tc .vmem S2x1024x1024 .bf16) (harg8 : arg8.IsWhole) (hc0 : k0_cond1 i = 1#1)
    (x0 : Vec F S1024x1024 .f32) (x1 : Vec F S1x1x1024 .f32) (x2 : Vec F S1x1x1024x1280 .bf16) (x3 : Vec F S8x128 .f32) (d : Vec F S2x1024x1024 .bf16) :
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ (∃ d, owns (c : Thread nD τ) arg6 fullShare d) ∗ (∃ d, owns (c : Thread nD τ) arg7 fullShare d) ∗ owns (c : Thread nD τ) arg8 fullShare d
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare (k0_pay3 (k0_pay2 x0 x1) x2) ∗ owns (c : Thread nD τ) arg7 fullShare (k0_pay1 x0 x1) ∗ owns (c : Thread nD τ) arg8 fullShare (VecWindow.put d (k0_off1 i) S1x1024x1024.size (k0_pay2 x0 x1))) -∗ K ⟨⟩))
          ⊢ wp frame (wpE (defs₀ (F := F)) Variants.none c none) E (cc0_in_proj_even i arg2 harg2 arg3 harg3 arg4 harg4 arg5 harg5 arg6 harg6 arg7 harg7 arg8 harg8) K := by
  intro E K
  simp only [cc0_in_proj_even_eq_skeleton]; unfold cc0_in_proj_even_skel
  unfold owns
  iintro ⟨⟨%f0, %hf0, H0⟩, ⟨%f1, %hf1, H1⟩, ⟨%f2, %hf2, H2⟩, ⟨%f3, %hf3, H3⟩, ⟨%d4, %f4, -, H4⟩, ⟨%d5, %f5, -, H5⟩, ⟨%fs0, %hs0, HS0⟩, Hk⟩
  subst hf0 hf1 hf2 hf3 hs0
  sl_exec (disch := first | sl_exact hc0)
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists _; isplitr; swap; · iexact H4
    ipureintro
    rw [View.read_writes_full]
    unfold run_first.sl.v4 run_first.sl.HS0_1 View.readCov
    rw [View.readAt_unit _ _ _ rfl (k0_off2_inb i), View.read_writes_cons_put _ _ _ _ _ rfl, View.readAt_full, View.readAt_full, View.readAt_full]
    exact congrArg (k0_pay3 · _) (VecWindow.window_put_same _ _ _ _ _)
  isplitl [H5]
  · iexists _; isplitr; swap; · iexact H5
    ipureintro
    rw [View.read_writes_full, View.readAt_full, View.readAt_full]
  iexists _; isplitr; swap; · iexact HS0
  ipureintro
  unfold run_first.sl.HS0_1
  rw [View.read_writes_cons_put _ _ _ _ _ rfl, View.readAt_full, View.readAt_full]
  rfl

set_option maxHeartbeats 1000000 in
/-- The body elsewhere: the product is of the block held in the scratch, and the other output is left as it was. -/
theorem run_later (c : Dev nD) (i : grid0.Coords) (arg2 : Memref sig .tc .vmem S1024x1024 .f32) (harg2 : arg2.IsWhole) (arg3 : Memref sig .tc .vmem S1x1x1024 .f32) (harg3 : arg3.IsWhole) (arg4 : Memref sig .tc .vmem S1x1x1024x1280 .bf16) (harg4 : arg4.IsWhole) (arg5 : Memref sig .tc .vmem S8x128 .f32) (harg5 : arg5.IsWhole) (arg6 : Memref sig .tc .vmem S1024x1280 .f32) (harg6 : arg6.IsWhole) (arg7 : Memref sig .tc .vmem S1024x1024 .bf16) (harg7 : arg7.IsWhole) (arg8 : Memref sig .tc .vmem S2x1024x1024 .bf16) (harg8 : arg8.IsWhole) (hc0 : ¬ k0_cond1 i = 1#1)
    (x0 : Vec F S1024x1024 .f32) (x1 : Vec F S1x1x1024 .f32) (x2 : Vec F S1x1x1024x1280 .bf16) (x3 : Vec F S8x128 .f32) (y : Vec F S1024x1024 .bf16) (d : Vec F S2x1024x1024 .bf16) :
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ (∃ d, owns (c : Thread nD τ) arg6 fullShare d) ∗ owns (c : Thread nD τ) arg7 fullShare y ∗ owns (c : Thread nD τ) arg8 fullShare d
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare (k0_pay3 (VecWindow.window d (k0_off2 i) S1x1024x1024.size (k0_off2_inb i)) x2) ∗ owns (c : Thread nD τ) arg7 fullShare y ∗ owns (c : Thread nD τ) arg8 fullShare d) -∗ K ⟨⟩))
          ⊢ wp frame (wpE (defs₀ (F := F)) Variants.none c none) E (cc0_in_proj_even i arg2 harg2 arg3 harg3 arg4 harg4 arg5 harg5 arg6 harg6 arg7 harg7 arg8 harg8) K := by
  intro E K
  simp only [cc0_in_proj_even_eq_skeleton]; unfold cc0_in_proj_even_skel
  unfold owns
  iintro ⟨⟨%f0, %hf0, H0⟩, ⟨%f1, %hf1, H1⟩, ⟨%f2, %hf2, H2⟩, ⟨%f3, %hf3, H3⟩, ⟨%d4, %f4, -, H4⟩, ⟨%f5, %hf5, H5⟩, ⟨%fs0, %hs0, HS0⟩, Hk⟩
  subst hf0 hf1 hf2 hf3 hf5 hs0
  sl_exec (disch := first | sl_exact hc0)
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists _; isplitr; swap; · iexact H4
    ipureintro
    rw [View.read_writes_full, View.readAt_full]
    rfl
  isplitl [H5]
  · iexists f5; isplitr; · ipureintro; rfl
    iexact H5
  iexists fs0; isplitr; · ipureintro; rfl
  iexact HS0

/-! ## The points -/

/-- The body normalises at the first two points: one for each of the two blocks of rows. -/
theorem normalises : ∀ t : Fin cfg0.N, k0_cond1 (grid0.coords t) = 1#1 ↔ t.val < 2 :=
  (fun t => by
    have ht : t.val < 8 := Nat.lt_of_lt_of_eq t.isLt N_0
    have e0 : (grid0.coords t 0).val = t.val / 2 % 4 := Pipeline.Grid.coords_val t 0 (by decide) rfl
    have e1 : (grid0.coords t 1).val = t.val / 1 % 2 := Pipeline.Grid.coords_val t 1 (by decide) rfl
    simp only [k0_cond1, e0, e1]
    word_cmp
   : ∀ t : Fin grid0.N, k0_cond1 (grid0.coords t) = 1#1 ↔ t.val < 2)

/-- The point that normalised the block of rows of point `t`. -/
def source (t : Fin cfg0.N) : Fin cfg0.N := ⟨t.val % 2, Nat.lt_of_lt_of_eq (Nat.lt_of_lt_of_le (Nat.mod_lt _ (by decide)) (by decide : 2 ≤ 8)) N_0.symm⟩
/-- The last point up to `t` that normalised. -/
def latest (t : Fin cfg0.N) : Fin cfg0.N := ⟨min t.val 1, Nat.lt_of_le_of_lt (Nat.min_le_left _ _) t.isLt⟩

theorem source_of_lt (t : Fin cfg0.N) (h : t.val < 2) : source t = t := Fin.ext (Nat.mod_eq_of_lt h)
theorem latest_of_lt (t : Fin cfg0.N) (h : t.val < 2) : latest t = t := Fin.ext (Nat.min_eq_left (Nat.le_of_lt_succ h))

theorem slot_source : ∀ t : Fin cfg0.N, k0_off2 (grid0.coords t) = k0_off1 (grid0.coords (source t)) :=
  (by decide +kernel : ∀ t : Fin grid0.N, k0_off2 (grid0.coords t) = k0_off1 (grid0.coords (source t)))
theorem slot_apart : ∀ s t : Fin cfg0.N, s.val < t.val → t.val < 2 →
    k0_off1 (grid0.coords s) 0 + 1 ≤ k0_off1 (grid0.coords t) 0 :=
  (by decide +kernel : ∀ s t : Fin grid0.N, s.val < t.val → t.val < 2 → k0_off1 (grid0.coords s) 0 + 1 ≤ k0_off1 (grid0.coords t) 0)
theorem slot_inside : ∀ s : Fin cfg0.N, ∀ a, k0_off1 (grid0.coords s) a + S1x1024x1024.size a ≤ S2x1024x1024.size a :=
  (by decide +kernel : ∀ s : Fin grid0.N, ∀ a, k0_off1 (grid0.coords s) a + S1x1024x1024.size a ≤ S2x1024x1024.size a)

theorem stored5 : ∀ t : Fin cfg0.N, 2 ≤ t.val → cfg0.fresh 5 t.val = false :=
  (by decide +kernel : ∀ t : Fin grid0.N, 2 ≤ t.val → cfg0.fresh 5 t.val = false)
theorem idle5 (t : Fin cfg0.N) : cfg0.idle 5 (grid0.coords t) = !decide (t.val < 2) := by
  show (!(k0_cond1 (grid0.coords t) == 1#1)) = _
  by_cases h : t.val < 2
  · rw [(normalises t).mpr h, decide_eq_true h]; rfl
  · rw [decide_eq_false h, beq_eq_false_iff_ne.mpr fun e => h ((normalises t).mp e)]

/-! ## The proof data -/

/-- The normalised block of rows that point `s` puts into the scratch. -/
def block (c : Dev nD) (s : Fin cfg0.N) : Vec F S1x1024x1024 .bf16 := k0_pay2 (iblk m c 0 s) (iblk m c 1 s)

/-- What the scratch holds before point `n`: the blocks of the points before it that normalised. -/
def held (c : Dev nD) (n : ℕ) (d : Vec F S2x1024x1024 .bf16) : Prop :=
  ∀ s : Fin cfg0.N, s.val < n → s.val < 2 → VecWindow.window d (k0_off1 (grid0.coords s)) S1x1024x1024.size (slot_inside s) = block m c s

theorem held_put (c : Dev nD) (t : Fin cfg0.N) (ht : t.val < 2) (d : Vec F S2x1024x1024 .bf16) (h : held m c t.val d) :
    held m c (t.val + 1) (VecWindow.put d (k0_off1 (grid0.coords t)) S1x1024x1024.size (block m c t)) := fun s hs h2 => by
  by_cases e : s = t
  · subst e; exact VecWindow.window_put_same _ _ _ _ _
  · have hlt : s.val < t.val := by have : s.val ≠ t.val := fun h => e (Fin.ext h); omega
    refine (VecWindow.window_put_of_disjoint _ _ _ _ _ _ _ (0 : Fin 3) (.inl (slot_apart s t hlt ht))).trans (h s hlt h2)

theorem held_later (c : Dev nD) (t : Fin cfg0.N) (ht : 2 ≤ t.val) (d : Vec F S2x1024x1024 .bf16) (h : held m c t.val d) :
    held m c (t.val + 1) d := fun s _ h2 => h s (by omega) h2

theorem window_of_eq (d : Vec F S2x1024x1024 .bf16) (size) {off off' : Fin 3 → ℕ} (e : off = off') (inb) (inb') :
    VecWindow.window d off size inb = VecWindow.window d off' size inb' := by
  subst e; rfl

theorem held_window (c : Dev nD) (t : Fin cfg0.N) (ht : 2 ≤ t.val) (d : Vec F S2x1024x1024 .bf16) (h : held m c t.val d) :
    VecWindow.window d (k0_off2 (grid0.coords t)) S1x1024x1024.size (k0_off2_inb (grid0.coords t)) = block m c (source t) := by
  have hs : (source t).val < 2 := Nat.mod_lt _ (by decide)
  exact (window_of_eq d _ (slot_source t) _ _).trans (h (source t) (by omega) hs)

/-- The invariant between the points: the scratch with what it holds, and the generator register. -/
def Φ (c : Dev nD) (n : ℕ) : sProp 𝕄 :=
  iprop((∃ d, ⌜held m c n d⌝ ∗ owns (c : Thread nD τ) (Memref.whole cc0_scratch0 : Memref sig .tc .vmem S2x1024x1024 .bf16) fullShare d) ∗ (∃ r, prngReg c r))

/-- The proof data: the arrays as the region finds them; after point `t` each input's buffer at its block, the product's at the
    product of the normalised block of `t`'s rows, the other output's at the block normalised last. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => k0_pay3 (block m c (source t)) (iblk m c 2 t)
    | ⟨5, _⟩ => k0_pay1 (iblk m c 0 (latest t)) (iblk m c 1 (latest t))
  Φ t := Φ m c t.val
  q _ := fullShare
  owed _ := 0

theorem A_eq (c : Dev nD) (w : Fin cfg0.W) : (dats m 0 c).A w = V m c (Pipeline.arrRef spec0 w) := by
  dsimp only [dats]

theorem after0 (c : Dev nD) (t : Fin cfg0.N) : (dats m 0 c).after 0 t = iblk m c 0 t := by dsimp only [dats]
theorem after1 (c : Dev nD) (t : Fin cfg0.N) : (dats m 0 c).after 1 t = iblk m c 1 t := by dsimp only [dats]
theorem after2 (c : Dev nD) (t : Fin cfg0.N) : (dats m 0 c).after 2 t = iblk m c 2 t := by dsimp only [dats]
theorem after3 (c : Dev nD) (t : Fin cfg0.N) : (dats m 0 c).after 3 t = iblk m c 3 t := by dsimp only [dats]
theorem after4 (c : Dev nD) (t : Fin cfg0.N) : (dats m 0 c).after 4 t = k0_pay3 (block m c (source t)) (iblk m c 2 t) := by dsimp only [dats]
theorem after5 (c : Dev nD) (t : Fin cfg0.N) : (dats m 0 c).after 5 t = k0_pay1 (iblk m c 0 (latest t)) (iblk m c 1 (latest t)) := by dsimp only [dats]

theorem before0 (c : Dev nD) (t : Fin cfg0.N) (d) : (dats m 0 c).before 0 t d = iblk m c 0 t :=
  before0_0_of m (dats m 0 c) (A_eq m c 0) (after0 m c) t d
theorem before1 (c : Dev nD) (t : Fin cfg0.N) (d) : (dats m 0 c).before 1 t d = iblk m c 1 t :=
  before0_1_of m (dats m 0 c) (A_eq m c 1) (after1 m c) t d
theorem before2 (c : Dev nD) (t : Fin cfg0.N) (d) : (dats m 0 c).before 2 t d = iblk m c 2 t :=
  before0_2_of m (dats m 0 c) (A_eq m c 2) (after2 m c) t d
theorem before3 (c : Dev nD) (t : Fin cfg0.N) (d) : (dats m 0 c).before 3 t d = iblk m c 3 t :=
  before0_3_of m (dats m 0 c) (A_eq m c 3) (after3 m c) t d

theorem after5_carried (c : Dev nD) (t : Fin cfg0.N) (h : 2 ≤ t.val) :
    (dats m 0 c).after 5 t = (dats m 0 c).after 5 ⟨t.val - 1, by omega⟩ := by
  rw [after5, after5, show latest t = latest ⟨t.val - 1, by omega⟩ from Fin.ext (by show min t.val 1 = min (t.val - 1) 1; omega)]

/-- Past the first two points the second output's buffer holds the block normalised last. -/
theorem before5 (c : Dev nD) (t : Fin cfg0.N) (h : 2 ≤ t.val) (d) : (dats m 0 c).before 5 t d = (dats m 0 c).after 5 t := by
  have e := (dats m 0 c).before_out_traj 5 rfl (fun _ _ => rfl) (fun t _ hi _ => after5_carried m c t (by
    have hi' := hi
    rw [idle5 t] at hi'
    by_contra hlt
    rw [decide_eq_true (show t.val < 2 by omega)] at hi'
    exact Bool.false_ne_true hi')) t.val t rfl d
  rw [stored5 t h, if_neg Bool.false_ne_true] at e
  exact e.trans (after5_carried m c t h).symm

/-! ## The body at a point -/

def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d)))

def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t)
    ∗ (dats m 0 c).leavesExact 5 t)

/-- The second output's buffer at the block normalised last is what the body is to leave there, whether or not it stores. -/
theorem leaves5 (c : Dev nD) (t : Fin cfg0.N) :
    owns (c : Thread nD τ) (st0_5 t) fullShare ((dats m 0 c).after 5 t) ⊢ ((dats m 0 c).leavesExact 5 t : sProp 𝕄) := by
  unfold Dat.leavesExact
  rw [idle5 t]
  by_cases h : t.val < 2
  · rw [decide_eq_true h]; exact .rfl
  · rw [decide_eq_false h]
    cases (cfg0.win 5).flush t
    · show _ ⊢ iprop(∃ d, owns (c : Thread nD τ) (st0_5 t) fullShare ((dats m 0 c).before 5 t d))
      iintro H
      iexists (dats m 0 c).after 5 t
      rw [before5 m c t (by omega)]
      iexact H
    · exact .rfl

set_option maxHeartbeats 800000 in
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0, before1, before2, before3]
  rw [show (dats m 0 c).owesAt () t.succ = (dats m 0 c).owesAt () t.castSucc from rfl,
    after0, after1, after2, after3, after4,
    show (dats m 0 c).Φ t.castSucc = Φ m c t.val from rfl, show (dats m 0 c).Φ t.succ = Φ m c (t.val + 1) from rfl]
  unfold Φ
  by_cases h : t.val < 2
  · iintro ⟨⟨⟨%d, %hd, HS⟩, Hg⟩, Ho, ⟨%d0, H0⟩, ⟨%d1, H1⟩, ⟨%d2, H2⟩, ⟨%d3, H3⟩, ⟨%d4, H4⟩, ⟨%d5, H5⟩⟩
    iapply (run_first c (grid0.coords t) _ _ _ _ _ _ _ _ _ _ _ _ _ _ ((normalises t).mpr h) (iblk m c 0 t) (iblk m c 1 t) (iblk m c 2 t) (iblk m c 3 t) d Set.univ _)
    isplitl [H0]; · iexact H0
    isplitl [H1]; · iexact H1
    isplitl [H2]; · iexact H2
    isplitl [H3]; · iexact H3
    isplitl [H4]; · iexists _; iexact H4
    isplitl [H5]; · iexists _; iexact H5
    isplitl [HS]; · iexact HS
    iintro ⟨H0, H1, H2, H3, H4, H5, HS⟩
    isplitl [HS Hg]
    · isplitl [HS]
      · iexists _; isplitr; swap; · iexact HS
        ipureintro
        exact held_put m c t h d hd
      iexact Hg
    isplitl [Ho]; · iexact Ho
    isplitl [H0]; · iexact H0
    isplitl [H1]; · iexact H1
    isplitl [H2]; · iexact H2
    isplitl [H3]; · iexact H3
    isplitl [H4]
    · rw [source_of_lt t h]; iexact H4
    iapply (leaves5 m c t)
    rw [after5, latest_of_lt t h]
    iexact H5
  · iintro ⟨⟨⟨%d, %hd, HS⟩, Hg⟩, Ho, ⟨%d0, H0⟩, ⟨%d1, H1⟩, ⟨%d2, H2⟩, ⟨%d3, H3⟩, ⟨%d4, H4⟩, ⟨%d5, H5⟩⟩
    iapply (run_later c (grid0.coords t) _ _ _ _ _ _ _ _ _ _ _ _ _ _ (fun e => h ((normalises t).mp e)) (iblk m c 0 t) (iblk m c 1 t) (iblk m c 2 t) (iblk m c 3 t) ((dats m 0 c).before 5 t d5) d Set.univ _)
    isplitl [H0]; · iexact H0
    isplitl [H1]; · iexact H1
    isplitl [H2]; · iexact H2
    isplitl [H3]; · iexact H3
    isplitl [H4]; · iexists _; iexact H4
    isplitl [H5]; · iexact H5
    isplitl [HS]; · iexact HS
    rw [held_window m c t (by omega) d hd, before5 m c t (by omega)]
    iintro ⟨H0, H1, H2, H3, H4, H5, HS⟩
    isplitl [HS Hg]
    · isplitl [HS]
      · iexists d; isplitr; swap; · iexact HS
        ipureintro
        exact held_later m c t (by omega) d hd
      iexact Hg
    isplitl [Ho]; · iexact Ho
    isplitl [H0]; · iexact H0
    isplitl [H1]; · iexact H1
    isplitl [H2]; · iexact H2
    isplitl [H3]; · iexact H3
    isplitl [H4]; · iexact H4
    iapply (leaves5 m c t)
    iexact H5

theorem defs₀_row (t : Fin cfg0.N) :
    defs₀ (F := F) .tc cfg0.body (cfg0.bodyArgs t (cfg0.slots t)) = bodyAt0 t := by
  unfold defs₀; rw [Defs.onTc_tc]

theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

/-! ## The run -/

theorem scratch_eq (c : Dev nD) :
    (Pipeline.ΦA spec0 c : sProp 𝕄)
      = iprop(iprop((∃ d, owns (c : Thread nD τ) (Memref.whole cc0_scratch0 : Memref sig .tc .vmem S2x1024x1024 .bf16) fullShare d)) ∗ (∃ r, prngReg c r)) := by
  unfold Pipeline.ΦA; rw [scopedRest0_eq]; simp only [owns_whole]; try rfl

theorem enters (c : Dev nD) : (Pipeline.ΦA spec0 c : sProp 𝕄) ⊢ (dats m 0 c).Φ 0 := by
  rw [show (dats m 0 c).Φ 0 = Φ m c 0 from rfl, scratch_eq]
  unfold Φ
  iintro ⟨⟨%d, HS⟩, Hg⟩
  isplitl [HS]
  · iexists d; isplitr; swap; · iexact HS
    ipureintro
    exact fun s hs _ => absurd hs (Nat.not_lt_zero _)
  iexact Hg

theorem leaves (c : Dev nD) : (dats m 0 c).Φ (Fin.last cfg0.N) ⊢ (Pipeline.ΦA spec0 c : sProp 𝕄) := by
  rw [show (dats m 0 c).Φ (Fin.last cfg0.N) = Φ m c cfg0.N from rfl, scratch_eq]
  unfold Φ
  iintro ⟨⟨%d, %hd, HS⟩, Hg⟩
  isplitl [HS]
  · iexists d; iexact HS
  iexact Hg

-- the launch's implicit arguments are found by unifying its conclusion with this one, which takes unfolding plain definitions
set_option backward.isDefEq.respectTransparency.types false in
set_option maxHeartbeats 800000 in
theorem run_all : θ_run defs (onTc (τ := τ) (main (F := F))) (s₀ m ρ) (fun r => (Pipeline.FramePost cfgs (dats m) 0 (V m)) r ∧ r.2.sem = fun _ => 0) :=
  Pipeline.θ_run_frame_track (Q' := _) cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hin := enters m) (hout := leaves m)

/-- The kernel runs to the end and leaves its arguments as they were. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3))
      ∧ r.2.sem = fun _ => 0) :=
  θ_run_and (frame_of m ρ (dats m) (A_eq m) ((θ_run defs _ _).mono (fun _ h => h.1) (run_all m ρ)))
    ((θ_run defs _ _).mono (fun _ h => h.2) (run_all m ρ))

/-- The kernel's outputs, as the write-backs of its blocks. -/
theorem run_blocks : θ_run defs (onTc (τ := τ) (main (F := F))) ⟨m, fun _ => 0, ρ⟩ (fun r => ∀ c : Dev nD,
      r.2.mem ((c.tc : Thread nD τ).loc main_v0_0) = (dats m 0 c).arrAt 4 cfg0.N
      ∧ r.2.mem ((c.tc : Thread nD τ).loc main_v0_1) = (dats m 0 c).arrAt 5 cfg0.N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  (θ_run defs _ _).mono (fun r h c => ⟨(h.1.1 c).1 4, (h.1.1 c).1 5, h.2.1 c⟩)
    (θ_run_and (run_all m ρ) (frame m ρ))

end Cert.Into12

end
-- ==== Proof.Machine12.lean ====
module

public import proofs.«01_k».proof.Proof.InRun12
public import proofs.«01_k».proof.Proof.Gen.Kernel12.Frame

/-!
The kernel on the machine's formats: its text is that of the kernel on extended reals, whose frame is proved for floats of any
kind, so it has the same frame.
-/

@[expose] public section

noncomputable section

open Idealize.ShloMosaic Idealize.ShloMosaic.TcCoe Idealize.SL Idealize.SL.Sem

namespace Cert.Machine12

open Cert.Kernel12 Cert.Kernel12.Gen

variable {F : FTy → Type} [FloatOps F]

/-- The two texts of the call are one. -/
theorem table₀ : Cert.Kernel12.defs₀ (F := F) = Cert.Kernel12Ideal.defs₀ (F := F) := by
  unfold Cert.Kernel12.defs₀ Cert.Kernel12Ideal.defs₀
  refine congrArg Defs.onTc ?_
  funext l x
  match l, x with
  | 0, (t, s) => rfl
theorem table : Cert.Kernel12.defs (F := F) = Cert.Kernel12Ideal.defs (F := F) := by
  unfold Cert.Kernel12.defs Cert.Kernel12Ideal.defs
  rw [table₀]
  rfl

/-- The kernel runs to the end and leaves its arguments as they were. -/
theorem frame (m : (ℓ : Loc nD τ sig) → Buf (Elt F) ℓ) (ρ : Dev nD → PrngReg) :
    θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3))
      ∧ r.2.sem = fun _ => 0) := by
  rw [table]
  exact Cert.Into12.frame m ρ

end Cert.Machine12

end
-- ==== Proof.Norm.lean ====
module

public import proofs.«01_k».proof.Proof.Product
public import Idealize.ShloMosaic.Lib.Pointwise.ElementwiseCore
public import Idealize.ShloMosaic.Lib.Pointwise.Reduce

/-!
The normalisation of the rows of an array with 1024 columns: each row is multiplied by one over the square root of the mean of its
squares (plus a small constant), and each column by its weight. The kernel's text of it and the reference's are this one function.
-/

@[expose] public section

noncomputable section

open Idealize.ShloMosaic

namespace Cert.Norm

open Cert.Product

variable {n : ℕ}

/-- The mean of the squares of row `r`, plus the small constant. -/
def mean (h : FVec Ideal ⟨2, ![n, 1024]⟩ .f32) (r : Fin n) : EReal :=
  Ideal.div (∑ k : Fin 1024, h (at2 r k) * h (at2 r k)) (FloatOps.ofBits (F := Ideal) .f32 0x44800000#32) + FloatOps.ofBits (F := Ideal) .f32 0x358637BD#32

/-- The normalised array at row `r` and column `c`. -/
def norm (h : FVec Ideal ⟨2, ![n, 1024]⟩ .f32) (g : Fin 1024 → EReal) (r : Fin n) (c : Fin 1024) : EReal :=
  h (at2 r c) * Ideal.rsqrt (mean h r) * g c

/-- The normalisation of a block of rows is that block of the normalised array. -/
theorem norm_rows {N : ℕ} (v : FVec Ideal ⟨2, ![n, 1024]⟩ .f32) (h : FVec Ideal ⟨2, ![N, 1024]⟩ .f32) (g g' : Fin 1024 → EReal) (r : Fin n) (R : Fin N)
    (e : ∀ k, v (at2 r k) = h (at2 R k)) (eg : ∀ c, g c = g' c) (c : Fin 1024) : norm v g r c = norm h g' R c := by
  unfold norm mean
  rw [e c, eg c, Finset.sum_congr rfl fun k _ => congrArg₂ (fun a b : EReal => a * b) (e k) (e k)]

theorem at2_eta (j : (⟨2, ![n, 1024]⟩ : Shape).Idx) : at2 (j 0) (j 1) = j := by
  funext a
  match a with
  | ⟨0, _⟩ => rfl
  | ⟨1, _⟩ => rfl

/-- A column repeated along every row. -/
theorem column (x : FVec Ideal ⟨2, ![n, 1]⟩ .f32) (h : (⟨2, ![n, 1]⟩ : Shape).Broadcasts ⟨2, ![n, 1024]⟩)
    (j : (⟨2, ![n, 1024]⟩ : Shape).Idx) : broadcastTo ⟨2, ![n, 1024]⟩ x h j = x (at2 (j 0) 0) := by
  refine broadcastTo_apply x h j (at2 (j 0) 0) fun a => ?_
  match a with
  | ⟨0, _⟩ =>
    show (j 0).val = if n = 1 then 0 else (j 0).val
    split
    · have h0 : (j 0).val < n := (j 0).isLt
      omega
    · rfl
  | ⟨1, _⟩ => rfl

/-- A row repeated along every column. -/
theorem row (x : FVec Ideal ⟨2, ![1, 1024]⟩ .f32) (h : (⟨2, ![1, 1024]⟩ : Shape).Broadcasts ⟨2, ![n, 1024]⟩)
    (j : (⟨2, ![n, 1024]⟩ : Shape).Idx) : broadcastTo ⟨2, ![n, 1024]⟩ x h j = x (at2 0 (j 1)) := by
  refine broadcastTo_apply x h j (at2 0 (j 1)) fun a => ?_
  match a with
  | ⟨0, _⟩ => rfl
  | ⟨1, _⟩ => rfl

theorem columnDim (x : FVec Ideal ⟨2, ![n, 1]⟩ .f32) (h : (⟨2, ![n, 1]⟩ : Shape).BroadcastsInDim ⟨2, ![n, 1024]⟩ ![0, 1])
    (j : (⟨2, ![n, 1024]⟩ : Shape).Idx) : broadcastInDim ⟨2, ![n, 1024]⟩ ![0, 1] h x j = x (at2 (j 0) 0) := by
  refine broadcastInDim_apply ![0, 1] h x j (at2 (j 0) 0) fun a => ?_
  match a with
  | ⟨0, _⟩ =>
    show (j 0).val = if n = 1 then 0 else (j 0).val
    split
    · have h0 : (j 0).val < n := (j 0).isLt
      omega
    · rfl
  | ⟨1, _⟩ => rfl

theorem rowDim (x : FVec Ideal ⟨2, ![1, 1024]⟩ .f32) (h : (⟨2, ![1, 1024]⟩ : Shape).BroadcastsInDim ⟨2, ![n, 1024]⟩ ![0, 1])
    (j : (⟨2, ![n, 1024]⟩ : Shape).Idx) : broadcastInDim ⟨2, ![n, 1024]⟩ ![0, 1] h x j = x (at2 0 (j 1)) := by
  refine broadcastInDim_apply ![0, 1] h x j (at2 0 (j 1)) fun a => ?_
  match a with
  | ⟨0, _⟩ => rfl
  | ⟨1, _⟩ => rfl

/-- The sum along a row, as the kernel takes it. -/
theorem rowSum (v : FVec Ideal ⟨2, ![n, 1024]⟩ .f32) (h : (⟨2, ![n, 1024]⟩ : Shape).Reduces [1] ⟨1, ![n]⟩) (acc hφ hacc) (r : (⟨1, ![n]⟩ : Shape).Idx) :
    multiReduction .add [1] ⟨1, ![n]⟩ v acc h hφ hacc r = ∑ k : Fin 1024, v (at2 (r 0) k) := by
  refine (multiReduction_add_apply v acc h hφ hacc r).trans ?_
  refine (Ideal.reduceAdd_r2_a1 h v r).trans ?_
  refine Finset.sum_congr rfl fun k _ => congrArg v (funext fun a => ?_)
  match a with
  | ⟨0, _⟩ => rfl
  | ⟨1, _⟩ => rfl

/-- The sum along a row, as the reference takes it. -/
theorem rowSumHost (v : FVec Ideal ⟨2, ![n, 1024]⟩ .f32) (h : (⟨2, ![n, 1024]⟩ : Shape).ReducesTo [1] ⟨1, ![n]⟩) (hu) (r : (⟨1, ![n]⟩ : Shape).Idx) :
    Host.reduceAdd v (constant ⟨0, ![]⟩ .f32 0x00000000#32) h hu r = ∑ k : Fin 1024, v (at2 (r 0) k) := by
  refine (Host.reduceAdd_apply v _ h hu r).trans ?_
  refine (Ideal.hostReduceAdd_r2_a1 h v _ r).trans ?_
  refine (congrArg (fun z : EReal => z + _) (show (constant ⟨0, ![]⟩ .f32 0x00000000#32 : FVec Ideal ⟨0, ![]⟩ .f32) (Shape.Idx.first hu) = (0 : EReal) from Ideal.ofBits_zero_f32)).trans ((zero_add _).trans ?_)
  refine Finset.sum_congr rfl fun k _ => congrArg v (funext fun a => ?_)
  match a with
  | ⟨0, _⟩ => rfl
  | ⟨1, _⟩ => rfl

/-- A vector read as one column. -/
theorem asColumn (x : FVec Ideal ⟨1, ![n]⟩ .f32) (h : (⟨1, ![n]⟩ : Shape).ShapeCasts ⟨2, ![n, 1]⟩) (r : Fin n) :
    shapeCast ⟨2, ![n, 1]⟩ x h (at2 r 0) = x (ix1 r) := by
  refine shapeCast_apply x h (at2 r 0) (ix1 r) ?_
  rw [rowMajor_val2 _ 1 rfl, Shape.rowMajor_val_one]
  show r.val = r.val * 1 + 0
  omega

theorem asColumnDim (x : FVec Ideal ⟨1, ![n]⟩ .f32) (h : (⟨1, ![n]⟩ : Shape).BroadcastsInDim ⟨2, ![n, 1]⟩ ![0]) (r : Fin n) :
    broadcastInDim ⟨2, ![n, 1]⟩ ![0] h x (at2 r 0) = x (ix1 r) := by
  refine broadcastInDim_apply ![0] h x (at2 r 0) (ix1 r) fun a => ?_
  match a with
  | ⟨0, _⟩ =>
    show r.val = if n = 1 then 0 else r.val
    split
    · have h0 : r.val < n := r.isLt
      omega
    · rfl

/-- A row with two leading axes of length one, read as a row. -/
theorem asRow (x : FVec Ideal ⟨3, ![1, 1, 1024]⟩ .f32) (h : (⟨3, ![1, 1, 1024]⟩ : Shape).ShapeCasts ⟨2, ![1, 1024]⟩) (c : Fin 1024) :
    shapeCast ⟨2, ![1, 1024]⟩ x h (at2 0 c) = x (ix3 0 0 c) := by
  refine shapeCast_apply x h (at2 0 c) (ix3 0 0 c) ?_
  rw [rowMajor_val2 _ 1024 rfl, rowMajor_val3 _ (1 * 1024) 1024 rfl rfl]
  rfl

/-- The kernel's text of the normalisation. -/
theorem kernel (v : FVec Ideal ⟨2, ![n, 1024]⟩ .f32) (g : FVec Ideal ⟨3, ![1, 1, 1024]⟩ .f32) (acc hφ hacc)
    (h1 : (⟨2, ![n, 1024]⟩ : Shape).Reduces [1] ⟨1, ![n]⟩) (h2 : (⟨1, ![n]⟩ : Shape).ShapeCasts ⟨2, ![n, 1]⟩)
    (h3 : (⟨2, ![n, 1]⟩ : Shape).Broadcasts ⟨2, ![n, 1024]⟩) (h4 : (⟨3, ![1, 1, 1024]⟩ : Shape).ShapeCasts ⟨2, ![1, 1024]⟩)
    (h5 : (⟨2, ![1, 1024]⟩ : Shape).Broadcasts ⟨2, ![n, 1024]⟩) (j : (⟨2, ![n, 1024]⟩ : Shape).Idx) :
    mulf (mulf v (broadcastTo ⟨2, ![n, 1024]⟩ (rsqrt (addf (divf (shapeCast ⟨2, ![n, 1]⟩ (multiReduction .add [1] ⟨1, ![n]⟩ (mulf v v) acc h1 hφ hacc) h2)
      (broadcast ⟨2, ![n, 1]⟩ (Scalar.ofBits .f32 0x44800000#32))) (broadcast ⟨2, ![n, 1]⟩ (Scalar.ofBits .f32 0x358637BD#32)))) h3))
      (broadcastTo ⟨2, ![n, 1024]⟩ (shapeCast ⟨2, ![1, 1024]⟩ g h4) h5) j
      = norm v (fun c => g (ix3 0 0 c)) (j 0) (j 1) := by
  refine congrArg₂ (fun a b : EReal => a * b) (congrArg₂ (fun a b : EReal => a * b) ?_ ?_) ?_
  · exact congrArg v (at2_eta j).symm
  · refine (column _ h3 j).trans (congrArg Ideal.rsqrt (congrArg₂ (fun a b : EReal => a + b) (congrArg₂ Ideal.div ?_ rfl) rfl))
    exact (asColumn _ h2 (j 0)).trans (rowSum _ h1 acc hφ hacc (ix1 (j 0)))
  · exact (row _ h5 j).trans (asRow g h4 (j 1))

/-- The reference's text of the normalisation. -/
theorem host (v : FVec Ideal ⟨2, ![n, 1024]⟩ .f32) (g : FVec Ideal ⟨3, ![2, 1, 1024]⟩ .f32)
    (h1 : (⟨2, ![n, 1024]⟩ : Shape).ReducesTo [1] ⟨1, ![n]⟩) (hu : 0 < (⟨0, ![]⟩ : Shape).numel) (h2 : (⟨1, ![n]⟩ : Shape).BroadcastsInDim ⟨2, ![n, 1]⟩ ![0])
    (h0 : (⟨0, ![]⟩ : Shape).BroadcastsInDim ⟨2, ![n, 1]⟩ ![])
    (h3 : (⟨2, ![n, 1]⟩ : Shape).BroadcastsInDim ⟨2, ![n, 1024]⟩ ![0, 1]) (hs : (⟨3, ![2, 1, 1024]⟩ : Shape).Slices ![0, 0, 0] ⟨3, ![1, 1, 1024]⟩)
    (h4 : (⟨3, ![1, 1, 1024]⟩ : Shape).ShapeCasts ⟨2, ![1, 1024]⟩)
    (h5 : (⟨2, ![1, 1024]⟩ : Shape).BroadcastsInDim ⟨2, ![n, 1024]⟩ ![0, 1]) (j : (⟨2, ![n, 1024]⟩ : Shape).Idx) :
    mulf (mulf v (broadcastInDim ⟨2, ![n, 1024]⟩ ![0, 1] h3 (Host.rsqrt (addf (Host.divf (broadcastInDim ⟨2, ![n, 1]⟩ ![0] h2
        (Host.reduceAdd (mulf v v) (constant ⟨0, ![]⟩ .f32 0x00000000#32) h1 hu))
      (broadcastInDim ⟨2, ![n, 1]⟩ ![] h0 (constant ⟨0, ![]⟩ .f32 0x44800000#32))) (broadcastInDim ⟨2, ![n, 1]⟩ ![] h0 (constant ⟨0, ![]⟩ .f32 0x358637BD#32))))))
      (broadcastInDim ⟨2, ![n, 1024]⟩ ![0, 1] h5 (shapeCast ⟨2, ![1, 1024]⟩ (extractStridedSlice ⟨3, ![1, 1, 1024]⟩ ![0, 0, 0] g hs) h4)) j
      = norm v (fun c => g (ix3 0 0 c)) (j 0) (j 1) := by
  refine congrArg₂ (fun a b : EReal => a * b) (congrArg₂ (fun a b : EReal => a * b) ?_ ?_) ?_
  · exact congrArg v (at2_eta j).symm
  · refine (columnDim _ h3 j).trans (congrArg Ideal.rsqrt (congrArg₂ (fun a b : EReal => a + b) (congrArg₂ Ideal.div ?_ rfl) rfl))
    exact (asColumnDim _ h2 (j 0)).trans (rowSumHost _ h1 hu (ix1 (j 0)))
  · refine (rowDim _ h5 j).trans ((asRow _ h4 (j 1)).trans ?_)
    refine extractStridedSlice_apply _ g hs _ (ix3 0 0 (j 1)) fun a => ?_
    match a with
    | ⟨0, _⟩ => rfl
    | ⟨1, _⟩ => rfl
    | ⟨2, _⟩ => exact (Nat.zero_add _).symm

end Cert.Norm

end
-- ==== Proof.Into12.lean ====
/-
The call that normalises a layer's input and multiplies it with the projection's weights, on even layers: its two results are the
reference's.
-/
module

public import proofs.«01_k».proof.Defs
public import proofs.«01_k».proof.Proof.Norm
public import proofs.«01_k».proof.Proof.InRun12
public import proofs.«01_k».proof.Proof.Gen.Reference12Ideal.Run

@[expose] public section

noncomputable section

open Idealize.ShloMosaic Idealize.ShloMosaic.TcCoe Idealize.SL.Sem

namespace Cert.Into12

section

open Cert.Kernel12Ideal Cert.Kernel12Ideal.Gen Cert.Product Cert.Norm

variable (m : (ℓ : Loc nD τ sig) → Buf (Elt Ideal) ℓ)

/-- The index `(0, j, k, l)` of the weights: row `k` and column `l` of shard `j`. -/
def atShard (j : Fin 4) (k : Fin 1024) (l : Fin 1280) : S1x4x1024x1280.Idx := ix4 (0 : Fin 1) j k l
/-- The same of one shard's weights. -/
def atOne (k : Fin 1024) (l : Fin 1280) : S1x1x1024x1280.Idx := ix4 (0 : Fin 1) (0 : Fin 1) k l

/-- The weights of the norm. -/
def scale (g : FVec Ideal S2x1x1024 .f32) (c : Fin 1024) : EReal := g (ix3 0 0 c)

/-- The normalised input. -/
def normed (h : FVec Ideal S2048x1024 .f32) (g : FVec Ideal S2x1x1024 .f32) : FVec Ideal S2048x1024 .bf16 := fun i =>
  norm h (scale g) (i 0) (i 1)

/-- The projection: row `r`, column `j * 1280 + l` is the product of row `r` of the normalised input with column `l` of shard `j`. -/
def proj (h : FVec Ideal S2048x1024 .f32) (g : FVec Ideal S2x1x1024 .f32) (w : FVec Ideal S1x4x1024x1280 .bf16) : FVec Ideal S2048x5120 .f32 := fun i =>
  ∑ k : Fin 1024, norm h (scale g) (i 0) k * w (atShard ⟨(i 1).val / 1280, by
    have h1 : (i 1 : ℕ) < 5120 := (i 1).isLt
    omega⟩ k ⟨(i 1).val % 1280, Nat.mod_lt _ (by decide)⟩)

/-- What a point that normalises computes, at an index of its block. -/
theorem pay_norm (v : FVec Ideal S1024x1024 .f32) (g : FVec Ideal S1x1x1024 .f32) (j : S1024x1024.Idx) :
    k0_pay1 (F := Ideal) v g j = norm v (fun c => g (ix3 0 0 c)) (j 0) (j 1) := by
  unfold k0_pay1
  exact (ValueIdx.truncf_apply (φ := .f32) (ψ := .bf16) _ _ j).trans (kernel v g _ _ _ _ _ _ _ _ j)

/-- What every point computes, at an index of its block. -/
theorem pay_proj (v : FVec Ideal S1024x1024 .f32) (g : FVec Ideal S1x1x1024 .f32) (w : FVec Ideal S1x1x1024x1280 .bf16) (j : S1024x1280.Idx) :
    k0_pay3 (F := Ideal) (k0_pay2 (F := Ideal) v g) w j = ∑ k : Fin 1024, norm v (fun c => g (ix3 0 0 c)) (j 0) k * w (atOne k (j 1)) := by
  unfold k0_pay3
  refine (matmul_usual (K := 1024) (n := 1024) (m := 1280) none _ _ _ j).trans ?_
  refine Finset.sum_congr rfl fun k _ => congrArg₂ (fun a b : EReal => a * b) ?_ ?_
  · unfold k0_pay2
    refine (shapeCast_apply _ _ (at2 (j 0) k : S1024x1024.Idx) (ix3 0 (j 0) k : S1x1024x1024.Idx) ?_).trans ?_
    · rw [rowMajor_val2 _ 1024 rfl, rowMajor_val3 _ (1024 * 1024) 1024 rfl rfl]
      show 0 * (1024 * 1024) + (j 0 : ℕ) * 1024 + (k : ℕ) = (j 0 : ℕ) * 1024 + (k : ℕ)
      omega
    refine (shapeCast_apply _ _ (ix3 0 (j 0) k : S1x1024x1024.Idx) (at2 (j 0) k : S1024x1024.Idx) ?_).trans (pay_norm v g _)
    rw [rowMajor_val2 _ 1024 rfl, rowMajor_val3 _ (1024 * 1024) 1024 rfl rfl]
    show (j 0 : ℕ) * 1024 + (k : ℕ) = 0 * (1024 * 1024) + (j 0 : ℕ) * 1024 + (k : ℕ)
    omega
  · refine shapeCast_apply _ _ (at2 k (j 1) : S1024x1280.Idx) (atOne k (j 1)) ?_
    rw [rowMajor_val2 _ 1280 rfl, rowMajor_val4 _ (1 * (1024 * 1280)) (1024 * 1280) 1280 rfl rfl rfl]
    show 0 * (1 * (1024 * 1280)) + 0 * (1024 * 1280) + (k : ℕ) * 1280 + (j 1 : ℕ) = (k : ℕ) * 1280 + (j 1 : ℕ)
    omega

/-! ## Where the blocks of point `t` lie -/

theorem place0 : ∀ t : Fin cfg0.N, win0_0.index t 0 * win0_0.size 0 = min t.val 1 * 1024 ∧ win0_0.index t 1 * win0_0.size 1 = 0 :=
  (by decide +kernel : ∀ t : Fin grid0.N, win0_0.index t 0 * win0_0.size 0 = min t.val 1 * 1024 ∧ win0_0.index t 1 * win0_0.size 1 = 0)
theorem place1 : ∀ t : Fin cfg0.N, win0_1.index t 0 * win0_1.size 0 = 0 ∧ win0_1.index t 1 * win0_1.size 1 = 0 ∧ win0_1.index t 2 * win0_1.size 2 = 0 :=
  (by decide +kernel : ∀ t : Fin grid0.N, win0_1.index t 0 * win0_1.size 0 = 0 ∧ win0_1.index t 1 * win0_1.size 1 = 0 ∧ win0_1.index t 2 * win0_1.size 2 = 0)
theorem place2 : ∀ t : Fin cfg0.N, win0_2.index t 0 * win0_2.size 0 = 0 ∧ win0_2.index t 1 * win0_2.size 1 = t.val / 2
    ∧ win0_2.index t 2 * win0_2.size 2 = 0 ∧ win0_2.index t 3 * win0_2.size 3 = 0 :=
  (by decide +kernel : ∀ t : Fin grid0.N, win0_2.index t 0 * win0_2.size 0 = 0 ∧ win0_2.index t 1 * win0_2.size 1 = t.val / 2
    ∧ win0_2.index t 2 * win0_2.size 2 = 0 ∧ win0_2.index t 3 * win0_2.size 3 = 0)
theorem place4 : ∀ t : Fin cfg0.N, win0_4.index t 0 * win0_4.size 0 = t.val % 2 * 1024 ∧ win0_4.xsize (grid0.coords t) 0 = 1024
    ∧ win0_4.index t 1 * win0_4.size 1 = t.val / 2 * 1280 ∧ win0_4.xsize (grid0.coords t) 1 = 1280 :=
  (by decide +kernel : ∀ t : Fin grid0.N, win0_4.index t 0 * win0_4.size 0 = t.val % 2 * 1024 ∧ win0_4.xsize (grid0.coords t) 0 = 1024
    ∧ win0_4.index t 1 * win0_4.size 1 = t.val / 2 * 1280 ∧ win0_4.xsize (grid0.coords t) 1 = 1280)
theorem place5 : ∀ t : Fin cfg0.N, win0_5.index t 0 * win0_5.size 0 = min t.val 1 * 1024 ∧ win0_5.xsize (grid0.coords t) 0 = 1024
    ∧ win0_5.index t 1 * win0_5.size 1 = 0 ∧ win0_5.xsize (grid0.coords t) 1 = 1024 :=
  (by decide +kernel : ∀ t : Fin grid0.N, win0_5.index t 0 * win0_5.size 0 = min t.val 1 * 1024 ∧ win0_5.xsize (grid0.coords t) 0 = 1024
    ∧ win0_5.index t 1 * win0_5.size 1 = 0 ∧ win0_5.xsize (grid0.coords t) 1 = 1024)
/-- The second output's blocks are written back at the first point and at the last. -/
theorem writes5 : ∀ t : Fin cfg0.N, t.val = 0 ∨ t.val = 7 → (cfg0.win 5).flush t = true :=
  (by decide +kernel : ∀ t : Fin grid0.N, t.val = 0 ∨ t.val = 7 → win0_5.flush t = true)

/-! ## Every index lies in some point's block -/

theorem cover4 (i : S2048x5120.Idx) : ∃ t : Fin cfg0.N, (cfg0.win 4).flush t = true ∧ i ∈ ((cfg0.win 4).blk t).view.set := by
  have h0 : (i 0 : Nat) < 2048 := (i 0).isLt
  have h1 : (i 1 : Nat) < 5120 := (i 1).isLt
  obtain ⟨t, ht⟩ : ∃ t : Fin cfg0.N, t.val = (i 1 : Nat) / 1280 * 2 + (i 0 : Nat) / 1024 :=
    ⟨⟨(i 1 : Nat) / 1280 * 2 + (i 0 : Nat) / 1024, Nat.lt_of_lt_of_eq (by omega : _ < 8) N_0.symm⟩, rfl⟩
  refine ⟨t, flush0_4 t, ?_⟩
  show i ∈ ((View.whole main_v0_0).slice (win0_4.rect t)).set
  rw [View.set_slice_whole, Rect.mem_set_unit]
  obtain ⟨e0, s0, e1, s1⟩ := place4 t
  intro a
  match a with
  | ⟨0, _⟩ => show win0_4.index t 0 * win0_4.size 0 ≤ (i 0 : Nat) ∧ (i 0 : Nat) < win0_4.index t 0 * win0_4.size 0 + win0_4.xsize (grid0.coords t) 0
              rw [e0, s0]; omega
  | ⟨1, _⟩ => show win0_4.index t 1 * win0_4.size 1 ≤ (i 1 : Nat) ∧ (i 1 : Nat) < win0_4.index t 1 * win0_4.size 1 + win0_4.xsize (grid0.coords t) 1
              rw [e1, s1]; omega

theorem cover5 (i : S2048x1024.Idx) : ∃ t : Fin cfg0.N, (cfg0.win 5).flush t = true ∧ i ∈ ((cfg0.win 5).blk t).view.set := by
  have h0 : (i 0 : Nat) < 2048 := (i 0).isLt
  have h1 : (i 1 : Nat) < 1024 := (i 1).isLt
  obtain ⟨t, ht⟩ : ∃ t : Fin cfg0.N, t.val = (i 0 : Nat) / 1024 * 7 :=
    ⟨⟨(i 0 : Nat) / 1024 * 7, Nat.lt_of_lt_of_eq (by omega : _ < 8) N_0.symm⟩, rfl⟩
  refine ⟨t, writes5 t (by omega), ?_⟩
  show i ∈ ((View.whole main_v0_1).slice (win0_5.rect t)).set
  rw [View.set_slice_whole, Rect.mem_set_unit]
  obtain ⟨e0, s0, e1, s1⟩ := place5 t
  intro a
  match a with
  | ⟨0, _⟩ => show win0_5.index t 0 * win0_5.size 0 ≤ (i 0 : Nat) ∧ (i 0 : Nat) < win0_5.index t 0 * win0_5.size 0 + win0_5.xsize (grid0.coords t) 0
              rw [e0, s0]; omega
  | ⟨1, _⟩ => show win0_5.index t 1 * win0_5.size 1 ≤ (i 1 : Nat) ∧ (i 1 : Nat) < win0_5.index t 1 * win0_5.size 1 + win0_5.xsize (grid0.coords t) 1
              rw [e1, s1]; omega

/-! ## What the points write back -/

/-- The input's block at a point that normalises is the point's rows of the input. -/
theorem rows (c : Dev nD) (s : Fin cfg0.N) (R : Fin 2048) (r : Fin 1024) (hR : R.val = min s.val 1 * 1024 + r.val) (k : Fin 1024) :
    iblk m c 0 s (at2 r k : S1024x1024.Idx) = m ((c : Thread nD τ).loc main_arg0) (at2 R k : S2048x1024.Idx) := by
  show m ((c : Thread nD τ).loc main_arg0) ((win0_0.rect s).emb (at2 r k : S1024x1024.Idx)) = _
  obtain ⟨a0, a1⟩ := place0 s
  refine congrArg _ (funext fun a => Fin.ext ?_)
  refine (Pipeline.Window.rect_emb_val win0_0 s _ a rfl).trans ?_
  match a with
  | ⟨0, _⟩ => show win0_0.index s 0 * win0_0.size 0 + r.val = R.val
              rw [a0, hR]
  | ⟨1, _⟩ => show win0_0.index s 1 * win0_0.size 1 + k.val = k.val
              rw [a1]; omega

/-- The norm's weights at every point are the array's first row. -/
theorem weights (c : Dev nD) (s : Fin cfg0.N) (k : Fin 1024) :
    iblk m c 1 s (ix3 0 0 k : S1x1x1024.Idx) = scale (m ((c : Thread nD τ).loc main_arg1)) k := by
  show m ((c : Thread nD τ).loc main_arg1) ((win0_1.rect s).emb (ix3 0 0 k : S1x1x1024.Idx)) = _
  obtain ⟨a0, a1, a2⟩ := place1 s
  refine congrArg _ (funext fun a => Fin.ext ?_)
  refine (Pipeline.Window.rect_emb_val win0_1 s _ a rfl).trans ?_
  match a with
  | ⟨0, _⟩ => show win0_1.index s 0 * win0_1.size 0 + 0 = 0
              rw [a0]
  | ⟨1, _⟩ => show win0_1.index s 1 * win0_1.size 1 + 0 = 0
              rw [a1]
  | ⟨2, _⟩ => show win0_1.index s 2 * win0_1.size 2 + k.val = k.val
              rw [a2]; omega

theorem normed_rows (c : Dev nD) (s : Fin cfg0.N) (R : Fin 2048) (r : Fin 1024) (hR : R.val = min s.val 1 * 1024 + r.val) (k : Fin 1024) :
    norm (iblk m c 0 s : FVec Ideal S1024x1024 .f32) (fun c' => iblk m c 1 s (ix3 0 0 c' : S1x1x1024.Idx)) r k
      = norm (m ((c : Thread nD τ).loc main_arg0) : FVec Ideal S2048x1024 .f32) (scale (m ((c : Thread nD τ).loc main_arg1))) R k :=
  norm_rows _ _ _ _ r R (rows m c s R r hR) (weights m c s) k

theorem written4 (c : Dev nD) (t : Fin cfg0.N) :
    (dats m 0 c).flushed 4 t = (win0_4.blk t).view.read (Elt Ideal)
      (proj (m ((c : Thread nD τ).loc main_arg0)) (m ((c : Thread nD τ).loc main_arg1)) (m ((c : Thread nD τ).loc main_arg2))) := by
  show (cfg0.win 4).cut (grid0.coords t) ((dats m 0 c).after 4 t) = _
  rw [after4]
  funext j
  refine (pay_proj (iblk m c 0 (source t)) (iblk m c 1 (source t)) (iblk m c 2 t) j).trans ?_
  show _ = proj (m ((c : Thread nD τ).loc main_arg0)) (m ((c : Thread nD τ).loc main_arg1)) (m ((c : Thread nD τ).loc main_arg2)) ((win0_4.rect t).emb j)
  obtain ⟨b0, b1, b2, b3⟩ := place2 t
  obtain ⟨e0, -, e1, -⟩ := place4 t
  have h0 : (j 0 : ℕ) < 1024 := (j 0).isLt
  have h1 : (j 1 : ℕ) < 1280 := (j 1).isLt
  have q0 : (((win0_4.rect t).emb j 0 : _) : ℕ) = t.val % 2 * 1024 + (j 0 : ℕ) := by rw [Pipeline.Window.rect_emb_val win0_4 t j 0 rfl, e0]
  have q1 : (((win0_4.rect t).emb j 1 : _) : ℕ) = t.val / 2 * 1280 + (j 1 : ℕ) := by rw [Pipeline.Window.rect_emb_val win0_4 t j 1 rfl, e1]
  have hs : (source t).val = t.val % 2 := rfl
  refine Finset.sum_congr rfl fun k _ => congrArg₂ (fun a b : EReal => a * b) ?_ ?_
  · exact normed_rows m c (source t) ((win0_4.rect t).emb j 0) (j 0) (by rw [hs]; exact q0.trans (by omega)) k
  · show m ((c : Thread nD τ).loc main_arg2) ((win0_2.rect t).emb (atOne k (j 1))) = _
    refine congrArg _ (funext fun a => Fin.ext ?_)
    refine (Pipeline.Window.rect_emb_val win0_2 t _ a rfl).trans ?_
    match a with
    | ⟨0, _⟩ => show win0_2.index t 0 * win0_2.size 0 + 0 = 0
                rw [b0]
    | ⟨1, _⟩ => show win0_2.index t 1 * win0_2.size 1 + 0 = ((win0_4.rect t).emb j 1 : ℕ) / 1280
                rw [b1, q1]; omega
    | ⟨2, _⟩ => show win0_2.index t 2 * win0_2.size 2 + k.val = k.val
                rw [b2]; omega
    | ⟨3, _⟩ => show win0_2.index t 3 * win0_2.size 3 + (j 1 : ℕ) = ((win0_4.rect t).emb j 1 : ℕ) % 1280
                rw [b3, q1]; omega

theorem written5 (c : Dev nD) (t : Fin cfg0.N) :
    (dats m 0 c).flushed 5 t = (win0_5.blk t).view.read (Elt Ideal)
      (normed (m ((c : Thread nD τ).loc main_arg0)) (m ((c : Thread nD τ).loc main_arg1))) := by
  show (cfg0.win 5).cut (grid0.coords t) ((dats m 0 c).after 5 t) = _
  rw [after5]
  funext j
  refine (pay_norm (iblk m c 0 (latest t)) (iblk m c 1 (latest t)) j).trans ?_
  show _ = normed (m ((c : Thread nD τ).loc main_arg0)) (m ((c : Thread nD τ).loc main_arg1)) ((win0_5.rect t).emb j)
  obtain ⟨e0, -, e1, -⟩ := place5 t
  have q0 : (((win0_5.rect t).emb j 0 : _) : ℕ) = min t.val 1 * 1024 + (j 0 : ℕ) := by rw [Pipeline.Window.rect_emb_val win0_5 t j 0 rfl, e0]
  have q1 : (win0_5.rect t).emb j 1 = j 1 := Fin.ext (by rw [Pipeline.Window.rect_emb_val win0_5 t j 1 rfl, e1]; exact Nat.zero_add _)
  have hs : (latest t).val = min t.val 1 := rfl
  refine (normed_rows m c (latest t) ((win0_5.rect t).emb j 0) (j 0) (by rw [hs]; exact q0.trans (by omega)) (j 1)).trans ?_
  exact congrArg (norm _ _ _) q1.symm

/-- The arrays after the run. -/
theorem final4 (c : Dev nD) : (dats m 0 c).arrAt 4 cfg0.N
    = proj (m ((c : Thread nD τ).loc main_arg0)) (m ((c : Thread nD τ).loc main_arg1)) (m ((c : Thread nD τ).loc main_arg2)) :=
  (dats m 0 c).arrAt_eq_of_cover 4 _ (fun t _ => written4 m c t) cover4
theorem final5 (c : Dev nD) : (dats m 0 c).arrAt 5 cfg0.N
    = normed (m ((c : Thread nD τ).loc main_arg0)) (m ((c : Thread nD τ).loc main_arg1)) :=
  (dats m 0 c).arrAt_eq_of_cover 5 _ (fun t _ => written5 m c t) cover5

end

section

open Cert.Reference12Ideal Cert.Reference12Ideal.Gen Cert.Product Cert.Norm

/-- The reference's weights: the shards side by side. -/
theorem beside (w : FVec Ideal S1x4x1024x1280 .bf16) (k : Fin 1024) (l : Fin 5120) :
    (extf .f32 (shapeCast S1024x5120 (transpose S1024x4x1280 [1, 0, 2] (shapeCast S4x1024x1280 w Facts₀.shapeCasts_S1x4x1024x1280_S4x1024x1280)
      Facts₀.transposes_S4x1024x1280_S1024x4x1280_1_0_2) Facts₀.shapeCasts_S1024x4x1280_S1024x5120) Facts₀.bitsLt_bf16_f32 : FVec Ideal S1024x5120 .f32) (at2 k l)
      = w (atShard ⟨l.val / 1280, by have := l.isLt; omega⟩ k ⟨l.val % 1280, Nat.mod_lt _ (by decide)⟩) := by
  have hl : l.val < 5120 := l.isLt
  have hj : l.val / 1280 < 4 := by omega
  have hm : l.val % 1280 < 1280 := Nat.mod_lt _ (by decide)
  refine (ValueIdx.extf_apply (φ := .bf16) (ψ := .f32) _ Facts₀.bitsLt_bf16_f32 _).trans ?_
  refine (shapeCast_apply _ Facts₀.shapeCasts_S1024x4x1280_S1024x5120 (at2 k l : S1024x5120.Idx) (ix3 k ⟨l.val / 1280, hj⟩ ⟨l.val % 1280, hm⟩ : S1024x4x1280.Idx) ?_).trans ?_
  · rw [rowMajor_val2 _ 5120 rfl, rowMajor_val3 _ (4 * 1280) 1280 rfl rfl]
    show k.val * (4 * 1280) + l.val / 1280 * 1280 + l.val % 1280 = k.val * 5120 + l.val
    omega
  refine (transpose_apply (s := S4x1024x1280) (t := S1024x4x1280) [1, 0, 2] _ Facts₀.transposes_S4x1024x1280_S1024x4x1280_1_0_2 _ (ix3 ⟨l.val / 1280, hj⟩ k ⟨l.val % 1280, hm⟩ : S4x1024x1280.Idx) ?_).trans ?_
  · intro b
    match b with
    | ⟨0, _⟩ => rfl
    | ⟨1, _⟩ => rfl
    | ⟨2, _⟩ => rfl
  refine shapeCast_apply w Facts₀.shapeCasts_S1x4x1024x1280_S4x1024x1280 _ _ ?_
  rw [rowMajor_val3 _ (1024 * 1280) 1280 rfl rfl, rowMajor_val4 _ (4 * (1024 * 1280)) (1024 * 1280) 1280 rfl rfl rfl]
  show 0 * (4 * (1024 * 1280)) + l.val / 1280 * (1024 * 1280) + k.val * 1280 + l.val % 1280 = l.val / 1280 * (1024 * 1280) + k.val * 1280 + l.val % 1280
  omega

/-- The reference's normalised input. -/
def plainNorm (h : FVec Ideal S2048x1024 .f32) (g : FVec Ideal S2x1x1024 .f32) : FVec Ideal S2048x1024 .f32 :=
  mulf (mulf h (broadcastInDim S2048x1024 ![0, 1] Facts₀.bcast_S2048x1_S2048x1024_0_1 (Host.rsqrt (addf (Host.divf (broadcastInDim S2048x1 ![0] Facts₀.bcast_S2048_S2048x1_0
      (Host.reduceAdd (mulf h h) (constant S_ .f32 0x00000000#32) Facts₀.reducesTo_S2048x1024_S2048_d1 Facts₀.h_S_))
    (broadcastInDim S2048x1 ![] Facts₀.bcast_S_S2048x1 (constant S_ .f32 0x44800000#32))) (broadcastInDim S2048x1 ![] Facts₀.bcast_S_S2048x1 (constant S_ .f32 0x358637BD#32))))))
    (broadcastInDim S2048x1024 ![0, 1] Facts₀.bcast_S1x1024_S2048x1024_0_1
      (shapeCast S1x1024 (extractStridedSlice S1x1x1024 ![0, 0, 0] g Facts₀.slices_S2x1x1024_S1x1x1024_0_0_0) Facts₀.shapeCasts_S1x1x1024_S1x1024))

theorem plainNorm_apply (h : FVec Ideal S2048x1024 .f32) (g : FVec Ideal S2x1x1024 .f32) (i : S2048x1024.Idx) :
    plainNorm h g i = norm h (scale g) (i 0) (i 1) :=
  host h g _ _ _ _ _ _ _ _ i

theorem plain5 (h : FVec Ideal S2048x1024 .f32) (g : FVec Ideal S2x1x1024 .f32) :
    (truncf .bf16 (plainNorm h g) Facts₀.bitsLt_bf16_f32 : FVec Ideal S2048x1024 .bf16) = normed h g :=
  funext fun i => (ValueIdx.truncf_apply (φ := .f32) (ψ := .bf16) _ Facts₀.bitsLt_bf16_f32 i).trans (plainNorm_apply h g i)

theorem plain4 (h : FVec Ideal S2048x1024 .f32) (g : FVec Ideal S2x1x1024 .f32) (w : FVec Ideal S1x4x1024x1280 .bf16) :
    Host.dotGeneral dot_S2048x1024_S1024x5120_S2048x5120_1_0_0_1_n_n none (plainNorm h g)
      (extf .f32 (shapeCast S1024x5120 (transpose S1024x4x1280 [1, 0, 2] (shapeCast S4x1024x1280 w Facts₀.shapeCasts_S1x4x1024x1280_S4x1024x1280)
        Facts₀.transposes_S4x1024x1280_S1024x4x1280_1_0_2) Facts₀.shapeCasts_S1024x4x1280_S1024x5120) Facts₀.bitsLt_bf16_f32 : FVec Ideal S1024x5120 .f32)
      = proj h g w := by
  funext i
  refine (dot_usual (K := 1024) (n := 2048) (m := 5120) none _ _ _ i).trans ?_
  exact Finset.sum_congr rfl fun k _ => congrArg₂ (fun a b : EReal => a * b) (plainNorm_apply h g _) (beside w k (i 1))

end

/-- The call and the plain norm and product end with equal results. -/
theorem algebraic : Cert.algebraic_Kernel12Ideal_Reference12Ideal := by
  intro m ρ m' ρ' _ hagree
  refine ⟨_, _, (θ_run Cert.Kernel12Ideal.defs _ _).mono (fun _ h c => ⟨(h c).1.trans (final4 m c), (h c).2.1.trans (final5 m c), (h c).2.2⟩)
    (run_blocks (F := Ideal) m ρ), ?_⟩
  refine (θ_run Cert.Reference12Ideal.defs _ _).mono (fun _ h c => ⟨(h c).1.trans ?_, (h c).2.1.trans ?_, (h c).2.2⟩)
    (Cert.Reference12Ideal.Value.run (F := Ideal) m' ρ')
  · rw [(hagree c).1, (hagree c).2.1, (hagree c).2.2.1]
    exact plain4 _ _ _
  · rw [(hagree c).1, (hagree c).2.1]
    exact plain5 _ _

end Cert.Into12

end
-- ==== Proof.InRun13.lean ====
/-
The call that normalises a layer's input and multiplies it with the projection's weights: what the body leaves at each point of
its grid, and the run.
-/
module

public import proofs.«01_k».proof.Defs
public import proofs.«01_k».proof.Proof.Gen.Kernel13Ideal.Frame
public import proofs.«01_k».proof.Proof.Gen.Kernel13Ideal.Skeleton
public import Idealize.ShloMosaic.Lib.VecWindow
public import Idealize.ShloMosaic.Lib.WholeRead
public import Idealize.ShloMosaic.Lib.Pipeline.TableIdle
public import Idealize.ShloMosaic.Lib.Claim

@[expose] public section

set_option maxRecDepth 16384

noncomputable section

namespace Cert.Into13

open Cert.Kernel13Ideal Cert.Kernel13Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 1000000 in
/-- The body where it normalises: the normalised block goes to its output and into the carried scratch, and the product is of that
    block. -/
theorem run_first (c : Dev nD) (i : grid0.Coords) (arg2 : Memref sig .tc .vmem S1024x1024 .f32) (harg2 : arg2.IsWhole) (arg3 : Memref sig .tc .vmem S1x1x1024 .f32) (harg3 : arg3.IsWhole) (arg4 : Memref sig .tc .vmem S1x1x1024x768 .bf16) (harg4 : arg4.IsWhole) (arg5 : Memref sig .tc .vmem S8x128 .f32) (harg5 : arg5.IsWhole) (arg6 : Memref sig .tc .vmem S1024x768 .f32) (harg6 : arg6.IsWhole) (arg7 : Memref sig .tc .vmem S1024x1024 .bf16) (harg7 : arg7.IsWhole) (arg8 : Memref sig .tc .vmem S2x1024x1024 .bf16) (harg8 : arg8.IsWhole) (hc0 : k0_cond1 i = 1#1)
    (x0 : Vec F S1024x1024 .f32) (x1 : Vec F S1x1x1024 .f32) (x2 : Vec F S1x1x1024x768 .bf16) (x3 : Vec F S8x128 .f32) (d : Vec F S2x1024x1024 .bf16) :
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ (∃ d, owns (c : Thread nD τ) arg6 fullShare d) ∗ (∃ d, owns (c : Thread nD τ) arg7 fullShare d) ∗ owns (c : Thread nD τ) arg8 fullShare d
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare (k0_pay3 (k0_pay2 x0 x1) x2) ∗ owns (c : Thread nD τ) arg7 fullShare (k0_pay1 x0 x1) ∗ owns (c : Thread nD τ) arg8 fullShare (VecWindow.put d (k0_off1 i) S1x1024x1024.size (k0_pay2 x0 x1))) -∗ K ⟨⟩))
          ⊢ wp frame (wpE (defs₀ (F := F)) Variants.none c none) E (cc0_in_proj_odd i arg2 harg2 arg3 harg3 arg4 harg4 arg5 harg5 arg6 harg6 arg7 harg7 arg8 harg8) K := by
  intro E K
  simp only [cc0_in_proj_odd_eq_skeleton]; unfold cc0_in_proj_odd_skel
  unfold owns
  iintro ⟨⟨%f0, %hf0, H0⟩, ⟨%f1, %hf1, H1⟩, ⟨%f2, %hf2, H2⟩, ⟨%f3, %hf3, H3⟩, ⟨%d4, %f4, -, H4⟩, ⟨%d5, %f5, -, H5⟩, ⟨%fs0, %hs0, HS0⟩, Hk⟩
  subst hf0 hf1 hf2 hf3 hs0
  sl_exec (disch := first | sl_exact hc0)
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists _; isplitr; swap; · iexact H4
    ipureintro
    rw [View.read_writes_full]
    unfold run_first.sl.v4 run_first.sl.HS0_1 View.readCov
    rw [View.readAt_unit _ _ _ rfl (k0_off2_inb i), View.read_writes_cons_put _ _ _ _ _ rfl, View.readAt_full, View.readAt_full, View.readAt_full]
    exact congrArg (k0_pay3 · _) (VecWindow.window_put_same _ _ _ _ _)
  isplitl [H5]
  · iexists _; isplitr; swap; · iexact H5
    ipureintro
    rw [View.read_writes_full, View.readAt_full, View.readAt_full]
  iexists _; isplitr; swap; · iexact HS0
  ipureintro
  unfold run_first.sl.HS0_1
  rw [View.read_writes_cons_put _ _ _ _ _ rfl, View.readAt_full, View.readAt_full]
  rfl

set_option maxHeartbeats 1000000 in
/-- The body elsewhere: the product is of the block held in the scratch, and the other output is left as it was. -/
theorem run_later (c : Dev nD) (i : grid0.Coords) (arg2 : Memref sig .tc .vmem S1024x1024 .f32) (harg2 : arg2.IsWhole) (arg3 : Memref sig .tc .vmem S1x1x1024 .f32) (harg3 : arg3.IsWhole) (arg4 : Memref sig .tc .vmem S1x1x1024x768 .bf16) (harg4 : arg4.IsWhole) (arg5 : Memref sig .tc .vmem S8x128 .f32) (harg5 : arg5.IsWhole) (arg6 : Memref sig .tc .vmem S1024x768 .f32) (harg6 : arg6.IsWhole) (arg7 : Memref sig .tc .vmem S1024x1024 .bf16) (harg7 : arg7.IsWhole) (arg8 : Memref sig .tc .vmem S2x1024x1024 .bf16) (harg8 : arg8.IsWhole) (hc0 : ¬ k0_cond1 i = 1#1)
    (x0 : Vec F S1024x1024 .f32) (x1 : Vec F S1x1x1024 .f32) (x2 : Vec F S1x1x1024x768 .bf16) (x3 : Vec F S8x128 .f32) (y : Vec F S1024x1024 .bf16) (d : Vec F S2x1024x1024 .bf16) :
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ (∃ d, owns (c : Thread nD τ) arg6 fullShare d) ∗ owns (c : Thread nD τ) arg7 fullShare y ∗ owns (c : Thread nD τ) arg8 fullShare d
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare (k0_pay3 (VecWindow.window d (k0_off2 i) S1x1024x1024.size (k0_off2_inb i)) x2) ∗ owns (c : Thread nD τ) arg7 fullShare y ∗ owns (c : Thread nD τ) arg8 fullShare d) -∗ K ⟨⟩))
          ⊢ wp frame (wpE (defs₀ (F := F)) Variants.none c none) E (cc0_in_proj_odd i arg2 harg2 arg3 harg3 arg4 harg4 arg5 harg5 arg6 harg6 arg7 harg7 arg8 harg8) K := by
  intro E K
  simp only [cc0_in_proj_odd_eq_skeleton]; unfold cc0_in_proj_odd_skel
  unfold owns
  iintro ⟨⟨%f0, %hf0, H0⟩, ⟨%f1, %hf1, H1⟩, ⟨%f2, %hf2, H2⟩, ⟨%f3, %hf3, H3⟩, ⟨%d4, %f4, -, H4⟩, ⟨%f5, %hf5, H5⟩, ⟨%fs0, %hs0, HS0⟩, Hk⟩
  subst hf0 hf1 hf2 hf3 hf5 hs0
  sl_exec (disch := first | sl_exact hc0)
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists _; isplitr; swap; · iexact H4
    ipureintro
    rw [View.read_writes_full, View.readAt_full]
    rfl
  isplitl [H5]
  · iexists f5; isplitr; · ipureintro; rfl
    iexact H5
  iexists fs0; isplitr; · ipureintro; rfl
  iexact HS0

/-! ## The points -/

/-- The body normalises at the first two points: one for each of the two blocks of rows. -/
theorem normalises : ∀ t : Fin cfg0.N, k0_cond1 (grid0.coords t) = 1#1 ↔ t.val < 2 :=
  (fun t => by
    have ht : t.val < 8 := Nat.lt_of_lt_of_eq t.isLt N_0
    have e0 : (grid0.coords t 0).val = t.val / 2 % 4 := Pipeline.Grid.coords_val t 0 (by decide) rfl
    have e1 : (grid0.coords t 1).val = t.val / 1 % 2 := Pipeline.Grid.coords_val t 1 (by decide) rfl
    simp only [k0_cond1, e0, e1]
    word_cmp
   : ∀ t : Fin grid0.N, k0_cond1 (grid0.coords t) = 1#1 ↔ t.val < 2)

/-- The point that normalised the block of rows of point `t`. -/
def source (t : Fin cfg0.N) : Fin cfg0.N := ⟨t.val % 2, Nat.lt_of_lt_of_eq (Nat.lt_of_lt_of_le (Nat.mod_lt _ (by decide)) (by decide : 2 ≤ 8)) N_0.symm⟩
/-- The last point up to `t` that normalised. -/
def latest (t : Fin cfg0.N) : Fin cfg0.N := ⟨min t.val 1, Nat.lt_of_le_of_lt (Nat.min_le_left _ _) t.isLt⟩

theorem source_of_lt (t : Fin cfg0.N) (h : t.val < 2) : source t = t := Fin.ext (Nat.mod_eq_of_lt h)
theorem latest_of_lt (t : Fin cfg0.N) (h : t.val < 2) : latest t = t := Fin.ext (Nat.min_eq_left (Nat.le_of_lt_succ h))

theorem slot_source : ∀ t : Fin cfg0.N, k0_off2 (grid0.coords t) = k0_off1 (grid0.coords (source t)) :=
  (by decide +kernel : ∀ t : Fin grid0.N, k0_off2 (grid0.coords t) = k0_off1 (grid0.coords (source t)))
theorem slot_apart : ∀ s t : Fin cfg0.N, s.val < t.val → t.val < 2 →
    k0_off1 (grid0.coords s) 0 + 1 ≤ k0_off1 (grid0.coords t) 0 :=
  (by decide +kernel : ∀ s t : Fin grid0.N, s.val < t.val → t.val < 2 → k0_off1 (grid0.coords s) 0 + 1 ≤ k0_off1 (grid0.coords t) 0)
theorem slot_inside : ∀ s : Fin cfg0.N, ∀ a, k0_off1 (grid0.coords s) a + S1x1024x1024.size a ≤ S2x1024x1024.size a :=
  (by decide +kernel : ∀ s : Fin grid0.N, ∀ a, k0_off1 (grid0.coords s) a + S1x1024x1024.size a ≤ S2x1024x1024.size a)

theorem stored5 : ∀ t : Fin cfg0.N, 2 ≤ t.val → cfg0.fresh 5 t.val = false :=
  (by decide +kernel : ∀ t : Fin grid0.N, 2 ≤ t.val → cfg0.fresh 5 t.val = false)
theorem idle5 (t : Fin cfg0.N) : cfg0.idle 5 (grid0.coords t) = !decide (t.val < 2) := by
  show (!(k0_cond1 (grid0.coords t) == 1#1)) = _
  by_cases h : t.val < 2
  · rw [(normalises t).mpr h, decide_eq_true h]; rfl
  · rw [decide_eq_false h, beq_eq_false_iff_ne.mpr fun e => h ((normalises t).mp e)]

/-! ## The proof data -/

/-- The normalised block of rows that point `s` puts into the scratch. -/
def block (c : Dev nD) (s : Fin cfg0.N) : Vec F S1x1024x1024 .bf16 := k0_pay2 (iblk m c 0 s) (iblk m c 1 s)

/-- What the scratch holds before point `n`: the blocks of the points before it that normalised. -/
def held (c : Dev nD) (n : ℕ) (d : Vec F S2x1024x1024 .bf16) : Prop :=
  ∀ s : Fin cfg0.N, s.val < n → s.val < 2 → VecWindow.window d (k0_off1 (grid0.coords s)) S1x1024x1024.size (slot_inside s) = block m c s

theorem held_put (c : Dev nD) (t : Fin cfg0.N) (ht : t.val < 2) (d : Vec F S2x1024x1024 .bf16) (h : held m c t.val d) :
    held m c (t.val + 1) (VecWindow.put d (k0_off1 (grid0.coords t)) S1x1024x1024.size (block m c t)) := fun s hs h2 => by
  by_cases e : s = t
  · subst e; exact VecWindow.window_put_same _ _ _ _ _
  · have hlt : s.val < t.val := by have : s.val ≠ t.val := fun h => e (Fin.ext h); omega
    refine (VecWindow.window_put_of_disjoint _ _ _ _ _ _ _ (0 : Fin 3) (.inl (slot_apart s t hlt ht))).trans (h s hlt h2)

theorem held_later (c : Dev nD) (t : Fin cfg0.N) (ht : 2 ≤ t.val) (d : Vec F S2x1024x1024 .bf16) (h : held m c t.val d) :
    held m c (t.val + 1) d := fun s _ h2 => h s (by omega) h2

theorem window_of_eq (d : Vec F S2x1024x1024 .bf16) (size) {off off' : Fin 3 → ℕ} (e : off = off') (inb) (inb') :
    VecWindow.window d off size inb = VecWindow.window d off' size inb' := by
  subst e; rfl

theorem held_window (c : Dev nD) (t : Fin cfg0.N) (ht : 2 ≤ t.val) (d : Vec F S2x1024x1024 .bf16) (h : held m c t.val d) :
    VecWindow.window d (k0_off2 (grid0.coords t)) S1x1024x1024.size (k0_off2_inb (grid0.coords t)) = block m c (source t) := by
  have hs : (source t).val < 2 := Nat.mod_lt _ (by decide)
  exact (window_of_eq d _ (slot_source t) _ _).trans (h (source t) (by omega) hs)

/-- The invariant between the points: the scratch with what it holds, and the generator register. -/
def Φ (c : Dev nD) (n : ℕ) : sProp 𝕄 :=
  iprop((∃ d, ⌜held m c n d⌝ ∗ owns (c : Thread nD τ) (Memref.whole cc0_scratch0 : Memref sig .tc .vmem S2x1024x1024 .bf16) fullShare d) ∗ (∃ r, prngReg c r))

/-- The proof data: the arrays as the region finds them; after point `t` each input's buffer at its block, the product's at the
    product of the normalised block of `t`'s rows, the other output's at the block normalised last. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => k0_pay3 (block m c (source t)) (iblk m c 2 t)
    | ⟨5, _⟩ => k0_pay1 (iblk m c 0 (latest t)) (iblk m c 1 (latest t))
  Φ t := Φ m c t.val
  q _ := fullShare
  owed _ := 0

theorem A_eq (c : Dev nD) (w : Fin cfg0.W) : (dats m 0 c).A w = V m c (Pipeline.arrRef spec0 w) := by
  dsimp only [dats]

theorem after0 (c : Dev nD) (t : Fin cfg0.N) : (dats m 0 c).after 0 t = iblk m c 0 t := by dsimp only [dats]
theorem after1 (c : Dev nD) (t : Fin cfg0.N) : (dats m 0 c).after 1 t = iblk m c 1 t := by dsimp only [dats]
theorem after2 (c : Dev nD) (t : Fin cfg0.N) : (dats m 0 c).after 2 t = iblk m c 2 t := by dsimp only [dats]
theorem after3 (c : Dev nD) (t : Fin cfg0.N) : (dats m 0 c).after 3 t = iblk m c 3 t := by dsimp only [dats]
theorem after4 (c : Dev nD) (t : Fin cfg0.N) : (dats m 0 c).after 4 t = k0_pay3 (block m c (source t)) (iblk m c 2 t) := by dsimp only [dats]
theorem after5 (c : Dev nD) (t : Fin cfg0.N) : (dats m 0 c).after 5 t = k0_pay1 (iblk m c 0 (latest t)) (iblk m c 1 (latest t)) := by dsimp only [dats]

theorem before0 (c : Dev nD) (t : Fin cfg0.N) (d) : (dats m 0 c).before 0 t d = iblk m c 0 t :=
  before0_0_of m (dats m 0 c) (A_eq m c 0) (after0 m c) t d
theorem before1 (c : Dev nD) (t : Fin cfg0.N) (d) : (dats m 0 c).before 1 t d = iblk m c 1 t :=
  before0_1_of m (dats m 0 c) (A_eq m c 1) (after1 m c) t d
theorem before2 (c : Dev nD) (t : Fin cfg0.N) (d) : (dats m 0 c).before 2 t d = iblk m c 2 t :=
  before0_2_of m (dats m 0 c) (A_eq m c 2) (after2 m c) t d
theorem before3 (c : Dev nD) (t : Fin cfg0.N) (d) : (dats m 0 c).before 3 t d = iblk m c 3 t :=
  before0_3_of m (dats m 0 c) (A_eq m c 3) (after3 m c) t d

theorem after5_carried (c : Dev nD) (t : Fin cfg0.N) (h : 2 ≤ t.val) :
    (dats m 0 c).after 5 t = (dats m 0 c).after 5 ⟨t.val - 1, by omega⟩ := by
  rw [after5, after5, show latest t = latest ⟨t.val - 1, by omega⟩ from Fin.ext (by show min t.val 1 = min (t.val - 1) 1; omega)]

/-- Past the first two points the second output's buffer holds the block normalised last. -/
theorem before5 (c : Dev nD) (t : Fin cfg0.N) (h : 2 ≤ t.val) (d) : (dats m 0 c).before 5 t d = (dats m 0 c).after 5 t := by
  have e := (dats m 0 c).before_out_traj 5 rfl (fun _ _ => rfl) (fun t _ hi _ => after5_carried m c t (by
    have hi' := hi
    rw [idle5 t] at hi'
    by_contra hlt
    rw [decide_eq_true (show t.val < 2 by omega)] at hi'
    exact Bool.false_ne_true hi')) t.val t rfl d
  rw [stored5 t h, if_neg Bool.false_ne_true] at e
  exact e.trans (after5_carried m c t h).symm

/-! ## The body at a point -/

def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d)))

def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t)
    ∗ (dats m 0 c).leavesExact 5 t)

/-- The second output's buffer at the block normalised last is what the body is to leave there, whether or not it stores. -/
theorem leaves5 (c : Dev nD) (t : Fin cfg0.N) :
    owns (c : Thread nD τ) (st0_5 t) fullShare ((dats m 0 c).after 5 t) ⊢ ((dats m 0 c).leavesExact 5 t : sProp 𝕄) := by
  unfold Dat.leavesExact
  rw [idle5 t]
  by_cases h : t.val < 2
  · rw [decide_eq_true h]; exact .rfl
  · rw [decide_eq_false h]
    cases (cfg0.win 5).flush t
    · show _ ⊢ iprop(∃ d, owns (c : Thread nD τ) (st0_5 t) fullShare ((dats m 0 c).before 5 t d))
      iintro H
      iexists (dats m 0 c).after 5 t
      rw [before5 m c t (by omega)]
      iexact H
    · exact .rfl

set_option maxHeartbeats 800000 in
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0, before1, before2, before3]
  rw [show (dats m 0 c).owesAt () t.succ = (dats m 0 c).owesAt () t.castSucc from rfl,
    after0, after1, after2, after3, after4,
    show (dats m 0 c).Φ t.castSucc = Φ m c t.val from rfl, show (dats m 0 c).Φ t.succ = Φ m c (t.val + 1) from rfl]
  unfold Φ
  by_cases h : t.val < 2
  · iintro ⟨⟨⟨%d, %hd, HS⟩, Hg⟩, Ho, ⟨%d0, H0⟩, ⟨%d1, H1⟩, ⟨%d2, H2⟩, ⟨%d3, H3⟩, ⟨%d4, H4⟩, ⟨%d5, H5⟩⟩
    iapply (run_first c (grid0.coords t) _ _ _ _ _ _ _ _ _ _ _ _ _ _ ((normalises t).mpr h) (iblk m c 0 t) (iblk m c 1 t) (iblk m c 2 t) (iblk m c 3 t) d Set.univ _)
    isplitl [H0]; · iexact H0
    isplitl [H1]; · iexact H1
    isplitl [H2]; · iexact H2
    isplitl [H3]; · iexact H3
    isplitl [H4]; · iexists _; iexact H4
    isplitl [H5]; · iexists _; iexact H5
    isplitl [HS]; · iexact HS
    iintro ⟨H0, H1, H2, H3, H4, H5, HS⟩
    isplitl [HS Hg]
    · isplitl [HS]
      · iexists _; isplitr; swap; · iexact HS
        ipureintro
        exact held_put m c t h d hd
      iexact Hg
    isplitl [Ho]; · iexact Ho
    isplitl [H0]; · iexact H0
    isplitl [H1]; · iexact H1
    isplitl [H2]; · iexact H2
    isplitl [H3]; · iexact H3
    isplitl [H4]
    · rw [source_of_lt t h]; iexact H4
    iapply (leaves5 m c t)
    rw [after5, latest_of_lt t h]
    iexact H5
  · iintro ⟨⟨⟨%d, %hd, HS⟩, Hg⟩, Ho, ⟨%d0, H0⟩, ⟨%d1, H1⟩, ⟨%d2, H2⟩, ⟨%d3, H3⟩, ⟨%d4, H4⟩, ⟨%d5, H5⟩⟩
    iapply (run_later c (grid0.coords t) _ _ _ _ _ _ _ _ _ _ _ _ _ _ (fun e => h ((normalises t).mp e)) (iblk m c 0 t) (iblk m c 1 t) (iblk m c 2 t) (iblk m c 3 t) ((dats m 0 c).before 5 t d5) d Set.univ _)
    isplitl [H0]; · iexact H0
    isplitl [H1]; · iexact H1
    isplitl [H2]; · iexact H2
    isplitl [H3]; · iexact H3
    isplitl [H4]; · iexists _; iexact H4
    isplitl [H5]; · iexact H5
    isplitl [HS]; · iexact HS
    rw [held_window m c t (by omega) d hd, before5 m c t (by omega)]
    iintro ⟨H0, H1, H2, H3, H4, H5, HS⟩
    isplitl [HS Hg]
    · isplitl [HS]
      · iexists d; isplitr; swap; · iexact HS
        ipureintro
        exact held_later m c t (by omega) d hd
      iexact Hg
    isplitl [Ho]; · iexact Ho
    isplitl [H0]; · iexact H0
    isplitl [H1]; · iexact H1
    isplitl [H2]; · iexact H2
    isplitl [H3]; · iexact H3
    isplitl [H4]; · iexact H4
    iapply (leaves5 m c t)
    iexact H5

theorem defs₀_row (t : Fin cfg0.N) :
    defs₀ (F := F) .tc cfg0.body (cfg0.bodyArgs t (cfg0.slots t)) = bodyAt0 t := by
  unfold defs₀; rw [Defs.onTc_tc]

theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

/-! ## The run -/

theorem scratch_eq (c : Dev nD) :
    (Pipeline.ΦA spec0 c : sProp 𝕄)
      = iprop(iprop((∃ d, owns (c : Thread nD τ) (Memref.whole cc0_scratch0 : Memref sig .tc .vmem S2x1024x1024 .bf16) fullShare d)) ∗ (∃ r, prngReg c r)) := by
  unfold Pipeline.ΦA; rw [scopedRest0_eq]; simp only [owns_whole]; try rfl

theorem enters (c : Dev nD) : (Pipeline.ΦA spec0 c : sProp 𝕄) ⊢ (dats m 0 c).Φ 0 := by
  rw [show (dats m 0 c).Φ 0 = Φ m c 0 from rfl, scratch_eq]
  unfold Φ
  iintro ⟨⟨%d, HS⟩, Hg⟩
  isplitl [HS]
  · iexists d; isplitr; swap; · iexact HS
    ipureintro
    exact fun s hs _ => absurd hs (Nat.not_lt_zero _)
  iexact Hg

theorem leaves (c : Dev nD) : (dats m 0 c).Φ (Fin.last cfg0.N) ⊢ (Pipeline.ΦA spec0 c : sProp 𝕄) := by
  rw [show (dats m 0 c).Φ (Fin.last cfg0.N) = Φ m c cfg0.N from rfl, scratch_eq]
  unfold Φ
  iintro ⟨⟨%d, %hd, HS⟩, Hg⟩
  isplitl [HS]
  · iexists d; iexact HS
  iexact Hg

-- the launch's implicit arguments are found by unifying its conclusion with this one, which takes unfolding plain definitions
set_option backward.isDefEq.respectTransparency.types false in
set_option maxHeartbeats 800000 in
theorem run_all : θ_run defs (onTc (τ := τ) (main (F := F))) (s₀ m ρ) (fun r => (Pipeline.FramePost cfgs (dats m) 0 (V m)) r ∧ r.2.sem = fun _ => 0) :=
  Pipeline.θ_run_frame_track (Q' := _) cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hin := enters m) (hout := leaves m)

/-- The kernel runs to the end and leaves its arguments as they were. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3))
      ∧ r.2.sem = fun _ => 0) :=
  θ_run_and (frame_of m ρ (dats m) (A_eq m) ((θ_run defs _ _).mono (fun _ h => h.1) (run_all m ρ)))
    ((θ_run defs _ _).mono (fun _ h => h.2) (run_all m ρ))

/-- The kernel's outputs, as the write-backs of its blocks. -/
theorem run_blocks : θ_run defs (onTc (τ := τ) (main (F := F))) ⟨m, fun _ => 0, ρ⟩ (fun r => ∀ c : Dev nD,
      r.2.mem ((c.tc : Thread nD τ).loc main_v0_0) = (dats m 0 c).arrAt 4 cfg0.N
      ∧ r.2.mem ((c.tc : Thread nD τ).loc main_v0_1) = (dats m 0 c).arrAt 5 cfg0.N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  (θ_run defs _ _).mono (fun r h c => ⟨(h.1.1 c).1 4, (h.1.1 c).1 5, h.2.1 c⟩)
    (θ_run_and (run_all m ρ) (frame m ρ))

end Cert.Into13

end
-- ==== Proof.Machine13.lean ====
module

public import proofs.«01_k».proof.Proof.InRun13
public import proofs.«01_k».proof.Proof.Gen.Kernel13.Frame

/-!
The kernel on the machine's formats: its text is that of the kernel on extended reals, whose frame is proved for floats of any
kind, so it has the same frame.
-/

@[expose] public section

noncomputable section

open Idealize.ShloMosaic Idealize.ShloMosaic.TcCoe Idealize.SL Idealize.SL.Sem

namespace Cert.Machine13

open Cert.Kernel13 Cert.Kernel13.Gen

variable {F : FTy → Type} [FloatOps F]

/-- The two texts of the call are one. -/
theorem table₀ : Cert.Kernel13.defs₀ (F := F) = Cert.Kernel13Ideal.defs₀ (F := F) := by
  unfold Cert.Kernel13.defs₀ Cert.Kernel13Ideal.defs₀
  refine congrArg Defs.onTc ?_
  funext l x
  match l, x with
  | 0, (t, s) => rfl
theorem table : Cert.Kernel13.defs (F := F) = Cert.Kernel13Ideal.defs (F := F) := by
  unfold Cert.Kernel13.defs Cert.Kernel13Ideal.defs
  rw [table₀]
  rfl

/-- The kernel runs to the end and leaves its arguments as they were. -/
theorem frame (m : (ℓ : Loc nD τ sig) → Buf (Elt F) ℓ) (ρ : Dev nD → PrngReg) :
    θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3))
      ∧ r.2.sem = fun _ => 0) := by
  rw [table]
  exact Cert.Into13.frame m ρ

end Cert.Machine13

end
-- ==== Proof.Into13.lean ====
/-
The call that normalises a layer's input and multiplies it with the projection's weights, on odd layers: its two results are the
reference's.
-/
module

public import proofs.«01_k».proof.Defs
public import proofs.«01_k».proof.Proof.Norm
public import proofs.«01_k».proof.Proof.InRun13
public import proofs.«01_k».proof.Proof.Gen.Reference13Ideal.Run

@[expose] public section

noncomputable section

open Idealize.ShloMosaic Idealize.ShloMosaic.TcCoe Idealize.SL.Sem

namespace Cert.Into13

section

open Cert.Kernel13Ideal Cert.Kernel13Ideal.Gen Cert.Product Cert.Norm

variable (m : (ℓ : Loc nD τ sig) → Buf (Elt Ideal) ℓ)

/-- The index `(0, j, k, l)` of the weights: row `k` and column `l` of shard `j`. -/
def atShard (j : Fin 4) (k : Fin 1024) (l : Fin 768) : S1x4x1024x768.Idx := ix4 (0 : Fin 1) j k l
/-- The same of one shard's weights. -/
def atOne (k : Fin 1024) (l : Fin 768) : S1x1x1024x768.Idx := ix4 (0 : Fin 1) (0 : Fin 1) k l

/-- The weights of the norm. -/
def scale (g : FVec Ideal S2x1x1024 .f32) (c : Fin 1024) : EReal := g (ix3 0 0 c)

/-- The normalised input. -/
def normed (h : FVec Ideal S2048x1024 .f32) (g : FVec Ideal S2x1x1024 .f32) : FVec Ideal S2048x1024 .bf16 := fun i =>
  norm h (scale g) (i 0) (i 1)

/-- The projection: row `r`, column `j * 768 + l` is the product of row `r` of the normalised input with column `l` of shard `j`. -/
def proj (h : FVec Ideal S2048x1024 .f32) (g : FVec Ideal S2x1x1024 .f32) (w : FVec Ideal S1x4x1024x768 .bf16) : FVec Ideal S2048x3072 .f32 := fun i =>
  ∑ k : Fin 1024, norm h (scale g) (i 0) k * w (atShard ⟨(i 1).val / 768, by
    have h1 : (i 1 : ℕ) < 3072 := (i 1).isLt
    omega⟩ k ⟨(i 1).val % 768, Nat.mod_lt _ (by decide)⟩)

/-- What a point that normalises computes, at an index of its block. -/
theorem pay_norm (v : FVec Ideal S1024x1024 .f32) (g : FVec Ideal S1x1x1024 .f32) (j : S1024x1024.Idx) :
    k0_pay1 (F := Ideal) v g j = norm v (fun c => g (ix3 0 0 c)) (j 0) (j 1) := by
  unfold k0_pay1
  exact (ValueIdx.truncf_apply (φ := .f32) (ψ := .bf16) _ _ j).trans (kernel v g _ _ _ _ _ _ _ _ j)

/-- What every point computes, at an index of its block. -/
theorem pay_proj (v : FVec Ideal S1024x1024 .f32) (g : FVec Ideal S1x1x1024 .f32) (w : FVec Ideal S1x1x1024x768 .bf16) (j : S1024x768.Idx) :
    k0_pay3 (F := Ideal) (k0_pay2 (F := Ideal) v g) w j = ∑ k : Fin 1024, norm v (fun c => g (ix3 0 0 c)) (j 0) k * w (atOne k (j 1)) := by
  unfold k0_pay3
  refine (matmul_usual (K := 1024) (n := 1024) (m := 768) none _ _ _ j).trans ?_
  refine Finset.sum_congr rfl fun k _ => congrArg₂ (fun a b : EReal => a * b) ?_ ?_
  · unfold k0_pay2
    refine (shapeCast_apply _ _ (at2 (j 0) k : S1024x1024.Idx) (ix3 0 (j 0) k : S1x1024x1024.Idx) ?_).trans ?_
    · rw [rowMajor_val2 _ 1024 rfl, rowMajor_val3 _ (1024 * 1024) 1024 rfl rfl]
      show 0 * (1024 * 1024) + (j 0 : ℕ) * 1024 + (k : ℕ) = (j 0 : ℕ) * 1024 + (k : ℕ)
      omega
    refine (shapeCast_apply _ _ (ix3 0 (j 0) k : S1x1024x1024.Idx) (at2 (j 0) k : S1024x1024.Idx) ?_).trans (pay_norm v g _)
    rw [rowMajor_val2 _ 1024 rfl, rowMajor_val3 _ (1024 * 1024) 1024 rfl rfl]
    show (j 0 : ℕ) * 1024 + (k : ℕ) = 0 * (1024 * 1024) + (j 0 : ℕ) * 1024 + (k : ℕ)
    omega
  · refine shapeCast_apply _ _ (at2 k (j 1) : S1024x768.Idx) (atOne k (j 1)) ?_
    rw [rowMajor_val2 _ 768 rfl, rowMajor_val4 _ (1 * (1024 * 768)) (1024 * 768) 768 rfl rfl rfl]
    show 0 * (1 * (1024 * 768)) + 0 * (1024 * 768) + (k : ℕ) * 768 + (j 1 : ℕ) = (k : ℕ) * 768 + (j 1 : ℕ)
    omega

/-! ## Where the blocks of point `t` lie -/

theorem place0 : ∀ t : Fin cfg0.N, win0_0.index t 0 * win0_0.size 0 = min t.val 1 * 1024 ∧ win0_0.index t 1 * win0_0.size 1 = 0 :=
  (by decide +kernel : ∀ t : Fin grid0.N, win0_0.index t 0 * win0_0.size 0 = min t.val 1 * 1024 ∧ win0_0.index t 1 * win0_0.size 1 = 0)
theorem place1 : ∀ t : Fin cfg0.N, win0_1.index t 0 * win0_1.size 0 = 0 ∧ win0_1.index t 1 * win0_1.size 1 = 0 ∧ win0_1.index t 2 * win0_1.size 2 = 0 :=
  (by decide +kernel : ∀ t : Fin grid0.N, win0_1.index t 0 * win0_1.size 0 = 0 ∧ win0_1.index t 1 * win0_1.size 1 = 0 ∧ win0_1.index t 2 * win0_1.size 2 = 0)
theorem place2 : ∀ t : Fin cfg0.N, win0_2.index t 0 * win0_2.size 0 = 0 ∧ win0_2.index t 1 * win0_2.size 1 = t.val / 2
    ∧ win0_2.index t 2 * win0_2.size 2 = 0 ∧ win0_2.index t 3 * win0_2.size 3 = 0 :=
  (by decide +kernel : ∀ t : Fin grid0.N, win0_2.index t 0 * win0_2.size 0 = 0 ∧ win0_2.index t 1 * win0_2.size 1 = t.val / 2
    ∧ win0_2.index t 2 * win0_2.size 2 = 0 ∧ win0_2.index t 3 * win0_2.size 3 = 0)
theorem place4 : ∀ t : Fin cfg0.N, win0_4.index t 0 * win0_4.size 0 = t.val % 2 * 1024 ∧ win0_4.xsize (grid0.coords t) 0 = 1024
    ∧ win0_4.index t 1 * win0_4.size 1 = t.val / 2 * 768 ∧ win0_4.xsize (grid0.coords t) 1 = 768 :=
  (by decide +kernel : ∀ t : Fin grid0.N, win0_4.index t 0 * win0_4.size 0 = t.val % 2 * 1024 ∧ win0_4.xsize (grid0.coords t) 0 = 1024
    ∧ win0_4.index t 1 * win0_4.size 1 = t.val / 2 * 768 ∧ win0_4.xsize (grid0.coords t) 1 = 768)
theorem place5 : ∀ t : Fin cfg0.N, win0_5.index t 0 * win0_5.size 0 = min t.val 1 * 1024 ∧ win0_5.xsize (grid0.coords t) 0 = 1024
    ∧ win0_5.index t 1 * win0_5.size 1 = 0 ∧ win0_5.xsize (grid0.coords t) 1 = 1024 :=
  (by decide +kernel : ∀ t : Fin grid0.N, win0_5.index t 0 * win0_5.size 0 = min t.val 1 * 1024 ∧ win0_5.xsize (grid0.coords t) 0 = 1024
    ∧ win0_5.index t 1 * win0_5.size 1 = 0 ∧ win0_5.xsize (grid0.coords t) 1 = 1024)
/-- The second output's blocks are written back at the first point and at the last. -/
theorem writes5 : ∀ t : Fin cfg0.N, t.val = 0 ∨ t.val = 7 → (cfg0.win 5).flush t = true :=
  (by decide +kernel : ∀ t : Fin grid0.N, t.val = 0 ∨ t.val = 7 → win0_5.flush t = true)

/-! ## Every index lies in some point's block -/

theorem cover4 (i : S2048x3072.Idx) : ∃ t : Fin cfg0.N, (cfg0.win 4).flush t = true ∧ i ∈ ((cfg0.win 4).blk t).view.set := by
  have h0 : (i 0 : Nat) < 2048 := (i 0).isLt
  have h1 : (i 1 : Nat) < 3072 := (i 1).isLt
  obtain ⟨t, ht⟩ : ∃ t : Fin cfg0.N, t.val = (i 1 : Nat) / 768 * 2 + (i 0 : Nat) / 1024 :=
    ⟨⟨(i 1 : Nat) / 768 * 2 + (i 0 : Nat) / 1024, Nat.lt_of_lt_of_eq (by omega : _ < 8) N_0.symm⟩, rfl⟩
  refine ⟨t, flush0_4 t, ?_⟩
  show i ∈ ((View.whole main_v0_0).slice (win0_4.rect t)).set
  rw [View.set_slice_whole, Rect.mem_set_unit]
  obtain ⟨e0, s0, e1, s1⟩ := place4 t
  intro a
  match a with
  | ⟨0, _⟩ => show win0_4.index t 0 * win0_4.size 0 ≤ (i 0 : Nat) ∧ (i 0 : Nat) < win0_4.index t 0 * win0_4.size 0 + win0_4.xsize (grid0.coords t) 0
              rw [e0, s0]; omega
  | ⟨1, _⟩ => show win0_4.index t 1 * win0_4.size 1 ≤ (i 1 : Nat) ∧ (i 1 : Nat) < win0_4.index t 1 * win0_4.size 1 + win0_4.xsize (grid0.coords t) 1
              rw [e1, s1]; omega

theorem cover5 (i : S2048x1024.Idx) : ∃ t : Fin cfg0.N, (cfg0.win 5).flush t = true ∧ i ∈ ((cfg0.win 5).blk t).view.set := by
  have h0 : (i 0 : Nat) < 2048 := (i 0).isLt
  have h1 : (i 1 : Nat) < 1024 := (i 1).isLt
  obtain ⟨t, ht⟩ : ∃ t : Fin cfg0.N, t.val = (i 0 : Nat) / 1024 * 7 :=
    ⟨⟨(i 0 : Nat) / 1024 * 7, Nat.lt_of_lt_of_eq (by omega : _ < 8) N_0.symm⟩, rfl⟩
  refine ⟨t, writes5 t (by omega), ?_⟩
  show i ∈ ((View.whole main_v0_1).slice (win0_5.rect t)).set
  rw [View.set_slice_whole, Rect.mem_set_unit]
  obtain ⟨e0, s0, e1, s1⟩ := place5 t
  intro a
  match a with
  | ⟨0, _⟩ => show win0_5.index t 0 * win0_5.size 0 ≤ (i 0 : Nat) ∧ (i 0 : Nat) < win0_5.index t 0 * win0_5.size 0 + win0_5.xsize (grid0.coords t) 0
              rw [e0, s0]; omega
  | ⟨1, _⟩ => show win0_5.index t 1 * win0_5.size 1 ≤ (i 1 : Nat) ∧ (i 1 : Nat) < win0_5.index t 1 * win0_5.size 1 + win0_5.xsize (grid0.coords t) 1
              rw [e1, s1]; omega

/-! ## What the points write back -/

/-- The input's block at a point that normalises is the point's rows of the input. -/
theorem rows (c : Dev nD) (s : Fin cfg0.N) (R : Fin 2048) (r : Fin 1024) (hR : R.val = min s.val 1 * 1024 + r.val) (k : Fin 1024) :
    iblk m c 0 s (at2 r k : S1024x1024.Idx) = m ((c : Thread nD τ).loc main_arg0) (at2 R k : S2048x1024.Idx) := by
  show m ((c : Thread nD τ).loc main_arg0) ((win0_0.rect s).emb (at2 r k : S1024x1024.Idx)) = _
  obtain ⟨a0, a1⟩ := place0 s
  refine congrArg _ (funext fun a => Fin.ext ?_)
  refine (Pipeline.Window.rect_emb_val win0_0 s _ a rfl).trans ?_
  match a with
  | ⟨0, _⟩ => show win0_0.index s 0 * win0_0.size 0 + r.val = R.val
              rw [a0, hR]
  | ⟨1, _⟩ => show win0_0.index s 1 * win0_0.size 1 + k.val = k.val
              rw [a1]; omega

/-- The norm's weights at every point are the array's first row. -/
theorem weights (c : Dev nD) (s : Fin cfg0.N) (k : Fin 1024) :
    iblk m c 1 s (ix3 0 0 k : S1x1x1024.Idx) = scale (m ((c : Thread nD τ).loc main_arg1)) k := by
  show m ((c : Thread nD τ).loc main_arg1) ((win0_1.rect s).emb (ix3 0 0 k : S1x1x1024.Idx)) = _
  obtain ⟨a0, a1, a2⟩ := place1 s
  refine congrArg _ (funext fun a => Fin.ext ?_)
  refine (Pipeline.Window.rect_emb_val win0_1 s _ a rfl).trans ?_
  match a with
  | ⟨0, _⟩ => show win0_1.index s 0 * win0_1.size 0 + 0 = 0
              rw [a0]
  | ⟨1, _⟩ => show win0_1.index s 1 * win0_1.size 1 + 0 = 0
              rw [a1]
  | ⟨2, _⟩ => show win0_1.index s 2 * win0_1.size 2 + k.val = k.val
              rw [a2]; omega

theorem normed_rows (c : Dev nD) (s : Fin cfg0.N) (R : Fin 2048) (r : Fin 1024) (hR : R.val = min s.val 1 * 1024 + r.val) (k : Fin 1024) :
    norm (iblk m c 0 s : FVec Ideal S1024x1024 .f32) (fun c' => iblk m c 1 s (ix3 0 0 c' : S1x1x1024.Idx)) r k
      = norm (m ((c : Thread nD τ).loc main_arg0) : FVec Ideal S2048x1024 .f32) (scale (m ((c : Thread nD τ).loc main_arg1))) R k :=
  norm_rows _ _ _ _ r R (rows m c s R r hR) (weights m c s) k

theorem written4 (c : Dev nD) (t : Fin cfg0.N) :
    (dats m 0 c).flushed 4 t = (win0_4.blk t).view.read (Elt Ideal)
      (proj (m ((c : Thread nD τ).loc main_arg0)) (m ((c : Thread nD τ).loc main_arg1)) (m ((c : Thread nD τ).loc main_arg2))) := by
  show (cfg0.win 4).cut (grid0.coords t) ((dats m 0 c).after 4 t) = _
  rw [after4]
  funext j
  refine (pay_proj (iblk m c 0 (source t)) (iblk m c 1 (source t)) (iblk m c 2 t) j).trans ?_
  show _ = proj (m ((c : Thread nD τ).loc main_arg0)) (m ((c : Thread nD τ).loc main_arg1)) (m ((c : Thread nD τ).loc main_arg2)) ((win0_4.rect t).emb j)
  obtain ⟨b0, b1, b2, b3⟩ := place2 t
  obtain ⟨e0, -, e1, -⟩ := place4 t
  have h0 : (j 0 : ℕ) < 1024 := (j 0).isLt
  have h1 : (j 1 : ℕ) < 768 := (j 1).isLt
  have q0 : (((win0_4.rect t).emb j 0 : _) : ℕ) = t.val % 2 * 1024 + (j 0 : ℕ) := by rw [Pipeline.Window.rect_emb_val win0_4 t j 0 rfl, e0]
  have q1 : (((win0_4.rect t).emb j 1 : _) : ℕ) = t.val / 2 * 768 + (j 1 : ℕ) := by rw [Pipeline.Window.rect_emb_val win0_4 t j 1 rfl, e1]
  have hs : (source t).val = t.val % 2 := rfl
  refine Finset.sum_congr rfl fun k _ => congrArg₂ (fun a b : EReal => a * b) ?_ ?_
  · exact normed_rows m c (source t) ((win0_4.rect t).emb j 0) (j 0) (by rw [hs]; exact q0.trans (by omega)) k
  · show m ((c : Thread nD τ).loc main_arg2) ((win0_2.rect t).emb (atOne k (j 1))) = _
    refine congrArg _ (funext fun a => Fin.ext ?_)
    refine (Pipeline.Window.rect_emb_val win0_2 t _ a rfl).trans ?_
    match a with
    | ⟨0, _⟩ => show win0_2.index t 0 * win0_2.size 0 + 0 = 0
                rw [b0]
    | ⟨1, _⟩ => show win0_2.index t 1 * win0_2.size 1 + 0 = ((win0_4.rect t).emb j 1 : ℕ) / 768
                rw [b1, q1]; omega
    | ⟨2, _⟩ => show win0_2.index t 2 * win0_2.size 2 + k.val = k.val
                rw [b2]; omega
    | ⟨3, _⟩ => show win0_2.index t 3 * win0_2.size 3 + (j 1 : ℕ) = ((win0_4.rect t).emb j 1 : ℕ) % 768
                rw [b3, q1]; omega

theorem written5 (c : Dev nD) (t : Fin cfg0.N) :
    (dats m 0 c).flushed 5 t = (win0_5.blk t).view.read (Elt Ideal)
      (normed (m ((c : Thread nD τ).loc main_arg0)) (m ((c : Thread nD τ).loc main_arg1))) := by
  show (cfg0.win 5).cut (grid0.coords t) ((dats m 0 c).after 5 t) = _
  rw [after5]
  funext j
  refine (pay_norm (iblk m c 0 (latest t)) (iblk m c 1 (latest t)) j).trans ?_
  show _ = normed (m ((c : Thread nD τ).loc main_arg0)) (m ((c : Thread nD τ).loc main_arg1)) ((win0_5.rect t).emb j)
  obtain ⟨e0, -, e1, -⟩ := place5 t
  have q0 : (((win0_5.rect t).emb j 0 : _) : ℕ) = min t.val 1 * 1024 + (j 0 : ℕ) := by rw [Pipeline.Window.rect_emb_val win0_5 t j 0 rfl, e0]
  have q1 : (win0_5.rect t).emb j 1 = j 1 := Fin.ext (by rw [Pipeline.Window.rect_emb_val win0_5 t j 1 rfl, e1]; exact Nat.zero_add _)
  have hs : (latest t).val = min t.val 1 := rfl
  refine (normed_rows m c (latest t) ((win0_5.rect t).emb j 0) (j 0) (by rw [hs]; exact q0.trans (by omega)) (j 1)).trans ?_
  exact congrArg (norm _ _ _) q1.symm

/-- The arrays after the run. -/
theorem final4 (c : Dev nD) : (dats m 0 c).arrAt 4 cfg0.N
    = proj (m ((c : Thread nD τ).loc main_arg0)) (m ((c : Thread nD τ).loc main_arg1)) (m ((c : Thread nD τ).loc main_arg2)) :=
  (dats m 0 c).arrAt_eq_of_cover 4 _ (fun t _ => written4 m c t) cover4
theorem final5 (c : Dev nD) : (dats m 0 c).arrAt 5 cfg0.N
    = normed (m ((c : Thread nD τ).loc main_arg0)) (m ((c : Thread nD τ).loc main_arg1)) :=
  (dats m 0 c).arrAt_eq_of_cover 5 _ (fun t _ => written5 m c t) cover5

end

section

open Cert.Reference13Ideal Cert.Reference13Ideal.Gen Cert.Product Cert.Norm

/-- The reference's weights: the shards side by side. -/
theorem beside (w : FVec Ideal S1x4x1024x768 .bf16) (k : Fin 1024) (l : Fin 3072) :
    (extf .f32 (shapeCast S1024x3072 (transpose S1024x4x768 [1, 0, 2] (shapeCast S4x1024x768 w Facts₀.shapeCasts_S1x4x1024x768_S4x1024x768)
      Facts₀.transposes_S4x1024x768_S1024x4x768_1_0_2) Facts₀.shapeCasts_S1024x4x768_S1024x3072) Facts₀.bitsLt_bf16_f32 : FVec Ideal S1024x3072 .f32) (at2 k l)
      = w (atShard ⟨l.val / 768, by have := l.isLt; omega⟩ k ⟨l.val % 768, Nat.mod_lt _ (by decide)⟩) := by
  have hl : l.val < 3072 := l.isLt
  have hj : l.val / 768 < 4 := by omega
  have hm : l.val % 768 < 768 := Nat.mod_lt _ (by decide)
  refine (ValueIdx.extf_apply (φ := .bf16) (ψ := .f32) _ Facts₀.bitsLt_bf16_f32 _).trans ?_
  refine (shapeCast_apply _ Facts₀.shapeCasts_S1024x4x768_S1024x3072 (at2 k l : S1024x3072.Idx) (ix3 k ⟨l.val / 768, hj⟩ ⟨l.val % 768, hm⟩ : S1024x4x768.Idx) ?_).trans ?_
  · rw [rowMajor_val2 _ 3072 rfl, rowMajor_val3 _ (4 * 768) 768 rfl rfl]
    show k.val * (4 * 768) + l.val / 768 * 768 + l.val % 768 = k.val * 3072 + l.val
    omega
  refine (transpose_apply (s := S4x1024x768) (t := S1024x4x768) [1, 0, 2] _ Facts₀.transposes_S4x1024x768_S1024x4x768_1_0_2 _ (ix3 ⟨l.val / 768, hj⟩ k ⟨l.val % 768, hm⟩ : S4x1024x768.Idx) ?_).trans ?_
  · intro b
    match b with
    | ⟨0, _⟩ => rfl
    | ⟨1, _⟩ => rfl
    | ⟨2, _⟩ => rfl
  refine shapeCast_apply w Facts₀.shapeCasts_S1x4x1024x768_S4x1024x768 _ _ ?_
  rw [rowMajor_val3 _ (1024 * 768) 768 rfl rfl, rowMajor_val4 _ (4 * (1024 * 768)) (1024 * 768) 768 rfl rfl rfl]
  show 0 * (4 * (1024 * 768)) + l.val / 768 * (1024 * 768) + k.val * 768 + l.val % 768 = l.val / 768 * (1024 * 768) + k.val * 768 + l.val % 768
  omega

/-- The reference's normalised input. -/
def plainNorm (h : FVec Ideal S2048x1024 .f32) (g : FVec Ideal S2x1x1024 .f32) : FVec Ideal S2048x1024 .f32 :=
  mulf (mulf h (broadcastInDim S2048x1024 ![0, 1] Facts₀.bcast_S2048x1_S2048x1024_0_1 (Host.rsqrt (addf (Host.divf (broadcastInDim S2048x1 ![0] Facts₀.bcast_S2048_S2048x1_0
      (Host.reduceAdd (mulf h h) (constant S_ .f32 0x00000000#32) Facts₀.reducesTo_S2048x1024_S2048_d1 Facts₀.h_S_))
    (broadcastInDim S2048x1 ![] Facts₀.bcast_S_S2048x1 (constant S_ .f32 0x44800000#32))) (broadcastInDim S2048x1 ![] Facts₀.bcast_S_S2048x1 (constant S_ .f32 0x358637BD#32))))))
    (broadcastInDim S2048x1024 ![0, 1] Facts₀.bcast_S1x1024_S2048x1024_0_1
      (shapeCast S1x1024 (extractStridedSlice S1x1x1024 ![0, 0, 0] g Facts₀.slices_S2x1x1024_S1x1x1024_0_0_0) Facts₀.shapeCasts_S1x1x1024_S1x1024))

theorem plainNorm_apply (h : FVec Ideal S2048x1024 .f32) (g : FVec Ideal S2x1x1024 .f32) (i : S2048x1024.Idx) :
    plainNorm h g i = norm h (scale g) (i 0) (i 1) :=
  host h g _ _ _ _ _ _ _ _ i

theorem plain5 (h : FVec Ideal S2048x1024 .f32) (g : FVec Ideal S2x1x1024 .f32) :
    (truncf .bf16 (plainNorm h g) Facts₀.bitsLt_bf16_f32 : FVec Ideal S2048x1024 .bf16) = normed h g :=
  funext fun i => (ValueIdx.truncf_apply (φ := .f32) (ψ := .bf16) _ Facts₀.bitsLt_bf16_f32 i).trans (plainNorm_apply h g i)

theorem plain4 (h : FVec Ideal S2048x1024 .f32) (g : FVec Ideal S2x1x1024 .f32) (w : FVec Ideal S1x4x1024x768 .bf16) :
    Host.dotGeneral dot_S2048x1024_S1024x3072_S2048x3072_1_0_0_1_n_n none (plainNorm h g)
      (extf .f32 (shapeCast S1024x3072 (transpose S1024x4x768 [1, 0, 2] (shapeCast S4x1024x768 w Facts₀.shapeCasts_S1x4x1024x768_S4x1024x768)
        Facts₀.transposes_S4x1024x768_S1024x4x768_1_0_2) Facts₀.shapeCasts_S1024x4x768_S1024x3072) Facts₀.bitsLt_bf16_f32 : FVec Ideal S1024x3072 .f32)
      = proj h g w := by
  funext i
  refine (dot_usual (K := 1024) (n := 2048) (m := 3072) none _ _ _ i).trans ?_
  exact Finset.sum_congr rfl fun k _ => congrArg₂ (fun a b : EReal => a * b) (plainNorm_apply h g _) (beside w k (i 1))

end

/-- The call and the plain norm and product end with equal results. -/
theorem algebraic : Cert.algebraic_Kernel13Ideal_Reference13Ideal := by
  intro m ρ m' ρ' _ hagree
  refine ⟨_, _, (θ_run Cert.Kernel13Ideal.defs _ _).mono (fun _ h c => ⟨(h c).1.trans (final4 m c), (h c).2.1.trans (final5 m c), (h c).2.2⟩)
    (run_blocks (F := Ideal) m ρ), ?_⟩
  refine (θ_run Cert.Reference13Ideal.defs _ _).mono (fun _ h c => ⟨(h c).1.trans ?_, (h c).2.1.trans ?_, (h c).2.2⟩)
    (Cert.Reference13Ideal.Value.run (F := Ideal) m' ρ')
  · rw [(hagree c).1, (hagree c).2.1, (hagree c).2.2.1]
    exact plain4 _ _ _
  · rw [(hagree c).1, (hagree c).2.1]
    exact plain5 _ _

end Cert.Into13

end
-- ==== Proof.BackRun14.lean ====
/-
The call that takes the cotangent of a projection back through the product and the normalisation: what the body leaves at each
point of its grid, and the run.
-/
module

public import proofs.«01_k».proof.Defs
public import proofs.«01_k».proof.Proof.Gen.Kernel14Ideal.Frame
public import proofs.«01_k».proof.Proof.Gen.Kernel14Ideal.Skeleton
public import Idealize.ShloMosaic.Lib.VecWindow
public import Idealize.ShloMosaic.Lib.WholeRead
public import Idealize.ShloMosaic.Lib.Pipeline.TableIdle
public import Idealize.ShloMosaic.Lib.Claim

@[expose] public section

set_option maxRecDepth 16384

noncomputable section

namespace Cert.Back14

open Cert.Kernel14Ideal Cert.Kernel14Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 1000000 in
/-- The body at the first shard: the block's product starts the accumulator's slot. -/
theorem run_start (c : Dev nD) (i : grid0.Coords) (arg2 : Memref sig .tc .vmem S1024x1280 .bf16) (harg2 : arg2.IsWhole) (arg3 : Memref sig .tc .vmem S1x1x1024x1280 .bf16) (harg3 : arg3.IsWhole) (arg4 : Memref sig .tc .vmem S1024x1024 .f32) (harg4 : arg4.IsWhole) (arg5 : Memref sig .tc .vmem S1x1x1024 .f32) (harg5 : arg5.IsWhole) (arg6 : Memref sig .tc .vmem S1024x1024 .f32) (harg6 : arg6.IsWhole) (arg7 : Memref sig .tc .vmem S8x128 .f32) (harg7 : arg7.IsWhole) (arg8 : Memref sig .tc .vmem S1024x1024 .f32) (harg8 : arg8.IsWhole) (arg9 : Memref sig .tc .vmem S1024x1024 .bf16) (harg9 : arg9.IsWhole) (arg10 : Memref sig .tc .vmem S1x1024 .f32) (harg10 : arg10.IsWhole) (arg11 : Memref sig .tc .vmem S2x1024x1024 .f32) (harg11 : arg11.IsWhole) (h1 : k0_cond1 i = 1#1) (h2 : ¬ k0_cond2 i = 1#1) (h3 : ¬ k0_cond3 i = 1#1)
    (x0 : Vec F S1024x1280 .bf16) (x1 : Vec F S1x1x1024x1280 .bf16) (d : Vec F S2x1024x1024 .f32) :
      ∀ (E : Set ℕ) (K : PUnit → sProp 𝕄),
        iprop(owns (c : Thread nD τ) arg2 fullShare x0 ∗ owns (c : Thread nD τ) arg3 fullShare x1 ∗ owns (c : Thread nD τ) arg11 fullShare d
            ∗ (iprop(owns (c : Thread nD τ) arg2 fullShare x0 ∗ owns (c : Thread nD τ) arg3 fullShare x1
                ∗ owns (c : Thread nD τ) arg11 fullShare (VecWindow.put d (k0_off1 i) S1x1024x1024.size (k0_pay2 x0 x1))) -∗ K ⟨⟩))
          ⊢ wp frame (wpE (defs₀ (F := F)) Variants.none c none) E (cc0_dn_proj_even i arg2 harg2 arg3 harg3 arg4 harg4 arg5 harg5 arg6 harg6 arg7 harg7 arg8 harg8 arg9 harg9 arg10 harg10 arg11 harg11) K := by
  intro E K
  simp only [cc0_dn_proj_even_eq_skeleton]; unfold cc0_dn_proj_even_skel
  unfold owns
  iintro ⟨⟨%f0, %hf0, H0⟩, ⟨%f1, %hf1, H1⟩, ⟨%fs, %hs, HS⟩, Hk⟩
  subst hf0 hf1 hs
  sl_exec (disch := first | sl_exact h1 | sl_exact h2 | sl_exact h3)
  sl_step
  iapply Hk
  isplitl [H0]
  · iexists f0; isplitr; · ipureintro; rfl
    iexact H0
  isplitl [H1]
  · iexists f1; isplitr; · ipureintro; rfl
    iexact H1
  iexists _; isplitr; swap; · iexact HS
  ipureintro
  rw [View.read_writes_cons_put _ _ _ _ _ rfl, View.readAt_full, View.readAt_full]
  rfl

set_option maxHeartbeats 1000000 in
/-- The body at a middle shard: the block's product is added to the accumulator's slot. -/
theorem run_middle (c : Dev nD) (i : grid0.Coords) (arg2 : Memref sig .tc .vmem S1024x1280 .bf16) (harg2 : arg2.IsWhole) (arg3 : Memref sig .tc .vmem S1x1x1024x1280 .bf16) (harg3 : arg3.IsWhole) (arg4 : Memref sig .tc .vmem S1024x1024 .f32) (harg4 : arg4.IsWhole) (arg5 : Memref sig .tc .vmem S1x1x1024 .f32) (harg5 : arg5.IsWhole) (arg6 : Memref sig .tc .vmem S1024x1024 .f32) (harg6 : arg6.IsWhole) (arg7 : Memref sig .tc .vmem S8x128 .f32) (harg7 : arg7.IsWhole) (arg8 : Memref sig .tc .vmem S1024x1024 .f32) (harg8 : arg8.IsWhole) (arg9 : Memref sig .tc .vmem S1024x1024 .bf16) (harg9 : arg9.IsWhole) (arg10 : Memref sig .tc .vmem S1x1024 .f32) (harg10 : arg10.IsWhole) (arg11 : Memref sig .tc .vmem S2x1024x1024 .f32) (harg11 : arg11.IsWhole) (h1 : ¬ k0_cond1 i = 1#1) (h2 : k0_cond2 i = 1#1) (h3 : ¬ k0_cond3 i = 1#1)
    (x0 : Vec F S1024x1280 .bf16) (x1 : Vec F S1x1x1024x1280 .bf16) (d : Vec F S2x1024x1024 .f32) :
      ∀ (E : Set ℕ) (K : PUnit → sProp 𝕄),
        iprop(owns (c : Thread nD τ) arg2 fullShare x0 ∗ owns (c : Thread nD τ) arg3 fullShare x1 ∗ owns (c : Thread nD τ) arg11 fullShare d
            ∗ (iprop(owns (c : Thread nD τ) arg2 fullShare x0 ∗ owns (c : Thread nD τ) arg3 fullShare x1
                ∗ owns (c : Thread nD τ) arg11 fullShare (VecWindow.put d (k0_off2 i) S1x1024x1024.size
                    (k0_pay3 x0 x1 (VecWindow.window d (k0_off2 i) S1x1024x1024.size (k0_off2_inb i h2))))) -∗ K ⟨⟩))
          ⊢ wp frame (wpE (defs₀ (F := F)) Variants.none c none) E (cc0_dn_proj_even i arg2 harg2 arg3 harg3 arg4 harg4 arg5 harg5 arg6 harg6 arg7 harg7 arg8 harg8 arg9 harg9 arg10 harg10 arg11 harg11) K := by
  intro E K
  simp only [cc0_dn_proj_even_eq_skeleton]; unfold cc0_dn_proj_even_skel
  unfold owns
  iintro ⟨⟨%f0, %hf0, H0⟩, ⟨%f1, %hf1, H1⟩, ⟨%fs, %hs, HS⟩, Hk⟩
  subst hf0 hf1 hs
  sl_exec (disch := first | sl_exact h1 | sl_exact h2 | sl_exact h3)
  sl_step
  iapply Hk
  isplitl [H0]
  · iexists f0; isplitr; · ipureintro; rfl
    iexact H0
  isplitl [H1]
  · iexists f1; isplitr; · ipureintro; rfl
    iexact H1
  iexists _; isplitr; swap; · iexact HS
  ipureintro
  rw [View.read_writes_cons_put _ _ _ _ _ rfl, View.readAt_full, View.readAt_full, View.readAt_unit _ _ _ rfl (k0_off2_inb i h2)]
  rfl

set_option maxHeartbeats 2000000 in
/-- The body at the last shard of the first block of rows: the slot is completed, the input's cotangent goes to its two outputs,
    and the rows' part of the scale's cotangent starts its output. -/
theorem run_finish (c : Dev nD) (i : grid0.Coords) (arg2 : Memref sig .tc .vmem S1024x1280 .bf16) (harg2 : arg2.IsWhole) (arg3 : Memref sig .tc .vmem S1x1x1024x1280 .bf16) (harg3 : arg3.IsWhole) (arg4 : Memref sig .tc .vmem S1024x1024 .f32) (harg4 : arg4.IsWhole) (arg5 : Memref sig .tc .vmem S1x1x1024 .f32) (harg5 : arg5.IsWhole) (arg6 : Memref sig .tc .vmem S1024x1024 .f32) (harg6 : arg6.IsWhole) (arg7 : Memref sig .tc .vmem S8x128 .f32) (harg7 : arg7.IsWhole) (arg8 : Memref sig .tc .vmem S1024x1024 .f32) (harg8 : arg8.IsWhole) (arg9 : Memref sig .tc .vmem S1024x1024 .bf16) (harg9 : arg9.IsWhole) (arg10 : Memref sig .tc .vmem S1x1024 .f32) (harg10 : arg10.IsWhole) (arg11 : Memref sig .tc .vmem S2x1024x1024 .f32) (harg11 : arg11.IsWhole) (h1 : ¬ k0_cond1 i = 1#1) (h2 : k0_cond2 i = 1#1) (h3 : k0_cond3 i = 1#1) (h4 : k0_cond4 i = 1#1) (h5 : ¬ k0_cond5 i = 1#1)
    (x0 : Vec F S1024x1280 .bf16) (x1 : Vec F S1x1x1024x1280 .bf16) (x2 : Vec F S1024x1024 .f32) (x3 : Vec F S1x1x1024 .f32) (x4 : Vec F S1024x1024 .f32) (d : Vec F S2x1024x1024 .f32)
    (a : Vec F S1x1024x1024 .f32) (ha : k0_pay3 x0 x1 (VecWindow.window d (k0_off2 i) S1x1024x1024.size (k0_off2_inb i h2)) = a) :
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4
            ∗ (∃ d, owns (c : Thread nD τ) arg8 fullShare d) ∗ (∃ d, owns (c : Thread nD τ) arg9 fullShare d) ∗ (∃ d, owns (c : Thread nD τ) arg10 fullShare d) ∗ owns (c : Thread nD τ) arg11 fullShare d
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4
                ∗ owns (c : Thread nD τ) arg8 fullShare (k0_pay7 x2 a x3 x4) ∗ owns (c : Thread nD τ) arg9 fullShare (k0_pay8 x2 a x3 x4) ∗ owns (c : Thread nD τ) arg10 fullShare (k0_pay9 x2 a)
                ∗ owns (c : Thread nD τ) arg11 fullShare (VecWindow.put d (k0_off2 i) S1x1024x1024.size a)) -∗ K ⟨⟩))
          ⊢ wp frame (wpE (defs₀ (F := F)) Variants.none c none) E (cc0_dn_proj_even i arg2 harg2 arg3 harg3 arg4 harg4 arg5 harg5 arg6 harg6 arg7 harg7 arg8 harg8 arg9 harg9 arg10 harg10 arg11 harg11) K := by
  intro E K
  simp only [cc0_dn_proj_even_eq_skeleton]; unfold cc0_dn_proj_even_skel
  simp only [k0_part1_eq_skeleton]; unfold k0_part1_skel
  unfold owns
  iintro ⟨⟨%f0, %hf0, H0⟩, ⟨%f1, %hf1, H1⟩, ⟨%f2, %hf2, H2⟩, ⟨%f3, %hf3, H3⟩, ⟨%f4, %hf4, H4⟩, ⟨%d6, %f6, -, H6⟩, ⟨%d7, %f7, -, H7⟩, ⟨%d8, %f8, -, H8⟩, ⟨%fs, %hs, HS⟩, Hk⟩
  subst hf0 hf1 hf2 hf3 hf4 hs
  sl_exec (disch := first | sl_exact h1 | sl_exact h2 | sl_exact h3 | sl_exact h4 | sl_exact h5)
  sl_step
  have hslot : ∀ f, View.read (Elt F) arg11.view (arg11.view.writes (Elt F) f (run_finish.sl.HS_1 c i arg2 arg3 arg11 h2 f0 f1 fs))
      = VecWindow.put (View.read (Elt F) arg11.view f) (k0_off2 i) S1x1024x1024.size a := fun f => by
    unfold run_finish.sl.HS_1 run_finish.sl.v1 run_finish.sl.v14
    rw [View.read_writes_cons_put _ _ _ _ _ rfl, View.readAt_full, View.readAt_full, View.readAt_unit _ _ _ rfl (k0_off2_inb i h2)]
    exact congrArg (VecWindow.put _ _ _) ha
  have hacc : run_finish.sl.v23 c i arg2 arg3 arg11 h2 h3 f0 f1 fs = a := by
    unfold run_finish.sl.v23 View.readCov
    rw [View.readAt_unit _ _ _ rfl (k0_off3_inb i h3), hslot]
    exact VecWindow.window_put_same _ _ _ _ _
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H6]
  · iexists _; isplitr; swap; · iexact H6
    ipureintro
    rw [View.read_writes_full, hacc, View.readAt_full, View.readAt_full, View.readAt_full]
  isplitl [H7]
  · iexists _; isplitr; swap; · iexact H7
    ipureintro
    rw [View.read_writes_full, hacc, View.readAt_full, View.readAt_full, View.readAt_full]
  isplitl [H8]
  · iexists _; isplitr; swap; · iexact H8
    ipureintro
    rw [View.read_writes_full, hacc, View.readAt_full]
  iexists _; isplitr; swap; · iexact HS
  ipureintro
  exact hslot fs

set_option maxHeartbeats 2000000 in
/-- The body at the last shard of the second block of rows: as at the first, but the rows' part of the scale's cotangent is added to
    its output. -/
theorem run_last (c : Dev nD) (i : grid0.Coords) (arg2 : Memref sig .tc .vmem S1024x1280 .bf16) (harg2 : arg2.IsWhole) (arg3 : Memref sig .tc .vmem S1x1x1024x1280 .bf16) (harg3 : arg3.IsWhole) (arg4 : Memref sig .tc .vmem S1024x1024 .f32) (harg4 : arg4.IsWhole) (arg5 : Memref sig .tc .vmem S1x1x1024 .f32) (harg5 : arg5.IsWhole) (arg6 : Memref sig .tc .vmem S1024x1024 .f32) (harg6 : arg6.IsWhole) (arg7 : Memref sig .tc .vmem S8x128 .f32) (harg7 : arg7.IsWhole) (arg8 : Memref sig .tc .vmem S1024x1024 .f32) (harg8 : arg8.IsWhole) (arg9 : Memref sig .tc .vmem S1024x1024 .bf16) (harg9 : arg9.IsWhole) (arg10 : Memref sig .tc .vmem S1x1024 .f32) (harg10 : arg10.IsWhole) (arg11 : Memref sig .tc .vmem S2x1024x1024 .f32) (harg11 : arg11.IsWhole) (h1 : ¬ k0_cond1 i = 1#1) (h2 : k0_cond2 i = 1#1) (h3 : k0_cond3 i = 1#1) (h4 : ¬ k0_cond4 i = 1#1) (h5 : k0_cond5 i = 1#1)
    (x0 : Vec F S1024x1280 .bf16) (x1 : Vec F S1x1x1024x1280 .bf16) (x2 : Vec F S1024x1024 .f32) (x3 : Vec F S1x1x1024 .f32) (x4 : Vec F S1024x1024 .f32) (y : Vec F S1x1024 .f32) (d : Vec F S2x1024x1024 .f32)
    (a : Vec F S1x1024x1024 .f32) (ha : k0_pay3 x0 x1 (VecWindow.window d (k0_off2 i) S1x1024x1024.size (k0_off2_inb i h2)) = a) :
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4
            ∗ (∃ d, owns (c : Thread nD τ) arg8 fullShare d) ∗ (∃ d, owns (c : Thread nD τ) arg9 fullShare d) ∗ owns (c : Thread nD τ) arg10 fullShare y ∗ owns (c : Thread nD τ) arg11 fullShare d
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4
                ∗ owns (c : Thread nD τ) arg8 fullShare (k0_pay7 x2 a x3 x4) ∗ owns (c : Thread nD τ) arg9 fullShare (k0_pay8 x2 a x3 x4) ∗ owns (c : Thread nD τ) arg10 fullShare (k0_pay4 (k0_pay9 x2 a) y)
                ∗ owns (c : Thread nD τ) arg11 fullShare (VecWindow.put d (k0_off2 i) S1x1024x1024.size a)) -∗ K ⟨⟩))
          ⊢ wp frame (wpE (defs₀ (F := F)) Variants.none c none) E (cc0_dn_proj_even i arg2 harg2 arg3 harg3 arg4 harg4 arg5 harg5 arg6 harg6 arg7 harg7 arg8 harg8 arg9 harg9 arg10 harg10 arg11 harg11) K := by
  intro E K
  simp only [cc0_dn_proj_even_eq_skeleton]; unfold cc0_dn_proj_even_skel
  simp only [k0_part1_eq_skeleton]; unfold k0_part1_skel
  unfold owns
  iintro ⟨⟨%f0, %hf0, H0⟩, ⟨%f1, %hf1, H1⟩, ⟨%f2, %hf2, H2⟩, ⟨%f3, %hf3, H3⟩, ⟨%f4, %hf4, H4⟩, ⟨%d6, %f6, -, H6⟩, ⟨%d7, %f7, -, H7⟩, ⟨%f8, %hf8, H8⟩, ⟨%fs, %hs, HS⟩, Hk⟩
  subst hf0 hf1 hf2 hf3 hf4 hf8 hs
  sl_exec (disch := first | sl_exact h1 | sl_exact h2 | sl_exact h3 | sl_exact h4 | sl_exact h5)
  sl_step
  have hslot : ∀ f, View.read (Elt F) arg11.view (arg11.view.writes (Elt F) f (run_last.sl.HS_1 c i arg2 arg3 arg11 h2 f0 f1 fs))
      = VecWindow.put (View.read (Elt F) arg11.view f) (k0_off2 i) S1x1024x1024.size a := fun f => by
    unfold run_last.sl.HS_1 run_last.sl.v1 run_last.sl.v14
    rw [View.read_writes_cons_put _ _ _ _ _ rfl, View.readAt_full, View.readAt_full, View.readAt_unit _ _ _ rfl (k0_off2_inb i h2)]
    exact congrArg (VecWindow.put _ _ _) ha
  have hacc : run_last.sl.v23 c i arg2 arg3 arg11 h2 h3 f0 f1 fs = a := by
    unfold run_last.sl.v23 View.readCov
    rw [View.readAt_unit _ _ _ rfl (k0_off3_inb i h3), hslot]
    exact VecWindow.window_put_same _ _ _ _ _
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H6]
  · iexists _; isplitr; swap; · iexact H6
    ipureintro
    rw [View.read_writes_full, hacc, View.readAt_full, View.readAt_full, View.readAt_full]
  isplitl [H7]
  · iexists _; isplitr; swap; · iexact H7
    ipureintro
    rw [View.read_writes_full, hacc, View.readAt_full, View.readAt_full, View.readAt_full]
  isplitl [H8]
  · iexists _; isplitr; swap; · iexact H8
    ipureintro
    rw [View.read_writes_full, hacc, View.readAt_full, View.readAt_full]
  iexists _; isplitr; swap; · iexact HS
  ipureintro
  exact hslot fs

/-! ## The points -/

theorem starts : ∀ t : Fin cfg0.N, k0_cond1 (grid0.coords t) = 1#1 ↔ t.val < 2 :=
  (by decide +kernel : ∀ t : Fin grid0.N, k0_cond1 (grid0.coords t) = 1#1 ↔ t.val < 2)
theorem continues : ∀ t : Fin cfg0.N, k0_cond2 (grid0.coords t) = 1#1 ↔ 2 ≤ t.val :=
  (by decide +kernel : ∀ t : Fin grid0.N, k0_cond2 (grid0.coords t) = 1#1 ↔ 2 ≤ t.val)
theorem finishes : ∀ t : Fin cfg0.N, k0_cond3 (grid0.coords t) = 1#1 ↔ 6 ≤ t.val :=
  (by decide +kernel : ∀ t : Fin grid0.N, k0_cond3 (grid0.coords t) = 1#1 ↔ 6 ≤ t.val)
theorem first_rows : ∀ t : Fin cfg0.N, k0_cond4 (grid0.coords t) = 1#1 ↔ t.val % 2 = 0 :=
  (by decide +kernel : ∀ t : Fin grid0.N, k0_cond4 (grid0.coords t) = 1#1 ↔ t.val % 2 = 0)
theorem second_rows : ∀ t : Fin cfg0.N, k0_cond5 (grid0.coords t) = 1#1 ↔ t.val % 2 = 1 :=
  (by decide +kernel : ∀ t : Fin grid0.N, k0_cond5 (grid0.coords t) = 1#1 ↔ t.val % 2 = 1)

theorem slot_inside : ∀ s : Fin cfg0.N, ∀ a, k0_off1 (grid0.coords s) a + S1x1024x1024.size a ≤ S2x1024x1024.size a :=
  (by decide +kernel : ∀ s : Fin grid0.N, ∀ a, k0_off1 (grid0.coords s) a + S1x1024x1024.size a ≤ S2x1024x1024.size a)
theorem slot_apart : ∀ s t : Fin cfg0.N, s.val + 1 = t.val →
    k0_off1 (grid0.coords s) 0 + 1 ≤ k0_off1 (grid0.coords t) 0 ∨ k0_off1 (grid0.coords t) 0 + 1 ≤ k0_off1 (grid0.coords s) 0 :=
  (by decide +kernel : ∀ s t : Fin grid0.N, s.val + 1 = t.val →
    k0_off1 (grid0.coords s) 0 + 1 ≤ k0_off1 (grid0.coords t) 0 ∨ k0_off1 (grid0.coords t) 0 + 1 ≤ k0_off1 (grid0.coords s) 0)
theorem slot_again : ∀ s t : Fin cfg0.N, s.val + 2 = t.val → k0_off2 (grid0.coords t) = k0_off1 (grid0.coords s) :=
  (by decide +kernel : ∀ s t : Fin grid0.N, s.val + 2 = t.val → k0_off2 (grid0.coords t) = k0_off1 (grid0.coords s))

theorem idle6 : ∀ t : Fin cfg0.N, cfg0.idle 6 (grid0.coords t) = !decide (6 ≤ t.val) :=
  (by decide +kernel : ∀ t : Fin grid0.N, cfg0.idle 6 (grid0.coords t) = !decide (6 ≤ t.val))
theorem idle7 : ∀ t : Fin cfg0.N, cfg0.idle 7 (grid0.coords t) = !decide (6 ≤ t.val) :=
  (by decide +kernel : ∀ t : Fin grid0.N, cfg0.idle 7 (grid0.coords t) = !decide (6 ≤ t.val))
theorem idle8 : ∀ t : Fin cfg0.N, cfg0.idle 8 (grid0.coords t) = !decide (6 ≤ t.val) :=
  (by decide +kernel : ∀ t : Fin grid0.N, cfg0.idle 8 (grid0.coords t) = !decide (6 ≤ t.val))
theorem flush6 : ∀ t : Fin cfg0.N, (cfg0.win 6).flush t = decide (6 ≤ t.val) :=
  (by decide +kernel : ∀ t : Fin grid0.N, win0_6.flush t = decide (6 ≤ t.val))
theorem flush7 : ∀ t : Fin cfg0.N, (cfg0.win 7).flush t = decide (6 ≤ t.val) :=
  (by decide +kernel : ∀ t : Fin grid0.N, win0_7.flush t = decide (6 ≤ t.val))
theorem flush8 : ∀ t : Fin cfg0.N, (cfg0.win 8).flush t = decide (7 ≤ t.val) :=
  (by decide +kernel : ∀ t : Fin grid0.N, win0_8.flush t = decide (7 ≤ t.val))
theorem fresh8 : ∀ t : Fin cfg0.N, cfg0.fresh 8 t.val = decide (t.val ≤ 6) :=
  (by decide +kernel : ∀ t : Fin grid0.N, cfg0.fresh 8 t.val = decide (t.val ≤ 6))

/-! ## The proof data -/

/-- The point of shard `j` and block of rows `i`. -/
def point (j i : ℕ) : Fin cfg0.N := ⟨(2 * j + i) % 8, Nat.lt_of_lt_of_eq (Nat.mod_lt _ (by decide)) N_0.symm⟩

/-- What the slot of block of rows `i` holds once shard `j` is added. -/
def acc (c : Dev nD) (i : ℕ) : ℕ → Vec F S1x1024x1024 .f32
  | 0 => k0_pay2 (iblk m c 0 (point 0 i)) (iblk m c 1 (point 0 i))
  | j + 1 => k0_pay3 (iblk m c 0 (point (j + 1) i)) (iblk m c 1 (point (j + 1) i)) (acc c i j)

/-- What the slot holds after point `t`. -/
def slot (c : Dev nD) (t : Fin cfg0.N) : Vec F S1x1024x1024 .f32 := acc m c (t.val % 2) (t.val / 2)

theorem point_self (t : Fin cfg0.N) (j : ℕ) (hj : t.val / 2 = j) : point j (t.val % 2) = t := Fin.ext (by
  have ht : t.val < 8 := Nat.lt_of_lt_of_eq t.isLt N_0
  show (2 * j + t.val % 2) % 8 = t.val
  omega)

theorem slot_start (c : Dev nD) (t : Fin cfg0.N) (h : t.val < 2) : slot m c t = k0_pay2 (iblk m c 0 t) (iblk m c 1 t) := by
  have hj : t.val / 2 = 0 := by omega
  unfold slot
  rw [hj]
  unfold acc
  rw [point_self t 0 hj]

theorem slot_step (c : Dev nD) (s t : Fin cfg0.N) (h : s.val + 2 = t.val) :
    slot m c t = k0_pay3 (iblk m c 0 t) (iblk m c 1 t) (slot m c s) := by
  have hj : t.val / 2 = s.val / 2 + 1 := by omega
  have hi : s.val % 2 = t.val % 2 := by omega
  unfold slot
  rw [hj, hi]
  conv_lhs => unfold acc
  rw [point_self t _ hj]

/-- What the scratch holds before point `n`: the slots as the last two points left them. -/
def held (c : Dev nD) (n : ℕ) (d : Vec F S2x1024x1024 .f32) : Prop :=
  ∀ s : Fin cfg0.N, s.val < n → n ≤ s.val + 2 → VecWindow.window d (k0_off1 (grid0.coords s)) S1x1024x1024.size (slot_inside s) = slot m c s

theorem held_put (c : Dev nD) (t : Fin cfg0.N) (d : Vec F S2x1024x1024 .f32) (h : held m c t.val d) :
    held m c (t.val + 1) (VecWindow.put d (k0_off1 (grid0.coords t)) S1x1024x1024.size (slot m c t)) := fun s hs h2 => by
  by_cases e : s = t
  · subst e; exact VecWindow.window_put_same _ _ _ _ _
  · have hne : s.val ≠ t.val := fun h => e (Fin.ext h)
    refine (VecWindow.window_put_of_disjoint _ _ _ _ _ _ _ (0 : Fin 3) (slot_apart s t (by omega))).trans (h s (by omega) (by omega))

theorem window_of_eq (d : Vec F S2x1024x1024 .f32) (size) {off off' : Fin 3 → ℕ} (e : off = off') (inb) (inb') :
    VecWindow.window d off size inb = VecWindow.window d off' size inb' := by
  subst e; rfl

/-- From the second shard on, adding the block's product to the slot gives what the slot is to hold. -/
theorem held_step (c : Dev nD) (t : Fin cfg0.N) (ht : 2 ≤ t.val) (d : Vec F S2x1024x1024 .f32) (h : held m c t.val d) :
    k0_pay3 (iblk m c 0 t) (iblk m c 1 t) (VecWindow.window d (k0_off2 (grid0.coords t)) S1x1024x1024.size (k0_off2_inb (grid0.coords t) ((continues t).mpr ht))) = slot m c t := by
  have hs : t.val - 2 < cfg0.N := by omega
  have e : (⟨t.val - 2, hs⟩ : Fin cfg0.N).val + 2 = t.val := by show t.val - 2 + 2 = t.val; omega
  rw [slot_step m c ⟨t.val - 2, hs⟩ t e, window_of_eq d _ (slot_again ⟨t.val - 2, hs⟩ t e) _ (slot_inside _),
    h ⟨t.val - 2, hs⟩ (by show t.val - 2 < t.val; omega) (by show t.val ≤ t.val - 2 + 2; omega)]

/-- The invariant between the points: the scratch with what it holds, and the generator register. -/
def Φ (c : Dev nD) (n : ℕ) : sProp 𝕄 :=
  iprop((∃ d, ⌜held m c n d⌝ ∗ owns (c : Thread nD τ) (Memref.whole cc0_scratch0 : Memref sig .tc .vmem S2x1024x1024 .f32) fullShare d) ∗ (∃ r, prngReg c r))

/-- One block of rows' part of the scale's cotangent. -/
def scalePart (c : Dev nD) (t : Fin cfg0.N) : Vec F S1x1024 .f32 := k0_pay9 (iblk m c 2 t) (slot m c t)

/-- The proof data: the arrays as the region finds them; after point `t` each input's buffer at its block, the two outputs of the
    input's cotangent at the value of `t`'s block of rows, the scale's at the first block's part, and at the last point at both. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => k0_pay7 (iblk m c 2 t) (slot m c t) (iblk m c 3 t) (iblk m c 4 t)
    | ⟨7, _⟩ => k0_pay8 (iblk m c 2 t) (slot m c t) (iblk m c 3 t) (iblk m c 4 t)
    | ⟨8, _⟩ => if t.val ≤ 6 then scalePart m c (point 3 0) else k0_pay4 (scalePart m c t) (scalePart m c (point 3 0))
  Φ t := Φ m c t.val
  q _ := fullShare
  owed _ := 0

theorem A_eq (c : Dev nD) (w : Fin cfg0.W) : (dats m 0 c).A w = V m c (Pipeline.arrRef spec0 w) := by
  dsimp only [dats]

theorem after0 (c : Dev nD) (t : Fin cfg0.N) : (dats m 0 c).after 0 t = iblk m c 0 t := by dsimp only [dats]
theorem after1 (c : Dev nD) (t : Fin cfg0.N) : (dats m 0 c).after 1 t = iblk m c 1 t := by dsimp only [dats]
theorem after2 (c : Dev nD) (t : Fin cfg0.N) : (dats m 0 c).after 2 t = iblk m c 2 t := by dsimp only [dats]
theorem after3 (c : Dev nD) (t : Fin cfg0.N) : (dats m 0 c).after 3 t = iblk m c 3 t := by dsimp only [dats]
theorem after4 (c : Dev nD) (t : Fin cfg0.N) : (dats m 0 c).after 4 t = iblk m c 4 t := by dsimp only [dats]
theorem after5 (c : Dev nD) (t : Fin cfg0.N) : (dats m 0 c).after 5 t = iblk m c 5 t := by dsimp only [dats]
theorem after6 (c : Dev nD) (t : Fin cfg0.N) : (dats m 0 c).after 6 t = k0_pay7 (iblk m c 2 t) (slot m c t) (iblk m c 3 t) (iblk m c 4 t) := by dsimp only [dats]
theorem after7 (c : Dev nD) (t : Fin cfg0.N) : (dats m 0 c).after 7 t = k0_pay8 (iblk m c 2 t) (slot m c t) (iblk m c 3 t) (iblk m c 4 t) := by dsimp only [dats]
theorem after8 (c : Dev nD) (t : Fin cfg0.N) : (dats m 0 c).after 8 t
    = if t.val ≤ 6 then scalePart m c (point 3 0) else k0_pay4 (scalePart m c t) (scalePart m c (point 3 0)) := by dsimp only [dats]

theorem before0 (c : Dev nD) (t : Fin cfg0.N) (d) : (dats m 0 c).before 0 t d = iblk m c 0 t :=
  before0_0_of m (dats m 0 c) (A_eq m c 0) (after0 m c) t d
theorem before1 (c : Dev nD) (t : Fin cfg0.N) (d) : (dats m 0 c).before 1 t d = iblk m c 1 t :=
  before0_1_of m (dats m 0 c) (A_eq m c 1) (after1 m c) t d
theorem before2 (c : Dev nD) (t : Fin cfg0.N) (d) : (dats m 0 c).before 2 t d = iblk m c 2 t :=
  before0_2_of m (dats m 0 c) (A_eq m c 2) (after2 m c) t d
theorem before3 (c : Dev nD) (t : Fin cfg0.N) (d) : (dats m 0 c).before 3 t d = iblk m c 3 t :=
  before0_3_of m (dats m 0 c) (A_eq m c 3) (after3 m c) t d
theorem before4 (c : Dev nD) (t : Fin cfg0.N) (d) : (dats m 0 c).before 4 t d = iblk m c 4 t :=
  before0_4_of m (dats m 0 c) (A_eq m c 4) (after4 m c) t d
theorem before5 (c : Dev nD) (t : Fin cfg0.N) (d) : (dats m 0 c).before 5 t d = iblk m c 5 t :=
  before0_5_of m (dats m 0 c) (A_eq m c 5) (after5 m c) t d

/-- At the last point the scale's output holds the first block's part. -/
theorem before8 (c : Dev nD) (t : Fin cfg0.N) (h : 7 ≤ t.val) (d) : (dats m 0 c).before 8 t d = scalePart m c (point 3 0) := by
  have e := (dats m 0 c).before_out_traj 8 rfl (fun _ _ => rfl) (fun t _ hi hf => by
    have hi' := hi
    have hf' := hf
    rw [idle8 t] at hi'
    rw [fresh8 t] at hf'
    have h1 : t.val < 6 := by
      by_contra hlt
      rw [decide_eq_true (show 6 ≤ t.val by omega)] at hi'
      exact Bool.false_ne_true hi'
    rw [decide_eq_true (show t.val ≤ 6 by omega)] at hf'
    exact absurd hf'.symm Bool.false_ne_true) t.val t rfl d
  have ht : t.val < 8 := Nat.lt_of_lt_of_eq t.isLt N_0
  rw [fresh8 t, decide_eq_false (by omega), if_neg Bool.false_ne_true, after8, if_pos (by show t.val - 1 ≤ 6; omega)] at e
  exact e

/-! ## The body at a point -/

def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d))
    ∗ (∃ d, owns (c : Thread nD τ) (st0_6 t) fullShare ((dats m 0 c).before 6 t d))
    ∗ (∃ d, owns (c : Thread nD τ) (st0_7 t) fullShare ((dats m 0 c).before 7 t d))
    ∗ (∃ d, owns (c : Thread nD τ) (st0_8 t) fullShare ((dats m 0 c).before 8 t d)))

def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t)
    ∗ owns (c : Thread nD τ) (st0_5 t) fullShare ((dats m 0 c).after 5 t)
    ∗ (dats m 0 c).leavesExact 6 t ∗ (dats m 0 c).leavesExact 7 t ∗ (dats m 0 c).leavesExact 8 t)

theorem keeps6 (c : Dev nD) (t : Fin cfg0.N) (h : t.val < 6) (d) :
    owns (c : Thread nD τ) (st0_6 t) fullShare ((dats m 0 c).before 6 t d) ⊢ ((dats m 0 c).leavesExact 6 t : sProp 𝕄) := by
  unfold Dat.leavesExact
  rw [idle6 t, decide_eq_false (by omega), flush6 t, decide_eq_false (by omega)]
  show _ ⊢ iprop(∃ d, owns (c : Thread nD τ) (st0_6 t) fullShare ((dats m 0 c).before 6 t d))
  iintro H
  iexists d
  iexact H
theorem leaves6 (c : Dev nD) (t : Fin cfg0.N) (h : 6 ≤ t.val) :
    owns (c : Thread nD τ) (st0_6 t) fullShare ((dats m 0 c).after 6 t) ⊢ ((dats m 0 c).leavesExact 6 t : sProp 𝕄) := by
  unfold Dat.leavesExact
  rw [idle6 t, decide_eq_true h]
  exact .rfl
theorem keeps7 (c : Dev nD) (t : Fin cfg0.N) (h : t.val < 6) (d) :
    owns (c : Thread nD τ) (st0_7 t) fullShare ((dats m 0 c).before 7 t d) ⊢ ((dats m 0 c).leavesExact 7 t : sProp 𝕄) := by
  unfold Dat.leavesExact
  rw [idle7 t, decide_eq_false (by omega), flush7 t, decide_eq_false (by omega)]
  show _ ⊢ iprop(∃ d, owns (c : Thread nD τ) (st0_7 t) fullShare ((dats m 0 c).before 7 t d))
  iintro H
  iexists d
  iexact H
theorem leaves7 (c : Dev nD) (t : Fin cfg0.N) (h : 6 ≤ t.val) :
    owns (c : Thread nD τ) (st0_7 t) fullShare ((dats m 0 c).after 7 t) ⊢ ((dats m 0 c).leavesExact 7 t : sProp 𝕄) := by
  unfold Dat.leavesExact
  rw [idle7 t, decide_eq_true h]
  exact .rfl
theorem keeps8 (c : Dev nD) (t : Fin cfg0.N) (h : t.val < 6) (d) :
    owns (c : Thread nD τ) (st0_8 t) fullShare ((dats m 0 c).before 8 t d) ⊢ ((dats m 0 c).leavesExact 8 t : sProp 𝕄) := by
  unfold Dat.leavesExact
  rw [idle8 t, decide_eq_false (by omega), flush8 t, decide_eq_false (by omega)]
  show _ ⊢ iprop(∃ d, owns (c : Thread nD τ) (st0_8 t) fullShare ((dats m 0 c).before 8 t d))
  iintro H
  iexists d
  iexact H
theorem leaves8 (c : Dev nD) (t : Fin cfg0.N) (h : 6 ≤ t.val) :
    owns (c : Thread nD τ) (st0_8 t) fullShare ((dats m 0 c).after 8 t) ⊢ ((dats m 0 c).leavesExact 8 t : sProp 𝕄) := by
  unfold Dat.leavesExact
  rw [idle8 t, decide_eq_true h]
  exact .rfl

set_option maxHeartbeats 1600000 in
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0, before1, before2, before3, before4, before5]
  rw [show (dats m 0 c).owesAt () t.succ = (dats m 0 c).owesAt () t.castSucc from rfl,
    after0, after1, after2, after3, after4, after5,
    show (dats m 0 c).Φ t.castSucc = Φ m c t.val from rfl, show (dats m 0 c).Φ t.succ = Φ m c (t.val + 1) from rfl]
  unfold Φ
  have ht : t.val < 8 := Nat.lt_of_lt_of_eq t.isLt N_0
  rcases (by omega : t.val < 2 ∨ (2 ≤ t.val ∧ t.val < 6) ∨ t.val = 6 ∨ t.val = 7) with h | h | h | h
  · iintro ⟨⟨⟨%d, %hd, HS⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
    iapply (run_start c (grid0.coords t) _ _ _ _ _ _ _ _ _ _ _ _ _ _ _ _ _ _ _ _ ((starts t).mpr (by omega)) (fun e => absurd ((continues t).mp e) (by omega)) (fun e => absurd ((finishes t).mp e) (by omega)) (iblk m c 0 t) (iblk m c 1 t) d Set.univ _)
    isplitl [H0]; · iexact H0
    isplitl [H1]; · iexact H1
    isplitl [HS]; · iexact HS
    iintro ⟨H0, H1, HS⟩
    isplitl [HS Hg]
    · isplitl [HS]
      · iexists _; isplitr; swap; · iexact HS
        ipureintro
        have e := held_put m c t d hd
        rw [slot_start m c t h] at e
        exact e
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iapply (keeps6 m c t (by omega) d6); iexact H6
    isplitl [H7]; · iapply (keeps7 m c t (by omega) d7); iexact H7
    iapply (keeps8 m c t (by omega) d8)
    iexact H8
  · iintro ⟨⟨⟨%d, %hd, HS⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
    iapply (run_middle c (grid0.coords t) _ _ _ _ _ _ _ _ _ _ _ _ _ _ _ _ _ _ _ _ (fun e => absurd ((starts t).mp e) (by omega)) ((continues t).mpr (by omega)) (fun e => absurd ((finishes t).mp e) (by omega)) (iblk m c 0 t) (iblk m c 1 t) d Set.univ _)
    isplitl [H0]; · iexact H0
    isplitl [H1]; · iexact H1
    isplitl [HS]; · iexact HS
    iintro ⟨H0, H1, HS⟩
    isplitl [HS Hg]
    · isplitl [HS]
      · iexists _; isplitr; swap; · iexact HS
        ipureintro
        have e := held_put m c t d hd
        rw [← held_step m c t h.1 d hd] at e
        exact e
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iapply (keeps6 m c t (by omega) d6); iexact H6
    isplitl [H7]; · iapply (keeps7 m c t (by omega) d7); iexact H7
    iapply (keeps8 m c t (by omega) d8)
    iexact H8
  · iintro ⟨⟨⟨%d, %hd, HS⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
    iapply (run_finish c (grid0.coords t) _ _ _ _ _ _ _ _ _ _ _ _ _ _ _ _ _ _ _ _ (fun e => absurd ((starts t).mp e) (by omega)) ((continues t).mpr (by omega)) ((finishes t).mpr (by omega)) ((first_rows t).mpr (by omega)) (fun e => absurd ((second_rows t).mp e) (by omega)) (iblk m c 0 t) (iblk m c 1 t) (iblk m c 2 t) (iblk m c 3 t) (iblk m c 4 t) d (slot m c t) (held_step m c t (by omega) d hd) Set.univ _)
    isplitl [H0]; · iexact H0
    isplitl [H1]; · iexact H1
    isplitl [H2]; · iexact H2
    isplitl [H3]; · iexact H3
    isplitl [H4]; · iexact H4
    isplitl [H6]; · iexists _; iexact H6
    isplitl [H7]; · iexists _; iexact H7
    isplitl [H8]; · iexists _; iexact H8
    isplitl [HS]; · iexact HS
    iintro ⟨H0, H1, H2, H3, H4, H6, H7, H8, HS⟩
    isplitl [HS Hg]
    · isplitl [HS]
      · iexists _; isplitr; swap; · iexact HS
        ipureintro
        exact held_put m c t d hd
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iapply (leaves6 m c t (by omega)); rw [after6]; iexact H6
    isplitl [H7]; · iapply (leaves7 m c t (by omega)); rw [after7]; iexact H7
    iapply (leaves8 m c t (by omega))
    rw [after8, if_pos (by omega), show point 3 0 = t from Fin.ext h.symm]
    iexact H8
  · iintro ⟨⟨⟨%d, %hd, HS⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
    iapply (run_last c (grid0.coords t) _ _ _ _ _ _ _ _ _ _ _ _ _ _ _ _ _ _ _ _ (fun e => absurd ((starts t).mp e) (by omega)) ((continues t).mpr (by omega)) ((finishes t).mpr (by omega)) (fun e => absurd ((first_rows t).mp e) (by omega)) ((second_rows t).mpr (by omega)) (iblk m c 0 t) (iblk m c 1 t) (iblk m c 2 t) (iblk m c 3 t) (iblk m c 4 t) (scalePart m c (point 3 0)) d (slot m c t) (held_step m c t (by omega) d hd) Set.univ _)
    isplitl [H0]; · iexact H0
    isplitl [H1]; · iexact H1
    isplitl [H2]; · iexact H2
    isplitl [H3]; · iexact H3
    isplitl [H4]; · iexact H4
    isplitl [H6]; · iexists _; iexact H6
    isplitl [H7]; · iexists _; iexact H7
    isplitl [H8]; · rw [before8 m c t (by omega)]; iexact H8
    isplitl [HS]; · iexact HS
    iintro ⟨H0, H1, H2, H3, H4, H6, H7, H8, HS⟩
    isplitl [HS Hg]
    · isplitl [HS]
      · iexists _; isplitr; swap; · iexact HS
        ipureintro
        exact held_put m c t d hd
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iapply (leaves6 m c t (by omega)); rw [after6]; iexact H6
    isplitl [H7]; · iapply (leaves7 m c t (by omega)); rw [after7]; iexact H7
    iapply (leaves8 m c t (by omega))
    rw [after8, if_neg (by omega)]
    iexact H8

theorem defs₀_row (t : Fin cfg0.N) :
    defs₀ (F := F) .tc cfg0.body (cfg0.bodyArgs t (cfg0.slots t)) = bodyAt0 t := by
  unfold defs₀; rw [Defs.onTc_tc]

theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

/-! ## The run -/

theorem scratch_eq (c : Dev nD) :
    (Pipeline.ΦA spec0 c : sProp 𝕄)
      = iprop(iprop((∃ d, owns (c : Thread nD τ) (Memref.whole cc0_scratch0 : Memref sig .tc .vmem S2x1024x1024 .f32) fullShare d)) ∗ (∃ r, prngReg c r)) := by
  unfold Pipeline.ΦA; rw [scopedRest0_eq]; simp only [owns_whole]; try rfl

theorem enters (c : Dev nD) : (Pipeline.ΦA spec0 c : sProp 𝕄) ⊢ (dats m 0 c).Φ 0 := by
  rw [show (dats m 0 c).Φ 0 = Φ m c 0 from rfl, scratch_eq]
  unfold Φ
  iintro ⟨⟨%d, HS⟩, Hg⟩
  isplitl [HS]
  · iexists d; isplitr; swap; · iexact HS
    ipureintro
    exact fun s hs _ => absurd hs (Nat.not_lt_zero _)
  iexact Hg

theorem leaves (c : Dev nD) : (dats m 0 c).Φ (Fin.last cfg0.N) ⊢ (Pipeline.ΦA spec0 c : sProp 𝕄) := by
  rw [show (dats m 0 c).Φ (Fin.last cfg0.N) = Φ m c cfg0.N from rfl, scratch_eq]
  unfold Φ
  iintro ⟨⟨%d, %hd, HS⟩, Hg⟩
  isplitl [HS]
  · iexists d; iexact HS
  iexact Hg

-- the launch's implicit arguments are found by unifying its conclusion with this one, which takes unfolding plain definitions
set_option backward.isDefEq.respectTransparency.types false in
set_option maxHeartbeats 800000 in
theorem run_all : θ_run defs (onTc (τ := τ) (main (F := F))) (s₀ m ρ) (fun r => (Pipeline.FramePost cfgs (dats m) 0 (V m)) r ∧ r.2.sem = fun _ => 0) :=
  Pipeline.θ_run_frame_track (Q' := _) cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hin := enters m) (hout := leaves m)

/-- The kernel runs to the end and leaves its arguments as they were. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5))
      ∧ r.2.sem = fun _ => 0) :=
  θ_run_and (frame_of m ρ (dats m) (A_eq m) ((θ_run defs _ _).mono (fun _ h => h.1) (run_all m ρ)))
    ((θ_run defs _ _).mono (fun _ h => h.2) (run_all m ρ))

/-- The kernel's outputs, as the write-backs of its blocks. -/
theorem run_blocks : θ_run defs (onTc (τ := τ) (main (F := F))) ⟨m, fun _ => 0, ρ⟩ (fun r => ∀ c : Dev nD,
      r.2.mem ((c.tc : Thread nD τ).loc main_v0_0) = (dats m 0 c).arrAt 6 cfg0.N
      ∧ r.2.mem ((c.tc : Thread nD τ).loc main_v0_1) = (dats m 0 c).arrAt 7 cfg0.N
      ∧ r.2.mem ((c.tc : Thread nD τ).loc main_v0_2) = (dats m 0 c).arrAt 8 cfg0.N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  (θ_run defs _ _).mono (fun r h c => ⟨(h.1.1 c).1 6, (h.1.1 c).1 7, (h.1.1 c).1 8, h.2.1 c⟩)
    (θ_run_and (run_all m ρ) (frame m ρ))

end Cert.Back14

end
-- ==== Proof.Machine14.lean ====
module

public import proofs.«01_k».proof.Proof.BackRun14
public import proofs.«01_k».proof.Proof.Gen.Kernel14.Frame

/-!
The kernel on the machine's formats: its text is that of the kernel on extended reals, whose frame is proved for floats of any
kind, so it has the same frame.
-/

@[expose] public section

noncomputable section

open Idealize.ShloMosaic Idealize.ShloMosaic.TcCoe Idealize.SL Idealize.SL.Sem

namespace Cert.Machine14

open Cert.Kernel14 Cert.Kernel14.Gen

variable {F : FTy → Type} [FloatOps F]

/-- The two texts of the call are one. -/
theorem table₀ : Cert.Kernel14.defs₀ (F := F) = Cert.Kernel14Ideal.defs₀ (F := F) := by
  unfold Cert.Kernel14.defs₀ Cert.Kernel14Ideal.defs₀
  refine congrArg Defs.onTc ?_
  funext l x
  match l, x with
  | 0, (t, s) => rfl
theorem table : Cert.Kernel14.defs (F := F) = Cert.Kernel14Ideal.defs (F := F) := by
  unfold Cert.Kernel14.defs Cert.Kernel14Ideal.defs
  rw [table₀]
  rfl

/-- The kernel runs to the end and leaves its arguments as they were. -/
theorem frame (m : (ℓ : Loc nD τ sig) → Buf (Elt F) ℓ) (ρ : Dev nD → PrngReg) :
    θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5))
      ∧ r.2.sem = fun _ => 0) := by
  rw [table]
  exact Cert.Back14.frame m ρ

end Cert.Machine14

end
-- ==== Proof.Grad.lean ====
module

public import proofs.«01_k».proof.Proof.Norm
public import Idealize.ShloMosaic.Lib.Pointwise.Sums

/-!
The cotangent of the normalisation's input and of its weights, from the cotangent of the normalised array. The reference
differentiates the square root of the mean; the kernel has the derivative written out. The two are this one function.
-/

@[expose] public section

noncomputable section

open Idealize.ShloMosaic

namespace Cert.Grad

open Cert.Product Cert.Norm

variable {n m K : ℕ} {φ₁ φ₂ : FTy}

/-! ## A product over the second axis of both arrays -/

/-- The dimension numbers of the product of an array `n × K` with the transpose of an array `m × K`. -/
def second (K n m : ℕ) (wf : DotDims.WF ⟨2, ![n, K]⟩ ⟨2, ![m, K]⟩ ⟨2, ![n, m]⟩ [1] [1] [0] [0] [] []) :
    DotDims ⟨2, ![n, K]⟩ ⟨2, ![m, K]⟩ ⟨2, ![n, m]⟩ where
  lhsContracting := [1]
  rhsContracting := [1]
  lhsNonContracting := [0]
  rhsNonContracting := [0]
  lhsBatch := []
  rhsBatch := []
  wf := wf

theorem second_lhs (wf) (j : (⟨2, ![n, m]⟩ : Shape).Idx) (k : Fin K) :
    (second K n m wf).lhsIdx j ((ValueIdx.contrEquiv1 (second K n m wf) K rfl rfl).symm k) = at2 (j 0) k := by
  funext a
  refine Fin.ext ?_
  match a with
  | ⟨0, _⟩ => rfl
  | ⟨1, _⟩ => exact ValueIdx.contrEquiv1_symm_val (second K n m wf) K rfl rfl k
theorem second_rhs (wf) (j : (⟨2, ![n, m]⟩ : Shape).Idx) (k : Fin K) :
    (second K n m wf).rhsIdx j ((ValueIdx.contrEquiv1 (second K n m wf) K rfl rfl).symm k) = at2 (j 1) k := by
  funext a
  refine Fin.ext ?_
  match a with
  | ⟨0, _⟩ => rfl
  | ⟨1, _⟩ => exact ValueIdx.contrEquiv1_symm_val (second K n m wf) K rfl rfl k

theorem matmul_second (prec : Option ContractPrecision) (wf)
    (A : FVec Ideal ⟨2, ![n, K]⟩ φ₁) (B : FVec Ideal ⟨2, ![m, K]⟩ φ₂) (j : (⟨2, ![n, m]⟩ : Shape).Idx) :
    matmul (second K n m wf) prec A B (constant ⟨2, ![n, m]⟩ .f32 0x00000000#32 : FVec Ideal ⟨2, ![n, m]⟩ .f32) j
      = ∑ k : Fin K, A (at2 (j 0) k) * B (at2 (j 1) k) :=
  matmul_paired prec _ A B j rfl rfl _ _ (second_lhs wf j) (second_rhs wf j)
theorem dot_second (prec : Option ContractPrecision) (wf)
    (A : FVec Ideal ⟨2, ![n, K]⟩ φ₁) (B : FVec Ideal ⟨2, ![m, K]⟩ φ₂) (j : (⟨2, ![n, m]⟩ : Shape).Idx) :
    Host.dotGeneral (second K n m wf) prec A B j = ∑ k : Fin K, A (at2 (j 0) k) * B (at2 (j 1) k) :=
  dot_paired prec _ A B j rfl rfl _ _ (second_lhs wf j) (second_rhs wf j)

/-! ## The derivative -/

/-- The number of columns. -/
def cols : EReal := FloatOps.ofBits (F := Ideal) .f32 0x44800000#32
/-- Minus one half. -/
def minusHalf : EReal := FloatOps.ofBits (F := Ideal) .f32 0xBF000000#32

theorem cols_eq : cols = ((1024 : ℝ) : EReal) := by
  show Ideal.ofBits .f32 0x44800000#32 = _
  simp [Ideal.ofBits, Ideal.ieee, -EReal.coe_mul]; norm_num
theorem minusHalf_eq : minusHalf = ((-(1 / 2) : ℝ) : EReal) := by
  show Ideal.ofBits .f32 0xBF000000#32 = _
  simp [Ideal.ofBits, Ideal.ieee, -EReal.coe_mul, -EReal.coe_neg]; norm_num
theorem small_pos : (0 : EReal) < FloatOps.ofBits (F := Ideal) .f32 0x358637BD#32 := by
  show (0 : EReal) < Ideal.ofBits .f32 0x358637BD#32
  simp [Ideal.ofBits, Ideal.ieee, -EReal.coe_mul]

/-- Division by the number of columns is a product with a real number. -/
theorem div_cols (x : EReal) : Ideal.div x cols = x * (((1024 : ℝ)⁻¹ : ℝ) : EReal) := by
  rw [cols_eq]
  unfold Ideal.div
  rw [if_neg (by norm_num), EReal.coe_inv]

theorem square_nonneg (x : EReal) : 0 ≤ x * x := by
  rcases le_total 0 x with h | h
  · exact mul_nonneg h h
  · exact EReal.mul_nonneg_iff.mpr (.inr ⟨h, h⟩)

/-- The mean of the squares plus the small constant is positive. -/
theorem mean_pos (x : FVec Ideal ⟨2, ![n, 1024]⟩ .f32) (r : Fin n) : 0 < mean x r := by
  unfold mean
  refine lt_of_lt_of_le small_pos (le_add_of_nonneg_left ?_)
  refine (mul_nonneg (Finset.sum_nonneg fun k _ => square_nonneg _) (EReal.coe_nonneg.mpr (by norm_num)) : (0 : EReal) ≤ _ * (((1024 : ℝ)⁻¹ : ℝ) : EReal)).trans (div_cols _).ge

/-- One over the square root of a positive number is a real number, and its third power is its quotient by that number. -/
theorem rsqrt_cube (v : EReal) (hv : 0 < v) : ∃ ρ : ℝ, Ideal.rsqrt v = (ρ : EReal) ∧ Ideal.div (Ideal.rsqrt v) v = ((ρ * ρ * ρ : ℝ) : EReal) := by
  induction v with
  | bot => exact absurd hv (by simp)
  | top =>
    refine ⟨0, rfl, ?_⟩
    show Ideal.div 0 ⊤ = _
    rw [Ideal.zero_div (by simp)]
    norm_num
  | coe v =>
    have hv' : 0 < v := EReal.coe_pos.mp hv
    have e : Ideal.rsqrt ((v : ℝ) : EReal) = (((Real.sqrt v)⁻¹ : ℝ) : EReal) := by
      show (if v < 0 then (⊥ : EReal) else if v = 0 then ⊤ else (((Real.sqrt v)⁻¹ : ℝ) : EReal)) = _
      rw [if_neg (by linarith), if_neg hv'.ne']
    refine ⟨(Real.sqrt v)⁻¹, e, ?_⟩
    rw [e]
    unfold Ideal.div
    rw [if_neg (by exact_mod_cast hv'.ne'), ← EReal.coe_inv, ← EReal.coe_mul]
    congr 1
    have hs : Real.sqrt v * Real.sqrt v = v := Real.mul_self_sqrt hv'.le
    rw [mul_assoc, ← mul_inv (Real.sqrt v) (Real.sqrt v), hs]

theorem double (y : EReal) : y + y = ((2 : ℝ) : EReal) * y := by
  have h := EReal.right_distrib_of_nonneg (a := 1) (b := 1) (c := y) zero_le_one zero_le_one
  rw [one_mul] at h
  rw [← h]
  congr 1
  exact (EReal.coe_add 1 1).symm.trans (congrArg Real.toEReal (by norm_num))

/-- The two halves of the reference's derivative of the mean together are the kernel's one term. -/
theorem halves (x s v : EReal) (hv : 0 < v) :
    x * Ideal.div (s * (minusHalf * Ideal.div (Ideal.rsqrt v) v)) cols + Ideal.div (s * (minusHalf * Ideal.div (Ideal.rsqrt v) v)) cols * x
      = -(x * (Ideal.rsqrt v * Ideal.rsqrt v * Ideal.rsqrt v * Ideal.div s cols)) := by
  obtain ⟨ρ, e, e3⟩ := rsqrt_cube v hv
  rw [e3, e, div_cols, div_cols, minusHalf_eq, ← EReal.coe_mul, ← EReal.coe_mul, ← EReal.coe_mul, mul_comm (_ * _) x, double]
  rw [← mul_neg, ← EReal.neg_mul, ← EReal.coe_neg]
  have hc : (2 : ℝ) * (-(1 / 2) * (ρ * ρ * ρ)) = -(ρ * ρ * ρ) := by ring
  rw [← hc, EReal.coe_mul 2]
  ac_rfl

/-- The cotangent of the normalisation's input at row `r` and column `c`, added to the cotangent `d` that reaches it past the
    normalisation; `dn` is the cotangent of the normalised array. -/
def grad (x : FVec Ideal ⟨2, ![n, 1024]⟩ .f32) (dn : Fin n → Fin 1024 → EReal) (g : Fin 1024 → EReal) (d : FVec Ideal ⟨2, ![n, 1024]⟩ .f32)
    (r : Fin n) (c : Fin 1024) : EReal :=
  d (at2 r c) + Ideal.rsqrt (mean x r) * (dn r c * g c)
    - x (at2 r c) * (Ideal.rsqrt (mean x r) * Ideal.rsqrt (mean x r) * Ideal.rsqrt (mean x r) * Ideal.div (∑ k : Fin 1024, dn r k * g k * x (at2 r k)) cols)

/-- One row's part of the cotangent of the normalisation's weights. -/
def part (x : FVec Ideal ⟨2, ![n, 1024]⟩ .f32) (dn : Fin n → Fin 1024 → EReal) (r : Fin n) (c : Fin 1024) : EReal :=
  dn r c * (x (at2 r c) * Ideal.rsqrt (mean x r))

variable {N : ℕ}

theorem mean_rows (v : FVec Ideal ⟨2, ![n, 1024]⟩ .f32) (h : FVec Ideal ⟨2, ![N, 1024]⟩ .f32) (r : Fin n) (R : Fin N)
    (e : ∀ k, v (at2 r k) = h (at2 R k)) : mean v r = mean h R := by
  unfold mean
  rw [Finset.sum_congr rfl fun k _ => congrArg₂ (fun a b : EReal => a * b) (e k) (e k)]

theorem grad_rows (v d : FVec Ideal ⟨2, ![n, 1024]⟩ .f32) (h d' : FVec Ideal ⟨2, ![N, 1024]⟩ .f32) (dn : Fin n → Fin 1024 → EReal) (dn' : Fin N → Fin 1024 → EReal)
    (g g' : Fin 1024 → EReal) (r : Fin n) (R : Fin N) (e : ∀ k, v (at2 r k) = h (at2 R k)) (ed : ∀ k, d (at2 r k) = d' (at2 R k))
    (en : ∀ k, dn r k = dn' R k) (eg : ∀ k, g k = g' k) (c : Fin 1024) : grad v dn g d r c = grad h dn' g' d' R c := by
  unfold grad
  rw [mean_rows v h r R e, e c, ed c, en c, eg c, Finset.sum_congr rfl fun k _ => by rw [en k, eg k, e k]]

theorem part_rows (v : FVec Ideal ⟨2, ![n, 1024]⟩ .f32) (h : FVec Ideal ⟨2, ![N, 1024]⟩ .f32) (dn : Fin n → Fin 1024 → EReal) (dn' : Fin N → Fin 1024 → EReal)
    (r : Fin n) (R : Fin N) (e : ∀ k, v (at2 r k) = h (at2 R k)) (en : ∀ k, dn r k = dn' R k) (c : Fin 1024) : part v dn r c = part h dn' R c := by
  unfold part
  rw [mean_rows v h r R e, e c, en c]

/-! ## The kernel's text -/

/-- One over the square root of the mean, as the kernel computes it. -/
theorem kernelInv (x : FVec Ideal ⟨2, ![n, 1024]⟩ .f32) (acc hφ hacc) (h1 : (⟨2, ![n, 1024]⟩ : Shape).Reduces [1] ⟨1, ![n]⟩)
    (h2 : (⟨1, ![n]⟩ : Shape).ShapeCasts ⟨2, ![n, 1]⟩) (r : Fin n) :
    rsqrt (addf (divf (shapeCast ⟨2, ![n, 1]⟩ (multiReduction .add [1] ⟨1, ![n]⟩ (mulf x x) acc h1 hφ hacc) h2)
      (broadcast ⟨2, ![n, 1]⟩ (Scalar.ofBits .f32 0x44800000#32))) (broadcast ⟨2, ![n, 1]⟩ (Scalar.ofBits .f32 0x358637BD#32))) (at2 r 0)
      = Ideal.rsqrt (mean x r) := by
  refine congrArg Ideal.rsqrt (congrArg₂ (fun a b : EReal => a + b) (congrArg₂ Ideal.div ?_ rfl) rfl)
  exact (asColumn _ h2 r).trans (rowSum _ h1 acc hφ hacc (ix1 r))

theorem kernelGrad (x D d : FVec Ideal ⟨2, ![n, 1024]⟩ .f32) (G : FVec Ideal ⟨2, ![1, 1024]⟩ .f32) (R : FVec Ideal ⟨2, ![n, 1]⟩ .f32)
    (hR : ∀ r, R (at2 r 0) = Ideal.rsqrt (mean x r)) (acc hφ hacc) (h1 : (⟨2, ![n, 1024]⟩ : Shape).Reduces [1] ⟨1, ![n]⟩)
    (h2 : (⟨1, ![n]⟩ : Shape).ShapeCasts ⟨2, ![n, 1]⟩) (h3 : (⟨2, ![n, 1]⟩ : Shape).Broadcasts ⟨2, ![n, 1024]⟩)
    (h5 : (⟨2, ![1, 1024]⟩ : Shape).Broadcasts ⟨2, ![n, 1024]⟩) (j : (⟨2, ![n, 1024]⟩ : Shape).Idx) :
    subf (addf d (mulf (broadcastTo ⟨2, ![n, 1024]⟩ R h3) (mulf D (broadcastTo ⟨2, ![n, 1024]⟩ G h5))))
      (mulf x (broadcastTo ⟨2, ![n, 1024]⟩ (mulf (mulf (mulf R R) R)
        (divf (shapeCast ⟨2, ![n, 1]⟩ (multiReduction .add [1] ⟨1, ![n]⟩ (mulf (mulf D (broadcastTo ⟨2, ![n, 1024]⟩ G h5)) x) acc h1 hφ hacc) h2)
          (broadcast ⟨2, ![n, 1]⟩ (Scalar.ofBits .f32 0x44800000#32)))) h3)) j
      = grad x (fun r c => D (at2 r c)) (fun c => G (at2 0 c)) d (j 0) (j 1) := by
  refine congrArg₂ (fun a b : EReal => a - b) (congrArg₂ (fun a b : EReal => a + b) (congrArg d (at2_eta j).symm) (congrArg₂ (fun a b : EReal => a * b) ?_
    (congrArg₂ (fun a b : EReal => a * b) (congrArg D (at2_eta j).symm) (row G h5 j)))) (congrArg₂ (fun a b : EReal => a * b) (congrArg x (at2_eta j).symm) ?_)
  · exact (column R h3 j).trans (hR (j 0))
  · refine (column _ h3 j).trans (congrArg₂ (fun a b : EReal => a * b) (congrArg₂ (fun a b : EReal => a * b) (congrArg₂ (fun a b : EReal => a * b) (hR _) (hR _)) (hR _))
      (congrArg₂ Ideal.div ?_ rfl))
    refine (asColumn _ h2 (j 0)).trans ((rowSum _ h1 acc hφ hacc (ix1 (j 0))).trans (Finset.sum_congr rfl fun k _ => ?_))
    exact congrArg₂ (fun a b : EReal => a * b) (congrArg₂ (fun a b : EReal => a * b) rfl (row G h5 _)) rfl

/-- The sum down a column, as the kernel takes it. -/
theorem colSum (v : FVec Ideal ⟨2, ![n, 1024]⟩ .f32) (h : (⟨2, ![n, 1024]⟩ : Shape).Reduces [0] ⟨1, ![1024]⟩) (acc hφ hacc) (c : (⟨1, ![1024]⟩ : Shape).Idx) :
    multiReduction .add [0] ⟨1, ![1024]⟩ v acc h hφ hacc c = ∑ r : Fin n, v (at2 r (c 0)) := by
  refine (multiReduction_add_apply v acc h hφ hacc c).trans ?_
  refine (Ideal.reduceAdd_r2_a0 h v c).trans ?_
  refine Finset.sum_congr rfl fun k _ => congrArg v (funext fun a => ?_)
  match a with
  | ⟨0, _⟩ => rfl
  | ⟨1, _⟩ => rfl

/-- The sum down a column, as the reference takes it. -/
theorem colSumHost (v : FVec Ideal ⟨2, ![n, 1024]⟩ .f32) (h : (⟨2, ![n, 1024]⟩ : Shape).ReducesTo [0] ⟨1, ![1024]⟩) (hu) (c : (⟨1, ![1024]⟩ : Shape).Idx) :
    Host.reduceAdd v (constant ⟨0, ![]⟩ .f32 0x00000000#32) h hu c = ∑ r : Fin n, v (at2 r (c 0)) := by
  refine (Host.reduceAdd_apply v _ h hu c).trans ?_
  refine (Ideal.hostReduceAdd_r2_a0 h v _ c).trans ?_
  refine (congrArg (fun z : EReal => z + _) (show (constant ⟨0, ![]⟩ .f32 0x00000000#32 : FVec Ideal ⟨0, ![]⟩ .f32) (Shape.Idx.first hu) = (0 : EReal) from Ideal.ofBits_zero_f32)).trans ((zero_add _).trans ?_)
  refine Finset.sum_congr rfl fun k _ => congrArg v (funext fun a => ?_)
  match a with
  | ⟨0, _⟩ => rfl
  | ⟨1, _⟩ => rfl

/-- A vector read as one row. -/
theorem asOneRow (x : FVec Ideal ⟨1, ![1024]⟩ .f32) (h : (⟨1, ![1024]⟩ : Shape).ShapeCasts ⟨2, ![1, 1024]⟩) (j : (⟨2, ![1, 1024]⟩ : Shape).Idx) :
    shapeCast ⟨2, ![1, 1024]⟩ x h j = x (ix1 (j 1)) := by
  refine shapeCast_apply x h j (ix1 (j 1)) ?_
  rw [rowMajor_val2 _ 1024 rfl, Shape.rowMajor_val_one]
  have h0 : (j 0 : ℕ) < 1 := (j 0).isLt
  show (j 1 : ℕ) = (j 0 : ℕ) * 1024 + (j 1 : ℕ)
  omega

theorem kernelPart (x D : FVec Ideal ⟨2, ![n, 1024]⟩ .f32) (R : FVec Ideal ⟨2, ![n, 1]⟩ .f32)
    (hR : ∀ r, R (at2 r 0) = Ideal.rsqrt (mean x r)) (acc hφ hacc) (h1 : (⟨2, ![n, 1024]⟩ : Shape).Reduces [0] ⟨1, ![1024]⟩)
    (h2 : (⟨1, ![1024]⟩ : Shape).ShapeCasts ⟨2, ![1, 1024]⟩) (h3 : (⟨2, ![n, 1]⟩ : Shape).Broadcasts ⟨2, ![n, 1024]⟩) (j : (⟨2, ![1, 1024]⟩ : Shape).Idx) :
    shapeCast ⟨2, ![1, 1024]⟩ (multiReduction .add [0] ⟨1, ![1024]⟩ (mulf D (mulf x (broadcastTo ⟨2, ![n, 1024]⟩ R h3))) acc h1 hφ hacc) h2 j
      = ∑ r : Fin n, part x (fun r c => D (at2 r c)) r (j 1) := by
  refine (asOneRow _ h2 j).trans ((colSum _ h1 acc hφ hacc (ix1 (j 1))).trans (Finset.sum_congr rfl fun r _ => ?_))
  exact congrArg₂ (fun a b : EReal => a * b) rfl (congrArg₂ (fun a b : EReal => a * b) rfl ((column R h3 _).trans (hR _)))

/-! ## The reference's text -/

/-- The mean of the squares plus the small constant, as the reference computes it. -/
theorem hostMean (x : FVec Ideal ⟨2, ![n, 1024]⟩ .f32) (h1 : (⟨2, ![n, 1024]⟩ : Shape).ReducesTo [1] ⟨1, ![n]⟩) (hu : 0 < (⟨0, ![]⟩ : Shape).numel)
    (h2 : (⟨1, ![n]⟩ : Shape).BroadcastsInDim ⟨2, ![n, 1]⟩ ![0]) (h0 : (⟨0, ![]⟩ : Shape).BroadcastsInDim ⟨2, ![n, 1]⟩ ![]) (r : Fin n) :
    addf (Host.divf (broadcastInDim ⟨2, ![n, 1]⟩ ![0] h2 (Host.reduceAdd (mulf x x) (constant ⟨0, ![]⟩ .f32 0x00000000#32) h1 hu))
      (broadcastInDim ⟨2, ![n, 1]⟩ ![] h0 (constant ⟨0, ![]⟩ .f32 0x44800000#32))) (broadcastInDim ⟨2, ![n, 1]⟩ ![] h0 (constant ⟨0, ![]⟩ .f32 0x358637BD#32)) (at2 r 0)
      = mean x r := by
  refine congrArg₂ (fun a b : EReal => a + b) (congrArg₂ Ideal.div ?_ rfl) rfl
  exact (asColumnDim _ h2 r).trans (rowSumHost _ h1 hu (ix1 r))

/-- A sum over an axis of length one. -/
theorem oneSum (v : FVec Ideal ⟨2, ![n, 1]⟩ .f32) (h : (⟨2, ![n, 1]⟩ : Shape).ReducesTo [1] ⟨1, ![n]⟩) (hu) (r : Fin n) :
    Host.reduceAdd v (constant ⟨0, ![]⟩ .f32 0x00000000#32) h hu (ix1 r) = v (at2 r 0) := by
  refine (Host.reduceAdd_apply v _ h hu (ix1 r)).trans ?_
  refine (Ideal.hostReduceAdd_r2_a1 h v _ (ix1 r)).trans ?_
  refine (congrArg (fun z : EReal => z + _) (show (constant ⟨0, ![]⟩ .f32 0x00000000#32 : FVec Ideal ⟨0, ![]⟩ .f32) (Shape.Idx.first hu) = (0 : EReal) from Ideal.ofBits_zero_f32)).trans ((zero_add _).trans ?_)
  refine (Fin.sum_univ_one _).trans (congrArg v (funext fun a => ?_))
  match a with
  | ⟨0, _⟩ => rfl
  | ⟨1, _⟩ => rfl

/-- A vector repeated along every row. -/
theorem columnOf (x : FVec Ideal ⟨1, ![n]⟩ .f32) (h : (⟨1, ![n]⟩ : Shape).BroadcastsInDim ⟨2, ![n, 1024]⟩ ![0])
    (j : (⟨2, ![n, 1024]⟩ : Shape).Idx) : broadcastInDim ⟨2, ![n, 1024]⟩ ![0] h x j = x (ix1 (j 0)) := by
  refine broadcastInDim_apply ![0] h x j (ix1 (j 0)) fun a => ?_
  match a with
  | ⟨0, _⟩ =>
    show (j 0).val = if n = 1 then 0 else (j 0).val
    split
    · have h0 : (j 0).val < n := (j 0).isLt
      omega
    · rfl

/-- The derivative of the mean, as the reference computes it. -/
theorem hostSlope (x Q : FVec Ideal ⟨2, ![n, 1024]⟩ .f32) (V : FVec Ideal ⟨2, ![n, 1]⟩ .f32) (hV : ∀ r, V (at2 r 0) = mean x r)
    (h1 : (⟨2, ![n, 1024]⟩ : Shape).ReducesTo [1] ⟨1, ![n]⟩) (hu : 0 < (⟨0, ![]⟩ : Shape).numel) (h2 : (⟨1, ![n]⟩ : Shape).ShapeCasts ⟨2, ![n, 1]⟩)
    (h0 : (⟨0, ![]⟩ : Shape).BroadcastsInDim ⟨2, ![n, 1]⟩ ![]) (h3 : (⟨2, ![n, 1]⟩ : Shape).ReducesTo [1] ⟨1, ![n]⟩) (r : Fin n) :
    Host.reduceAdd (Host.divf (mulf (shapeCast ⟨2, ![n, 1]⟩ (Host.reduceAdd (mulf x Q) (constant ⟨0, ![]⟩ .f32 0x00000000#32) h1 hu) h2)
      (mulf (broadcastInDim ⟨2, ![n, 1]⟩ ![] h0 (constant ⟨0, ![]⟩ .f32 0xBF000000#32)) (Host.divf (Host.rsqrt V) V)))
      (broadcastInDim ⟨2, ![n, 1]⟩ ![] h0 (constant ⟨0, ![]⟩ .f32 0x44800000#32))) (constant ⟨0, ![]⟩ .f32 0x00000000#32) h3 hu (ix1 r)
      = Ideal.div ((∑ k : Fin 1024, Q (at2 r k) * x (at2 r k)) * (minusHalf * Ideal.div (Ideal.rsqrt (mean x r)) (mean x r))) cols := by
  refine (oneSum _ h3 hu r).trans (congrArg₂ Ideal.div (congrArg₂ (fun a b : EReal => a * b) ?_ (congrArg₂ (fun a b : EReal => a * b) rfl
    (congrArg₂ Ideal.div (congrArg Ideal.rsqrt (hV r)) (hV r)))) rfl)
  refine (asColumn _ h2 r).trans ((rowSumHost _ h1 hu (ix1 r)).trans (Finset.sum_congr rfl fun k _ => ?_))
  exact mul_comm (x (at2 r k) : EReal) (Q (at2 r k))

theorem hostGrad (x D d : FVec Ideal ⟨2, ![n, 1024]⟩ .f32) (G : FVec Ideal ⟨2, ![1, 1024]⟩ .f32) (V : FVec Ideal ⟨2, ![n, 1]⟩ .f32) (S : FVec Ideal ⟨1, ![n]⟩ .f32)
    (hV : ∀ r, V (at2 r 0) = mean x r) (h3 : (⟨2, ![n, 1]⟩ : Shape).BroadcastsInDim ⟨2, ![n, 1024]⟩ ![0, 1])
    (h5 : (⟨2, ![1, 1024]⟩ : Shape).BroadcastsInDim ⟨2, ![n, 1024]⟩ ![0, 1]) (h6 : (⟨1, ![n]⟩ : Shape).BroadcastsInDim ⟨2, ![n, 1024]⟩ ![0])
    (hS : ∀ r, S (ix1 r) = Ideal.div ((∑ k : Fin 1024, mulf D (broadcastInDim ⟨2, ![n, 1024]⟩ ![0, 1] h5 G) (at2 r k) * x (at2 r k))
      * (minusHalf * Ideal.div (Ideal.rsqrt (mean x r)) (mean x r))) cols) (j : (⟨2, ![n, 1024]⟩ : Shape).Idx) :
    addf d (addf (addf (mulf (mulf D (broadcastInDim ⟨2, ![n, 1024]⟩ ![0, 1] h5 G)) (broadcastInDim ⟨2, ![n, 1024]⟩ ![0, 1] h3 (Host.rsqrt V)))
      (mulf x (broadcastInDim ⟨2, ![n, 1024]⟩ ![0] h6 S))) (mulf (broadcastInDim ⟨2, ![n, 1024]⟩ ![0] h6 S) x)) j
      = grad x (fun r c => D (at2 r c)) (fun c => G (at2 0 c)) d (j 0) (j 1) := by
  have eS : broadcastInDim ⟨2, ![n, 1024]⟩ ![0] h6 S j = _ := (columnOf S h6 j).trans (hS (j 0))
  have eG : ∀ i : (⟨2, ![n, 1024]⟩ : Shape).Idx, broadcastInDim ⟨2, ![n, 1024]⟩ ![0, 1] h5 G i = G (at2 0 (i 1)) := fun i => rowDim G h5 i
  have eR : broadcastInDim ⟨2, ![n, 1024]⟩ ![0, 1] h3 (Host.rsqrt V) j = Ideal.rsqrt (mean x (j 0)) :=
    (columnDim _ h3 j).trans (congrArg Ideal.rsqrt (hV (j 0)))
  have eQ : ∀ k : Fin 1024, mulf D (broadcastInDim ⟨2, ![n, 1024]⟩ ![0, 1] h5 G) (at2 (j 0) k) = D (at2 (j 0) k) * G (at2 0 k) := fun k =>
    congrArg₂ (fun a b : EReal => a * b) rfl (eG _)
  rw [Finset.sum_congr rfl fun k _ => by rw [eQ k]] at eS
  show d j + ((D j * broadcastInDim ⟨2, ![n, 1024]⟩ ![0, 1] h5 G j * broadcastInDim ⟨2, ![n, 1024]⟩ ![0, 1] h3 (Host.rsqrt V) j
    + x j * broadcastInDim ⟨2, ![n, 1024]⟩ ![0] h6 S j) + broadcastInDim ⟨2, ![n, 1024]⟩ ![0] h6 S j * x j) = _
  rw [eS, eG, eR, add_assoc, halves _ _ _ (mean_pos x (j 0)), ← add_assoc]
  unfold grad
  rw [sub_eq_add_neg]
  exact congrArg₂ (fun a b : EReal => a + b) (congrArg₂ (fun a b : EReal => a + b) (congrArg d (at2_eta j).symm) ((mul_comm (_ : EReal) _).trans
    (congrArg₂ (fun a b : EReal => a * b) rfl (congrArg₂ (fun a b : EReal => a * b) (congrArg D (at2_eta j).symm) rfl))))
    (congrArg (fun a : EReal => -a) (congrArg₂ (fun a b : EReal => a * b) (congrArg x (at2_eta j).symm) rfl))

theorem hostPart (x D : FVec Ideal ⟨2, ![n, 1024]⟩ .f32) (V : FVec Ideal ⟨2, ![n, 1]⟩ .f32) (hV : ∀ r, V (at2 r 0) = mean x r)
    (h1 : (⟨2, ![n, 1024]⟩ : Shape).ReducesTo [0] ⟨1, ![1024]⟩) (hu : 0 < (⟨0, ![]⟩ : Shape).numel) (h2 : (⟨1, ![1024]⟩ : Shape).ShapeCasts ⟨2, ![1, 1024]⟩)
    (h3 : (⟨2, ![n, 1]⟩ : Shape).BroadcastsInDim ⟨2, ![n, 1024]⟩ ![0, 1]) (j : (⟨2, ![1, 1024]⟩ : Shape).Idx) :
    shapeCast ⟨2, ![1, 1024]⟩ (Host.reduceAdd (mulf (mulf x (broadcastInDim ⟨2, ![n, 1024]⟩ ![0, 1] h3 (Host.rsqrt V))) D) (constant ⟨0, ![]⟩ .f32 0x00000000#32) h1 hu) h2 j
      = ∑ r : Fin n, part x (fun r c => D (at2 r c)) r (j 1) := by
  refine (asOneRow _ h2 j).trans ((colSumHost _ h1 hu (ix1 (j 1))).trans (Finset.sum_congr rfl fun r _ => ?_))
  refine (mul_comm (_ : EReal) (D (at2 r (j 1)))).trans (congrArg₂ (fun a b : EReal => a * b) rfl (congrArg₂ (fun a b : EReal => a * b) rfl ?_))
  exact (columnDim _ h3 _).trans (congrArg Ideal.rsqrt (hV _))

end Cert.Grad

end
-- ==== Proof.Back14.lean ====
/-
The call that takes the cotangent of a projection back through the product and the normalisation, on even layers: its three results
are the reference's.
-/
module

public import proofs.«01_k».proof.Defs
public import proofs.«01_k».proof.Proof.Grad
public import proofs.«01_k».proof.Proof.BackRun14
public import proofs.«01_k».proof.Proof.Gen.Reference14Ideal.Run

@[expose] public section

noncomputable section

open Idealize.ShloMosaic Idealize.ShloMosaic.TcCoe Idealize.SL.Sem

namespace Cert.Back14

section

open Cert.Kernel14Ideal Cert.Kernel14Ideal.Gen Cert.Product Cert.Norm Cert.Grad

variable (m : (ℓ : Loc nD τ sig) → Buf (Elt Ideal) ℓ)

/-- The index `(0, j, k, l)` of the weights: row `k` and column `l` of shard `j`. -/
def atShard (j : Fin 4) (k : Fin 1024) (l : Fin 1280) : S1x4x1024x1280.Idx := ix4 (0 : Fin 1) j k l
/-- The same of one shard's weights. -/
def atOne (k : Fin 1024) (l : Fin 1280) : S1x1x1024x1280.Idx := ix4 (0 : Fin 1) (0 : Fin 1) k l
/-- Row `r` and column `k` of a slot. -/
def inSlot (r k : Fin 1024) : S1x1024x1024.Idx := ix3 (0 : Fin 1) r k

/-- The weights of the norm. -/
def scale (g : FVec Ideal S2x1x1024 .f32) (c : Fin 1024) : EReal := g (ix3 0 0 c)

/-- The cotangent of the normalised array: the projection's cotangent times the weights transposed. -/
def back (dp : FVec Ideal S2048x5120 .bf16) (w : FVec Ideal S1x4x1024x1280 .bf16) (R : Fin 2048) (c : Fin 1024) : EReal :=
  ∑ k : Fin 5120, dp (at2 R k) * w (atShard ⟨k.val / 1280, by
    have := k.isLt
    omega⟩ c ⟨k.val % 1280, Nat.mod_lt _ (by decide)⟩)

/-- The cotangent of the layer's input. -/
def inputGrad (dp : FVec Ideal S2048x5120 .bf16) (w : FVec Ideal S1x4x1024x1280 .bf16) (h : FVec Ideal S2048x1024 .f32) (g : FVec Ideal S2x1x1024 .f32)
    (d : FVec Ideal S2048x1024 .f32) : FVec Ideal S2048x1024 .f32 := fun i => grad h (back dp w) (scale g) d (i 0) (i 1)
/-- The same, rounded. -/
def inputGradShort (dp : FVec Ideal S2048x5120 .bf16) (w : FVec Ideal S1x4x1024x1280 .bf16) (h : FVec Ideal S2048x1024 .f32) (g : FVec Ideal S2x1x1024 .f32)
    (d : FVec Ideal S2048x1024 .f32) : FVec Ideal S2048x1024 .bf16 := fun i => grad h (back dp w) (scale g) d (i 0) (i 1)
/-- The cotangent of the norm's weights. -/
def scaleGrad (dp : FVec Ideal S2048x5120 .bf16) (w : FVec Ideal S1x4x1024x1280 .bf16) (h : FVec Ideal S2048x1024 .f32) : FVec Ideal S1x1024 .f32 := fun i =>
  ∑ R : Fin 2048, part h (back dp w) R (i 1)

/-- One shard's part of the product. -/
def shardPart (dp : FVec Ideal S2048x5120 .bf16) (w : FVec Ideal S1x4x1024x1280 .bf16) (R : Fin 2048) (c : Fin 1024) (j : Fin 4) : EReal :=
  ∑ l : Fin 1280, dp (at2 R ⟨j.val * 1280 + l.val, by
    have := j.isLt
    have := l.isLt
    omega⟩) * w (atShard j c l)

/-- The product, shard by shard. -/
theorem back_shards (dp : FVec Ideal S2048x5120 .bf16) (w : FVec Ideal S1x4x1024x1280 .bf16) (R : Fin 2048) (c : Fin 1024) :
    back dp w R c = ∑ j : Fin 4, shardPart dp w R c j := by
  unfold back
  refine (Fin.sum_univ_tiles 4 1280 (by norm_num) _).trans (Finset.sum_congr rfl fun j _ => Finset.sum_congr rfl fun l _ => ?_)
  have hl := l.isLt
  refine congrArg₂ (fun a b : EReal => a * b) rfl (congrArg w (congrArg₂ (fun a b => atShard a c b) (Fin.ext ?_) (Fin.ext ?_)))
  · show (j.val * 1280 + l.val) / 1280 = j.val
    omega
  · show (j.val * 1280 + l.val) % 1280 = l.val
    omega

/-! ## What the points compute -/

/-- Row `r` of one block times row `k` of another. -/
def rowProduct (A : FVec Ideal S1024x1280 .bf16) (B : FVec Ideal S1x1x1024x1280 .bf16) (r k : Fin 1024) : EReal :=
  ∑ l : Fin 1280, A (at2 r l) * B (atOne k l)

/-- One point's product. -/
theorem pay_product (A : FVec Ideal S1024x1280 .bf16) (B : FVec Ideal S1x1x1024x1280 .bf16) (r k : Fin 1024) :
    k0_pay1 (F := Ideal) A B (at2 r k) = rowProduct A B r k := by
  unfold k0_pay1
  refine (matmul_second (K := 1280) (n := 1024) (m := 1024) none _ _ _ (at2 r k)).trans ?_
  refine Finset.sum_congr rfl fun l _ => congrArg₂ (fun a b : EReal => a * b) rfl ?_
  refine shapeCast_apply _ _ (at2 k l : S1024x1280.Idx) (atOne k l) ?_
  rw [rowMajor_val2 _ 1280 rfl, rowMajor_val4 _ (1 * (1024 * 1280)) (1024 * 1280) 1280 rfl rfl rfl]
  show 0 * (1 * (1024 * 1280)) + 0 * (1024 * 1280) + (k : ℕ) * 1280 + (l : ℕ) = (k : ℕ) * 1280 + (l : ℕ)
  omega

theorem slot_in (v : FVec Ideal S1024x1024 .f32) (h : S1024x1024.ShapeCasts S1x1024x1024) (r k : Fin 1024) :
    shapeCast S1x1024x1024 v h (inSlot r k) = v (at2 r k) := by
  refine shapeCast_apply v h (inSlot r k) (at2 r k : S1024x1024.Idx) ?_
  rw [rowMajor_val2 _ 1024 rfl, rowMajor_val3 _ (1024 * 1024) 1024 rfl rfl]
  show (r : ℕ) * 1024 + (k : ℕ) = 0 * (1024 * 1024) + (r : ℕ) * 1024 + (k : ℕ)
  omega
theorem slot_out (v : FVec Ideal S1x1024x1024 .f32) (h : S1x1024x1024.ShapeCasts S1024x1024) (r k : Fin 1024) :
    shapeCast S1024x1024 v h (at2 r k) = v (inSlot r k) := by
  refine shapeCast_apply v h (at2 r k : S1024x1024.Idx) (inSlot r k) ?_
  rw [rowMajor_val2 _ 1024 rfl, rowMajor_val3 _ (1024 * 1024) 1024 rfl rfl]
  show 0 * (1024 * 1024) + (r : ℕ) * 1024 + (k : ℕ) = (r : ℕ) * 1024 + (k : ℕ)
  omega

theorem pay_first (A : FVec Ideal S1024x1280 .bf16) (B : FVec Ideal S1x1x1024x1280 .bf16) (r k : Fin 1024) :
    k0_pay2 (F := Ideal) A B (inSlot r k) = rowProduct A B r k := by
  unfold k0_pay2
  exact (slot_in _ _ r k).trans (pay_product A B r k)
theorem pay_next (A : FVec Ideal S1024x1280 .bf16) (B : FVec Ideal S1x1x1024x1280 .bf16) (v : FVec Ideal S1x1024x1024 .f32) (r k : Fin 1024) :
    k0_pay3 (F := Ideal) A B v (inSlot r k) = v (inSlot r k) + rowProduct A B r k := by
  unfold k0_pay3
  exact (slot_in _ _ r k).trans (congrArg₂ (fun a b : EReal => a + b) (slot_out v _ r k) (pay_product A B r k))

theorem pay_inv (v : FVec Ideal S1024x1024 .f32) (r : Fin 1024) : k0_pay5 (F := Ideal) v (at2 r 0) = Ideal.rsqrt (mean v r) := by
  unfold k0_pay5
  exact kernelInv v _ _ _ _ _ r
theorem pay_slot (v : FVec Ideal S1x1024x1024 .f32) (r k : Fin 1024) : k0_pay6 (F := Ideal) v (at2 r k) = v (inSlot r k) := by
  unfold k0_pay6
  exact slot_out v _ r k

theorem pay_grad (v : FVec Ideal S1024x1024 .f32) (s : FVec Ideal S1x1024x1024 .f32) (g : FVec Ideal S1x1x1024 .f32) (d : FVec Ideal S1024x1024 .f32) (j : S1024x1024.Idx) :
    k0_pay7 (F := Ideal) v s g d j = grad v (fun r k => s (inSlot r k)) (fun c => g (ix3 0 0 c)) d (j 0) (j 1) := by
  unfold k0_pay7
  refine (kernelGrad v (k0_pay6 (F := Ideal) s) d _ (k0_pay5 (F := Ideal) v) (pay_inv v) _ _ _ _ _ _ _ j).trans ?_
  exact grad_rows v d v d _ _ _ _ (j 0) (j 0) (fun _ => rfl) (fun _ => rfl) (fun k => pay_slot s (j 0) k) (fun k => asRow g _ k) (j 1)

theorem pay_short (v : FVec Ideal S1024x1024 .f32) (s : FVec Ideal S1x1024x1024 .f32) (g : FVec Ideal S1x1x1024 .f32) (d : FVec Ideal S1024x1024 .f32) (j : S1024x1024.Idx) :
    k0_pay8 (F := Ideal) v s g d j = grad v (fun r k => s (inSlot r k)) (fun c => g (ix3 0 0 c)) d (j 0) (j 1) := by
  unfold k0_pay8
  exact (ValueIdx.truncf_apply (φ := .f32) (ψ := .bf16) _ _ j).trans (pay_grad v s g d j)

theorem pay_part (v : FVec Ideal S1024x1024 .f32) (s : FVec Ideal S1x1024x1024 .f32) (j : S1x1024.Idx) :
    k0_pay9 (F := Ideal) v s j = ∑ r : Fin 1024, part v (fun r k => s (inSlot r k)) r (j 1) := by
  unfold k0_pay9
  refine (kernelPart v (k0_pay6 (F := Ideal) s) (k0_pay5 (F := Ideal) v) (pay_inv v) _ _ _ _ _ _ j).trans ?_
  exact Finset.sum_congr rfl fun r _ => part_rows v v _ _ r r (fun _ => rfl) (fun k => pay_slot s r k) (j 1)

theorem pay_both (a b : FVec Ideal S1x1024 .f32) (j : S1x1024.Idx) : k0_pay4 (F := Ideal) a b j = b j + a j := by
  unfold k0_pay4
  exact congrArg₂ (fun a b : EReal => a + b) (shapeCast_apply b _ j j rfl) rfl

/-! ## Where the blocks of point `t` lie -/

theorem place0 : ∀ t : Fin cfg0.N, win0_0.index t 0 * win0_0.size 0 = t.val % 2 * 1024 ∧ win0_0.index t 1 * win0_0.size 1 = t.val / 2 * 1280 :=
  (by decide +kernel : ∀ t : Fin grid0.N, win0_0.index t 0 * win0_0.size 0 = t.val % 2 * 1024 ∧ win0_0.index t 1 * win0_0.size 1 = t.val / 2 * 1280)
theorem place1 : ∀ t : Fin cfg0.N, win0_1.index t 0 * win0_1.size 0 = 0 ∧ win0_1.index t 1 * win0_1.size 1 = t.val / 2
    ∧ win0_1.index t 2 * win0_1.size 2 = 0 ∧ win0_1.index t 3 * win0_1.size 3 = 0 :=
  (by decide +kernel : ∀ t : Fin grid0.N, win0_1.index t 0 * win0_1.size 0 = 0 ∧ win0_1.index t 1 * win0_1.size 1 = t.val / 2
    ∧ win0_1.index t 2 * win0_1.size 2 = 0 ∧ win0_1.index t 3 * win0_1.size 3 = 0)
theorem place2 : ∀ t : Fin cfg0.N, win0_2.index t 0 * win0_2.size 0 = (t.val - 6) * 1024 ∧ win0_2.index t 1 * win0_2.size 1 = 0 :=
  (by decide +kernel : ∀ t : Fin grid0.N, win0_2.index t 0 * win0_2.size 0 = (t.val - 6) * 1024 ∧ win0_2.index t 1 * win0_2.size 1 = 0)
theorem place3 : ∀ t : Fin cfg0.N, win0_3.index t 0 * win0_3.size 0 = 0 ∧ win0_3.index t 1 * win0_3.size 1 = 0 ∧ win0_3.index t 2 * win0_3.size 2 = 0 :=
  (by decide +kernel : ∀ t : Fin grid0.N, win0_3.index t 0 * win0_3.size 0 = 0 ∧ win0_3.index t 1 * win0_3.size 1 = 0 ∧ win0_3.index t 2 * win0_3.size 2 = 0)
theorem place4 : ∀ t : Fin cfg0.N, win0_4.index t 0 * win0_4.size 0 = (t.val - 6) * 1024 ∧ win0_4.index t 1 * win0_4.size 1 = 0 :=
  (by decide +kernel : ∀ t : Fin grid0.N, win0_4.index t 0 * win0_4.size 0 = (t.val - 6) * 1024 ∧ win0_4.index t 1 * win0_4.size 1 = 0)
theorem place6 : ∀ t : Fin cfg0.N, win0_6.index t 0 * win0_6.size 0 = (t.val - 6) * 1024 ∧ win0_6.xsize (grid0.coords t) 0 = 1024
    ∧ win0_6.index t 1 * win0_6.size 1 = 0 ∧ win0_6.xsize (grid0.coords t) 1 = 1024 :=
  (by decide +kernel : ∀ t : Fin grid0.N, win0_6.index t 0 * win0_6.size 0 = (t.val - 6) * 1024 ∧ win0_6.xsize (grid0.coords t) 0 = 1024
    ∧ win0_6.index t 1 * win0_6.size 1 = 0 ∧ win0_6.xsize (grid0.coords t) 1 = 1024)
theorem place7 : ∀ t : Fin cfg0.N, win0_7.index t 0 * win0_7.size 0 = (t.val - 6) * 1024 ∧ win0_7.xsize (grid0.coords t) 0 = 1024
    ∧ win0_7.index t 1 * win0_7.size 1 = 0 ∧ win0_7.xsize (grid0.coords t) 1 = 1024 :=
  (by decide +kernel : ∀ t : Fin grid0.N, win0_7.index t 0 * win0_7.size 0 = (t.val - 6) * 1024 ∧ win0_7.xsize (grid0.coords t) 0 = 1024
    ∧ win0_7.index t 1 * win0_7.size 1 = 0 ∧ win0_7.xsize (grid0.coords t) 1 = 1024)
theorem place8 : ∀ t : Fin cfg0.N, win0_8.index t 0 * win0_8.size 0 = 0 ∧ win0_8.xsize (grid0.coords t) 0 = 1
    ∧ win0_8.index t 1 * win0_8.size 1 = 0 ∧ win0_8.xsize (grid0.coords t) 1 = 1024 :=
  (by decide +kernel : ∀ t : Fin grid0.N, win0_8.index t 0 * win0_8.size 0 = 0 ∧ win0_8.xsize (grid0.coords t) 0 = 1
    ∧ win0_8.index t 1 * win0_8.size 1 = 0 ∧ win0_8.xsize (grid0.coords t) 1 = 1024)

/-! ## Every index lies in the block of a point that writes back -/

theorem cover6 (i : S2048x1024.Idx) : ∃ t : Fin cfg0.N, (cfg0.win 6).flush t = true ∧ i ∈ ((cfg0.win 6).blk t).view.set := by
  have h0 : (i 0 : Nat) < 2048 := (i 0).isLt
  have h1 : (i 1 : Nat) < 1024 := (i 1).isLt
  obtain ⟨t, ht⟩ : ∃ t : Fin cfg0.N, t.val = 6 + (i 0 : Nat) / 1024 :=
    ⟨⟨6 + (i 0 : Nat) / 1024, Nat.lt_of_lt_of_eq (by omega : _ < 8) N_0.symm⟩, rfl⟩
  refine ⟨t, (flush6 t).trans (decide_eq_true (by omega)), ?_⟩
  show i ∈ ((View.whole main_v0_0).slice (win0_6.rect t)).set
  rw [View.set_slice_whole, Rect.mem_set_unit]
  obtain ⟨e0, s0, e1, s1⟩ := place6 t
  intro a
  match a with
  | ⟨0, _⟩ => show win0_6.index t 0 * win0_6.size 0 ≤ (i 0 : Nat) ∧ (i 0 : Nat) < win0_6.index t 0 * win0_6.size 0 + win0_6.xsize (grid0.coords t) 0
              rw [e0, s0]; omega
  | ⟨1, _⟩ => show win0_6.index t 1 * win0_6.size 1 ≤ (i 1 : Nat) ∧ (i 1 : Nat) < win0_6.index t 1 * win0_6.size 1 + win0_6.xsize (grid0.coords t) 1
              rw [e1, s1]; omega

theorem cover7 (i : S2048x1024.Idx) : ∃ t : Fin cfg0.N, (cfg0.win 7).flush t = true ∧ i ∈ ((cfg0.win 7).blk t).view.set := by
  have h0 : (i 0 : Nat) < 2048 := (i 0).isLt
  have h1 : (i 1 : Nat) < 1024 := (i 1).isLt
  obtain ⟨t, ht⟩ : ∃ t : Fin cfg0.N, t.val = 6 + (i 0 : Nat) / 1024 :=
    ⟨⟨6 + (i 0 : Nat) / 1024, Nat.lt_of_lt_of_eq (by omega : _ < 8) N_0.symm⟩, rfl⟩
  refine ⟨t, (flush7 t).trans (decide_eq_true (by omega)), ?_⟩
  show i ∈ ((View.whole main_v0_1).slice (win0_7.rect t)).set
  rw [View.set_slice_whole, Rect.mem_set_unit]
  obtain ⟨e0, s0, e1, s1⟩ := place7 t
  intro a
  match a with
  | ⟨0, _⟩ => show win0_7.index t 0 * win0_7.size 0 ≤ (i 0 : Nat) ∧ (i 0 : Nat) < win0_7.index t 0 * win0_7.size 0 + win0_7.xsize (grid0.coords t) 0
              rw [e0, s0]; omega
  | ⟨1, _⟩ => show win0_7.index t 1 * win0_7.size 1 ≤ (i 1 : Nat) ∧ (i 1 : Nat) < win0_7.index t 1 * win0_7.size 1 + win0_7.xsize (grid0.coords t) 1
              rw [e1, s1]; omega

theorem cover8 (i : S1x1024.Idx) : ∃ t : Fin cfg0.N, (cfg0.win 8).flush t = true ∧ i ∈ ((cfg0.win 8).blk t).view.set := by
  have h0 : (i 0 : Nat) < 1 := (i 0).isLt
  have h1 : (i 1 : Nat) < 1024 := (i 1).isLt
  obtain ⟨t, ht⟩ : ∃ t : Fin cfg0.N, t.val = 7 := ⟨⟨7, Nat.lt_of_lt_of_eq (by omega : _ < 8) N_0.symm⟩, rfl⟩
  refine ⟨t, (flush8 t).trans (decide_eq_true (by omega)), ?_⟩
  show i ∈ ((View.whole main_v0_2).slice (win0_8.rect t)).set
  rw [View.set_slice_whole, Rect.mem_set_unit]
  obtain ⟨e0, s0, e1, s1⟩ := place8 t
  intro a
  match a with
  | ⟨0, _⟩ => show win0_8.index t 0 * win0_8.size 0 ≤ (i 0 : Nat) ∧ (i 0 : Nat) < win0_8.index t 0 * win0_8.size 0 + win0_8.xsize (grid0.coords t) 0
              rw [e0, s0]; omega
  | ⟨1, _⟩ => show win0_8.index t 1 * win0_8.size 1 ≤ (i 1 : Nat) ∧ (i 1 : Nat) < win0_8.index t 1 * win0_8.size 1 + win0_8.xsize (grid0.coords t) 1
              rw [e1, s1]; omega

/-! ## The blocks of the arguments -/

theorem rows0 (c : Dev nD) (s : Fin cfg0.N) (R : Fin 2048) (r : Fin 1024) (hR : R.val = s.val % 2 * 1024 + r.val) (L : Fin 5120) (l : Fin 1280)
    (hL : L.val = s.val / 2 * 1280 + l.val) :
    iblk m c 0 s (at2 r l : S1024x1280.Idx) = m ((c : Thread nD τ).loc main_arg0) (at2 R L : S2048x5120.Idx) := by
  show m ((c : Thread nD τ).loc main_arg0) ((win0_0.rect s).emb (at2 r l : S1024x1280.Idx)) = _
  obtain ⟨a0, a1⟩ := place0 s
  refine congrArg _ (funext fun a => Fin.ext ?_)
  refine (Pipeline.Window.rect_emb_val win0_0 s _ a rfl).trans ?_
  match a with
  | ⟨0, _⟩ => show win0_0.index s 0 * win0_0.size 0 + r.val = R.val
              rw [a0, hR]
  | ⟨1, _⟩ => show win0_0.index s 1 * win0_0.size 1 + l.val = L.val
              rw [a1, hL]

theorem shard1 (c : Dev nD) (s : Fin cfg0.N) (j : Fin 4) (hj : j.val = s.val / 2) (k : Fin 1024) (l : Fin 1280) :
    iblk m c 1 s (atOne k l) = m ((c : Thread nD τ).loc main_arg1) (atShard j k l) := by
  show m ((c : Thread nD τ).loc main_arg1) ((win0_1.rect s).emb (atOne k l)) = _
  obtain ⟨a0, a1, a2, a3⟩ := place1 s
  refine congrArg _ (funext fun a => Fin.ext ?_)
  refine (Pipeline.Window.rect_emb_val win0_1 s _ a rfl).trans ?_
  match a with
  | ⟨0, _⟩ => show win0_1.index s 0 * win0_1.size 0 + 0 = 0
              rw [a0]
  | ⟨1, _⟩ => show win0_1.index s 1 * win0_1.size 1 + 0 = j.val
              rw [a1, hj]; omega
  | ⟨2, _⟩ => show win0_1.index s 2 * win0_1.size 2 + k.val = k.val
              rw [a2]; omega
  | ⟨3, _⟩ => show win0_1.index s 3 * win0_1.size 3 + l.val = l.val
              rw [a3]; omega

theorem rows2 (c : Dev nD) (s : Fin cfg0.N) (R : Fin 2048) (r : Fin 1024) (hR : R.val = (s.val - 6) * 1024 + r.val) (k : Fin 1024) :
    iblk m c 2 s (at2 r k : S1024x1024.Idx) = m ((c : Thread nD τ).loc main_arg2) (at2 R k : S2048x1024.Idx) := by
  show m ((c : Thread nD τ).loc main_arg2) ((win0_2.rect s).emb (at2 r k : S1024x1024.Idx)) = _
  obtain ⟨a0, a1⟩ := place2 s
  refine congrArg _ (funext fun a => Fin.ext ?_)
  refine (Pipeline.Window.rect_emb_val win0_2 s _ a rfl).trans ?_
  match a with
  | ⟨0, _⟩ => show win0_2.index s 0 * win0_2.size 0 + r.val = R.val
              rw [a0, hR]
  | ⟨1, _⟩ => show win0_2.index s 1 * win0_2.size 1 + k.val = k.val
              rw [a1]; omega

theorem weights3 (c : Dev nD) (s : Fin cfg0.N) (k : Fin 1024) :
    iblk m c 3 s (ix3 0 0 k : S1x1x1024.Idx) = scale (m ((c : Thread nD τ).loc main_arg3)) k := by
  show m ((c : Thread nD τ).loc main_arg3) ((win0_3.rect s).emb (ix3 0 0 k : S1x1x1024.Idx)) = _
  obtain ⟨a0, a1, a2⟩ := place3 s
  refine congrArg _ (funext fun a => Fin.ext ?_)
  refine (Pipeline.Window.rect_emb_val win0_3 s _ a rfl).trans ?_
  match a with
  | ⟨0, _⟩ => show win0_3.index s 0 * win0_3.size 0 + 0 = 0
              rw [a0]
  | ⟨1, _⟩ => show win0_3.index s 1 * win0_3.size 1 + 0 = 0
              rw [a1]
  | ⟨2, _⟩ => show win0_3.index s 2 * win0_3.size 2 + k.val = k.val
              rw [a2]; omega

theorem rows4 (c : Dev nD) (s : Fin cfg0.N) (R : Fin 2048) (r : Fin 1024) (hR : R.val = (s.val - 6) * 1024 + r.val) (k : Fin 1024) :
    iblk m c 4 s (at2 r k : S1024x1024.Idx) = m ((c : Thread nD τ).loc main_arg4) (at2 R k : S2048x1024.Idx) := by
  show m ((c : Thread nD τ).loc main_arg4) ((win0_4.rect s).emb (at2 r k : S1024x1024.Idx)) = _
  obtain ⟨a0, a1⟩ := place4 s
  refine congrArg _ (funext fun a => Fin.ext ?_)
  refine (Pipeline.Window.rect_emb_val win0_4 s _ a rfl).trans ?_
  match a with
  | ⟨0, _⟩ => show win0_4.index s 0 * win0_4.size 0 + r.val = R.val
              rw [a0, hR]
  | ⟨1, _⟩ => show win0_4.index s 1 * win0_4.size 1 + k.val = k.val
              rw [a1]; omega

/-! ## The slots after the last shard -/

/-- One shard's part of the product, at row `r` and column `k` of block of rows `i`. -/
def piece (c : Dev nD) (i j : ℕ) (r k : Fin 1024) : EReal :=
  rowProduct (iblk m c 0 (point j i)) (iblk m c 1 (point j i)) r k

theorem acc_first (c : Dev nD) (i : ℕ) (r k : Fin 1024) : acc m c i 0 (inSlot r k) = piece m c i 0 r k :=
  pay_first (iblk m c 0 (point 0 i)) (iblk m c 1 (point 0 i)) r k
theorem acc_next (c : Dev nD) (i j : ℕ) (r k : Fin 1024) : acc m c i (j + 1) (inSlot r k) = (acc m c i j (inSlot r k) : EReal) + piece m c i (j + 1) r k :=
  pay_next (iblk m c 0 (point (j + 1) i)) (iblk m c 1 (point (j + 1) i)) (acc m c i j) r k

theorem piece_eq (c : Dev nD) (i : ℕ) (hi : i < 2) (j : Fin 4) (r k : Fin 1024) (R : Fin 2048) (hR : R.val = i * 1024 + r.val) :
    piece m c i j.val r k = shardPart (m ((c : Thread nD τ).loc main_arg0)) (m ((c : Thread nD τ).loc main_arg1)) R k j := by
  have hj := j.isLt
  have hp : (point j.val i).val = 2 * j.val + i := Nat.mod_eq_of_lt (by omega)
  unfold piece rowProduct shardPart
  refine Finset.sum_congr rfl fun l _ => congrArg₂ (fun a b : EReal => a * b) ?_ ?_
  · exact rows0 m c (point j.val i) R r (by rw [hp, hR]; omega) _ l (by rw [hp]; show j.val * 1280 + l.val = _; omega)
  · exact shard1 m c (point j.val i) j (by rw [hp]; omega) k l

theorem slot_last (c : Dev nD) (t : Fin cfg0.N) (ht : 6 ≤ t.val) (r k : Fin 1024) (R : Fin 2048) (hR : R.val = (t.val - 6) * 1024 + r.val) :
    slot m c t (inSlot r k) = back (m ((c : Thread nD τ).loc main_arg0)) (m ((c : Thread nD τ).loc main_arg1)) R k := by
  have h8 : t.val < 8 := Nat.lt_of_lt_of_eq t.isLt N_0
  have h3 : t.val / 2 = 2 + 1 := by omega
  have h2 : t.val % 2 = t.val - 6 := by omega
  unfold slot
  rw [h3, h2, back_shards, Fin.sum_univ_four]
  have e := fun j => piece_eq m c (t.val - 6) (by omega) j r k R hR
  refine (acc_next m c (t.val - 6) 2 r k).trans (congrArg₂ (fun a b : EReal => a + b) ?_ (e 3))
  refine (acc_next m c (t.val - 6) 1 r k).trans (congrArg₂ (fun a b : EReal => a + b) ?_ (e 2))
  refine (acc_next m c (t.val - 6) 0 r k).trans (congrArg₂ (fun a b : EReal => a + b) ?_ (e 1))
  exact (acc_first m c (t.val - 6) r k).trans (e 0)

/-! ## What the points write back -/

theorem grad_block (c : Dev nD) (t : Fin cfg0.N) (ht : 6 ≤ t.val) (R : Fin 2048) (r k : Fin 1024) (hR : R.val = (t.val - 6) * 1024 + r.val) :
    grad (iblk m c 2 t : FVec Ideal S1024x1024 .f32) (fun r k => slot m c t (inSlot r k)) (fun c' => iblk m c 3 t (ix3 0 0 c' : S1x1x1024.Idx)) (iblk m c 4 t : FVec Ideal S1024x1024 .f32) r k
      = grad (m ((c : Thread nD τ).loc main_arg2) : FVec Ideal S2048x1024 .f32) (back (m ((c : Thread nD τ).loc main_arg0)) (m ((c : Thread nD τ).loc main_arg1)))
        (scale (m ((c : Thread nD τ).loc main_arg3))) (m ((c : Thread nD τ).loc main_arg4) : FVec Ideal S2048x1024 .f32) R k :=
  grad_rows _ _ _ _ _ _ _ _ r R (rows2 m c t R r hR) (rows4 m c t R r hR) (fun k => slot_last m c t ht r k R hR) (weights3 m c t) k

theorem written6 (c : Dev nD) (t : Fin cfg0.N) (hf : (cfg0.win 6).flush t = true) :
    (dats m 0 c).flushed 6 t = (win0_6.blk t).view.read (Elt Ideal)
      (inputGrad (m ((c : Thread nD τ).loc main_arg0)) (m ((c : Thread nD τ).loc main_arg1)) (m ((c : Thread nD τ).loc main_arg2)) (m ((c : Thread nD τ).loc main_arg3))
        (m ((c : Thread nD τ).loc main_arg4))) := by
  have ht : 6 ≤ t.val := of_decide_eq_true ((flush6 t).symm.trans hf)
  show (cfg0.win 6).cut (grid0.coords t) ((dats m 0 c).after 6 t) = _
  rw [after6]
  funext j
  refine (pay_grad (iblk m c 2 t) (slot m c t) (iblk m c 3 t) (iblk m c 4 t) j).trans ?_
  show _ = inputGrad (m ((c : Thread nD τ).loc main_arg0)) (m ((c : Thread nD τ).loc main_arg1)) (m ((c : Thread nD τ).loc main_arg2)) (m ((c : Thread nD τ).loc main_arg3))
    (m ((c : Thread nD τ).loc main_arg4)) ((win0_6.rect t).emb j)
  obtain ⟨e0, -, e1, -⟩ := place6 t
  have q0 : (((win0_6.rect t).emb j 0 : _) : ℕ) = (t.val - 6) * 1024 + (j 0 : ℕ) := by rw [Pipeline.Window.rect_emb_val win0_6 t j 0 rfl, e0]
  have q1 : (win0_6.rect t).emb j 1 = j 1 := Fin.ext (by rw [Pipeline.Window.rect_emb_val win0_6 t j 1 rfl, e1]; exact Nat.zero_add _)
  refine (grad_block m c t ht ((win0_6.rect t).emb j 0) (j 0) (j 1) q0).trans ?_
  exact congrArg (grad _ _ _ _ _) q1.symm

theorem written7 (c : Dev nD) (t : Fin cfg0.N) (hf : (cfg0.win 7).flush t = true) :
    (dats m 0 c).flushed 7 t = (win0_7.blk t).view.read (Elt Ideal)
      (inputGradShort (m ((c : Thread nD τ).loc main_arg0)) (m ((c : Thread nD τ).loc main_arg1)) (m ((c : Thread nD τ).loc main_arg2)) (m ((c : Thread nD τ).loc main_arg3))
        (m ((c : Thread nD τ).loc main_arg4))) := by
  have ht : 6 ≤ t.val := of_decide_eq_true ((flush7 t).symm.trans hf)
  show (cfg0.win 7).cut (grid0.coords t) ((dats m 0 c).after 7 t) = _
  rw [after7]
  funext j
  refine (pay_short (iblk m c 2 t) (slot m c t) (iblk m c 3 t) (iblk m c 4 t) j).trans ?_
  show _ = inputGradShort (m ((c : Thread nD τ).loc main_arg0)) (m ((c : Thread nD τ).loc main_arg1)) (m ((c : Thread nD τ).loc main_arg2)) (m ((c : Thread nD τ).loc main_arg3))
    (m ((c : Thread nD τ).loc main_arg4)) ((win0_7.rect t).emb j)
  obtain ⟨e0, -, e1, -⟩ := place7 t
  have q0 : (((win0_7.rect t).emb j 0 : _) : ℕ) = (t.val - 6) * 1024 + (j 0 : ℕ) := by rw [Pipeline.Window.rect_emb_val win0_7 t j 0 rfl, e0]
  have q1 : (win0_7.rect t).emb j 1 = j 1 := Fin.ext (by rw [Pipeline.Window.rect_emb_val win0_7 t j 1 rfl, e1]; exact Nat.zero_add _)
  refine (grad_block m c t ht ((win0_7.rect t).emb j 0) (j 0) (j 1) q0).trans ?_
  exact congrArg (grad _ _ _ _ _) q1.symm

/-- A block of rows' part of the cotangent of the norm's weights. -/
theorem part_block (c : Dev nD) (s : Fin cfg0.N) (hs : 6 ≤ s.val) (j : S1x1024.Idx) (f : Fin 1024 → Fin 2048) (hf : ∀ r, (f r).val = (s.val - 6) * 1024 + r.val) :
    scalePart m c s j = ∑ r : Fin 1024, part (m ((c : Thread nD τ).loc main_arg2) : FVec Ideal S2048x1024 .f32)
      (back (m ((c : Thread nD τ).loc main_arg0)) (m ((c : Thread nD τ).loc main_arg1))) (f r) (j 1) := by
  unfold scalePart
  refine (pay_part (iblk m c 2 s) (slot m c s) j).trans (Finset.sum_congr rfl fun r _ => ?_)
  exact part_rows _ _ _ _ r (f r) (rows2 m c s (f r) r (hf r)) (fun k => slot_last m c s hs r k (f r) (hf r)) (j 1)

theorem written8 (c : Dev nD) (t : Fin cfg0.N) (hf : (cfg0.win 8).flush t = true) :
    (dats m 0 c).flushed 8 t = (win0_8.blk t).view.read (Elt Ideal)
      (scaleGrad (m ((c : Thread nD τ).loc main_arg0)) (m ((c : Thread nD τ).loc main_arg1)) (m ((c : Thread nD τ).loc main_arg2))) := by
  have ht : 7 ≤ t.val := of_decide_eq_true ((flush8 t).symm.trans hf)
  have h8 : t.val < 8 := Nat.lt_of_lt_of_eq t.isLt N_0
  show (cfg0.win 8).cut (grid0.coords t) ((dats m 0 c).after 8 t) = _
  rw [after8, if_neg (by omega)]
  funext j
  refine (pay_both (scalePart m c t) (scalePart m c (point 3 0)) j).trans ?_
  show _ = scaleGrad (m ((c : Thread nD τ).loc main_arg0)) (m ((c : Thread nD τ).loc main_arg1)) (m ((c : Thread nD τ).loc main_arg2)) ((win0_8.rect t).emb j)
  obtain ⟨e0, -, e1, -⟩ := place8 t
  have q1 : (win0_8.rect t).emb j 1 = j 1 := Fin.ext (by rw [Pipeline.Window.rect_emb_val win0_8 t j 1 rfl, e1]; exact Nat.zero_add _)
  have hp : (point 3 0).val = 6 := rfl
  unfold scaleGrad
  rw [q1, Fin.sum_univ_two_halves 1024 1024 (by norm_num)]
  refine congrArg₂ (fun a b : EReal => a + b) (part_block m c (point 3 0) (by omega) j _ fun r => ?_) (part_block m c t (by omega) j _ fun r => ?_)
  · rw [hp]; show r.val = _; omega
  · show 1024 + r.val = _; omega

/-- The arrays after the run. -/
theorem final6 (c : Dev nD) : (dats m 0 c).arrAt 6 cfg0.N = inputGrad (m ((c : Thread nD τ).loc main_arg0)) (m ((c : Thread nD τ).loc main_arg1))
    (m ((c : Thread nD τ).loc main_arg2)) (m ((c : Thread nD τ).loc main_arg3)) (m ((c : Thread nD τ).loc main_arg4)) :=
  (dats m 0 c).arrAt_eq_of_cover 6 _ (fun t h => written6 m c t h) cover6
theorem final7 (c : Dev nD) : (dats m 0 c).arrAt 7 cfg0.N = inputGradShort (m ((c : Thread nD τ).loc main_arg0)) (m ((c : Thread nD τ).loc main_arg1))
    (m ((c : Thread nD τ).loc main_arg2)) (m ((c : Thread nD τ).loc main_arg3)) (m ((c : Thread nD τ).loc main_arg4)) :=
  (dats m 0 c).arrAt_eq_of_cover 7 _ (fun t h => written7 m c t h) cover7
theorem final8 (c : Dev nD) : (dats m 0 c).arrAt 8 cfg0.N = scaleGrad (m ((c : Thread nD τ).loc main_arg0)) (m ((c : Thread nD τ).loc main_arg1))
    (m ((c : Thread nD τ).loc main_arg2)) :=
  (dats m 0 c).arrAt_eq_of_cover 8 _ (fun t h => written8 m c t h) cover8

end

section

open Cert.Reference14Ideal Cert.Reference14Ideal.Gen Cert.Product Cert.Norm Cert.Grad

/-- The reference's weights: the shards side by side. -/
theorem beside (w : FVec Ideal S1x4x1024x1280 .bf16) (k : Fin 1024) (l : Fin 5120) :
    (extf .f32 (shapeCast S1024x5120 (transpose S1024x4x1280 [1, 0, 2] (shapeCast S4x1024x1280 w Facts₀.shapeCasts_S1x4x1024x1280_S4x1024x1280)
      Facts₀.transposes_S4x1024x1280_S1024x4x1280_1_0_2) Facts₀.shapeCasts_S1024x4x1280_S1024x5120) Facts₀.bitsLt_bf16_f32 : FVec Ideal S1024x5120 .f32) (at2 k l)
      = w (atShard ⟨l.val / 1280, by have := l.isLt; omega⟩ k ⟨l.val % 1280, Nat.mod_lt _ (by decide)⟩) := by
  have hl : l.val < 5120 := l.isLt
  have hj : l.val / 1280 < 4 := by omega
  have hm : l.val % 1280 < 1280 := Nat.mod_lt _ (by decide)
  refine (ValueIdx.extf_apply (φ := .bf16) (ψ := .f32) _ Facts₀.bitsLt_bf16_f32 _).trans ?_
  refine (shapeCast_apply _ Facts₀.shapeCasts_S1024x4x1280_S1024x5120 (at2 k l : S1024x5120.Idx) (ix3 k ⟨l.val / 1280, hj⟩ ⟨l.val % 1280, hm⟩ : S1024x4x1280.Idx) ?_).trans ?_
  · rw [rowMajor_val2 _ 5120 rfl, rowMajor_val3 _ (4 * 1280) 1280 rfl rfl]
    show k.val * (4 * 1280) + l.val / 1280 * 1280 + l.val % 1280 = k.val * 5120 + l.val
    omega
  refine (transpose_apply (s := S4x1024x1280) (t := S1024x4x1280) [1, 0, 2] _ Facts₀.transposes_S4x1024x1280_S1024x4x1280_1_0_2 _ (ix3 ⟨l.val / 1280, hj⟩ k ⟨l.val % 1280, hm⟩ : S4x1024x1280.Idx) ?_).trans ?_
  · intro b
    match b with
    | ⟨0, _⟩ => rfl
    | ⟨1, _⟩ => rfl
    | ⟨2, _⟩ => rfl
  refine shapeCast_apply w Facts₀.shapeCasts_S1x4x1024x1280_S4x1024x1280 _ _ ?_
  rw [rowMajor_val3 _ (1024 * 1280) 1280 rfl rfl, rowMajor_val4 _ (4 * (1024 * 1280)) (1024 * 1280) 1280 rfl rfl rfl]
  show 0 * (4 * (1024 * 1280)) + l.val / 1280 * (1024 * 1280) + k.val * 1280 + l.val % 1280 = l.val / 1280 * (1024 * 1280) + k.val * 1280 + l.val % 1280
  omega

/-- The reference's cotangent of the normalised array. -/
def spread (dp : FVec Ideal S2048x5120 .bf16) (w : FVec Ideal S1x4x1024x1280 .bf16) : FVec Ideal S2048x1024 .f32 :=
  Host.dotGeneral dot_S2048x5120_S1024x5120_S2048x1024_1_1_0_0_n_n none (extf .f32 dp Facts₀.bitsLt_bf16_f32 : FVec Ideal S2048x5120 .f32)
    (extf .f32 (shapeCast S1024x5120 (transpose S1024x4x1280 [1, 0, 2] (shapeCast S4x1024x1280 w Facts₀.shapeCasts_S1x4x1024x1280_S4x1024x1280)
      Facts₀.transposes_S4x1024x1280_S1024x4x1280_1_0_2) Facts₀.shapeCasts_S1024x4x1280_S1024x5120) Facts₀.bitsLt_bf16_f32 : FVec Ideal S1024x5120 .f32)

theorem spread_apply (dp : FVec Ideal S2048x5120 .bf16) (w : FVec Ideal S1x4x1024x1280 .bf16) (R : Fin 2048) (k : Fin 1024) :
    spread dp w (at2 R k) = back dp w R k := by
  unfold spread
  refine (dot_second (K := 5120) (n := 2048) (m := 1024) none _ _ _ (at2 R k)).trans ?_
  exact Finset.sum_congr rfl fun l _ => congrArg₂ (fun a b : EReal => a * b) (ValueIdx.extf_apply (φ := .bf16) (ψ := .f32) dp Facts₀.bitsLt_bf16_f32 (at2 R l)) (beside w k l)

/-- The reference's mean of the squares plus the small constant. -/
def meanOf (h : FVec Ideal S2048x1024 .f32) : FVec Ideal S2048x1 .f32 :=
  addf (Host.divf (broadcastInDim S2048x1 ![0] Facts₀.bcast_S2048_S2048x1_0 (Host.reduceAdd (mulf h h) (constant S_ .f32 0x00000000#32) Facts₀.reducesTo_S2048x1024_S2048_d1 Facts₀.h_S_))
    (broadcastInDim S2048x1 ![] Facts₀.bcast_S_S2048x1 (constant S_ .f32 0x44800000#32))) (broadcastInDim S2048x1 ![] Facts₀.bcast_S_S2048x1 (constant S_ .f32 0x358637BD#32))

theorem meanOf_apply (h : FVec Ideal S2048x1024 .f32) (r : Fin 2048) : meanOf h (at2 r 0) = mean h r :=
  hostMean h _ _ _ _ r

/-- The reference's weights of the norm, as one row. -/
def gains (g : FVec Ideal S2x1x1024 .f32) : FVec Ideal S1x1024 .f32 :=
  shapeCast S1x1024 (extractStridedSlice S1x1x1024 ![0, 0, 0] g Facts₀.slices_S2x1x1024_S1x1x1024_0_0_0) Facts₀.shapeCasts_S1x1x1024_S1x1024

theorem gains_apply (g : FVec Ideal S2x1x1024 .f32) (k : Fin 1024) : gains g (at2 0 k) = scale g k := by
  refine (asRow _ _ k).trans ?_
  refine extractStridedSlice_apply _ g Facts₀.slices_S2x1x1024_S1x1x1024_0_0_0 _ (ix3 0 0 k) fun a => ?_
  match a with
  | ⟨0, _⟩ => rfl
  | ⟨1, _⟩ => rfl
  | ⟨2, _⟩ => exact (Nat.zero_add _).symm

/-- The cotangent of the normalised input before its scaling by one over the root. -/
def scaled (dp : FVec Ideal S2048x5120 .bf16) (w : FVec Ideal S1x4x1024x1280 .bf16) (g : FVec Ideal S2x1x1024 .f32) : FVec Ideal S2048x1024 .f32 :=
  mulf (spread dp w) (broadcastInDim S2048x1024 ![0, 1] Facts₀.bcast_S1x1024_S2048x1024_0_1 (gains g))

/-- The reference's derivative of the mean. -/
def slope (dp : FVec Ideal S2048x5120 .bf16) (w : FVec Ideal S1x4x1024x1280 .bf16) (h : FVec Ideal S2048x1024 .f32) (g : FVec Ideal S2x1x1024 .f32) : FVec Ideal S2048 .f32 :=
  Host.reduceAdd (Host.divf (mulf (shapeCast S2048x1 (Host.reduceAdd (mulf h (scaled dp w g)) (constant S_ .f32 0x00000000#32) Facts₀.reducesTo_S2048x1024_S2048_d1 Facts₀.h_S_) Facts₀.shapeCasts_S2048_S2048x1)
    (mulf (broadcastInDim S2048x1 ![] Facts₀.bcast_S_S2048x1 (constant S_ .f32 0xBF000000#32)) (Host.divf (Host.rsqrt (meanOf h)) (meanOf h))))
    (broadcastInDim S2048x1 ![] Facts₀.bcast_S_S2048x1 (constant S_ .f32 0x44800000#32))) (constant S_ .f32 0x00000000#32) Facts₀.reducesTo_S2048x1_S2048_d1 Facts₀.h_S_

/-- The reference's cotangent of the layer's input. -/
def plainGrad (dp : FVec Ideal S2048x5120 .bf16) (w : FVec Ideal S1x4x1024x1280 .bf16) (h : FVec Ideal S2048x1024 .f32) (g : FVec Ideal S2x1x1024 .f32)
    (d : FVec Ideal S2048x1024 .f32) : FVec Ideal S2048x1024 .f32 :=
  addf d (addf (addf (mulf (scaled dp w g) (broadcastInDim S2048x1024 ![0, 1] Facts₀.bcast_S2048x1_S2048x1024_0_1 (Host.rsqrt (meanOf h))))
    (mulf h (broadcastInDim S2048x1024 ![0] Facts₀.bcast_S2048_S2048x1024_0 (slope dp w h g)))) (mulf (broadcastInDim S2048x1024 ![0] Facts₀.bcast_S2048_S2048x1024_0 (slope dp w h g)) h))

set_option maxRecDepth 16384 in
theorem plainGrad_apply (dp : FVec Ideal S2048x5120 .bf16) (w : FVec Ideal S1x4x1024x1280 .bf16) (h : FVec Ideal S2048x1024 .f32) (g : FVec Ideal S2x1x1024 .f32)
    (d : FVec Ideal S2048x1024 .f32) (i : S2048x1024.Idx) : plainGrad dp w h g d i = grad h (back dp w) (scale g) d (i 0) (i 1) := by
  refine (hostGrad h (spread dp w) d (gains g) (meanOf h) (slope dp w h g) (meanOf_apply h) _ Facts₀.bcast_S1x1024_S2048x1024_0_1 _
    (fun r => hostSlope h (scaled dp w g) (meanOf h) (meanOf_apply h) _ _ _ _ _ r) i).trans ?_
  exact grad_rows h d h d _ _ _ _ (i 0) (i 0) (fun _ => rfl) (fun _ => rfl) (fun k => spread_apply dp w (i 0) k) (fun k => gains_apply g k) (i 1)

/-- The reference's cotangent of the norm's weights. -/
def plainPart (dp : FVec Ideal S2048x5120 .bf16) (w : FVec Ideal S1x4x1024x1280 .bf16) (h : FVec Ideal S2048x1024 .f32) : FVec Ideal S1x1024 .f32 :=
  shapeCast S1x1024 (Host.reduceAdd (mulf (mulf h (broadcastInDim S2048x1024 ![0, 1] Facts₀.bcast_S2048x1_S2048x1024_0_1 (Host.rsqrt (meanOf h)))) (spread dp w))
    (constant S_ .f32 0x00000000#32) Facts₀.reducesTo_S2048x1024_S1024_d0 Facts₀.h_S_) Facts₀.shapeCasts_S1024_S1x1024

theorem plain6 (dp : FVec Ideal S2048x5120 .bf16) (w : FVec Ideal S1x4x1024x1280 .bf16) (h : FVec Ideal S2048x1024 .f32) (g : FVec Ideal S2x1x1024 .f32)
    (d : FVec Ideal S2048x1024 .f32) : plainGrad dp w h g d = inputGrad dp w h g d :=
  funext fun i => plainGrad_apply dp w h g d i
theorem plain7 (dp : FVec Ideal S2048x5120 .bf16) (w : FVec Ideal S1x4x1024x1280 .bf16) (h : FVec Ideal S2048x1024 .f32) (g : FVec Ideal S2x1x1024 .f32)
    (d : FVec Ideal S2048x1024 .f32) : (truncf .bf16 (plainGrad dp w h g d) Facts₀.bitsLt_bf16_f32 : FVec Ideal S2048x1024 .bf16) = inputGradShort dp w h g d :=
  funext fun i => (ValueIdx.truncf_apply (φ := .f32) (ψ := .bf16) _ Facts₀.bitsLt_bf16_f32 i).trans (plainGrad_apply dp w h g d i)
set_option maxRecDepth 16384 in
theorem plain8 (dp : FVec Ideal S2048x5120 .bf16) (w : FVec Ideal S1x4x1024x1280 .bf16) (h : FVec Ideal S2048x1024 .f32) : plainPart dp w h = scaleGrad dp w h := by
  funext i
  refine (hostPart h (spread dp w) (meanOf h) (meanOf_apply h) _ _ _ _ i).trans (Finset.sum_congr rfl fun R _ => ?_)
  exact part_rows h h _ _ R R (fun _ => rfl) (fun k => spread_apply dp w R k) (i 1)

open Cert.Reference14Ideal.Value

set_option maxRecDepth 16384 in
theorem text6 (m' : (ℓ : Loc nD τ sig) → Buf (Elt Ideal) ℓ) (c : Dev nD) : res_main_v43 m' c = plainGrad (m' ((c.tc : Thread nD τ).loc main_arg0))
    (m' ((c.tc : Thread nD τ).loc main_arg1)) (m' ((c.tc : Thread nD τ).loc main_arg2)) (m' ((c.tc : Thread nD τ).loc main_arg3)) (m' ((c.tc : Thread nD τ).loc main_arg4)) := by
  unfold res_main_v43 plainGrad slope scaled spread meanOf gains
  rfl
set_option maxRecDepth 16384 in
theorem text7 (m' : (ℓ : Loc nD τ sig) → Buf (Elt Ideal) ℓ) (c : Dev nD) : res_main_v45 m' c = (truncf .bf16 (plainGrad (m' ((c.tc : Thread nD τ).loc main_arg0))
    (m' ((c.tc : Thread nD τ).loc main_arg1)) (m' ((c.tc : Thread nD τ).loc main_arg2)) (m' ((c.tc : Thread nD τ).loc main_arg3)) (m' ((c.tc : Thread nD τ).loc main_arg4))) Facts₀.bitsLt_bf16_f32 : FVec Ideal S2048x1024 .bf16) := by
  unfold res_main_v45 plainGrad slope scaled spread meanOf gains
  rfl

end

/-- The call and the plain derivative end with equal results. -/
theorem algebraic : Cert.algebraic_Kernel14Ideal_Reference14Ideal := by
  intro m ρ m' ρ' _ hagree
  refine ⟨_, _, _, (θ_run Cert.Kernel14Ideal.defs _ _).mono (fun _ h c => ⟨(h c).1.trans (final6 m c), (h c).2.1.trans (final7 m c), (h c).2.2.1.trans (final8 m c), (h c).2.2.2⟩)
    (run_blocks (F := Ideal) m ρ), ?_⟩
  refine (θ_run Cert.Reference14Ideal.defs _ _).mono (fun _ h c => ⟨(h c).1.trans ((text6 m' c).trans ?_), (h c).2.1.trans ((text7 m' c).trans ?_), (h c).2.2.1.trans ?_, (h c).2.2.2⟩)
    (Cert.Reference14Ideal.Value.run (F := Ideal) m' ρ')
  · rw [(hagree c).1, (hagree c).2.1, (hagree c).2.2.1, (hagree c).2.2.2.1, (hagree c).2.2.2.2.1]
    exact plain6 _ _ _ _ _
  · rw [(hagree c).1, (hagree c).2.1, (hagree c).2.2.1, (hagree c).2.2.2.1, (hagree c).2.2.2.2.1]
    exact plain7 _ _ _ _ _
  · rw [(hagree c).1, (hagree c).2.1, (hagree c).2.2.1]
    exact plain8 _ _ _

end Cert.Back14

end
-- ==== Proof.BackRun15.lean ====
/-
The call that takes the cotangent of a projection back through the product and the normalisation: what the body leaves at each
point of its grid, and the run.
-/
module

public import proofs.«01_k».proof.Defs
public import proofs.«01_k».proof.Proof.Gen.Kernel15Ideal.Frame
public import proofs.«01_k».proof.Proof.Gen.Kernel15Ideal.Skeleton
public import Idealize.ShloMosaic.Lib.VecWindow
public import Idealize.ShloMosaic.Lib.WholeRead
public import Idealize.ShloMosaic.Lib.Pipeline.TableIdle
public import Idealize.ShloMosaic.Lib.Claim

@[expose] public section

set_option maxRecDepth 16384

noncomputable section

namespace Cert.Back15

open Cert.Kernel15Ideal Cert.Kernel15Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 1000000 in
/-- The body at the first shard: the block's product starts the accumulator's slot. -/
theorem run_start (c : Dev nD) (i : grid0.Coords) (arg2 : Memref sig .tc .vmem S1024x768 .bf16) (harg2 : arg2.IsWhole) (arg3 : Memref sig .tc .vmem S1x1x1024x768 .bf16) (harg3 : arg3.IsWhole) (arg4 : Memref sig .tc .vmem S1024x1024 .f32) (harg4 : arg4.IsWhole) (arg5 : Memref sig .tc .vmem S1x1x1024 .f32) (harg5 : arg5.IsWhole) (arg6 : Memref sig .tc .vmem S1024x1024 .f32) (harg6 : arg6.IsWhole) (arg7 : Memref sig .tc .vmem S8x128 .f32) (harg7 : arg7.IsWhole) (arg8 : Memref sig .tc .vmem S1024x1024 .f32) (harg8 : arg8.IsWhole) (arg9 : Memref sig .tc .vmem S1024x1024 .bf16) (harg9 : arg9.IsWhole) (arg10 : Memref sig .tc .vmem S1x1024 .f32) (harg10 : arg10.IsWhole) (arg11 : Memref sig .tc .vmem S2x1024x1024 .f32) (harg11 : arg11.IsWhole) (h1 : k0_cond1 i = 1#1) (h2 : ¬ k0_cond2 i = 1#1) (h3 : ¬ k0_cond3 i = 1#1)
    (x0 : Vec F S1024x768 .bf16) (x1 : Vec F S1x1x1024x768 .bf16) (d : Vec F S2x1024x1024 .f32) :
      ∀ (E : Set ℕ) (K : PUnit → sProp 𝕄),
        iprop(owns (c : Thread nD τ) arg2 fullShare x0 ∗ owns (c : Thread nD τ) arg3 fullShare x1 ∗ owns (c : Thread nD τ) arg11 fullShare d
            ∗ (iprop(owns (c : Thread nD τ) arg2 fullShare x0 ∗ owns (c : Thread nD τ) arg3 fullShare x1
                ∗ owns (c : Thread nD τ) arg11 fullShare (VecWindow.put d (k0_off1 i) S1x1024x1024.size (k0_pay2 x0 x1))) -∗ K ⟨⟩))
          ⊢ wp frame (wpE (defs₀ (F := F)) Variants.none c none) E (cc0_dn_proj_odd i arg2 harg2 arg3 harg3 arg4 harg4 arg5 harg5 arg6 harg6 arg7 harg7 arg8 harg8 arg9 harg9 arg10 harg10 arg11 harg11) K := by
  intro E K
  simp only [cc0_dn_proj_odd_eq_skeleton]; unfold cc0_dn_proj_odd_skel
  unfold owns
  iintro ⟨⟨%f0, %hf0, H0⟩, ⟨%f1, %hf1, H1⟩, ⟨%fs, %hs, HS⟩, Hk⟩
  subst hf0 hf1 hs
  sl_exec (disch := first | sl_exact h1 | sl_exact h2 | sl_exact h3)
  sl_step
  iapply Hk
  isplitl [H0]
  · iexists f0; isplitr; · ipureintro; rfl
    iexact H0
  isplitl [H1]
  · iexists f1; isplitr; · ipureintro; rfl
    iexact H1
  iexists _; isplitr; swap; · iexact HS
  ipureintro
  rw [View.read_writes_cons_put _ _ _ _ _ rfl, View.readAt_full, View.readAt_full]
  rfl

set_option maxHeartbeats 1000000 in
/-- The body at a middle shard: the block's product is added to the accumulator's slot. -/
theorem run_middle (c : Dev nD) (i : grid0.Coords) (arg2 : Memref sig .tc .vmem S1024x768 .bf16) (harg2 : arg2.IsWhole) (arg3 : Memref sig .tc .vmem S1x1x1024x768 .bf16) (harg3 : arg3.IsWhole) (arg4 : Memref sig .tc .vmem S1024x1024 .f32) (harg4 : arg4.IsWhole) (arg5 : Memref sig .tc .vmem S1x1x1024 .f32) (harg5 : arg5.IsWhole) (arg6 : Memref sig .tc .vmem S1024x1024 .f32) (harg6 : arg6.IsWhole) (arg7 : Memref sig .tc .vmem S8x128 .f32) (harg7 : arg7.IsWhole) (arg8 : Memref sig .tc .vmem S1024x1024 .f32) (harg8 : arg8.IsWhole) (arg9 : Memref sig .tc .vmem S1024x1024 .bf16) (harg9 : arg9.IsWhole) (arg10 : Memref sig .tc .vmem S1x1024 .f32) (harg10 : arg10.IsWhole) (arg11 : Memref sig .tc .vmem S2x1024x1024 .f32) (harg11 : arg11.IsWhole) (h1 : ¬ k0_cond1 i = 1#1) (h2 : k0_cond2 i = 1#1) (h3 : ¬ k0_cond3 i = 1#1)
    (x0 : Vec F S1024x768 .bf16) (x1 : Vec F S1x1x1024x768 .bf16) (d : Vec F S2x1024x1024 .f32) :
      ∀ (E : Set ℕ) (K : PUnit → sProp 𝕄),
        iprop(owns (c : Thread nD τ) arg2 fullShare x0 ∗ owns (c : Thread nD τ) arg3 fullShare x1 ∗ owns (c : Thread nD τ) arg11 fullShare d
            ∗ (iprop(owns (c : Thread nD τ) arg2 fullShare x0 ∗ owns (c : Thread nD τ) arg3 fullShare x1
                ∗ owns (c : Thread nD τ) arg11 fullShare (VecWindow.put d (k0_off2 i) S1x1024x1024.size
                    (k0_pay3 x0 x1 (VecWindow.window d (k0_off2 i) S1x1024x1024.size (k0_off2_inb i h2))))) -∗ K ⟨⟩))
          ⊢ wp frame (wpE (defs₀ (F := F)) Variants.none c none) E (cc0_dn_proj_odd i arg2 harg2 arg3 harg3 arg4 harg4 arg5 harg5 arg6 harg6 arg7 harg7 arg8 harg8 arg9 harg9 arg10 harg10 arg11 harg11) K := by
  intro E K
  simp only [cc0_dn_proj_odd_eq_skeleton]; unfold cc0_dn_proj_odd_skel
  unfold owns
  iintro ⟨⟨%f0, %hf0, H0⟩, ⟨%f1, %hf1, H1⟩, ⟨%fs, %hs, HS⟩, Hk⟩
  subst hf0 hf1 hs
  sl_exec (disch := first | sl_exact h1 | sl_exact h2 | sl_exact h3)
  sl_step
  iapply Hk
  isplitl [H0]
  · iexists f0; isplitr; · ipureintro; rfl
    iexact H0
  isplitl [H1]
  · iexists f1; isplitr; · ipureintro; rfl
    iexact H1
  iexists _; isplitr; swap; · iexact HS
  ipureintro
  rw [View.read_writes_cons_put _ _ _ _ _ rfl, View.readAt_full, View.readAt_full, View.readAt_unit _ _ _ rfl (k0_off2_inb i h2)]
  rfl

set_option maxHeartbeats 2000000 in
/-- The body at the last shard of the first block of rows: the slot is completed, the input's cotangent goes to its two outputs,
    and the rows' part of the scale's cotangent starts its output. -/
theorem run_finish (c : Dev nD) (i : grid0.Coords) (arg2 : Memref sig .tc .vmem S1024x768 .bf16) (harg2 : arg2.IsWhole) (arg3 : Memref sig .tc .vmem S1x1x1024x768 .bf16) (harg3 : arg3.IsWhole) (arg4 : Memref sig .tc .vmem S1024x1024 .f32) (harg4 : arg4.IsWhole) (arg5 : Memref sig .tc .vmem S1x1x1024 .f32) (harg5 : arg5.IsWhole) (arg6 : Memref sig .tc .vmem S1024x1024 .f32) (harg6 : arg6.IsWhole) (arg7 : Memref sig .tc .vmem S8x128 .f32) (harg7 : arg7.IsWhole) (arg8 : Memref sig .tc .vmem S1024x1024 .f32) (harg8 : arg8.IsWhole) (arg9 : Memref sig .tc .vmem S1024x1024 .bf16) (harg9 : arg9.IsWhole) (arg10 : Memref sig .tc .vmem S1x1024 .f32) (harg10 : arg10.IsWhole) (arg11 : Memref sig .tc .vmem S2x1024x1024 .f32) (harg11 : arg11.IsWhole) (h1 : ¬ k0_cond1 i = 1#1) (h2 : k0_cond2 i = 1#1) (h3 : k0_cond3 i = 1#1) (h4 : k0_cond4 i = 1#1) (h5 : ¬ k0_cond5 i = 1#1)
    (x0 : Vec F S1024x768 .bf16) (x1 : Vec F S1x1x1024x768 .bf16) (x2 : Vec F S1024x1024 .f32) (x3 : Vec F S1x1x1024 .f32) (x4 : Vec F S1024x1024 .f32) (d : Vec F S2x1024x1024 .f32)
    (a : Vec F S1x1024x1024 .f32) (ha : k0_pay3 x0 x1 (VecWindow.window d (k0_off2 i) S1x1024x1024.size (k0_off2_inb i h2)) = a) :
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4
            ∗ (∃ d, owns (c : Thread nD τ) arg8 fullShare d) ∗ (∃ d, owns (c : Thread nD τ) arg9 fullShare d) ∗ (∃ d, owns (c : Thread nD τ) arg10 fullShare d) ∗ owns (c : Thread nD τ) arg11 fullShare d
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4
                ∗ owns (c : Thread nD τ) arg8 fullShare (k0_pay7 x2 a x3 x4) ∗ owns (c : Thread nD τ) arg9 fullShare (k0_pay8 x2 a x3 x4) ∗ owns (c : Thread nD τ) arg10 fullShare (k0_pay9 x2 a)
                ∗ owns (c : Thread nD τ) arg11 fullShare (VecWindow.put d (k0_off2 i) S1x1024x1024.size a)) -∗ K ⟨⟩))
          ⊢ wp frame (wpE (defs₀ (F := F)) Variants.none c none) E (cc0_dn_proj_odd i arg2 harg2 arg3 harg3 arg4 harg4 arg5 harg5 arg6 harg6 arg7 harg7 arg8 harg8 arg9 harg9 arg10 harg10 arg11 harg11) K := by
  intro E K
  simp only [cc0_dn_proj_odd_eq_skeleton]; unfold cc0_dn_proj_odd_skel
  simp only [k0_part1_eq_skeleton]; unfold k0_part1_skel
  unfold owns
  iintro ⟨⟨%f0, %hf0, H0⟩, ⟨%f1, %hf1, H1⟩, ⟨%f2, %hf2, H2⟩, ⟨%f3, %hf3, H3⟩, ⟨%f4, %hf4, H4⟩, ⟨%d6, %f6, -, H6⟩, ⟨%d7, %f7, -, H7⟩, ⟨%d8, %f8, -, H8⟩, ⟨%fs, %hs, HS⟩, Hk⟩
  subst hf0 hf1 hf2 hf3 hf4 hs
  sl_exec (disch := first | sl_exact h1 | sl_exact h2 | sl_exact h3 | sl_exact h4 | sl_exact h5)
  sl_step
  have hslot : ∀ f, View.read (Elt F) arg11.view (arg11.view.writes (Elt F) f (run_finish.sl.HS_1 c i arg2 arg3 arg11 h2 f0 f1 fs))
      = VecWindow.put (View.read (Elt F) arg11.view f) (k0_off2 i) S1x1024x1024.size a := fun f => by
    unfold run_finish.sl.HS_1 run_finish.sl.v1 run_finish.sl.v14
    rw [View.read_writes_cons_put _ _ _ _ _ rfl, View.readAt_full, View.readAt_full, View.readAt_unit _ _ _ rfl (k0_off2_inb i h2)]
    exact congrArg (VecWindow.put _ _ _) ha
  have hacc : run_finish.sl.v23 c i arg2 arg3 arg11 h2 h3 f0 f1 fs = a := by
    unfold run_finish.sl.v23 View.readCov
    rw [View.readAt_unit _ _ _ rfl (k0_off3_inb i h3), hslot]
    exact VecWindow.window_put_same _ _ _ _ _
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H6]
  · iexists _; isplitr; swap; · iexact H6
    ipureintro
    rw [View.read_writes_full, hacc, View.readAt_full, View.readAt_full, View.readAt_full]
  isplitl [H7]
  · iexists _; isplitr; swap; · iexact H7
    ipureintro
    rw [View.read_writes_full, hacc, View.readAt_full, View.readAt_full, View.readAt_full]
  isplitl [H8]
  · iexists _; isplitr; swap; · iexact H8
    ipureintro
    rw [View.read_writes_full, hacc, View.readAt_full]
  iexists _; isplitr; swap; · iexact HS
  ipureintro
  exact hslot fs

set_option maxHeartbeats 2000000 in
/-- The body at the last shard of the second block of rows: as at the first, but the rows' part of the scale's cotangent is added to
    its output. -/
theorem run_last (c : Dev nD) (i : grid0.Coords) (arg2 : Memref sig .tc .vmem S1024x768 .bf16) (harg2 : arg2.IsWhole) (arg3 : Memref sig .tc .vmem S1x1x1024x768 .bf16) (harg3 : arg3.IsWhole) (arg4 : Memref sig .tc .vmem S1024x1024 .f32) (harg4 : arg4.IsWhole) (arg5 : Memref sig .tc .vmem S1x1x1024 .f32) (harg5 : arg5.IsWhole) (arg6 : Memref sig .tc .vmem S1024x1024 .f32) (harg6 : arg6.IsWhole) (arg7 : Memref sig .tc .vmem S8x128 .f32) (harg7 : arg7.IsWhole) (arg8 : Memref sig .tc .vmem S1024x1024 .f32) (harg8 : arg8.IsWhole) (arg9 : Memref sig .tc .vmem S1024x1024 .bf16) (harg9 : arg9.IsWhole) (arg10 : Memref sig .tc .vmem S1x1024 .f32) (harg10 : arg10.IsWhole) (arg11 : Memref sig .tc .vmem S2x1024x1024 .f32) (harg11 : arg11.IsWhole) (h1 : ¬ k0_cond1 i = 1#1) (h2 : k0_cond2 i = 1#1) (h3 : k0_cond3 i = 1#1) (h4 : ¬ k0_cond4 i = 1#1) (h5 : k0_cond5 i = 1#1)
    (x0 : Vec F S1024x768 .bf16) (x1 : Vec F S1x1x1024x768 .bf16) (x2 : Vec F S1024x1024 .f32) (x3 : Vec F S1x1x1024 .f32) (x4 : Vec F S1024x1024 .f32) (y : Vec F S1x1024 .f32) (d : Vec F S2x1024x1024 .f32)
    (a : Vec F S1x1024x1024 .f32) (ha : k0_pay3 x0 x1 (VecWindow.window d (k0_off2 i) S1x1024x1024.size (k0_off2_inb i h2)) = a) :
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4
            ∗ (∃ d, owns (c : Thread nD τ) arg8 fullShare d) ∗ (∃ d, owns (c : Thread nD τ) arg9 fullShare d) ∗ owns (c : Thread nD τ) arg10 fullShare y ∗ owns (c : Thread nD τ) arg11 fullShare d
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4
                ∗ owns (c : Thread nD τ) arg8 fullShare (k0_pay7 x2 a x3 x4) ∗ owns (c : Thread nD τ) arg9 fullShare (k0_pay8 x2 a x3 x4) ∗ owns (c : Thread nD τ) arg10 fullShare (k0_pay4 (k0_pay9 x2 a) y)
                ∗ owns (c : Thread nD τ) arg11 fullShare (VecWindow.put d (k0_off2 i) S1x1024x1024.size a)) -∗ K ⟨⟩))
          ⊢ wp frame (wpE (defs₀ (F := F)) Variants.none c none) E (cc0_dn_proj_odd i arg2 harg2 arg3 harg3 arg4 harg4 arg5 harg5 arg6 harg6 arg7 harg7 arg8 harg8 arg9 harg9 arg10 harg10 arg11 harg11) K := by
  intro E K
  simp only [cc0_dn_proj_odd_eq_skeleton]; unfold cc0_dn_proj_odd_skel
  simp only [k0_part1_eq_skeleton]; unfold k0_part1_skel
  unfold owns
  iintro ⟨⟨%f0, %hf0, H0⟩, ⟨%f1, %hf1, H1⟩, ⟨%f2, %hf2, H2⟩, ⟨%f3, %hf3, H3⟩, ⟨%f4, %hf4, H4⟩, ⟨%d6, %f6, -, H6⟩, ⟨%d7, %f7, -, H7⟩, ⟨%f8, %hf8, H8⟩, ⟨%fs, %hs, HS⟩, Hk⟩
  subst hf0 hf1 hf2 hf3 hf4 hf8 hs
  sl_exec (disch := first | sl_exact h1 | sl_exact h2 | sl_exact h3 | sl_exact h4 | sl_exact h5)
  sl_step
  have hslot : ∀ f, View.read (Elt F) arg11.view (arg11.view.writes (Elt F) f (run_last.sl.HS_1 c i arg2 arg3 arg11 h2 f0 f1 fs))
      = VecWindow.put (View.read (Elt F) arg11.view f) (k0_off2 i) S1x1024x1024.size a := fun f => by
    unfold run_last.sl.HS_1 run_last.sl.v1 run_last.sl.v14
    rw [View.read_writes_cons_put _ _ _ _ _ rfl, View.readAt_full, View.readAt_full, View.readAt_unit _ _ _ rfl (k0_off2_inb i h2)]
    exact congrArg (VecWindow.put _ _ _) ha
  have hacc : run_last.sl.v23 c i arg2 arg3 arg11 h2 h3 f0 f1 fs = a := by
    unfold run_last.sl.v23 View.readCov
    rw [View.readAt_unit _ _ _ rfl (k0_off3_inb i h3), hslot]
    exact VecWindow.window_put_same _ _ _ _ _
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H6]
  · iexists _; isplitr; swap; · iexact H6
    ipureintro
    rw [View.read_writes_full, hacc, View.readAt_full, View.readAt_full, View.readAt_full]
  isplitl [H7]
  · iexists _; isplitr; swap; · iexact H7
    ipureintro
    rw [View.read_writes_full, hacc, View.readAt_full, View.readAt_full, View.readAt_full]
  isplitl [H8]
  · iexists _; isplitr; swap; · iexact H8
    ipureintro
    rw [View.read_writes_full, hacc, View.readAt_full, View.readAt_full]
  iexists _; isplitr; swap; · iexact HS
  ipureintro
  exact hslot fs

/-! ## The points -/

theorem starts : ∀ t : Fin cfg0.N, k0_cond1 (grid0.coords t) = 1#1 ↔ t.val < 2 :=
  (by decide +kernel : ∀ t : Fin grid0.N, k0_cond1 (grid0.coords t) = 1#1 ↔ t.val < 2)
theorem continues : ∀ t : Fin cfg0.N, k0_cond2 (grid0.coords t) = 1#1 ↔ 2 ≤ t.val :=
  (by decide +kernel : ∀ t : Fin grid0.N, k0_cond2 (grid0.coords t) = 1#1 ↔ 2 ≤ t.val)
theorem finishes : ∀ t : Fin cfg0.N, k0_cond3 (grid0.coords t) = 1#1 ↔ 6 ≤ t.val :=
  (by decide +kernel : ∀ t : Fin grid0.N, k0_cond3 (grid0.coords t) = 1#1 ↔ 6 ≤ t.val)
theorem first_rows : ∀ t : Fin cfg0.N, k0_cond4 (grid0.coords t) = 1#1 ↔ t.val % 2 = 0 :=
  (by decide +kernel : ∀ t : Fin grid0.N, k0_cond4 (grid0.coords t) = 1#1 ↔ t.val % 2 = 0)
theorem second_rows : ∀ t : Fin cfg0.N, k0_cond5 (grid0.coords t) = 1#1 ↔ t.val % 2 = 1 :=
  (by decide +kernel : ∀ t : Fin grid0.N, k0_cond5 (grid0.coords t) = 1#1 ↔ t.val % 2 = 1)

theorem slot_inside : ∀ s : Fin cfg0.N, ∀ a, k0_off1 (grid0.coords s) a + S1x1024x1024.size a ≤ S2x1024x1024.size a :=
  (by decide +kernel : ∀ s : Fin grid0.N, ∀ a, k0_off1 (grid0.coords s) a + S1x1024x1024.size a ≤ S2x1024x1024.size a)
theorem slot_apart : ∀ s t : Fin cfg0.N, s.val + 1 = t.val →
    k0_off1 (grid0.coords s) 0 + 1 ≤ k0_off1 (grid0.coords t) 0 ∨ k0_off1 (grid0.coords t) 0 + 1 ≤ k0_off1 (grid0.coords s) 0 :=
  (by decide +kernel : ∀ s t : Fin grid0.N, s.val + 1 = t.val →
    k0_off1 (grid0.coords s) 0 + 1 ≤ k0_off1 (grid0.coords t) 0 ∨ k0_off1 (grid0.coords t) 0 + 1 ≤ k0_off1 (grid0.coords s) 0)
theorem slot_again : ∀ s t : Fin cfg0.N, s.val + 2 = t.val → k0_off2 (grid0.coords t) = k0_off1 (grid0.coords s) :=
  (by decide +kernel : ∀ s t : Fin grid0.N, s.val + 2 = t.val → k0_off2 (grid0.coords t) = k0_off1 (grid0.coords s))

theorem idle6 : ∀ t : Fin cfg0.N, cfg0.idle 6 (grid0.coords t) = !decide (6 ≤ t.val) :=
  (by decide +kernel : ∀ t : Fin grid0.N, cfg0.idle 6 (grid0.coords t) = !decide (6 ≤ t.val))
theorem idle7 : ∀ t : Fin cfg0.N, cfg0.idle 7 (grid0.coords t) = !decide (6 ≤ t.val) :=
  (by decide +kernel : ∀ t : Fin grid0.N, cfg0.idle 7 (grid0.coords t) = !decide (6 ≤ t.val))
theorem idle8 : ∀ t : Fin cfg0.N, cfg0.idle 8 (grid0.coords t) = !decide (6 ≤ t.val) :=
  (by decide +kernel : ∀ t : Fin grid0.N, cfg0.idle 8 (grid0.coords t) = !decide (6 ≤ t.val))
theorem flush6 : ∀ t : Fin cfg0.N, (cfg0.win 6).flush t = decide (6 ≤ t.val) :=
  (by decide +kernel : ∀ t : Fin grid0.N, win0_6.flush t = decide (6 ≤ t.val))
theorem flush7 : ∀ t : Fin cfg0.N, (cfg0.win 7).flush t = decide (6 ≤ t.val) :=
  (by decide +kernel : ∀ t : Fin grid0.N, win0_7.flush t = decide (6 ≤ t.val))
theorem flush8 : ∀ t : Fin cfg0.N, (cfg0.win 8).flush t = decide (7 ≤ t.val) :=
  (by decide +kernel : ∀ t : Fin grid0.N, win0_8.flush t = decide (7 ≤ t.val))
theorem fresh8 : ∀ t : Fin cfg0.N, cfg0.fresh 8 t.val = decide (t.val ≤ 6) :=
  (by decide +kernel : ∀ t : Fin grid0.N, cfg0.fresh 8 t.val = decide (t.val ≤ 6))

/-! ## The proof data -/

/-- The point of shard `j` and block of rows `i`. -/
def point (j i : ℕ) : Fin cfg0.N := ⟨(2 * j + i) % 8, Nat.lt_of_lt_of_eq (Nat.mod_lt _ (by decide)) N_0.symm⟩

/-- What the slot of block of rows `i` holds once shard `j` is added. -/
def acc (c : Dev nD) (i : ℕ) : ℕ → Vec F S1x1024x1024 .f32
  | 0 => k0_pay2 (iblk m c 0 (point 0 i)) (iblk m c 1 (point 0 i))
  | j + 1 => k0_pay3 (iblk m c 0 (point (j + 1) i)) (iblk m c 1 (point (j + 1) i)) (acc c i j)

/-- What the slot holds after point `t`. -/
def slot (c : Dev nD) (t : Fin cfg0.N) : Vec F S1x1024x1024 .f32 := acc m c (t.val % 2) (t.val / 2)

theorem point_self (t : Fin cfg0.N) (j : ℕ) (hj : t.val / 2 = j) : point j (t.val % 2) = t := Fin.ext (by
  have ht : t.val < 8 := Nat.lt_of_lt_of_eq t.isLt N_0
  show (2 * j + t.val % 2) % 8 = t.val
  omega)

theorem slot_start (c : Dev nD) (t : Fin cfg0.N) (h : t.val < 2) : slot m c t = k0_pay2 (iblk m c 0 t) (iblk m c 1 t) := by
  have hj : t.val / 2 = 0 := by omega
  unfold slot
  rw [hj]
  unfold acc
  rw [point_self t 0 hj]

theorem slot_step (c : Dev nD) (s t : Fin cfg0.N) (h : s.val + 2 = t.val) :
    slot m c t = k0_pay3 (iblk m c 0 t) (iblk m c 1 t) (slot m c s) := by
  have hj : t.val / 2 = s.val / 2 + 1 := by omega
  have hi : s.val % 2 = t.val % 2 := by omega
  unfold slot
  rw [hj, hi]
  conv_lhs => unfold acc
  rw [point_self t _ hj]

/-- What the scratch holds before point `n`: the slots as the last two points left them. -/
def held (c : Dev nD) (n : ℕ) (d : Vec F S2x1024x1024 .f32) : Prop :=
  ∀ s : Fin cfg0.N, s.val < n → n ≤ s.val + 2 → VecWindow.window d (k0_off1 (grid0.coords s)) S1x1024x1024.size (slot_inside s) = slot m c s

theorem held_put (c : Dev nD) (t : Fin cfg0.N) (d : Vec F S2x1024x1024 .f32) (h : held m c t.val d) :
    held m c (t.val + 1) (VecWindow.put d (k0_off1 (grid0.coords t)) S1x1024x1024.size (slot m c t)) := fun s hs h2 => by
  by_cases e : s = t
  · subst e; exact VecWindow.window_put_same _ _ _ _ _
  · have hne : s.val ≠ t.val := fun h => e (Fin.ext h)
    refine (VecWindow.window_put_of_disjoint _ _ _ _ _ _ _ (0 : Fin 3) (slot_apart s t (by omega))).trans (h s (by omega) (by omega))

theorem window_of_eq (d : Vec F S2x1024x1024 .f32) (size) {off off' : Fin 3 → ℕ} (e : off = off') (inb) (inb') :
    VecWindow.window d off size inb = VecWindow.window d off' size inb' := by
  subst e; rfl

/-- From the second shard on, adding the block's product to the slot gives what the slot is to hold. -/
theorem held_step (c : Dev nD) (t : Fin cfg0.N) (ht : 2 ≤ t.val) (d : Vec F S2x1024x1024 .f32) (h : held m c t.val d) :
    k0_pay3 (iblk m c 0 t) (iblk m c 1 t) (VecWindow.window d (k0_off2 (grid0.coords t)) S1x1024x1024.size (k0_off2_inb (grid0.coords t) ((continues t).mpr ht))) = slot m c t := by
  have hs : t.val - 2 < cfg0.N := by omega
  have e : (⟨t.val - 2, hs⟩ : Fin cfg0.N).val + 2 = t.val := by show t.val - 2 + 2 = t.val; omega
  rw [slot_step m c ⟨t.val - 2, hs⟩ t e, window_of_eq d _ (slot_again ⟨t.val - 2, hs⟩ t e) _ (slot_inside _),
    h ⟨t.val - 2, hs⟩ (by show t.val - 2 < t.val; omega) (by show t.val ≤ t.val - 2 + 2; omega)]

/-- The invariant between the points: the scratch with what it holds, and the generator register. -/
def Φ (c : Dev nD) (n : ℕ) : sProp 𝕄 :=
  iprop((∃ d, ⌜held m c n d⌝ ∗ owns (c : Thread nD τ) (Memref.whole cc0_scratch0 : Memref sig .tc .vmem S2x1024x1024 .f32) fullShare d) ∗ (∃ r, prngReg c r))

/-- One block of rows' part of the scale's cotangent. -/
def scalePart (c : Dev nD) (t : Fin cfg0.N) : Vec F S1x1024 .f32 := k0_pay9 (iblk m c 2 t) (slot m c t)

/-- The proof data: the arrays as the region finds them; after point `t` each input's buffer at its block, the two outputs of the
    input's cotangent at the value of `t`'s block of rows, the scale's at the first block's part, and at the last point at both. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => k0_pay7 (iblk m c 2 t) (slot m c t) (iblk m c 3 t) (iblk m c 4 t)
    | ⟨7, _⟩ => k0_pay8 (iblk m c 2 t) (slot m c t) (iblk m c 3 t) (iblk m c 4 t)
    | ⟨8, _⟩ => if t.val ≤ 6 then scalePart m c (point 3 0) else k0_pay4 (scalePart m c t) (scalePart m c (point 3 0))
  Φ t := Φ m c t.val
  q _ := fullShare
  owed _ := 0

theorem A_eq (c : Dev nD) (w : Fin cfg0.W) : (dats m 0 c).A w = V m c (Pipeline.arrRef spec0 w) := by
  dsimp only [dats]

theorem after0 (c : Dev nD) (t : Fin cfg0.N) : (dats m 0 c).after 0 t = iblk m c 0 t := by dsimp only [dats]
theorem after1 (c : Dev nD) (t : Fin cfg0.N) : (dats m 0 c).after 1 t = iblk m c 1 t := by dsimp only [dats]
theorem after2 (c : Dev nD) (t : Fin cfg0.N) : (dats m 0 c).after 2 t = iblk m c 2 t := by dsimp only [dats]
theorem after3 (c : Dev nD) (t : Fin cfg0.N) : (dats m 0 c).after 3 t = iblk m c 3 t := by dsimp only [dats]
theorem after4 (c : Dev nD) (t : Fin cfg0.N) : (dats m 0 c).after 4 t = iblk m c 4 t := by dsimp only [dats]
theorem after5 (c : Dev nD) (t : Fin cfg0.N) : (dats m 0 c).after 5 t = iblk m c 5 t := by dsimp only [dats]
theorem after6 (c : Dev nD) (t : Fin cfg0.N) : (dats m 0 c).after 6 t = k0_pay7 (iblk m c 2 t) (slot m c t) (iblk m c 3 t) (iblk m c 4 t) := by dsimp only [dats]
theorem after7 (c : Dev nD) (t : Fin cfg0.N) : (dats m 0 c).after 7 t = k0_pay8 (iblk m c 2 t) (slot m c t) (iblk m c 3 t) (iblk m c 4 t) := by dsimp only [dats]
theorem after8 (c : Dev nD) (t : Fin cfg0.N) : (dats m 0 c).after 8 t
    = if t.val ≤ 6 then scalePart m c (point 3 0) else k0_pay4 (scalePart m c t) (scalePart m c (point 3 0)) := by dsimp only [dats]

theorem before0 (c : Dev nD) (t : Fin cfg0.N) (d) : (dats m 0 c).before 0 t d = iblk m c 0 t :=
  before0_0_of m (dats m 0 c) (A_eq m c 0) (after0 m c) t d
theorem before1 (c : Dev nD) (t : Fin cfg0.N) (d) : (dats m 0 c).before 1 t d = iblk m c 1 t :=
  before0_1_of m (dats m 0 c) (A_eq m c 1) (after1 m c) t d
theorem before2 (c : Dev nD) (t : Fin cfg0.N) (d) : (dats m 0 c).before 2 t d = iblk m c 2 t :=
  before0_2_of m (dats m 0 c) (A_eq m c 2) (after2 m c) t d
theorem before3 (c : Dev nD) (t : Fin cfg0.N) (d) : (dats m 0 c).before 3 t d = iblk m c 3 t :=
  before0_3_of m (dats m 0 c) (A_eq m c 3) (after3 m c) t d
theorem before4 (c : Dev nD) (t : Fin cfg0.N) (d) : (dats m 0 c).before 4 t d = iblk m c 4 t :=
  before0_4_of m (dats m 0 c) (A_eq m c 4) (after4 m c) t d
theorem before5 (c : Dev nD) (t : Fin cfg0.N) (d) : (dats m 0 c).before 5 t d = iblk m c 5 t :=
  before0_5_of m (dats m 0 c) (A_eq m c 5) (after5 m c) t d

/-- At the last point the scale's output holds the first block's part. -/
theorem before8 (c : Dev nD) (t : Fin cfg0.N) (h : 7 ≤ t.val) (d) : (dats m 0 c).before 8 t d = scalePart m c (point 3 0) := by
  have e := (dats m 0 c).before_out_traj 8 rfl (fun _ _ => rfl) (fun t _ hi hf => by
    have hi' := hi
    have hf' := hf
    rw [idle8 t] at hi'
    rw [fresh8 t] at hf'
    have h1 : t.val < 6 := by
      by_contra hlt
      rw [decide_eq_true (show 6 ≤ t.val by omega)] at hi'
      exact Bool.false_ne_true hi'
    rw [decide_eq_true (show t.val ≤ 6 by omega)] at hf'
    exact absurd hf'.symm Bool.false_ne_true) t.val t rfl d
  have ht : t.val < 8 := Nat.lt_of_lt_of_eq t.isLt N_0
  rw [fresh8 t, decide_eq_false (by omega), if_neg Bool.false_ne_true, after8, if_pos (by show t.val - 1 ≤ 6; omega)] at e
  exact e

/-! ## The body at a point -/

def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d))
    ∗ (∃ d, owns (c : Thread nD τ) (st0_6 t) fullShare ((dats m 0 c).before 6 t d))
    ∗ (∃ d, owns (c : Thread nD τ) (st0_7 t) fullShare ((dats m 0 c).before 7 t d))
    ∗ (∃ d, owns (c : Thread nD τ) (st0_8 t) fullShare ((dats m 0 c).before 8 t d)))

def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t)
    ∗ owns (c : Thread nD τ) (st0_5 t) fullShare ((dats m 0 c).after 5 t)
    ∗ (dats m 0 c).leavesExact 6 t ∗ (dats m 0 c).leavesExact 7 t ∗ (dats m 0 c).leavesExact 8 t)

theorem keeps6 (c : Dev nD) (t : Fin cfg0.N) (h : t.val < 6) (d) :
    owns (c : Thread nD τ) (st0_6 t) fullShare ((dats m 0 c).before 6 t d) ⊢ ((dats m 0 c).leavesExact 6 t : sProp 𝕄) := by
  unfold Dat.leavesExact
  rw [idle6 t, decide_eq_false (by omega), flush6 t, decide_eq_false (by omega)]
  show _ ⊢ iprop(∃ d, owns (c : Thread nD τ) (st0_6 t) fullShare ((dats m 0 c).before 6 t d))
  iintro H
  iexists d
  iexact H
theorem leaves6 (c : Dev nD) (t : Fin cfg0.N) (h : 6 ≤ t.val) :
    owns (c : Thread nD τ) (st0_6 t) fullShare ((dats m 0 c).after 6 t) ⊢ ((dats m 0 c).leavesExact 6 t : sProp 𝕄) := by
  unfold Dat.leavesExact
  rw [idle6 t, decide_eq_true h]
  exact .rfl
theorem keeps7 (c : Dev nD) (t : Fin cfg0.N) (h : t.val < 6) (d) :
    owns (c : Thread nD τ) (st0_7 t) fullShare ((dats m 0 c).before 7 t d) ⊢ ((dats m 0 c).leavesExact 7 t : sProp 𝕄) := by
  unfold Dat.leavesExact
  rw [idle7 t, decide_eq_false (by omega), flush7 t, decide_eq_false (by omega)]
  show _ ⊢ iprop(∃ d, owns (c : Thread nD τ) (st0_7 t) fullShare ((dats m 0 c).before 7 t d))
  iintro H
  iexists d
  iexact H
theorem leaves7 (c : Dev nD) (t : Fin cfg0.N) (h : 6 ≤ t.val) :
    owns (c : Thread nD τ) (st0_7 t) fullShare ((dats m 0 c).after 7 t) ⊢ ((dats m 0 c).leavesExact 7 t : sProp 𝕄) := by
  unfold Dat.leavesExact
  rw [idle7 t, decide_eq_true h]
  exact .rfl
theorem keeps8 (c : Dev nD) (t : Fin cfg0.N) (h : t.val < 6) (d) :
    owns (c : Thread nD τ) (st0_8 t) fullShare ((dats m 0 c).before 8 t d) ⊢ ((dats m 0 c).leavesExact 8 t : sProp 𝕄) := by
  unfold Dat.leavesExact
  rw [idle8 t, decide_eq_false (by omega), flush8 t, decide_eq_false (by omega)]
  show _ ⊢ iprop(∃ d, owns (c : Thread nD τ) (st0_8 t) fullShare ((dats m 0 c).before 8 t d))
  iintro H
  iexists d
  iexact H
theorem leaves8 (c : Dev nD) (t : Fin cfg0.N) (h : 6 ≤ t.val) :
    owns (c : Thread nD τ) (st0_8 t) fullShare ((dats m 0 c).after 8 t) ⊢ ((dats m 0 c).leavesExact 8 t : sProp 𝕄) := by
  unfold Dat.leavesExact
  rw [idle8 t, decide_eq_true h]
  exact .rfl

set_option maxHeartbeats 1600000 in
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0, before1, before2, before3, before4, before5]
  rw [show (dats m 0 c).owesAt () t.succ = (dats m 0 c).owesAt () t.castSucc from rfl,
    after0, after1, after2, after3, after4, after5,
    show (dats m 0 c).Φ t.castSucc = Φ m c t.val from rfl, show (dats m 0 c).Φ t.succ = Φ m c (t.val + 1) from rfl]
  unfold Φ
  have ht : t.val < 8 := Nat.lt_of_lt_of_eq t.isLt N_0
  rcases (by omega : t.val < 2 ∨ (2 ≤ t.val ∧ t.val < 6) ∨ t.val = 6 ∨ t.val = 7) with h | h | h | h
  · iintro ⟨⟨⟨%d, %hd, HS⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
    iapply (run_start c (grid0.coords t) _ _ _ _ _ _ _ _ _ _ _ _ _ _ _ _ _ _ _ _ ((starts t).mpr (by omega)) (fun e => absurd ((continues t).mp e) (by omega)) (fun e => absurd ((finishes t).mp e) (by omega)) (iblk m c 0 t) (iblk m c 1 t) d Set.univ _)
    isplitl [H0]; · iexact H0
    isplitl [H1]; · iexact H1
    isplitl [HS]; · iexact HS
    iintro ⟨H0, H1, HS⟩
    isplitl [HS Hg]
    · isplitl [HS]
      · iexists _; isplitr; swap; · iexact HS
        ipureintro
        have e := held_put m c t d hd
        rw [slot_start m c t h] at e
        exact e
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iapply (keeps6 m c t (by omega) d6); iexact H6
    isplitl [H7]; · iapply (keeps7 m c t (by omega) d7); iexact H7
    iapply (keeps8 m c t (by omega) d8)
    iexact H8
  · iintro ⟨⟨⟨%d, %hd, HS⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
    iapply (run_middle c (grid0.coords t) _ _ _ _ _ _ _ _ _ _ _ _ _ _ _ _ _ _ _ _ (fun e => absurd ((starts t).mp e) (by omega)) ((continues t).mpr (by omega)) (fun e => absurd ((finishes t).mp e) (by omega)) (iblk m c 0 t) (iblk m c 1 t) d Set.univ _)
    isplitl [H0]; · iexact H0
    isplitl [H1]; · iexact H1
    isplitl [HS]; · iexact HS
    iintro ⟨H0, H1, HS⟩
    isplitl [HS Hg]
    · isplitl [HS]
      · iexists _; isplitr; swap; · iexact HS
        ipureintro
        have e := held_put m c t d hd
        rw [← held_step m c t h.1 d hd] at e
        exact e
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iapply (keeps6 m c t (by omega) d6); iexact H6
    isplitl [H7]; · iapply (keeps7 m c t (by omega) d7); iexact H7
    iapply (keeps8 m c t (by omega) d8)
    iexact H8
  · iintro ⟨⟨⟨%d, %hd, HS⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
    iapply (run_finish c (grid0.coords t) _ _ _ _ _ _ _ _ _ _ _ _ _ _ _ _ _ _ _ _ (fun e => absurd ((starts t).mp e) (by omega)) ((continues t).mpr (by omega)) ((finishes t).mpr (by omega)) ((first_rows t).mpr (by omega)) (fun e => absurd ((second_rows t).mp e) (by omega)) (iblk m c 0 t) (iblk m c 1 t) (iblk m c 2 t) (iblk m c 3 t) (iblk m c 4 t) d (slot m c t) (held_step m c t (by omega) d hd) Set.univ _)
    isplitl [H0]; · iexact H0
    isplitl [H1]; · iexact H1
    isplitl [H2]; · iexact H2
    isplitl [H3]; · iexact H3
    isplitl [H4]; · iexact H4
    isplitl [H6]; · iexists _; iexact H6
    isplitl [H7]; · iexists _; iexact H7
    isplitl [H8]; · iexists _; iexact H8
    isplitl [HS]; · iexact HS
    iintro ⟨H0, H1, H2, H3, H4, H6, H7, H8, HS⟩
    isplitl [HS Hg]
    · isplitl [HS]
      · iexists _; isplitr; swap; · iexact HS
        ipureintro
        exact held_put m c t d hd
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iapply (leaves6 m c t (by omega)); rw [after6]; iexact H6
    isplitl [H7]; · iapply (leaves7 m c t (by omega)); rw [after7]; iexact H7
    iapply (leaves8 m c t (by omega))
    rw [after8, if_pos (by omega), show point 3 0 = t from Fin.ext h.symm]
    iexact H8
  · iintro ⟨⟨⟨%d, %hd, HS⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
    iapply (run_last c (grid0.coords t) _ _ _ _ _ _ _ _ _ _ _ _ _ _ _ _ _ _ _ _ (fun e => absurd ((starts t).mp e) (by omega)) ((continues t).mpr (by omega)) ((finishes t).mpr (by omega)) (fun e => absurd ((first_rows t).mp e) (by omega)) ((second_rows t).mpr (by omega)) (iblk m c 0 t) (iblk m c 1 t) (iblk m c 2 t) (iblk m c 3 t) (iblk m c 4 t) (scalePart m c (point 3 0)) d (slot m c t) (held_step m c t (by omega) d hd) Set.univ _)
    isplitl [H0]; · iexact H0
    isplitl [H1]; · iexact H1
    isplitl [H2]; · iexact H2
    isplitl [H3]; · iexact H3
    isplitl [H4]; · iexact H4
    isplitl [H6]; · iexists _; iexact H6
    isplitl [H7]; · iexists _; iexact H7
    isplitl [H8]; · rw [before8 m c t (by omega)]; iexact H8
    isplitl [HS]; · iexact HS
    iintro ⟨H0, H1, H2, H3, H4, H6, H7, H8, HS⟩
    isplitl [HS Hg]
    · isplitl [HS]
      · iexists _; isplitr; swap; · iexact HS
        ipureintro
        exact held_put m c t d hd
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iapply (leaves6 m c t (by omega)); rw [after6]; iexact H6
    isplitl [H7]; · iapply (leaves7 m c t (by omega)); rw [after7]; iexact H7
    iapply (leaves8 m c t (by omega))
    rw [after8, if_neg (by omega)]
    iexact H8

theorem defs₀_row (t : Fin cfg0.N) :
    defs₀ (F := F) .tc cfg0.body (cfg0.bodyArgs t (cfg0.slots t)) = bodyAt0 t := by
  unfold defs₀; rw [Defs.onTc_tc]

theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

/-! ## The run -/

theorem scratch_eq (c : Dev nD) :
    (Pipeline.ΦA spec0 c : sProp 𝕄)
      = iprop(iprop((∃ d, owns (c : Thread nD τ) (Memref.whole cc0_scratch0 : Memref sig .tc .vmem S2x1024x1024 .f32) fullShare d)) ∗ (∃ r, prngReg c r)) := by
  unfold Pipeline.ΦA; rw [scopedRest0_eq]; simp only [owns_whole]; try rfl

theorem enters (c : Dev nD) : (Pipeline.ΦA spec0 c : sProp 𝕄) ⊢ (dats m 0 c).Φ 0 := by
  rw [show (dats m 0 c).Φ 0 = Φ m c 0 from rfl, scratch_eq]
  unfold Φ
  iintro ⟨⟨%d, HS⟩, Hg⟩
  isplitl [HS]
  · iexists d; isplitr; swap; · iexact HS
    ipureintro
    exact fun s hs _ => absurd hs (Nat.not_lt_zero _)
  iexact Hg

theorem leaves (c : Dev nD) : (dats m 0 c).Φ (Fin.last cfg0.N) ⊢ (Pipeline.ΦA spec0 c : sProp 𝕄) := by
  rw [show (dats m 0 c).Φ (Fin.last cfg0.N) = Φ m c cfg0.N from rfl, scratch_eq]
  unfold Φ
  iintro ⟨⟨%d, %hd, HS⟩, Hg⟩
  isplitl [HS]
  · iexists d; iexact HS
  iexact Hg

-- the launch's implicit arguments are found by unifying its conclusion with this one, which takes unfolding plain definitions
set_option backward.isDefEq.respectTransparency.types false in
set_option maxHeartbeats 800000 in
theorem run_all : θ_run defs (onTc (τ := τ) (main (F := F))) (s₀ m ρ) (fun r => (Pipeline.FramePost cfgs (dats m) 0 (V m)) r ∧ r.2.sem = fun _ => 0) :=
  Pipeline.θ_run_frame_track (Q' := _) cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hin := enters m) (hout := leaves m)

/-- The kernel runs to the end and leaves its arguments as they were. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5))
      ∧ r.2.sem = fun _ => 0) :=
  θ_run_and (frame_of m ρ (dats m) (A_eq m) ((θ_run defs _ _).mono (fun _ h => h.1) (run_all m ρ)))
    ((θ_run defs _ _).mono (fun _ h => h.2) (run_all m ρ))

/-- The kernel's outputs, as the write-backs of its blocks. -/
theorem run_blocks : θ_run defs (onTc (τ := τ) (main (F := F))) ⟨m, fun _ => 0, ρ⟩ (fun r => ∀ c : Dev nD,
      r.2.mem ((c.tc : Thread nD τ).loc main_v0_0) = (dats m 0 c).arrAt 6 cfg0.N
      ∧ r.2.mem ((c.tc : Thread nD τ).loc main_v0_1) = (dats m 0 c).arrAt 7 cfg0.N
      ∧ r.2.mem ((c.tc : Thread nD τ).loc main_v0_2) = (dats m 0 c).arrAt 8 cfg0.N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  (θ_run defs _ _).mono (fun r h c => ⟨(h.1.1 c).1 6, (h.1.1 c).1 7, (h.1.1 c).1 8, h.2.1 c⟩)
    (θ_run_and (run_all m ρ) (frame m ρ))

end Cert.Back15

end
-- ==== Proof.Machine15.lean ====
module

public import proofs.«01_k».proof.Proof.BackRun15
public import proofs.«01_k».proof.Proof.Gen.Kernel15.Frame

/-!
The kernel on the machine's formats: its text is that of the kernel on extended reals, whose frame is proved for floats of any
kind, so it has the same frame.
-/

@[expose] public section

noncomputable section

open Idealize.ShloMosaic Idealize.ShloMosaic.TcCoe Idealize.SL Idealize.SL.Sem

namespace Cert.Machine15

open Cert.Kernel15 Cert.Kernel15.Gen

variable {F : FTy → Type} [FloatOps F]

/-- The two texts of the call are one. -/
theorem table₀ : Cert.Kernel15.defs₀ (F := F) = Cert.Kernel15Ideal.defs₀ (F := F) := by
  unfold Cert.Kernel15.defs₀ Cert.Kernel15Ideal.defs₀
  refine congrArg Defs.onTc ?_
  funext l x
  match l, x with
  | 0, (t, s) => rfl
theorem table : Cert.Kernel15.defs (F := F) = Cert.Kernel15Ideal.defs (F := F) := by
  unfold Cert.Kernel15.defs Cert.Kernel15Ideal.defs
  rw [table₀]
  rfl

/-- The kernel runs to the end and leaves its arguments as they were. -/
theorem frame (m : (ℓ : Loc nD τ sig) → Buf (Elt F) ℓ) (ρ : Dev nD → PrngReg) :
    θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5))
      ∧ r.2.sem = fun _ => 0) := by
  rw [table]
  exact Cert.Back15.frame m ρ

end Cert.Machine15

end
-- ==== Proof.Back15.lean ====
/-
The call that takes the cotangent of a projection back through the product and the normalisation, on odd layers: its three results
are the reference's.
-/
module

public import proofs.«01_k».proof.Defs
public import proofs.«01_k».proof.Proof.Grad
public import proofs.«01_k».proof.Proof.BackRun15
public import proofs.«01_k».proof.Proof.Gen.Reference15Ideal.Run

@[expose] public section

noncomputable section

open Idealize.ShloMosaic Idealize.ShloMosaic.TcCoe Idealize.SL.Sem

namespace Cert.Back15

section

open Cert.Kernel15Ideal Cert.Kernel15Ideal.Gen Cert.Product Cert.Norm Cert.Grad

variable (m : (ℓ : Loc nD τ sig) → Buf (Elt Ideal) ℓ)

/-- The index `(0, j, k, l)` of the weights: row `k` and column `l` of shard `j`. -/
def atShard (j : Fin 4) (k : Fin 1024) (l : Fin 768) : S1x4x1024x768.Idx := ix4 (0 : Fin 1) j k l
/-- The same of one shard's weights. -/
def atOne (k : Fin 1024) (l : Fin 768) : S1x1x1024x768.Idx := ix4 (0 : Fin 1) (0 : Fin 1) k l
/-- Row `r` and column `k` of a slot. -/
def inSlot (r k : Fin 1024) : S1x1024x1024.Idx := ix3 (0 : Fin 1) r k

/-- The weights of the norm. -/
def scale (g : FVec Ideal S2x1x1024 .f32) (c : Fin 1024) : EReal := g (ix3 0 0 c)

/-- The cotangent of the normalised array: the projection's cotangent times the weights transposed. -/
def back (dp : FVec Ideal S2048x3072 .bf16) (w : FVec Ideal S1x4x1024x768 .bf16) (R : Fin 2048) (c : Fin 1024) : EReal :=
  ∑ k : Fin 3072, dp (at2 R k) * w (atShard ⟨k.val / 768, by
    have := k.isLt
    omega⟩ c ⟨k.val % 768, Nat.mod_lt _ (by decide)⟩)

/-- The cotangent of the layer's input. -/
def inputGrad (dp : FVec Ideal S2048x3072 .bf16) (w : FVec Ideal S1x4x1024x768 .bf16) (h : FVec Ideal S2048x1024 .f32) (g : FVec Ideal S2x1x1024 .f32)
    (d : FVec Ideal S2048x1024 .f32) : FVec Ideal S2048x1024 .f32 := fun i => grad h (back dp w) (scale g) d (i 0) (i 1)
/-- The same, rounded. -/
def inputGradShort (dp : FVec Ideal S2048x3072 .bf16) (w : FVec Ideal S1x4x1024x768 .bf16) (h : FVec Ideal S2048x1024 .f32) (g : FVec Ideal S2x1x1024 .f32)
    (d : FVec Ideal S2048x1024 .f32) : FVec Ideal S2048x1024 .bf16 := fun i => grad h (back dp w) (scale g) d (i 0) (i 1)
/-- The cotangent of the norm's weights. -/
def scaleGrad (dp : FVec Ideal S2048x3072 .bf16) (w : FVec Ideal S1x4x1024x768 .bf16) (h : FVec Ideal S2048x1024 .f32) : FVec Ideal S1x1024 .f32 := fun i =>
  ∑ R : Fin 2048, part h (back dp w) R (i 1)

/-- One shard's part of the product. -/
def shardPart (dp : FVec Ideal S2048x3072 .bf16) (w : FVec Ideal S1x4x1024x768 .bf16) (R : Fin 2048) (c : Fin 1024) (j : Fin 4) : EReal :=
  ∑ l : Fin 768, dp (at2 R ⟨j.val * 768 + l.val, by
    have := j.isLt
    have := l.isLt
    omega⟩) * w (atShard j c l)

/-- The product, shard by shard. -/
theorem back_shards (dp : FVec Ideal S2048x3072 .bf16) (w : FVec Ideal S1x4x1024x768 .bf16) (R : Fin 2048) (c : Fin 1024) :
    back dp w R c = ∑ j : Fin 4, shardPart dp w R c j := by
  unfold back
  refine (Fin.sum_univ_tiles 4 768 (by norm_num) _).trans (Finset.sum_congr rfl fun j _ => Finset.sum_congr rfl fun l _ => ?_)
  have hl := l.isLt
  refine congrArg₂ (fun a b : EReal => a * b) rfl (congrArg w (congrArg₂ (fun a b => atShard a c b) (Fin.ext ?_) (Fin.ext ?_)))
  · show (j.val * 768 + l.val) / 768 = j.val
    omega
  · show (j.val * 768 + l.val) % 768 = l.val
    omega

/-! ## What the points compute -/

/-- Row `r` of one block times row `k` of another. -/
def rowProduct (A : FVec Ideal S1024x768 .bf16) (B : FVec Ideal S1x1x1024x768 .bf16) (r k : Fin 1024) : EReal :=
  ∑ l : Fin 768, A (at2 r l) * B (atOne k l)

/-- One point's product. -/
theorem pay_product (A : FVec Ideal S1024x768 .bf16) (B : FVec Ideal S1x1x1024x768 .bf16) (r k : Fin 1024) :
    k0_pay1 (F := Ideal) A B (at2 r k) = rowProduct A B r k := by
  unfold k0_pay1
  refine (matmul_second (K := 768) (n := 1024) (m := 1024) none _ _ _ (at2 r k)).trans ?_
  refine Finset.sum_congr rfl fun l _ => congrArg₂ (fun a b : EReal => a * b) rfl ?_
  refine shapeCast_apply _ _ (at2 k l : S1024x768.Idx) (atOne k l) ?_
  rw [rowMajor_val2 _ 768 rfl, rowMajor_val4 _ (1 * (1024 * 768)) (1024 * 768) 768 rfl rfl rfl]
  show 0 * (1 * (1024 * 768)) + 0 * (1024 * 768) + (k : ℕ) * 768 + (l : ℕ) = (k : ℕ) * 768 + (l : ℕ)
  omega

theorem slot_in (v : FVec Ideal S1024x1024 .f32) (h : S1024x1024.ShapeCasts S1x1024x1024) (r k : Fin 1024) :
    shapeCast S1x1024x1024 v h (inSlot r k) = v (at2 r k) := by
  refine shapeCast_apply v h (inSlot r k) (at2 r k : S1024x1024.Idx) ?_
  rw [rowMajor_val2 _ 1024 rfl, rowMajor_val3 _ (1024 * 1024) 1024 rfl rfl]
  show (r : ℕ) * 1024 + (k : ℕ) = 0 * (1024 * 1024) + (r : ℕ) * 1024 + (k : ℕ)
  omega
theorem slot_out (v : FVec Ideal S1x1024x1024 .f32) (h : S1x1024x1024.ShapeCasts S1024x1024) (r k : Fin 1024) :
    shapeCast S1024x1024 v h (at2 r k) = v (inSlot r k) := by
  refine shapeCast_apply v h (at2 r k : S1024x1024.Idx) (inSlot r k) ?_
  rw [rowMajor_val2 _ 1024 rfl, rowMajor_val3 _ (1024 * 1024) 1024 rfl rfl]
  show 0 * (1024 * 1024) + (r : ℕ) * 1024 + (k : ℕ) = (r : ℕ) * 1024 + (k : ℕ)
  omega

theorem pay_first (A : FVec Ideal S1024x768 .bf16) (B : FVec Ideal S1x1x1024x768 .bf16) (r k : Fin 1024) :
    k0_pay2 (F := Ideal) A B (inSlot r k) = rowProduct A B r k := by
  unfold k0_pay2
  exact (slot_in _ _ r k).trans (pay_product A B r k)
theorem pay_next (A : FVec Ideal S1024x768 .bf16) (B : FVec Ideal S1x1x1024x768 .bf16) (v : FVec Ideal S1x1024x1024 .f32) (r k : Fin 1024) :
    k0_pay3 (F := Ideal) A B v (inSlot r k) = v (inSlot r k) + rowProduct A B r k := by
  unfold k0_pay3
  exact (slot_in _ _ r k).trans (congrArg₂ (fun a b : EReal => a + b) (slot_out v _ r k) (pay_product A B r k))

theorem pay_inv (v : FVec Ideal S1024x1024 .f32) (r : Fin 1024) : k0_pay5 (F := Ideal) v (at2 r 0) = Ideal.rsqrt (mean v r) := by
  unfold k0_pay5
  exact kernelInv v _ _ _ _ _ r
theorem pay_slot (v : FVec Ideal S1x1024x1024 .f32) (r k : Fin 1024) : k0_pay6 (F := Ideal) v (at2 r k) = v (inSlot r k) := by
  unfold k0_pay6
  exact slot_out v _ r k

theorem pay_grad (v : FVec Ideal S1024x1024 .f32) (s : FVec Ideal S1x1024x1024 .f32) (g : FVec Ideal S1x1x1024 .f32) (d : FVec Ideal S1024x1024 .f32) (j : S1024x1024.Idx) :
    k0_pay7 (F := Ideal) v s g d j = grad v (fun r k => s (inSlot r k)) (fun c => g (ix3 0 0 c)) d (j 0) (j 1) := by
  unfold k0_pay7
  refine (kernelGrad v (k0_pay6 (F := Ideal) s) d _ (k0_pay5 (F := Ideal) v) (pay_inv v) _ _ _ _ _ _ _ j).trans ?_
  exact grad_rows v d v d _ _ _ _ (j 0) (j 0) (fun _ => rfl) (fun _ => rfl) (fun k => pay_slot s (j 0) k) (fun k => asRow g _ k) (j 1)

theorem pay_short (v : FVec Ideal S1024x1024 .f32) (s : FVec Ideal S1x1024x1024 .f32) (g : FVec Ideal S1x1x1024 .f32) (d : FVec Ideal S1024x1024 .f32) (j : S1024x1024.Idx) :
    k0_pay8 (F := Ideal) v s g d j = grad v (fun r k => s (inSlot r k)) (fun c => g (ix3 0 0 c)) d (j 0) (j 1) := by
  unfold k0_pay8
  exact (ValueIdx.truncf_apply (φ := .f32) (ψ := .bf16) _ _ j).trans (pay_grad v s g d j)

theorem pay_part (v : FVec Ideal S1024x1024 .f32) (s : FVec Ideal S1x1024x1024 .f32) (j : S1x1024.Idx) :
    k0_pay9 (F := Ideal) v s j = ∑ r : Fin 1024, part v (fun r k => s (inSlot r k)) r (j 1) := by
  unfold k0_pay9
  refine (kernelPart v (k0_pay6 (F := Ideal) s) (k0_pay5 (F := Ideal) v) (pay_inv v) _ _ _ _ _ _ j).trans ?_
  exact Finset.sum_congr rfl fun r _ => part_rows v v _ _ r r (fun _ => rfl) (fun k => pay_slot s r k) (j 1)

theorem pay_both (a b : FVec Ideal S1x1024 .f32) (j : S1x1024.Idx) : k0_pay4 (F := Ideal) a b j = b j + a j := by
  unfold k0_pay4
  exact congrArg₂ (fun a b : EReal => a + b) (shapeCast_apply b _ j j rfl) rfl

/-! ## Where the blocks of point `t` lie -/

theorem place0 : ∀ t : Fin cfg0.N, win0_0.index t 0 * win0_0.size 0 = t.val % 2 * 1024 ∧ win0_0.index t 1 * win0_0.size 1 = t.val / 2 * 768 :=
  (by decide +kernel : ∀ t : Fin grid0.N, win0_0.index t 0 * win0_0.size 0 = t.val % 2 * 1024 ∧ win0_0.index t 1 * win0_0.size 1 = t.val / 2 * 768)
theorem place1 : ∀ t : Fin cfg0.N, win0_1.index t 0 * win0_1.size 0 = 0 ∧ win0_1.index t 1 * win0_1.size 1 = t.val / 2
    ∧ win0_1.index t 2 * win0_1.size 2 = 0 ∧ win0_1.index t 3 * win0_1.size 3 = 0 :=
  (by decide +kernel : ∀ t : Fin grid0.N, win0_1.index t 0 * win0_1.size 0 = 0 ∧ win0_1.index t 1 * win0_1.size 1 = t.val / 2
    ∧ win0_1.index t 2 * win0_1.size 2 = 0 ∧ win0_1.index t 3 * win0_1.size 3 = 0)
theorem place2 : ∀ t : Fin cfg0.N, win0_2.index t 0 * win0_2.size 0 = (t.val - 6) * 1024 ∧ win0_2.index t 1 * win0_2.size 1 = 0 :=
  (by decide +kernel : ∀ t : Fin grid0.N, win0_2.index t 0 * win0_2.size 0 = (t.val - 6) * 1024 ∧ win0_2.index t 1 * win0_2.size 1 = 0)
theorem place3 : ∀ t : Fin cfg0.N, win0_3.index t 0 * win0_3.size 0 = 0 ∧ win0_3.index t 1 * win0_3.size 1 = 0 ∧ win0_3.index t 2 * win0_3.size 2 = 0 :=
  (by decide +kernel : ∀ t : Fin grid0.N, win0_3.index t 0 * win0_3.size 0 = 0 ∧ win0_3.index t 1 * win0_3.size 1 = 0 ∧ win0_3.index t 2 * win0_3.size 2 = 0)
theorem place4 : ∀ t : Fin cfg0.N, win0_4.index t 0 * win0_4.size 0 = (t.val - 6) * 1024 ∧ win0_4.index t 1 * win0_4.size 1 = 0 :=
  (by decide +kernel : ∀ t : Fin grid0.N, win0_4.index t 0 * win0_4.size 0 = (t.val - 6) * 1024 ∧ win0_4.index t 1 * win0_4.size 1 = 0)
theorem place6 : ∀ t : Fin cfg0.N, win0_6.index t 0 * win0_6.size 0 = (t.val - 6) * 1024 ∧ win0_6.xsize (grid0.coords t) 0 = 1024
    ∧ win0_6.index t 1 * win0_6.size 1 = 0 ∧ win0_6.xsize (grid0.coords t) 1 = 1024 :=
  (by decide +kernel : ∀ t : Fin grid0.N, win0_6.index t 0 * win0_6.size 0 = (t.val - 6) * 1024 ∧ win0_6.xsize (grid0.coords t) 0 = 1024
    ∧ win0_6.index t 1 * win0_6.size 1 = 0 ∧ win0_6.xsize (grid0.coords t) 1 = 1024)
theorem place7 : ∀ t : Fin cfg0.N, win0_7.index t 0 * win0_7.size 0 = (t.val - 6) * 1024 ∧ win0_7.xsize (grid0.coords t) 0 = 1024
    ∧ win0_7.index t 1 * win0_7.size 1 = 0 ∧ win0_7.xsize (grid0.coords t) 1 = 1024 :=
  (by decide +kernel : ∀ t : Fin grid0.N, win0_7.index t 0 * win0_7.size 0 = (t.val - 6) * 1024 ∧ win0_7.xsize (grid0.coords t) 0 = 1024
    ∧ win0_7.index t 1 * win0_7.size 1 = 0 ∧ win0_7.xsize (grid0.coords t) 1 = 1024)
theorem place8 : ∀ t : Fin cfg0.N, win0_8.index t 0 * win0_8.size 0 = 0 ∧ win0_8.xsize (grid0.coords t) 0 = 1
    ∧ win0_8.index t 1 * win0_8.size 1 = 0 ∧ win0_8.xsize (grid0.coords t) 1 = 1024 :=
  (by decide +kernel : ∀ t : Fin grid0.N, win0_8.index t 0 * win0_8.size 0 = 0 ∧ win0_8.xsize (grid0.coords t) 0 = 1
    ∧ win0_8.index t 1 * win0_8.size 1 = 0 ∧ win0_8.xsize (grid0.coords t) 1 = 1024)

/-! ## Every index lies in the block of a point that writes back -/

theorem cover6 (i : S2048x1024.Idx) : ∃ t : Fin cfg0.N, (cfg0.win 6).flush t = true ∧ i ∈ ((cfg0.win 6).blk t).view.set := by
  have h0 : (i 0 : Nat) < 2048 := (i 0).isLt
  have h1 : (i 1 : Nat) < 1024 := (i 1).isLt
  obtain ⟨t, ht⟩ : ∃ t : Fin cfg0.N, t.val = 6 + (i 0 : Nat) / 1024 :=
    ⟨⟨6 + (i 0 : Nat) / 1024, Nat.lt_of_lt_of_eq (by omega : _ < 8) N_0.symm⟩, rfl⟩
  refine ⟨t, (flush6 t).trans (decide_eq_true (by omega)), ?_⟩
  show i ∈ ((View.whole main_v0_0).slice (win0_6.rect t)).set
  rw [View.set_slice_whole, Rect.mem_set_unit]
  obtain ⟨e0, s0, e1, s1⟩ := place6 t
  intro a
  match a with
  | ⟨0, _⟩ => show win0_6.index t 0 * win0_6.size 0 ≤ (i 0 : Nat) ∧ (i 0 : Nat) < win0_6.index t 0 * win0_6.size 0 + win0_6.xsize (grid0.coords t) 0
              rw [e0, s0]; omega
  | ⟨1, _⟩ => show win0_6.index t 1 * win0_6.size 1 ≤ (i 1 : Nat) ∧ (i 1 : Nat) < win0_6.index t 1 * win0_6.size 1 + win0_6.xsize (grid0.coords t) 1
              rw [e1, s1]; omega

theorem cover7 (i : S2048x1024.Idx) : ∃ t : Fin cfg0.N, (cfg0.win 7).flush t = true ∧ i ∈ ((cfg0.win 7).blk t).view.set := by
  have h0 : (i 0 : Nat) < 2048 := (i 0).isLt
  have h1 : (i 1 : Nat) < 1024 := (i 1).isLt
  obtain ⟨t, ht⟩ : ∃ t : Fin cfg0.N, t.val = 6 + (i 0 : Nat) / 1024 :=
    ⟨⟨6 + (i 0 : Nat) / 1024, Nat.lt_of_lt_of_eq (by omega : _ < 8) N_0.symm⟩, rfl⟩
  refine ⟨t, (flush7 t).trans (decide_eq_true (by omega)), ?_⟩
  show i ∈ ((View.whole main_v0_1).slice (win0_7.rect t)).set
  rw [View.set_slice_whole, Rect.mem_set_unit]
  obtain ⟨e0, s0, e1, s1⟩ := place7 t
  intro a
  match a with
  | ⟨0, _⟩ => show win0_7.index t 0 * win0_7.size 0 ≤ (i 0 : Nat) ∧ (i 0 : Nat) < win0_7.index t 0 * win0_7.size 0 + win0_7.xsize (grid0.coords t) 0
              rw [e0, s0]; omega
  | ⟨1, _⟩ => show win0_7.index t 1 * win0_7.size 1 ≤ (i 1 : Nat) ∧ (i 1 : Nat) < win0_7.index t 1 * win0_7.size 1 + win0_7.xsize (grid0.coords t) 1
              rw [e1, s1]; omega

theorem cover8 (i : S1x1024.Idx) : ∃ t : Fin cfg0.N, (cfg0.win 8).flush t = true ∧ i ∈ ((cfg0.win 8).blk t).view.set := by
  have h0 : (i 0 : Nat) < 1 := (i 0).isLt
  have h1 : (i 1 : Nat) < 1024 := (i 1).isLt
  obtain ⟨t, ht⟩ : ∃ t : Fin cfg0.N, t.val = 7 := ⟨⟨7, Nat.lt_of_lt_of_eq (by omega : _ < 8) N_0.symm⟩, rfl⟩
  refine ⟨t, (flush8 t).trans (decide_eq_true (by omega)), ?_⟩
  show i ∈ ((View.whole main_v0_2).slice (win0_8.rect t)).set
  rw [View.set_slice_whole, Rect.mem_set_unit]
  obtain ⟨e0, s0, e1, s1⟩ := place8 t
  intro a
  match a with
  | ⟨0, _⟩ => show win0_8.index t 0 * win0_8.size 0 ≤ (i 0 : Nat) ∧ (i 0 : Nat) < win0_8.index t 0 * win0_8.size 0 + win0_8.xsize (grid0.coords t) 0
              rw [e0, s0]; omega
  | ⟨1, _⟩ => show win0_8.index t 1 * win0_8.size 1 ≤ (i 1 : Nat) ∧ (i 1 : Nat) < win0_8.index t 1 * win0_8.size 1 + win0_8.xsize (grid0.coords t) 1
              rw [e1, s1]; omega

/-! ## The blocks of the arguments -/

theorem rows0 (c : Dev nD) (s : Fin cfg0.N) (R : Fin 2048) (r : Fin 1024) (hR : R.val = s.val % 2 * 1024 + r.val) (L : Fin 3072) (l : Fin 768)
    (hL : L.val = s.val / 2 * 768 + l.val) :
    iblk m c 0 s (at2 r l : S1024x768.Idx) = m ((c : Thread nD τ).loc main_arg0) (at2 R L : S2048x3072.Idx) := by
  show m ((c : Thread nD τ).loc main_arg0) ((win0_0.rect s).emb (at2 r l : S1024x768.Idx)) = _
  obtain ⟨a0, a1⟩ := place0 s
  refine congrArg _ (funext fun a => Fin.ext ?_)
  refine (Pipeline.Window.rect_emb_val win0_0 s _ a rfl).trans ?_
  match a with
  | ⟨0, _⟩ => show win0_0.index s 0 * win0_0.size 0 + r.val = R.val
              rw [a0, hR]
  | ⟨1, _⟩ => show win0_0.index s 1 * win0_0.size 1 + l.val = L.val
              rw [a1, hL]

theorem shard1 (c : Dev nD) (s : Fin cfg0.N) (j : Fin 4) (hj : j.val = s.val / 2) (k : Fin 1024) (l : Fin 768) :
    iblk m c 1 s (atOne k l) = m ((c : Thread nD τ).loc main_arg1) (atShard j k l) := by
  show m ((c : Thread nD τ).loc main_arg1) ((win0_1.rect s).emb (atOne k l)) = _
  obtain ⟨a0, a1, a2, a3⟩ := place1 s
  refine congrArg _ (funext fun a => Fin.ext ?_)
  refine (Pipeline.Window.rect_emb_val win0_1 s _ a rfl).trans ?_
  match a with
  | ⟨0, _⟩ => show win0_1.index s 0 * win0_1.size 0 + 0 = 0
              rw [a0]
  | ⟨1, _⟩ => show win0_1.index s 1 * win0_1.size 1 + 0 = j.val
              rw [a1, hj]; omega
  | ⟨2, _⟩ => show win0_1.index s 2 * win0_1.size 2 + k.val = k.val
              rw [a2]; omega
  | ⟨3, _⟩ => show win0_1.index s 3 * win0_1.size 3 + l.val = l.val
              rw [a3]; omega

theorem rows2 (c : Dev nD) (s : Fin cfg0.N) (R : Fin 2048) (r : Fin 1024) (hR : R.val = (s.val - 6) * 1024 + r.val) (k : Fin 1024) :
    iblk m c 2 s (at2 r k : S1024x1024.Idx) = m ((c : Thread nD τ).loc main_arg2) (at2 R k : S2048x1024.Idx) := by
  show m ((c : Thread nD τ).loc main_arg2) ((win0_2.rect s).emb (at2 r k : S1024x1024.Idx)) = _
  obtain ⟨a0, a1⟩ := place2 s
  refine congrArg _ (funext fun a => Fin.ext ?_)
  refine (Pipeline.Window.rect_emb_val win0_2 s _ a rfl).trans ?_
  match a with
  | ⟨0, _⟩ => show win0_2.index s 0 * win0_2.size 0 + r.val = R.val
              rw [a0, hR]
  | ⟨1, _⟩ => show win0_2.index s 1 * win0_2.size 1 + k.val = k.val
              rw [a1]; omega

theorem weights3 (c : Dev nD) (s : Fin cfg0.N) (k : Fin 1024) :
    iblk m c 3 s (ix3 0 0 k : S1x1x1024.Idx) = scale (m ((c : Thread nD τ).loc main_arg3)) k := by
  show m ((c : Thread nD τ).loc main_arg3) ((win0_3.rect s).emb (ix3 0 0 k : S1x1x1024.Idx)) = _
  obtain ⟨a0, a1, a2⟩ := place3 s
  refine congrArg _ (funext fun a => Fin.ext ?_)
  refine (Pipeline.Window.rect_emb_val win0_3 s _ a rfl).trans ?_
  match a with
  | ⟨0, _⟩ => show win0_3.index s 0 * win0_3.size 0 + 0 = 0
              rw [a0]
  | ⟨1, _⟩ => show win0_3.index s 1 * win0_3.size 1 + 0 = 0
              rw [a1]
  | ⟨2, _⟩ => show win0_3.index s 2 * win0_3.size 2 + k.val = k.val
              rw [a2]; omega

theorem rows4 (c : Dev nD) (s : Fin cfg0.N) (R : Fin 2048) (r : Fin 1024) (hR : R.val = (s.val - 6) * 1024 + r.val) (k : Fin 1024) :
    iblk m c 4 s (at2 r k : S1024x1024.Idx) = m ((c : Thread nD τ).loc main_arg4) (at2 R k : S2048x1024.Idx) := by
  show m ((c : Thread nD τ).loc main_arg4) ((win0_4.rect s).emb (at2 r k : S1024x1024.Idx)) = _
  obtain ⟨a0, a1⟩ := place4 s
  refine congrArg _ (funext fun a => Fin.ext ?_)
  refine (Pipeline.Window.rect_emb_val win0_4 s _ a rfl).trans ?_
  match a with
  | ⟨0, _⟩ => show win0_4.index s 0 * win0_4.size 0 + r.val = R.val
              rw [a0, hR]
  | ⟨1, _⟩ => show win0_4.index s 1 * win0_4.size 1 + k.val = k.val
              rw [a1]; omega

/-! ## The slots after the last shard -/

/-- One shard's part of the product, at row `r` and column `k` of block of rows `i`. -/
def piece (c : Dev nD) (i j : ℕ) (r k : Fin 1024) : EReal :=
  rowProduct (iblk m c 0 (point j i)) (iblk m c 1 (point j i)) r k

theorem acc_first (c : Dev nD) (i : ℕ) (r k : Fin 1024) : acc m c i 0 (inSlot r k) = piece m c i 0 r k :=
  pay_first (iblk m c 0 (point 0 i)) (iblk m c 1 (point 0 i)) r k
theorem acc_next (c : Dev nD) (i j : ℕ) (r k : Fin 1024) : acc m c i (j + 1) (inSlot r k) = (acc m c i j (inSlot r k) : EReal) + piece m c i (j + 1) r k :=
  pay_next (iblk m c 0 (point (j + 1) i)) (iblk m c 1 (point (j + 1) i)) (acc m c i j) r k

theorem piece_eq (c : Dev nD) (i : ℕ) (hi : i < 2) (j : Fin 4) (r k : Fin 1024) (R : Fin 2048) (hR : R.val = i * 1024 + r.val) :
    piece m c i j.val r k = shardPart (m ((c : Thread nD τ).loc main_arg0)) (m ((c : Thread nD τ).loc main_arg1)) R k j := by
  have hj := j.isLt
  have hp : (point j.val i).val = 2 * j.val + i := Nat.mod_eq_of_lt (by omega)
  unfold piece rowProduct shardPart
  refine Finset.sum_congr rfl fun l _ => congrArg₂ (fun a b : EReal => a * b) ?_ ?_
  · exact rows0 m c (point j.val i) R r (by rw [hp, hR]; omega) _ l (by rw [hp]; show j.val * 768 + l.val = _; omega)
  · exact shard1 m c (point j.val i) j (by rw [hp]; omega) k l

theorem slot_last (c : Dev nD) (t : Fin cfg0.N) (ht : 6 ≤ t.val) (r k : Fin 1024) (R : Fin 2048) (hR : R.val = (t.val - 6) * 1024 + r.val) :
    slot m c t (inSlot r k) = back (m ((c : Thread nD τ).loc main_arg0)) (m ((c : Thread nD τ).loc main_arg1)) R k := by
  have h8 : t.val < 8 := Nat.lt_of_lt_of_eq t.isLt N_0
  have h3 : t.val / 2 = 2 + 1 := by omega
  have h2 : t.val % 2 = t.val - 6 := by omega
  unfold slot
  rw [h3, h2, back_shards, Fin.sum_univ_four]
  have e := fun j => piece_eq m c (t.val - 6) (by omega) j r k R hR
  refine (acc_next m c (t.val - 6) 2 r k).trans (congrArg₂ (fun a b : EReal => a + b) ?_ (e 3))
  refine (acc_next m c (t.val - 6) 1 r k).trans (congrArg₂ (fun a b : EReal => a + b) ?_ (e 2))
  refine (acc_next m c (t.val - 6) 0 r k).trans (congrArg₂ (fun a b : EReal => a + b) ?_ (e 1))
  exact (acc_first m c (t.val - 6) r k).trans (e 0)

/-! ## What the points write back -/

theorem grad_block (c : Dev nD) (t : Fin cfg0.N) (ht : 6 ≤ t.val) (R : Fin 2048) (r k : Fin 1024) (hR : R.val = (t.val - 6) * 1024 + r.val) :
    grad (iblk m c 2 t : FVec Ideal S1024x1024 .f32) (fun r k => slot m c t (inSlot r k)) (fun c' => iblk m c 3 t (ix3 0 0 c' : S1x1x1024.Idx)) (iblk m c 4 t : FVec Ideal S1024x1024 .f32) r k
      = grad (m ((c : Thread nD τ).loc main_arg2) : FVec Ideal S2048x1024 .f32) (back (m ((c : Thread nD τ).loc main_arg0)) (m ((c : Thread nD τ).loc main_arg1)))
        (scale (m ((c : Thread nD τ).loc main_arg3))) (m ((c : Thread nD τ).loc main_arg4) : FVec Ideal S2048x1024 .f32) R k :=
  grad_rows _ _ _ _ _ _ _ _ r R (rows2 m c t R r hR) (rows4 m c t R r hR) (fun k => slot_last m c t ht r k R hR) (weights3 m c t) k

theorem written6 (c : Dev nD) (t : Fin cfg0.N) (hf : (cfg0.win 6).flush t = true) :
    (dats m 0 c).flushed 6 t = (win0_6.blk t).view.read (Elt Ideal)
      (inputGrad (m ((c : Thread nD τ).loc main_arg0)) (m ((c : Thread nD τ).loc main_arg1)) (m ((c : Thread nD τ).loc main_arg2)) (m ((c : Thread nD τ).loc main_arg3))
        (m ((c : Thread nD τ).loc main_arg4))) := by
  have ht : 6 ≤ t.val := of_decide_eq_true ((flush6 t).symm.trans hf)
  show (cfg0.win 6).cut (grid0.coords t) ((dats m 0 c).after 6 t) = _
  rw [after6]
  funext j
  refine (pay_grad (iblk m c 2 t) (slot m c t) (iblk m c 3 t) (iblk m c 4 t) j).trans ?_
  show _ = inputGrad (m ((c : Thread nD τ).loc main_arg0)) (m ((c : Thread nD τ).loc main_arg1)) (m ((c : Thread nD τ).loc main_arg2)) (m ((c : Thread nD τ).loc main_arg3))
    (m ((c : Thread nD τ).loc main_arg4)) ((win0_6.rect t).emb j)
  obtain ⟨e0, -, e1, -⟩ := place6 t
  have q0 : (((win0_6.rect t).emb j 0 : _) : ℕ) = (t.val - 6) * 1024 + (j 0 : ℕ) := by rw [Pipeline.Window.rect_emb_val win0_6 t j 0 rfl, e0]
  have q1 : (win0_6.rect t).emb j 1 = j 1 := Fin.ext (by rw [Pipeline.Window.rect_emb_val win0_6 t j 1 rfl, e1]; exact Nat.zero_add _)
  refine (grad_block m c t ht ((win0_6.rect t).emb j 0) (j 0) (j 1) q0).trans ?_
  exact congrArg (grad _ _ _ _ _) q1.symm

theorem written7 (c : Dev nD) (t : Fin cfg0.N) (hf : (cfg0.win 7).flush t = true) :
    (dats m 0 c).flushed 7 t = (win0_7.blk t).view.read (Elt Ideal)
      (inputGradShort (m ((c : Thread nD τ).loc main_arg0)) (m ((c : Thread nD τ).loc main_arg1)) (m ((c : Thread nD τ).loc main_arg2)) (m ((c : Thread nD τ).loc main_arg3))
        (m ((c : Thread nD τ).loc main_arg4))) := by
  have ht : 6 ≤ t.val := of_decide_eq_true ((flush7 t).symm.trans hf)
  show (cfg0.win 7).cut (grid0.coords t) ((dats m 0 c).after 7 t) = _
  rw [after7]
  funext j
  refine (pay_short (iblk m c 2 t) (slot m c t) (iblk m c 3 t) (iblk m c 4 t) j).trans ?_
  show _ = inputGradShort (m ((c : Thread nD τ).loc main_arg0)) (m ((c : Thread nD τ).loc main_arg1)) (m ((c : Thread nD τ).loc main_arg2)) (m ((c : Thread nD τ).loc main_arg3))
    (m ((c : Thread nD τ).loc main_arg4)) ((win0_7.rect t).emb j)
  obtain ⟨e0, -, e1, -⟩ := place7 t
  have q0 : (((win0_7.rect t).emb j 0 : _) : ℕ) = (t.val - 6) * 1024 + (j 0 : ℕ) := by rw [Pipeline.Window.rect_emb_val win0_7 t j 0 rfl, e0]
  have q1 : (win0_7.rect t).emb j 1 = j 1 := Fin.ext (by rw [Pipeline.Window.rect_emb_val win0_7 t j 1 rfl, e1]; exact Nat.zero_add _)
  refine (grad_block m c t ht ((win0_7.rect t).emb j 0) (j 0) (j 1) q0).trans ?_
  exact congrArg (grad _ _ _ _ _) q1.symm

/-- A block of rows' part of the cotangent of the norm's weights. -/
theorem part_block (c : Dev nD) (s : Fin cfg0.N) (hs : 6 ≤ s.val) (j : S1x1024.Idx) (f : Fin 1024 → Fin 2048) (hf : ∀ r, (f r).val = (s.val - 6) * 1024 + r.val) :
    scalePart m c s j = ∑ r : Fin 1024, part (m ((c : Thread nD τ).loc main_arg2) : FVec Ideal S2048x1024 .f32)
      (back (m ((c : Thread nD τ).loc main_arg0)) (m ((c : Thread nD τ).loc main_arg1))) (f r) (j 1) := by
  unfold scalePart
  refine (pay_part (iblk m c 2 s) (slot m c s) j).trans (Finset.sum_congr rfl fun r _ => ?_)
  exact part_rows _ _ _ _ r (f r) (rows2 m c s (f r) r (hf r)) (fun k => slot_last m c s hs r k (f r) (hf r)) (j 1)

theorem written8 (c : Dev nD) (t : Fin cfg0.N) (hf : (cfg0.win 8).flush t = true) :
    (dats m 0 c).flushed 8 t = (win0_8.blk t).view.read (Elt Ideal)
      (scaleGrad (m ((c : Thread nD τ).loc main_arg0)) (m ((c : Thread nD τ).loc main_arg1)) (m ((c : Thread nD τ).loc main_arg2))) := by
  have ht : 7 ≤ t.val := of_decide_eq_true ((flush8 t).symm.trans hf)
  have h8 : t.val < 8 := Nat.lt_of_lt_of_eq t.isLt N_0
  show (cfg0.win 8).cut (grid0.coords t) ((dats m 0 c).after 8 t) = _
  rw [after8, if_neg (by omega)]
  funext j
  refine (pay_both (scalePart m c t) (scalePart m c (point 3 0)) j).trans ?_
  show _ = scaleGrad (m ((c : Thread nD τ).loc main_arg0)) (m ((c : Thread nD τ).loc main_arg1)) (m ((c : Thread nD τ).loc main_arg2)) ((win0_8.rect t).emb j)
  obtain ⟨e0, -, e1, -⟩ := place8 t
  have q1 : (win0_8.rect t).emb j 1 = j 1 := Fin.ext (by rw [Pipeline.Window.rect_emb_val win0_8 t j 1 rfl, e1]; exact Nat.zero_add _)
  have hp : (point 3 0).val = 6 := rfl
  unfold scaleGrad
  rw [q1, Fin.sum_univ_two_halves 1024 1024 (by norm_num)]
  refine congrArg₂ (fun a b : EReal => a + b) (part_block m c (point 3 0) (by omega) j _ fun r => ?_) (part_block m c t (by omega) j _ fun r => ?_)
  · rw [hp]; show r.val = _; omega
  · show 1024 + r.val = _; omega

/-- The arrays after the run. -/
theorem final6 (c : Dev nD) : (dats m 0 c).arrAt 6 cfg0.N = inputGrad (m ((c : Thread nD τ).loc main_arg0)) (m ((c : Thread nD τ).loc main_arg1))
    (m ((c : Thread nD τ).loc main_arg2)) (m ((c : Thread nD τ).loc main_arg3)) (m ((c : Thread nD τ).loc main_arg4)) :=
  (dats m 0 c).arrAt_eq_of_cover 6 _ (fun t h => written6 m c t h) cover6
theorem final7 (c : Dev nD) : (dats m 0 c).arrAt 7 cfg0.N = inputGradShort (m ((c : Thread nD τ).loc main_arg0)) (m ((c : Thread nD τ).loc main_arg1))
    (m ((c : Thread nD τ).loc main_arg2)) (m ((c : Thread nD τ).loc main_arg3)) (m ((c : Thread nD τ).loc main_arg4)) :=
  (dats m 0 c).arrAt_eq_of_cover 7 _ (fun t h => written7 m c t h) cover7
theorem final8 (c : Dev nD) : (dats m 0 c).arrAt 8 cfg0.N = scaleGrad (m ((c : Thread nD τ).loc main_arg0)) (m ((c : Thread nD τ).loc main_arg1))
    (m ((c : Thread nD τ).loc main_arg2)) :=
  (dats m 0 c).arrAt_eq_of_cover 8 _ (fun t h => written8 m c t h) cover8

end

section

open Cert.Reference15Ideal Cert.Reference15Ideal.Gen Cert.Product Cert.Norm Cert.Grad

/-- The reference's weights: the shards side by side. -/
theorem beside (w : FVec Ideal S1x4x1024x768 .bf16) (k : Fin 1024) (l : Fin 3072) :
    (extf .f32 (shapeCast S1024x3072 (transpose S1024x4x768 [1, 0, 2] (shapeCast S4x1024x768 w Facts₀.shapeCasts_S1x4x1024x768_S4x1024x768)
      Facts₀.transposes_S4x1024x768_S1024x4x768_1_0_2) Facts₀.shapeCasts_S1024x4x768_S1024x3072) Facts₀.bitsLt_bf16_f32 : FVec Ideal S1024x3072 .f32) (at2 k l)
      = w (atShard ⟨l.val / 768, by have := l.isLt; omega⟩ k ⟨l.val % 768, Nat.mod_lt _ (by decide)⟩) := by
  have hl : l.val < 3072 := l.isLt
  have hj : l.val / 768 < 4 := by omega
  have hm : l.val % 768 < 768 := Nat.mod_lt _ (by decide)
  refine (ValueIdx.extf_apply (φ := .bf16) (ψ := .f32) _ Facts₀.bitsLt_bf16_f32 _).trans ?_
  refine (shapeCast_apply _ Facts₀.shapeCasts_S1024x4x768_S1024x3072 (at2 k l : S1024x3072.Idx) (ix3 k ⟨l.val / 768, hj⟩ ⟨l.val % 768, hm⟩ : S1024x4x768.Idx) ?_).trans ?_
  · rw [rowMajor_val2 _ 3072 rfl, rowMajor_val3 _ (4 * 768) 768 rfl rfl]
    show k.val * (4 * 768) + l.val / 768 * 768 + l.val % 768 = k.val * 3072 + l.val
    omega
  refine (transpose_apply (s := S4x1024x768) (t := S1024x4x768) [1, 0, 2] _ Facts₀.transposes_S4x1024x768_S1024x4x768_1_0_2 _ (ix3 ⟨l.val / 768, hj⟩ k ⟨l.val % 768, hm⟩ : S4x1024x768.Idx) ?_).trans ?_
  · intro b
    match b with
    | ⟨0, _⟩ => rfl
    | ⟨1, _⟩ => rfl
    | ⟨2, _⟩ => rfl
  refine shapeCast_apply w Facts₀.shapeCasts_S1x4x1024x768_S4x1024x768 _ _ ?_
  rw [rowMajor_val3 _ (1024 * 768) 768 rfl rfl, rowMajor_val4 _ (4 * (1024 * 768)) (1024 * 768) 768 rfl rfl rfl]
  show 0 * (4 * (1024 * 768)) + l.val / 768 * (1024 * 768) + k.val * 768 + l.val % 768 = l.val / 768 * (1024 * 768) + k.val * 768 + l.val % 768
  omega

/-- The reference's cotangent of the normalised array. -/
def spread (dp : FVec Ideal S2048x3072 .bf16) (w : FVec Ideal S1x4x1024x768 .bf16) : FVec Ideal S2048x1024 .f32 :=
  Host.dotGeneral dot_S2048x3072_S1024x3072_S2048x1024_1_1_0_0_n_n none (extf .f32 dp Facts₀.bitsLt_bf16_f32 : FVec Ideal S2048x3072 .f32)
    (extf .f32 (shapeCast S1024x3072 (transpose S1024x4x768 [1, 0, 2] (shapeCast S4x1024x768 w Facts₀.shapeCasts_S1x4x1024x768_S4x1024x768)
      Facts₀.transposes_S4x1024x768_S1024x4x768_1_0_2) Facts₀.shapeCasts_S1024x4x768_S1024x3072) Facts₀.bitsLt_bf16_f32 : FVec Ideal S1024x3072 .f32)

theorem spread_apply (dp : FVec Ideal S2048x3072 .bf16) (w : FVec Ideal S1x4x1024x768 .bf16) (R : Fin 2048) (k : Fin 1024) :
    spread dp w (at2 R k) = back dp w R k := by
  unfold spread
  refine (dot_second (K := 3072) (n := 2048) (m := 1024) none _ _ _ (at2 R k)).trans ?_
  exact Finset.sum_congr rfl fun l _ => congrArg₂ (fun a b : EReal => a * b) (ValueIdx.extf_apply (φ := .bf16) (ψ := .f32) dp Facts₀.bitsLt_bf16_f32 (at2 R l)) (beside w k l)

/-- The reference's mean of the squares plus the small constant. -/
def meanOf (h : FVec Ideal S2048x1024 .f32) : FVec Ideal S2048x1 .f32 :=
  addf (Host.divf (broadcastInDim S2048x1 ![0] Facts₀.bcast_S2048_S2048x1_0 (Host.reduceAdd (mulf h h) (constant S_ .f32 0x00000000#32) Facts₀.reducesTo_S2048x1024_S2048_d1 Facts₀.h_S_))
    (broadcastInDim S2048x1 ![] Facts₀.bcast_S_S2048x1 (constant S_ .f32 0x44800000#32))) (broadcastInDim S2048x1 ![] Facts₀.bcast_S_S2048x1 (constant S_ .f32 0x358637BD#32))

theorem meanOf_apply (h : FVec Ideal S2048x1024 .f32) (r : Fin 2048) : meanOf h (at2 r 0) = mean h r :=
  hostMean h _ _ _ _ r

/-- The reference's weights of the norm, as one row. -/
def gains (g : FVec Ideal S2x1x1024 .f32) : FVec Ideal S1x1024 .f32 :=
  shapeCast S1x1024 (extractStridedSlice S1x1x1024 ![0, 0, 0] g Facts₀.slices_S2x1x1024_S1x1x1024_0_0_0) Facts₀.shapeCasts_S1x1x1024_S1x1024

theorem gains_apply (g : FVec Ideal S2x1x1024 .f32) (k : Fin 1024) : gains g (at2 0 k) = scale g k := by
  refine (asRow _ _ k).trans ?_
  refine extractStridedSlice_apply _ g Facts₀.slices_S2x1x1024_S1x1x1024_0_0_0 _ (ix3 0 0 k) fun a => ?_
  match a with
  | ⟨0, _⟩ => rfl
  | ⟨1, _⟩ => rfl
  | ⟨2, _⟩ => exact (Nat.zero_add _).symm

/-- The cotangent of the normalised input before its scaling by one over the root. -/
def scaled (dp : FVec Ideal S2048x3072 .bf16) (w : FVec Ideal S1x4x1024x768 .bf16) (g : FVec Ideal S2x1x1024 .f32) : FVec Ideal S2048x1024 .f32 :=
  mulf (spread dp w) (broadcastInDim S2048x1024 ![0, 1] Facts₀.bcast_S1x1024_S2048x1024_0_1 (gains g))

/-- The reference's derivative of the mean. -/
def slope (dp : FVec Ideal S2048x3072 .bf16) (w : FVec Ideal S1x4x1024x768 .bf16) (h : FVec Ideal S2048x1024 .f32) (g : FVec Ideal S2x1x1024 .f32) : FVec Ideal S2048 .f32 :=
  Host.reduceAdd (Host.divf (mulf (shapeCast S2048x1 (Host.reduceAdd (mulf h (scaled dp w g)) (constant S_ .f32 0x00000000#32) Facts₀.reducesTo_S2048x1024_S2048_d1 Facts₀.h_S_) Facts₀.shapeCasts_S2048_S2048x1)
    (mulf (broadcastInDim S2048x1 ![] Facts₀.bcast_S_S2048x1 (constant S_ .f32 0xBF000000#32)) (Host.divf (Host.rsqrt (meanOf h)) (meanOf h))))
    (broadcastInDim S2048x1 ![] Facts₀.bcast_S_S2048x1 (constant S_ .f32 0x44800000#32))) (constant S_ .f32 0x00000000#32) Facts₀.reducesTo_S2048x1_S2048_d1 Facts₀.h_S_

/-- The reference's cotangent of the layer's input. -/
def plainGrad (dp : FVec Ideal S2048x3072 .bf16) (w : FVec Ideal S1x4x1024x768 .bf16) (h : FVec Ideal S2048x1024 .f32) (g : FVec Ideal S2x1x1024 .f32)
    (d : FVec Ideal S2048x1024 .f32) : FVec Ideal S2048x1024 .f32 :=
  addf d (addf (addf (mulf (scaled dp w g) (broadcastInDim S2048x1024 ![0, 1] Facts₀.bcast_S2048x1_S2048x1024_0_1 (Host.rsqrt (meanOf h))))
    (mulf h (broadcastInDim S2048x1024 ![0] Facts₀.bcast_S2048_S2048x1024_0 (slope dp w h g)))) (mulf (broadcastInDim S2048x1024 ![0] Facts₀.bcast_S2048_S2048x1024_0 (slope dp w h g)) h))

set_option maxRecDepth 16384 in
theorem plainGrad_apply (dp : FVec Ideal S2048x3072 .bf16) (w : FVec Ideal S1x4x1024x768 .bf16) (h : FVec Ideal S2048x1024 .f32) (g : FVec Ideal S2x1x1024 .f32)
    (d : FVec Ideal S2048x1024 .f32) (i : S2048x1024.Idx) : plainGrad dp w h g d i = grad h (back dp w) (scale g) d (i 0) (i 1) := by
  refine (hostGrad h (spread dp w) d (gains g) (meanOf h) (slope dp w h g) (meanOf_apply h) _ Facts₀.bcast_S1x1024_S2048x1024_0_1 _
    (fun r => hostSlope h (scaled dp w g) (meanOf h) (meanOf_apply h) _ _ _ _ _ r) i).trans ?_
  exact grad_rows h d h d _ _ _ _ (i 0) (i 0) (fun _ => rfl) (fun _ => rfl) (fun k => spread_apply dp w (i 0) k) (fun k => gains_apply g k) (i 1)

/-- The reference's cotangent of the norm's weights. -/
def plainPart (dp : FVec Ideal S2048x3072 .bf16) (w : FVec Ideal S1x4x1024x768 .bf16) (h : FVec Ideal S2048x1024 .f32) : FVec Ideal S1x1024 .f32 :=
  shapeCast S1x1024 (Host.reduceAdd (mulf (mulf h (broadcastInDim S2048x1024 ![0, 1] Facts₀.bcast_S2048x1_S2048x1024_0_1 (Host.rsqrt (meanOf h)))) (spread dp w))
    (constant S_ .f32 0x00000000#32) Facts₀.reducesTo_S2048x1024_S1024_d0 Facts₀.h_S_) Facts₀.shapeCasts_S1024_S1x1024

theorem plain6 (dp : FVec Ideal S2048x3072 .bf16) (w : FVec Ideal S1x4x1024x768 .bf16) (h : FVec Ideal S2048x1024 .f32) (g : FVec Ideal S2x1x1024 .f32)
    (d : FVec Ideal S2048x1024 .f32) : plainGrad dp w h g d = inputGrad dp w h g d :=
  funext fun i => plainGrad_apply dp w h g d i
theorem plain7 (dp : FVec Ideal S2048x3072 .bf16) (w : FVec Ideal S1x4x1024x768 .bf16) (h : FVec Ideal S2048x1024 .f32) (g : FVec Ideal S2x1x1024 .f32)
    (d : FVec Ideal S2048x1024 .f32) : (truncf .bf16 (plainGrad dp w h g d) Facts₀.bitsLt_bf16_f32 : FVec Ideal S2048x1024 .bf16) = inputGradShort dp w h g d :=
  funext fun i => (ValueIdx.truncf_apply (φ := .f32) (ψ := .bf16) _ Facts₀.bitsLt_bf16_f32 i).trans (plainGrad_apply dp w h g d i)
set_option maxRecDepth 16384 in
theorem plain8 (dp : FVec Ideal S2048x3072 .bf16) (w : FVec Ideal S1x4x1024x768 .bf16) (h : FVec Ideal S2048x1024 .f32) : plainPart dp w h = scaleGrad dp w h := by
  funext i
  refine (hostPart h (spread dp w) (meanOf h) (meanOf_apply h) _ _ _ _ i).trans (Finset.sum_congr rfl fun R _ => ?_)
  exact part_rows h h _ _ R R (fun _ => rfl) (fun k => spread_apply dp w R k) (i 1)

open Cert.Reference15Ideal.Value

set_option maxRecDepth 16384 in
theorem text6 (m' : (ℓ : Loc nD τ sig) → Buf (Elt Ideal) ℓ) (c : Dev nD) : res_main_v43 m' c = plainGrad (m' ((c.tc : Thread nD τ).loc main_arg0))
    (m' ((c.tc : Thread nD τ).loc main_arg1)) (m' ((c.tc : Thread nD τ).loc main_arg2)) (m' ((c.tc : Thread nD τ).loc main_arg3)) (m' ((c.tc : Thread nD τ).loc main_arg4)) := by
  unfold res_main_v43 plainGrad slope scaled spread meanOf gains
  rfl
set_option maxRecDepth 16384 in
theorem text7 (m' : (ℓ : Loc nD τ sig) → Buf (Elt Ideal) ℓ) (c : Dev nD) : res_main_v45 m' c = (truncf .bf16 (plainGrad (m' ((c.tc : Thread nD τ).loc main_arg0))
    (m' ((c.tc : Thread nD τ).loc main_arg1)) (m' ((c.tc : Thread nD τ).loc main_arg2)) (m' ((c.tc : Thread nD τ).loc main_arg3)) (m' ((c.tc : Thread nD τ).loc main_arg4))) Facts₀.bitsLt_bf16_f32 : FVec Ideal S2048x1024 .bf16) := by
  unfold res_main_v45 plainGrad slope scaled spread meanOf gains
  rfl

end

/-- The call and the plain derivative end with equal results. -/
theorem algebraic : Cert.algebraic_Kernel15Ideal_Reference15Ideal := by
  intro m ρ m' ρ' _ hagree
  refine ⟨_, _, _, (θ_run Cert.Kernel15Ideal.defs _ _).mono (fun _ h c => ⟨(h c).1.trans (final6 m c), (h c).2.1.trans (final7 m c), (h c).2.2.1.trans (final8 m c), (h c).2.2.2⟩)
    (run_blocks (F := Ideal) m ρ), ?_⟩
  refine (θ_run Cert.Reference15Ideal.defs _ _).mono (fun _ h c => ⟨(h c).1.trans ((text6 m' c).trans ?_), (h c).2.1.trans ((text7 m' c).trans ?_), (h c).2.2.1.trans ?_, (h c).2.2.2⟩)
    (Cert.Reference15Ideal.Value.run (F := Ideal) m' ρ')
  · rw [(hagree c).1, (hagree c).2.1, (hagree c).2.2.1, (hagree c).2.2.2.1, (hagree c).2.2.2.2.1]
    exact plain6 _ _ _ _ _
  · rw [(hagree c).1, (hagree c).2.1, (hagree c).2.2.1, (hagree c).2.2.2.1, (hagree c).2.2.2.2.1]
    exact plain7 _ _ _ _ _
  · rw [(hagree c).1, (hagree c).2.1, (hagree c).2.2.1]
    exact plain8 _ _ _

end Cert.Back15

end
-- ==== Proof.LossRun16.lean ====
/-
What each point of the call that computes the loss and its gradients leaves in the four results' buffers, in terms of the blocks it reads.
-/
module

public import proofs.«01_k».proof.Defs
public import proofs.«01_k».proof.Proof.Gen.Kernel16Ideal.Value

@[expose] public section

noncomputable section

open Idealize.ShloMosaic Idealize.ShloMosaic.TcCoe Idealize.SL.Sem

namespace Cert.LossRun16

open Cert.Kernel16Ideal Cert.Kernel16Ideal.Gen

variable {F : FTy → Type} [FloatOps F]

theorem origin : (![0, 0] : Fin 2 → Nat) = fun _ => 0 := funext fun a => by fin_cases a <;> rfl

/-- The gradient of the norm's input. -/
def inputGrad (x0 : Vec F S256x1024 .f32) (x1 : Vec F S1x1024 .f32) (x2 : Vec F S256x1024 .f32) : FVec F S256x1024 .f32 := k0_pay10 x0 x1 x2
/-- The same, rounded. -/
def inputGradShort (x0 : Vec F S256x1024 .f32) (x1 : Vec F S1x1024 .f32) (x2 : Vec F S256x1024 .f32) : FVec F S256x1024 .bf16 := k0_pay1 (k0_pay10 x0 x1 x2)
/-- One block of rows' part of the gradient of the norm's weights. -/
def scalePart (x0 : Vec F S256x1024 .f32) (x1 : Vec F S1x1024 .f32) (x2 : Vec F S256x1024 .f32) : FVec F S1x1024 .f32 := k0_pay2 (k0_pay6 x0) (k0_pay9 x0 x1 x2)
/-- One block of rows' part of the loss. -/
def lossPart (x0 : Vec F S256x1024 .f32) (x1 : Vec F S1x1024 .f32) (x2 : Vec F S256x1024 .f32) : FVec F S1x1 .f32 := k0_pay8 x0 x1 x2

section

variable (c : Dev nD) (i : grid0.Coords) (a1 : Memref sig .tc .vmem S256x1024 .f32) (h1 : a1.IsWhole) (a2 : Memref sig .tc .vmem S1x1024 .f32) (h2 : a2.IsWhole)
  (a3 : Memref sig .tc .vmem S256x1024 .f32) (h3 : a3.IsWhole) (a4 : Memref sig .tc .vmem S256x1024 .f32) (h4 : a4.IsWhole) (a5 : Memref sig .tc .vmem S256x1024 .bf16) (h5 : a5.IsWhole)
  (a6 : Memref sig .tc .vmem S1x1024 .f32) (h6 : a6.IsWhole) (a7 : Memref sig .tc .vmem S1x1 .f32) (h7 : a7.IsWhole)
  (x0 : Vec F S256x1024 .f32) (x1 : Vec F S1x1024 .f32) (x2 : Vec F S256x1024 .f32)

/-! ## The first point -/

theorem out_A3 (hc0 : cond0_0 i) (hc1 : ¬cond0_1 i) :
    out0_A_3 c i a1 h1 a2 h2 a3 h3 a4 h4 a5 h5 a6 h6 a7 h7 hc0 hc1 x0 x1 x2 = inputGrad x0 x1 x2 := by
  unfold out0_A_3
  rw [View.read_writes_eq_canon _ _ _ (cover0_A_3 c i a1 h1 a2 h2 a3 h3 a4 h4 a5 h5 a6 h6 a7 h7 hc0 hc1 x0 x1 x2)]
  unfold kernelRun0_A
  dsimp only
  sl_unfold_words
  rw [View.canon_unit_zero (S := S256x1024) origin]
  simp only [View.readAt_eq_ld, h1.read_unread, h2.read_unread, h3.read_unread, h6.read_unread, h7.read_unread, View.ld_unit_zero (S := S256x1024) origin,
    View.ld_unit_zero (S := S1x1024) origin, View.ld_unit_zero (S := S1x1) origin]
  rfl
theorem out_A4 (hc0 : cond0_0 i) (hc1 : ¬cond0_1 i) :
    out0_A_4 c i a1 h1 a2 h2 a3 h3 a4 h4 a5 h5 a6 h6 a7 h7 hc0 hc1 x0 x1 x2 = inputGradShort x0 x1 x2 := by
  unfold out0_A_4
  rw [View.read_writes_eq_canon _ _ _ (cover0_A_4 c i a1 h1 a2 h2 a3 h3 a4 h4 a5 h5 a6 h6 a7 h7 hc0 hc1 x0 x1 x2)]
  unfold kernelRun0_A
  dsimp only
  sl_unfold_words
  rw [View.canon_unit_zero (S := S256x1024) origin]
  simp only [View.readAt_eq_ld, h1.read_unread, h2.read_unread, h3.read_unread, h6.read_unread, h7.read_unread, View.ld_unit_zero (S := S256x1024) origin,
    View.ld_unit_zero (S := S1x1024) origin, View.ld_unit_zero (S := S1x1) origin]
  rfl
theorem out_A5 (hc0 : cond0_0 i) (hc1 : ¬cond0_1 i) :
    out0_A_5 c i a1 h1 a2 h2 a3 h3 a4 h4 a5 h5 a6 h6 a7 h7 hc0 hc1 x0 x1 x2 = scalePart x0 x1 x2 := by
  unfold out0_A_5
  rw [View.read_writes_eq_canon _ _ _ (cover0_A_5 c i a1 h1 a2 h2 a3 h3 a4 h4 a5 h5 a6 h6 a7 h7 hc0 hc1 x0 x1 x2)]
  unfold kernelRun0_A
  dsimp only
  sl_unfold_words
  rw [View.canon_unit_zero (S := S1x1024) origin]
  simp only [View.readAt_eq_ld, h1.read_unread, h2.read_unread, h3.read_unread, h6.read_unread, h7.read_unread, View.ld_unit_zero (S := S256x1024) origin,
    View.ld_unit_zero (S := S1x1024) origin, View.ld_unit_zero (S := S1x1) origin]
  rfl
theorem out_A6 (hc0 : cond0_0 i) (hc1 : ¬cond0_1 i) :
    out0_A_6 c i a1 h1 a2 h2 a3 h3 a4 h4 a5 h5 a6 h6 a7 h7 hc0 hc1 x0 x1 x2 = lossPart x0 x1 x2 := by
  unfold out0_A_6
  rw [View.read_writes_eq_canon _ _ _ (cover0_A_6 c i a1 h1 a2 h2 a3 h3 a4 h4 a5 h5 a6 h6 a7 h7 hc0 hc1 x0 x1 x2)]
  unfold kernelRun0_A
  dsimp only
  sl_unfold_words
  rw [View.canon_unit_zero (S := S1x1) origin]
  simp only [View.readAt_eq_ld, h1.read_unread, h2.read_unread, h3.read_unread, h6.read_unread, h7.read_unread, View.ld_unit_zero (S := S256x1024) origin,
    View.ld_unit_zero (S := S1x1024) origin, View.ld_unit_zero (S := S1x1) origin]
  rfl

/-! ## The later points -/

theorem out_B3 (hc0 : ¬cond0_0 i) (hc1 : cond0_1 i) (xo5 : Vec F S1x1024 .f32) (xo6 : Vec F S1x1 .f32) :
    out0_B_3 c i a1 h1 a2 h2 a3 h3 a4 h4 a5 h5 a6 h6 a7 h7 hc0 hc1 x0 x1 x2 xo5 xo6 = inputGrad x0 x1 x2 := by
  unfold out0_B_3
  rw [View.read_writes_eq_canon _ _ _ (cover0_B_3 c i a1 h1 a2 h2 a3 h3 a4 h4 a5 h5 a6 h6 a7 h7 hc0 hc1 x0 x1 x2 xo5 xo6)]
  unfold kernelRun0_B
  dsimp only
  sl_unfold_words
  rw [View.canon_unit_zero (S := S256x1024) origin]
  simp only [View.readAt_eq_ld, h1.read_unread, h2.read_unread, h3.read_unread, h6.read_unread, h7.read_unread, View.ld_unit_zero (S := S256x1024) origin,
    View.ld_unit_zero (S := S1x1024) origin, View.ld_unit_zero (S := S1x1) origin]
  rfl
theorem out_B4 (hc0 : ¬cond0_0 i) (hc1 : cond0_1 i) (xo5 : Vec F S1x1024 .f32) (xo6 : Vec F S1x1 .f32) :
    out0_B_4 c i a1 h1 a2 h2 a3 h3 a4 h4 a5 h5 a6 h6 a7 h7 hc0 hc1 x0 x1 x2 xo5 xo6 = inputGradShort x0 x1 x2 := by
  unfold out0_B_4
  rw [View.read_writes_eq_canon _ _ _ (cover0_B_4 c i a1 h1 a2 h2 a3 h3 a4 h4 a5 h5 a6 h6 a7 h7 hc0 hc1 x0 x1 x2 xo5 xo6)]
  unfold kernelRun0_B
  dsimp only
  sl_unfold_words
  rw [View.canon_unit_zero (S := S256x1024) origin]
  simp only [View.readAt_eq_ld, h1.read_unread, h2.read_unread, h3.read_unread, h6.read_unread, h7.read_unread, View.ld_unit_zero (S := S256x1024) origin,
    View.ld_unit_zero (S := S1x1024) origin, View.ld_unit_zero (S := S1x1) origin]
  rfl
theorem out_B5 (hc0 : ¬cond0_0 i) (hc1 : cond0_1 i) (xo5 : Vec F S1x1024 .f32) (xo6 : Vec F S1x1 .f32) :
    out0_B_5 c i a1 h1 a2 h2 a3 h3 a4 h4 a5 h5 a6 h6 a7 h7 hc0 hc1 x0 x1 x2 xo5 xo6 = k0_pay3 (k0_pay6 x0) (k0_pay9 x0 x1 x2) xo5 := by
  unfold out0_B_5
  rw [View.read_writes_eq_canon _ _ _ (cover0_B_5 c i a1 h1 a2 h2 a3 h3 a4 h4 a5 h5 a6 h6 a7 h7 hc0 hc1 x0 x1 x2 xo5 xo6)]
  unfold kernelRun0_B
  dsimp only
  sl_unfold_words
  rw [View.canon_unit_zero (S := S1x1024) origin]
  simp only [View.readAt_eq_ld, h1.read_unread, h2.read_unread, h3.read_unread, h6.read_unread, h7.read_unread, View.ld_unit_zero (S := S256x1024) origin,
    View.ld_unit_zero (S := S1x1024) origin, View.ld_unit_zero (S := S1x1) origin]
theorem out_B6 (hc0 : ¬cond0_0 i) (hc1 : cond0_1 i) (xo5 : Vec F S1x1024 .f32) (xo6 : Vec F S1x1 .f32) :
    out0_B_6 c i a1 h1 a2 h2 a3 h3 a4 h4 a5 h5 a6 h6 a7 h7 hc0 hc1 x0 x1 x2 xo5 xo6 = k0_pay4 (lossPart x0 x1 x2) xo6 := by
  unfold out0_B_6
  rw [View.read_writes_eq_canon _ _ _ (cover0_B_6 c i a1 h1 a2 h2 a3 h3 a4 h4 a5 h5 a6 h6 a7 h7 hc0 hc1 x0 x1 x2 xo5 xo6)]
  unfold kernelRun0_B
  dsimp only
  sl_unfold_words
  rw [View.canon_unit_zero (S := S1x1) origin]
  simp only [View.readAt_eq_ld, h1.read_unread, h2.read_unread, h3.read_unread, h6.read_unread, h7.read_unread, View.ld_unit_zero (S := S256x1024) origin,
    View.ld_unit_zero (S := S1x1024) origin, View.ld_unit_zero (S := S1x1) origin]
  rfl

end

/-! ## What the buffers hold after each point -/

variable (m : (ℓ : Loc nD τ sig) → Buf (Elt F) ℓ)

theorem after3 (c : Dev nD) (t : Fin cfg0.N) : (dats m 0 c).after 3 t = inputGrad (iblk m c 0 t) (iblk m c 1 t) (iblk m c 2 t) := by
  have h8 : t.val < 8 := Nat.lt_of_lt_of_eq t.isLt N_0
  rw [after0_3]
  by_cases h : t.val = 0
  · rw [outsAt0_A m c t (by omega) (by omega)]
    dsimp only
    rw [out_A3]
  · rw [outsAt0_B m c t (by omega) (by omega)]
    dsimp only
    rw [out_B3]
theorem after4 (c : Dev nD) (t : Fin cfg0.N) : (dats m 0 c).after 4 t = inputGradShort (iblk m c 0 t) (iblk m c 1 t) (iblk m c 2 t) := by
  have h8 : t.val < 8 := Nat.lt_of_lt_of_eq t.isLt N_0
  rw [after0_4]
  by_cases h : t.val = 0
  · rw [outsAt0_A m c t (by omega) (by omega)]
    dsimp only
    rw [out_A4]
  · rw [outsAt0_B m c t (by omega) (by omega)]
    dsimp only
    rw [out_B4]
theorem first5 (c : Dev nD) (h : 0 < cfg0.N) : (outsAt0 m c 0 h).2.2.1 = scalePart (iblk m c 0 ⟨0, h⟩) (iblk m c 1 ⟨0, h⟩) (iblk m c 2 ⟨0, h⟩) := by
  refine (congrArg (fun p => p.2.2.1) (outsAt0_A m c ⟨0, h⟩ rfl (by dsimp only; omega))).trans ?_
  dsimp only
  rw [out_A5]
theorem next5 (c : Dev nD) (n : ℕ) (h : n + 1 < cfg0.N) : (outsAt0 m c (n + 1) h).2.2.1
    = k0_pay3 (k0_pay6 (iblk m c 0 ⟨n + 1, h⟩)) (k0_pay9 (iblk m c 0 ⟨n + 1, h⟩) (iblk m c 1 ⟨n + 1, h⟩) (iblk m c 2 ⟨n + 1, h⟩)) (outsAt0 m c n (Nat.lt_of_succ_lt h)).2.2.1 := by
  have h8 : n + 1 < 8 := Nat.lt_of_lt_of_eq h N_0
  refine (congrArg (fun p => p.2.2.1) (outsAt0_B m c ⟨n + 1, h⟩ (by dsimp only; omega) (by dsimp only; omega))).trans ?_
  dsimp only
  rw [out_B5]
  simp only [Nat.add_sub_cancel]
theorem first6 (c : Dev nD) (h : 0 < cfg0.N) : (outsAt0 m c 0 h).2.2.2 = lossPart (iblk m c 0 ⟨0, h⟩) (iblk m c 1 ⟨0, h⟩) (iblk m c 2 ⟨0, h⟩) := by
  refine (congrArg (fun p => p.2.2.2) (outsAt0_A m c ⟨0, h⟩ rfl (by dsimp only; omega))).trans ?_
  dsimp only
  rw [out_A6]
theorem next6 (c : Dev nD) (n : ℕ) (h : n + 1 < cfg0.N) : (outsAt0 m c (n + 1) h).2.2.2
    = k0_pay4 (lossPart (iblk m c 0 ⟨n + 1, h⟩) (iblk m c 1 ⟨n + 1, h⟩) (iblk m c 2 ⟨n + 1, h⟩)) (outsAt0 m c n (Nat.lt_of_succ_lt h)).2.2.2 := by
  have h8 : n + 1 < 8 := Nat.lt_of_lt_of_eq h N_0
  refine (congrArg (fun p => p.2.2.2) (outsAt0_B m c ⟨n + 1, h⟩ (by dsimp only; omega) (by dsimp only; omega))).trans ?_
  dsimp only
  rw [out_B6]
  simp only [Nat.add_sub_cancel]

end Cert.LossRun16

end
-- ==== Proof.Loss16.lean ====
/-
The call that computes one device's part of the loss and its gradients: its four results are the reference's.
-/
module

public import proofs.«01_k».proof.Defs
public import proofs.«01_k».proof.Proof.Grad
public import proofs.«01_k».proof.Proof.LossRun16
public import proofs.«01_k».proof.Proof.Gen.Reference16Ideal.Run

@[expose] public section

noncomputable section

open Idealize.ShloMosaic Idealize.ShloMosaic.TcCoe Idealize.SL.Sem

namespace Cert.Loss16

section

open Cert.Product Cert.Norm Cert.Grad

variable {n N : ℕ}

/-! ## The loss and its gradients, index by index -/

/-- One half. -/
def half : EReal := FloatOps.ofBits (F := Ideal) .f32 0x3F000000#32
/-- One over the number of columns. -/
def perColumn : EReal := FloatOps.ofBits (F := Ideal) .f32 0x3A800000#32

theorem half_eq : half = ((1 / 2 : ℝ) : EReal) := by
  show Ideal.ofBits .f32 0x3F000000#32 = _
  simp [Ideal.ofBits, Ideal.ieee, -EReal.coe_mul]; norm_num
theorem perColumn_eq : perColumn = ((1 / 1024 : ℝ) : EReal) := by
  show Ideal.ofBits .f32 0x3A800000#32 = _
  simp [Ideal.ofBits, Ideal.ieee, -EReal.coe_mul]; norm_num
theorem one_eq : (FloatOps.ofBits (F := Ideal) .f32 0x3F800000#32 : EReal) = ((1 : ℝ) : EReal) := by
  show Ideal.ofBits .f32 0x3F800000#32 = _
  simp [Ideal.ofBits, Ideal.ieee, -EReal.coe_mul]; norm_num
theorem two_eq : (FloatOps.ofBits (F := Ideal) .f32 0x40000000#32 : EReal) = ((2 : ℝ) : EReal) := by
  show Ideal.ofBits .f32 0x40000000#32 = _
  simp [Ideal.ofBits, Ideal.ieee, -EReal.coe_mul]; norm_num

/-- The derivative of half the mean of a square: half of one over the number of columns, times twice the number. -/
theorem derivative (e : EReal) : Ideal.div (half * FloatOps.ofBits (F := Ideal) .f32 0x3F800000#32) cols * (FloatOps.ofBits (F := Ideal) .f32 0x40000000#32 * e)
    = e * perColumn := by
  rw [div_cols, half_eq, one_eq, two_eq, perColumn_eq, ← mul_assoc, ← EReal.coe_mul, ← EReal.coe_mul, ← EReal.coe_mul, mul_comm]
  exact congrArg (fun r : ℝ => e * (r : EReal)) (by norm_num)

/-- Half of a sum is the sum of the halves. -/
theorem half_sum {ι : Type} (s : Finset ι) (f : ι → EReal) : half * ∑ k ∈ s, f k = ∑ k ∈ s, half * f k := by
  classical
  refine Finset.induction_on s ?_ fun a s ha ih => ?_
  · rw [Finset.sum_empty, Finset.sum_empty, mul_zero]
  · rw [Finset.sum_insert ha, Finset.sum_insert ha, half_eq, EReal.left_distrib_of_nonneg_of_ne_top (EReal.coe_nonneg.mpr (by norm_num)) (EReal.coe_ne_top _), ← half_eq, ih]

/-- The difference of the normalised array and the target. -/
def err (x : FVec Ideal ⟨2, ![n, 1024]⟩ .f32) (g : Fin 1024 → EReal) (t : FVec Ideal ⟨2, ![n, 1024]⟩ .f32) (r : Fin n) (c : Fin 1024) : EReal :=
  norm x g r c - t (at2 r c)
/-- The cotangent of the normalised array. -/
def ct (x : FVec Ideal ⟨2, ![n, 1024]⟩ .f32) (g : Fin 1024 → EReal) (t : FVec Ideal ⟨2, ![n, 1024]⟩ .f32) (r : Fin n) (c : Fin 1024) : EReal :=
  err x g t r c * perColumn
/-- The mean square of one row. -/
def rowLoss (x : FVec Ideal ⟨2, ![n, 1024]⟩ .f32) (g : Fin 1024 → EReal) (t : FVec Ideal ⟨2, ![n, 1024]⟩ .f32) (r : Fin n) : EReal :=
  Ideal.div (∑ c : Fin 1024, err x g t r c * err x g t r c) cols
/-- Nothing reaches the input past the normalisation. -/
def none2 : FVec Ideal ⟨2, ![n, 1024]⟩ .f32 := fun _ => (0 : EReal)

section

variable (x t : FVec Ideal ⟨2, ![n, 1024]⟩ .f32) (x' t' : FVec Ideal ⟨2, ![N, 1024]⟩ .f32) (g g' : Fin 1024 → EReal) (r : Fin n) (R : Fin N)
  (ex : ∀ k, x (at2 r k) = x' (at2 R k)) (et : ∀ k, t (at2 r k) = t' (at2 R k)) (eg : ∀ k, g k = g' k)
include ex et eg

theorem err_rows (c : Fin 1024) : err x g t r c = err x' g' t' R c := by
  unfold err
  rw [norm_rows x x' g g' r R ex eg c, et c]
theorem ct_rows (c : Fin 1024) : ct x g t r c = ct x' g' t' R c := by
  unfold ct
  rw [err_rows x t x' t' g g' r R ex et eg c]
theorem rowLoss_rows : rowLoss x g t r = rowLoss x' g' t' R := by
  unfold rowLoss
  rw [Finset.sum_congr rfl fun c _ => by rw [err_rows x t x' t' g g' r R ex et eg c]]

end

/-- A number read as an array with one row and one column. -/
theorem asOne (v : FVec Ideal ⟨1, ![1]⟩ .f32) (h : (⟨1, ![1]⟩ : Shape).ShapeCasts ⟨2, ![1, 1]⟩) (j : (⟨2, ![1, 1]⟩ : Shape).Idx) :
    shapeCast ⟨2, ![1, 1]⟩ v h j = v (ix1 0) := by
  refine shapeCast_apply v h j (ix1 0) ?_
  rw [rowMajor_val2 _ 1 rfl, Shape.rowMajor_val_one]
  have h0 : (j 0 : ℕ) < 1 := (j 0).isLt
  have h1 : (j 1 : ℕ) < 1 := (j 1).isLt
  show 0 = (j 0 : ℕ) * 1 + (j 1 : ℕ)
  omega

/-- The sum down the one column, as the kernel takes it. -/
theorem oneColumn (v : FVec Ideal ⟨2, ![n, 1]⟩ .f32) (h : (⟨2, ![n, 1]⟩ : Shape).Reduces [0] ⟨1, ![1]⟩) (acc hφ hacc) :
    multiReduction .add [0] ⟨1, ![1]⟩ v acc h hφ hacc (ix1 0) = ∑ r : Fin n, v (at2 r 0) := by
  refine (multiReduction_add_apply v acc h hφ hacc (ix1 0)).trans ?_
  refine (Ideal.reduceAdd_r2_a0 h v (ix1 0)).trans ?_
  refine Finset.sum_congr rfl fun k _ => congrArg v (funext fun a => ?_)
  match a with
  | ⟨0, _⟩ => rfl
  | ⟨1, _⟩ => rfl

end

section

open Cert.Kernel16Ideal Cert.Kernel16Ideal.Gen Cert.Product Cert.Norm Cert.Grad

variable (m : (ℓ : Loc nD τ sig) → Buf (Elt Ideal) ℓ)

/-- The weights of the norm. -/
def scale (g : FVec Ideal S1x1024 .f32) (c : Fin 1024) : EReal := g (at2 0 c)

/-- The gradient of the norm's input. -/
def inputGrad (h : FVec Ideal S2048x1024 .f32) (g : FVec Ideal S1x1024 .f32) (t : FVec Ideal S2048x1024 .f32) : FVec Ideal S2048x1024 .f32 := fun i =>
  grad h (ct h (scale g) t) (scale g) none2 (i 0) (i 1)
/-- The same, rounded. -/
def inputGradShort (h : FVec Ideal S2048x1024 .f32) (g : FVec Ideal S1x1024 .f32) (t : FVec Ideal S2048x1024 .f32) : FVec Ideal S2048x1024 .bf16 := fun i =>
  grad h (ct h (scale g) t) (scale g) none2 (i 0) (i 1)
/-- The gradient of the norm's weights. -/
def scaleGrad (h : FVec Ideal S2048x1024 .f32) (g : FVec Ideal S1x1024 .f32) (t : FVec Ideal S2048x1024 .f32) : FVec Ideal S1x1024 .f32 := fun i =>
  ∑ R : Fin 2048, part h (ct h (scale g) t) R (i 1)
/-- The loss. -/
def loss (h : FVec Ideal S2048x1024 .f32) (g : FVec Ideal S1x1024 .f32) (t : FVec Ideal S2048x1024 .f32) : FVec Ideal S1x1 .f32 := fun _ =>
  half * ∑ R : Fin 2048, rowLoss h (scale g) t R

/-! ## What the points compute -/

theorem pay_inv (x : FVec Ideal S256x1024 .f32) (r : Fin 256) : k0_pay5 (F := Ideal) x (at2 r 0) = Ideal.rsqrt (mean x r) := by
  unfold k0_pay5
  exact kernelInv x _ _ _ _ _ r

theorem pay_err (x : FVec Ideal S256x1024 .f32) (g : FVec Ideal S1x1024 .f32) (t : FVec Ideal S256x1024 .f32) (r : Fin 256) (c : Fin 1024) :
    k0_pay7 (F := Ideal) x g t (at2 r c) = err x (scale g) t r c := by
  unfold k0_pay7 k0_pay6
  refine congrArg₂ (fun a b : EReal => a - b) (congrArg₂ (fun a b : EReal => a * b) (congrArg₂ (fun a b : EReal => a * b) rfl ?_) (row g _ (at2 r c))) rfl
  exact (column _ _ (at2 r c)).trans (pay_inv x r)

theorem pay_ct (x : FVec Ideal S256x1024 .f32) (g : FVec Ideal S1x1024 .f32) (t : FVec Ideal S256x1024 .f32) (r : Fin 256) (c : Fin 1024) :
    k0_pay9 (F := Ideal) x g t (at2 r c) = ct x (scale g) t r c := by
  unfold k0_pay9
  exact congrArg₂ (fun a b : EReal => a * b) (pay_err x g t r c) rfl

theorem pay_grad (x : FVec Ideal S256x1024 .f32) (g : FVec Ideal S1x1024 .f32) (t : FVec Ideal S256x1024 .f32) (j : S256x1024.Idx) :
    LossRun16.inputGrad (F := Ideal) x g t j = grad x (ct x (scale g) t) (scale g) none2 (j 0) (j 1) := by
  unfold LossRun16.inputGrad k0_pay10
  refine (congrArg₂ (fun a b : EReal => a - b) (zero_add _).symm rfl).trans ?_
  refine (kernelGrad x (k0_pay9 (F := Ideal) x g t) none2 g (k0_pay5 (F := Ideal) x) (pay_inv x) _ _ _ _ _ _ _ j).trans ?_
  exact grad_rows x none2 x none2 _ _ _ _ (j 0) (j 0) (fun _ => rfl) (fun _ => rfl) (fun k => pay_ct x g t (j 0) k) (fun _ => rfl) (j 1)

theorem pay_short (x : FVec Ideal S256x1024 .f32) (g : FVec Ideal S1x1024 .f32) (t : FVec Ideal S256x1024 .f32) (j : S256x1024.Idx) :
    LossRun16.inputGradShort (F := Ideal) x g t j = grad x (ct x (scale g) t) (scale g) none2 (j 0) (j 1) := by
  unfold LossRun16.inputGradShort k0_pay1
  exact (ValueIdx.truncf_apply (φ := .f32) (ψ := .bf16) _ _ j).trans (pay_grad x g t j)

theorem pay_part (x : FVec Ideal S256x1024 .f32) (g : FVec Ideal S1x1024 .f32) (t : FVec Ideal S256x1024 .f32) (j : S1x1024.Idx) :
    LossRun16.scalePart (F := Ideal) x g t j = ∑ r : Fin 256, part x (ct x (scale g) t) r (j 1) := by
  unfold LossRun16.scalePart k0_pay2 k0_pay6
  refine (kernelPart x (k0_pay9 (F := Ideal) x g t) (k0_pay5 (F := Ideal) x) (pay_inv x) _ _ _ _ _ _ j).trans ?_
  exact Finset.sum_congr rfl fun r _ => part_rows x x _ _ r r (fun _ => rfl) (fun k => pay_ct x g t r k) (j 1)

theorem pay_loss (x : FVec Ideal S256x1024 .f32) (g : FVec Ideal S1x1024 .f32) (t : FVec Ideal S256x1024 .f32) (j : S1x1.Idx) :
    LossRun16.lossPart (F := Ideal) x g t j = half * ∑ r : Fin 256, rowLoss x (scale g) t r := by
  unfold LossRun16.lossPart k0_pay8
  refine congrArg₂ (fun a b : EReal => a * b) rfl ((asOne _ _ j).trans ((oneColumn _ _ _ _ _).trans (Finset.sum_congr rfl fun r _ => congrArg₂ Ideal.div ?_ rfl)))
  refine (asColumn _ _ r).trans ((rowSum _ _ _ _ _ (ix1 r)).trans (Finset.sum_congr rfl fun k _ => ?_))
  exact congrArg₂ (fun a b : EReal => a * b) (pay_err x g t r k) (pay_err x g t r k)

theorem pay_more (v : FVec Ideal S1x1024 .f32) (x : FVec Ideal S256x1024 .f32) (g : FVec Ideal S1x1024 .f32) (t : FVec Ideal S256x1024 .f32) (j : S1x1024.Idx) :
    k0_pay3 (F := Ideal) (k0_pay6 x) (k0_pay9 x g t) v j = v j + LossRun16.scalePart (F := Ideal) x g t j := by
  unfold k0_pay3
  exact congrArg₂ (fun a b : EReal => a + b) (shapeCast_apply v _ j j rfl) rfl
theorem pay_morel (p v : FVec Ideal S1x1 .f32) (j : S1x1.Idx) : k0_pay4 (F := Ideal) p v j = v j + p j := by
  unfold k0_pay4
  exact congrArg₂ (fun a b : EReal => a + b) (shapeCast_apply v _ j j rfl) rfl

/-! ## Where the blocks of point `t` lie -/

theorem place0 : ∀ t : Fin cfg0.N, win0_0.index t 0 * win0_0.size 0 = t.val * 256 ∧ win0_0.index t 1 * win0_0.size 1 = 0 :=
  (by decide +kernel : ∀ t : Fin grid0.N, win0_0.index t 0 * win0_0.size 0 = t.val * 256 ∧ win0_0.index t 1 * win0_0.size 1 = 0)
theorem place1 : ∀ t : Fin cfg0.N, win0_1.index t 0 * win0_1.size 0 = 0 ∧ win0_1.index t 1 * win0_1.size 1 = 0 :=
  (by decide +kernel : ∀ t : Fin grid0.N, win0_1.index t 0 * win0_1.size 0 = 0 ∧ win0_1.index t 1 * win0_1.size 1 = 0)
theorem place2 : ∀ t : Fin cfg0.N, win0_2.index t 0 * win0_2.size 0 = t.val * 256 ∧ win0_2.index t 1 * win0_2.size 1 = 0 :=
  (by decide +kernel : ∀ t : Fin grid0.N, win0_2.index t 0 * win0_2.size 0 = t.val * 256 ∧ win0_2.index t 1 * win0_2.size 1 = 0)
theorem place3 : ∀ t : Fin cfg0.N, win0_3.index t 0 * win0_3.size 0 = t.val * 256 ∧ win0_3.xsize (grid0.coords t) 0 = 256
    ∧ win0_3.index t 1 * win0_3.size 1 = 0 ∧ win0_3.xsize (grid0.coords t) 1 = 1024 :=
  (by decide +kernel : ∀ t : Fin grid0.N, win0_3.index t 0 * win0_3.size 0 = t.val * 256 ∧ win0_3.xsize (grid0.coords t) 0 = 256
    ∧ win0_3.index t 1 * win0_3.size 1 = 0 ∧ win0_3.xsize (grid0.coords t) 1 = 1024)
theorem place4 : ∀ t : Fin cfg0.N, win0_4.index t 0 * win0_4.size 0 = t.val * 256 ∧ win0_4.xsize (grid0.coords t) 0 = 256
    ∧ win0_4.index t 1 * win0_4.size 1 = 0 ∧ win0_4.xsize (grid0.coords t) 1 = 1024 :=
  (by decide +kernel : ∀ t : Fin grid0.N, win0_4.index t 0 * win0_4.size 0 = t.val * 256 ∧ win0_4.xsize (grid0.coords t) 0 = 256
    ∧ win0_4.index t 1 * win0_4.size 1 = 0 ∧ win0_4.xsize (grid0.coords t) 1 = 1024)
theorem place5 : ∀ t : Fin cfg0.N, win0_5.index t 0 * win0_5.size 0 = 0 ∧ win0_5.xsize (grid0.coords t) 0 = 1
    ∧ win0_5.index t 1 * win0_5.size 1 = 0 ∧ win0_5.xsize (grid0.coords t) 1 = 1024 :=
  (by decide +kernel : ∀ t : Fin grid0.N, win0_5.index t 0 * win0_5.size 0 = 0 ∧ win0_5.xsize (grid0.coords t) 0 = 1
    ∧ win0_5.index t 1 * win0_5.size 1 = 0 ∧ win0_5.xsize (grid0.coords t) 1 = 1024)
theorem place6 : ∀ t : Fin cfg0.N, win0_6.index t 0 * win0_6.size 0 = 0 ∧ win0_6.xsize (grid0.coords t) 0 = 1
    ∧ win0_6.index t 1 * win0_6.size 1 = 0 ∧ win0_6.xsize (grid0.coords t) 1 = 1 :=
  (by decide +kernel : ∀ t : Fin grid0.N, win0_6.index t 0 * win0_6.size 0 = 0 ∧ win0_6.xsize (grid0.coords t) 0 = 1
    ∧ win0_6.index t 1 * win0_6.size 1 = 0 ∧ win0_6.xsize (grid0.coords t) 1 = 1)

/-! ## Every index lies in the block of a point that writes back -/

theorem cover3 (i : S2048x1024.Idx) : ∃ t : Fin cfg0.N, (cfg0.win 3).flush t = true ∧ i ∈ ((cfg0.win 3).blk t).view.set := by
  have h0 : (i 0 : Nat) < 2048 := (i 0).isLt
  have h1 : (i 1 : Nat) < 1024 := (i 1).isLt
  obtain ⟨t, ht⟩ : ∃ t : Fin cfg0.N, t.val = (i 0 : Nat) / 256 := ⟨⟨(i 0 : Nat) / 256, Nat.lt_of_lt_of_eq (by omega : _ < 8) N_0.symm⟩, rfl⟩
  refine ⟨t, flush0_3 t, ?_⟩
  show i ∈ ((View.whole main_v0_0).slice (win0_3.rect t)).set
  rw [View.set_slice_whole, Rect.mem_set_unit]
  obtain ⟨e0, s0, e1, s1⟩ := place3 t
  intro a
  match a with
  | ⟨0, _⟩ => show win0_3.index t 0 * win0_3.size 0 ≤ (i 0 : Nat) ∧ (i 0 : Nat) < win0_3.index t 0 * win0_3.size 0 + win0_3.xsize (grid0.coords t) 0
              rw [e0, s0]; omega
  | ⟨1, _⟩ => show win0_3.index t 1 * win0_3.size 1 ≤ (i 1 : Nat) ∧ (i 1 : Nat) < win0_3.index t 1 * win0_3.size 1 + win0_3.xsize (grid0.coords t) 1
              rw [e1, s1]; omega
theorem cover4 (i : S2048x1024.Idx) : ∃ t : Fin cfg0.N, (cfg0.win 4).flush t = true ∧ i ∈ ((cfg0.win 4).blk t).view.set := by
  have h0 : (i 0 : Nat) < 2048 := (i 0).isLt
  have h1 : (i 1 : Nat) < 1024 := (i 1).isLt
  obtain ⟨t, ht⟩ : ∃ t : Fin cfg0.N, t.val = (i 0 : Nat) / 256 := ⟨⟨(i 0 : Nat) / 256, Nat.lt_of_lt_of_eq (by omega : _ < 8) N_0.symm⟩, rfl⟩
  refine ⟨t, flush0_4 t, ?_⟩
  show i ∈ ((View.whole main_v0_1).slice (win0_4.rect t)).set
  rw [View.set_slice_whole, Rect.mem_set_unit]
  obtain ⟨e0, s0, e1, s1⟩ := place4 t
  intro a
  match a with
  | ⟨0, _⟩ => show win0_4.index t 0 * win0_4.size 0 ≤ (i 0 : Nat) ∧ (i 0 : Nat) < win0_4.index t 0 * win0_4.size 0 + win0_4.xsize (grid0.coords t) 0
              rw [e0, s0]; omega
  | ⟨1, _⟩ => show win0_4.index t 1 * win0_4.size 1 ≤ (i 1 : Nat) ∧ (i 1 : Nat) < win0_4.index t 1 * win0_4.size 1 + win0_4.xsize (grid0.coords t) 1
              rw [e1, s1]; omega
theorem cover5 (i : S1x1024.Idx) : ∃ t : Fin cfg0.N, (cfg0.win 5).flush t = true ∧ i ∈ ((cfg0.win 5).blk t).view.set := by
  have h0 : (i 0 : Nat) < 1 := (i 0).isLt
  have h1 : (i 1 : Nat) < 1024 := (i 1).isLt
  obtain ⟨t, ht⟩ : ∃ t : Fin cfg0.N, t.val = 7 := ⟨⟨7, Nat.lt_of_lt_of_eq (by omega : _ < 8) N_0.symm⟩, rfl⟩
  refine ⟨t, (flush0_5 t).mpr (by omega), ?_⟩
  show i ∈ ((View.whole main_v0_2).slice (win0_5.rect t)).set
  rw [View.set_slice_whole, Rect.mem_set_unit]
  obtain ⟨e0, s0, e1, s1⟩ := place5 t
  intro a
  match a with
  | ⟨0, _⟩ => show win0_5.index t 0 * win0_5.size 0 ≤ (i 0 : Nat) ∧ (i 0 : Nat) < win0_5.index t 0 * win0_5.size 0 + win0_5.xsize (grid0.coords t) 0
              rw [e0, s0]; omega
  | ⟨1, _⟩ => show win0_5.index t 1 * win0_5.size 1 ≤ (i 1 : Nat) ∧ (i 1 : Nat) < win0_5.index t 1 * win0_5.size 1 + win0_5.xsize (grid0.coords t) 1
              rw [e1, s1]; omega
theorem cover6 (i : S1x1.Idx) : ∃ t : Fin cfg0.N, (cfg0.win 6).flush t = true ∧ i ∈ ((cfg0.win 6).blk t).view.set := by
  have h0 : (i 0 : Nat) < 1 := (i 0).isLt
  have h1 : (i 1 : Nat) < 1 := (i 1).isLt
  obtain ⟨t, ht⟩ : ∃ t : Fin cfg0.N, t.val = 7 := ⟨⟨7, Nat.lt_of_lt_of_eq (by omega : _ < 8) N_0.symm⟩, rfl⟩
  refine ⟨t, (flush0_6 t).mpr (by omega), ?_⟩
  show i ∈ ((View.whole main_v0_3).slice (win0_6.rect t)).set
  rw [View.set_slice_whole, Rect.mem_set_unit]
  obtain ⟨e0, s0, e1, s1⟩ := place6 t
  intro a
  match a with
  | ⟨0, _⟩ => show win0_6.index t 0 * win0_6.size 0 ≤ (i 0 : Nat) ∧ (i 0 : Nat) < win0_6.index t 0 * win0_6.size 0 + win0_6.xsize (grid0.coords t) 0
              rw [e0, s0]; omega
  | ⟨1, _⟩ => show win0_6.index t 1 * win0_6.size 1 ≤ (i 1 : Nat) ∧ (i 1 : Nat) < win0_6.index t 1 * win0_6.size 1 + win0_6.xsize (grid0.coords t) 1
              rw [e1, s1]; omega

/-! ## The blocks of the arguments -/

theorem rows0 (c : Dev nD) (s : Fin cfg0.N) (R : Fin 2048) (r : Fin 256) (hR : R.val = s.val * 256 + r.val) (k : Fin 1024) :
    iblk m c 0 s (at2 r k : S256x1024.Idx) = m ((c : Thread nD τ).loc main_arg0) (at2 R k : S2048x1024.Idx) := by
  show m ((c : Thread nD τ).loc main_arg0) ((win0_0.rect s).emb (at2 r k : S256x1024.Idx)) = _
  obtain ⟨a0, a1⟩ := place0 s
  refine congrArg _ (funext fun a => Fin.ext ?_)
  refine (Pipeline.Window.rect_emb_val win0_0 s _ a rfl).trans ?_
  match a with
  | ⟨0, _⟩ => show win0_0.index s 0 * win0_0.size 0 + r.val = R.val
              rw [a0, hR]
  | ⟨1, _⟩ => show win0_0.index s 1 * win0_0.size 1 + k.val = k.val
              rw [a1]; omega
theorem weights1 (c : Dev nD) (s : Fin cfg0.N) (k : Fin 1024) :
    iblk m c 1 s (at2 0 k : S1x1024.Idx) = scale (m ((c : Thread nD τ).loc main_arg1)) k := by
  show m ((c : Thread nD τ).loc main_arg1) ((win0_1.rect s).emb (at2 0 k : S1x1024.Idx)) = _
  obtain ⟨a0, a1⟩ := place1 s
  refine congrArg _ (funext fun a => Fin.ext ?_)
  refine (Pipeline.Window.rect_emb_val win0_1 s _ a rfl).trans ?_
  match a with
  | ⟨0, _⟩ => show win0_1.index s 0 * win0_1.size 0 + 0 = 0
              rw [a0]
  | ⟨1, _⟩ => show win0_1.index s 1 * win0_1.size 1 + k.val = k.val
              rw [a1]; omega
theorem rows2 (c : Dev nD) (s : Fin cfg0.N) (R : Fin 2048) (r : Fin 256) (hR : R.val = s.val * 256 + r.val) (k : Fin 1024) :
    iblk m c 2 s (at2 r k : S256x1024.Idx) = m ((c : Thread nD τ).loc main_arg2) (at2 R k : S2048x1024.Idx) := by
  show m ((c : Thread nD τ).loc main_arg2) ((win0_2.rect s).emb (at2 r k : S256x1024.Idx)) = _
  obtain ⟨a0, a1⟩ := place2 s
  refine congrArg _ (funext fun a => Fin.ext ?_)
  refine (Pipeline.Window.rect_emb_val win0_2 s _ a rfl).trans ?_
  match a with
  | ⟨0, _⟩ => show win0_2.index s 0 * win0_2.size 0 + r.val = R.val
              rw [a0, hR]
  | ⟨1, _⟩ => show win0_2.index s 1 * win0_2.size 1 + k.val = k.val
              rw [a1]; omega

/-! ## The two results summed over the points -/

/-- Point `s`'s part of the gradient of the norm's weights. -/
def scaleAt (c : Dev nD) (s : Fin cfg0.N) (j : S1x1024.Idx) : EReal := LossRun16.scalePart (F := Ideal) (iblk m c 0 s) (iblk m c 1 s) (iblk m c 2 s) j
/-- Point `s`'s part of the loss. -/
def lossAt (c : Dev nD) (s : Fin cfg0.N) (j : S1x1.Idx) : EReal := LossRun16.lossPart (F := Ideal) (iblk m c 0 s) (iblk m c 1 s) (iblk m c 2 s) j

/-- What the buffer of the gradient of the norm's weights holds after point `n`. -/
def scaleAfter (c : Dev nD) (n : ℕ) (h : n < cfg0.N) : FVec Ideal S1x1024 .f32 := (outsAt0 m c n h).2.2.1
/-- What the buffer of the loss holds after point `n`. -/
def lossAfter (c : Dev nD) (n : ℕ) (h : n < cfg0.N) : FVec Ideal S1x1 .f32 := (outsAt0 m c n h).2.2.2

theorem scaleAfter_eq (c : Dev nD) (j : S1x1024.Idx) : ∀ (n : ℕ) (h : n < cfg0.N),
    scaleAfter m c n h j = ∑ s : Fin (n + 1), scaleAt m c ⟨s.val, Nat.lt_of_le_of_lt (Nat.lt_succ_iff.mp s.isLt) h⟩ j
  | 0, h => (congrFun (LossRun16.first5 m c h) j).trans (by rw [Fin.sum_univ_castSucc, Fin.sum_univ_zero, zero_add]; rfl)
  | n + 1, h => by
    rw [Fin.sum_univ_castSucc]
    refine (congrFun (LossRun16.next5 m c n h) j).trans ((pay_more (scaleAfter m c n (Nat.lt_of_succ_lt h)) _ _ _ j).trans ?_)
    exact congrArg₂ (fun a b : EReal => a + b) (scaleAfter_eq c j n (Nat.lt_of_succ_lt h)) rfl
theorem lossAfter_eq (c : Dev nD) (j : S1x1.Idx) : ∀ (n : ℕ) (h : n < cfg0.N),
    lossAfter m c n h j = ∑ s : Fin (n + 1), lossAt m c ⟨s.val, Nat.lt_of_le_of_lt (Nat.lt_succ_iff.mp s.isLt) h⟩ j
  | 0, h => (congrFun (LossRun16.first6 m c h) j).trans (by rw [Fin.sum_univ_castSucc, Fin.sum_univ_zero, zero_add]; rfl)
  | n + 1, h => by
    rw [Fin.sum_univ_castSucc]
    refine (congrFun (LossRun16.next6 m c n h) j).trans ((pay_morel _ (lossAfter m c n (Nat.lt_of_succ_lt h)) j).trans ?_)
    exact congrArg₂ (fun a b : EReal => a + b) (lossAfter_eq c j n (Nat.lt_of_succ_lt h)) rfl

/-! ## What the points write back -/

section

variable (c : Dev nD) (s : Fin cfg0.N) (R : Fin 2048) (r : Fin 256) (hR : R.val = s.val * 256 + r.val)
include hR

theorem ct_block (k : Fin 1024) : ct (iblk m c 0 s : FVec Ideal S256x1024 .f32) (scale (iblk m c 1 s)) (iblk m c 2 s) r k
    = ct (m ((c : Thread nD τ).loc main_arg0) : FVec Ideal S2048x1024 .f32) (scale (m ((c : Thread nD τ).loc main_arg1))) (m ((c : Thread nD τ).loc main_arg2)) R k :=
  ct_rows _ _ _ _ _ _ r R (rows0 m c s R r hR) (rows2 m c s R r hR) (weights1 m c s) k
theorem grad_block (k : Fin 1024) : grad (iblk m c 0 s : FVec Ideal S256x1024 .f32) (ct (iblk m c 0 s : FVec Ideal S256x1024 .f32) (scale (iblk m c 1 s)) (iblk m c 2 s))
      (scale (iblk m c 1 s)) none2 r k
    = grad (m ((c : Thread nD τ).loc main_arg0) : FVec Ideal S2048x1024 .f32)
      (ct (m ((c : Thread nD τ).loc main_arg0) : FVec Ideal S2048x1024 .f32) (scale (m ((c : Thread nD τ).loc main_arg1))) (m ((c : Thread nD τ).loc main_arg2)))
      (scale (m ((c : Thread nD τ).loc main_arg1))) none2 R k :=
  grad_rows _ _ _ _ _ _ _ _ r R (rows0 m c s R r hR) (fun _ => rfl) (ct_block m c s R r hR) (weights1 m c s) k
theorem part_block (k : Fin 1024) : part (iblk m c 0 s : FVec Ideal S256x1024 .f32) (ct (iblk m c 0 s : FVec Ideal S256x1024 .f32) (scale (iblk m c 1 s)) (iblk m c 2 s)) r k
    = part (m ((c : Thread nD τ).loc main_arg0) : FVec Ideal S2048x1024 .f32)
      (ct (m ((c : Thread nD τ).loc main_arg0) : FVec Ideal S2048x1024 .f32) (scale (m ((c : Thread nD τ).loc main_arg1))) (m ((c : Thread nD τ).loc main_arg2))) R k :=
  part_rows _ _ _ _ r R (rows0 m c s R r hR) (ct_block m c s R r hR) k
theorem loss_block : rowLoss (iblk m c 0 s : FVec Ideal S256x1024 .f32) (scale (iblk m c 1 s)) (iblk m c 2 s) r
    = rowLoss (m ((c : Thread nD τ).loc main_arg0) : FVec Ideal S2048x1024 .f32) (scale (m ((c : Thread nD τ).loc main_arg1))) (m ((c : Thread nD τ).loc main_arg2)) R :=
  rowLoss_rows _ _ _ _ _ _ r R (rows0 m c s R r hR) (rows2 m c s R r hR) (weights1 m c s)

end

theorem written3 (c : Dev nD) (t : Fin cfg0.N) : (dats m 0 c).flushed 3 t = (win0_3.blk t).view.read (Elt Ideal)
    (inputGrad (m ((c : Thread nD τ).loc main_arg0)) (m ((c : Thread nD τ).loc main_arg1)) (m ((c : Thread nD τ).loc main_arg2))) := by
  show (cfg0.win 3).cut (grid0.coords t) ((dats m 0 c).after 3 t) = _
  rw [LossRun16.after3]
  funext j
  refine (pay_grad (iblk m c 0 t) (iblk m c 1 t) (iblk m c 2 t) j).trans ?_
  show _ = inputGrad (m ((c : Thread nD τ).loc main_arg0)) (m ((c : Thread nD τ).loc main_arg1)) (m ((c : Thread nD τ).loc main_arg2)) ((win0_3.rect t).emb j)
  obtain ⟨e0, -, e1, -⟩ := place3 t
  have q0 : (((win0_3.rect t).emb j 0 : _) : ℕ) = t.val * 256 + (j 0 : ℕ) := by rw [Pipeline.Window.rect_emb_val win0_3 t j 0 rfl, e0]
  have q1 : (win0_3.rect t).emb j 1 = j 1 := Fin.ext (by rw [Pipeline.Window.rect_emb_val win0_3 t j 1 rfl, e1]; exact Nat.zero_add _)
  refine (grad_block m c t ((win0_3.rect t).emb j 0) (j 0) q0 (j 1)).trans ?_
  exact congrArg (grad _ _ _ _ _) q1.symm

theorem written4 (c : Dev nD) (t : Fin cfg0.N) : (dats m 0 c).flushed 4 t = (win0_4.blk t).view.read (Elt Ideal)
    (inputGradShort (m ((c : Thread nD τ).loc main_arg0)) (m ((c : Thread nD τ).loc main_arg1)) (m ((c : Thread nD τ).loc main_arg2))) := by
  show (cfg0.win 4).cut (grid0.coords t) ((dats m 0 c).after 4 t) = _
  rw [LossRun16.after4]
  funext j
  refine (pay_short (iblk m c 0 t) (iblk m c 1 t) (iblk m c 2 t) j).trans ?_
  show _ = inputGradShort (m ((c : Thread nD τ).loc main_arg0)) (m ((c : Thread nD τ).loc main_arg1)) (m ((c : Thread nD τ).loc main_arg2)) ((win0_4.rect t).emb j)
  obtain ⟨e0, -, e1, -⟩ := place4 t
  have q0 : (((win0_4.rect t).emb j 0 : _) : ℕ) = t.val * 256 + (j 0 : ℕ) := by rw [Pipeline.Window.rect_emb_val win0_4 t j 0 rfl, e0]
  have q1 : (win0_4.rect t).emb j 1 = j 1 := Fin.ext (by rw [Pipeline.Window.rect_emb_val win0_4 t j 1 rfl, e1]; exact Nat.zero_add _)
  refine (grad_block m c t ((win0_4.rect t).emb j 0) (j 0) q0 (j 1)).trans ?_
  exact congrArg (grad _ _ _ _ _) q1.symm

theorem scaleAfter_last (c : Dev nD) (h : 7 < cfg0.N) (j : S1x1024.Idx) : scaleAfter m c 7 h j
    = scaleGrad (m ((c : Thread nD τ).loc main_arg0)) (m ((c : Thread nD τ).loc main_arg1)) (m ((c : Thread nD τ).loc main_arg2)) j := by
  refine (scaleAfter_eq m c j 7 h).trans ?_
  unfold scaleGrad
  refine Eq.trans (Finset.sum_congr rfl fun s _ => ?_) (Fin.sum_univ_tiles 8 256 (by norm_num) _).symm
  refine (pay_part _ _ _ j).trans (Finset.sum_congr rfl fun r _ => ?_)
  exact part_block m c _ _ r rfl (j 1)

theorem lossAfter_last (c : Dev nD) (h : 7 < cfg0.N) (j : S1x1.Idx) : lossAfter m c 7 h j
    = loss (m ((c : Thread nD τ).loc main_arg0)) (m ((c : Thread nD τ).loc main_arg1)) (m ((c : Thread nD τ).loc main_arg2)) j := by
  refine (lossAfter_eq m c j 7 h).trans ?_
  unfold loss
  refine Eq.trans ?_ (congrArg (fun a : EReal => half * a) (Fin.sum_univ_tiles 8 256 (by norm_num) _).symm)
  rw [half_sum]
  refine Finset.sum_congr rfl fun s _ => ?_
  refine (pay_loss _ _ _ j).trans (congrArg (fun a : EReal => half * a) (Finset.sum_congr rfl fun r _ => ?_))
  exact loss_block m c _ _ r rfl

theorem written5 (c : Dev nD) (t : Fin cfg0.N) (hf : (cfg0.win 5).flush t = true) : (dats m 0 c).flushed 5 t = (win0_5.blk t).view.read (Elt Ideal)
    (scaleGrad (m ((c : Thread nD τ).loc main_arg0)) (m ((c : Thread nD τ).loc main_arg1)) (m ((c : Thread nD τ).loc main_arg2))) := by
  have h8 : t.val < 8 := Nat.lt_of_lt_of_eq t.isLt N_0
  have h7 : t.val % 8 = 7 := (flush0_5 t).mp hf
  obtain ⟨n, hn⟩ := t
  obtain rfl : n = 7 := by dsimp only at h8 h7; omega
  show (cfg0.win 5).cut (grid0.coords _) ((dats m 0 c).after 5 _) = _
  rw [after0_5]
  funext j
  refine (scaleAfter_last m c hn j).trans ?_
  show _ = scaleGrad (m ((c : Thread nD τ).loc main_arg0)) (m ((c : Thread nD τ).loc main_arg1)) (m ((c : Thread nD τ).loc main_arg2)) ((win0_5.rect ⟨7, hn⟩).emb j)
  obtain ⟨e0, -, e1, -⟩ := place5 ⟨7, hn⟩
  have q1 : (win0_5.rect ⟨7, hn⟩).emb j 1 = j 1 := Fin.ext (by rw [Pipeline.Window.rect_emb_val win0_5 ⟨7, hn⟩ j 1 rfl, e1]; exact Nat.zero_add _)
  unfold scaleGrad
  rw [q1]

theorem written6 (c : Dev nD) (t : Fin cfg0.N) (hf : (cfg0.win 6).flush t = true) : (dats m 0 c).flushed 6 t = (win0_6.blk t).view.read (Elt Ideal)
    (loss (m ((c : Thread nD τ).loc main_arg0)) (m ((c : Thread nD τ).loc main_arg1)) (m ((c : Thread nD τ).loc main_arg2))) := by
  have h8 : t.val < 8 := Nat.lt_of_lt_of_eq t.isLt N_0
  have h7 : t.val % 8 = 7 := (flush0_6 t).mp hf
  obtain ⟨n, hn⟩ := t
  obtain rfl : n = 7 := by dsimp only at h8 h7; omega
  show (cfg0.win 6).cut (grid0.coords _) ((dats m 0 c).after 6 _) = _
  rw [after0_6]
  funext j
  exact lossAfter_last m c hn j

/-- The arrays after the run. -/
theorem final3 (c : Dev nD) : (dats m 0 c).arrAt 3 cfg0.N
    = inputGrad (m ((c : Thread nD τ).loc main_arg0)) (m ((c : Thread nD τ).loc main_arg1)) (m ((c : Thread nD τ).loc main_arg2)) :=
  (dats m 0 c).arrAt_eq_of_cover 3 _ (fun t _ => written3 m c t) cover3
theorem final4 (c : Dev nD) : (dats m 0 c).arrAt 4 cfg0.N
    = inputGradShort (m ((c : Thread nD τ).loc main_arg0)) (m ((c : Thread nD τ).loc main_arg1)) (m ((c : Thread nD τ).loc main_arg2)) :=
  (dats m 0 c).arrAt_eq_of_cover 4 _ (fun t _ => written4 m c t) cover4
theorem final5 (c : Dev nD) : (dats m 0 c).arrAt 5 cfg0.N
    = scaleGrad (m ((c : Thread nD τ).loc main_arg0)) (m ((c : Thread nD τ).loc main_arg1)) (m ((c : Thread nD τ).loc main_arg2)) :=
  (dats m 0 c).arrAt_eq_of_cover 5 _ (fun t h => written5 m c t h) cover5
theorem final6 (c : Dev nD) : (dats m 0 c).arrAt 6 cfg0.N
    = loss (m ((c : Thread nD τ).loc main_arg0)) (m ((c : Thread nD τ).loc main_arg1)) (m ((c : Thread nD τ).loc main_arg2)) :=
  (dats m 0 c).arrAt_eq_of_cover 6 _ (fun t h => written6 m c t h) cover6

end

section

open Cert.Reference16Ideal Cert.Reference16Ideal.Gen Cert.Product Cert.Norm Cert.Grad

variable (h : FVec Ideal S2048x1024 .f32) (g : FVec Ideal S1x1024 .f32) (t : FVec Ideal S2048x1024 .f32)

/-- The reference's mean of the squares plus the small constant. -/
def meanOf (h : FVec Ideal S2048x1024 .f32) : FVec Ideal S2048x1 .f32 :=
  addf (Host.divf (broadcastInDim S2048x1 ![0] Facts₀.bcast_S2048_S2048x1_0 (Host.reduceAdd (mulf h h) (constant S_ .f32 0x00000000#32) Facts₀.reducesTo_S2048x1024_S2048_d1 Facts₀.h_S_))
    (broadcastInDim S2048x1 ![] Facts₀.bcast_S_S2048x1 (constant S_ .f32 0x44800000#32))) (broadcastInDim S2048x1 ![] Facts₀.bcast_S_S2048x1 (constant S_ .f32 0x358637BD#32))

theorem meanOf_apply (r : Fin 2048) : meanOf h (at2 r 0) = mean h r := hostMean h _ _ _ _ r

/-- The reference's difference of the normalised array and the target. -/
def errOf : FVec Ideal S2048x1024 .f32 :=
  subf (mulf (mulf h (broadcastInDim S2048x1024 ![0, 1] Facts₀.bcast_S2048x1_S2048x1024_0_1 (Host.rsqrt (meanOf h))))
    (broadcastInDim S2048x1024 ![0, 1] Facts₀.bcast_S1x1024_S2048x1024_0_1 g)) t

theorem errOf_apply (r : Fin 2048) (k : Fin 1024) : errOf h g t (at2 r k) = err h (scale g) t r k := by
  unfold errOf
  refine congrArg₂ (fun a b : EReal => a - b) (congrArg₂ (fun a b : EReal => a * b) (congrArg₂ (fun a b : EReal => a * b) rfl ?_) (rowDim g _ (at2 r k))) rfl
  exact (columnDim _ _ (at2 r k)).trans (congrArg Ideal.rsqrt (meanOf_apply h r))

/-- The reference's cotangent of the normalised array. -/
def spread : FVec Ideal S2048x1024 .f32 :=
  mulf (broadcastInDim S2048x1024 ![0] Facts₀.bcast_S2048_S2048x1024_0
      (Host.divf (broadcastInDim S2048 ![] Facts₀.bcast_S_S2048 (mulf (constant S_ .f32 0x3F000000#32) (constant S_ .f32 0x3F800000#32)))
        (broadcastInDim S2048 ![] Facts₀.bcast_S_S2048 (constant S_ .f32 0x44800000#32))))
    (mulf (broadcastInDim S2048x1024 ![] Facts₀.bcast_S_S2048x1024 (constant S_ .f32 0x40000000#32)) (errOf h g t))

theorem spread_apply (r : Fin 2048) (k : Fin 1024) : spread h g t (at2 r k) = ct h (scale g) t r k := by
  unfold spread
  refine (congrArg₂ (fun a b : EReal => a * b) ((columnOf _ _ (at2 r k)).trans rfl) (congrArg₂ (fun a b : EReal => a * b) rfl (errOf_apply h g t r k))).trans ?_
  exact derivative (err h (scale g) t r k)

/-- The cotangent of the normalised input before its scaling by one over the root. -/
def scaled : FVec Ideal S2048x1024 .f32 := mulf (spread h g t) (broadcastInDim S2048x1024 ![0, 1] Facts₀.bcast_S1x1024_S2048x1024_0_1 g)

/-- The reference's derivative of the mean. -/
def slope : FVec Ideal S2048 .f32 :=
  Host.reduceAdd (Host.divf (mulf (shapeCast S2048x1 (Host.reduceAdd (mulf h (scaled h g t)) (constant S_ .f32 0x00000000#32) Facts₀.reducesTo_S2048x1024_S2048_d1 Facts₀.h_S_) Facts₀.shapeCasts_S2048_S2048x1)
    (mulf (broadcastInDim S2048x1 ![] Facts₀.bcast_S_S2048x1 (constant S_ .f32 0xBF000000#32)) (Host.divf (Host.rsqrt (meanOf h)) (meanOf h))))
    (broadcastInDim S2048x1 ![] Facts₀.bcast_S_S2048x1 (constant S_ .f32 0x44800000#32))) (constant S_ .f32 0x00000000#32) Facts₀.reducesTo_S2048x1_S2048_d1 Facts₀.h_S_

/-- The reference's gradient of the norm's input. -/
def plainGrad : FVec Ideal S2048x1024 .f32 :=
  addf (addf (mulf (scaled h g t) (broadcastInDim S2048x1024 ![0, 1] Facts₀.bcast_S2048x1_S2048x1024_0_1 (Host.rsqrt (meanOf h))))
    (mulf h (broadcastInDim S2048x1024 ![0] Facts₀.bcast_S2048_S2048x1024_0 (slope h g t)))) (mulf (broadcastInDim S2048x1024 ![0] Facts₀.bcast_S2048_S2048x1024_0 (slope h g t)) h)

set_option maxRecDepth 16384 in
theorem plainGrad_apply (i : S2048x1024.Idx) : plainGrad h g t i = grad h (ct h (scale g) t) (scale g) none2 (i 0) (i 1) := by
  refine (zero_add (plainGrad h g t i : EReal)).symm.trans ?_
  refine (hostGrad h (spread h g t) none2 g (meanOf h) (slope h g t) (meanOf_apply h) _ Facts₀.bcast_S1x1024_S2048x1024_0_1 _
    (fun r => hostSlope h (scaled h g t) (meanOf h) (meanOf_apply h) _ _ _ _ _ r) i).trans ?_
  exact grad_rows h none2 h none2 _ _ _ _ (i 0) (i 0) (fun _ => rfl) (fun _ => rfl) (fun k => spread_apply h g t (i 0) k) (fun _ => rfl) (i 1)

/-- The reference's gradient of the norm's weights. -/
def plainPart : FVec Ideal S1x1024 .f32 :=
  shapeCast S1x1024 (Host.reduceAdd (mulf (mulf h (broadcastInDim S2048x1024 ![0, 1] Facts₀.bcast_S2048x1_S2048x1024_0_1 (Host.rsqrt (meanOf h)))) (spread h g t))
    (constant S_ .f32 0x00000000#32) Facts₀.reducesTo_S2048x1024_S1024_d0 Facts₀.h_S_) Facts₀.shapeCasts_S1024_S1x1024

/-- The reference's loss. -/
def plainLoss : FVec Ideal S1x1 .f32 :=
  shapeCast S1x1 (mulf (constant S_ .f32 0x3F000000#32) (Host.reduceAdd (Host.divf (Host.reduceAdd (mulf (errOf h g t) (errOf h g t)) (constant S_ .f32 0x00000000#32)
      Facts₀.reducesTo_S2048x1024_S2048_d1 Facts₀.h_S_) (broadcastInDim S2048 ![] Facts₀.bcast_S_S2048 (constant S_ .f32 0x44800000#32)))
    (constant S_ .f32 0x00000000#32) Facts₀.reducesTo_S2048_S_d0 Facts₀.h_S_)) Facts₀.shapeCasts_S_S1x1

/-- The sum of a vector, as the reference takes it. -/
theorem vectorSum (v : FVec Ideal S2048 .f32) (q : S_.Idx) :
    Host.reduceAdd v (constant S_ .f32 0x00000000#32) Facts₀.reducesTo_S2048_S_d0 Facts₀.h_S_ q = ∑ R : Fin 2048, v (ix1 R) := by
  refine (Host.reduceAdd_apply v _ _ _ q).trans ?_
  refine (Ideal.hostReduceAdd_r1_a0 _ v _ q).trans ?_
  exact (congrArg (fun z : EReal => z + _) (show (constant ⟨0, ![]⟩ .f32 0x00000000#32 : FVec Ideal ⟨0, ![]⟩ .f32) (Shape.Idx.first Facts₀.h_S_) = (0 : EReal) from Ideal.ofBits_zero_f32)).trans (zero_add _)

theorem plain3 : plainGrad h g t = inputGrad h g t := funext fun i => plainGrad_apply h g t i
theorem plain4 : (truncf .bf16 (plainGrad h g t) Facts₀.bitsLt_bf16_f32 : FVec Ideal S2048x1024 .bf16) = inputGradShort h g t :=
  funext fun i => (ValueIdx.truncf_apply (φ := .f32) (ψ := .bf16) _ Facts₀.bitsLt_bf16_f32 i).trans (plainGrad_apply h g t i)
set_option maxRecDepth 16384 in
theorem plain5 : plainPart h g t = scaleGrad h g t := by
  funext i
  refine (hostPart h (spread h g t) (meanOf h) (meanOf_apply h) _ _ _ _ i).trans (Finset.sum_congr rfl fun R _ => ?_)
  exact part_rows h h _ _ R R (fun _ => rfl) (fun k => spread_apply h g t R k) (i 1)
theorem plain6 : plainLoss h g t = loss h g t := by
  funext i
  unfold plainLoss loss
  refine (shapeCast_apply _ _ i (Shape.Idx.first Facts₀.h_S_) ?_).trans ?_
  · have h0 : (i 0 : ℕ) < 1 := (i 0).isLt
    have h1 : (i 1 : ℕ) < 1 := (i 1).isLt
    have h2 : (S_.rowMajor (Shape.Idx.first Facts₀.h_S_)).val < 1 := (S_.rowMajor (Shape.Idx.first Facts₀.h_S_)).isLt
    rw [rowMajor_val2 _ 1 rfl]
    omega
  refine congrArg₂ (fun a b : EReal => a * b) rfl ((vectorSum _ _).trans (Finset.sum_congr rfl fun R _ => congrArg₂ Ideal.div ?_ rfl))
  refine (rowSumHost _ _ _ (ix1 R)).trans (Finset.sum_congr rfl fun k _ => ?_)
  exact congrArg₂ (fun a b : EReal => a * b) (errOf_apply h g t R k) (errOf_apply h g t R k)

open Cert.Reference16Ideal.Value

set_option maxRecDepth 16384 in
theorem text3 (m' : (ℓ : Loc nD τ sig) → Buf (Elt Ideal) ℓ) (c : Dev nD) : res_main_v48 m' c
    = plainGrad (m' ((c.tc : Thread nD τ).loc main_arg0)) (m' ((c.tc : Thread nD τ).loc main_arg1)) (m' ((c.tc : Thread nD τ).loc main_arg2)) := by
  unfold res_main_v48 plainGrad slope scaled spread errOf meanOf
  rfl
set_option maxRecDepth 16384 in
theorem text4 (m' : (ℓ : Loc nD τ sig) → Buf (Elt Ideal) ℓ) (c : Dev nD) : res_main_v49 m' c
    = (truncf .bf16 (plainGrad (m' ((c.tc : Thread nD τ).loc main_arg0)) (m' ((c.tc : Thread nD τ).loc main_arg1)) (m' ((c.tc : Thread nD τ).loc main_arg2))) Facts₀.bitsLt_bf16_f32 : FVec Ideal S2048x1024 .bf16) := by
  unfold res_main_v49 plainGrad slope scaled spread errOf meanOf
  rfl

end

/-- The call and the plain derivative end with equal results. -/
theorem algebraic : Cert.algebraic_Kernel16Ideal_Reference16Ideal := by
  intro m ρ m' ρ' _ hagree
  refine ⟨_, _, _, _, (θ_run Cert.Kernel16Ideal.defs _ _).mono (fun _ h c => ⟨(h c).1.trans (final3 m c), (h c).2.1.trans (final4 m c), (h c).2.2.1.trans (final5 m c),
    (h c).2.2.2.1.trans (final6 m c), (h c).2.2.2.2⟩) (Cert.Kernel16Ideal.Value.run_blocks (F := Ideal) m ρ), ?_⟩
  refine (θ_run Cert.Reference16Ideal.defs _ _).mono (fun _ h c => ⟨(h c).1.trans ((text3 m' c).trans ?_), (h c).2.1.trans ((text4 m' c).trans ?_), (h c).2.2.1.trans ?_,
    (h c).2.2.2.1.trans ?_, (h c).2.2.2.2⟩) (Cert.Reference16Ideal.Value.run (F := Ideal) m' ρ')
  · rw [(hagree c).1, (hagree c).2.1, (hagree c).2.2]
    exact plain3 _ _ _
  · rw [(hagree c).1, (hagree c).2.1, (hagree c).2.2]
    exact plain4 _ _ _
  · rw [(hagree c).1, (hagree c).2.1, (hagree c).2.2]
    exact plain5 _ _ _
  · rw [(hagree c).1, (hagree c).2.1, (hagree c).2.2]
    exact plain6 _ _ _

end Cert.Loss16

end
-- ==== Proof.Sum17.lean ====
module

public import proofs.«01_k».proof.Defs
public import proofs.«01_k».proof.Proof.Norm
public import proofs.«01_k».proof.Proof.Gen.Kernel17Ideal.Value
public import proofs.«01_k».proof.Proof.Gen.Reference17Ideal.Run
public import Idealize.ShloMosaic.Lib.Pointwise.Sums

/-!
The call that adds up the devices' parts: it adds them one after the other, and its result is their sum.
-/

@[expose] public section

noncomputable section

open Idealize.ShloMosaic Idealize.ShloMosaic.TcCoe Idealize.SL.Sem

namespace Cert.Sum17

section

open Cert.Kernel17Ideal Cert.Kernel17Ideal.Gen Cert.Product

variable (m : (ℓ : Loc nD τ sig) → Buf (Elt Ideal) ℓ)

/-- Device `d`'s part at row `r` and column `k`. -/
def atPart (d : Fin 8) (r : Fin 832) (k : Fin 128) : S8x832x128.Idx := ix3 d r k

/-- The sum of the parts. -/
def total (x : FVec Ideal S8x832x128 .f32) : FVec Ideal S832x128 .f32 := fun i => ∑ d : Fin 8, x (atPart d (i 0) (i 1))

theorem origin : (![0, 0] : Fin 2 → Nat) = fun _ => 0 := funext fun a => by fin_cases a <;> rfl

/-- A part without its leading axis. -/
theorem slab (v : FVec Ideal S1x832x128 .f32) (h : S1x832x128.ShapeCasts S832x128) (j : S832x128.Idx) :
    shapeCast S832x128 v h j = v (ix3 (0 : Fin 1) (j 0) (j 1)) := by
  refine shapeCast_apply v h j (ix3 (0 : Fin 1) (j 0) (j 1) : S1x832x128.Idx) ?_
  rw [rowMajor_val2 _ 128 rfl, rowMajor_val3 _ (832 * 128) 128 rfl rfl]
  show 0 * (832 * 128) + (j 0 : ℕ) * 128 + (j 1 : ℕ) = (j 0 : ℕ) * 128 + (j 1 : ℕ)
  omega

theorem pay_sum (a b c d e f g h : FVec Ideal S1x832x128 .f32) (j : S832x128.Idx) :
    k0_pay1 (F := Ideal) a b c d e f g h j
      = (a (ix3 (0 : Fin 1) (j 0) (j 1)) : EReal) + b (ix3 (0 : Fin 1) (j 0) (j 1)) + c (ix3 (0 : Fin 1) (j 0) (j 1)) + d (ix3 (0 : Fin 1) (j 0) (j 1))
        + e (ix3 (0 : Fin 1) (j 0) (j 1)) + f (ix3 (0 : Fin 1) (j 0) (j 1)) + g (ix3 (0 : Fin 1) (j 0) (j 1)) + h (ix3 (0 : Fin 1) (j 0) (j 1)) := by
  unfold k0_pay1
  have add : ∀ {x y x' y' : EReal}, x = x' → y = y' → x + y = x' + y' := fun p q => congrArg₂ (fun a b : EReal => a + b) p q
  exact add (add (add (add (add (add (add (slab a _ j) (slab b _ j)) (slab c _ j)) (slab d _ j)) (slab e _ j)) (slab f _ j)) (slab g _ j)) (slab h _ j)

/-- What the body computes from the whole array. -/
theorem body_sum (x : FVec Ideal S8x832x128 .f32) : out0_1 (F := Ideal) x = total x := by
  unfold out0_1
  rw [View.canon_unit_zero origin]
  funext j
  refine (pay_sum _ _ _ _ _ _ _ _ j).trans ?_
  unfold total
  rw [Fin.sum_univ_eight]
  have at_ : ∀ {p q : S8x832x128.Idx}, (∀ a, (p a : ℕ) = q a) → x p = x q := fun h => congrArg x (funext fun a => Fin.ext (h a))
  have add : ∀ {x y x' y' : EReal}, x = x' → y = y' → x + y = x' + y' := fun p q => congrArg₂ (fun a b : EReal => a + b) p q
  refine add (add (add (add (add (add (add ?_ ?_) ?_) ?_) ?_) ?_) ?_) ?_
  all_goals
    refine at_ fun a => ?_
    match a with
    | ⟨0, _⟩ => rfl
    | ⟨1, _⟩ => exact (Nat.zero_add _).trans (Nat.one_mul _)
    | ⟨2, _⟩ => exact (Nat.zero_add _).trans (Nat.one_mul _)

/-! ## The one point -/

theorem place0 : ∀ t : Fin cfg0.N, win0_0.index t 0 * win0_0.size 0 = 0 ∧ win0_0.index t 1 * win0_0.size 1 = 0 ∧ win0_0.index t 2 * win0_0.size 2 = 0 :=
  (by decide +kernel : ∀ t : Fin grid0.N, win0_0.index t 0 * win0_0.size 0 = 0 ∧ win0_0.index t 1 * win0_0.size 1 = 0 ∧ win0_0.index t 2 * win0_0.size 2 = 0)
theorem place1 : ∀ t : Fin cfg0.N, win0_1.index t 0 * win0_1.size 0 = 0 ∧ win0_1.xsize (grid0.coords t) 0 = 832
    ∧ win0_1.index t 1 * win0_1.size 1 = 0 ∧ win0_1.xsize (grid0.coords t) 1 = 128 :=
  (by decide +kernel : ∀ t : Fin grid0.N, win0_1.index t 0 * win0_1.size 0 = 0 ∧ win0_1.xsize (grid0.coords t) 0 = 832
    ∧ win0_1.index t 1 * win0_1.size 1 = 0 ∧ win0_1.xsize (grid0.coords t) 1 = 128)

theorem cover1 (i : S832x128.Idx) : ∃ t : Fin cfg0.N, (cfg0.win 1).flush t = true ∧ i ∈ ((cfg0.win 1).blk t).view.set := by
  have h0 : (i 0 : Nat) < 832 := (i 0).isLt
  have h1 : (i 1 : Nat) < 128 := (i 1).isLt
  obtain ⟨t, ht⟩ : ∃ t : Fin cfg0.N, t.val = 0 := ⟨⟨0, Nat.lt_of_lt_of_eq (by omega : _ < 1) N_0.symm⟩, rfl⟩
  refine ⟨t, flush0_1 t, ?_⟩
  show i ∈ ((View.whole main_v0).slice (win0_1.rect t)).set
  rw [View.set_slice_whole, Rect.mem_set_unit]
  obtain ⟨e0, s0, e1, s1⟩ := place1 t
  intro a
  match a with
  | ⟨0, _⟩ => show win0_1.index t 0 * win0_1.size 0 ≤ (i 0 : Nat) ∧ (i 0 : Nat) < win0_1.index t 0 * win0_1.size 0 + win0_1.xsize (grid0.coords t) 0
              rw [e0, s0]; omega
  | ⟨1, _⟩ => show win0_1.index t 1 * win0_1.size 1 ≤ (i 1 : Nat) ∧ (i 1 : Nat) < win0_1.index t 1 * win0_1.size 1 + win0_1.xsize (grid0.coords t) 1
              rw [e1, s1]; omega

theorem block (c : Dev nD) (t : Fin cfg0.N) : iblk m c 0 t = m ((c : Thread nD τ).loc main_arg0) := by
  funext j
  show m ((c : Thread nD τ).loc main_arg0) ((win0_0.rect t).emb j) = _
  obtain ⟨a0, a1, a2⟩ := place0 t
  refine congrArg _ (funext fun a => Fin.ext ?_)
  refine (Pipeline.Window.rect_emb_val win0_0 t _ a rfl).trans ?_
  match a with
  | ⟨0, _⟩ => show win0_0.index t 0 * win0_0.size 0 + (j 0 : ℕ) = (j 0 : ℕ)
              rw [a0]; omega
  | ⟨1, _⟩ => show win0_0.index t 1 * win0_0.size 1 + (j 1 : ℕ) = (j 1 : ℕ)
              rw [a1]; omega
  | ⟨2, _⟩ => show win0_0.index t 2 * win0_0.size 2 + (j 2 : ℕ) = (j 2 : ℕ)
              rw [a2]; omega

theorem written (c : Dev nD) (t : Fin cfg0.N) :
    (dats m 0 c).flushed 1 t = (win0_1.blk t).view.read (Elt Ideal) (total (m ((c : Thread nD τ).loc main_arg0))) := by
  show (cfg0.win 1).cut (grid0.coords t) ((dats m 0 c).after 1 t) = _
  rw [after0_1, block, body_sum]
  funext j
  show total (m ((c : Thread nD τ).loc main_arg0)) j = total (m ((c : Thread nD τ).loc main_arg0)) ((win0_1.rect t).emb j)
  obtain ⟨e0, -, e1, -⟩ := place1 t
  refine congrArg _ (funext fun a => Fin.ext ?_)
  refine Eq.trans ?_ (Pipeline.Window.rect_emb_val win0_1 t j a rfl).symm
  match a with
  | ⟨0, _⟩ => show (j 0 : ℕ) = win0_1.index t 0 * win0_1.size 0 + (j 0 : ℕ)
              rw [e0]; omega
  | ⟨1, _⟩ => show (j 1 : ℕ) = win0_1.index t 1 * win0_1.size 1 + (j 1 : ℕ)
              rw [e1]; omega

/-- The array after the run. -/
theorem final (c : Dev nD) : (dats m 0 c).arrAt 1 cfg0.N = total (m ((c : Thread nD τ).loc main_arg0)) :=
  (dats m 0 c).arrAt_eq_of_cover 1 _ (fun t _ => written m c t) cover1

end

section

open Cert.Reference17Ideal Cert.Reference17Ideal.Gen Cert.Product

/-- The reference's sum. -/
theorem plain (x : FVec Ideal S8x832x128 .f32) :
    Host.reduceAdd x (constant S_ .f32 0x00000000#32) Facts₀.reducesTo_S8x832x128_S832x128_d0 Facts₀.h_S_ = total x := by
  funext i
  refine (Host.reduceAdd_apply x _ _ _ i).trans ?_
  refine (Ideal.hostReduceAdd_r3_a0 _ x _ i).trans ?_
  refine (congrArg (fun z : EReal => z + _) (show (constant ⟨0, ![]⟩ .f32 0x00000000#32 : FVec Ideal ⟨0, ![]⟩ .f32) (Shape.Idx.first Facts₀.h_S_) = (0 : EReal) from Ideal.ofBits_zero_f32)).trans ((zero_add _).trans ?_)
  refine Finset.sum_congr rfl fun k _ => congrArg x (funext fun a => ?_)
  match a with
  | ⟨0, _⟩ => rfl
  | ⟨1, _⟩ => rfl
  | ⟨2, _⟩ => rfl

end

/-- The call and the plain sum end with equal results. -/
theorem algebraic : Cert.algebraic_Kernel17Ideal_Reference17Ideal := by
  intro m ρ m' ρ' _ hagree
  refine ⟨_, (θ_run Cert.Kernel17Ideal.defs _ _).mono (fun _ h c => ⟨(h c).1.trans (final m c), (h c).2⟩)
    (Cert.Kernel17Ideal.Value.run_blocks (F := Ideal) m ρ), ?_⟩
  refine (θ_run Cert.Reference17Ideal.defs _ _).mono (fun _ h c => ⟨(h c).1.trans ?_, (h c).2⟩)
    (Cert.Reference17Ideal.Value.run (F := Ideal) m' ρ')
  rw [hagree c]
  exact plain _

end Cert.Sum17

end
-- ==== Proof.Cores18.lean ====
module

public import proofs.«01_k».proof.Defs
public import proofs.«01_k».proof.Proof.Norm
public import proofs.«01_k».proof.Proof.Gen.Kernel18.Frame
public import proofs.«01_k».proof.Proof.Gen.Kernel18Ideal.Frame
public import proofs.«01_k».proof.Proof.Gen.Pre_core_named
public import proofs.«01_k».proof.Proof.Gen.Reference18Ideal.Run
public import Idealize.ShloMosaic.Lib.Pipeline.Value
public import Idealize.ShloMosaic.Lib.WholeRead
public import Idealize.ShloMosaic.Lib.StableHlo.Predicate

/-!
The call that adds the two cores' parts of a gradient. Each core takes its own half of the rows, named by the second word of a
table; the precondition says that the word is 0 or 1, and then the half is inside the array.
-/

@[expose] public section

noncomputable section

open Idealize.ShloMosaic Idealize.ShloMosaic.TcCoe Idealize.ShloMosaic.Tactic Idealize.SL.Sem

namespace Cert.Cores18

/-! ## The word -/

/-- The block the word `w` names at the point `(a, b, c)` of the grid. -/
def pick (w : BitVec 32) (a b c : Nat) : Fin 4 → Nat :=
  ![(BitVec.ofNat 32 a).toNat, (BitVec.ofNat 32 b).toNat, (Scalar.addi (Scalar.muli w 1#32) (BitVec.ofNat 32 c)).toNat, (0#32 : BitVec 32).toNat]

theorem pick_eq (w : BitVec 32) (hw : w = 0#32 ∨ w = 1#32) (a b c : Nat) (ha : a < 1) (hb : b < 4) (hc : c < 1) :
    pick w a b c = ![0, b, w.toNat, 0] := by
  obtain rfl : a = 0 := by omega
  obtain rfl : c = 0 := by omega
  rcases hw with rfl | rfl <;> interval_cases b <;> rfl

/-- A block so named is inside the array, and made of whole words. -/
theorem inside (f : Fin 4 → Nat) (w : BitVec 32) (hw : w = 0#32 ∨ w = 1#32) (a b c : Nat) (ha : a < 1) (hb : b < 4) (hc : c < 1)
    (hf : f = pick w a b c) :
    ∃ h : (∀ x, (f x + 1) * (⟨4, ![1, 1, 512, 1280]⟩ : Shape).size x ≤ (⟨4, ![1, 4, 1024, 1280]⟩ : Shape).size x),
      EltTy.bits .bf16 = 32 ∨ (Rect.block (s := ⟨4, ![1, 4, 1024, 1280]⟩) (⟨4, ![1, 1, 512, 1280]⟩ : Shape).size f h).WholeWords (EltTy.packing .bf16) := by
  rw [pick_eq w hw a b c ha hb hc] at hf
  have hn : w.toNat < 2 := by rcases hw with rfl | rfl <;> decide
  subst hf
  refine ⟨fun x => ?_, .inr (Affine.block_words_dvd (of_decide_eq_true rfl) (by decide))⟩
  match x with
  | ⟨0, _⟩ => show (0 + 1) * 1 ≤ 1; omega
  | ⟨1, _⟩ => show (b + 1) * 1 ≤ 4; omega
  | ⟨2, _⟩ => show (w.toNat + 1) * 512 ≤ 1024; omega
  | ⟨3, _⟩ => show (0 + 1) * 1280 ≤ 1280; omega

/-- The word the table names the core by. -/
def word (pos : IVec ⟨1, ![2]⟩ 32) : BitVec 32 := pos (ix1 (1 : Fin 2))

/-- The precondition, read at the word. -/
theorem word_of_pre {F : FTy → Type} [FloatOps F] (own : FVec F ⟨4, ![1, 4, 1024, 1280]⟩ .bf16) (recv : FVec F ⟨4, ![1, 4, 512, 1280]⟩ .bf16)
    (pos : IVec ⟨1, ![2]⟩ 32) (h : Cert.Pre_core_named.fn (F := F) own recv pos = fun _ => 1#1) : word pos = 0#32 ∨ word pos = 1#32 := by
  have e := congrFun h (ix1 (0 : Fin 1))
  simp only [Cert.Pre_core_named.fn, ori, IntOp.ori, cmpi] at e
  have both : ∀ p q : BitVec 1, p ||| q = 1#1 → p = 1#1 ∨ q = 1#1 := by decide
  refine (both _ _ e).imp (fun k => ?_) (fun k => ?_)
  · exact (congrArg pos (funext fun a => Fin.ext (by match a with | ⟨0, _⟩ => rfl))).trans (StableHlo.Predicate.cmpi_eq_iff.mp k)
  · exact (congrArg pos (funext fun a => Fin.ext (by match a with | ⟨0, _⟩ => rfl))).trans (StableHlo.Predicate.cmpi_eq_iff.mp k)

/-- The table's words keep the call's blocks inside the array, on bits. -/
theorem ok_bits (m : (ℓ : Loc Cert.Kernel18.nD Cert.Kernel18.τ Cert.Kernel18.sig) → Buf (Elt Bits) ℓ) (h : Cert.Pre_Kernel18 m) :
    Cert.Kernel18.Gen.Ok (F := Bits) m := by
  have hw := word_of_pre _ _ _ (h 0)
  unfold Cert.Kernel18.Gen.Ok Cert.Kernel18.ok0
  exact fun i => inside _ _ hw (i 0) (i 1) (i 2) (i 0).isLt (i 1).isLt (i 2).isLt (congrArg (fun v => pick v (i 0) (i 1) (i 2)) (congrArg (m _) (funext fun a => Fin.ext (by match a with | ⟨0, _⟩ => rfl))))

section

open Cert.Kernel18Ideal Cert.Kernel18Ideal.Gen Cert.Product

variable (m : (ℓ : Loc nD τ sig) → Buf (Elt Ideal) ℓ)

/-- The array named `pos` on core `c`. -/
abbrev pos (c : Dev nD) : IVec S2 32 := m ((c : Thread nD τ).loc main_arg2)

/-- The printed index map is `pick` at the word. -/
theorem map_eq (i : grid0.Coords) : cc0_transform_0 Facts₀.inb_S2_S1_1 Facts₀.numel1_S1 (tbl m) i = pick (word (pos m 0)) (i 0) (i 1) (i 2) :=
  congrArg (fun v => pick v (i 0) (i 1) (i 2)) (congrArg (pos m 0) (funext fun a => Fin.ext (by match a with | ⟨0, _⟩ => rfl)))

/-- The table's words keep the call's blocks inside the array, on extended reals. -/
theorem ok_ideal (h : Cert.Pre_Kernel18Ideal m) : Ok (F := Ideal) m := by
  have hw := word_of_pre _ _ _ (h 0)
  unfold Ok ok0
  exact fun i => inside _ _ hw (i 0) (i 1) (i 2) (i 0).isLt (i 1).isLt (i 2).isLt (map_eq m i)

/-! ## What the body computes -/

theorem origin : (![0, 0, 0, 0] : Fin 4 → Nat) = fun _ => 0 := funext fun a => by fin_cases a <;> rfl

/-- A matrix read without its two leading axes. -/
theorem flat (v : FVec Ideal S1x1x512x1280 .bf16) (h : S1x1x512x1280.ShapeCasts S512x1280) (j : S1x1x512x1280.Idx) :
    shapeCast S512x1280 v h (ix2 (j 2) (j 3)) = v j := by
  have h0 : (j 0 : ℕ) < 1 := (j 0).isLt
  have h1 : (j 1 : ℕ) < 1 := (j 1).isLt
  refine shapeCast_apply v h (ix2 (j 2) (j 3) : S512x1280.Idx) j ?_
  rw [rowMajor_val2 _ 1280 rfl, rowMajor_val4 _ (1 * (512 * 1280)) (512 * 1280) 1280 rfl rfl rfl]
  show (j 0 : ℕ) * (1 * (512 * 1280)) + (j 1 : ℕ) * (512 * 1280) + (j 2 : ℕ) * 1280 + (j 3 : ℕ) = (j 2 : ℕ) * 1280 + (j 3 : ℕ)
  omega

theorem pay_add (a b : FVec Ideal S1x1x512x1280 .bf16) (j : S1x1x512x1280.Idx) : k0_pay1 (F := Ideal) a b j = (a j : EReal) + b j := by
  have h0 : (j 0 : ℕ) < 1 := (j 0).isLt
  have h1 : (j 1 : ℕ) < 1 := (j 1).isLt
  unfold k0_pay1
  refine (shapeCast_apply _ _ j (ix2 (j 2) (j 3) : S512x1280.Idx) ?_).trans ?_
  · rw [rowMajor_val2 _ 1280 rfl, rowMajor_val4 _ (1 * (512 * 1280)) (512 * 1280) 1280 rfl rfl rfl]
    show (j 2 : ℕ) * 1280 + (j 3 : ℕ) = (j 0 : ℕ) * (1 * (512 * 1280)) + (j 1 : ℕ) * (512 * 1280) + (j 2 : ℕ) * 1280 + (j 3 : ℕ)
    omega
  · exact congrArg₂ (fun x y : EReal => x + y) (flat a _ j) (flat b _ j)

theorem out_add (c : Dev nD) (i : grid0.Coords) (a4 : Memref sig .tc .vmem S1x1x512x1280 .bf16) (h4 : a4.IsWhole) (a5 : Memref sig .tc .vmem S1x1x512x1280 .bf16) (h5 : a5.IsWhole)
    (a6 : Memref sig .tc .vmem S1x1x512x1280 .bf16) (h6 : a6.IsWhole) (x0 x1 : Vec Ideal S1x1x512x1280 .bf16) (xt : TbBuf0 (F := Ideal) c tbM0_0) :
    out0_A_2 c i a4 h4 a5 h5 a6 h6 x0 x1 xt = k0_pay1 (F := Ideal) x0 x1 := by
  unfold out0_A_2
  rw [View.read_writes_eq_canon _ _ _ (cover0_A_2 c i a4 h4 a5 h5 a6 h6 x0 x1 xt)]
  unfold kernelRun0_A
  dsimp only
  sl_unfold_words
  rw [View.canon_unit_zero (S := S1x1x512x1280) origin]
  simp only [View.readAt_eq_ld, h4.read_unread, h5.read_unread, View.ld_unit_zero (S := S1x1x512x1280) origin]

/-! ## From the blocks to the arrays -/

/-- The half of the rows the word names. -/
def half (w : BitVec 32) (own : FVec Ideal S1x4x1024x1280 .bf16) : FVec Ideal S1x4x512x1280 .bf16 := fun i =>
  own (ix4 (0 : Fin 1) (i 1) ⟨(if w = 0#32 then 0 else 512) + (i 2 : ℕ), by
    have : (i 2 : ℕ) < 512 := (i 2).isLt
    show _ < 1024
    split <;> omega⟩ (i 3))

/-- The core's half of its own part and the other core's part, added. -/
def both (w : BitVec 32) (own : FVec Ideal S1x4x1024x1280 .bf16) (recv : FVec Ideal S1x4x512x1280 .bf16) : FVec Ideal S1x4x512x1280 .bf16 :=
  fun i => ((half w own i : EReal) + recv i : EReal)

theorem at_coords : ∀ t : Fin grid0.N, (grid0.coords t 0 : ℕ) = 0 ∧ (grid0.coords t 1 : ℕ) = t.val ∧ (grid0.coords t 2 : ℕ) = 0 := by decide +kernel
theorem at_in : ∀ t : Fin grid0.N, cc0_transform_1 (grid0.coords t) 0 = 0 ∧ cc0_transform_1 (grid0.coords t) 1 = t.val
    ∧ cc0_transform_1 (grid0.coords t) 2 = 0 ∧ cc0_transform_1 (grid0.coords t) 3 = 0 := by decide +kernel
theorem at_out : ∀ t : Fin grid0.N, cc0_transform_2 (grid0.coords t) 0 = 0 ∧ cc0_transform_2 (grid0.coords t) 1 = t.val
    ∧ cc0_transform_2 (grid0.coords t) 2 = 0 ∧ cc0_transform_2 (grid0.coords t) 3 = 0 := by decide +kernel

variable (hO : Ok m) (hw : word (pos m 0) = 0#32 ∨ word (pos m 0) = 1#32)

/-- The array's index under the block at point `t`. -/
def spot (t : Fin grid0.N) (j : S1x1x512x1280.Idx) : S1x4x512x1280.Idx :=
  ix4 (0 : Fin 1) ⟨t.val, Nat.lt_of_lt_of_eq t.isLt N_0⟩ (j 2) (j 3)

include hw in
theorem block0 (c : Dev nD) (t : Fin (cfgM m hO).N) (j : S1x1x512x1280.Idx) :
    iblk m hO c 0 t j = half (word (pos m 0)) (m ((c : Thread nD τ).loc main_arg0)) (spot t j) := by
  show m ((c : Thread nD τ).loc main_arg0) ((((cfgM m hO).win 0).rect t).emb j) = _
  have h0 : (j 0 : ℕ) < 1 := (j 0).isLt
  have h1 : (j 1 : ℕ) < 1 := (j 1).isLt
  obtain ⟨e0, e1, e2⟩ := at_coords t
  have e : cc0_transform_0 Facts₀.inb_S2_S1_1 Facts₀.numel1_S1 (tbl m) (grid0.coords t) = ![0, t.val, (word (pos m 0)).toNat, 0] := by
    rw [map_eq, e0, e1, e2]
    exact pick_eq _ hw _ _ _ (by omega) (Nat.lt_of_lt_of_eq t.isLt N_0) (by omega)
  refine congrArg _ (funext fun a => Fin.ext ?_)
  refine (Pipeline.Window.rect_emb_val ((cfgM m hO).win 0) t _ a rfl).trans ?_
  match a with
  | ⟨0, _⟩ => show cc0_transform_0 Facts₀.inb_S2_S1_1 Facts₀.numel1_S1 (tbl m) (grid0.coords t) 0 * 1 + (j 0 : ℕ) = 0
              rw [e]; show 0 * 1 + (j 0 : ℕ) = 0; omega
  | ⟨1, _⟩ => show cc0_transform_0 Facts₀.inb_S2_S1_1 Facts₀.numel1_S1 (tbl m) (grid0.coords t) 1 * 1 + (j 1 : ℕ) = t.val
              rw [e]; show t.val * 1 + (j 1 : ℕ) = t.val; omega
  | ⟨2, _⟩ => show cc0_transform_0 Facts₀.inb_S2_S1_1 Facts₀.numel1_S1 (tbl m) (grid0.coords t) 2 * 512 + (j 2 : ℕ) = (if word (pos m 0) = 0#32 then 0 else 512) + (j 2 : ℕ)
              rw [e]; show (word (pos m 0)).toNat * 512 + (j 2 : ℕ) = _
              rcases hw with h | h <;> rw [h] <;> rfl
  | ⟨3, _⟩ => show cc0_transform_0 Facts₀.inb_S2_S1_1 Facts₀.numel1_S1 (tbl m) (grid0.coords t) 3 * 1280 + (j 3 : ℕ) = (j 3 : ℕ)
              rw [e]; show 0 * 1280 + (j 3 : ℕ) = (j 3 : ℕ); omega

theorem block1 (c : Dev nD) (t : Fin (cfgM m hO).N) (j : S1x1x512x1280.Idx) :
    iblk m hO c 1 t j = m ((c : Thread nD τ).loc main_arg1) (spot t j) := by
  show m ((c : Thread nD τ).loc main_arg1) ((((cfgM m hO).win 1).rect t).emb j) = _
  have h0 : (j 0 : ℕ) < 1 := (j 0).isLt
  have h1 : (j 1 : ℕ) < 1 := (j 1).isLt
  obtain ⟨e0, e1, e2, e3⟩ := at_in t
  refine congrArg _ (funext fun a => Fin.ext ?_)
  refine (Pipeline.Window.rect_emb_val ((cfgM m hO).win 1) t _ a rfl).trans ?_
  match a with
  | ⟨0, _⟩ => show cc0_transform_1 (grid0.coords t) 0 * 1 + (j 0 : ℕ) = 0
              rw [e0]; omega
  | ⟨1, _⟩ => show cc0_transform_1 (grid0.coords t) 1 * 1 + (j 1 : ℕ) = t.val
              rw [e1]; omega
  | ⟨2, _⟩ => show cc0_transform_1 (grid0.coords t) 2 * 512 + (j 2 : ℕ) = (j 2 : ℕ)
              rw [e2]; omega
  | ⟨3, _⟩ => show cc0_transform_1 (grid0.coords t) 3 * 1280 + (j 3 : ℕ) = (j 3 : ℕ)
              rw [e3]; omega

theorem place2 (t : Fin (cfgM m hO).N) (j : S1x1x512x1280.Idx) : (((cfgM m hO).win 2).rect t).emb j = spot t j := by
  have h0 : (j 0 : ℕ) < 1 := (j 0).isLt
  have h1 : (j 1 : ℕ) < 1 := (j 1).isLt
  obtain ⟨e0, e1, e2, e3⟩ := at_out t
  refine funext fun a => Fin.ext ?_
  refine (Pipeline.Window.rect_emb_val ((cfgM m hO).win 2) t _ a rfl).trans ?_
  match a with
  | ⟨0, _⟩ => show cc0_transform_2 (grid0.coords t) 0 * 1 + (j 0 : ℕ) = 0
              rw [e0]; omega
  | ⟨1, _⟩ => show cc0_transform_2 (grid0.coords t) 1 * 1 + (j 1 : ℕ) = t.val
              rw [e1]; omega
  | ⟨2, _⟩ => show cc0_transform_2 (grid0.coords t) 2 * 512 + (j 2 : ℕ) = (j 2 : ℕ)
              rw [e2]; omega
  | ⟨3, _⟩ => show cc0_transform_2 (grid0.coords t) 3 * 1280 + (j 3 : ℕ) = (j 3 : ℕ)
              rw [e3]; omega

theorem cover2 (i : S1x4x512x1280.Idx) : ∃ t : Fin (cfgM m hO).N, ((cfgM m hO).win 2).flush t = true ∧ i ∈ (((cfgM m hO).win 2).blk t).view.set := by
  have i0 : (i 0 : Nat) < 1 := (i 0).isLt
  have i1 : (i 1 : Nat) < 4 := (i 1).isLt
  have i2 : (i 2 : Nat) < 512 := (i 2).isLt
  have i3 : (i 3 : Nat) < 1280 := (i 3).isLt
  obtain ⟨t, ht⟩ : ∃ t : Fin grid0.N, t.val = (i 1 : ℕ) := ⟨⟨(i 1 : ℕ), Nat.lt_of_lt_of_eq i1 N_0.symm⟩, rfl⟩
  refine ⟨t, flush0_2 (adm m hO) t, ?_⟩
  refine (congrArg (fun S => i ∈ S) (View.set_slice_whole (b := main_v0) (((cfgM m hO).win 2).rect t))).mpr (Rect.mem_set_unit.mpr ?_)
  obtain ⟨e0, e1, e2, e3⟩ := at_out t
  intro a
  match a with
  | ⟨0, _⟩ => show cc0_transform_2 (grid0.coords t) 0 * 1 ≤ (i 0 : Nat) ∧ (i 0 : Nat) < cc0_transform_2 (grid0.coords t) 0 * 1 + 1
              rw [e0]; omega
  | ⟨1, _⟩ => show cc0_transform_2 (grid0.coords t) 1 * 1 ≤ (i 1 : Nat) ∧ (i 1 : Nat) < cc0_transform_2 (grid0.coords t) 1 * 1 + 1
              rw [e1]; omega
  | ⟨2, _⟩ => show cc0_transform_2 (grid0.coords t) 2 * 512 ≤ (i 2 : Nat) ∧ (i 2 : Nat) < cc0_transform_2 (grid0.coords t) 2 * 512 + 512
              rw [e2]; omega
  | ⟨3, _⟩ => show cc0_transform_2 (grid0.coords t) 3 * 1280 ≤ (i 3 : Nat) ∧ (i 3 : Nat) < cc0_transform_2 (grid0.coords t) 3 * 1280 + 1280
              rw [e3]; omega

/-- The sum the call leaves. -/
abbrev target (c : Dev nD) : FVec Ideal S1x4x512x1280 .bf16 :=
  both (word (pos m 0)) (m ((c : Thread nD τ).loc main_arg0)) (m ((c : Thread nD τ).loc main_arg1))

include hw in
theorem written (c : Dev nD) (t : Fin (cfgM m hO).N) :
    (dats m hO 0 c).flushed 2 t = (((cfgM m hO).win 2).blk t).view.read (Elt Ideal) (target m c) := by
  show ((cfgM m hO).win 2).cut (grid0.coords t) ((dats m hO 0 c).after 2 t) = _
  rw [after0_2]
  unfold outsAt0
  refine (congrArg (((cfgM m hO).win 2).cut (grid0.coords t)) (out_add c (grid0.coords t) _ _ _ _ _ _ (iblk m hO c 0 t) (iblk m hO c 1 t) (tbl m 0))).trans ?_
  funext j
  show k0_pay1 (F := Ideal) (iblk m hO c 0 t) (iblk m hO c 1 t) j = target m c ((((cfgM m hO).win 2).rect t).emb j)
  refine (pay_add _ _ j).trans (Eq.trans ?_ (congrArg (target m c) (place2 m hO t j)).symm)
  exact congrArg₂ (fun x y : EReal => x + y) (block0 m hO hw c t j) (block1 m hO c t j)

include hw in
/-- The array after the run. -/
theorem final (c : Dev nD) : (dats m hO 0 c).arrAt 2 (cfgM m hO).N = target m c :=
  (dats m hO 0 c).arrAt_eq_of_cover 2 _ (fun t _ => written m hO hw c t) (cover2 m hO)

end

section

open Cert.Reference18Ideal Cert.Reference18Ideal.Gen Cert.Product

/-- The reference's sum. -/
theorem plain (own : FVec Ideal S1x4x1024x1280 .bf16) (recv : FVec Ideal S1x4x512x1280 .bf16) (p : IVec S2 32) :
    (truncf .bf16 (addf (extf .f32 (select (broadcastInDim S1x4x512x1280 ![] Facts₀.bcast_S_S1x4x512x1280
        (cmpi .eq (shapeCast _ (extractStridedSlice S1 ![1] p Facts₀.slices_S2_S1_1) Facts₀.shapeCasts_S1_S_) (constantI S_ 32 0#32)))
      (extractStridedSlice S1x4x512x1280 ![0, 0, 0, 0] own Facts₀.slices_S1x4x1024x1280_S1x4x512x1280_0_0_0_0)
      (extractStridedSlice S1x4x512x1280 ![0, 0, 512, 0] own Facts₀.slices_S1x4x1024x1280_S1x4x512x1280_0_0_512_0)) Facts₀.bitsLt_bf16_f32)
      (extf .f32 recv Facts₀.bitsLt_bf16_f32)) Facts₀.bitsLt_bf16_f32 : FVec Ideal S1x4x512x1280 .bf16) = both (word p) own recv := by
  funext i
  refine congrArg (fun x : EReal => x + recv i) ?_
  have i0 : (i 0 : Nat) < 1 := (i 0).isLt
  have one : ∀ x : S1.Idx, x = ix1 (0 : Fin 1) := fun x => funext fun a => Fin.ext (by
    match a with
    | ⟨0, _⟩ => have : (x 0 : Nat) < 1 := (x 0).isLt
                show (x 0 : Nat) = 0
                omega)
  have named : ∀ k : S_.Idx, shapeCast S_ (extractStridedSlice S1 ![1] p Facts₀.slices_S2_S1_1) Facts₀.shapeCasts_S1_S_ k = word p := fun k => by
    show extractStridedSlice S1 ![1] p Facts₀.slices_S2_S1_1 _ = word p
    refine (congrArg (extractStridedSlice S1 ![1] p Facts₀.slices_S2_S1_1) (one _)).trans ?_
    exact congrArg p (funext fun a => Fin.ext (by match a with | ⟨0, _⟩ => rfl))
  have test : ∀ k : S_.Idx, cmpi .eq (shapeCast S_ (extractStridedSlice S1 ![1] p Facts₀.slices_S2_S1_1) Facts₀.shapeCasts_S1_S_) (constantI S_ 32 0#32) k = 1#1 ↔ word p = 0#32 :=
    fun k => StableHlo.Predicate.cmpi_eq_iff.trans (iff_of_eq (congrArg (fun z => z = 0#32) (named k)))
  unfold half
  show (if cmpi .eq (shapeCast S_ (extractStridedSlice S1 ![1] p Facts₀.slices_S2_S1_1) Facts₀.shapeCasts_S1_S_) (constantI S_ 32 0#32) _ = 1#1 then _ else _) = _
  by_cases hp : word p = 0#32
  · rw [if_pos ((test _).mpr hp)]
    refine congrArg own (funext fun a => Fin.ext ?_)
    match a with
    | ⟨0, _⟩ => show 0 + (i 0 : Nat) = 0; omega
    | ⟨1, _⟩ => exact Nat.zero_add _
    | ⟨2, _⟩ => show 0 + (i 2 : Nat) = (if word p = 0#32 then 0 else 512) + (i 2 : Nat); rw [if_pos hp]
    | ⟨3, _⟩ => exact Nat.zero_add _
  · rw [if_neg (fun q => hp ((test _).mp q))]
    refine congrArg own (funext fun a => Fin.ext ?_)
    match a with
    | ⟨0, _⟩ => show 0 + (i 0 : Nat) = 0; omega
    | ⟨1, _⟩ => exact Nat.zero_add _
    | ⟨2, _⟩ => show 512 + (i 2 : Nat) = (if word p = 0#32 then 0 else 512) + (i 2 : Nat); rw [if_neg hp]
    | ⟨3, _⟩ => exact Nat.zero_add _

end

/-- The call and the plain sum end with equal results. -/
theorem algebraic : Cert.algebraic_Kernel18Ideal_Reference18Ideal := by
  intro m ρ m' ρ' hpre hagree
  have hw := word_of_pre _ _ _ (hpre 0)
  have hO := ok_ideal m hpre
  refine ⟨_, (θ_run Cert.Kernel18Ideal.defs _ _).mono (fun _ h c => ⟨(h.1 c).1 2 |>.trans (final m hO hw c), h.2 c⟩)
    (θ_run_and (Cert.Kernel18Ideal.Gen.run_main m ρ hO) (Cert.Kernel18Ideal.Gen.unchanged m ρ hO)), ?_⟩
  refine (θ_run Cert.Reference18Ideal.defs _ _).mono (fun _ h c => ⟨(h c).1.trans ?_, (h c).2⟩)
    (Cert.Reference18Ideal.Value.run (F := Ideal) m' ρ')
  rw [(hagree c).1, (hagree c).2.1, (hagree c).2.2]
  obtain rfl : c = 0 := Subsingleton.elim _ _
  exact plain _ _ _

end Cert.Cores18

end
-- ==== Proof.lean ====
module

public import proofs.«01_k».proof.Defs
public import proofs.«01_k».proof.Proof.Gen.Kernel.Frame
public import proofs.«01_k».proof.Proof.Weights1
public import proofs.«01_k».proof.Proof.Gen.Kernel2.Frame
public import proofs.«01_k».proof.Proof.Weights2
public import proofs.«01_k».proof.Proof.Gen.Kernel3.Frame
public import proofs.«01_k».proof.Proof.Weights3
public import proofs.«01_k».proof.Proof.Gen.Kernel4.Frame
public import proofs.«01_k».proof.Proof.Weights4
public import proofs.«01_k».proof.Proof.Gen.Kernel5.Frame
public import proofs.«01_k».proof.Proof.Optim5
public import proofs.«01_k».proof.Proof.Gen.Kernel6.Frame
public import proofs.«01_k».proof.Proof.Optim6
public import proofs.«01_k».proof.Proof.Gen.Kernel7.Frame
public import proofs.«01_k».proof.Proof.Optim7
public import proofs.«01_k».proof.Proof.Gen.Kernel8.Frame
public import proofs.«01_k».proof.Proof.Optim8
public import proofs.«01_k».proof.Proof.Gen.Kernel9.Frame
public import proofs.«01_k».proof.Proof.Optim9
public import proofs.«01_k».proof.Proof.Gen.Kernel10.Frame
public import proofs.«01_k».proof.Proof.Optim10
public import proofs.«01_k».proof.Proof.Gen.Kernel11.Frame
public import proofs.«01_k».proof.Proof.Optim11
public import proofs.«01_k».proof.Proof.Machine12
public import proofs.«01_k».proof.Proof.Into12
public import proofs.«01_k».proof.Proof.Machine13
public import proofs.«01_k».proof.Proof.Into13
public import proofs.«01_k».proof.Proof.Machine14
public import proofs.«01_k».proof.Proof.Back14
public import proofs.«01_k».proof.Proof.Machine15
public import proofs.«01_k».proof.Proof.Back15
public import proofs.«01_k».proof.Proof.Gen.Kernel16.Frame
public import proofs.«01_k».proof.Proof.Loss16
public import proofs.«01_k».proof.Proof.Gen.Kernel17.Frame
public import proofs.«01_k».proof.Proof.Sum17
public import proofs.«01_k».proof.Proof.Gen.Kernel18.Frame
public import proofs.«01_k».proof.Proof.Cores18

/-!
The certificate: every program runs to the end and leaves its arguments as they were, each kernel on extended reals is the
kernel read on extended reals, and each kernel and its reference end with equal results.
-/

@[expose] public section

open Idealize.ShloMosaic Idealize.ShloMosaic.TcCoe Idealize.SL.Sem

namespace Cert.Proof

theorem frame_reference1 : Cert.quiescent_ReferenceIdeal (hReferenceIdeal := Cert.ReferenceIdeal.Gen.facts) := fun m ρ _ =>
  (θ_run Cert.ReferenceIdeal.defs _ _).mono (fun r h => ⟨fun c => (h c).2, Idealize.ShloMosaic.sem_eq_zero_of_no_sems (by decide) r.2⟩)
    (Cert.ReferenceIdeal.Value.run (F := Ideal) m ρ)
theorem frame_reference2 : Cert.quiescent_Reference2Ideal (hReference2Ideal := Cert.Reference2Ideal.Gen.facts) := fun m ρ _ =>
  (θ_run Cert.Reference2Ideal.defs _ _).mono (fun r h => ⟨fun c => (h c).2, Idealize.ShloMosaic.sem_eq_zero_of_no_sems (by decide) r.2⟩)
    (Cert.Reference2Ideal.Value.run (F := Ideal) m ρ)
theorem frame_reference3 : Cert.quiescent_Reference3Ideal (hReference3Ideal := Cert.Reference3Ideal.Gen.facts) := fun m ρ _ =>
  (θ_run Cert.Reference3Ideal.defs _ _).mono (fun r h => ⟨fun c => (h c).2, Idealize.ShloMosaic.sem_eq_zero_of_no_sems (by decide) r.2⟩)
    (Cert.Reference3Ideal.Value.run (F := Ideal) m ρ)
theorem frame_reference4 : Cert.quiescent_Reference4Ideal (hReference4Ideal := Cert.Reference4Ideal.Gen.facts) := fun m ρ _ =>
  (θ_run Cert.Reference4Ideal.defs _ _).mono (fun r h => ⟨fun c => (h c).2, Idealize.ShloMosaic.sem_eq_zero_of_no_sems (by decide) r.2⟩)
    (Cert.Reference4Ideal.Value.run (F := Ideal) m ρ)
theorem frame_reference5 : Cert.quiescent_Reference5Ideal (hReference5Ideal := Cert.Reference5Ideal.Gen.facts) := fun m ρ _ =>
  (θ_run Cert.Reference5Ideal.defs _ _).mono (fun r h => ⟨fun c => (h c).2.2.2.2, Idealize.ShloMosaic.sem_eq_zero_of_no_sems (by decide) r.2⟩)
    (Cert.Reference5Ideal.Value.run (F := Ideal) m ρ)
theorem frame_reference6 : Cert.quiescent_Reference6Ideal (hReference6Ideal := Cert.Reference6Ideal.Gen.facts) := fun m ρ _ =>
  (θ_run Cert.Reference6Ideal.defs _ _).mono (fun r h => ⟨fun c => (h c).2.2.2.2, Idealize.ShloMosaic.sem_eq_zero_of_no_sems (by decide) r.2⟩)
    (Cert.Reference6Ideal.Value.run (F := Ideal) m ρ)
theorem frame_reference7 : Cert.quiescent_Reference7Ideal (hReference7Ideal := Cert.Reference7Ideal.Gen.facts) := fun m ρ _ =>
  (θ_run Cert.Reference7Ideal.defs _ _).mono (fun r h => ⟨fun c => (h c).2.2.2.2, Idealize.ShloMosaic.sem_eq_zero_of_no_sems (by decide) r.2⟩)
    (Cert.Reference7Ideal.Value.run (F := Ideal) m ρ)
theorem frame_reference8 : Cert.quiescent_Reference8Ideal (hReference8Ideal := Cert.Reference8Ideal.Gen.facts) := fun m ρ _ =>
  (θ_run Cert.Reference8Ideal.defs _ _).mono (fun r h => ⟨fun c => (h c).2.2.2.2, Idealize.ShloMosaic.sem_eq_zero_of_no_sems (by decide) r.2⟩)
    (Cert.Reference8Ideal.Value.run (F := Ideal) m ρ)
theorem frame_reference9 : Cert.quiescent_Reference9Ideal (hReference9Ideal := Cert.Reference9Ideal.Gen.facts) := fun m ρ _ =>
  (θ_run Cert.Reference9Ideal.defs _ _).mono (fun r h => ⟨fun c => (h c).2.2.2.2, Idealize.ShloMosaic.sem_eq_zero_of_no_sems (by decide) r.2⟩)
    (Cert.Reference9Ideal.Value.run (F := Ideal) m ρ)
theorem frame_reference10 : Cert.quiescent_Reference10Ideal (hReference10Ideal := Cert.Reference10Ideal.Gen.facts) := fun m ρ _ =>
  (θ_run Cert.Reference10Ideal.defs _ _).mono (fun r h => ⟨fun c => (h c).2.2.2.2, Idealize.ShloMosaic.sem_eq_zero_of_no_sems (by decide) r.2⟩)
    (Cert.Reference10Ideal.Value.run (F := Ideal) m ρ)
theorem frame_reference11 : Cert.quiescent_Reference11Ideal (hReference11Ideal := Cert.Reference11Ideal.Gen.facts) := fun m ρ _ =>
  (θ_run Cert.Reference11Ideal.defs _ _).mono (fun r h => ⟨fun c => (h c).2.2.2.2, Idealize.ShloMosaic.sem_eq_zero_of_no_sems (by decide) r.2⟩)
    (Cert.Reference11Ideal.Value.run (F := Ideal) m ρ)
theorem frame_reference12 : Cert.quiescent_Reference12Ideal (hReference12Ideal := Cert.Reference12Ideal.Gen.facts) := fun m ρ _ =>
  (θ_run Cert.Reference12Ideal.defs _ _).mono (fun r h => ⟨fun c => (h c).2.2, Idealize.ShloMosaic.sem_eq_zero_of_no_sems (by decide) r.2⟩)
    (Cert.Reference12Ideal.Value.run (F := Ideal) m ρ)
theorem frame_reference13 : Cert.quiescent_Reference13Ideal (hReference13Ideal := Cert.Reference13Ideal.Gen.facts) := fun m ρ _ =>
  (θ_run Cert.Reference13Ideal.defs _ _).mono (fun r h => ⟨fun c => (h c).2.2, Idealize.ShloMosaic.sem_eq_zero_of_no_sems (by decide) r.2⟩)
    (Cert.Reference13Ideal.Value.run (F := Ideal) m ρ)
theorem frame_reference14 : Cert.quiescent_Reference14Ideal (hReference14Ideal := Cert.Reference14Ideal.Gen.facts) := fun m ρ _ =>
  (θ_run Cert.Reference14Ideal.defs _ _).mono (fun r h => ⟨fun c => (h c).2.2.2, Idealize.ShloMosaic.sem_eq_zero_of_no_sems (by decide) r.2⟩)
    (Cert.Reference14Ideal.Value.run (F := Ideal) m ρ)
theorem frame_reference15 : Cert.quiescent_Reference15Ideal (hReference15Ideal := Cert.Reference15Ideal.Gen.facts) := fun m ρ _ =>
  (θ_run Cert.Reference15Ideal.defs _ _).mono (fun r h => ⟨fun c => (h c).2.2.2, Idealize.ShloMosaic.sem_eq_zero_of_no_sems (by decide) r.2⟩)
    (Cert.Reference15Ideal.Value.run (F := Ideal) m ρ)
theorem frame_reference16 : Cert.quiescent_Reference16Ideal (hReference16Ideal := Cert.Reference16Ideal.Gen.facts) := fun m ρ _ =>
  (θ_run Cert.Reference16Ideal.defs _ _).mono (fun r h => ⟨fun c => (h c).2.2.2.2, Idealize.ShloMosaic.sem_eq_zero_of_no_sems (by decide) r.2⟩)
    (Cert.Reference16Ideal.Value.run (F := Ideal) m ρ)
theorem frame_reference17 : Cert.quiescent_Reference17Ideal (hReference17Ideal := Cert.Reference17Ideal.Gen.facts) := fun m ρ _ =>
  (θ_run Cert.Reference17Ideal.defs _ _).mono (fun r h => ⟨fun c => (h c).2, Idealize.ShloMosaic.sem_eq_zero_of_no_sems (by decide) r.2⟩)
    (Cert.Reference17Ideal.Value.run (F := Ideal) m ρ)
theorem frame_reference18 : Cert.quiescent_Reference18Ideal (hReference18Ideal := Cert.Reference18Ideal.Gen.facts) := fun m ρ _ =>
  (θ_run Cert.Reference18Ideal.defs _ _).mono (fun r h => ⟨fun c => (h c).2, Idealize.ShloMosaic.sem_eq_zero_of_no_sems (by decide) r.2⟩)
    (Cert.Reference18Ideal.Value.run (F := Ideal) m ρ)

theorem claim : Cert.Claim :=
  ⟨Cert.Kernel.Gen.facts,
   Cert.KernelIdeal.Gen.facts,
   Cert.ReferenceIdeal.Gen.facts,
   Cert.Kernel2.Gen.facts,
   Cert.Kernel2Ideal.Gen.facts,
   Cert.Reference2Ideal.Gen.facts,
   Cert.Kernel3.Gen.facts,
   Cert.Kernel3Ideal.Gen.facts,
   Cert.Reference3Ideal.Gen.facts,
   Cert.Kernel4.Gen.facts,
   Cert.Kernel4Ideal.Gen.facts,
   Cert.Reference4Ideal.Gen.facts,
   Cert.Kernel5.Gen.facts,
   Cert.Kernel5Ideal.Gen.facts,
   Cert.Reference5Ideal.Gen.facts,
   Cert.Kernel6.Gen.facts,
   Cert.Kernel6Ideal.Gen.facts,
   Cert.Reference6Ideal.Gen.facts,
   Cert.Kernel7.Gen.facts,
   Cert.Kernel7Ideal.Gen.facts,
   Cert.Reference7Ideal.Gen.facts,
   Cert.Kernel8.Gen.facts,
   Cert.Kernel8Ideal.Gen.facts,
   Cert.Reference8Ideal.Gen.facts,
   Cert.Kernel9.Gen.facts,
   Cert.Kernel9Ideal.Gen.facts,
   Cert.Reference9Ideal.Gen.facts,
   Cert.Kernel10.Gen.facts,
   Cert.Kernel10Ideal.Gen.facts,
   Cert.Reference10Ideal.Gen.facts,
   Cert.Kernel11.Gen.facts,
   Cert.Kernel11Ideal.Gen.facts,
   Cert.Reference11Ideal.Gen.facts,
   Cert.Kernel12.Gen.facts,
   Cert.Kernel12Ideal.Gen.facts,
   Cert.Reference12Ideal.Gen.facts,
   Cert.Kernel13.Gen.facts,
   Cert.Kernel13Ideal.Gen.facts,
   Cert.Reference13Ideal.Gen.facts,
   Cert.Kernel14.Gen.facts,
   Cert.Kernel14Ideal.Gen.facts,
   Cert.Reference14Ideal.Gen.facts,
   Cert.Kernel15.Gen.facts,
   Cert.Kernel15Ideal.Gen.facts,
   Cert.Reference15Ideal.Gen.facts,
   Cert.Kernel16.Gen.facts,
   Cert.Kernel16Ideal.Gen.facts,
   Cert.Reference16Ideal.Gen.facts,
   Cert.Kernel17.Gen.facts,
   Cert.Kernel17Ideal.Gen.facts,
   Cert.Reference17Ideal.Gen.facts,
   Cert.Kernel18.Gen.facts,
   Cert.Kernel18Ideal.Gen.facts,
   Cert.Reference18Ideal.Gen.facts,
   Cert.Pre_core_named.Gen.facts,
   fun m ρ _ => Cert.Kernel.Gen.frame m ρ,
   fun m ρ _ => Cert.KernelIdeal.Gen.frame m ρ,
   frame_reference1,
   fun m ρ _ => Cert.Kernel2.Gen.frame m ρ,
   fun m ρ _ => Cert.Kernel2Ideal.Gen.frame m ρ,
   frame_reference2,
   fun m ρ _ => Cert.Kernel3.Gen.frame m ρ,
   fun m ρ _ => Cert.Kernel3Ideal.Gen.frame m ρ,
   frame_reference3,
   fun m ρ _ => Cert.Kernel4.Gen.frame m ρ,
   fun m ρ _ => Cert.Kernel4Ideal.Gen.frame m ρ,
   frame_reference4,
   fun m ρ _ => Cert.Kernel5.Gen.frame m ρ,
   fun m ρ _ => Cert.Kernel5Ideal.Gen.frame m ρ,
   frame_reference5,
   fun m ρ _ => Cert.Kernel6.Gen.frame m ρ,
   fun m ρ _ => Cert.Kernel6Ideal.Gen.frame m ρ,
   frame_reference6,
   fun m ρ _ => Cert.Kernel7.Gen.frame m ρ,
   fun m ρ _ => Cert.Kernel7Ideal.Gen.frame m ρ,
   frame_reference7,
   fun m ρ _ => Cert.Kernel8.Gen.frame m ρ,
   fun m ρ _ => Cert.Kernel8Ideal.Gen.frame m ρ,
   frame_reference8,
   fun m ρ _ => Cert.Kernel9.Gen.frame m ρ,
   fun m ρ _ => Cert.Kernel9Ideal.Gen.frame m ρ,
   frame_reference9,
   fun m ρ _ => Cert.Kernel10.Gen.frame m ρ,
   fun m ρ _ => Cert.Kernel10Ideal.Gen.frame m ρ,
   frame_reference10,
   fun m ρ _ => Cert.Kernel11.Gen.frame m ρ,
   fun m ρ _ => Cert.Kernel11Ideal.Gen.frame m ρ,
   frame_reference11,
   fun m ρ _ => Cert.Machine12.frame m ρ,
   fun m ρ _ => Cert.Into12.frame m ρ,
   frame_reference12,
   fun m ρ _ => Cert.Machine13.frame m ρ,
   fun m ρ _ => Cert.Into13.frame m ρ,
   frame_reference13,
   fun m ρ _ => Cert.Machine14.frame m ρ,
   fun m ρ _ => Cert.Back14.frame m ρ,
   frame_reference14,
   fun m ρ _ => Cert.Machine15.frame m ρ,
   fun m ρ _ => Cert.Back15.frame m ρ,
   frame_reference15,
   fun m ρ _ => Cert.Kernel16.Gen.frame m ρ,
   fun m ρ _ => Cert.Kernel16Ideal.Gen.frame m ρ,
   frame_reference16,
   fun m ρ _ => Cert.Kernel17.Gen.frame m ρ,
   fun m ρ _ => Cert.Kernel17Ideal.Gen.frame m ρ,
   frame_reference17,
   fun m ρ h => Cert.Kernel18.Gen.frame m ρ (Cert.Cores18.ok_bits m h),
   fun m ρ h => Cert.Kernel18Ideal.Gen.frame m ρ (Cert.Cores18.ok_ideal m h),
   frame_reference18,
   fun m ρ _ => frame_reference18 m ρ trivial,
   trivial,
   Cert.Weights1.algebraic,
   trivial,
   Cert.Weights2.algebraic,
   trivial,
   Cert.Weights3.algebraic,
   trivial,
   Cert.Weights4.algebraic,
   trivial,
   Cert.Optim5.algebraic,
   trivial,
   Cert.Optim6.algebraic,
   trivial,
   Cert.Optim7.algebraic,
   trivial,
   Cert.Optim8.algebraic,
   trivial,
   Cert.Optim9.algebraic,
   trivial,
   Cert.Optim10.algebraic,
   trivial,
   Cert.Optim11.algebraic,
   trivial,
   Cert.Into12.algebraic,
   trivial,
   Cert.Into13.algebraic,
   trivial,
   Cert.Back14.algebraic,
   trivial,
   Cert.Back15.algebraic,
   trivial,
   Cert.Loss16.algebraic,
   trivial,
   Cert.Sum17.algebraic,
   trivial,
   Cert.Cores18.algebraic⟩

end Cert.Proof

end
